-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_f [hPre_finite_f : Cert.Pre_finite_f.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_f.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3)) (m ((c.tc : Thread Cert.KernelFIdeal.nD Cert.KernelFIdeal.τ).loc Cert.KernelFIdeal.main_arg4))) = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_f [hPre_finite_f : Cert.Pre_finite_f.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_f.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3)) (m ((c.tc : Thread Cert.ReferenceFIdeal.nD Cert.ReferenceFIdeal.τ).loc Cert.ReferenceFIdeal.main_arg4))) = (fun _ => 1#1)

def Pre_KernelP (m : (ℓ : Loc Cert.KernelP.nD Cert.KernelP.τ Cert.KernelP.sig) → Buf (Elt Bits) ℓ) : Prop :=
  True

def Pre_KernelPIdeal (m : (ℓ : Loc Cert.KernelPIdeal.nD Cert.KernelPIdeal.τ Cert.KernelPIdeal.sig) → Buf (Elt Ideal) ℓ) : Prop :=
  True

def Pre_ReferencePIdeal (m : (ℓ : Loc Cert.ReferencePIdeal.nD Cert.ReferencePIdeal.τ Cert.ReferencePIdeal.sig) → Buf (Elt Ideal) ℓ) : Prop :=
  True

def Pre_KernelU (m : (ℓ : Loc Cert.KernelU.nD Cert.KernelU.τ Cert.KernelU.sig) → Buf (Elt Bits) ℓ) : Prop :=
  True

def Pre_KernelUIdeal (m : (ℓ : Loc Cert.KernelUIdeal.nD Cert.KernelUIdeal.τ Cert.KernelUIdeal.sig) → Buf (Elt Ideal) ℓ) : Prop :=
  True

def Pre_ReferenceUIdeal (m : (ℓ : Loc Cert.ReferenceUIdeal.nD Cert.ReferenceUIdeal.τ Cert.ReferenceUIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def Pre_ReferenceLIdeal (m : (ℓ : Loc Cert.ReferenceLIdeal.nD Cert.ReferenceLIdeal.τ Cert.ReferenceLIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4))
      ∧ r.2.sem = fun _ => 0)

def quiescent_KernelFIdeal_pre_finite_f [hKernelFIdeal : Cert.KernelFIdeal.Facts] [hPre_finite_f : Cert.Pre_finite_f.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_f m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4))
      ∧ r.2.sem = fun _ => 0)

def quiescent_ReferenceFIdeal_pre_finite_f [hReferenceFIdeal : Cert.ReferenceFIdeal.Facts] [hPre_finite_f : Cert.Pre_finite_f.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_f m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4))
      ∧ r.2.sem = fun _ => 0)

def quiescent_KernelP [hKernelP : Cert.KernelP.Facts] : Prop :=
  ∀ (m : (ℓ : Loc Cert.KernelP.nD Cert.KernelP.τ Cert.KernelP.sig) → Buf (Elt Bits) ℓ) (g : Dev Cert.KernelP.nD → PrngReg), Pre_KernelP m →
    θ_run (Cert.KernelP.defs (F := Bits)) (onTc (τ := Cert.KernelP.τ) (Cert.KernelP.main (F := Bits))) ⟨m, fun _ => 0, g⟩ (fun r => (∀ c : Dev Cert.KernelP.nD,
      r.2.mem ((c.tc : Thread Cert.KernelP.nD Cert.KernelP.τ).loc Cert.KernelP.main_arg0) = m ((c.tc : Thread Cert.KernelP.nD Cert.KernelP.τ).loc Cert.KernelP.main_arg0)
      ∧ r.2.mem ((c.tc : Thread Cert.KernelP.nD Cert.KernelP.τ).loc Cert.KernelP.main_arg1) = m ((c.tc : Thread Cert.KernelP.nD Cert.KernelP.τ).loc Cert.KernelP.main_arg1))
      ∧ r.2.sem = fun _ => 0)

def quiescent_KernelPIdeal [hKernelPIdeal : Cert.KernelPIdeal.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1))
      ∧ r.2.sem = fun _ => 0)

def quiescent_ReferencePIdeal [hReferencePIdeal : Cert.ReferencePIdeal.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1))
      ∧ r.2.sem = fun _ => 0)

def quiescent_KernelU [hKernelU : Cert.KernelU.Facts] : Prop :=
  ∀ (m : (ℓ : Loc Cert.KernelU.nD Cert.KernelU.τ Cert.KernelU.sig) → Buf (Elt Bits) ℓ) (g : Dev Cert.KernelU.nD → PrngReg), Pre_KernelU m →
    θ_run (Cert.KernelU.defs (F := Bits)) (onTc (τ := Cert.KernelU.τ) (Cert.KernelU.main (F := Bits))) ⟨m, fun _ => 0, g⟩ (fun r => (∀ c : Dev Cert.KernelU.nD,
      r.2.mem ((c.tc : Thread Cert.KernelU.nD Cert.KernelU.τ).loc Cert.KernelU.main_arg0) = m ((c.tc : Thread Cert.KernelU.nD Cert.KernelU.τ).loc Cert.KernelU.main_arg0)
      ∧ r.2.mem ((c.tc : Thread Cert.KernelU.nD Cert.KernelU.τ).loc Cert.KernelU.main_arg1) = m ((c.tc : Thread Cert.KernelU.nD Cert.KernelU.τ).loc Cert.KernelU.main_arg1)
      ∧ r.2.mem ((c.tc : Thread Cert.KernelU.nD Cert.KernelU.τ).loc Cert.KernelU.main_arg2) = m ((c.tc : Thread Cert.KernelU.nD Cert.KernelU.τ).loc Cert.KernelU.main_arg2)
      ∧ r.2.mem ((c.tc : Thread Cert.KernelU.nD Cert.KernelU.τ).loc Cert.KernelU.main_arg3) = m ((c.tc : Thread Cert.KernelU.nD Cert.KernelU.τ).loc Cert.KernelU.main_arg3)
      ∧ r.2.mem ((c.tc : Thread Cert.KernelU.nD Cert.KernelU.τ).loc Cert.KernelU.main_arg4) = m ((c.tc : Thread Cert.KernelU.nD Cert.KernelU.τ).loc Cert.KernelU.main_arg4)
      ∧ r.2.mem ((c.tc : Thread Cert.KernelU.nD Cert.KernelU.τ).loc Cert.KernelU.main_arg5) = m ((c.tc : Thread Cert.KernelU.nD Cert.KernelU.τ).loc Cert.KernelU.main_arg5)
      ∧ r.2.mem ((c.tc : Thread Cert.KernelU.nD Cert.KernelU.τ).loc Cert.KernelU.main_arg6) = m ((c.tc : Thread Cert.KernelU.nD Cert.KernelU.τ).loc Cert.KernelU.main_arg6)
      ∧ r.2.mem ((c.tc : Thread Cert.KernelU.nD Cert.KernelU.τ).loc Cert.KernelU.main_arg7) = m ((c.tc : Thread Cert.KernelU.nD Cert.KernelU.τ).loc Cert.KernelU.main_arg7))
      ∧ r.2.sem = fun _ => 0)

def quiescent_KernelUIdeal [hKernelUIdeal : Cert.KernelUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
      ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
      ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3)
      ∧ r.2.mem ((c.tc : Thread Cert.KernelUIdeal.nD Cert.KernelUIdeal.τ).loc Cert.KernelUIdeal.main_arg4) = m ((c.tc : Thread Cert.KernelUIdeal.nD Cert.KernelUIdeal.τ).loc Cert.KernelUIdeal.main_arg4)
      ∧ r.2.mem ((c.tc : Thread Cert.KernelUIdeal.nD Cert.KernelUIdeal.τ).loc Cert.KernelUIdeal.main_arg5) = m ((c.tc : Thread Cert.KernelUIdeal.nD Cert.KernelUIdeal.τ).loc Cert.KernelUIdeal.main_arg5)
      ∧ r.2.mem ((c.tc : Thread Cert.KernelUIdeal.nD Cert.KernelUIdeal.τ).loc Cert.KernelUIdeal.main_arg6) = m ((c.tc : Thread Cert.KernelUIdeal.nD Cert.KernelUIdeal.τ).loc Cert.KernelUIdeal.main_arg6)
      ∧ r.2.mem ((c.tc : Thread Cert.KernelUIdeal.nD Cert.KernelUIdeal.τ).loc Cert.KernelUIdeal.main_arg7) = m ((c.tc : Thread Cert.KernelUIdeal.nD Cert.KernelUIdeal.τ).loc Cert.KernelUIdeal.main_arg7))
      ∧ r.2.sem = fun _ => 0)

def quiescent_ReferenceUIdeal [hReferenceUIdeal : Cert.ReferenceUIdeal.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1)
      ∧ r.2.mem ((c.tc : Thread Cert.ReferenceUIdeal.nD Cert.ReferenceUIdeal.τ).loc Cert.ReferenceUIdeal.main_arg2) = m ((c.tc : Thread Cert.ReferenceUIdeal.nD Cert.ReferenceUIdeal.τ).loc Cert.ReferenceUIdeal.main_arg2)
      ∧ r.2.mem ((c.tc : Thread Cert.ReferenceUIdeal.nD Cert.ReferenceUIdeal.τ).loc Cert.ReferenceUIdeal.main_arg3) = m ((c.tc : Thread Cert.ReferenceUIdeal.nD Cert.ReferenceUIdeal.τ).loc Cert.ReferenceUIdeal.main_arg3)
      ∧ r.2.mem ((c.tc : Thread Cert.ReferenceUIdeal.nD Cert.ReferenceUIdeal.τ).loc Cert.ReferenceUIdeal.main_arg4) = m ((c.tc : Thread Cert.ReferenceUIdeal.nD Cert.ReferenceUIdeal.τ).loc Cert.ReferenceUIdeal.main_arg4)
      ∧ r.2.mem ((c.tc : Thread Cert.ReferenceUIdeal.nD Cert.ReferenceUIdeal.τ).loc Cert.ReferenceUIdeal.main_arg5) = m ((c.tc : Thread Cert.ReferenceUIdeal.nD Cert.ReferenceUIdeal.τ).loc Cert.ReferenceUIdeal.main_arg5)
      ∧ r.2.mem ((c.tc : Thread Cert.ReferenceUIdeal.nD Cert.ReferenceUIdeal.τ).loc Cert.ReferenceUIdeal.main_arg6) = m ((c.tc : Thread Cert.ReferenceUIdeal.nD Cert.ReferenceUIdeal.τ).loc Cert.ReferenceUIdeal.main_arg6)
      ∧ r.2.mem ((c.tc : Thread Cert.ReferenceUIdeal.nD Cert.ReferenceUIdeal.τ).loc Cert.ReferenceUIdeal.main_arg7) = m ((c.tc : Thread Cert.ReferenceUIdeal.nD Cert.ReferenceUIdeal.τ).loc Cert.ReferenceUIdeal.main_arg7))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2)
      ∧ r.2.mem ((c.tc : Thread Cert.KernelG.nD Cert.KernelG.τ).loc Cert.KernelG.main_arg3) = m ((c.tc : Thread Cert.KernelG.nD Cert.KernelG.τ).loc Cert.KernelG.main_arg3)
      ∧ r.2.mem ((c.tc : Thread Cert.KernelG.nD Cert.KernelG.τ).loc Cert.KernelG.main_arg4) = m ((c.tc : Thread Cert.KernelG.nD Cert.KernelG.τ).loc Cert.KernelG.main_arg4)
      ∧ r.2.mem ((c.tc : Thread Cert.KernelG.nD Cert.KernelG.τ).loc Cert.KernelG.main_arg5) = m ((c.tc : Thread Cert.KernelG.nD Cert.KernelG.τ).loc Cert.KernelG.main_arg5)
      ∧ r.2.mem ((c.tc : Thread Cert.KernelG.nD Cert.KernelG.τ).loc Cert.KernelG.main_arg6) = m ((c.tc : Thread Cert.KernelG.nD Cert.KernelG.τ).loc Cert.KernelG.main_arg6)
      ∧ r.2.mem ((c.tc : Thread Cert.KernelG.nD Cert.KernelG.τ).loc Cert.KernelG.main_arg7) = m ((c.tc : Thread Cert.KernelG.nD Cert.KernelG.τ).loc Cert.KernelG.main_arg7))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
      ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
      ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4)
      ∧ r.2.mem ((c.tc : Thread Cert.KernelGIdeal.nD Cert.KernelGIdeal.τ).loc Cert.KernelGIdeal.main_arg5) = m ((c.tc : Thread Cert.KernelGIdeal.nD Cert.KernelGIdeal.τ).loc Cert.KernelGIdeal.main_arg5)
      ∧ r.2.mem ((c.tc : Thread Cert.KernelGIdeal.nD Cert.KernelGIdeal.τ).loc Cert.KernelGIdeal.main_arg6) = m ((c.tc : Thread Cert.KernelGIdeal.nD Cert.KernelGIdeal.τ).loc Cert.KernelGIdeal.main_arg6)
      ∧ r.2.mem ((c.tc : Thread Cert.KernelGIdeal.nD Cert.KernelGIdeal.τ).loc Cert.KernelGIdeal.main_arg7) = m ((c.tc : Thread Cert.KernelGIdeal.nD Cert.KernelGIdeal.τ).loc Cert.KernelGIdeal.main_arg7))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2)
      ∧ r.2.mem ((c.tc : Thread Cert.ReferenceGIdeal.nD Cert.ReferenceGIdeal.τ).loc Cert.ReferenceGIdeal.main_arg3) = m ((c.tc : Thread Cert.ReferenceGIdeal.nD Cert.ReferenceGIdeal.τ).loc Cert.ReferenceGIdeal.main_arg3)
      ∧ r.2.mem ((c.tc : Thread Cert.ReferenceGIdeal.nD Cert.ReferenceGIdeal.τ).loc Cert.ReferenceGIdeal.main_arg4) = m ((c.tc : Thread Cert.ReferenceGIdeal.nD Cert.ReferenceGIdeal.τ).loc Cert.ReferenceGIdeal.main_arg4)
      ∧ r.2.mem ((c.tc : Thread Cert.ReferenceGIdeal.nD Cert.ReferenceGIdeal.τ).loc Cert.ReferenceGIdeal.main_arg5) = m ((c.tc : Thread Cert.ReferenceGIdeal.nD Cert.ReferenceGIdeal.τ).loc Cert.ReferenceGIdeal.main_arg5)
      ∧ r.2.mem ((c.tc : Thread Cert.ReferenceGIdeal.nD Cert.ReferenceGIdeal.τ).loc Cert.ReferenceGIdeal.main_arg6) = m ((c.tc : Thread Cert.ReferenceGIdeal.nD Cert.ReferenceGIdeal.τ).loc Cert.ReferenceGIdeal.main_arg6)
      ∧ r.2.mem ((c.tc : Thread Cert.ReferenceGIdeal.nD Cert.ReferenceGIdeal.τ).loc Cert.ReferenceGIdeal.main_arg7) = m ((c.tc : Thread Cert.ReferenceGIdeal.nD Cert.ReferenceGIdeal.τ).loc Cert.ReferenceGIdeal.main_arg7))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0)
      ∧ r.2.mem ((c.tc : Thread Cert.KernelL.nD Cert.KernelL.τ).loc Cert.KernelL.main_arg1) = m ((c.tc : Thread Cert.KernelL.nD Cert.KernelL.τ).loc Cert.KernelL.main_arg1)
      ∧ r.2.mem ((c.tc : Thread Cert.KernelL.nD Cert.KernelL.τ).loc Cert.KernelL.main_arg2) = m ((c.tc : Thread Cert.KernelL.nD Cert.KernelL.τ).loc Cert.KernelL.main_arg2)
      ∧ r.2.mem ((c.tc : Thread Cert.KernelL.nD Cert.KernelL.τ).loc Cert.KernelL.main_arg3) = m ((c.tc : Thread Cert.KernelL.nD Cert.KernelL.τ).loc Cert.KernelL.main_arg3)
      ∧ r.2.mem ((c.tc : Thread Cert.KernelL.nD Cert.KernelL.τ).loc Cert.KernelL.main_arg4) = m ((c.tc : Thread Cert.KernelL.nD Cert.KernelL.τ).loc Cert.KernelL.main_arg4)
      ∧ r.2.mem ((c.tc : Thread Cert.KernelL.nD Cert.KernelL.τ).loc Cert.KernelL.main_arg5) = m ((c.tc : Thread Cert.KernelL.nD Cert.KernelL.τ).loc Cert.KernelL.main_arg5))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
      ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5))
      ∧ r.2.sem = fun _ => 0)

def quiescent_ReferenceLIdeal [hReferenceLIdeal : Cert.ReferenceLIdeal.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0)
      ∧ r.2.mem ((c.tc : Thread Cert.ReferenceLIdeal.nD Cert.ReferenceLIdeal.τ).loc Cert.ReferenceLIdeal.main_arg1) = m ((c.tc : Thread Cert.ReferenceLIdeal.nD Cert.ReferenceLIdeal.τ).loc Cert.ReferenceLIdeal.main_arg1)
      ∧ r.2.mem ((c.tc : Thread Cert.ReferenceLIdeal.nD Cert.ReferenceLIdeal.τ).loc Cert.ReferenceLIdeal.main_arg2) = m ((c.tc : Thread Cert.ReferenceLIdeal.nD Cert.ReferenceLIdeal.τ).loc Cert.ReferenceLIdeal.main_arg2)
      ∧ r.2.mem ((c.tc : Thread Cert.ReferenceLIdeal.nD Cert.ReferenceLIdeal.τ).loc Cert.ReferenceLIdeal.main_arg3) = m ((c.tc : Thread Cert.ReferenceLIdeal.nD Cert.ReferenceLIdeal.τ).loc Cert.ReferenceLIdeal.main_arg3)
      ∧ r.2.mem ((c.tc : Thread Cert.ReferenceLIdeal.nD Cert.ReferenceLIdeal.τ).loc Cert.ReferenceLIdeal.main_arg4) = m ((c.tc : Thread Cert.ReferenceLIdeal.nD Cert.ReferenceLIdeal.τ).loc Cert.ReferenceLIdeal.main_arg4)
      ∧ r.2.mem ((c.tc : Thread Cert.ReferenceLIdeal.nD Cert.ReferenceLIdeal.τ).loc Cert.ReferenceLIdeal.main_arg5) = m ((c.tc : Thread Cert.ReferenceLIdeal.nD Cert.ReferenceLIdeal.τ).loc Cert.ReferenceLIdeal.main_arg5))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4)
      ∧ r.2.mem ((c.tc : Thread Cert.KernelM.nD Cert.KernelM.τ).loc Cert.KernelM.main_arg5) = m ((c.tc : Thread Cert.KernelM.nD Cert.KernelM.τ).loc Cert.KernelM.main_arg5)
      ∧ r.2.mem ((c.tc : Thread Cert.KernelM.nD Cert.KernelM.τ).loc Cert.KernelM.main_arg6) = m ((c.tc : Thread Cert.KernelM.nD Cert.KernelM.τ).loc Cert.KernelM.main_arg6)
      ∧ r.2.mem ((c.tc : Thread Cert.KernelM.nD Cert.KernelM.τ).loc Cert.KernelM.main_arg7) = m ((c.tc : Thread Cert.KernelM.nD Cert.KernelM.τ).loc Cert.KernelM.main_arg7)
      ∧ r.2.mem ((c.tc : Thread Cert.KernelM.nD Cert.KernelM.τ).loc Cert.KernelM.main_arg8) = m ((c.tc : Thread Cert.KernelM.nD Cert.KernelM.τ).loc Cert.KernelM.main_arg8)
      ∧ r.2.mem ((c.tc : Thread Cert.KernelM.nD Cert.KernelM.τ).loc Cert.KernelM.main_arg9) = m ((c.tc : Thread Cert.KernelM.nD Cert.KernelM.τ).loc Cert.KernelM.main_arg9)
      ∧ r.2.mem ((c.tc : Thread Cert.KernelM.nD Cert.KernelM.τ).loc Cert.KernelM.main_arg10) = m ((c.tc : Thread Cert.KernelM.nD Cert.KernelM.τ).loc Cert.KernelM.main_arg10))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
      ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
      ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7)
      ∧ r.2.mem ((c.tc : Thread Cert.KernelMIdeal.nD Cert.KernelMIdeal.τ).loc Cert.KernelMIdeal.main_arg8) = m ((c.tc : Thread Cert.KernelMIdeal.nD Cert.KernelMIdeal.τ).loc Cert.KernelMIdeal.main_arg8)
      ∧ r.2.mem ((c.tc : Thread Cert.KernelMIdeal.nD Cert.KernelMIdeal.τ).loc Cert.KernelMIdeal.main_arg9) = m ((c.tc : Thread Cert.KernelMIdeal.nD Cert.KernelMIdeal.τ).loc Cert.KernelMIdeal.main_arg9)
      ∧ r.2.mem ((c.tc : Thread Cert.KernelMIdeal.nD Cert.KernelMIdeal.τ).loc Cert.KernelMIdeal.main_arg10) = m ((c.tc : Thread Cert.KernelMIdeal.nD Cert.KernelMIdeal.τ).loc Cert.KernelMIdeal.main_arg10))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6)
      ∧ r.2.mem ((c.tc : Thread Cert.ReferenceMIdeal.nD Cert.ReferenceMIdeal.τ).loc Cert.ReferenceMIdeal.main_arg7) = m ((c.tc : Thread Cert.ReferenceMIdeal.nD Cert.ReferenceMIdeal.τ).loc Cert.ReferenceMIdeal.main_arg7)
      ∧ r.2.mem ((c.tc : Thread Cert.ReferenceMIdeal.nD Cert.ReferenceMIdeal.τ).loc Cert.ReferenceMIdeal.main_arg8) = m ((c.tc : Thread Cert.ReferenceMIdeal.nD Cert.ReferenceMIdeal.τ).loc Cert.ReferenceMIdeal.main_arg8)
      ∧ r.2.mem ((c.tc : Thread Cert.ReferenceMIdeal.nD Cert.ReferenceMIdeal.τ).loc Cert.ReferenceMIdeal.main_arg9) = m ((c.tc : Thread Cert.ReferenceMIdeal.nD Cert.ReferenceMIdeal.τ).loc Cert.ReferenceMIdeal.main_arg9)
      ∧ r.2.mem ((c.tc : Thread Cert.ReferenceMIdeal.nD Cert.ReferenceMIdeal.τ).loc Cert.ReferenceMIdeal.main_arg10) = m ((c.tc : Thread Cert.ReferenceMIdeal.nD Cert.ReferenceMIdeal.τ).loc Cert.ReferenceMIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v44_0)) (v2 : (c : Dev Cert.KernelIdeal.nD) → Buf (Elt Ideal) ((c.tc : Thread Cert.KernelIdeal.nD Cert.KernelIdeal.τ).loc Cert.KernelIdeal.main_v50)) (v3 : (c : Dev Cert.KernelIdeal.nD) → Buf (Elt Ideal) ((c.tc : Thread Cert.KernelIdeal.nD Cert.KernelIdeal.τ).loc Cert.KernelIdeal.main_v52)) (v4 : (c : Dev Cert.KernelIdeal.nD) → Buf (Elt Ideal) ((c.tc : Thread Cert.KernelIdeal.nD Cert.KernelIdeal.τ).loc Cert.KernelIdeal.main_v45)) (v5 : (c : Dev Cert.KernelIdeal.nD) → Buf (Elt Ideal) ((c.tc : Thread Cert.KernelIdeal.nD Cert.KernelIdeal.τ).loc Cert.KernelIdeal.main_v46)) (v6 : (c : Dev Cert.KernelIdeal.nD) → Buf (Elt Ideal) ((c.tc : Thread Cert.KernelIdeal.nD Cert.KernelIdeal.τ).loc Cert.KernelIdeal.main_v47)) (v7 : (c : Dev Cert.KernelIdeal.nD) → Buf (Elt Ideal) ((c.tc : Thread Cert.KernelIdeal.nD Cert.KernelIdeal.τ).loc Cert.KernelIdeal.main_v53)) (v8 : (c : Dev Cert.KernelIdeal.nD) → Buf (Elt Ideal) ((c.tc : Thread Cert.KernelIdeal.nD Cert.KernelIdeal.τ).loc Cert.KernelIdeal.main_v44_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_v52) = v3 c
          ∧ r.2.mem ((c.tc : Thread Cert.KernelIdeal.nD Cert.KernelIdeal.τ).loc Cert.KernelIdeal.main_v45) = v4 c
          ∧ r.2.mem ((c.tc : Thread Cert.KernelIdeal.nD Cert.KernelIdeal.τ).loc Cert.KernelIdeal.main_v46) = v5 c
          ∧ r.2.mem ((c.tc : Thread Cert.KernelIdeal.nD Cert.KernelIdeal.τ).loc Cert.KernelIdeal.main_v47) = v6 c
          ∧ r.2.mem ((c.tc : Thread Cert.KernelIdeal.nD Cert.KernelIdeal.τ).loc Cert.KernelIdeal.main_v53) = v7 c
          ∧ r.2.mem ((c.tc : Thread Cert.KernelIdeal.nD Cert.KernelIdeal.τ).loc Cert.KernelIdeal.main_v44_6) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v48_7) = v2 c
          ∧ r.2.mem ((c.tc : Thread Cert.ReferenceIdeal.nD Cert.ReferenceIdeal.τ).loc Cert.ReferenceIdeal.main_v48_8) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_v51) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_v35) = v7 c
          ∧ r.2.mem ((c.tc : Thread Cert.ReferenceIdeal.nD Cert.ReferenceIdeal.τ).loc Cert.ReferenceIdeal.main_v32) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)) →
    ∃ (v0 : (c : Dev Cert.KernelXIdeal.nD) → Buf (Elt Ideal) ((c.tc : Thread Cert.KernelXIdeal.nD Cert.KernelXIdeal.τ).loc Cert.KernelXIdeal.main_v3)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v3) = v0 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v4) = v0 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2))

def preserves_KernelF_KernelFIdeal : Prop :=
  True

def algebraic_KernelFIdeal_ReferenceFIdeal_pre_finite_f [hKernelFIdeal : Cert.KernelFIdeal.Facts] [hReferenceFIdeal : Cert.ReferenceFIdeal.Facts] [hPre_finite_f : Cert.Pre_finite_f.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_f m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)
      ∧ m' ((c.tc : Thread Cert.ReferenceFIdeal.nD Cert.ReferenceFIdeal.τ).loc Cert.ReferenceFIdeal.main_arg4) = m ((c.tc : Thread Cert.KernelFIdeal.nD Cert.KernelFIdeal.τ).loc Cert.KernelFIdeal.main_arg4)) →
    ∃ (v0 : (c : Dev Cert.KernelFIdeal.nD) → Buf (Elt Ideal) ((c.tc : Thread Cert.KernelFIdeal.nD Cert.KernelFIdeal.τ).loc Cert.KernelFIdeal.main_v23)) (v1 : (c : Dev Cert.KernelFIdeal.nD) → Buf (Elt Ideal) ((c.tc : Thread Cert.KernelFIdeal.nD Cert.KernelFIdeal.τ).loc Cert.KernelFIdeal.main_v27)) (v2 : (c : Dev Cert.KernelFIdeal.nD) → Buf (Elt Ideal) ((c.tc : Thread Cert.KernelFIdeal.nD Cert.KernelFIdeal.τ).loc Cert.KernelFIdeal.main_v31)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v23) = v0 c
          ∧ r.2.mem ((c.tc : Thread Cert.KernelFIdeal.nD Cert.KernelFIdeal.τ).loc Cert.KernelFIdeal.main_v27) = v1 c
          ∧ r.2.mem ((c.tc : Thread Cert.KernelFIdeal.nD Cert.KernelFIdeal.τ).loc Cert.KernelFIdeal.main_v31) = v2 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v14) = v0 c
          ∧ r.2.mem ((c.tc : Thread Cert.ReferenceFIdeal.nD Cert.ReferenceFIdeal.τ).loc Cert.ReferenceFIdeal.main_v11) = v1 c
          ∧ r.2.mem ((c.tc : Thread Cert.ReferenceFIdeal.nD Cert.ReferenceFIdeal.τ).loc Cert.ReferenceFIdeal.main_v6) = v2 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3)
          ∧ r.2.mem ((c.tc : Thread Cert.ReferenceFIdeal.nD Cert.ReferenceFIdeal.τ).loc Cert.ReferenceFIdeal.main_arg4) = m' ((c.tc : Thread Cert.ReferenceFIdeal.nD Cert.ReferenceFIdeal.τ).loc Cert.ReferenceFIdeal.main_arg4))

def preserves_KernelP_KernelPIdeal : Prop :=
  True

def algebraic_KernelPIdeal_ReferencePIdeal [hKernelPIdeal : Cert.KernelPIdeal.Facts] [hReferencePIdeal : Cert.ReferencePIdeal.Facts] : Prop :=
  ∀ (m : (ℓ : Loc Cert.KernelPIdeal.nD Cert.KernelPIdeal.τ Cert.KernelPIdeal.sig) → Buf (Elt Ideal) ℓ) (g : Dev Cert.KernelPIdeal.nD → PrngReg)
    (m' : (ℓ : Loc Cert.ReferencePIdeal.nD Cert.ReferencePIdeal.τ Cert.ReferencePIdeal.sig) → Buf (Elt Ideal) ℓ) (g' : Dev Cert.ReferencePIdeal.nD → PrngReg), Pre_KernelPIdeal m →
    (∀ c : Dev Cert.KernelPIdeal.nD,
      m' ((c.tc : Thread Cert.ReferencePIdeal.nD Cert.ReferencePIdeal.τ).loc Cert.ReferencePIdeal.main_arg0) = m ((c.tc : Thread Cert.KernelPIdeal.nD Cert.KernelPIdeal.τ).loc Cert.KernelPIdeal.main_arg0)
      ∧ m' ((c.tc : Thread Cert.ReferencePIdeal.nD Cert.ReferencePIdeal.τ).loc Cert.ReferencePIdeal.main_arg1) = m ((c.tc : Thread Cert.KernelPIdeal.nD Cert.KernelPIdeal.τ).loc Cert.KernelPIdeal.main_arg1)) →
    ∃ (v0 : (c : Dev Cert.KernelPIdeal.nD) → Buf (Elt Ideal) ((c.tc : Thread Cert.KernelPIdeal.nD Cert.KernelPIdeal.τ).loc Cert.KernelPIdeal.main_v3)),
      θ_run (Cert.KernelPIdeal.defs (F := Ideal)) (onTc (τ := Cert.KernelPIdeal.τ) (Cert.KernelPIdeal.main (F := Ideal))) ⟨m, fun _ => 0, g⟩ (fun r => ∀ c : Dev Cert.KernelPIdeal.nD,
          r.2.mem ((c.tc : Thread Cert.KernelPIdeal.nD Cert.KernelPIdeal.τ).loc Cert.KernelPIdeal.main_v3) = v0 c
          ∧ r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
          ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1))
      ∧ θ_run (Cert.ReferencePIdeal.defs (F := Ideal)) (onTc (τ := Cert.ReferencePIdeal.τ) (Cert.ReferencePIdeal.main (F := Ideal))) ⟨m', fun _ => 0, g'⟩ (fun r => ∀ c : Dev Cert.ReferencePIdeal.nD,
          r.2.mem ((c.tc : Thread Cert.ReferencePIdeal.nD Cert.ReferencePIdeal.τ).loc Cert.ReferencePIdeal.main_v0) = v0 c
          ∧ r.2.mem ((c.tc : Thread Cert.ReferencePIdeal.nD Cert.ReferencePIdeal.τ).loc Cert.ReferencePIdeal.main_arg0) = m' ((c.tc : Thread Cert.ReferencePIdeal.nD Cert.ReferencePIdeal.τ).loc Cert.ReferencePIdeal.main_arg0)
          ∧ r.2.mem ((c.tc : Thread Cert.ReferencePIdeal.nD Cert.ReferencePIdeal.τ).loc Cert.ReferencePIdeal.main_arg1) = m' ((c.tc : Thread Cert.ReferencePIdeal.nD Cert.ReferencePIdeal.τ).loc Cert.ReferencePIdeal.main_arg1))

def preserves_KernelU_KernelUIdeal : Prop :=
  True

def algebraic_KernelUIdeal_ReferenceUIdeal [hKernelUIdeal : Cert.KernelUIdeal.Facts] [hReferenceUIdeal : Cert.ReferenceUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg)
    (m' : (ℓ : Loc Cert.ReferenceUIdeal.nD Cert.ReferenceUIdeal.τ Cert.ReferenceUIdeal.sig) → Buf (Elt Ideal) ℓ) (g' : Dev Cert.ReferenceUIdeal.nD → PrngReg), Pre_KernelUIdeal m →
    (∀ c : Dev Cert.KernelUIdeal.nD,
      m' ((c.tc : Thread Cert.ReferenceUIdeal.nD Cert.ReferenceUIdeal.τ).loc Cert.ReferenceUIdeal.main_arg0) = m ((c.tc : Thread Cert.KernelUIdeal.nD Cert.KernelUIdeal.τ).loc Cert.KernelUIdeal.main_arg0)
      ∧ m' ((c.tc : Thread Cert.ReferenceUIdeal.nD Cert.ReferenceUIdeal.τ).loc Cert.ReferenceUIdeal.main_arg1) = m ((c.tc : Thread Cert.KernelUIdeal.nD Cert.KernelUIdeal.τ).loc Cert.KernelUIdeal.main_arg1)
      ∧ m' ((c.tc : Thread Cert.ReferenceUIdeal.nD Cert.ReferenceUIdeal.τ).loc Cert.ReferenceUIdeal.main_arg2) = m ((c.tc : Thread Cert.KernelUIdeal.nD Cert.KernelUIdeal.τ).loc Cert.KernelUIdeal.main_arg2)
      ∧ m' ((c.tc : Thread Cert.ReferenceUIdeal.nD Cert.ReferenceUIdeal.τ).loc Cert.ReferenceUIdeal.main_arg3) = m ((c.tc : Thread Cert.KernelUIdeal.nD Cert.KernelUIdeal.τ).loc Cert.KernelUIdeal.main_arg3)
      ∧ m' ((c.tc : Thread Cert.ReferenceUIdeal.nD Cert.ReferenceUIdeal.τ).loc Cert.ReferenceUIdeal.main_arg4) = m ((c.tc : Thread Cert.KernelUIdeal.nD Cert.KernelUIdeal.τ).loc Cert.KernelUIdeal.main_arg4)
      ∧ m' ((c.tc : Thread Cert.ReferenceUIdeal.nD Cert.ReferenceUIdeal.τ).loc Cert.ReferenceUIdeal.main_arg5) = m ((c.tc : Thread Cert.KernelUIdeal.nD Cert.KernelUIdeal.τ).loc Cert.KernelUIdeal.main_arg5)
      ∧ m' ((c.tc : Thread Cert.ReferenceUIdeal.nD Cert.ReferenceUIdeal.τ).loc Cert.ReferenceUIdeal.main_arg6) = m ((c.tc : Thread Cert.KernelUIdeal.nD Cert.KernelUIdeal.τ).loc Cert.KernelUIdeal.main_arg6)
      ∧ m' ((c.tc : Thread Cert.ReferenceUIdeal.nD Cert.ReferenceUIdeal.τ).loc Cert.ReferenceUIdeal.main_arg7) = m ((c.tc : Thread Cert.KernelUIdeal.nD Cert.KernelUIdeal.τ).loc Cert.KernelUIdeal.main_arg7)) →
    ∃ (v0 : (c : Dev Cert.KernelUIdeal.nD) → Buf (Elt Ideal) ((c.tc : Thread Cert.KernelUIdeal.nD Cert.KernelUIdeal.τ).loc Cert.KernelUIdeal.main_v20_0)) (v1 : (c : Dev Cert.KernelUIdeal.nD) → Buf (Elt Ideal) ((c.tc : Thread Cert.KernelUIdeal.nD Cert.KernelUIdeal.τ).loc Cert.KernelUIdeal.main_v21)) (v2 : (c : Dev Cert.KernelUIdeal.nD) → Buf (Elt Ideal) ((c.tc : Thread Cert.KernelUIdeal.nD Cert.KernelUIdeal.τ).loc Cert.KernelUIdeal.main_v22)),
      θ_run (Cert.KernelUIdeal.defs (F := Ideal)) (onTc (τ := Cert.KernelUIdeal.τ) (Cert.KernelUIdeal.main (F := Ideal))) ⟨m, fun _ => 0, g⟩ (fun r => ∀ c : Dev Cert.KernelUIdeal.nD,
          r.2.mem ((c.tc : Thread Cert.KernelUIdeal.nD Cert.KernelUIdeal.τ).loc Cert.KernelUIdeal.main_v20_0) = v0 c
          ∧ r.2.mem ((c.tc : Thread Cert.KernelUIdeal.nD Cert.KernelUIdeal.τ).loc Cert.KernelUIdeal.main_v21) = v1 c
          ∧ r.2.mem ((c.tc : Thread Cert.KernelUIdeal.nD Cert.KernelUIdeal.τ).loc Cert.KernelUIdeal.main_v22) = v2 c
          ∧ r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
          ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
          ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
          ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3)
          ∧ r.2.mem ((c.tc : Thread Cert.KernelUIdeal.nD Cert.KernelUIdeal.τ).loc Cert.KernelUIdeal.main_arg4) = m ((c.tc : Thread Cert.KernelUIdeal.nD Cert.KernelUIdeal.τ).loc Cert.KernelUIdeal.main_arg4)
          ∧ r.2.mem ((c.tc : Thread Cert.KernelUIdeal.nD Cert.KernelUIdeal.τ).loc Cert.KernelUIdeal.main_arg5) = m ((c.tc : Thread Cert.KernelUIdeal.nD Cert.KernelUIdeal.τ).loc Cert.KernelUIdeal.main_arg5)
          ∧ r.2.mem ((c.tc : Thread Cert.KernelUIdeal.nD Cert.KernelUIdeal.τ).loc Cert.KernelUIdeal.main_arg6) = m ((c.tc : Thread Cert.KernelUIdeal.nD Cert.KernelUIdeal.τ).loc Cert.KernelUIdeal.main_arg6)
          ∧ r.2.mem ((c.tc : Thread Cert.KernelUIdeal.nD Cert.KernelUIdeal.τ).loc Cert.KernelUIdeal.main_arg7) = m ((c.tc : Thread Cert.KernelUIdeal.nD Cert.KernelUIdeal.τ).loc Cert.KernelUIdeal.main_arg7))
      ∧ θ_run (Cert.ReferenceUIdeal.defs (F := Ideal)) (onTc (τ := Cert.ReferenceUIdeal.τ) (Cert.ReferenceUIdeal.main (F := Ideal))) ⟨m', fun _ => 0, g'⟩ (fun r => ∀ c : Dev Cert.ReferenceUIdeal.nD,
          r.2.mem ((c.tc : Thread Cert.ReferenceUIdeal.nD Cert.ReferenceUIdeal.τ).loc Cert.ReferenceUIdeal.main_v26) = v0 c
          ∧ r.2.mem ((c.tc : Thread Cert.ReferenceUIdeal.nD Cert.ReferenceUIdeal.τ).loc Cert.ReferenceUIdeal.main_v28) = v1 c
          ∧ r.2.mem ((c.tc : Thread Cert.ReferenceUIdeal.nD Cert.ReferenceUIdeal.τ).loc Cert.ReferenceUIdeal.main_v29) = v2 c
          ∧ r.2.mem ((c.tc : Thread Cert.ReferenceUIdeal.nD Cert.ReferenceUIdeal.τ).loc Cert.ReferenceUIdeal.main_arg0) = m' ((c.tc : Thread Cert.ReferenceUIdeal.nD Cert.ReferenceUIdeal.τ).loc Cert.ReferenceUIdeal.main_arg0)
          ∧ r.2.mem ((c.tc : Thread Cert.ReferenceUIdeal.nD Cert.ReferenceUIdeal.τ).loc Cert.ReferenceUIdeal.main_arg1) = m' ((c.tc : Thread Cert.ReferenceUIdeal.nD Cert.ReferenceUIdeal.τ).loc Cert.ReferenceUIdeal.main_arg1)
          ∧ r.2.mem ((c.tc : Thread Cert.ReferenceUIdeal.nD Cert.ReferenceUIdeal.τ).loc Cert.ReferenceUIdeal.main_arg2) = m' ((c.tc : Thread Cert.ReferenceUIdeal.nD Cert.ReferenceUIdeal.τ).loc Cert.ReferenceUIdeal.main_arg2)
          ∧ r.2.mem ((c.tc : Thread Cert.ReferenceUIdeal.nD Cert.ReferenceUIdeal.τ).loc Cert.ReferenceUIdeal.main_arg3) = m' ((c.tc : Thread Cert.ReferenceUIdeal.nD Cert.ReferenceUIdeal.τ).loc Cert.ReferenceUIdeal.main_arg3)
          ∧ r.2.mem ((c.tc : Thread Cert.ReferenceUIdeal.nD Cert.ReferenceUIdeal.τ).loc Cert.ReferenceUIdeal.main_arg4) = m' ((c.tc : Thread Cert.ReferenceUIdeal.nD Cert.ReferenceUIdeal.τ).loc Cert.ReferenceUIdeal.main_arg4)
          ∧ r.2.mem ((c.tc : Thread Cert.ReferenceUIdeal.nD Cert.ReferenceUIdeal.τ).loc Cert.ReferenceUIdeal.main_arg5) = m' ((c.tc : Thread Cert.ReferenceUIdeal.nD Cert.ReferenceUIdeal.τ).loc Cert.ReferenceUIdeal.main_arg5)
          ∧ r.2.mem ((c.tc : Thread Cert.ReferenceUIdeal.nD Cert.ReferenceUIdeal.τ).loc Cert.ReferenceUIdeal.main_arg6) = m' ((c.tc : Thread Cert.ReferenceUIdeal.nD Cert.ReferenceUIdeal.τ).loc Cert.ReferenceUIdeal.main_arg6)
          ∧ r.2.mem ((c.tc : Thread Cert.ReferenceUIdeal.nD Cert.ReferenceUIdeal.τ).loc Cert.ReferenceUIdeal.main_arg7) = m' ((c.tc : Thread Cert.ReferenceUIdeal.nD Cert.ReferenceUIdeal.τ).loc Cert.ReferenceUIdeal.main_arg7))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)
      ∧ m' ((c.tc : Thread Cert.ReferenceGIdeal.nD Cert.ReferenceGIdeal.τ).loc Cert.ReferenceGIdeal.main_arg3) = m ((c.tc : Thread Cert.KernelGIdeal.nD Cert.KernelGIdeal.τ).loc Cert.KernelGIdeal.main_arg3)
      ∧ m' ((c.tc : Thread Cert.ReferenceGIdeal.nD Cert.ReferenceGIdeal.τ).loc Cert.ReferenceGIdeal.main_arg4) = m ((c.tc : Thread Cert.KernelGIdeal.nD Cert.KernelGIdeal.τ).loc Cert.KernelGIdeal.main_arg4)
      ∧ m' ((c.tc : Thread Cert.ReferenceGIdeal.nD Cert.ReferenceGIdeal.τ).loc Cert.ReferenceGIdeal.main_arg5) = m ((c.tc : Thread Cert.KernelGIdeal.nD Cert.KernelGIdeal.τ).loc Cert.KernelGIdeal.main_arg5)
      ∧ m' ((c.tc : Thread Cert.ReferenceGIdeal.nD Cert.ReferenceGIdeal.τ).loc Cert.ReferenceGIdeal.main_arg6) = m ((c.tc : Thread Cert.KernelGIdeal.nD Cert.KernelGIdeal.τ).loc Cert.KernelGIdeal.main_arg6)
      ∧ m' ((c.tc : Thread Cert.ReferenceGIdeal.nD Cert.ReferenceGIdeal.τ).loc Cert.ReferenceGIdeal.main_arg7) = m ((c.tc : Thread Cert.KernelGIdeal.nD Cert.KernelGIdeal.τ).loc Cert.KernelGIdeal.main_arg7)) →
    ∃ (v0 : (c : Dev Cert.KernelGIdeal.nD) → Buf (Elt Ideal) ((c.tc : Thread Cert.KernelGIdeal.nD Cert.KernelGIdeal.τ).loc Cert.KernelGIdeal.main_v6)) (v1 : (c : Dev Cert.KernelGIdeal.nD) → Buf (Elt Ideal) ((c.tc : Thread Cert.KernelGIdeal.nD Cert.KernelGIdeal.τ).loc Cert.KernelGIdeal.main_v9)) (v2 : (c : Dev Cert.KernelGIdeal.nD) → Buf (Elt Ideal) ((c.tc : Thread Cert.KernelGIdeal.nD Cert.KernelGIdeal.τ).loc Cert.KernelGIdeal.main_v12)) (v3 : (c : Dev Cert.KernelGIdeal.nD) → Buf (Elt Ideal) ((c.tc : Thread Cert.KernelGIdeal.nD Cert.KernelGIdeal.τ).loc Cert.KernelGIdeal.main_v15)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v6) = v0 c
          ∧ r.2.mem ((c.tc : Thread Cert.KernelGIdeal.nD Cert.KernelGIdeal.τ).loc Cert.KernelGIdeal.main_v9) = v1 c
          ∧ r.2.mem ((c.tc : Thread Cert.KernelGIdeal.nD Cert.KernelGIdeal.τ).loc Cert.KernelGIdeal.main_v12) = v2 c
          ∧ r.2.mem ((c.tc : Thread Cert.KernelGIdeal.nD Cert.KernelGIdeal.τ).loc Cert.KernelGIdeal.main_v15) = v3 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
          ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
          ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4)
          ∧ r.2.mem ((c.tc : Thread Cert.KernelGIdeal.nD Cert.KernelGIdeal.τ).loc Cert.KernelGIdeal.main_arg5) = m ((c.tc : Thread Cert.KernelGIdeal.nD Cert.KernelGIdeal.τ).loc Cert.KernelGIdeal.main_arg5)
          ∧ r.2.mem ((c.tc : Thread Cert.KernelGIdeal.nD Cert.KernelGIdeal.τ).loc Cert.KernelGIdeal.main_arg6) = m ((c.tc : Thread Cert.KernelGIdeal.nD Cert.KernelGIdeal.τ).loc Cert.KernelGIdeal.main_arg6)
          ∧ r.2.mem ((c.tc : Thread Cert.KernelGIdeal.nD Cert.KernelGIdeal.τ).loc Cert.KernelGIdeal.main_arg7) = m ((c.tc : Thread Cert.KernelGIdeal.nD Cert.KernelGIdeal.τ).loc Cert.KernelGIdeal.main_arg7))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v13) = v0 c
          ∧ r.2.mem ((c.tc : Thread Cert.ReferenceGIdeal.nD Cert.ReferenceGIdeal.τ).loc Cert.ReferenceGIdeal.main_v11) = v1 c
          ∧ r.2.mem ((c.tc : Thread Cert.ReferenceGIdeal.nD Cert.ReferenceGIdeal.τ).loc Cert.ReferenceGIdeal.main_v9) = v2 c
          ∧ r.2.mem ((c.tc : Thread Cert.ReferenceGIdeal.nD Cert.ReferenceGIdeal.τ).loc Cert.ReferenceGIdeal.main_v7) = v3 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2)
          ∧ r.2.mem ((c.tc : Thread Cert.ReferenceGIdeal.nD Cert.ReferenceGIdeal.τ).loc Cert.ReferenceGIdeal.main_arg3) = m' ((c.tc : Thread Cert.ReferenceGIdeal.nD Cert.ReferenceGIdeal.τ).loc Cert.ReferenceGIdeal.main_arg3)
          ∧ r.2.mem ((c.tc : Thread Cert.ReferenceGIdeal.nD Cert.ReferenceGIdeal.τ).loc Cert.ReferenceGIdeal.main_arg4) = m' ((c.tc : Thread Cert.ReferenceGIdeal.nD Cert.ReferenceGIdeal.τ).loc Cert.ReferenceGIdeal.main_arg4)
          ∧ r.2.mem ((c.tc : Thread Cert.ReferenceGIdeal.nD Cert.ReferenceGIdeal.τ).loc Cert.ReferenceGIdeal.main_arg5) = m' ((c.tc : Thread Cert.ReferenceGIdeal.nD Cert.ReferenceGIdeal.τ).loc Cert.ReferenceGIdeal.main_arg5)
          ∧ r.2.mem ((c.tc : Thread Cert.ReferenceGIdeal.nD Cert.ReferenceGIdeal.τ).loc Cert.ReferenceGIdeal.main_arg6) = m' ((c.tc : Thread Cert.ReferenceGIdeal.nD Cert.ReferenceGIdeal.τ).loc Cert.ReferenceGIdeal.main_arg6)
          ∧ r.2.mem ((c.tc : Thread Cert.ReferenceGIdeal.nD Cert.ReferenceGIdeal.τ).loc Cert.ReferenceGIdeal.main_arg7) = m' ((c.tc : Thread Cert.ReferenceGIdeal.nD Cert.ReferenceGIdeal.τ).loc Cert.ReferenceGIdeal.main_arg7))

def preserves_KernelL_KernelLIdeal : Prop :=
  True

def algebraic_KernelLIdeal_ReferenceLIdeal [hKernelLIdeal : Cert.KernelLIdeal.Facts] [hReferenceLIdeal : Cert.ReferenceLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg)
    (m' : (ℓ : Loc Cert.ReferenceLIdeal.nD Cert.ReferenceLIdeal.τ Cert.ReferenceLIdeal.sig) → Buf (Elt Ideal) ℓ) (g' : Dev Cert.ReferenceLIdeal.nD → PrngReg), Pre_KernelLIdeal m →
    (∀ c : Dev Cert.KernelLIdeal.nD,
      m' ((c.tc : Thread Cert.ReferenceLIdeal.nD Cert.ReferenceLIdeal.τ).loc Cert.ReferenceLIdeal.main_arg0) = m ((c.tc : Thread Cert.KernelLIdeal.nD Cert.KernelLIdeal.τ).loc Cert.KernelLIdeal.main_arg0)
      ∧ m' ((c.tc : Thread Cert.ReferenceLIdeal.nD Cert.ReferenceLIdeal.τ).loc Cert.ReferenceLIdeal.main_arg1) = m ((c.tc : Thread Cert.KernelLIdeal.nD Cert.KernelLIdeal.τ).loc Cert.KernelLIdeal.main_arg1)
      ∧ m' ((c.tc : Thread Cert.ReferenceLIdeal.nD Cert.ReferenceLIdeal.τ).loc Cert.ReferenceLIdeal.main_arg2) = m ((c.tc : Thread Cert.KernelLIdeal.nD Cert.KernelLIdeal.τ).loc Cert.KernelLIdeal.main_arg2)
      ∧ m' ((c.tc : Thread Cert.ReferenceLIdeal.nD Cert.ReferenceLIdeal.τ).loc Cert.ReferenceLIdeal.main_arg3) = m ((c.tc : Thread Cert.KernelLIdeal.nD Cert.KernelLIdeal.τ).loc Cert.KernelLIdeal.main_arg3)
      ∧ m' ((c.tc : Thread Cert.ReferenceLIdeal.nD Cert.ReferenceLIdeal.τ).loc Cert.ReferenceLIdeal.main_arg4) = m ((c.tc : Thread Cert.KernelLIdeal.nD Cert.KernelLIdeal.τ).loc Cert.KernelLIdeal.main_arg4)
      ∧ m' ((c.tc : Thread Cert.ReferenceLIdeal.nD Cert.ReferenceLIdeal.τ).loc Cert.ReferenceLIdeal.main_arg5) = m ((c.tc : Thread Cert.KernelLIdeal.nD Cert.KernelLIdeal.τ).loc Cert.KernelLIdeal.main_arg5)) →
    ∃ (v0 : (c : Dev Cert.KernelLIdeal.nD) → Buf (Elt Ideal) ((c.tc : Thread Cert.KernelLIdeal.nD Cert.KernelLIdeal.τ).loc Cert.KernelLIdeal.main_v11_0)) (v1 : (c : Dev Cert.KernelLIdeal.nD) → Buf (Elt Ideal) ((c.tc : Thread Cert.KernelLIdeal.nD Cert.KernelLIdeal.τ).loc Cert.KernelLIdeal.main_v12)) (v2 : (c : Dev Cert.KernelLIdeal.nD) → Buf (Elt Ideal) ((c.tc : Thread Cert.KernelLIdeal.nD Cert.KernelLIdeal.τ).loc Cert.KernelLIdeal.main_v13)) (v3 : (c : Dev Cert.KernelLIdeal.nD) → Buf (Elt Ideal) ((c.tc : Thread Cert.KernelLIdeal.nD Cert.KernelLIdeal.τ).loc Cert.KernelLIdeal.main_v15)),
      θ_run (Cert.KernelLIdeal.defs (F := Ideal)) (onTc (τ := Cert.KernelLIdeal.τ) (Cert.KernelLIdeal.main (F := Ideal))) ⟨m, fun _ => 0, g⟩ (fun r => ∀ c : Dev Cert.KernelLIdeal.nD,
          r.2.mem ((c.tc : Thread Cert.KernelLIdeal.nD Cert.KernelLIdeal.τ).loc Cert.KernelLIdeal.main_v11_0) = v0 c
          ∧ r.2.mem ((c.tc : Thread Cert.KernelLIdeal.nD Cert.KernelLIdeal.τ).loc Cert.KernelLIdeal.main_v12) = v1 c
          ∧ r.2.mem ((c.tc : Thread Cert.KernelLIdeal.nD Cert.KernelLIdeal.τ).loc Cert.KernelLIdeal.main_v13) = v2 c
          ∧ r.2.mem ((c.tc : Thread Cert.KernelLIdeal.nD Cert.KernelLIdeal.τ).loc Cert.KernelLIdeal.main_v15) = v3 c
          ∧ r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
          ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
          ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
          ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
          ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
          ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5))
      ∧ θ_run (Cert.ReferenceLIdeal.defs (F := Ideal)) (onTc (τ := Cert.ReferenceLIdeal.τ) (Cert.ReferenceLIdeal.main (F := Ideal))) ⟨m', fun _ => 0, g'⟩ (fun r => ∀ c : Dev Cert.ReferenceLIdeal.nD,
          r.2.mem ((c.tc : Thread Cert.ReferenceLIdeal.nD Cert.ReferenceLIdeal.τ).loc Cert.ReferenceLIdeal.main_v68) = v0 c
          ∧ r.2.mem ((c.tc : Thread Cert.ReferenceLIdeal.nD Cert.ReferenceLIdeal.τ).loc Cert.ReferenceLIdeal.main_v52) = v1 c
          ∧ r.2.mem ((c.tc : Thread Cert.ReferenceLIdeal.nD Cert.ReferenceLIdeal.τ).loc Cert.ReferenceLIdeal.main_v46) = v2 c
          ∧ r.2.mem ((c.tc : Thread Cert.ReferenceLIdeal.nD Cert.ReferenceLIdeal.τ).loc Cert.ReferenceLIdeal.main_v37) = v3 c
          ∧ r.2.mem ((c.tc : Thread Cert.ReferenceLIdeal.nD Cert.ReferenceLIdeal.τ).loc Cert.ReferenceLIdeal.main_arg0) = m' ((c.tc : Thread Cert.ReferenceLIdeal.nD Cert.ReferenceLIdeal.τ).loc Cert.ReferenceLIdeal.main_arg0)
          ∧ r.2.mem ((c.tc : Thread Cert.ReferenceLIdeal.nD Cert.ReferenceLIdeal.τ).loc Cert.ReferenceLIdeal.main_arg1) = m' ((c.tc : Thread Cert.ReferenceLIdeal.nD Cert.ReferenceLIdeal.τ).loc Cert.ReferenceLIdeal.main_arg1)
          ∧ r.2.mem ((c.tc : Thread Cert.ReferenceLIdeal.nD Cert.ReferenceLIdeal.τ).loc Cert.ReferenceLIdeal.main_arg2) = m' ((c.tc : Thread Cert.ReferenceLIdeal.nD Cert.ReferenceLIdeal.τ).loc Cert.ReferenceLIdeal.main_arg2)
          ∧ r.2.mem ((c.tc : Thread Cert.ReferenceLIdeal.nD Cert.ReferenceLIdeal.τ).loc Cert.ReferenceLIdeal.main_arg3) = m' ((c.tc : Thread Cert.ReferenceLIdeal.nD Cert.ReferenceLIdeal.τ).loc Cert.ReferenceLIdeal.main_arg3)
          ∧ r.2.mem ((c.tc : Thread Cert.ReferenceLIdeal.nD Cert.ReferenceLIdeal.τ).loc Cert.ReferenceLIdeal.main_arg4) = m' ((c.tc : Thread Cert.ReferenceLIdeal.nD Cert.ReferenceLIdeal.τ).loc Cert.ReferenceLIdeal.main_arg4)
          ∧ r.2.mem ((c.tc : Thread Cert.ReferenceLIdeal.nD Cert.ReferenceLIdeal.τ).loc Cert.ReferenceLIdeal.main_arg5) = m' ((c.tc : Thread Cert.ReferenceLIdeal.nD Cert.ReferenceLIdeal.τ).loc Cert.ReferenceLIdeal.main_arg5))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)
      ∧ m' ((c.tc : Thread Cert.ReferenceMIdeal.nD Cert.ReferenceMIdeal.τ).loc Cert.ReferenceMIdeal.main_arg5) = m ((c.tc : Thread Cert.KernelMIdeal.nD Cert.KernelMIdeal.τ).loc Cert.KernelMIdeal.main_arg5)
      ∧ m' ((c.tc : Thread Cert.ReferenceMIdeal.nD Cert.ReferenceMIdeal.τ).loc Cert.ReferenceMIdeal.main_arg6) = m ((c.tc : Thread Cert.KernelMIdeal.nD Cert.KernelMIdeal.τ).loc Cert.KernelMIdeal.main_arg6)
      ∧ m' ((c.tc : Thread Cert.ReferenceMIdeal.nD Cert.ReferenceMIdeal.τ).loc Cert.ReferenceMIdeal.main_arg7) = m ((c.tc : Thread Cert.KernelMIdeal.nD Cert.KernelMIdeal.τ).loc Cert.KernelMIdeal.main_arg7)
      ∧ m' ((c.tc : Thread Cert.ReferenceMIdeal.nD Cert.ReferenceMIdeal.τ).loc Cert.ReferenceMIdeal.main_arg8) = m ((c.tc : Thread Cert.KernelMIdeal.nD Cert.KernelMIdeal.τ).loc Cert.KernelMIdeal.main_arg8)
      ∧ m' ((c.tc : Thread Cert.ReferenceMIdeal.nD Cert.ReferenceMIdeal.τ).loc Cert.ReferenceMIdeal.main_arg9) = m ((c.tc : Thread Cert.KernelMIdeal.nD Cert.KernelMIdeal.τ).loc Cert.KernelMIdeal.main_arg9)
      ∧ m' ((c.tc : Thread Cert.ReferenceMIdeal.nD Cert.ReferenceMIdeal.τ).loc Cert.ReferenceMIdeal.main_arg10) = m ((c.tc : Thread Cert.KernelMIdeal.nD Cert.KernelMIdeal.τ).loc Cert.KernelMIdeal.main_arg10)) →
    ∃ (v0 : (c : Dev Cert.KernelMIdeal.nD) → Buf (Elt Ideal) ((c.tc : Thread Cert.KernelMIdeal.nD Cert.KernelMIdeal.τ).loc Cert.KernelMIdeal.main_v14_0)) (v1 : (c : Dev Cert.KernelMIdeal.nD) → Buf (Elt Ideal) ((c.tc : Thread Cert.KernelMIdeal.nD Cert.KernelMIdeal.τ).loc Cert.KernelMIdeal.main_v14_1)) (v2 : (c : Dev Cert.KernelMIdeal.nD) → Buf (Elt Ideal) ((c.tc : Thread Cert.KernelMIdeal.nD Cert.KernelMIdeal.τ).loc Cert.KernelMIdeal.main_v15)) (v3 : (c : Dev Cert.KernelMIdeal.nD) → Buf (Elt Ideal) ((c.tc : Thread Cert.KernelMIdeal.nD Cert.KernelMIdeal.τ).loc Cert.KernelMIdeal.main_v14_3)) (v4 : (c : Dev Cert.KernelMIdeal.nD) → Buf (Elt Ideal) ((c.tc : Thread Cert.KernelMIdeal.nD Cert.KernelMIdeal.τ).loc Cert.KernelMIdeal.main_v14_4)) (v5 : (c : Dev Cert.KernelMIdeal.nD) → Buf (Elt Ideal) ((c.tc : Thread Cert.KernelMIdeal.nD Cert.KernelMIdeal.τ).loc Cert.KernelMIdeal.main_v14_5)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v14_0) = v0 c
          ∧ r.2.mem ((c.tc : Thread Cert.KernelMIdeal.nD Cert.KernelMIdeal.τ).loc Cert.KernelMIdeal.main_v14_1) = v1 c
          ∧ r.2.mem ((c.tc : Thread Cert.KernelMIdeal.nD Cert.KernelMIdeal.τ).loc Cert.KernelMIdeal.main_v15) = v2 c
          ∧ r.2.mem ((c.tc : Thread Cert.KernelMIdeal.nD Cert.KernelMIdeal.τ).loc Cert.KernelMIdeal.main_v14_3) = v3 c
          ∧ r.2.mem ((c.tc : Thread Cert.KernelMIdeal.nD Cert.KernelMIdeal.τ).loc Cert.KernelMIdeal.main_v14_4) = v4 c
          ∧ r.2.mem ((c.tc : Thread Cert.KernelMIdeal.nD Cert.KernelMIdeal.τ).loc Cert.KernelMIdeal.main_v14_5) = v5 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
          ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
          ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6)
          ∧ r.2.mem ((c.tc : Thread Cert.KernelMIdeal.nD Cert.KernelMIdeal.τ).loc Cert.KernelMIdeal.main_arg7) = m ((c.tc : Thread Cert.KernelMIdeal.nD Cert.KernelMIdeal.τ).loc Cert.KernelMIdeal.main_arg7)
          ∧ r.2.mem ((c.tc : Thread Cert.KernelMIdeal.nD Cert.KernelMIdeal.τ).loc Cert.KernelMIdeal.main_arg8) = m ((c.tc : Thread Cert.KernelMIdeal.nD Cert.KernelMIdeal.τ).loc Cert.KernelMIdeal.main_arg8)
          ∧ r.2.mem ((c.tc : Thread Cert.KernelMIdeal.nD Cert.KernelMIdeal.τ).loc Cert.KernelMIdeal.main_arg9) = m ((c.tc : Thread Cert.KernelMIdeal.nD Cert.KernelMIdeal.τ).loc Cert.KernelMIdeal.main_arg9)
          ∧ r.2.mem ((c.tc : Thread Cert.KernelMIdeal.nD Cert.KernelMIdeal.τ).loc Cert.KernelMIdeal.main_arg10) = m ((c.tc : Thread Cert.KernelMIdeal.nD Cert.KernelMIdeal.τ).loc Cert.KernelMIdeal.main_arg10))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v70) = v0 c
          ∧ r.2.mem ((c.tc : Thread Cert.ReferenceMIdeal.nD Cert.ReferenceMIdeal.τ).loc Cert.ReferenceMIdeal.main_v64) = v1 c
          ∧ r.2.mem ((c.tc : Thread Cert.ReferenceMIdeal.nD Cert.ReferenceMIdeal.τ).loc Cert.ReferenceMIdeal.main_v60) = v2 c
          ∧ r.2.mem ((c.tc : Thread Cert.ReferenceMIdeal.nD Cert.ReferenceMIdeal.τ).loc Cert.ReferenceMIdeal.main_v71) = v3 c
          ∧ r.2.mem ((c.tc : Thread Cert.ReferenceMIdeal.nD Cert.ReferenceMIdeal.τ).loc Cert.ReferenceMIdeal.main_v72) = v4 c
          ∧ r.2.mem ((c.tc : Thread Cert.ReferenceMIdeal.nD Cert.ReferenceMIdeal.τ).loc Cert.ReferenceMIdeal.main_v73) = v5 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4)
          ∧ r.2.mem ((c.tc : Thread Cert.ReferenceMIdeal.nD Cert.ReferenceMIdeal.τ).loc Cert.ReferenceMIdeal.main_arg5) = m' ((c.tc : Thread Cert.ReferenceMIdeal.nD Cert.ReferenceMIdeal.τ).loc Cert.ReferenceMIdeal.main_arg5)
          ∧ r.2.mem ((c.tc : Thread Cert.ReferenceMIdeal.nD Cert.ReferenceMIdeal.τ).loc Cert.ReferenceMIdeal.main_arg6) = m' ((c.tc : Thread Cert.ReferenceMIdeal.nD Cert.ReferenceMIdeal.τ).loc Cert.ReferenceMIdeal.main_arg6)
          ∧ r.2.mem ((c.tc : Thread Cert.ReferenceMIdeal.nD Cert.ReferenceMIdeal.τ).loc Cert.ReferenceMIdeal.main_arg7) = m' ((c.tc : Thread Cert.ReferenceMIdeal.nD Cert.ReferenceMIdeal.τ).loc Cert.ReferenceMIdeal.main_arg7)
          ∧ r.2.mem ((c.tc : Thread Cert.ReferenceMIdeal.nD Cert.ReferenceMIdeal.τ).loc Cert.ReferenceMIdeal.main_arg8) = m' ((c.tc : Thread Cert.ReferenceMIdeal.nD Cert.ReferenceMIdeal.τ).loc Cert.ReferenceMIdeal.main_arg8)
          ∧ r.2.mem ((c.tc : Thread Cert.ReferenceMIdeal.nD Cert.ReferenceMIdeal.τ).loc Cert.ReferenceMIdeal.main_arg9) = m' ((c.tc : Thread Cert.ReferenceMIdeal.nD Cert.ReferenceMIdeal.τ).loc Cert.ReferenceMIdeal.main_arg9)
          ∧ r.2.mem ((c.tc : Thread Cert.ReferenceMIdeal.nD Cert.ReferenceMIdeal.τ).loc Cert.ReferenceMIdeal.main_arg10) = m' ((c.tc : Thread Cert.ReferenceMIdeal.nD Cert.ReferenceMIdeal.τ).loc Cert.ReferenceMIdeal.main_arg10))

def Claim : Prop :=
  ∃ (hKernel : Cert.Kernel.Facts) (hKernelIdeal : Cert.KernelIdeal.Facts) (hReferenceIdeal : Cert.ReferenceIdeal.Facts) (hKernelX : Cert.KernelX.Facts) (hKernelXIdeal : Cert.KernelXIdeal.Facts) (hReferenceXIdeal : Cert.ReferenceXIdeal.Facts) (hKernelF : Cert.KernelF.Facts) (hKernelFIdeal : Cert.KernelFIdeal.Facts) (hReferenceFIdeal : Cert.ReferenceFIdeal.Facts) (hKernelP : Cert.KernelP.Facts) (hKernelPIdeal : Cert.KernelPIdeal.Facts) (hReferencePIdeal : Cert.ReferencePIdeal.Facts) (hKernelU : Cert.KernelU.Facts) (hKernelUIdeal : Cert.KernelUIdeal.Facts) (hReferenceUIdeal : Cert.ReferenceUIdeal.Facts) (hKernelG : Cert.KernelG.Facts) (hKernelGIdeal : Cert.KernelGIdeal.Facts) (hReferenceGIdeal : Cert.ReferenceGIdeal.Facts) (hKernelL : Cert.KernelL.Facts) (hKernelLIdeal : Cert.KernelLIdeal.Facts) (hReferenceLIdeal : Cert.ReferenceLIdeal.Facts) (hKernelM : Cert.KernelM.Facts) (hKernelMIdeal : Cert.KernelMIdeal.Facts) (hReferenceMIdeal : Cert.ReferenceMIdeal.Facts) (hPre_finite : Cert.Pre_finite.Facts) (hPre_finite_f : Cert.Pre_finite_f.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelF (hKernelF := hKernelF)
    ∧ quiescent_KernelFIdeal (hKernelFIdeal := hKernelFIdeal)
    ∧ quiescent_KernelFIdeal_pre_finite_f (hKernelFIdeal := hKernelFIdeal) (hPre_finite_f := hPre_finite_f)
    ∧ quiescent_ReferenceFIdeal (hReferenceFIdeal := hReferenceFIdeal)
    ∧ quiescent_ReferenceFIdeal_pre_finite_f (hReferenceFIdeal := hReferenceFIdeal) (hPre_finite_f := hPre_finite_f)
    ∧ quiescent_KernelP (hKernelP := hKernelP)
    ∧ quiescent_KernelPIdeal (hKernelPIdeal := hKernelPIdeal)
    ∧ quiescent_ReferencePIdeal (hReferencePIdeal := hReferencePIdeal)
    ∧ quiescent_KernelU (hKernelU := hKernelU)
    ∧ quiescent_KernelUIdeal (hKernelUIdeal := hKernelUIdeal)
    ∧ quiescent_ReferenceUIdeal (hReferenceUIdeal := hReferenceUIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelL (hKernelL := hKernelL)
    ∧ quiescent_KernelLIdeal (hKernelLIdeal := hKernelLIdeal)
    ∧ quiescent_ReferenceLIdeal (hReferenceLIdeal := hReferenceLIdeal)
    ∧ quiescent_KernelM (hKernelM := hKernelM)
    ∧ quiescent_KernelMIdeal (hKernelMIdeal := hKernelMIdeal)
    ∧ quiescent_ReferenceMIdeal (hReferenceMIdeal := hReferenceMIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelX_KernelXIdeal
    ∧ algebraic_KernelXIdeal_ReferenceXIdeal (hKernelXIdeal := hKernelXIdeal) (hReferenceXIdeal := hReferenceXIdeal)
    ∧ preserves_KernelF_KernelFIdeal
    ∧ algebraic_KernelFIdeal_ReferenceFIdeal_pre_finite_f (hKernelFIdeal := hKernelFIdeal) (hReferenceFIdeal := hReferenceFIdeal) (hPre_finite_f := hPre_finite_f)
    ∧ preserves_KernelP_KernelPIdeal
    ∧ algebraic_KernelPIdeal_ReferencePIdeal (hKernelPIdeal := hKernelPIdeal) (hReferencePIdeal := hReferencePIdeal)
    ∧ preserves_KernelU_KernelUIdeal
    ∧ algebraic_KernelUIdeal_ReferenceUIdeal (hKernelUIdeal := hKernelUIdeal) (hReferenceUIdeal := hReferenceUIdeal)
    ∧ preserves_KernelG_KernelGIdeal
    ∧ algebraic_KernelGIdeal_ReferenceGIdeal (hKernelGIdeal := hKernelGIdeal) (hReferenceGIdeal := hReferenceGIdeal)
    ∧ preserves_KernelL_KernelLIdeal
    ∧ algebraic_KernelLIdeal_ReferenceLIdeal (hKernelLIdeal := hKernelLIdeal) (hReferenceLIdeal := hReferenceLIdeal)
    ∧ preserves_KernelM_KernelMIdeal
    ∧ algebraic_KernelMIdeal_ReferenceMIdeal (hKernelMIdeal := hKernelMIdeal) (hReferenceMIdeal := hReferenceMIdeal)
-- ==== Pre_finite.lean ====
abbrev S2048x512 : Shape := ⟨2, ![2048, 512]⟩
abbrev S2048x7168 : Shape := ⟨2, ![2048, 7168]⟩
abbrev S32x64 : Shape := ⟨2, ![32, 64]⟩
abbrev S32x16x64 : Shape := ⟨3, ![32, 16, 64]⟩
abbrev S1x512 : Shape := ⟨2, ![1, 512]⟩
abbrev S_ : Shape := ⟨0, ![]⟩

class Facts : Prop where
  slices_S2048x7168_S2048x512_0_4608 : S2048x7168.Slices ![0, 4608] S2048x512
  bcast_S_S2048x512 : S_.BroadcastsInDim S2048x512 (![] : Fin 0 → Fin S2048x512.rank)
  reducesTo_S2048x512_S_d0_1 : S2048x512.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32x16x64 : S_.BroadcastsInDim S32x16x64 (![] : Fin 0 → Fin S32x16x64.rank)
  reducesTo_S32x16x64_S_d0_1_2 : S32x16x64.ReducesTo [0, 1, 2] S_

variable [Facts]

def fn_part2 {F : FTy → Type} [FloatOps F] (main_v4 : IVec S_ 1) (main_v8 : IVec S_ 1) (main_v12 : IVec S_ 1) (main_v16 : IVec S_ 1) (main_v20 : IVec S_ 1) (main_v24 : IVec S_ 1) (main_v28 : IVec S_ 1) (main_v31 : IVec S32x16x64 1) (main_c_13 : IVec S_ 1) : IVec S_ 1 :=
  let main_v32 : IVec S_ 1 := (fun x v => Host.reduce IntOp.andi x v reducesTo_S32x16x64_S_d0_1_2 h_S_) main_v31 main_c_13
  let main_v33 : IVec S_ 1 := andi main_v4 main_v8
  let main_v34 : IVec S_ 1 := andi main_v33 main_v12
  let main_v35 : IVec S_ 1 := andi main_v34 main_v16
  let main_v36 : IVec S_ 1 := andi main_v35 main_v20
  let main_v37 : IVec S_ 1 := andi main_v36 main_v24
  let main_v38 : IVec S_ 1 := andi main_v37 main_v28
  let main_v39 : IVec S_ 1 := andi main_v38 main_v32
  main_v39

def fn_part1 {F : FTy → Type} [FloatOps F] (main_arg4 : FVec F S32x16x64 .f32) (main_arg5 : FVec F S32x16x64 .f32) (main_arg6 : FVec F S32x16x64 .f32) (main_arg7 : FVec F S32x16x64 .f32) (main_v4 : IVec S_ 1) (main_v8 : IVec S_ 1) (main_v12 : IVec S_ 1) (main_v15 : IVec S32x64 1) (main_c_5 : IVec S_ 1) : IVec S_ 1 :=
  let main_v16 : IVec S_ 1 := (fun x v => Host.reduce IntOp.andi x v reducesTo_S32x64_S_d0_1 h_S_) main_v15 main_c_5
  let main_v17 : FVec F S32x16x64 .f32 := Host.absf main_arg4
  let main_cst_6 : FVec F S_ .f32 := constant S_ .f32 0x7F800000#32
  let main_v18 : FVec F S32x16x64 .f32 := broadcastInDim S32x16x64 ![] bcast_S_S32x16x64 main_cst_6
  let main_v19 : IVec S32x16x64 1 := cmpf .olt main_v17 main_v18
  let main_c_7 : IVec S_ 1 := constantI S_ 1 1#1
  let main_v20 : IVec S_ 1 := (fun x v => Host.reduce IntOp.andi x v reducesTo_S32x16x64_S_d0_1_2 h_S_) main_v19 main_c_7
  let main_v21 : FVec F S32x16x64 .f32 := Host.absf main_arg5
  let main_cst_8 : FVec F S_ .f32 := constant S_ .f32 0x7F800000#32
  let main_v22 : FVec F S32x16x64 .f32 := broadcastInDim S32x16x64 ![] bcast_S_S32x16x64 main_cst_8
  let main_v23 : IVec S32x16x64 1 := cmpf .olt main_v21 main_v22
  let main_c_9 : IVec S_ 1 := constantI S_ 1 1#1
  let main_v24 : IVec S_ 1 := (fun x v => Host.reduce IntOp.andi x v reducesTo_S32x16x64_S_d0_1_2 h_S_) main_v23 main_c_9
  let main_v25 : FVec F S32x16x64 .f32 := Host.absf main_arg6
  let main_cst_10 : FVec F S_ .f32 := constant S_ .f32 0x7F800000#32
  let main_v26 : FVec F S32x16x64 .f32 := broadcastInDim S32x16x64 ![] bcast_S_S32x16x64 main_cst_10
  let main_v27 : IVec S32x16x64 1 := cmpf .olt main_v25 main_v26
  let main_c_11 : IVec S_ 1 := constantI S_ 1 1#1
  let main_v28 : IVec S_ 1 := (fun x v => Host.reduce IntOp.andi x v reducesTo_S32x16x64_S_d0_1_2 h_S_) main_v27 main_c_11
  let main_v29 : FVec F S32x16x64 .f32 := Host.absf main_arg7
  let main_cst_12 : FVec F S_ .f32 := constant S_ .f32 0x7F800000#32
  let main_v30 : FVec F S32x16x64 .f32 := broadcastInDim S32x16x64 ![] bcast_S_S32x16x64 main_cst_12
  let main_v31 : IVec S32x16x64 1 := cmpf .olt main_v29 main_v30
  let main_c_13 : IVec S_ 1 := constantI S_ 1 1#1
  fn_part2 (F := F) main_v4 main_v8 main_v12 main_v16 main_v20 main_v24 main_v28 main_v31 main_c_13

def fn {F : FTy → Type} [FloatOps F] (main_arg0 : FVec F S2048x512 .f32) (main_arg1 : FVec F S2048x7168 .f32) (main_arg2 : FVec F S32x64 .f32) (main_arg3 : FVec F S32x64 .f32) (main_arg4 : FVec F S32x16x64 .f32) (main_arg5 : FVec F S32x16x64 .f32) (main_arg6 : FVec F S32x16x64 .f32) (main_arg7 : FVec F S32x16x64 .f32) (main_arg8 : FVec F S1x512 .f32) (main_arg9 : FVec F S2048x7168 .bf16) : IVec S_ 1 :=
  let main_v0 : FVec F S2048x512 .f32 := (extractStridedSlice S2048x512 ![0, 4608] · slices_S2048x7168_S2048x512_0_4608) main_arg1
  let main_v1 : FVec F S2048x512 .f32 := Host.absf main_arg0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S2048x512 .f32 := Host.absf main_v0
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : FVec F S32x64 .f32 := Host.absf main_arg3
  let main_cst_4 : FVec F S_ .f32 := constant S_ .f32 0x7F800000#32
  let main_v14 : FVec F S32x64 .f32 := broadcastInDim S32x64 ![] bcast_S_S32x64 main_cst_4
  let main_v15 : IVec S32x64 1 := cmpf .olt main_v13 main_v14
  let main_c_5 : IVec S_ 1 := constantI S_ 1 1#1
  fn_part1 (F := F) main_arg4 main_arg5 main_arg6 main_arg7 main_v4 main_v8 main_v12 main_v15 main_c_5
-- ==== Pre_finite_f.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S2816x1024 .f32 := Host.absf main_arg3
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S2048x1024 .f32 := Host.absf main_arg4
  let main_cst_4 : FVec F S_ .f32 := constant S_ .f32 0x7F800000#32
  let main_v13 : FVec F S2048x1024 .f32 := broadcastInDim S2048x1024 ![] bcast_S_S2048x1024 main_cst_4
  let main_v14 : IVec S2048x1024 1 := cmpf .olt main_v12 main_v13
  let main_c_5 : IVec S_ 1 := constantI S_ 1 1#1
  let main_v15 : IVec S_ 1 := (fun x v => Host.reduce IntOp.andi x v reducesTo_S2048x1024_S_d0_1 h_S_) main_v14 main_c_5
  fn_part1 (F := F) main_v3 main_v7 main_v11 main_v15
-- ==== Kernel.lean ====
abbrev S2048x512 : Shape := ⟨2, ![2048, 512]⟩
abbrev S2048x7168 : Shape := ⟨2, ![2048, 7168]⟩
abbrev S32x64 : Shape := ⟨2, ![32, 64]⟩
abbrev S32x16x64 : Shape := ⟨3, ![32, 16, 64]⟩
abbrev S1x512 : Shape := ⟨2, ![1, 512]⟩
abbrev S_ : Shape := ⟨0, ![]⟩
abbrev S1x32x16x64 : Shape := ⟨4, ![1, 32, 16, 64]⟩
abbrev S2x32x16x64 : Shape := ⟨4, ![2, 32, 16, 64]⟩
abbrev S2x4x8x16x64 : Shape := ⟨5, ![2, 4, 8, 16, 64]⟩
abbrev S8x8 : Shape := ⟨2, ![8, 8]⟩
abbrev S4x8x16x2x64 : Shape := ⟨5, ![4, 8, 16, 2, 64]⟩
abbrev S4x8x16x2x1x64 : Shape := ⟨6, ![4, 8, 16, 2, 1, 64]⟩
abbrev S1x8x1x1x8x1 : Shape := ⟨6, ![1, 8, 1, 1, 8, 1]⟩
abbrev S4x8x16x2x8x64 : Shape := ⟨6, ![4, 8, 16, 2, 8, 64]⟩
abbrev S4x128x1024 : Shape := ⟨3, ![4, 128, 1024]⟩
abbrev S4x2x64x8x16 : Shape := ⟨5, ![4, 2, 64, 8, 16]⟩
abbrev S4x2x1x64x8x16 : Shape := ⟨6, ![4, 2, 1, 64, 8, 16]⟩
abbrev S1x1x8x1x8x1 : Shape := ⟨6, ![1, 1, 8, 1, 8, 1]⟩
abbrev S4x2x8x64x8x16 : Shape := ⟨6, ![4, 2, 8, 64, 8, 16]⟩
abbrev S4x1024x128 : Shape := ⟨3, ![4, 1024, 128]⟩
abbrev S4x1x512 : Shape := ⟨3, ![4, 1, 512]⟩
abbrev S4x1x1024 : Shape := ⟨3, ![4, 1, 1024]⟩
abbrev S2048x4096 : Shape := ⟨2, ![2048, 4096]⟩
abbrev S2048x128 : Shape := ⟨2, ![2048, 128]⟩
abbrev S1x128x1024 : Shape := ⟨3, ![1, 128, 1024]⟩
abbrev S1x1024x128 : Shape := ⟨3, ![1, 1024, 128]⟩
abbrev S1x1x1024 : Shape := ⟨3, ![1, 1, 1024]⟩
abbrev S1x128 : Shape := ⟨2, ![1, 128]⟩
abbrev S2048x1024 : Shape := ⟨2, ![2048, 1024]⟩
abbrev S256x128 : Shape := ⟨2, ![256, 128]⟩
abbrev S128x1024 : Shape := ⟨2, ![128, 1024]⟩
abbrev S256x1024 : Shape := ⟨2, ![256, 1024]⟩
abbrev S1x1x512 : Shape := ⟨3, ![1, 1, 512]⟩
abbrev S8x512 : Shape := ⟨2, ![8, 512]⟩
abbrev S1024x128 : Shape := ⟨2, ![1024, 128]⟩
abbrev S4x128x64 : Shape := ⟨3, ![4, 128, 64]⟩
abbrev S1x128x64 : Shape := ⟨3, ![1, 128, 64]⟩
abbrev S128 : Shape := ⟨1, ![128]⟩
abbrev S16x64 : Shape := ⟨2, ![16, 64]⟩
abbrev S128x64 : Shape := ⟨2, ![128, 64]⟩
abbrev S512 : Shape := ⟨1, ![512]⟩

abbrev nBuf : Space → Nat
  | .hbm => 75
  | .vmem => 45
  | .smem => 0
  | _ => 0

abbrev bufTy : (tb : Table) → Fin (tcTables nBuf tb) → BufTy
  | .hbm, ⟨0, _⟩ => ⟨S2048x512, .f32⟩
  | .hbm, ⟨1, _⟩ => ⟨S2048x7168, .f32⟩
  | .hbm, ⟨2, _⟩ => ⟨S32x64, .f32⟩
  | .hbm, ⟨3, _⟩ => ⟨S32x64, .f32⟩
  | .hbm, ⟨4, _⟩ => ⟨S32x16x64, .f32⟩
  | .hbm, ⟨5, _⟩ => ⟨S32x16x64, .f32⟩
  | .hbm, ⟨6, _⟩ => ⟨S32x16x64, .f32⟩
  | .hbm, ⟨7, _⟩ => ⟨S32x16x64, .f32⟩
  | .hbm, ⟨8, _⟩ => ⟨S1x512, .f32⟩
  | .hbm, ⟨9, _⟩ => ⟨S2048x7168, .bf16⟩
  | .hbm, ⟨10, _⟩ => ⟨S_, .f32⟩
  | .hbm, ⟨11, _⟩ => ⟨S32x16x64, .f32⟩
  | .hbm, ⟨12, _⟩ => ⟨S32x16x64, .f32⟩
  | .hbm, ⟨13, _⟩ => ⟨S1x32x16x64, .f32⟩
  | .hbm, ⟨14, _⟩ => ⟨S1x32x16x64, .f32⟩
  | .hbm, ⟨15, _⟩ => ⟨S2x32x16x64, .f32⟩
  | .hbm, ⟨16, _⟩ => ⟨S2x4x8x16x64, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S4x8x16x2x64, .f32⟩
  | .hbm, ⟨25, _⟩ => ⟨S4x8x16x2x1x64, .f32⟩
  | .hbm, ⟨26, _⟩ => ⟨S1x8x1x1x8x1, .f32⟩
  | .hbm, ⟨27, _⟩ => ⟨S4x8x16x2x8x64, .f32⟩
  | .hbm, ⟨28, _⟩ => ⟨S4x8x16x2x8x64, .f32⟩
  | .hbm, ⟨29, _⟩ => ⟨S4x8x16x2x8x64, .f32⟩
  | .hbm, ⟨30, _⟩ => ⟨S4x128x1024, .f32⟩
  | .hbm, ⟨31, _⟩ => ⟨S4x128x1024, .bf16⟩
  | .hbm, ⟨32, _⟩ => ⟨S_, .f32⟩
  | .hbm, ⟨33, _⟩ => ⟨S32x16x64, .f32⟩
  | .hbm, ⟨34, _⟩ => ⟨S32x16x64, .f32⟩
  | .hbm, ⟨35, _⟩ => ⟨S1x32x16x64, .f32⟩
  | .hbm, ⟨36, _⟩ => ⟨S1x32x16x64, .f32⟩
  | .hbm, ⟨37, _⟩ => ⟨S2x32x16x64, .f32⟩
  | .hbm, ⟨38, _⟩ => ⟨S2x4x8x16x64, .f32⟩
  | .hbm, ⟨39, _⟩ => ⟨S8x8, .i32⟩
  | .hbm, ⟨40, _⟩ => ⟨S8x8, .i32⟩
  | .hbm, ⟨41, _⟩ => ⟨S_, .i32⟩
  | .hbm, ⟨42, _⟩ => ⟨S8x8, .i32⟩
  | .hbm, ⟨43, _⟩ => ⟨S8x8, .i32⟩
  | .hbm, ⟨44, _⟩ => ⟨S8x8, .i1⟩
  | .hbm, ⟨45, _⟩ => ⟨S8x8, .f32⟩
  | .hbm, ⟨46, _⟩ => ⟨S4x2x64x8x16, .f32⟩
  | .hbm, ⟨47, _⟩ => ⟨S4x2x1x64x8x16, .f32⟩
  | .hbm, ⟨48, _⟩ => ⟨S1x1x8x1x8x1, .f32⟩
  | .hbm, ⟨49, _⟩ => ⟨S4x2x8x64x8x16, .f32⟩
  | .hbm, ⟨50, _⟩ => ⟨S4x2x8x64x8x16, .f32⟩
  | .hbm, ⟨51, _⟩ => ⟨S4x2x8x64x8x16, .f32⟩
  | .hbm, ⟨52, _⟩ => ⟨S4x1024x128, .f32⟩
  | .hbm, ⟨53, _⟩ => ⟨S4x1024x128, .bf16⟩
  | .hbm, ⟨54, _⟩ => ⟨S4x1x512, .f32⟩
  | .hbm, ⟨55, _⟩ => ⟨S4x1x512, .f32⟩
  | .hbm, ⟨56, _⟩ => ⟨S4x1x1024, .f32⟩
  | .hbm, ⟨57, _⟩ => ⟨S2048x512, .f32⟩
  | .hbm, ⟨58, _⟩ => ⟨S2048x4096, .bf16⟩
  | .hbm, ⟨59, _⟩ => ⟨S2048x7168, .bf16⟩
  | .hbm, ⟨60, _⟩ => ⟨S4x128x64, .f32⟩
  | .hbm, ⟨61, _⟩ => ⟨S4x128x64, .f32⟩
  | .hbm, ⟨62, _⟩ => ⟨S4x128x64, .f32⟩
  | .hbm, ⟨63, _⟩ => ⟨S4x128x64, .f32⟩
  | .hbm, ⟨64, _⟩ => ⟨S4x1x1024, .f32⟩
  | .hbm, ⟨65, _⟩ => ⟨S1x512, .f32⟩
  | .hbm, ⟨66, _⟩ => ⟨S32x16x64, .f32⟩
  | .hbm, ⟨67, _⟩ => ⟨S32x16x64, .f32⟩
  | .hbm, ⟨68, _⟩ => ⟨S32x16x64, .f32⟩
  | .hbm, ⟨69, _⟩ => ⟨S32x16x64, .f32⟩
  | .hbm, ⟨70, _⟩ => ⟨S4x1x512, .f32⟩
  | .hbm, ⟨71, _⟩ => ⟨S32x64, .f32⟩
  | .hbm, ⟨72, _⟩ => ⟨S4x1x512, .f32⟩
  | .hbm, ⟨73, _⟩ => ⟨S32x64, .f32⟩
  | .hbm, ⟨74, _⟩ => ⟨S32x16x64, .f32⟩
  | .local _ .vmem, ⟨0, _⟩ => ⟨S2048x128, .f32⟩
  | .local _ .vmem, ⟨1, _⟩ => ⟨S2048x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1x1024, .f32⟩
  | .local _ .vmem, ⟨7, _⟩ => ⟨S1x1x1024, .f32⟩
  | .local _ .vmem, ⟨8, _⟩ => ⟨S1x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x1024, .bf16⟩
  | .local _ .vmem, ⟨20, _⟩ => ⟨S2048x1024, .bf16⟩
  | .local _ .vmem, ⟨21, _⟩ => ⟨S1x128x1024, .bf16⟩
  | .local _ .vmem, ⟨22, _⟩ => ⟨S1x128x1024, .bf16⟩
  | .local _ .vmem, ⟨23, _⟩ => ⟨S1x1024x128, .bf16⟩
  | .local _ .vmem, ⟨24, _⟩ => ⟨S1x1024x128, .bf16⟩
  | .local _ .vmem, ⟨25, _⟩ => ⟨S1x1x1024, .f32⟩
  | .local _ .vmem, ⟨26, _⟩ => ⟨S1x1x1024, .f32⟩
  | .local _ .vmem, ⟨27, _⟩ => ⟨S1x128, .f32⟩
  | .local _ .vmem, ⟨28, _⟩ => ⟨S1x128, .f32⟩
  | .local _ .vmem, ⟨29, _⟩ => ⟨S2048x128, .bf16⟩
  | .local _ .vmem, ⟨30, _⟩ => ⟨S2048x128, .bf16⟩
  | .local _ .vmem, ⟨31, _⟩ => ⟨S1x128x64, .f32⟩
  | .local _ .vmem, ⟨32, _⟩ => ⟨S1x128x64, .f32⟩
  | .local _ .vmem, ⟨33, _⟩ => ⟨S1x128x64, .f32⟩
  | .local _ .vmem, ⟨34, _⟩ => ⟨S1x128x64, .f32⟩
  | .local _ .vmem, ⟨35, _⟩ => ⟨S1x128x64, .f32⟩
  | .local _ .vmem, ⟨36, _⟩ => ⟨S1x128x64, .f32⟩
  | .local _ .vmem, ⟨37, _⟩ => ⟨S1x128x64, .f32⟩
  | .local _ .vmem, ⟨38, _⟩ => ⟨S1x128x64, .f32⟩
  | .local _ .vmem, ⟨39, _⟩ => ⟨S1x1x1024, .f32⟩
  | .local _ .vmem, ⟨40, _⟩ => ⟨S1x1x1024, .f32⟩
  | .local _ .vmem, ⟨41, _⟩ => ⟨S1x128, .f32⟩
  | .local _ .vmem, ⟨42, _⟩ => ⟨S1x128, .f32⟩
  | .local _ .vmem, ⟨43, _⟩ => ⟨S2048x1024, .f32⟩
  | .local _ .vmem, ⟨44, _⟩ => ⟨S2048x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v44_3 : Ref sig .tc := ⟨.hbm, 62, rfl⟩
abbrev main_v44_4 : Ref sig .tc := ⟨.hbm, 63, rfl⟩
abbrev main_v44_5 : Ref sig .tc := ⟨.hbm, 64, rfl⟩
abbrev main_v44_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg10_1 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc1_stg13_0 : Ref sig .tc := ⟨.vmem, 41, rfl⟩
abbrev cc1_stg13_1 : Ref sig .tc := ⟨.vmem, 42, rfl⟩
abbrev cc1_scratch0 : Ref sig .tc := ⟨.vmem, 43, rfl⟩
abbrev cc1_scratch1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_63 : BitVec 32 := 0#32
  let c256_i32 : BitVec 32 := 256#32
  let v103 : BitVec 32 := Scalar.addi c0_i32_63 c256_i32
  let c1_i32_64 : BitVec 32 := 1#32
  ⟨c0_i32_63, v103, c1_i32_64⟩
def k0_mult1 (k0_t1 : Fin k0_t1_loop.trips) : BitVec 32 :=
  let c0_i32_63 : BitVec 32 := 0#32
  let c1_i32_64 : BitVec 32 := 1#32
  let arg9 : BitVec 32 := Scf.iv c0_i32_63 c1_i32_64 k0_t1
  let c8_i32 : BitVec 32 := 8#32
  let v201 : BitVec 32 := Scalar.muli arg9 c8_i32
  v201
def k0_off1 (k0_t1 : Fin k0_t1_loop.trips) : Fin 2 → Nat :=
  let c0_i32_63 : BitVec 32 := 0#32
  let c1_i32_64 : BitVec 32 := 1#32
  let arg9 : BitVec 32 := Scf.iv c0_i32_63 c1_i32_64 k0_t1
  let c8_i32 : BitVec 32 := 8#32
  let v201 : BitVec 32 := Scalar.muli arg9 c8_i32
  let v202 : BitVec 32 := v201
  let v203 : Index := Scalar.indexCast v202
  let c0_178 : Index := 0#32
  ![v203.toNat, 0]
def k0_off2 (k0_t1 : Fin k0_t1_loop.trips) : Fin 2 → Nat :=
  let c0_i32_63 : BitVec 32 := 0#32
  let c1_i32_64 : BitVec 32 := 1#32
  let arg9 : BitVec 32 := Scf.iv c0_i32_63 c1_i32_64 k0_t1
  let c8_i32 : BitVec 32 := 8#32
  let v201 : BitVec 32 := Scalar.muli arg9 c8_i32
  let v202 : BitVec 32 := v201
  let v205 : Index := Scalar.indexCast v202
  let c512_179 : Index := 512#32
  ![v205.toNat, 512]
def cc0_transform_0 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

@[reducible] def k1_t1_loop : Scf.Loop 32 :=
  let c0_i32_155 : BitVec 32 := 0#32
  let c256_i32 : BitVec 32 := 256#32
  let v265 : BitVec 32 := Scalar.addi c0_i32_155 c256_i32
  let c1_i32_156 : BitVec 32 := 1#32
  ⟨c0_i32_155, v265, c1_i32_156⟩
def k1_mult1 (k1_t1 : Fin k1_t1_loop.trips) : BitVec 32 :=
  let c255_i32 : BitVec 32 := 255#32
  let c0_i32_155 : BitVec 32 := 0#32
  let c1_i32_156 : BitVec 32 := 1#32
  let arg18 : BitVec 32 := Scf.iv c0_i32_155 c1_i32_156 k1_t1
  let v430 : BitVec 32 := Scalar.subi c255_i32 arg18
  let c8_i32 : BitVec 32 := 8#32
  let v431 : BitVec 32 := Scalar.muli v430 c8_i32
  v431
def k1_mult2 (k1_t1 : Fin k1_t1_loop.trips) : BitVec 32 :=
  let c255_i32 : BitVec 32 := 255#32
  let c0_i32_155 : BitVec 32 := 0#32
  let c1_i32_156 : BitVec 32 := 1#32
  let arg18 : BitVec 32 := Scf.iv c0_i32_155 c1_i32_156 k1_t1
  let v430 : BitVec 32 := Scalar.subi c255_i32 arg18
  let c1_i32_293 : BitVec 32 := 1#32
  let v433 : BitVec 32 := Scalar.subi v430 c1_i32_293
  let c0_i32_294 : BitVec 32 := 0#32
  let v434 : BitVec 32 := Scalar.maxsi v433 c0_i32_294
  let c8_i32_295 : BitVec 32 := 8#32
  let v435 : BitVec 32 := Scalar.muli v434 c8_i32_295
  v435
def k1_off1 (k1_t1 : Fin k1_t1_loop.trips) : Fin 2 → Nat :=
  let c255_i32 : BitVec 32 := 255#32
  let c0_i32_155 : BitVec 32 := 0#32
  let c1_i32_156 : BitVec 32 := 1#32
  let arg18 : BitVec 32 := Scf.iv c0_i32_155 c1_i32_156 k1_t1
  let v430 : BitVec 32 := Scalar.subi c255_i32 arg18
  let c8_i32 : BitVec 32 := 8#32
  let v431 : BitVec 32 := Scalar.muli v430 c8_i32
  let v432 : BitVec 32 := v431
  let v437 : Index := Scalar.indexCast v432
  let c0_296 : Index := 0#32
  ![v437.toNat, 0]
def k1_off2 (k1_t1 : Fin k1_t1_loop.trips) : Fin 2 → Nat :=
  let c255_i32 : BitVec 32 := 255#32
  let c0_i32_155 : BitVec 32 := 0#32
  let c1_i32_156 : BitVec 32 := 1#32
  let arg18 : BitVec 32 := Scf.iv c0_i32_155 c1_i32_156 k1_t1
  let v430 : BitVec 32 := Scalar.subi c255_i32 arg18
  let c8_i32 : BitVec 32 := 8#32
  let v431 : BitVec 32 := Scalar.muli v430 c8_i32
  let v432 : BitVec 32 := v431
  let v439 : Index := Scalar.indexCast v432
  let c512_297 : Index := 512#32
  ![v439.toNat, 512]
def k1_off3 (k1_t1 : Fin k1_t1_loop.trips) : Fin 2 → Nat :=
  let c255_i32 : BitVec 32 := 255#32
  let c0_i32_155 : BitVec 32 := 0#32
  let c1_i32_156 : BitVec 32 := 1#32
  let arg18 : BitVec 32 := Scf.iv c0_i32_155 c1_i32_156 k1_t1
  let v430 : BitVec 32 := Scalar.subi c255_i32 arg18
  let c1_i32_293 : BitVec 32 := 1#32
  let v433 : BitVec 32 := Scalar.subi v430 c1_i32_293
  let c0_i32_294 : BitVec 32 := 0#32
  let v434 : BitVec 32 := Scalar.maxsi v433 c0_i32_294
  let c8_i32_295 : BitVec 32 := 8#32
  let v435 : BitVec 32 := Scalar.muli v434 c8_i32_295
  let v436 : BitVec 32 := v435
  let v491 : Index := Scalar.indexCast v436
  let c0_310 : Index := 0#32
  ![v491.toNat, 0]
def k1_off4 (k1_t1 : Fin k1_t1_loop.trips) : Fin 2 → Nat :=
  let c255_i32 : BitVec 32 := 255#32
  let c0_i32_155 : BitVec 32 := 0#32
  let c1_i32_156 : BitVec 32 := 1#32
  let arg18 : BitVec 32 := Scf.iv c0_i32_155 c1_i32_156 k1_t1
  let v430 : BitVec 32 := Scalar.subi c255_i32 arg18
  let c1_i32_293 : BitVec 32 := 1#32
  let v433 : BitVec 32 := Scalar.subi v430 c1_i32_293
  let c0_i32_294 : BitVec 32 := 0#32
  let v434 : BitVec 32 := Scalar.maxsi v433 c0_i32_294
  let c8_i32_295 : BitVec 32 := 8#32
  let v435 : BitVec 32 := Scalar.muli v434 c8_i32_295
  let v436 : BitVec 32 := v435
  let v500 : Index := Scalar.indexCast v436
  let c512_314 : Index := 512#32
  ![v500.toNat, 512]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x128x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x128x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x1x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S2048x512 : Shape := ⟨2, ![2048, 512]⟩
abbrev S2048x7168 : Shape := ⟨2, ![2048, 7168]⟩
abbrev S32x64 : Shape := ⟨2, ![32, 64]⟩
abbrev S32x16x64 : Shape := ⟨3, ![32, 16, 64]⟩
abbrev S1x512 : Shape := ⟨2, ![1, 512]⟩
abbrev S2048x32x16 : Shape := ⟨3, ![2048, 32, 16]⟩
abbrev S32x2048x64 : Shape := ⟨3, ![32, 2048, 64]⟩
abbrev S2048x32x64 : Shape := ⟨3, ![2048, 32, 64]⟩
abbrev S_ : Shape := ⟨0, ![]⟩
abbrev S1x32x64 : Shape := ⟨3, ![1, 32, 64]⟩
abbrev S32x2048x16 : Shape := ⟨3, ![32, 2048, 16]⟩
abbrev S32x16 : Shape := ⟨2, ![32, 16]⟩
abbrev S1x32x16 : Shape := ⟨3, ![1, 32, 16]⟩
abbrev S32x64x16 : Shape := ⟨3, ![32, 64, 16]⟩
abbrev S2048x4608 : Shape := ⟨2, ![2048, 4608]⟩
abbrev S2048x2048 : Shape := ⟨2, ![2048, 2048]⟩

abbrev nBuf : Space → Nat
  | .hbm => 200
  | .vmem => 0
  | .smem => 0
  | _ => 0

abbrev hbmTy0_0 (i : Nat) : BufTy := match i % 128 with
  | 0 => ⟨S2048x512, .f32⟩
  | 1 => ⟨S2048x7168, .f32⟩
  | 2 => ⟨S32x64, .f32⟩
  | 3 => ⟨S32x64, .f32⟩
  | 4 => ⟨S32x16x64, .f32⟩
  | 5 => ⟨S32x16x64, .f32⟩
  | 6 => ⟨S32x16x64, .f32⟩
  | 7 => ⟨S32x16x64, .f32⟩
  | 8 => ⟨S1x512, .f32⟩
  | 9 => ⟨S2048x7168, .bf16⟩
  | 10 => ⟨S2048x512, .f32⟩
  | 11 => ⟨S2048x32x16, .f32⟩
  | 12 => ⟨S32x2048x64, .f32⟩
  | 13 => ⟨S2048x32x64, .f32⟩
  | 14 => ⟨S32x2048x64, .f32⟩
  | 15 => ⟨S2048x32x64, .f32⟩
  | 16 => ⟨S_, .f32⟩
  | 17 => ⟨S32x64, .f32⟩
  | 18 => ⟨S_, .f32⟩
  | 19 => ⟨S2048x32x64, .f32⟩
  | 20 => ⟨S_, .f32⟩
  | 21 => ⟨S2048x32x64, .f32⟩
  | 22 => ⟨S_, .f32⟩
  | 23 => ⟨S2048x32x64, .f32⟩
  | 24 => ⟨S_, .f32⟩
  | 25 => ⟨S2048x32x64, .f32⟩
  | 26 => ⟨S_, .i32⟩
  | 27 => ⟨S2048x32x64, .f32⟩
  | 28 => ⟨S2048x32x64, .f32⟩
  | 29 => ⟨S32x64, .f32⟩
  | 30 => ⟨S32x64, .f32⟩
  | 31 => ⟨S_, .i32⟩
  | 32 => ⟨S32x64, .f32⟩
  | 33 => ⟨S32x64, .f32⟩
  | 34 => ⟨S2048x32x64, .f32⟩
  | 35 => ⟨S2048x32x64, .f32⟩
  | 36 => ⟨S2048x32x64, .f32⟩
  | 37 => ⟨S2048x32x64, .f32⟩
  | 38 => ⟨S_, .i32⟩
  | 39 => ⟨S_, .i1⟩
  | 40 => ⟨S_, .i32⟩
  | 41 => ⟨S_, .i32⟩
  | 42 => ⟨S1x32x64, .f32⟩
  | 43 => ⟨S32x64, .f32⟩
  | 44 => ⟨S_, .i32⟩
  | 45 => ⟨S_, .i32⟩
  | 46 => ⟨S1x32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S1x32x64, .f32⟩
  | 57 => ⟨S_, .i32⟩
  | 58 => ⟨S_, .i32⟩
  | 59 => ⟨S2048x32x64, .f32⟩
  | 60 => ⟨S1x32x64, .f32⟩
  | 61 => ⟨S_, .i32⟩
  | 62 => ⟨S_, .i32⟩
  | 63 => ⟨S2048x32x64, .f32⟩
  | 64 => ⟨S1x32x64, .f32⟩
  | 65 => ⟨S_, .i32⟩
  | 66 => ⟨S_, .i32⟩
  | 67 => ⟨S2048x32x64, .f32⟩
  | 68 => ⟨S1x32x64, .f32⟩
  | 69 => ⟨S_, .i32⟩
  | 70 => ⟨S_, .i32⟩
  | 71 => ⟨S2048x32x64, .f32⟩
  | 72 => ⟨S_, .i32⟩
  | 73 => ⟨S_, .i32⟩
  | 74 => ⟨S32x2048x16, .f32⟩
  | 75 => ⟨S2048x32x16, .f32⟩
  | 76 => ⟨S32x2048x16, .f32⟩
  | 77 => ⟨S2048x32x16, .f32⟩
  | 78 => ⟨S2048x32x16, .f32⟩
  | 79 => ⟨S32x16, .f32⟩
  | 80 => ⟨S1x32x16, .f32⟩
  | 81 => ⟨S2048x32x16, .f32⟩
  | 82 => ⟨S2048x32x16, .f32⟩
  | 83 => ⟨S2048x32x16, .f32⟩
  | 84 => ⟨S2048x512, .f32⟩
  | 85 => ⟨S_, .f32⟩
  | 86 => ⟨S32x64, .f32⟩
  | 87 => ⟨S_, .f32⟩
  | 88 => ⟨S32x64, .f32⟩
  | 89 => ⟨S2048x32x16, .f32⟩
  | 90 => ⟨S2048x32x16, .f32⟩
  | 91 => ⟨S2048x32x16, .f32⟩
  | 92 => ⟨S2048x32x16, .f32⟩
  | 93 => ⟨S_, .f32⟩
  | 94 => ⟨S32x16, .f32⟩
  | 95 => ⟨S1x32x16, .f32⟩
  | 96 => ⟨S_, .f32⟩
  | 97 => ⟨S32x16, .f32⟩
  | 98 => ⟨S1x512, .f32⟩
  | 99 => ⟨S2048x32x16, .f32⟩
  | 100 => ⟨S32x2048x16, .f32⟩
  | 101 => ⟨S32x16x64, .f32⟩
  | 102 => ⟨S32x2048x64, .f32⟩
  | 103 => ⟨S2048x32x64, .f32⟩
  | 104 => ⟨S32x2048x16, .f32⟩
  | 105 => ⟨S32x16x64, .f32⟩
  | 106 => ⟨S32x2048x64, .f32⟩
  | 107 => ⟨S2048x32x64, .f32⟩
  | 108 => ⟨S_, .f32⟩
  | 109 => ⟨S32x64, .f32⟩
  | 110 => ⟨S_, .f32⟩
  | 111 => ⟨S32x64, .f32⟩
  | 112 => ⟨S_, .f32⟩
  | 113 => ⟨S32x64, .f32⟩
  | 114 => ⟨S_, .f32⟩
  | 115 => ⟨S32x64, .f32⟩
  | 116 => ⟨S_, .f32⟩
  | 117 => ⟨S2048x32x64, .f32⟩
  | 118 => ⟨S_, .f32⟩
  | 119 => ⟨S2048x32x64, .f32⟩
  | 120 => ⟨S_, .i32⟩
  | 121 => ⟨S2048x32x64, .f32⟩
  | 122 => ⟨S2048x32x64, .f32⟩
  | 123 => ⟨S2048x32x64, .f32⟩
  | 124 => ⟨S2048x32x64, .f32⟩
  | 125 => ⟨S32x64, .f32⟩
  | 126 => ⟨S32x64, .f32⟩
  | 127 => ⟨S_, .i32⟩
  | _ => ⟨S2048x512, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S2048x32x64, .f32⟩
  | 5 => ⟨S2048x32x64, .f32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S1x32x64, .f32⟩
  | 15 => ⟨S32x64, .f32⟩
  | 16 => ⟨S_, .i32⟩
  | 17 => ⟨S_, .i32⟩
  | 18 => ⟨S1x32x64, .f32⟩
  | 19 => ⟨S32x64, .f32⟩
  | 20 => ⟨S_, .i32⟩
  | 21 => ⟨S_, .i32⟩
  | 22 => ⟨S1x32x64, .f32⟩
  | 23 => ⟨S32x64, .f32⟩
  | 24 => ⟨S_, .i32⟩
  | 25 => ⟨S_, .i32⟩
  | 26 => ⟨S1x32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S1x32x64, .f32⟩
  | 46 => ⟨S_, .i32⟩
  | 47 => ⟨S_, .i32⟩
  | 48 => ⟨S2048x32x64, .f32⟩
  | 49 => ⟨S1x32x64, .f32⟩
  | 50 => ⟨S_, .i32⟩
  | 51 => ⟨S_, .i32⟩
  | 52 => ⟨S2048x32x64, .f32⟩
  | 53 => ⟨S_, .i32⟩
  | 54 => ⟨S_, .i32⟩
  | 55 => ⟨S32x2048x64, .f32⟩
  | 56 => ⟨S32x64x16, .f32⟩
  | 57 => ⟨S32x16x64, .f32⟩
  | 58 => ⟨S32x2048x16, .f32⟩
  | 59 => ⟨S2048x32x16, .f32⟩
  | 60 => ⟨S2048x32x16, .f32⟩
  | 61 => ⟨S32x2048x64, .f32⟩
  | 62 => ⟨S32x64x16, .f32⟩
  | 63 => ⟨S32x16x64, .f32⟩
  | 64 => ⟨S32x2048x16, .f32⟩
  | 65 => ⟨S2048x32x16, .f32⟩
  | 66 => ⟨S2048x32x16, .f32⟩
  | 67 => ⟨S2048x512, .f32⟩
  | 68 => ⟨S2048x4608, .bf16⟩
  | 69 => ⟨S2048x512, .bf16⟩
  | 70 => ⟨S2048x2048, .bf16⟩
  | 71 => ⟨S2048x7168, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_c : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev main_v11_5 : Ref sig .tc := ⟨.hbm, 32, rfl⟩
abbrev main_v11_6 : Ref sig .tc := ⟨.hbm, 33, rfl⟩
abbrev main_v11_7 : Ref sig .tc := ⟨.hbm, 34, rfl⟩
abbrev main_v11_8 : Ref sig .tc := ⟨.hbm, 35, rfl⟩
abbrev main_v11_9 : Ref sig .tc := ⟨.hbm, 36, rfl⟩
abbrev main_v11_10 : Ref sig .tc := ⟨.hbm, 37, rfl⟩
abbrev main_while0c_c_25 : Ref sig .tc := ⟨.hbm, 38, rfl⟩
abbrev main_while0c_v66 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v66 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v67 : Ref sig .tc := ⟨.hbm, 47, rfl⟩
abbrev main_while0b_v68 : Ref sig .tc := ⟨.hbm, 48, rfl⟩
abbrev main_while0b_v69 : Ref sig .tc := ⟨.hbm, 49, rfl⟩
abbrev main_while0b_v70 : Ref sig .tc := ⟨.hbm, 50, rfl⟩
abbrev main_while0b_v71 : Ref sig .tc := ⟨.hbm, 51, rfl⟩
abbrev main_while0b_v72 : Ref sig .tc := ⟨.hbm, 52, rfl⟩
abbrev main_while0b_v73 : Ref sig .tc := ⟨.hbm, 53, rfl⟩
abbrev main_while0b_v74 : Ref sig .tc := ⟨.hbm, 54, rfl⟩
abbrev main_while0b_v75 : Ref sig .tc := ⟨.hbm, 55, rfl⟩
abbrev main_while0b_call2_v0 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_v76 : Ref sig .tc := ⟨.hbm, 59, rfl⟩
abbrev main_while0b_call3_v0 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_v77 : Ref sig .tc := ⟨.hbm, 63, rfl⟩
abbrev main_while0b_call4_v0 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_v78 : Ref sig .tc := ⟨.hbm, 67, rfl⟩
abbrev main_while0b_call5_v0 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_v79 : Ref sig .tc := ⟨.hbm, 71, rfl⟩
abbrev main_while0b_c_25 : Ref sig .tc := ⟨.hbm, 72, rfl⟩
abbrev main_while0b_v80 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst_4 : Ref sig .tc := ⟨.hbm, 85, rfl⟩
abbrev main_v23 : Ref sig .tc := ⟨.hbm, 86, rfl⟩
abbrev main_cst_5 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_cst_6 : Ref sig .tc := ⟨.hbm, 93, rfl⟩
abbrev main_v29 : Ref sig .tc := ⟨.hbm, 94, rfl⟩
abbrev main_v30 : Ref sig .tc := ⟨.hbm, 95, rfl⟩
abbrev main_cst_7 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_cst_8 : Ref sig .tc := ⟨.hbm, 108, rfl⟩
abbrev main_v42 : Ref sig .tc := ⟨.hbm, 109, rfl⟩
abbrev main_cst_9 : Ref sig .tc := ⟨.hbm, 110, rfl⟩
abbrev main_v43 : Ref sig .tc := ⟨.hbm, 111, rfl⟩
abbrev main_cst_10 : Ref sig .tc := ⟨.hbm, 112, rfl⟩
abbrev main_v44 : Ref sig .tc := ⟨.hbm, 113, rfl⟩
abbrev main_cst_11 : Ref sig .tc := ⟨.hbm, 114, rfl⟩
abbrev main_v45 : Ref sig .tc := ⟨.hbm, 115, rfl⟩
abbrev main_cst_12 : Ref sig .tc := ⟨.hbm, 116, rfl⟩
abbrev main_v46 : Ref sig .tc := ⟨.hbm, 117, rfl⟩
abbrev main_cst_13 : Ref sig .tc := ⟨.hbm, 118, rfl⟩
abbrev main_v47 : Ref sig .tc := ⟨.hbm, 119, rfl⟩
abbrev main_c_14 : Ref sig .tc := ⟨.hbm, 120, rfl⟩
abbrev main_v48_0 : Ref sig .tc := ⟨.hbm, 121, rfl⟩
abbrev main_v48_1 : Ref sig .tc := ⟨.hbm, 122, rfl⟩
abbrev main_v48_2 : Ref sig .tc := ⟨.hbm, 123, rfl⟩
abbrev main_v48_3 : Ref sig .tc := ⟨.hbm, 124, rfl⟩
abbrev main_v48_4 : Ref sig .tc := ⟨.hbm, 125, rfl⟩
abbrev main_v48_5 : Ref sig .tc := ⟨.hbm, 126, rfl⟩
abbrev main_v48_6 : Ref sig .tc := ⟨.hbm, 127, rfl⟩
abbrev main_v48_7 : Ref sig .tc := ⟨.hbm, 128, rfl⟩
abbrev main_v48_8 : Ref sig .tc := ⟨.hbm, 129, rfl⟩
abbrev main_v48_9 : Ref sig .tc := ⟨.hbm, 130, rfl⟩
abbrev main_v48_10 : Ref sig .tc := ⟨.hbm, 131, rfl⟩
abbrev main_v48_11 : Ref sig .tc := ⟨.hbm, 132, rfl⟩
abbrev main_v48_12 : Ref sig .tc := ⟨.hbm, 133, rfl⟩
abbrev main_while1c_c_27 : Ref sig .tc := ⟨.hbm, 134, rfl⟩
abbrev main_while1c_v66 : Ref sig .tc := ⟨.hbm, 135, rfl⟩
abbrev main_while1b_c_27 : Ref sig .tc := ⟨.hbm, 136, rfl⟩
abbrev main_while1b_v66 : Ref sig .tc := ⟨.hbm, 137, rfl⟩
abbrev main_while1b_c_28 : Ref sig .tc := ⟨.hbm, 138, rfl⟩
abbrev main_while1b_v67 : Ref sig .tc := ⟨.hbm, 139, rfl⟩
abbrev main_while1b_call6_c : Ref sig .tc := ⟨.hbm, 140, rfl⟩
abbrev main_while1b_call6_c_0 : Ref sig .tc := ⟨.hbm, 141, rfl⟩
abbrev main_while1b_call6_v0 : Ref sig .tc := ⟨.hbm, 142, rfl⟩
abbrev main_while1b_v68 : Ref sig .tc := ⟨.hbm, 143, rfl⟩
abbrev main_while1b_call7_c : Ref sig .tc := ⟨.hbm, 144, rfl⟩
abbrev main_while1b_call7_c_0 : Ref sig .tc := ⟨.hbm, 145, rfl⟩
abbrev main_while1b_call7_v0 : Ref sig .tc := ⟨.hbm, 146, rfl⟩
abbrev main_while1b_v69 : Ref sig .tc := ⟨.hbm, 147, rfl⟩
abbrev main_while1b_call8_c : Ref sig .tc := ⟨.hbm, 148, rfl⟩
abbrev main_while1b_call8_c_0 : Ref sig .tc := ⟨.hbm, 149, rfl⟩
abbrev main_while1b_call8_v0 : Ref sig .tc := ⟨.hbm, 150, rfl⟩
abbrev main_while1b_v70 : Ref sig .tc := ⟨.hbm, 151, rfl⟩
abbrev main_while1b_call9_c : Ref sig .tc := ⟨.hbm, 152, rfl⟩
abbrev main_while1b_call9_c_0 : Ref sig .tc := ⟨.hbm, 153, rfl⟩
abbrev main_while1b_call9_v0 : Ref sig .tc := ⟨.hbm, 154, rfl⟩
abbrev main_while1b_v71 : Ref sig .tc := ⟨.hbm, 155, rfl⟩
abbrev main_while1b_v72 : Ref sig .tc := ⟨.hbm, 156, rfl⟩
abbrev main_while1b_v73 : Ref sig .tc := ⟨.hbm, 157, rfl⟩
abbrev main_while1b_v74 : Ref sig .tc := ⟨.hbm, 158, rfl⟩
abbrev main_while1b_v75 : Ref sig .tc := ⟨.hbm, 159, rfl⟩
abbrev main_while1b_v76 : Ref sig .tc := ⟨.hbm, 160, rfl⟩
abbrev main_while1b_v77 : Ref sig .tc := ⟨.hbm, 161, rfl⟩
abbrev main_while1b_v78 : Ref sig .tc := ⟨.hbm, 162, rfl⟩
abbrev main_while1b_v79 : Ref sig .tc := ⟨.hbm, 163, rfl⟩
abbrev main_while1b_v80 : Ref sig .tc := ⟨.hbm, 164, rfl⟩
abbrev main_while1b_v81 : Ref sig .tc := ⟨.hbm, 165, rfl⟩
abbrev main_while1b_v82 : Ref sig .tc := ⟨.hbm, 166, rfl⟩
abbrev main_while1b_v83 : Ref sig .tc := ⟨.hbm, 167, rfl⟩
abbrev main_while1b_v84 : Ref sig .tc := ⟨.hbm, 168, rfl⟩
abbrev main_while1b_v85 : Ref sig .tc := ⟨.hbm, 169, rfl⟩
abbrev main_while1b_v86 : Ref sig .tc := ⟨.hbm, 170, rfl⟩
abbrev main_while1b_v87 : Ref sig .tc := ⟨.hbm, 171, rfl⟩
abbrev main_while1b_v88 : Ref sig .tc := ⟨.hbm, 172, rfl⟩
abbrev main_while1b_call10_v0 : Ref sig .tc := ⟨.hbm, 173, rfl⟩
abbrev main_while1b_call10_c : Ref sig .tc := ⟨.hbm, 174, rfl⟩
abbrev main_while1b_call10_c_0 : Ref sig .tc := ⟨.hbm, 175, rfl⟩
abbrev main_while1b_v89 : Ref sig .tc := ⟨.hbm, 176, rfl⟩
abbrev main_while1b_call11_v0 : Ref sig .tc := ⟨.hbm, 177, rfl⟩
abbrev main_while1b_call11_c : Ref sig .tc := ⟨.hbm, 178, rfl⟩
abbrev main_while1b_call11_c_0 : Ref sig .tc := ⟨.hbm, 179, rfl⟩
abbrev main_while1b_v90 : Ref sig .tc := ⟨.hbm, 180, rfl⟩
abbrev main_while1b_c_29 : Ref sig .tc := ⟨.hbm, 181, rfl⟩
abbrev main_while1b_v91 : Ref sig .tc := ⟨.hbm, 182, rfl⟩
abbrev main_v49 : Ref sig .tc := ⟨.hbm, 183, rfl⟩
abbrev main_v50 : Ref sig .tc := ⟨.hbm, 184, rfl⟩
abbrev main_v51 : Ref sig .tc := ⟨.hbm, 185, rfl⟩
abbrev main_v52 : Ref sig .tc := ⟨.hbm, 186, rfl⟩
abbrev main_v53 : Ref sig .tc := ⟨.hbm, 187, rfl⟩
abbrev main_v54 : Ref sig .tc := ⟨.hbm, 188, rfl⟩
abbrev main_v55 : Ref sig .tc := ⟨.hbm, 189, rfl⟩
abbrev main_v56 : Ref sig .tc := ⟨.hbm, 190, rfl⟩
abbrev main_v57 : Ref sig .tc := ⟨.hbm, 191, rfl⟩
abbrev main_v58 : Ref sig .tc := ⟨.hbm, 192, rfl⟩
abbrev main_v59 : Ref sig .tc := ⟨.hbm, 193, rfl⟩
abbrev main_v60 : Ref sig .tc := ⟨.hbm, 194, rfl⟩
abbrev main_v61 : Ref sig .tc := ⟨.hbm, 195, rfl⟩
abbrev main_v62 : Ref sig .tc := ⟨.hbm, 196, rfl⟩
abbrev main_v63 : Ref sig .tc := ⟨.hbm, 197, rfl⟩
abbrev main_v64 : Ref sig .tc := ⟨.hbm, 198, rfl⟩
abbrev main_v65 : Ref sig .tc := ⟨.hbm, 199, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== KernelX.lean ====
abbrev S2048x7168 : Shape := ⟨2, ![2048, 7168]⟩
abbrev S1024x7168 : Shape := ⟨2, ![1024, 7168]⟩
abbrev S2048x1024 : Shape := ⟨2, ![2048, 1024]⟩
abbrev S1024x8x896 : Shape := ⟨3, ![1024, 8, 896]⟩
abbrev S8x1024x896 : Shape := ⟨3, ![8, 1024, 896]⟩
abbrev S1024x1792 : Shape := ⟨2, ![1024, 1792]⟩
abbrev S2x1024x896 : Shape := ⟨3, ![2, 1024, 896]⟩
abbrev S1024x1024 : Shape := ⟨2, ![1024, 1024]⟩
abbrev S1x1024x896 : Shape := ⟨3, ![1, 1024, 896]⟩
abbrev S1024x896 : Shape := ⟨2, ![1024, 896]⟩

abbrev nBuf : Space → Nat
  | .hbm => 7
  | .vmem => 9
  | .smem => 0
  | _ => 0

abbrev bufTy : (tb : Table) → Fin (tcTables nBuf tb) → BufTy
  | .hbm, ⟨0, _⟩ => ⟨S2048x7168, .bf16⟩
  | .hbm, ⟨1, _⟩ => ⟨S1024x7168, .f32⟩
  | .hbm, ⟨2, _⟩ => ⟨S2048x1024, .f32⟩
  | .hbm, ⟨3, _⟩ => ⟨S1024x8x896, .f32⟩
  | .hbm, ⟨4, _⟩ => ⟨S8x1024x896, .f32⟩
  | .hbm, ⟨5, _⟩ => ⟨S8x1024x896, .bf16⟩
  | .hbm, ⟨6, _⟩ => ⟨S2048x1024, .f32⟩
  | .local _ .vmem, ⟨0, _⟩ => ⟨S1024x1792, .bf16⟩
  | .local _ .vmem, ⟨1, _⟩ => ⟨S1024x1792, .bf16⟩
  | .local _ .vmem, ⟨2, _⟩ => ⟨S2x1024x896, .bf16⟩
  | .local _ .vmem, ⟨3, _⟩ => ⟨S2x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceXIdeal.lean ====
abbrev S2048x7168 : Shape := ⟨2, ![2048, 7168]⟩
abbrev S1024x7168 : Shape := ⟨2, ![1024, 7168]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S1024x7168, .f32⟩
  | .hbm, ⟨2, _⟩ => ⟨S2048x1024, .f32⟩
  | .hbm, ⟨3, _⟩ => ⟨S2048x7168, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelF.lean ====
abbrev S2048x1024 : Shape := ⟨2, ![2048, 1024]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩
abbrev S_ : Shape := ⟨0, ![]⟩
abbrev S8x1024x32 : Shape := ⟨3, ![8, 1024, 32]⟩
abbrev S8x1024x384 : Shape := ⟨3, ![8, 1024, 384]⟩
abbrev S2048x3072 : Shape := ⟨2, ![2048, 3072]⟩
abbrev S1024x1024 : Shape := ⟨2, ![1024, 1024]⟩
abbrev S2x1024x384 : Shape := ⟨3, ![2, 1024, 384]⟩
abbrev S1024x768 : Shape := ⟨2, ![1024, 768]⟩
abbrev S1x1024x384 : Shape := ⟨3, ![1, 1024, 384]⟩
abbrev S1024x384 : Shape := ⟨2, ![1024, 384]⟩
abbrev S8x352x1024 : Shape := ⟨3, ![8, 352, 1024]⟩
abbrev S8x32x1024 : Shape := ⟨3, ![8, 32, 1024]⟩
abbrev S8x384x1024 : Shape := ⟨3, ![8, 384, 1024]⟩
abbrev S3072x1024 : Shape := ⟨2, ![3072, 1024]⟩
abbrev S768x1024 : Shape := ⟨2, ![768, 1024]⟩
abbrev S2x4x1024x384 : Shape := ⟨4, ![2, 4, 1024, 384]⟩
abbrev S2048x768 : Shape := ⟨2, ![2048, 768]⟩
abbrev S2x1x1024x384 : Shape := ⟨4, ![2, 1, 1024, 384]⟩
abbrev S1x1x1024x384 : Shape := ⟨4, ![1, 1, 1024, 384]⟩
abbrev S2x4x384x1024 : Shape := ⟨4, ![2, 4, 384, 1024]⟩
abbrev S2048x384 : Shape := ⟨2, ![2048, 384]⟩
abbrev S1x1x384x1024 : Shape := ⟨4, ![1, 1, 384, 1024]⟩
abbrev S384x1024 : Shape := ⟨2, ![384, 1024]⟩
abbrev S2x4x1024x352 : Shape := ⟨4, ![2, 4, 1024, 352]⟩
abbrev S1024x4x2x352 : Shape := ⟨4, ![1024, 4, 2, 352]⟩
abbrev S2x4x352x1024 : Shape := ⟨4, ![2, 4, 352, 1024]⟩
abbrev S4x2x352x1024 : Shape := ⟨4, ![4, 2, 352, 1024]⟩

abbrev nBuf : Space → Nat
  | .hbm => 43
  | .vmem => 39
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S1024x8x352, .f32⟩
  | .hbm, ⟨6, _⟩ => ⟨S8x1024x352, .f32⟩
  | .hbm, ⟨7, _⟩ => ⟨S_, .f32⟩
  | .hbm, ⟨8, _⟩ => ⟨S8x1024x32, .f32⟩
  | .hbm, ⟨9, _⟩ => ⟨S8x1024x384, .f32⟩
  | .hbm, ⟨10, _⟩ => ⟨S8x1024x384, .bf16⟩
  | .hbm, ⟨11, _⟩ => ⟨S1024x8x352, .f32⟩
  | .hbm, ⟨12, _⟩ => ⟨S8x1024x352, .f32⟩
  | .hbm, ⟨13, _⟩ => ⟨S_, .f32⟩
  | .hbm, ⟨14, _⟩ => ⟨S8x1024x32, .f32⟩
  | .hbm, ⟨15, _⟩ => ⟨S8x1024x384, .f32⟩
  | .hbm, ⟨16, _⟩ => ⟨S8x1024x384, .bf16⟩
  | .hbm, ⟨17, _⟩ => ⟨S2048x3072, .bf16⟩
  | .hbm, ⟨18, _⟩ => ⟨S2048x3072, .bf16⟩
  | .hbm, ⟨19, _⟩ => ⟨S2048x3072, .bf16⟩
  | .hbm, ⟨20, _⟩ => ⟨S8x352x1024, .f32⟩
  | .hbm, ⟨21, _⟩ => ⟨S_, .f32⟩
  | .hbm, ⟨22, _⟩ => ⟨S8x32x1024, .f32⟩
  | .hbm, ⟨23, _⟩ => ⟨S8x384x1024, .f32⟩
  | .hbm, ⟨24, _⟩ => ⟨S8x384x1024, .bf16⟩
  | .hbm, ⟨25, _⟩ => ⟨S3072x1024, .bf16⟩
  | .hbm, ⟨26, _⟩ => ⟨S2048x3072, .bf16⟩
  | .hbm, ⟨27, _⟩ => ⟨S2048x3072, .bf16⟩
  | .hbm, ⟨28, _⟩ => ⟨S2x4x1024x384, .bf16⟩
  | .hbm, ⟨29, _⟩ => ⟨S2x4x1024x384, .bf16⟩
  | .hbm, ⟨30, _⟩ => ⟨S2x4x384x1024, .bf16⟩
  | .hbm, ⟨31, _⟩ => ⟨S2x4x1024x352, .bf16⟩
  | .hbm, ⟨32, _⟩ => ⟨S2x4x1024x352, .f32⟩
  | .hbm, ⟨33, _⟩ => ⟨S1024x4x2x352, .f32⟩
  | .hbm, ⟨34, _⟩ => ⟨S1024x2816, .f32⟩
  | .hbm, ⟨35, _⟩ => ⟨S2x4x1024x352, .bf16⟩
  | .hbm, ⟨36, _⟩ => ⟨S2x4x1024x352, .f32⟩
  | .hbm, ⟨37, _⟩ => ⟨S1024x4x2x352, .f32⟩
  | .hbm, ⟨38, _⟩ => ⟨S1024x2816, .f32⟩
  | .hbm, ⟨39, _⟩ => ⟨S2x4x352x1024, .bf16⟩
  | .hbm, ⟨40, _⟩ => ⟨S2x4x352x1024, .f32⟩
  | .hbm, ⟨41, _⟩ => ⟨S4x2x352x1024, .f32⟩
  | .hbm, ⟨42, _⟩ => ⟨S2816x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024x384, .bf16⟩
  | .local _ .vmem, ⟨3, _⟩ => ⟨S2x1024x384, .bf16⟩
  | .local _ .vmem, ⟨4, _⟩ => ⟨S2x1024x384, .bf16⟩
  | .local _ .vmem, ⟨5, _⟩ => ⟨S2x1024x384, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x1024, .f32⟩
  | .local _ .vmem, ⟨13, _⟩ => ⟨S1024x1024, .f32⟩
  | .local _ .vmem, ⟨14, _⟩ => ⟨S768x1024, .bf16⟩
  | .local _ .vmem, ⟨15, _⟩ => ⟨S768x1024, .bf16⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1024x768, .bf16⟩
  | .local _ .vmem, ⟨20, _⟩ => ⟨S1024x768, .bf16⟩
  | .local _ .vmem, ⟨21, _⟩ => ⟨S1024x768, .bf16⟩
  | .local _ .vmem, ⟨22, _⟩ => ⟨S1024x768, .bf16⟩
  | .local _ .vmem, ⟨23, _⟩ => ⟨S1024x768, .bf16⟩
  | .local _ .vmem, ⟨24, _⟩ => ⟨S2048x1024, .f32⟩
  | .local _ .vmem, ⟨25, _⟩ => ⟨S2048x768, .bf16⟩
  | .local _ .vmem, ⟨26, _⟩ => ⟨S2048x768, .bf16⟩
  | .local _ .vmem, ⟨27, _⟩ => ⟨S2x1x1024x384, .bf16⟩
  | .local _ .vmem, ⟨28, _⟩ => ⟨S2x1x1024x384, .bf16⟩
  | .local _ .vmem, ⟨29, _⟩ => ⟨S2048x1024, .f32⟩
  | .local _ .vmem, ⟨30, _⟩ => ⟨S2048x768, .bf16⟩
  | .local _ .vmem, ⟨31, _⟩ => ⟨S2048x768, .bf16⟩
  | .local _ .vmem, ⟨32, _⟩ => ⟨S2x1x1024x384, .bf16⟩
  | .local _ .vmem, ⟨33, _⟩ => ⟨S2x1x1024x384, .bf16⟩
  | .local _ .vmem, ⟨34, _⟩ => ⟨S2048x384, .bf16⟩
  | .local _ .vmem, ⟨35, _⟩ => ⟨S2048x384, .bf16⟩
  | .local _ .vmem, ⟨36, _⟩ => ⟨S2048x1024, .f32⟩
  | .local _ .vmem, ⟨37, _⟩ => ⟨S1x1x384x1024, .bf16⟩
  | .local _ .vmem, ⟨38, _⟩ => ⟨S1x1x384x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem1_0 : DmaSem sig := 25
abbrev cc2_sem1_1 : DmaSem sig := 26
abbrev cc2_sem2_0 : DmaSem sig := 27
abbrev cc2_sem2_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S768x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x768 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage2_0 : Fin 1 → Memref sig .tc .vmem S2048x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2x1x1024x384 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2x1x1024x384 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage4_0 : Fin 2 → Memref sig .tc .vmem S2048x384 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1x1x384x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== ReferenceFIdeal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S1024x2816, .f32⟩
  | .hbm, ⟨23, _⟩ => ⟨S2816x1024, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2816x1024, .f32⟩
  | .hbm, ⟨28, _⟩ => ⟨S1024x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2816x1024, .f32⟩
  | .hbm, ⟨34, _⟩ => ⟨S1024x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== KernelP.lean ====
abbrev S2048x1024 : Shape := ⟨2, ![2048, 1024]⟩
abbrev S1024x7168 : Shape := ⟨2, ![1024, 7168]⟩
abbrev S1024x8x896 : Shape := ⟨3, ![1024, 8, 896]⟩
abbrev S8x1024x896 : Shape := ⟨3, ![8, 1024, 896]⟩
abbrev S2048x7168 : Shape := ⟨2, ![2048, 7168]⟩
abbrev S1024x1024 : Shape := ⟨2, ![1024, 1024]⟩
abbrev S2x1024x896 : Shape := ⟨3, ![2, 1024, 896]⟩
abbrev S1024x1792 : Shape := ⟨2, ![1024, 1792]⟩
abbrev S1x1024x896 : Shape := ⟨3, ![1, 1024, 896]⟩
abbrev S1024x896 : Shape := ⟨2, ![1024, 896]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S1024x8x896, .f32⟩
  | .hbm, ⟨3, _⟩ => ⟨S8x1024x896, .f32⟩
  | .hbm, ⟨4, _⟩ => ⟨S8x1024x896, .bf16⟩
  | .hbm, ⟨5, _⟩ => ⟨S2048x7168, .f32⟩
  | .local _ .vmem, ⟨0, _⟩ => ⟨S1024x1024, .f32⟩
  | .local _ .vmem, ⟨1, _⟩ => ⟨S1024x1024, .f32⟩
  | .local _ .vmem, ⟨2, _⟩ => ⟨S2x1024x896, .bf16⟩
  | .local _ .vmem, ⟨3, _⟩ => ⟨S2x1024x896, .bf16⟩
  | .local _ .vmem, ⟨4, _⟩ => ⟨S1024x1792, .f32⟩
  | .local _ .vmem, ⟨5, _⟩ => ⟨S1024x1792, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePIdeal.lean ====
abbrev S2048x1024 : Shape := ⟨2, ![2048, 1024]⟩
abbrev S1024x7168 : Shape := ⟨2, ![1024, 7168]⟩
abbrev S2048x7168 : Shape := ⟨2, ![2048, 7168]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7168, .f32⟩
  | .hbm, ⟨2, _⟩ => ⟨S2048x7168, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelU.lean ====
abbrev S2048x2816 : Shape := ⟨2, ![2048, 2816]⟩
abbrev S1024x2816 : Shape := ⟨2, ![1024, 2816]⟩
abbrev S2048x1024 : Shape := ⟨2, ![2048, 1024]⟩
abbrev S2048x1 : Shape := ⟨2, ![2048, 1]⟩
abbrev S1024 : Shape := ⟨1, ![1024]⟩
abbrev S2048x8x352 : Shape := ⟨3, ![2048, 8, 352]⟩
abbrev S_ : Shape := ⟨0, ![]⟩
abbrev S2048x8x32 : Shape := ⟨3, ![2048, 8, 32]⟩
abbrev S2048x8x384 : Shape := ⟨3, ![2048, 8, 384]⟩
abbrev S2048x3072 : Shape := ⟨2, ![2048, 3072]⟩
abbrev S1024x8x352 : Shape := ⟨3, ![1024, 8, 352]⟩
abbrev S8x1024x352 : Shape := ⟨3, ![8, 1024, 352]⟩
abbrev S8x1024x32 : Shape := ⟨3, ![8, 1024, 32]⟩
abbrev S8x1024x384 : Shape := ⟨3, ![8, 1024, 384]⟩
abbrev S2048x128 : Shape := ⟨2, ![2048, 128]⟩
abbrev S1x1024 : Shape := ⟨2, ![1, 1024]⟩
abbrev S1024x768 : Shape := ⟨2, ![1024, 768]⟩
abbrev S2x1024x384 : Shape := ⟨3, ![2, 1024, 384]⟩
abbrev S1024x1024 : Shape := ⟨2, ![1024, 1024]⟩
abbrev S1024x128 : Shape := ⟨2, ![1024, 128]⟩
abbrev S1x1024x384 : Shape := ⟨3, ![1, 1024, 384]⟩
abbrev S1024x384 : Shape := ⟨2, ![1024, 384]⟩
abbrev S1024x1 : Shape := ⟨2, ![1024, 1]⟩

abbrev nBuf : Space → Nat
  | .hbm => 37
  | .vmem => 20
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S2048x1, .f32⟩
  | .hbm, ⟨7, _⟩ => ⟨S1024, .f32⟩
  | .hbm, ⟨8, _⟩ => ⟨S2048x8x352, .bf16⟩
  | .hbm, ⟨9, _⟩ => ⟨S_, .bf16⟩
  | .hbm, ⟨10, _⟩ => ⟨S2048x8x32, .bf16⟩
  | .hbm, ⟨11, _⟩ => ⟨S2048x8x384, .bf16⟩
  | .hbm, ⟨12, _⟩ => ⟨S2048x3072, .bf16⟩
  | .hbm, ⟨13, _⟩ => ⟨S2048x8x352, .bf16⟩
  | .hbm, ⟨14, _⟩ => ⟨S_, .bf16⟩
  | .hbm, ⟨15, _⟩ => ⟨S2048x8x32, .bf16⟩
  | .hbm, ⟨16, _⟩ => ⟨S2048x8x384, .bf16⟩
  | .hbm, ⟨17, _⟩ => ⟨S2048x3072, .bf16⟩
  | .hbm, ⟨18, _⟩ => ⟨S1024x8x352, .f32⟩
  | .hbm, ⟨19, _⟩ => ⟨S8x1024x352, .f32⟩
  | .hbm, ⟨20, _⟩ => ⟨S_, .f32⟩
  | .hbm, ⟨21, _⟩ => ⟨S8x1024x32, .f32⟩
  | .hbm, ⟨22, _⟩ => ⟨S8x1024x384, .f32⟩
  | .hbm, ⟨23, _⟩ => ⟨S8x1024x384, .bf16⟩
  | .hbm, ⟨24, _⟩ => ⟨S1024x8x352, .f32⟩
  | .hbm, ⟨25, _⟩ => ⟨S8x1024x352, .f32⟩
  | .hbm, ⟨26, _⟩ => ⟨S_, .f32⟩
  | .hbm, ⟨27, _⟩ => ⟨S8x1024x32, .f32⟩
  | .hbm, ⟨28, _⟩ => ⟨S8x1024x384, .f32⟩
  | .hbm, ⟨29, _⟩ => ⟨S8x1024x384, .bf16⟩
  | .hbm, ⟨30, _⟩ => ⟨S2048x128, .f32⟩
  | .hbm, ⟨31, _⟩ => ⟨S1x1024, .f32⟩
  | .hbm, ⟨32, _⟩ => ⟨S2048x1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S2x1024x384, .bf16⟩
  | .local _ .vmem, ⟨5, _⟩ => ⟨S2x1024x384, .bf16⟩
  | .local _ .vmem, ⟨6, _⟩ => ⟨S2x1024x384, .bf16⟩
  | .local _ .vmem, ⟨7, _⟩ => ⟨S2x1024x384, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x128, .f32⟩
  | .local _ .vmem, ⟨13, _⟩ => ⟨S1024x128, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_21 : BitVec 32 := 0#32
  let v30 : BitVec 1 := Scalar.cmpi .ne v29 c0_i32_21
  v30

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceUIdeal.lean ====
abbrev S2048x2816 : Shape := ⟨2, ![2048, 2816]⟩
abbrev S1024x2816 : Shape := ⟨2, ![1024, 2816]⟩
abbrev S2048x1024 : Shape := ⟨2, ![2048, 1024]⟩
abbrev S2048x1 : Shape := ⟨2, ![2048, 1]⟩
abbrev S1024 : Shape := ⟨1, ![1024]⟩
abbrev S_ : Shape := ⟨0, ![]⟩
abbrev S1x1024 : Shape := ⟨2, ![1, 1024]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x2816, .f32⟩
  | .hbm, ⟨3, _⟩ => ⟨S1024x2816, .f32⟩
  | .hbm, ⟨4, _⟩ => ⟨S2048x1024, .f32⟩
  | .hbm, ⟨5, _⟩ => ⟨S2048x1024, .f32⟩
  | .hbm, ⟨6, _⟩ => ⟨S2048x1, .f32⟩
  | .hbm, ⟨7, _⟩ => ⟨S1024, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== KernelG.lean ====
abbrev S2048x512 : Shape := ⟨2, ![2048, 512]⟩
abbrev S2048x1024 : Shape := ⟨2, ![2048, 1024]⟩
abbrev S2x4x512x128 : Shape := ⟨4, ![2, 4, 512, 128]⟩
abbrev S2048x256 : Shape := ⟨2, ![2048, 256]⟩
abbrev S2x1x512x128 : Shape := ⟨4, ![2, 1, 512, 128]⟩
abbrev S512x256 : Shape := ⟨2, ![512, 256]⟩
abbrev S512x128 : Shape := ⟨2, ![512, 128]⟩
abbrev S1x1x512x128 : Shape := ⟨4, ![1, 1, 512, 128]⟩
abbrev S2x4x128x1024 : Shape := ⟨4, ![2, 4, 128, 1024]⟩
abbrev S2048x128 : Shape := ⟨2, ![2048, 128]⟩
abbrev S1x1x128x1024 : Shape := ⟨4, ![1, 1, 128, 1024]⟩
abbrev S128x1024 : Shape := ⟨2, ![128, 1024]⟩
abbrev S512x4x2x128 : Shape := ⟨4, ![512, 4, 2, 128]⟩
abbrev S512x1024 : Shape := ⟨2, ![512, 1024]⟩
abbrev S4x2x128x1024 : Shape := ⟨4, ![4, 2, 128, 1024]⟩
abbrev S1024x1024 : Shape := ⟨2, ![1024, 1024]⟩

abbrev nBuf : Space → Nat
  | .hbm => 24
  | .vmem => 20
  | .smem => 0
  | _ => 0

abbrev bufTy : (tb : Table) → Fin (tcTables nBuf tb) → BufTy
  | .hbm, ⟨0, _⟩ => ⟨S2048x512, .f32⟩
  | .hbm, ⟨1, _⟩ => ⟨S2048x1024, .bf16⟩
  | .hbm, ⟨2, _⟩ => ⟨S2048x512, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S2048x1024, .bf16⟩
  | .hbm, ⟨7, _⟩ => ⟨S2048x1024, .f32⟩
  | .hbm, ⟨8, _⟩ => ⟨S2x4x512x128, .bf16⟩
  | .hbm, ⟨9, _⟩ => ⟨S2x4x512x128, .bf16⟩
  | .hbm, ⟨10, _⟩ => ⟨S2x4x512x128, .bf16⟩
  | .hbm, ⟨11, _⟩ => ⟨S2x4x128x1024, .bf16⟩
  | .hbm, ⟨12, _⟩ => ⟨S2x4x512x128, .f32⟩
  | .hbm, ⟨13, _⟩ => ⟨S512x4x2x128, .f32⟩
  | .hbm, ⟨14, _⟩ => ⟨S512x1024, .f32⟩
  | .hbm, ⟨15, _⟩ => ⟨S2x4x512x128, .f32⟩
  | .hbm, ⟨16, _⟩ => ⟨S512x4x2x128, .f32⟩
  | .hbm, ⟨17, _⟩ => ⟨S512x1024, .f32⟩
  | .hbm, ⟨18, _⟩ => ⟨S2x4x512x128, .f32⟩
  | .hbm, ⟨19, _⟩ => ⟨S512x4x2x128, .f32⟩
  | .hbm, ⟨20, _⟩ => ⟨S512x1024, .f32⟩
  | .hbm, ⟨21, _⟩ => ⟨S2x4x128x1024, .f32⟩
  | .hbm, ⟨22, _⟩ => ⟨S4x2x128x1024, .f32⟩
  | .hbm, ⟨23, _⟩ => ⟨S1024x1024, .f32⟩
  | .local _ .vmem, ⟨0, _⟩ => ⟨S2048x512, .f32⟩
  | .local _ .vmem, ⟨1, _⟩ => ⟨S2048x256, .bf16⟩
  | .local _ .vmem, ⟨2, _⟩ => ⟨S2048x256, .bf16⟩
  | .local _ .vmem, ⟨3, _⟩ => ⟨S2x1x512x128, .bf16⟩
  | .local _ .vmem, ⟨4, _⟩ => ⟨S2x1x512x128, .bf16⟩
  | .local _ .vmem, ⟨5, _⟩ => ⟨S2048x512, .bf16⟩
  | .local _ .vmem, ⟨6, _⟩ => ⟨S2048x256, .bf16⟩
  | .local _ .vmem, ⟨7, _⟩ => ⟨S2048x256, .bf16⟩
  | .local _ .vmem, ⟨8, _⟩ => ⟨S2x1x512x128, .bf16⟩
  | .local _ .vmem, ⟨9, _⟩ => ⟨S2x1x512x128, .bf16⟩
  | .local _ .vmem, ⟨10, _⟩ => ⟨S2048x512, .bf16⟩
  | .local _ .vmem, ⟨11, _⟩ => ⟨S2048x256, .bf16⟩
  | .local _ .vmem, ⟨12, _⟩ => ⟨S2048x256, .bf16⟩
  | .local _ .vmem, ⟨13, _⟩ => ⟨S2x1x512x128, .bf16⟩
  | .local _ .vmem, ⟨14, _⟩ => ⟨S2x1x512x128, .bf16⟩
  | .local _ .vmem, ⟨15, _⟩ => ⟨S2048x128, .bf16⟩
  | .local _ .vmem, ⟨16, _⟩ => ⟨S2048x128, .bf16⟩
  | .local _ .vmem, ⟨17, _⟩ => ⟨S2048x1024, .f32⟩
  | .local _ .vmem, ⟨18, _⟩ => ⟨S1x1x128x1024, .bf16⟩
  | .local _ .vmem, ⟨19, _⟩ => ⟨S1x1x128x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage2_0 : Fin 1 → Memref sig .tc .vmem S2048x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2x1x512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage3_0 : Fin 2 → Memref sig .tc .vmem S2048x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1x1x128x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceGIdeal.lean ====
abbrev S2048x512 : Shape := ⟨2, ![2048, 512]⟩
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .bf16⟩
  | .hbm, ⟨2, _⟩ => ⟨S2048x512, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S2048x1024, .bf16⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S512x1024, .f32⟩
  | .hbm, ⟨18, _⟩ => ⟨S1024x512, .f32⟩
  | .hbm, ⟨19, _⟩ => ⟨S512x1024, .f32⟩
  | .hbm, ⟨20, _⟩ => ⟨S1024x512, .f32⟩
  | .hbm, ⟨21, _⟩ => ⟨S512x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== KernelL.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S2048x8x352 : Shape := ⟨3, ![2048, 8, 352]⟩
abbrev S_ : Shape := ⟨0, ![]⟩
abbrev S2048x8x32 : Shape := ⟨3, ![2048, 8, 32]⟩
abbrev S2048x8x384 : Shape := ⟨3, ![2048, 8, 384]⟩
abbrev S2048x3072 : Shape := ⟨2, ![2048, 3072]⟩
abbrev S8x352x1024 : Shape := ⟨3, ![8, 352, 1024]⟩
abbrev S8x32x1024 : Shape := ⟨3, ![8, 32, 1024]⟩
abbrev S8x384x1024 : Shape := ⟨3, ![8, 384, 1024]⟩
abbrev S3072x1024 : Shape := ⟨2, ![3072, 1024]⟩
abbrev S1x1024 : Shape := ⟨2, ![1, 1024]⟩
abbrev S1x128 : Shape := ⟨2, ![1, 128]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 27
  | .vmem => 14
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x8x352, .bf16⟩
  | .hbm, ⟨7, _⟩ => ⟨S_, .bf16⟩
  | .hbm, ⟨8, _⟩ => ⟨S2048x8x32, .bf16⟩
  | .hbm, ⟨9, _⟩ => ⟨S2048x8x384, .bf16⟩
  | .hbm, ⟨10, _⟩ => ⟨S2048x3072, .bf16⟩
  | .hbm, ⟨11, _⟩ => ⟨S8x352x1024, .f32⟩
  | .hbm, ⟨12, _⟩ => ⟨S_, .f32⟩
  | .hbm, ⟨13, _⟩ => ⟨S8x32x1024, .f32⟩
  | .hbm, ⟨14, _⟩ => ⟨S8x384x1024, .f32⟩
  | .hbm, ⟨15, _⟩ => ⟨S8x384x1024, .bf16⟩
  | .hbm, ⟨16, _⟩ => ⟨S3072x1024, .bf16⟩
  | .hbm, ⟨17, _⟩ => ⟨S1x1024, .f32⟩
  | .hbm, ⟨18, _⟩ => ⟨S1x1024, .f32⟩
  | .hbm, ⟨19, _⟩ => ⟨S2048x1024, .f32⟩
  | .hbm, ⟨20, _⟩ => ⟨S1x1024, .f32⟩
  | .hbm, ⟨21, _⟩ => ⟨S1x1024, .f32⟩
  | .hbm, ⟨22, _⟩ => ⟨S1x128, .f32⟩
  | .hbm, ⟨23, _⟩ => ⟨S1024, .f32⟩
  | .hbm, ⟨24, _⟩ => ⟨S1024, .f32⟩
  | .hbm, ⟨25, _⟩ => ⟨S1x1, .f32⟩
  | .hbm, ⟨26, _⟩ => ⟨S_, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceLIdeal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x2816, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_v54 : Ref sig .tc := ⟨.hbm, 79, rfl⟩
abbrev main_cst_18 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_cst_20 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== KernelM.lean ====
abbrev S2048x512 : Shape := ⟨2, ![2048, 512]⟩
abbrev S2048x7168 : Shape := ⟨2, ![2048, 7168]⟩
abbrev S2048x1024 : Shape := ⟨2, ![2048, 1024]⟩
abbrev S512x1024 : Shape := ⟨2, ![512, 1024]⟩
abbrev S1024x1024 : Shape := ⟨2, ![1024, 1024]⟩
abbrev S2x1024 : Shape := ⟨2, ![2, 1024]⟩
abbrev S1024 : Shape := ⟨1, ![1024]⟩
abbrev S512x8x128 : Shape := ⟨3, ![512, 8, 128]⟩
abbrev S8x512x128 : Shape := ⟨3, ![8, 512, 128]⟩
abbrev S2x8x128 : Shape := ⟨3, ![2, 8, 128]⟩
abbrev S8x2x128 : Shape := ⟨3, ![8, 2, 128]⟩
abbrev S1x1024 : Shape := ⟨2, ![1, 1024]⟩
abbrev S2048x128 : Shape := ⟨2, ![2048, 128]⟩
abbrev S512x512 : Shape := ⟨2, ![512, 512]⟩
abbrev S512x128 : Shape := ⟨2, ![512, 128]⟩
abbrev S1x512x128 : Shape := ⟨3, ![1, 512, 128]⟩
abbrev S1x1x128 : Shape := ⟨3, ![1, 1, 128]⟩
abbrev S1x128 : Shape := ⟨2, ![1, 128]⟩
abbrev S512 : Shape := ⟨1, ![512]⟩
abbrev S512x1 : Shape := ⟨2, ![512, 1]⟩
abbrev S2048x1 : Shape := ⟨2, ![2048, 1]⟩

abbrev nBuf : Space → Nat
  | .hbm => 32
  | .vmem => 29
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x7168, .f32⟩
  | .hbm, ⟨3, _⟩ => ⟨S2048x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x1024, .f32⟩
  | .hbm, ⟨9, _⟩ => ⟨S1024, .f32⟩
  | .hbm, ⟨10, _⟩ => ⟨S1024, .f32⟩
  | .hbm, ⟨11, _⟩ => ⟨S512x8x128, .f32⟩
  | .hbm, ⟨12, _⟩ => ⟨S8x512x128, .f32⟩
  | .hbm, ⟨13, _⟩ => ⟨S8x512x128, .bf16⟩
  | .hbm, ⟨14, _⟩ => ⟨S512x8x128, .f32⟩
  | .hbm, ⟨15, _⟩ => ⟨S8x512x128, .f32⟩
  | .hbm, ⟨16, _⟩ => ⟨S8x512x128, .bf16⟩
  | .hbm, ⟨17, _⟩ => ⟨S512x8x128, .f32⟩
  | .hbm, ⟨18, _⟩ => ⟨S8x512x128, .f32⟩
  | .hbm, ⟨19, _⟩ => ⟨S8x512x128, .bf16⟩
  | .hbm, ⟨20, _⟩ => ⟨S1024x1024, .bf16⟩
  | .hbm, ⟨21, _⟩ => ⟨S2x8x128, .f32⟩
  | .hbm, ⟨22, _⟩ => ⟨S8x2x128, .f32⟩
  | .hbm, ⟨23, _⟩ => ⟨S1x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x128, .f32⟩
  | .hbm, ⟨28, _⟩ => ⟨S2048x1024, .bf16⟩
  | .hbm, ⟨29, _⟩ => ⟨S2048x1024, .bf16⟩
  | .hbm, ⟨30, _⟩ => ⟨S2048x1024, .bf16⟩
  | .hbm, ⟨31, _⟩ => ⟨S2048x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x512x128, .bf16⟩
  | .local _ .vmem, ⟨11, _⟩ => ⟨S8x512x128, .bf16⟩
  | .local _ .vmem, ⟨12, _⟩ => ⟨S8x512x128, .bf16⟩
  | .local _ .vmem, ⟨13, _⟩ => ⟨S1024x1024, .bf16⟩
  | .local _ .vmem, ⟨14, _⟩ => ⟨S8x2x128, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x128, .f32⟩
  | .local _ .vmem, ⟨22, _⟩ => ⟨S512x128, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceMIdeal.lean ====
abbrev S2048x512 : Shape := ⟨2, ![2048, 512]⟩
abbrev S2048x7168 : Shape := ⟨2, ![2048, 7168]⟩
abbrev S2048x1024 : Shape := ⟨2, ![2048, 1024]⟩
abbrev S512x1024 : Shape := ⟨2, ![512, 1024]⟩
abbrev S1024x1024 : Shape := ⟨2, ![1024, 1024]⟩
abbrev S2x1024 : Shape := ⟨2, ![2, 1024]⟩
abbrev S1024 : Shape := ⟨1, ![1024]⟩
abbrev S2048x2048 : Shape := ⟨2, ![2048, 2048]⟩
abbrev S2048x2x1024 : Shape := ⟨3, ![2048, 2, 1024]⟩
abbrev S_ : Shape := ⟨0, ![]⟩
abbrev S1x2x1024 : Shape := ⟨3, ![1, 2, 1024]⟩
abbrev S2048x1x1024 : Shape := ⟨3, ![2048, 1, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x7168, .f32⟩
  | .hbm, ⟨3, _⟩ => ⟨S2048x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x1024, .f32⟩
  | .hbm, ⟨9, _⟩ => ⟨S1024, .f32⟩
  | .hbm, ⟨10, _⟩ => ⟨S1024, .f32⟩
  | .hbm, ⟨11, _⟩ => ⟨S2048x2048, .f32⟩
  | .hbm, ⟨12, _⟩ => ⟨S2048x2x1024, .f32⟩
  | .hbm, ⟨13, _⟩ => ⟨S2048x1024, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x1024, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x1024, .f32⟩
  | .hbm, ⟨44, _⟩ => ⟨S1x2x1024, .f32⟩
  | .hbm, ⟨45, _⟩ => ⟨S2048x2x1024, .f32⟩
  | .hbm, ⟨46, _⟩ => ⟨S2048x2x1024, .f32⟩
  | .hbm, ⟨47, _⟩ => ⟨S2048x2x1024, .f32⟩
  | .hbm, ⟨48, _⟩ => ⟨S2048x2x1024, .f32⟩
  | .hbm, ⟨49, _⟩ => ⟨S_, .f32⟩
  | .hbm, ⟨50, _⟩ => ⟨S2048x2x1024, .f32⟩
  | .hbm, ⟨51, _⟩ => ⟨S2048x2x1024, .f32⟩
  | .hbm, ⟨52, _⟩ => ⟨S_, .f32⟩
  | .hbm, ⟨53, _⟩ => ⟨S2048x2x1024, .f32⟩
  | .hbm, ⟨54, _⟩ => ⟨S2048x2x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S2048x1x1024, .f32⟩
  | .hbm, ⟨59, _⟩ => ⟨S2048x1024, .f32⟩
  | .hbm, ⟨60, _⟩ => ⟨S2048x1024, .f32⟩
  | .hbm, ⟨61, _⟩ => ⟨S2048x1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S2048x1, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S1x1024, .f32⟩
  | .hbm, ⟨91, _⟩ => ⟨S2048x1024, .f32⟩
  | .hbm, ⟨92, _⟩ => ⟨S2048x1024, .f32⟩
  | .hbm, ⟨93, _⟩ => ⟨S1x1024, .f32⟩
  | .hbm, ⟨94, _⟩ => ⟨S2048x1024, .f32⟩
  | .hbm, ⟨95, _⟩ => ⟨S2048x1024, .f32⟩
  | .hbm, ⟨96, _⟩ => ⟨S2048x1024, .bf16⟩
  | .hbm, ⟨97, _⟩ => ⟨S2048x1024, .bf16⟩
  | .hbm, ⟨98, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Proof.TwoLoops.lean ====
/-
  The run of a host program with two counted loops: stretches of host operations, a loop, more stretches, a second
  loop, and a last run of stretches. No kernel is launched. Each loop is given by the operations of its condition,
  the stretches of its body and its number of trips; `contents2` follows every buffer through the whole program, and
  `run_two_loops` says that every weakly fair execution ends with the buffers at those contents.
-/
module

public import Idealize.ShloMosaic.Lib.StableHlo.RunLoop

@[expose] public section

noncomputable section

namespace Cert.TwoLoops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {nD : Nat} {τ : Topo} {sig : RefSig} {F : FTy → Type} {Λ₀ : Labels}

/-- One counted loop of the program: what its condition and its body do to the buffers, and how often the body runs. -/
structure Counted (τ : Topo) (sig : RefSig) (F : FTy → Type) where
  cond : List (HloOp τ sig (Elt F))
  body : List (List (HloOp τ sig (Elt F)))
  trips : ℕ

/-- The buffers when the loop is left: after the last trip the condition runs once more. -/
def Counted.leave (ℓ : Counted τ sig F) (W : Dev nD → Valuation τ sig (Elt F)) (c : Dev nD) : Valuation τ sig (Elt F) :=
  after ℓ.cond (atTrip ℓ.cond ℓ.body W ℓ.trips c)

/-- The buffers where the second loop is entered. -/
def entry2 (pre mid : List (List (HloOp τ sig (Elt F)))) (ℓ₀ : Counted τ sig F) (m : (ℓ : Loc nD τ sig) → Buf (Elt F) ℓ)
    (c : Dev nD) : Valuation τ sig (Elt F) :=
  afterL mid (ℓ₀.leave (entryContents pre m) c)

/-- The buffers at the program's end. -/
def contents2 (pre mid post : List (List (HloOp τ sig (Elt F)))) (ℓ₀ ℓ₁ : Counted τ sig F)
    (m : (ℓ : Loc nD τ sig) → Buf (Elt F) ℓ) (c : Dev nD) : Valuation τ sig (Elt F) :=
  afterL post (ℓ₁.leave (entry2 pre mid ℓ₀ m) c)

/-- The stretches of a list as program fragments. -/
abbrev frags {nL : Nat} (pcs : Fin 0 → PCfg sig Λ₀ (Elt F)) (items : List (List (HloOp τ sig (Elt F)))) :
    List (Prog (TpuEff nD τ sig (Elt F) (HostLoop.Sig (Pipeline.Sig Λ₀ (Fin 0) fun p => (pcs p).Adm) nL) .tc) PUnit) :=
  items.map fun ops => (seq ops : Prog _ PUnit)

section Run

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no kernel, so nothing is admitted to one, no ticket exists, and no semaphore has a level. -/
abbrev noAdm : (p : Fin 0) → (pcs p).Adm := fun p => p.elim0
abbrev noTk : Fin 0 → Ticket (Ix := Unit) (Name := ℕ) (U := Option PUnit) (Lvl := ℕ) (nD := nD) (τ := τ) pcs (noAdm pcs) :=
  fun j => j.elim0
abbrev noL : GSem nD τ sig → Finset Unit := fun _ => ∅
abbrev noLv : GSem nD τ sig → Unit → ℕ := fun _ _ => 0

/-- What rides beside the buffers: the core owes no semaphore anything. -/
abbrev rest (c : Dev nD) : sProp 𝕄 := iprop(∃ W, owes (c : Thread nD τ) (0 : CellTallies nD τ sig Unit) W)

variable {pcs defs₀ loops}

/-- A condition specified over the buffers alone carries `rest` through. -/
theorem carry {cond : Prog (TpuEff nD τ sig (Elt F) (HostLoop.Sig (Pipeline.Sig Λ₀ (Fin 0) fun p => (pcs p).Adm) nL) .tc) (Elt F .i1)}
    {ops : List (HloOp τ sig (Elt F))} {body : List (List (HloOp τ sig (Elt F)))} {W : Dev nD → Valuation τ sig (Elt F)} {n : ℕ}
    (h : CondSpec pcs defs₀ loops cond ops body W n) : LoopCond pcs defs₀ Variants.none loops rest cond ops body W n := by
  intro k hk c bd
  have hpost : ∀ v : Elt F .i1,
      iprop(iprop(⌜v = 1#1 ↔ k < n⌝ ∗ boundary (c : Thread nD τ) ∗ held (c : Thread nD τ) (ucRefs τ sig) (after ops (atTrip ops body W k c))) ∗ rest c)
        ⊢ iprop(⌜v = 1#1 ↔ k < n⌝ ∗ boundary (c : Thread nD τ) ∗ held (c : Thread nD τ) (ucRefs τ sig) (after ops (atTrip ops body W k c)) ∗ rest c) := fun v => by
    iintro ⟨⟨%hv, Hb, Hh⟩, HR⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hpost))
  · iintro ⟨Hb, Hh, HR⟩
    isplitl [Hb Hh]
    · isplitl [Hb] <;> iassumption
    iexact HR

variable (pcs defs₀ loops)

/-- THE RUN. The two loops are the program's loops `l₀` and `l₁`; `h₀` and `h₁` specify their conditions at the buffers
    with which each is entered. -/
theorem run_two_loops [∀ e, Nonempty (Elt F e)]
    (main : Dev nD → Prog (TpuEff nD τ sig (Elt F) (HostLoop.Sig (Pipeline.Sig Λ₀ (Fin 0) fun p => (pcs p).Adm) nL) .tc) PUnit)
    (l₀ l₁ : Fin nL)
    (cond₀ cond₁ : Prog (TpuEff nD τ sig (Elt F) (HostLoop.Sig (Pipeline.Sig Λ₀ (Fin 0) fun p => (pcs p).Adm) nL) .tc) (Elt F .i1))
    (body₀ body₁ : Prog (TpuEff nD τ sig (Elt F) (HostLoop.Sig (Pipeline.Sig Λ₀ (Fin 0) fun p => (pcs p).Adm) nL) .tc) PUnit)
    (hl₀ : loops l₀ = HostLoop.step l₀ cond₀ body₀) (hl₁ : loops l₁ = HostLoop.step l₁ cond₁ body₁)
    (pre mid post : List (List (HloOp τ sig (Elt F)))) (ℓ₀ ℓ₁ : Counted τ sig F)
    (hpre : Plain pre) (hmid : Plain mid) (hpost : Plain post) (hb₀ : Plain ℓ₀.body) (hb₁ : Plain ℓ₁.body)
    (hmain : ∀ c, main c = Pipeline.chain
      (frags pcs pre ++ HostLoop.enter l₀ :: (frags pcs mid ++ HostLoop.enter l₁ :: frags pcs post)))
    (hbody₀ : body₀ = Pipeline.chain (frags pcs ℓ₀.body)) (hbody₁ : body₁ = Pipeline.chain (frags pcs ℓ₁.body))
    (m : (ℓ : Loc nD τ sig) → Buf (Elt F) ℓ) (ρ : Dev nD → PrngReg)
    (h₀ : CondSpec pcs defs₀ loops cond₀ ℓ₀.cond ℓ₀.body (entryContents pre m) ℓ₀.trips)
    (h₁ : CondSpec pcs defs₀ loops cond₁ ℓ₁.cond ℓ₁.body (entry2 pre mid ℓ₀ m) ℓ₁.trips) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = contents2 pre mid post ℓ₀ ℓ₁ m c (Proc.devRef .tc b)) :=
  let segs : List (CSeg pcs (noAdm pcs) defs₀ Variants.none noL noLv loops (noTk pcs)) :=
    segsOf _ _ _ _ _ _ _ _ rest pre hpre (launchContents m)
      ++ loopSeg _ _ _ _ _ _ _ _ l₀ cond₀ body₀ hl₀ ℓ₀.cond ℓ₀.body hb₀ hbody₀ ℓ₀.trips (entryContents pre m) rest (carry h₀)
      :: (segsOf _ _ _ _ _ _ _ _ rest mid hmid (ℓ₀.leave (entryContents pre m))
        ++ loopSeg _ _ _ _ _ _ _ _ l₁ cond₁ body₁ hl₁ ℓ₁.cond ℓ₁.body hb₁ hbody₁ ℓ₁.trips (entry2 pre mid ℓ₀ m) rest (carry h₁)
        :: segsOf _ _ _ _ _ _ _ _ rest post hpost (ℓ₁.leave (entry2 pre mid ℓ₀ m)))
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noL noLv loops (noTk pcs) m ρ main segs
    (fun c Q => by
      rw [hmain c]
      show wp _ _ _ (Pipeline.chain (segs.map CSeg.prog)) Q ⊢ _
      simp only [segs, List.map_append, List.map_cons, segsOf_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rest c))
    (Tₙ := fun c => iprop(held (c : Thread nD τ) (ucRefs τ sig) (contents2 pre mid post ℓ₀ ℓ₁ m c)))
    (hch := CSeg.Chains.append (segsOf_chains _ _ _ _ _ _ _ _ rest pre hpre _)
      ⟨fun _ => .rfl, CSeg.Chains.append (segsOf_chains _ _ _ _ _ _ _ _ rest mid hmid _)
        ⟨fun _ => .rfl, segsOf_chains _ _ _ _ _ _ _ _ rest post hpost _⟩⟩)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = contents2 pre mid post ℓ₀ ℓ₁ m c b)
    (hfin := fun c s' => by
      unfold held
      iintro ⟨Hh, HSI⟩
      ihave Hr := (pointsTo_read_all (ucRefs τ sig) (fun b => ((c : Dev nD), b)) (fun b => contents2 pre mid post ℓ₀ ℓ₁ m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Run

end Cert.TwoLoops

end
-- ==== Proof.RefOps.lean ====
/-
  The reference program's host operations as lists: the stretches before, between and after its two loops, the
  operations of each loop's condition and the stretches of each loop's body. The program is the chain of these
  stretches and the two loops (`main_chain`), so `TwoLoops` follows every buffer through it (`run_fold`).
-/
module

public import proofs.«01_k».proof.Proof.Gen.ReferenceIdeal
public import proofs.«01_k».proof.Proof.TwoLoops
public import Idealize.ShloMosaic.Lib.Pipeline.Regions
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Run

open Cert.ReferenceIdeal Cert.ReferenceIdeal.Gen Cert.TwoLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- An array of f32 numbers. -/
abbrev Arr (F : FTy → Type) [FloatOps F] (s : Shape) := (⟨s, .f32⟩ : BufTy).Contents (Elt F)

/-- A list of host operations. -/
abbrev Ops (F : FTy → Type) [FloatOps F] := List (HloOp τ sig (Elt F))

/-! ## The operation lists -/

/-- Row `arg1` of `arg0`, as a matrix. -/
abbrev readOps (arg0 : TRef sig ⟨S2048x32x64, .f32⟩) (arg1 : TRef sig ⟨S_, .i32⟩) (φ : fn_dynamic_index_in_dim.Bufs) : Ops F :=
  [ StableHlo.TRef.nullary φ.c (constantI S_ 32 0#32),
    StableHlo.TRef.nullary φ.c_0 (constantI S_ 32 0#32),
    StableHlo.TRef.unaryIndexed arg0 ![arg1, φ.c, φ.c_0] φ.v0 (fun x i => Host.dynamicSlice S1x32x64 x (fun k => (i k (Shape.Idx.first h_S_)).toInt) sliceFits_S2048x32x64_S1x32x64),
    StableHlo.TRef.reshape φ.v0 φ.v1 rfl shapeCasts_S1x32x64_S32x64 ]
theorem readOps_sub (arg0 : TRef sig ⟨S2048x32x64, .f32⟩) (arg1 : TRef sig ⟨S_, .i32⟩) (φ : fn_dynamic_index_in_dim.Bufs) : (readOps arg0 arg1 φ : Ops F).Forall fun op => op.bufs ⊆ tcRefs τ sig :=
  ⟨nullary_bufs_sub .., nullary_bufs_sub .., unaryIndexed_bufs_sub .., reshape_bufs_sub ..⟩
theorem readOps_fresh (arg0 : TRef sig ⟨S2048x32x64, .f32⟩) (arg1 : TRef sig ⟨S_, .i32⟩) (φ : fn_dynamic_index_in_dim.Bufs) : (readOps arg0 arg1 φ : Ops F).Forall fun op => op.fresh = ∅ :=
  forall_fresh_of_map rfl

/-- `arg0` with its row `arg2` replaced by `arg1`. -/
abbrev writeOps (arg0 : TRef sig ⟨S2048x32x64, .f32⟩) (arg1 : TRef sig ⟨S32x64, .f32⟩) (arg2 : TRef sig ⟨S_, .i32⟩) (φ : fn_dynamic_update_index_in_dim.Bufs) : Ops F :=
  [ StableHlo.TRef.unary arg1 φ.v0 (broadcastInDim S1x32x64 ![1, 2] bcast_S32x64_S1x32x64_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S2048x32x64_S1x32x64) ]
theorem writeOps_sub (arg0 : TRef sig ⟨S2048x32x64, .f32⟩) (arg1 : TRef sig ⟨S32x64, .f32⟩) (arg2 : TRef sig ⟨S_, .i32⟩) (φ : fn_dynamic_update_index_in_dim.Bufs) : (writeOps arg0 arg1 arg2 φ : Ops F).Forall fun op => op.bufs ⊆ tcRefs τ sig :=
  ⟨unary_bufs_sub .., nullary_bufs_sub .., nullary_bufs_sub .., binaryIndexed_bufs_sub ..⟩
theorem writeOps_fresh (arg0 : TRef sig ⟨S2048x32x64, .f32⟩) (arg1 : TRef sig ⟨S32x64, .f32⟩) (arg2 : TRef sig ⟨S_, .i32⟩) (φ : fn_dynamic_update_index_in_dim.Bufs) : (writeOps arg0 arg1 arg2 φ : Ops F).Forall fun op => op.fresh = ∅ :=
  forall_fresh_of_map rfl

/-- Before the forward loop: the inputs of the recurrence, and the loop's carried values. -/
abbrev preOps : Ops F :=
  [ unary main_arg1 main_v0 ((extractStridedSlice S2048x512 ![0, 4608] · slices_S2048x7168_S2048x512_0_4608) : Arr F S2048x7168 → Arr F S2048x512),
    reshape main_v0 main_v1 rfl shapeCasts_S2048x512_S2048x32x16,
    binary main_v1 main_arg4 main_v2 ((fun l r => Host.dotGeneral dot_S2048x32x16_S32x16x64_S32x2048x64_2_1_0_2_1_0 none l r) : Arr F S2048x32x16 → Arr F S32x16x64 → Arr F S32x2048x64),
    unary main_v2 main_v3 ((transpose S2048x32x64 [1, 0, 2] · transposes_S32x2048x64_S2048x32x64_1_0_2) : Arr F S32x2048x64 → Arr F S2048x32x64),
    binary main_v1 main_arg5 main_v4 ((fun l r => Host.dotGeneral dot_S2048x32x16_S32x16x64_S32x2048x64_2_1_0_2_1_0 none l r) : Arr F S2048x32x16 → Arr F S32x16x64 → Arr F S32x2048x64),
    unary main_v4 main_v5 ((transpose S2048x32x64 [1, 0, 2] · transposes_S32x2048x64_S2048x32x64_1_0_2) : Arr F S32x2048x64 → Arr F S2048x32x64),
    nullary main_cst (constant S_ .f32 0x00000000#32),
    unary main_cst main_v6 (broadcastInDim S32x64 ![] bcast_S_S32x64 : Arr F S_ → Arr F S32x64),
    nullary main_cst_0 (constant S_ .f32 0x00000000#32),
    unary main_cst_0 main_v7 (broadcastInDim S2048x32x64 ![] bcast_S_S2048x32x64 : Arr F S_ → Arr F S2048x32x64),
    nullary main_cst_1 (constant S_ .f32 0x00000000#32),
    unary main_cst_1 main_v8 (broadcastInDim S2048x32x64 ![] bcast_S_S2048x32x64 : Arr F S_ → Arr F S2048x32x64),
    nullary main_cst_2 (constant S_ .f32 0x00000000#32),
    unary main_cst_2 main_v9 (broadcastInDim S2048x32x64 ![] bcast_S_S2048x32x64 : Arr F S_ → Arr F S2048x32x64),
    nullary main_cst_3 (constant S_ .f32 0x00000000#32),
    unary main_cst_3 main_v10 (broadcastInDim S2048x32x64 ![] bcast_S_S2048x32x64 : Arr F S_ → Arr F S2048x32x64),
    nullary main_c (constantI S_ 32 0#32),
    unary main_v3 main_v11_0 id,
    unary main_v5 main_v11_1 id,
    unary main_arg2 main_v11_2 id,
    unary main_arg3 main_v11_3 id,
    unary main_c main_v11_4 id,
    unary main_v6 main_v11_5 id,
    unary main_v6 main_v11_6 id,
    unary main_v7 main_v11_7 id,
    unary main_v8 main_v11_8 id,
    unary main_v9 main_v11_9 id,
    unary main_v10 main_v11_10 id ]
theorem preOps_sub : (preOps : Ops F).Forall fun op => op.bufs ⊆ tcRefs τ sig :=
  ⟨unary_bufs_sub .., reshape_bufs_sub .., binary_bufs_sub .., unary_bufs_sub .., binary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem preOps_fresh : (preOps : Ops F).Forall fun op => op.fresh = ∅ :=
  forall_fresh_of_map rfl

/-- Between the loops: the output, and the cotangents of the output map. -/
abbrev midOpsA : Ops F :=
  [ binary main_v11_7 main_arg6 main_v12 ((fun l r => Host.dotGeneral dot_S2048x32x64_S32x16x64_S32x2048x16_2_2_0_1_1_0 none l r) : Arr F S2048x32x64 → Arr F S32x16x64 → Arr F S32x2048x16),
    unary main_v12 main_v13 ((transpose S2048x32x16 [1, 0, 2] · transposes_S32x2048x16_S2048x32x16_1_0_2) : Arr F S32x2048x16 → Arr F S2048x32x16),
    binary main_v11_8 main_arg7 main_v14 ((fun l r => Host.dotGeneral dot_S2048x32x64_S32x16x64_S32x2048x16_2_2_0_1_1_0 none l r) : Arr F S2048x32x64 → Arr F S32x16x64 → Arr F S32x2048x16),
    unary main_v14 main_v15 ((transpose S2048x32x16 [1, 0, 2] · transposes_S32x2048x16_S2048x32x16_1_0_2) : Arr F S32x2048x16 → Arr F S2048x32x16),
    binary main_v13 main_v15 main_v16 (subf : Arr F S2048x32x16 → Arr F S2048x32x16 → Arr F S2048x32x16),
    reshape main_arg8 main_v17 rfl shapeCasts_S1x512_S32x16,
    unary main_v17 main_v18 (broadcastInDim S1x32x16 ![1, 2] bcast_S32x16_S1x32x16_1_2 : Arr F S32x16 → Arr F S1x32x16),
    unary main_v18 main_v19 (broadcastInDim S2048x32x16 ![0, 1, 2] bcast_S1x32x16_S2048x32x16_0_1_2 : Arr F S1x32x16 → Arr F S2048x32x16),
    binary main_v19 main_v1 main_v20 (mulf : Arr F S2048x32x16 → Arr F S2048x32x16 → Arr F S2048x32x16),
    binary main_v16 main_v20 main_v21 (addf : Arr F S2048x32x16 → Arr F S2048x32x16 → Arr F S2048x32x16),
    reshape main_v21 main_v22 rfl shapeCasts_S2048x32x16_S2048x512,
    nullary main_cst_4 (constant S_ .f32 0x00000000#32),
    unary main_cst_4 main_v23 (broadcastInDim S32x64 ![] bcast_S_S32x64 : Arr F S_ → Arr F S32x64),
    nullary main_cst_5 (constant S_ .f32 0x00000000#32),
    unary main_cst_5 main_v24 (broadcastInDim S32x64 ![] bcast_S_S32x64 : Arr F S_ → Arr F S32x64),
    reshape main_arg0 main_v25 rfl shapeCasts_S2048x512_S2048x32x16,
    unary main_v18 main_v26 (broadcastInDim S2048x32x16 ![0, 1, 2] bcast_S1x32x16_S2048x32x16_0_1_2 : Arr F S1x32x16 → Arr F S2048x32x16),
    binary main_v26 main_v25 main_v27 (mulf : Arr F S2048x32x16 → Arr F S2048x32x16 → Arr F S2048x32x16),
    binary main_v25 main_v1 main_v28 (mulf : Arr F S2048x32x16 → Arr F S2048x32x16 → Arr F S2048x32x16),
    nullary main_cst_6 (constant S_ .f32 0x00000000#32),
    binary main_v28 main_cst_6 main_v29 ((fun x v => Host.reduceAdd x v reducesTo_S2048x32x16_S32x16_d0 h_S_) : Arr F S2048x32x16 → Arr F S_ → Arr F S32x16),
    reshape main_v29 main_v30 rfl shapeCasts_S32x16_S1x32x16,
    nullary main_cst_7 (constant S_ .f32 0x00000000#32),
    binary main_v30 main_cst_7 main_v31 ((fun x v => Host.reduceAdd x v reducesTo_S1x32x16_S32x16_d0 h_S_) : Arr F S1x32x16 → Arr F S_ → Arr F S32x16),
    reshape main_v31 main_v32 rfl shapeCasts_S32x16_S1x512,
    unary main_v25 main_v33 (Host.negf : Arr F S2048x32x16 → Arr F S2048x32x16),
    unary main_v33 main_v34 ((transpose S32x2048x16 [1, 0, 2] · transposes_S2048x32x16_S32x2048x16_1_0_2) : Arr F S2048x32x16 → Arr F S32x2048x16),
    binary main_v34 main_v11_8 main_v35 ((fun l r => Host.dotGeneral dot_S32x2048x16_S2048x32x64_S32x16x64_1_0_2_2_0_1 none l r) : Arr F S32x2048x16 → Arr F S2048x32x64 → Arr F S32x16x64),
    binary main_v34 main_arg7 main_v36 ((fun l r => Host.dotGeneral dot_S32x2048x16_S32x16x64_S32x2048x64_2_1_1_2_0_0 none l r) : Arr F S32x2048x16 → Arr F S32x16x64 → Arr F S32x2048x64),
    unary main_v36 main_v37 ((transpose S2048x32x64 [1, 0, 2] · transposes_S32x2048x64_S2048x32x64_1_0_2) : Arr F S32x2048x64 → Arr F S2048x32x64),
    unary main_v25 main_v38 ((transpose S32x2048x16 [1, 0, 2] · transposes_S2048x32x16_S32x2048x16_1_0_2) : Arr F S2048x32x16 → Arr F S32x2048x16) ]
theorem midOpsA_sub : (midOpsA : Ops F).Forall fun op => op.bufs ⊆ tcRefs τ sig :=
  ⟨binary_bufs_sub .., unary_bufs_sub .., binary_bufs_sub .., unary_bufs_sub .., binary_bufs_sub .., reshape_bufs_sub .., unary_bufs_sub .., unary_bufs_sub .., binary_bufs_sub .., binary_bufs_sub .., reshape_bufs_sub .., nullary_bufs_sub .., unary_bufs_sub .., nullary_bufs_sub .., unary_bufs_sub .., reshape_bufs_sub .., unary_bufs_sub .., binary_bufs_sub .., binary_bufs_sub .., nullary_bufs_sub .., binary_bufs_sub .., reshape_bufs_sub .., nullary_bufs_sub .., binary_bufs_sub .., reshape_bufs_sub .., unary_bufs_sub .., unary_bufs_sub .., binary_bufs_sub .., binary_bufs_sub .., unary_bufs_sub .., unary_bufs_sub ..⟩
theorem midOpsA_fresh : (midOpsA : Ops F).Forall fun op => op.fresh = ∅ :=
  forall_fresh_of_map rfl

/-- Between the loops, continued: the carried values of the backward loop. -/
abbrev midOpsB : Ops F :=
  [ binary main_v38 main_v11_7 main_v39 ((fun l r => Host.dotGeneral dot_S32x2048x16_S2048x32x64_S32x16x64_1_0_2_2_0_1 none l r) : Arr F S32x2048x16 → Arr F S2048x32x64 → Arr F S32x16x64),
    binary main_v38 main_arg6 main_v40 ((fun l r => Host.dotGeneral dot_S32x2048x16_S32x16x64_S32x2048x64_2_1_1_2_0_0 none l r) : Arr F S32x2048x16 → Arr F S32x16x64 → Arr F S32x2048x64),
    unary main_v40 main_v41 ((transpose S2048x32x64 [1, 0, 2] · transposes_S32x2048x64_S2048x32x64_1_0_2) : Arr F S32x2048x64 → Arr F S2048x32x64),
    nullary main_cst_8 (constant S_ .f32 0x00000000#32),
    unary main_cst_8 main_v42 (broadcastInDim S32x64 ![] bcast_S_S32x64 : Arr F S_ → Arr F S32x64),
    nullary main_cst_9 (constant S_ .f32 0x00000000#32),
    unary main_cst_9 main_v43 (broadcastInDim S32x64 ![] bcast_S_S32x64 : Arr F S_ → Arr F S32x64),
    nullary main_cst_10 (constant S_ .f32 0x00000000#32),
    unary main_cst_10 main_v44 (broadcastInDim S32x64 ![] bcast_S_S32x64 : Arr F S_ → Arr F S32x64),
    nullary main_cst_11 (constant S_ .f32 0x00000000#32),
    unary main_cst_11 main_v45 (broadcastInDim S32x64 ![] bcast_S_S32x64 : Arr F S_ → Arr F S32x64),
    nullary main_cst_12 (constant S_ .f32 0x00000000#32),
    unary main_cst_12 main_v46 (broadcastInDim S2048x32x64 ![] bcast_S_S2048x32x64 : Arr F S_ → Arr F S2048x32x64),
    nullary main_cst_13 (constant S_ .f32 0x00000000#32),
    unary main_cst_13 main_v47 (broadcastInDim S2048x32x64 ![] bcast_S_S2048x32x64 : Arr F S_ → Arr F S2048x32x64),
    nullary main_c_14 (constantI S_ 32 0#32),
    unary main_v41 main_v48_0 id,
    unary main_v37 main_v48_1 id,
    unary main_v11_9 main_v48_2 id,
    unary main_v11_10 main_v48_3 id,
    unary main_arg2 main_v48_4 id,
    unary main_arg3 main_v48_5 id,
    unary main_c_14 main_v48_6 id,
    unary main_v44 main_v48_7 id,
    unary main_v45 main_v48_8 id,
    unary main_v42 main_v48_9 id,
    unary main_v43 main_v48_10 id,
    unary main_v46 main_v48_11 id,
    unary main_v47 main_v48_12 id ]
theorem midOpsB_sub : (midOpsB : Ops F).Forall fun op => op.bufs ⊆ tcRefs τ sig :=
  ⟨binary_bufs_sub .., binary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem midOpsB_fresh : (midOpsB : Ops F).Forall fun op => op.fresh = ∅ :=
  forall_fresh_of_map rfl

/-- After the backward loop: the gradients of the input map, and the assembled row. -/
abbrev postOps : Ops F :=
  [ unary main_v48_12 main_v49 ((transpose S32x2048x64 [1, 0, 2] · transposes_S2048x32x64_S32x2048x64_1_0_2) : Arr F S2048x32x64 → Arr F S32x2048x64),
    binary main_v49 main_v1 main_v50 ((fun l r => Host.dotGeneral dot_S32x2048x64_S2048x32x16_S32x64x16_1_0_2_2_0_1 none l r) : Arr F S32x2048x64 → Arr F S2048x32x16 → Arr F S32x64x16),
    unary main_v50 main_v51 ((transpose S32x16x64 [0, 2, 1] · transposes_S32x64x16_S32x16x64_0_2_1) : Arr F S32x64x16 → Arr F S32x16x64),
    binary main_v49 main_arg5 main_v52 ((fun l r => Host.dotGeneral dot_S32x2048x64_S32x16x64_S32x2048x16_2_2_1_1_0_0 none l r) : Arr F S32x2048x64 → Arr F S32x16x64 → Arr F S32x2048x16),
    unary main_v52 main_v53 ((transpose S2048x32x16 [1, 0, 2] · transposes_S32x2048x16_S2048x32x16_1_0_2) : Arr F S32x2048x16 → Arr F S2048x32x16),
    binary main_v27 main_v53 main_v54 (addf : Arr F S2048x32x16 → Arr F S2048x32x16 → Arr F S2048x32x16),
    unary main_v48_11 main_v55 ((transpose S32x2048x64 [1, 0, 2] · transposes_S2048x32x64_S32x2048x64_1_0_2) : Arr F S2048x32x64 → Arr F S32x2048x64),
    binary main_v55 main_v1 main_v56 ((fun l r => Host.dotGeneral dot_S32x2048x64_S2048x32x16_S32x64x16_1_0_2_2_0_1 none l r) : Arr F S32x2048x64 → Arr F S2048x32x16 → Arr F S32x64x16),
    unary main_v56 main_v57 ((transpose S32x16x64 [0, 2, 1] · transposes_S32x64x16_S32x16x64_0_2_1) : Arr F S32x64x16 → Arr F S32x16x64),
    binary main_v55 main_arg4 main_v58 ((fun l r => Host.dotGeneral dot_S32x2048x64_S32x16x64_S32x2048x16_2_2_1_1_0_0 none l r) : Arr F S32x2048x64 → Arr F S32x16x64 → Arr F S32x2048x16),
    unary main_v58 main_v59 ((transpose S2048x32x16 [1, 0, 2] · transposes_S32x2048x16_S2048x32x16_1_0_2) : Arr F S32x2048x16 → Arr F S2048x32x16),
    binary main_v54 main_v59 main_v60 (addf : Arr F S2048x32x16 → Arr F S2048x32x16 → Arr F S2048x32x16),
    reshape main_v60 main_v61 rfl shapeCasts_S2048x32x16_S2048x512,
    unary main_arg9 main_v62 ((extractStridedSlice S2048x4608 ![0, 0] · slices_S2048x7168_S2048x4608_0_0) : (⟨S2048x7168, .bf16⟩ : BufTy).Contents (Elt F) → (⟨S2048x4608, .bf16⟩ : BufTy).Contents (Elt F)),
    unary main_v61 main_v63 ((truncf .bf16 · bitsLt_bf16_f32) : Arr F S2048x512 → (⟨S2048x512, .bf16⟩ : BufTy).Contents (Elt F)),
    unary main_arg9 main_v64 ((extractStridedSlice S2048x2048 ![0, 5120] · slices_S2048x7168_S2048x2048_0_5120) : (⟨S2048x7168, .bf16⟩ : BufTy).Contents (Elt F) → (⟨S2048x2048, .bf16⟩ : BufTy).Contents (Elt F)),
    StableHlo.nary ![main_v62, main_v63, main_v64] main_v65 (fun u => (concatenate S2048x7168 1 [⟨S2048x4608, (u 0 : (⟨S2048x4608, .bf16⟩ : BufTy).Contents (Elt F))⟩, ⟨S2048x512, (u 1 : (⟨S2048x512, .bf16⟩ : BufTy).Contents (Elt F))⟩, ⟨S2048x2048, (u 2 : (⟨S2048x2048, .bf16⟩ : BufTy).Contents (Elt F))⟩] concatenates_S2048x4608_S2048x512_S2048x2048_S2048x7168_d1 : (⟨S2048x7168, .bf16⟩ : BufTy).Contents (Elt F))) ]
theorem postOps_sub : (postOps : Ops F).Forall fun op => op.bufs ⊆ tcRefs τ sig :=
  ⟨unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., reshape_bufs_sub .., unary_bufs_sub .., unary_bufs_sub .., unary_bufs_sub .., StableHlo.nary_bufs_sub ..⟩
theorem postOps_fresh : (postOps : Ops F).Forall fun op => op.fresh = ∅ :=
  forall_fresh_of_map rfl

/-- Operations of one trip. -/
abbrev fwdOps0 : Ops F :=
  [ binary main_v11_2 main_v11_5 main_while0b_v68 (mulf : Arr F S32x64 → Arr F S32x64 → Arr F S32x64),
    binary main_v11_3 main_v11_6 main_while0b_v69 (mulf : Arr F S32x64 → Arr F S32x64 → Arr F S32x64),
    binary main_while0b_v68 main_while0b_v69 main_while0b_v70 (subf : Arr F S32x64 → Arr F S32x64 → Arr F S32x64),
    binary main_while0b_v70 main_while0b_v66 main_while0b_v71 (addf : Arr F S32x64 → Arr F S32x64 → Arr F S32x64),
    binary main_v11_2 main_v11_6 main_while0b_v72 (mulf : Arr F S32x64 → Arr F S32x64 → Arr F S32x64),
    binary main_v11_3 main_v11_5 main_while0b_v73 (mulf : Arr F S32x64 → Arr F S32x64 → Arr F S32x64),
    binary main_while0b_v72 main_while0b_v73 main_while0b_v74 (addf : Arr F S32x64 → Arr F S32x64 → Arr F S32x64),
    binary main_while0b_v74 main_while0b_v67 main_while0b_v75 (addf : Arr F S32x64 → Arr F S32x64 → Arr F S32x64) ]
theorem fwdOps0_sub : (fwdOps0 : Ops F).Forall fun op => op.bufs ⊆ tcRefs τ sig :=
  ⟨binary_bufs_sub .., binary_bufs_sub .., binary_bufs_sub .., binary_bufs_sub .., binary_bufs_sub .., binary_bufs_sub .., binary_bufs_sub .., binary_bufs_sub ..⟩
theorem fwdOps0_fresh : (fwdOps0 : Ops F).Forall fun op => op.fresh = ∅ :=
  forall_fresh_of_map rfl

/-- Operations of one trip. -/
abbrev fwdOps1 : Ops F :=
  [ nullary main_while0b_c_25 (constantI S_ 32 1#32),
    binary main_v11_4 main_while0b_c_25 main_while0b_v80 (addi : (⟨S_, .i32⟩ : BufTy).Contents (Elt F) → (⟨S_, .i32⟩ : BufTy).Contents (Elt F) → (⟨S_, .i32⟩ : BufTy).Contents (Elt F)),
    unary main_while0b_v80 main_v11_4 id,
    unary main_while0b_v71 main_v11_5 id,
    unary main_while0b_v75 main_v11_6 id,
    unary main_while0b_v76 main_v11_7 id,
    unary main_while0b_v77 main_v11_8 id,
    unary main_while0b_v78 main_v11_9 id,
    unary main_while0b_v79 main_v11_10 id ]
theorem fwdOps1_sub : (fwdOps1 : Ops F).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩
theorem fwdOps1_fresh : (fwdOps1 : Ops F).Forall fun op => op.fresh = ∅ :=
  forall_fresh_of_map rfl

/-- Operations of one trip. -/
abbrev bwdOps0 : Ops F :=
  [ nullary main_while1b_c_27 (constantI S_ 32 2048#32),
    binary main_while1b_c_27 main_v48_6 main_while1b_v66 (subi : (⟨S_, .i32⟩ : BufTy).Contents (Elt F) → (⟨S_, .i32⟩ : BufTy).Contents (Elt F) → (⟨S_, .i32⟩ : BufTy).Contents (Elt F)),
    nullary main_while1b_c_28 (constantI S_ 32 1#32),
    binary main_while1b_v66 main_while1b_c_28 main_while1b_v67 (subi : (⟨S_, .i32⟩ : BufTy).Contents (Elt F) → (⟨S_, .i32⟩ : BufTy).Contents (Elt F) → (⟨S_, .i32⟩ : BufTy).Contents (Elt F)) ]
theorem bwdOps0_sub : (bwdOps0 : Ops F).Forall fun op => op.bufs ⊆ tcRefs τ sig :=
  ⟨nullary_bufs_sub .., binary_bufs_sub .., nullary_bufs_sub .., binary_bufs_sub ..⟩
theorem bwdOps0_fresh : (bwdOps0 : Ops F).Forall fun op => op.fresh = ∅ :=
  forall_fresh_of_map rfl

/-- Operations of one trip. -/
abbrev bwdOps1 : Ops F :=
  [ binary main_v48_9 main_while1b_v68 main_while1b_v72 (addf : Arr F S32x64 → Arr F S32x64 → Arr F S32x64),
    binary main_v48_10 main_while1b_v69 main_while1b_v73 (addf : Arr F S32x64 → Arr F S32x64 → Arr F S32x64),
    binary main_v48_5 main_while1b_v73 main_while1b_v74 (mulf : Arr F S32x64 → Arr F S32x64 → Arr F S32x64),
    binary main_while1b_v73 main_while1b_v70 main_while1b_v75 (mulf : Arr F S32x64 → Arr F S32x64 → Arr F S32x64),
    binary main_v48_8 main_while1b_v75 main_while1b_v76 (addf : Arr F S32x64 → Arr F S32x64 → Arr F S32x64),
    binary main_v48_4 main_while1b_v73 main_while1b_v77 (mulf : Arr F S32x64 → Arr F S32x64 → Arr F S32x64),
    binary main_while1b_v73 main_while1b_v71 main_while1b_v78 (mulf : Arr F S32x64 → Arr F S32x64 → Arr F S32x64),
    binary main_v48_7 main_while1b_v78 main_while1b_v79 (addf : Arr F S32x64 → Arr F S32x64 → Arr F S32x64),
    unary main_while1b_v72 main_while1b_v80 (Host.negf : Arr F S32x64 → Arr F S32x64),
    binary main_v48_5 main_while1b_v80 main_while1b_v81 (mulf : Arr F S32x64 → Arr F S32x64 → Arr F S32x64),
    binary main_while1b_v77 main_while1b_v81 main_while1b_v82 (addf : Arr F S32x64 → Arr F S32x64 → Arr F S32x64),
    binary main_while1b_v80 main_while1b_v71 main_while1b_v83 (mulf : Arr F S32x64 → Arr F S32x64 → Arr F S32x64),
    binary main_while1b_v76 main_while1b_v83 main_while1b_v84 (addf : Arr F S32x64 → Arr F S32x64 → Arr F S32x64),
    binary main_v48_4 main_while1b_v72 main_while1b_v85 (mulf : Arr F S32x64 → Arr F S32x64 → Arr F S32x64),
    binary main_while1b_v74 main_while1b_v85 main_while1b_v86 (addf : Arr F S32x64 → Arr F S32x64 → Arr F S32x64),
    binary main_while1b_v72 main_while1b_v70 main_while1b_v87 (mulf : Arr F S32x64 → Arr F S32x64 → Arr F S32x64),
    binary main_while1b_v79 main_while1b_v87 main_while1b_v88 (addf : Arr F S32x64 → Arr F S32x64 → Arr F S32x64) ]
theorem bwdOps1_sub : (bwdOps1 : Ops F).Forall fun op => op.bufs ⊆ tcRefs τ sig :=
  ⟨binary_bufs_sub .., binary_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub ..⟩
theorem bwdOps1_fresh : (bwdOps1 : Ops F).Forall fun op => op.fresh = ∅ :=
  forall_fresh_of_map rfl

/-- Operations of one trip. -/
abbrev bwdOps2 : Ops F :=
  [ nullary main_while1b_c_29 (constantI S_ 32 1#32),
    binary main_v48_6 main_while1b_c_29 main_while1b_v91 (addi : (⟨S_, .i32⟩ : BufTy).Contents (Elt F) → (⟨S_, .i32⟩ : BufTy).Contents (Elt F) → (⟨S_, .i32⟩ : BufTy).Contents (Elt F)),
    unary main_while1b_v91 main_v48_6 id,
    unary main_while1b_v88 main_v48_7 id,
    unary main_while1b_v84 main_v48_8 id,
    unary main_while1b_v86 main_v48_9 id,
    unary main_while1b_v82 main_v48_10 id,
    unary main_while1b_v89 main_v48_11 id,
    unary main_while1b_v90 main_v48_12 id ]
theorem bwdOps2_sub : (bwdOps2 : Ops F).Forall fun op => op.bufs ⊆ tcRefs τ sig :=
  ⟨nullary_bufs_sub .., binary_bufs_sub .., unary_bufs_sub .., unary_bufs_sub .., unary_bufs_sub .., unary_bufs_sub .., unary_bufs_sub .., unary_bufs_sub .., unary_bufs_sub ..⟩
theorem bwdOps2_fresh : (bwdOps2 : Ops F).Forall fun op => op.fresh = ∅ :=
  forall_fresh_of_map rfl

/-- The condition: the counter compared with the number of rows. -/
abbrev fwdCond : Ops F :=
  [ nullary main_while0c_c_25 (constantI S_ 32 2048#32),
    binary main_v11_4 main_while0c_c_25 main_while0c_v66 (cmpi .slt : (⟨S_, .i32⟩ : BufTy).Contents (Elt F) → (⟨S_, .i32⟩ : BufTy).Contents (Elt F) → (⟨S_, .i1⟩ : BufTy).Contents (Elt F)) ]
theorem fwdCond_sub : (fwdCond : Ops F).Forall fun op => op.bufs ⊆ tcRefs τ sig :=
  ⟨nullary_bufs_sub .., binary_bufs_sub ..⟩
theorem fwdCond_fresh : (fwdCond : Ops F).Forall fun op => op.fresh = ∅ :=
  forall_fresh_of_map rfl

/-- The condition: the counter compared with the number of rows. -/
abbrev bwdCond : Ops F :=
  [ nullary main_while1c_c_27 (constantI S_ 32 2048#32),
    binary main_v48_6 main_while1c_c_27 main_while1c_v66 (cmpi .slt : (⟨S_, .i32⟩ : BufTy).Contents (Elt F) → (⟨S_, .i32⟩ : BufTy).Contents (Elt F) → (⟨S_, .i1⟩ : BufTy).Contents (Elt F)) ]
theorem bwdCond_sub : (bwdCond : Ops F).Forall fun op => op.bufs ⊆ tcRefs τ sig :=
  ⟨nullary_bufs_sub .., binary_bufs_sub ..⟩
theorem bwdCond_fresh : (bwdCond : Ops F).Forall fun op => op.fresh = ∅ :=
  forall_fresh_of_map rfl

/-- One trip of the forward loop, as its stretches. -/
abbrev fwdBody : List (List (HloOp τ sig (Elt F))) :=
  [ readOps (.of main_v11_0) (.of main_v11_4) main_while0b_call0,
    readOps (.of main_v11_1) (.of main_v11_4) main_while0b_call1,
    fwdOps0,
    writeOps (.of main_v11_7) (.of main_while0b_v71) (.of main_v11_4) main_while0b_call2,
    writeOps (.of main_v11_8) (.of main_while0b_v75) (.of main_v11_4) main_while0b_call3,
    writeOps (.of main_v11_9) (.of main_v11_5) (.of main_v11_4) main_while0b_call4,
    writeOps (.of main_v11_10) (.of main_v11_6) (.of main_v11_4) main_while0b_call5,
    fwdOps1 ]
theorem fwdBody_plain : Plain (fwdBody (F := F)) :=
  .cons (readOps_sub ..) (hf := List.forall_iff_forall_mem.mp (readOps_fresh ..))
  <| .cons (readOps_sub ..) (hf := List.forall_iff_forall_mem.mp (readOps_fresh ..))
  <| .cons fwdOps0_sub (hf := List.forall_iff_forall_mem.mp fwdOps0_fresh)
  <| .cons (writeOps_sub ..) (hf := List.forall_iff_forall_mem.mp (writeOps_fresh ..))
  <| .cons (writeOps_sub ..) (hf := List.forall_iff_forall_mem.mp (writeOps_fresh ..))
  <| .cons (writeOps_sub ..) (hf := List.forall_iff_forall_mem.mp (writeOps_fresh ..))
  <| .cons (writeOps_sub ..) (hf := List.forall_iff_forall_mem.mp (writeOps_fresh ..))
  <| .cons fwdOps1_sub (hf := List.forall_iff_forall_mem.mp fwdOps1_fresh) .nil

/-- One trip of the backward loop, as its stretches. -/
abbrev bwdBody : List (List (HloOp τ sig (Elt F))) :=
  [ bwdOps0,
    readOps (.of main_v48_0) (.of main_while1b_v67) main_while1b_call6,
    readOps (.of main_v48_1) (.of main_while1b_v67) main_while1b_call7,
    readOps (.of main_v48_2) (.of main_while1b_v67) main_while1b_call8,
    readOps (.of main_v48_3) (.of main_while1b_v67) main_while1b_call9,
    bwdOps1,
    writeOps (.of main_v48_11) (.of main_while1b_v72) (.of main_while1b_v67) main_while1b_call10,
    writeOps (.of main_v48_12) (.of main_while1b_v73) (.of main_while1b_v67) main_while1b_call11,
    bwdOps2 ]
theorem bwdBody_plain : Plain (bwdBody (F := F)) :=
  .cons bwdOps0_sub (hf := List.forall_iff_forall_mem.mp bwdOps0_fresh)
  <| .cons (readOps_sub ..) (hf := List.forall_iff_forall_mem.mp (readOps_fresh ..))
  <| .cons (readOps_sub ..) (hf := List.forall_iff_forall_mem.mp (readOps_fresh ..))
  <| .cons (readOps_sub ..) (hf := List.forall_iff_forall_mem.mp (readOps_fresh ..))
  <| .cons (readOps_sub ..) (hf := List.forall_iff_forall_mem.mp (readOps_fresh ..))
  <| .cons bwdOps1_sub (hf := List.forall_iff_forall_mem.mp bwdOps1_fresh)
  <| .cons (writeOps_sub ..) (hf := List.forall_iff_forall_mem.mp (writeOps_fresh ..))
  <| .cons (writeOps_sub ..) (hf := List.forall_iff_forall_mem.mp (writeOps_fresh ..))
  <| .cons bwdOps2_sub (hf := List.forall_iff_forall_mem.mp bwdOps2_fresh) .nil

/-- The stretches of @main, before the loops. -/
abbrev preI : List (List (HloOp τ sig (Elt F))) := [preOps]
theorem preI_plain : Plain (preI (F := F)) := .cons preOps_sub (hf := List.forall_iff_forall_mem.mp preOps_fresh) .nil

/-- The stretches of @main, between the loops. -/
abbrev midI : List (List (HloOp τ sig (Elt F))) := [midOpsA, midOpsB]
theorem midI_plain : Plain (midI (F := F)) := .cons midOpsA_sub (hf := List.forall_iff_forall_mem.mp midOpsA_fresh) <| .cons midOpsB_sub (hf := List.forall_iff_forall_mem.mp midOpsB_fresh) .nil

/-- The stretches of @main, after the loops. -/
abbrev postI : List (List (HloOp τ sig (Elt F))) := [postOps]
theorem postI_plain : Plain (postI (F := F)) := .cons postOps_sub (hf := List.forall_iff_forall_mem.mp postOps_fresh) .nil

/-- The two loops. -/
abbrev fwdLoop : Counted τ sig F := ⟨fwdCond, fwdBody, 2048⟩
abbrev bwdLoop : Counted τ sig F := ⟨bwdCond, bwdBody, 2048⟩

/-! ## The program is the chain of these lists -/

theorem part0_chain (c : Dev nD) : main_part0 (F := F) c = (Pipeline.chain
    [ seq preOps, HostLoop.enter 0, seq midOpsA ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

theorem part1_chain (c : Dev nD) : main_part1 (F := F) c = (Pipeline.chain
    [ seq midOpsB, HostLoop.enter 1, seq postOps ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

theorem main_chain (c : Dev nD) : main (F := F) c = (Pipeline.chain
    [ seq preOps, HostLoop.enter 0, seq midOpsA, seq midOpsB, HostLoop.enter 1, seq postOps ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rw [part0_chain, part1_chain]
  simp only [Pipeline.chain_cons, Pipeline.chain_nil, bind_assoc, pure_bind]

theorem fwdBody_chain : main_while0_body (F := F) = (Pipeline.chain
    (frags (pcfgs (F := F)) fwdBody) : Prog (TpuEff nD τ sig (Elt F) (HostLoop.Sig (Pipeline.Sig Λ₀ (Fin 0) fun p => (pcfgs (F := F) p).Adm) 2) .tc) PUnit) := by
  show _ = Pipeline.chain [ seq (readOps (.of main_v11_0) (.of main_v11_4) main_while0b_call0), seq (readOps (.of main_v11_1) (.of main_v11_4) main_while0b_call1), seq fwdOps0, seq (writeOps (.of main_v11_7) (.of main_while0b_v71) (.of main_v11_4) main_while0b_call2), seq (writeOps (.of main_v11_8) (.of main_while0b_v75) (.of main_v11_4) main_while0b_call3), seq (writeOps (.of main_v11_9) (.of main_v11_5) (.of main_v11_4) main_while0b_call4), seq (writeOps (.of main_v11_10) (.of main_v11_6) (.of main_v11_4) main_while0b_call5), seq fwdOps1 ]
  rewrite [Pipeline.chain_cons, Pipeline.chain_cons, chain_seq_cons, Pipeline.chain_cons, Pipeline.chain_cons, Pipeline.chain_cons, Pipeline.chain_cons, chain_seq_cons]
  chain_rfl

theorem bwdBody_chain : main_while1_body (F := F) = (Pipeline.chain
    (frags (pcfgs (F := F)) bwdBody) : Prog (TpuEff nD τ sig (Elt F) (HostLoop.Sig (Pipeline.Sig Λ₀ (Fin 0) fun p => (pcfgs (F := F) p).Adm) 2) .tc) PUnit) := by
  show _ = Pipeline.chain [ seq bwdOps0, seq (readOps (.of main_v48_0) (.of main_while1b_v67) main_while1b_call6), seq (readOps (.of main_v48_1) (.of main_while1b_v67) main_while1b_call7), seq (readOps (.of main_v48_2) (.of main_while1b_v67) main_while1b_call8), seq (readOps (.of main_v48_3) (.of main_while1b_v67) main_while1b_call9), seq bwdOps1, seq (writeOps (.of main_v48_11) (.of main_while1b_v72) (.of main_while1b_v67) main_while1b_call10), seq (writeOps (.of main_v48_12) (.of main_while1b_v73) (.of main_while1b_v67) main_while1b_call11), seq bwdOps2 ]
  rewrite [chain_seq_cons, Pipeline.chain_cons, Pipeline.chain_cons, Pipeline.chain_cons, Pipeline.chain_cons, chain_seq_cons, Pipeline.chain_cons, Pipeline.chain_cons, chain_seq_cons]
  chain_rfl

end Cert.ReferenceIdeal.Run

end
-- ==== Proof.RefRun.lean ====
/-
  The reference program's run: every buffer ends at what the lists of `RefOps` leave in it. The arguments are written by
  none of them, and the machine has no semaphore, so the program's frame follows.
-/
module

public import proofs.«01_k».proof.Proof.RefOps

@[expose] public section

set_option maxRecDepth 100000

noncomputable section

namespace Cert.ReferenceIdeal.Run

open Cert.ReferenceIdeal Cert.ReferenceIdeal.Gen Cert.TwoLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## What the stretches write -/

/-- Stretches one after another are one list. -/
theorem afterL_flatten (L : List (List (HloOp τ sig (Elt F)))) (V : Valuation τ sig (Elt F)) : afterL L V = after L.flatten V := by
  induction L generalizing V with
  | nil => rfl
  | cons l L ih => rw [afterL_cons, ih, List.flatten_cons, after_append]

/-- A buffer no stretch writes keeps its contents. -/
theorem afterL_keeps {L : List (List (HloOp τ sig (Elt F)))} (W : List (Ref sig .tc)) {r : Ref sig .tc}
    (h : L.flatten.map HloOp.writes = W.map fun r => {Proc.devRef (τ := τ) .tc r}) (hr : r ∉ W) (V : Valuation τ sig (Elt F)) :
    afterL L V (Proc.devRef .tc r) = V (Proc.devRef .tc r) :=
  (congrFun (afterL_flatten L V) _).trans (after_of_writes_sub _ V (forall_writes_sub_of_map h) hr)

/-- The buffers written before the loops. -/
abbrev preW : List (Ref sig .tc) :=
  [main_v0, main_v1, main_v2, main_v3, main_v4, main_v5, main_cst, main_v6, main_cst_0, main_v7, main_cst_1, main_v8, main_cst_2, main_v9, main_cst_3, main_v10, main_c, main_v11_0, main_v11_1, main_v11_2, main_v11_3, main_v11_4, main_v11_5, main_v11_6, main_v11_7, main_v11_8, main_v11_9, main_v11_10]
theorem preW_eq : (List.flatten (preI : List (List (HloOp τ sig (Elt F))))).map HloOp.writes = preW.map fun r => {Proc.devRef (τ := τ) .tc r} := rfl

/-- The buffers written in one trip of the forward loop, its condition first. -/
abbrev fwdW : List (Ref sig .tc) :=
  [main_while0c_c_25, main_while0c_v66, main_while0b_call0_c, main_while0b_call0_c_0, main_while0b_call0_v0, main_while0b_v66, main_while0b_call1_c, main_while0b_call1_c_0, main_while0b_call1_v0, main_while0b_v67, main_while0b_v68, main_while0b_v69, main_while0b_v70, main_while0b_v71, main_while0b_v72, main_while0b_v73, main_while0b_v74, main_while0b_v75, main_while0b_call2_v0, main_while0b_call2_c, main_while0b_call2_c_0, main_while0b_v76, main_while0b_call3_v0, main_while0b_call3_c, main_while0b_call3_c_0, main_while0b_v77, main_while0b_call4_v0, main_while0b_call4_c, main_while0b_call4_c_0, main_while0b_v78, main_while0b_call5_v0, main_while0b_call5_c, main_while0b_call5_c_0, main_while0b_v79, main_while0b_c_25, main_while0b_v80, main_v11_4, main_v11_5, main_v11_6, main_v11_7, main_v11_8, main_v11_9, main_v11_10]
theorem fwdW_eq : (List.flatten ((fwdCond :: fwdBody) : List (List (HloOp τ sig (Elt F))))).map HloOp.writes = fwdW.map fun r => {Proc.devRef (τ := τ) .tc r} := rfl

/-- The buffers written between the loops. -/
abbrev midW : List (Ref sig .tc) :=
  [main_v12, main_v13, main_v14, main_v15, main_v16, main_v17, main_v18, main_v19, main_v20, main_v21, main_v22, main_cst_4, main_v23, main_cst_5, main_v24, main_v25, main_v26, main_v27, main_v28, main_cst_6, main_v29, main_v30, main_cst_7, main_v31, main_v32, main_v33, main_v34, main_v35, main_v36, main_v37, main_v38, main_v39, main_v40, main_v41, main_cst_8, main_v42, main_cst_9, main_v43, main_cst_10, main_v44, main_cst_11, main_v45, main_cst_12, main_v46, main_cst_13, main_v47, main_c_14, main_v48_0, main_v48_1, main_v48_2, main_v48_3, main_v48_4, main_v48_5, main_v48_6, main_v48_7, main_v48_8, main_v48_9, main_v48_10, main_v48_11, main_v48_12]
theorem midW_eq : (List.flatten (midI : List (List (HloOp τ sig (Elt F))))).map HloOp.writes = midW.map fun r => {Proc.devRef (τ := τ) .tc r} := rfl

/-- The buffers written in one trip of the backward loop, its condition first. -/
abbrev bwdW : List (Ref sig .tc) :=
  [main_while1c_c_27, main_while1c_v66, main_while1b_c_27, main_while1b_v66, main_while1b_c_28, main_while1b_v67, main_while1b_call6_c, main_while1b_call6_c_0, main_while1b_call6_v0, main_while1b_v68, main_while1b_call7_c, main_while1b_call7_c_0, main_while1b_call7_v0, main_while1b_v69, main_while1b_call8_c, main_while1b_call8_c_0, main_while1b_call8_v0, main_while1b_v70, main_while1b_call9_c, main_while1b_call9_c_0, main_while1b_call9_v0, main_while1b_v71, main_while1b_v72, main_while1b_v73, main_while1b_v74, main_while1b_v75, main_while1b_v76, main_while1b_v77, main_while1b_v78, main_while1b_v79, main_while1b_v80, main_while1b_v81, main_while1b_v82, main_while1b_v83, main_while1b_v84, main_while1b_v85, main_while1b_v86, main_while1b_v87, main_while1b_v88, main_while1b_call10_v0, main_while1b_call10_c, main_while1b_call10_c_0, main_while1b_v89, main_while1b_call11_v0, main_while1b_call11_c, main_while1b_call11_c_0, main_while1b_v90, main_while1b_c_29, main_while1b_v91, main_v48_6, main_v48_7, main_v48_8, main_v48_9, main_v48_10, main_v48_11, main_v48_12]
theorem bwdW_eq : (List.flatten ((bwdCond :: bwdBody) : List (List (HloOp τ sig (Elt F))))).map HloOp.writes = bwdW.map fun r => {Proc.devRef (τ := τ) .tc r} := rfl

/-- The buffers written after the loops. -/
abbrev postW : List (Ref sig .tc) :=
  [main_v49, main_v50, main_v51, main_v52, main_v53, main_v54, main_v55, main_v56, main_v57, main_v58, main_v59, main_v60, main_v61, main_v62, main_v63, main_v64, main_v65]
theorem postW_eq : (List.flatten (postI : List (List (HloOp τ sig (Elt F))))).map HloOp.writes = postW.map fun r => {Proc.devRef (τ := τ) .tc r} := rfl

/-- A buffer a loop's trip does not write is unchanged through the loop. -/
theorem atTrip_keeps {ℓ : Counted τ sig F} (W : List (Ref sig .tc)) {r : Ref sig .tc}
    (h : (List.flatten (ℓ.cond :: ℓ.body)).map HloOp.writes = W.map fun r => {Proc.devRef (τ := τ) .tc r}) (hr : r ∉ W)
    (V : Dev nD → Valuation τ sig (Elt F)) (c : Dev nD) : ∀ k, atTrip ℓ.cond ℓ.body V k c (Proc.devRef .tc r) = V c (Proc.devRef .tc r)
  | 0 => rfl
  | k + 1 => (afterL_keeps (L := ℓ.cond :: ℓ.body) W h hr (atTrip ℓ.cond ℓ.body V k c)).trans (atTrip_keeps W h hr V c k)

/-- A buffer no condition writes is, when the loop is left, what the last trip made it. -/
theorem leave_eq {ℓ : Counted τ sig F} (W : List (Ref sig .tc)) {r : Ref sig .tc}
    (h : ℓ.cond.map HloOp.writes = W.map fun r => {Proc.devRef (τ := τ) .tc r}) (hr : r ∉ W)
    (V : Dev nD → Valuation τ sig (Elt F)) (c : Dev nD) :
    ℓ.leave V c (Proc.devRef .tc r) = atTrip ℓ.cond ℓ.body V ℓ.trips c (Proc.devRef .tc r) :=
  after_of_writes_sub _ _ (forall_writes_sub_of_map h) hr

theorem leave_keeps {ℓ : Counted τ sig F} (W W' : List (Ref sig .tc)) {r : Ref sig .tc}
    (h : (List.flatten (ℓ.cond :: ℓ.body)).map HloOp.writes = W.map fun r => {Proc.devRef (τ := τ) .tc r}) (hr : r ∉ W)
    (h' : ℓ.cond.map HloOp.writes = W'.map fun r => {Proc.devRef (τ := τ) .tc r}) (hr' : r ∉ W')
    (V : Dev nD → Valuation τ sig (Elt F)) (c : Dev nD) : ℓ.leave V c (Proc.devRef .tc r) = V c (Proc.devRef .tc r) :=
  (leave_eq W' h' hr' V c).trans (atTrip_keeps W h hr V c _)

abbrev fwdCondW : List (Ref sig .tc) := [main_while0c_c_25, main_while0c_v66]
abbrev bwdCondW : List (Ref sig .tc) := [main_while1c_c_27, main_while1c_v66]
theorem fwdCondW_eq : (fwdCond : List (HloOp τ sig (Elt F))).map HloOp.writes = fwdCondW.map fun r => {Proc.devRef (τ := τ) .tc r} := rfl
theorem bwdCondW_eq : (bwdCond : List (HloOp τ sig (Elt F))).map HloOp.writes = bwdCondW.map fun r => {Proc.devRef (τ := τ) .tc r} := rfl

/-! ## The counters -/

section
variable (m : (ℓ : Loc nD τ sig) → Buf (Elt F) ℓ)

/-- The buffers where the loops are entered. -/
abbrev fwdEntry : Dev nD → Valuation τ sig (Elt F) := entryContents preI m
abbrev bwdEntry : Dev nD → Valuation τ sig (Elt F) := entry2 preI midI fwdLoop m
/-- The buffers before the `k`-th condition. -/
abbrev fwdAt (k : ℕ) (c : Dev nD) : Valuation τ sig (Elt F) := atTrip fwdCond fwdBody (fwdEntry m) k c
abbrev bwdAt (k : ℕ) (c : Dev nD) : Valuation τ sig (Elt F) := atTrip bwdCond bwdBody (bwdEntry m) k c

/-- One trip of the forward loop leaves the counter one step on. -/
theorem fwd_ctr_step (X : Valuation τ sig (Elt F)) :
    afterL fwdBody (after fwdCond X) (Proc.devRef .tc main_v11_4) = addi (X (Proc.devRef .tc main_v11_4)) (constantI S_ 32 1#32) := by
  simp only [afterL_cons, afterL_nil]
  after_reads_simp
  rfl

theorem fwd_ctr_entry (c : Dev nD) : fwdEntry m c (Proc.devRef .tc main_v11_4) = fun _ => (0#32 : BitVec 32) := by
  simp only [entryContents, afterL_cons, afterL_nil]
  after_reads_simp
  rfl

/-- Before the `k`-th condition the counter is `k`. -/
theorem fwd_ctr (c : Dev nD) : ∀ k, fwdAt m k c (Proc.devRef .tc main_v11_4) = fun _ => Scf.iv 0#32 1#32 k
  | 0 => by rw [show fwdAt m 0 c = fwdEntry m c from rfl, fwd_ctr_entry, Scf.iv_zero]
  | k + 1 => by
    rw [show fwdAt m (k + 1) c = afterL fwdBody (after fwdCond (fwdAt m k c)) from rfl, fwd_ctr_step, fwd_ctr c k, Scf.iv_succ]
    rfl

/-- One trip of the backward loop leaves the counter one step on. -/
theorem bwd_ctr_step (X : Valuation τ sig (Elt F)) :
    afterL bwdBody (after bwdCond X) (Proc.devRef .tc main_v48_6) = addi (X (Proc.devRef .tc main_v48_6)) (constantI S_ 32 1#32) := by
  simp only [afterL_cons, afterL_nil]
  after_reads_simp
  rfl

theorem bwd_ctr_entry (c : Dev nD) : bwdEntry m c (Proc.devRef .tc main_v48_6) = fun _ => (0#32 : BitVec 32) := by
  simp only [entry2, afterL_cons, afterL_nil]
  after_reads_simp
  rfl

/-- Before the `k`-th condition the counter is `k`. -/
theorem bwd_ctr (c : Dev nD) : ∀ k, bwdAt m k c (Proc.devRef .tc main_v48_6) = fun _ => Scf.iv 0#32 1#32 k
  | 0 => by rw [show bwdAt m 0 c = bwdEntry m c from rfl, bwd_ctr_entry, Scf.iv_zero]
  | k + 1 => by
    rw [show bwdAt m (k + 1) c = afterL bwdBody (after bwdCond (bwdAt m k c)) from rfl, bwd_ctr_step, bwd_ctr c k, Scf.iv_succ]
    rfl

/-! ## The conditions -/

set_option backward.isDefEq.respectTransparency.types false in
/-- The condition compares the counter with the number of rows, so it holds before the first 2048 trips. -/
theorem fwd_cond : CondSpec (pcfgs (F := F)) defs₀ loops (main_while0_cond (F := F)) fwdCond fwdBody (fwdEntry m) 2048 := by
  intro k hk c bd
  have hctr := fwd_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v11_4 HostLoop.idx0) (HloOp.result _ (fwdAt m k c) main_while0c_c_25 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

set_option backward.isDefEq.respectTransparency.types false in
/-- The condition compares the counter with the number of rows, so it holds before the first 2048 trips. -/
theorem bwd_cond : CondSpec (pcfgs (F := F)) defs₀ loops (main_while1_cond (F := F)) bwdCond bwdBody (bwdEntry m) 2048 := by
  intro k hk c bd
  have hctr := bwd_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v48_6 HostLoop.idx0) (HloOp.result _ (bwdAt m k c) main_while1c_c_27 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-! ## The run -/

/-- Every buffer at its contents at the program's end. -/
theorem run_fold (ρ : Dev nD → PrngReg) :
    θ_run (defs (F := F)) (onTc (τ := τ) (main (F := F))) ⟨m, fun _ => 0, ρ⟩ fun r =>
      ∀ (c : Dev nD) (b : Ref sig .tc), (Proc.devRef (τ := τ) .tc b).isScoped = false →
        r.2.mem ((c.tc : Thread nD τ).loc b) = contents2 preI midI postI fwdLoop bwdLoop m c (Proc.devRef .tc b) :=
  run_two_loops (pcfgs (F := F)) defs₀ loops main 0 1 main_while0_cond main_while1_cond main_while0_body main_while1_body rfl rfl
    preI midI postI fwdLoop bwdLoop preI_plain midI_plain postI_plain fwdBody_plain bwdBody_plain main_chain fwdBody_chain bwdBody_chain
    m ρ (fwd_cond m) (bwd_cond m)

/-- A buffer nothing writes holds its launch contents at the end. -/
theorem contents2_keeps {r : Ref sig .tc} (h : r ∉ preW ∧ r ∉ fwdW ∧ r ∉ fwdCondW ∧ r ∉ midW ∧ r ∉ bwdW ∧ r ∉ bwdCondW ∧ r ∉ postW) (c : Dev nD) :
    contents2 preI midI postI fwdLoop bwdLoop m c (Proc.devRef .tc r) = m ((c.tc : Thread nD τ).loc r) := by
  obtain ⟨h1, h2, h3, h4, h5, h6, h7⟩ := h
  unfold contents2
  rw [afterL_keeps postW postW_eq h7, leave_keeps bwdW bwdCondW bwdW_eq h5 bwdCondW_eq h6]
  unfold entry2
  rw [afterL_keeps midW midW_eq h4, leave_keeps fwdW fwdCondW fwdW_eq h2 fwdCondW_eq h3]
  exact afterL_keeps preW preW_eq h1 _

/-- The reference runs, its arguments unchanged and nothing in flight. -/
theorem frame (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run defs _ _).mono (fun r h => ⟨fun c =>
    ⟨(h c main_arg0 rfl).trans (contents2_keeps m (by decide) c),
      (h c main_arg1 rfl).trans (contents2_keeps m (by decide) c),
      (h c main_arg2 rfl).trans (contents2_keeps m (by decide) c),
      (h c main_arg3 rfl).trans (contents2_keeps m (by decide) c),
      (h c main_arg4 rfl).trans (contents2_keeps m (by decide) c),
      (h c main_arg5 rfl).trans (contents2_keeps m (by decide) c),
      (h c main_arg6 rfl).trans (contents2_keeps m (by decide) c),
      (h c main_arg7 rfl).trans (contents2_keeps m (by decide) c),
      (h c main_arg8 rfl).trans (contents2_keeps m (by decide) c),
      (h c main_arg9 rfl).trans (contents2_keeps m (by decide) c)⟩,
    sem_eq_zero_of_no_sems (by decide) r.2⟩) (run_fold m ρ)

end

end Cert.ReferenceIdeal.Run

end
-- ==== Proof.KernelRun.lean ====
/-
  The kernel program's run: its results end at the contents the last host stretch leaves, its arguments as launched.
-/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The resources of this program. -/
local notation "𝕄" => MT nD τ sig Unit (Elt F) ℕ (UR sig nD τ) ℕ

set_option backward.isDefEq.respectTransparency.types false in
/-- Every result at what the program's stretches and regions leave in it, every argument unchanged. -/
theorem run : θ_run defs (onTc (τ := τ) (main (F := F))) ⟨m, fun _ => 0, ρ⟩ (fun r => ∀ c : Dev nD,
      r.2.mem ((c.tc : Thread nD τ).loc main_v43_0) = W5 m ρ c (Proc.devRef .tc main_v43_0)
      ∧ r.2.mem ((c.tc : Thread nD τ).loc main_v44_0) = W5 m ρ c (Proc.devRef .tc main_v44_0)
      ∧ r.2.mem ((c.tc : Thread nD τ).loc main_v50) = W5 m ρ c (Proc.devRef .tc main_v50)
      ∧ r.2.mem ((c.tc : Thread nD τ).loc main_v52) = W5 m ρ c (Proc.devRef .tc main_v52)
      ∧ r.2.mem ((c.tc : Thread nD τ).loc main_v45) = W5 m ρ c (Proc.devRef .tc main_v45)
      ∧ r.2.mem ((c.tc : Thread nD τ).loc main_v46) = W5 m ρ c (Proc.devRef .tc main_v46)
      ∧ r.2.mem ((c.tc : Thread nD τ).loc main_v47) = W5 m ρ c (Proc.devRef .tc main_v47)
      ∧ r.2.mem ((c.tc : Thread nD τ).loc main_v53) = W5 m ρ c (Proc.devRef .tc main_v53)
      ∧ r.2.mem ((c.tc : Thread nD τ).loc main_v44_6) = W5 m ρ c (Proc.devRef .tc main_v44_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v43_0 (by decide)),
       h c _ (mem_uc main_v44_0 (by decide)),
       h c _ (mem_uc main_v50 (by decide)),
       h c _ (mem_uc main_v52 (by decide)),
       h c _ (mem_uc main_v45 (by decide)),
       h c _ (mem_uc main_v46 (by decide)),
       h c _ (mem_uc main_v47 (by decide)),
       h c _ (mem_uc main_v53 (by decide)),
       h c _ (mem_uc main_v44_6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Run

end
-- ==== Proof.Spec.lean ====
/-
  The mathematics of the layer and of its gradients, in real and complex numbers: the recurrence
  x_t = a x_{t-1} + b_t from zero, the adjoint recurrence that runs from the last row to the first, and the sums over
  rows, channels and states made of them. Both programs are read against these functions.
-/
module

public import Mathlib.Analysis.Complex.Basic

@[expose] public section

noncomputable section

namespace Cert.Spec

open Complex

/-- The recurrence x ↦ a x + b_t from zero, after `t` steps. -/
def run (a : ℂ) (b : ℕ → ℂ) : ℕ → ℂ
  | 0 => 0
  | t + 1 => a * run a b t + b t

@[simp] theorem run_zero (a : ℂ) (b : ℕ → ℂ) : run a b 0 = 0 := rfl
theorem run_succ (a : ℂ) (b : ℕ → ℂ) (t : ℕ) : run a b (t + 1) = a * run a b t + b t := rfl

/-- The recurrence depends on the inputs of the steps made. -/
theorem run_congr (a : ℂ) {b b' : ℕ → ℂ} : ∀ t, (∀ s < t, b s = b' s) → run a b t = run a b' t
  | 0, _ => rfl
  | t + 1, h => by rw [run_succ, run_succ, run_congr a t fun s hs => h s (hs.trans t.lt_succ_self), h t t.lt_succ_self]

/-- Arrays the layer reads: per row, group and channel the input and the output's gradient; per group and state the
    multiplier; per group, channel and state the input and the output map. -/
structure Layer where
  u : ℕ → ℕ → ℕ → ℝ
  dy : ℕ → ℕ → ℕ → ℝ
  a : ℕ → ℕ → ℂ
  b : ℕ → ℕ → ℕ → ℂ
  c : ℕ → ℕ → ℕ → ℂ

variable (L : Layer)

/-- The recurrence's input at row `t`. -/
def Layer.bu (g p t : ℕ) : ℂ := ∑ h : Fin 16, (L.u t g h : ℂ) * L.b g h p

/-- The state before row `t`. -/
def Layer.before (g p t : ℕ) : ℂ := run (L.a g p) (L.bu g p) t

/-- The state at row `t`. -/
def Layer.x (g p t : ℕ) : ℂ := L.before g p (t + 1)

/-- The gradient of the state at row `t` that comes from the output there. -/
def Layer.ct (g p t : ℕ) : ℂ := ∑ h : Fin 16, (L.dy t g h : ℂ) * (starRingEnd ℂ) (L.c g h p)

/-- The adjoint recurrence after `j` steps down from row 2047. -/
def Layer.rev (g p j : ℕ) : ℂ := run ((starRingEnd ℂ) (L.a g p)) (fun i => L.ct g p (2047 - i)) j

/-- The gradient of the state at row `t`. -/
def Layer.g (g p t : ℕ) : ℂ := L.rev g p (2048 - t)

/-- The output without its direct term. -/
def Layer.y (t g h : ℕ) : ℝ := ∑ p : Fin 64, ((L.c g h p).re * (L.x g p t).re - (L.c g h p).im * (L.x g p t).im)

/-- The gradient of the input without the direct term. -/
def Layer.du (t g h : ℕ) : ℝ := ∑ p : Fin 64, ((L.b g h p).re * (L.g g p t).re + (L.b g h p).im * (L.g g p t).im)

/-- The gradients of the multiplier. -/
def Layer.daRe (g p : ℕ) : ℝ := ∑ t : Fin 2048, ((L.before g p t).re * (L.g g p t).re + (L.before g p t).im * (L.g g p t).im)
def Layer.daIm (g p : ℕ) : ℝ := ∑ t : Fin 2048, ((L.before g p t).re * (L.g g p t).im - (L.before g p t).im * (L.g g p t).re)

/-- The gradients of the input map. -/
def Layer.dbRe (g h p : ℕ) : ℝ := ∑ t : Fin 2048, L.u t g h * (L.g g p t).re
def Layer.dbIm (g h p : ℕ) : ℝ := ∑ t : Fin 2048, L.u t g h * (L.g g p t).im

/-- The gradients of the output map. -/
def Layer.dcRe (g h p : ℕ) : ℝ := ∑ t : Fin 2048, L.dy t g h * (L.x g p t).re
def Layer.dcIm (g h p : ℕ) : ℝ := -∑ t : Fin 2048, L.dy t g h * (L.x g p t).im

/-- The gradient of the direct term. -/
def Layer.dd (g h : ℕ) : ℝ := ∑ t : Fin 2048, L.dy t g h * L.u t g h

end Cert.Spec

end
-- ==== Proof.Tile.lean ====
/-
  One tile of eight rows: the three doubling steps of the scan are the recurrence. `Holds` says that a pair of arrays
  holds the real and the imaginary parts of complex numbers; the vector operations of a step keep it.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Run

open Idealize.ShloMosaic Cert.KernelIdeal Cert.KernelIdeal.Gen Cert.Spec

variable {A B : ℕ}

/-- Real and imaginary parts of the complex numbers `z` as two arrays. -/
def Holds (xr xi : (⟨2, ![A, B]⟩ : Shape).Idx → EReal) (z : Fin A → Fin B → ℂ) : Prop :=
  ∀ r l, xr (ix2 r l) = ((z r l).re : EReal) ∧ xi (ix2 r l) = ((z r l).im : EReal)

theorem Holds.congr {xr xi : (⟨2, ![A, B]⟩ : Shape).Idx → EReal} {z w : Fin A → Fin B → ℂ} (h : Holds xr xi z)
    (e : ∀ r l, z r l = w r l) : Holds xr xi w := fun r l => e r l ▸ h r l

section
variable {ar ai xr xi yr yi : FVec Ideal S8x512 .f32} {Z X Y : Fin 8 → Fin 512 → ℂ}

/-- The complex product added: x + z · y. -/
theorem Holds.step (hA : Holds ar ai Z) (hX : Holds xr xi X) (hY : Holds yr yi Y) :
    Holds (subf (addf xr (mulf ar yr)) (mulf ai yi)) (addf (addf xi (mulf ar yi)) (mulf ai yr))
      (fun r l => X r l + Z r l * Y r l) := fun r l => by
  obtain ⟨a1, a2⟩ := hA r l
  obtain ⟨x1, x2⟩ := hX r l
  obtain ⟨y1, y2⟩ := hY r l
  constructor
  · show (xr (ix2 r l) + ar (ix2 r l) * yr (ix2 r l) - ai (ix2 r l) * yi (ix2 r l) : EReal) = _
    rw [a1, a2, x1, y1, y2, ← EReal.coe_mul, ← EReal.coe_mul, ← EReal.coe_add, ← EReal.coe_sub]
    congr 1
    simp only [Complex.add_re, Complex.mul_re]
    ring
  · show (xi (ix2 r l) + ar (ix2 r l) * yi (ix2 r l) + ai (ix2 r l) * yr (ix2 r l) : EReal) = _
    rw [a1, a2, x2, y1, y2, ← EReal.coe_mul, ← EReal.coe_mul, ← EReal.coe_add, ← EReal.coe_add]
    congr 1
    simp only [Complex.add_im, Complex.mul_im]
    ring

/-- The complex product. -/
theorem Holds.mul (hA : Holds ar ai Z) (hX : Holds xr xi X) :
    Holds (subf (mulf ar xr) (mulf ai xi)) (addf (mulf ar xi) (mulf ai xr)) (fun r l => Z r l * X r l) := fun r l => by
  obtain ⟨a1, a2⟩ := hA r l
  obtain ⟨x1, x2⟩ := hX r l
  constructor
  · show (ar (ix2 r l) * xr (ix2 r l) - ai (ix2 r l) * xi (ix2 r l) : EReal) = _
    rw [a1, a2, x1, x2, ← EReal.coe_mul, ← EReal.coe_mul, ← EReal.coe_sub, Complex.mul_re]
  · show (ar (ix2 r l) * xi (ix2 r l) + ai (ix2 r l) * xr (ix2 r l) : EReal) = _
    rw [a1, a2, x1, x2, ← EReal.coe_mul, ← EReal.coe_mul, ← EReal.coe_add, Complex.mul_im]

/-- The rows moved on by `s`, cyclically. -/
def turn (s : ℕ) (z : Fin 8 → Fin 512 → ℂ) : Fin 8 → Fin 512 → ℂ := fun r l => z ⟨((r : ℕ) + 8 - s) % 8, Nat.mod_lt _ (by norm_num)⟩ l

theorem Holds.turn1 (hX : Holds xr xi X) (h) : Holds (dynamicRotate 0 1#32 none xr h) (dynamicRotate 0 1#32 none xi h) (turn 1 X) := fun r l => by
  pointwise
  exact hX _ _
theorem Holds.turn2 (hX : Holds xr xi X) (h) : Holds (dynamicRotate 0 2#32 none xr h) (dynamicRotate 0 2#32 none xi h) (turn 2 X) := fun r l => by
  pointwise
  exact hX _ _
theorem Holds.turn4 (hX : Holds xr xi X) (h) : Holds (dynamicRotate 0 4#32 none xr h) (dynamicRotate 0 4#32 none xi h) (turn 4 X) := fun r l => by
  pointwise
  exact hX _ _
theorem Holds.turn6 (hX : Holds xr xi X) (h) : Holds (dynamicRotate 0 6#32 none xr h) (dynamicRotate 0 6#32 none xi h) (turn 6 X) := fun r l => by
  pointwise
  exact hX _ _
theorem Holds.turn7 (hX : Holds xr xi X) (h) : Holds (dynamicRotate 0 7#32 none xr h) (dynamicRotate 0 7#32 none xi h) (turn 7 X) := fun r l => by
  pointwise
  exact hX _ _

/-- A mask whose rows are those where `p` holds keeps these rows and zeroes the others. -/
theorem Holds.masked (hX : Holds xr xi X) {m : IVec S8x512 1} {p : Fin 8 → Prop} [DecidablePred p]
    (hm : ∀ r l, m (ix2 r l) = if p r then 1#1 else 0#1) {zr : FVec Ideal S8x512 .f32} (hz : ∀ i, zr i = (0 : EReal)) :
    Holds (select m xr zr) (select m xi zr) (fun r l => if p r then X r l else 0) := fun r l => by
  obtain ⟨x1, x2⟩ := hX r l
  have e (x : FVec Ideal S8x512 .f32) : select m x zr (ix2 r l) = if p r then x (ix2 r l) else (0 : EReal) := by
    show Scalar.select (m (ix2 r l)) (x (ix2 r l)) (zr (ix2 r l)) = _
    rw [hm, hz]
    by_cases hp : p r
    · rw [if_pos hp, if_pos hp]; rfl
    · rw [if_neg hp, if_neg hp]; rfl
  rw [e, e]
  by_cases hp : p r
  · simp only [if_pos hp]; exact ⟨x1, x2⟩
  · simp only [if_neg hp]; exact ⟨rfl, rfl⟩

end

/-! ## The masks -/

theorem zero_rows {x : EReal} (h : x = Ideal.ofBits .f32 0x00000000#32) : x = 0 := h.trans Ideal.ofBits_zero_f32

/-- Rows from the first on. -/
theorem mask1 (r : Fin 8) (l : Fin 512) : k0_pay29 (ix2 r l) = if 1 ≤ (r : ℕ) then 1#1 else 0#1 := by
  unfold k0_pay29
  pointwise
  revert r
  decide
/-- Rows from the second on. -/
theorem mask2 (r : Fin 8) (l : Fin 512) : k0_pay34 (ix2 r l) = if 2 ≤ (r : ℕ) then 1#1 else 0#1 := by
  unfold k0_pay34
  pointwise
  revert r
  decide
/-- Rows from the fourth on. -/
theorem mask4 (r : Fin 8) (l : Fin 512) : k0_pay38 (ix2 r l) = if 4 ≤ (r : ℕ) then 1#1 else 0#1 := by
  unfold k0_pay38
  pointwise
  revert r
  decide
/-- Row zero. -/
theorem mask0 (r : Fin 8) (l : Fin 512) : (k0_pay41 (iota .tc S8x512 32 [0] iota_S8x512_d0_w32)) (ix2 r l) = if (r : ℕ) = 0 then 1#1 else 0#1 := by
  unfold k0_pay41
  pointwise
  revert r
  decide
/-- Counted from the last row: from the first on. -/
theorem rmask1 (r : Fin 8) (l : Fin 512) : k1_pay53 (ix2 r l) = if (r : ℕ) ≤ 6 then 1#1 else 0#1 := by
  unfold k1_pay53 k1_pay51
  pointwise
  revert r
  decide
/-- Counted from the last row: from the second on. -/
theorem rmask2 (r : Fin 8) (l : Fin 512) : (k1_pay58 k1_pay51) (ix2 r l) = if (r : ℕ) ≤ 5 then 1#1 else 0#1 := by
  unfold k1_pay58 k1_pay51
  pointwise
  revert r
  decide
/-- Counted from the last row: from the fourth on. -/
theorem rmask4 (r : Fin 8) (l : Fin 512) : (k1_pay61 k1_pay51) (ix2 r l) = if (r : ℕ) ≤ 3 then 1#1 else 0#1 := by
  unfold k1_pay61 k1_pay51
  pointwise
  revert r
  decide
/-- The last row. -/
theorem rmask7 (r : Fin 8) (l : Fin 512) : (k1_pay64 k1_pay51) (ix2 r l) = if (r : ℕ) = 7 then 1#1 else 0#1 := by
  unfold k1_pay64 k1_pay51
  pointwise
  revert r
  decide
/-- Row zero. -/
theorem rmask0 (r : Fin 8) (l : Fin 512) : k1_pay67 (ix2 r l) = if (r : ℕ) = 0 then 1#1 else 0#1 := by
  unfold k1_pay67
  pointwise
  revert r
  decide

/-! ## The recurrence in a tile -/

/-- Forward: from the rows `H` and the carry's last row. -/
theorem tile_fwd (a : ℂ) (b : ℕ → ℂ) (t : ℕ) (H P h0 h1 h2 h3 : Fin 8 → Fin 512 → ℂ) (l : Fin 512)
    (hH : ∀ r : Fin 8, H r l = b (t + r)) (hP : P 7 l = run a b t)
    (e0 : ∀ r, h0 r l = H r l + (if (r : ℕ) = 0 then a else 0) * turn 1 P r l)
    (e1 : ∀ r, h1 r l = h0 r l + (if 1 ≤ (r : ℕ) then a else 0) * turn 1 h0 r l)
    (e2 : ∀ r, h2 r l = h1 r l + (if 2 ≤ (r : ℕ) then a * a else 0) * turn 2 h1 r l)
    (e3 : ∀ r, h3 r l = h2 r l + (if 4 ≤ (r : ℕ) then a * a * (a * a) else 0) * turn 4 h2 r l) (r : Fin 8) :
    h3 r l = run a b (t + r + 1) := by
  have t0 (s : ℕ) (z : Fin 8 → Fin 512 → ℂ) (r : Fin 8) : turn s z r l = z ⟨((r : ℕ) + 8 - s) % 8, Nat.mod_lt _ (by norm_num)⟩ l := rfl
  simp only [t0] at e0 e1 e2 e3
  have hP' : P ⟨7, by norm_num⟩ l = run a b t := hP
  simp only [e3, e2, e1, e0, hH]
  fin_cases r <;> simp [hP, hP', run_succ] <;> ring

/-- Backward: the rows in reverse order, from the carry's first row. -/
theorem tile_bwd (a : ℂ) (b : ℕ → ℂ) (j : ℕ) (H P h0 h1 h2 h3 : Fin 8 → Fin 512 → ℂ) (l : Fin 512)
    (hH : ∀ r : Fin 8, H r l = b (j + (7 - r))) (hP : P 0 l = run a b j)
    (e0 : ∀ r, h0 r l = H r l + (if (r : ℕ) = 7 then a else 0) * turn 7 P r l)
    (e1 : ∀ r, h1 r l = h0 r l + (if (r : ℕ) ≤ 6 then a else 0) * turn 7 h0 r l)
    (e2 : ∀ r, h2 r l = h1 r l + (if (r : ℕ) ≤ 5 then a * a else 0) * turn 6 h1 r l)
    (e3 : ∀ r, h3 r l = h2 r l + (if (r : ℕ) ≤ 3 then a * a * (a * a) else 0) * turn 4 h2 r l) (r : Fin 8) :
    h3 r l = run a b (j + (7 - r) + 1) := by
  have t0 (s : ℕ) (z : Fin 8 → Fin 512 → ℂ) (r : Fin 8) : turn s z r l = z ⟨((r : ℕ) + 8 - s) % 8, Nat.mod_lt _ (by norm_num)⟩ l := rfl
  simp only [t0] at e0 e1 e2 e3
  have hP' : P ⟨0, by norm_num⟩ l = run a b j := hP
  have hP'' : P 0 l = run a b j := hP
  simp only [e3, e2, e1, e0, hH]
  fin_cases r <;> simp [hP', hP'', run_succ] <;> ring

end Cert.KernelIdeal.Run

end
-- ==== Proof.Scan0.lean ====
/-
  The forward scan of one block: after k trips the first 8k rows of the scratch hold the states and the others still
  hold the recurrence's inputs.
-/
module

public import proofs.«01_k».proof.Proof.Tile
public import proofs.«01_k».proof.Proof.Gen.KernelIdeal.Loops
public import Idealize.ShloMosaic.Lib.WritesUnit

@[expose] public section

set_option maxRecDepth 16384

noncomputable section

namespace Cert.KernelIdeal.Run

open Idealize.ShloMosaic Idealize.ShloMosaic.TcCoe Cert.KernelIdeal Cert.KernelIdeal.Gen Cert.Spec
open Idealize.SL Idealize.SL.RA Idealize.SL.BI Idealize.SL.Sem

/-! ## Reading a rectangle of unit steps -/

/-- The position in the array of a rectangle's element. -/
theorem idx_unit {A B a b : ℕ} {off : Fin 2 → ℕ} (inb) (r : Fin a) (l : Fin b) {o0 o1 : ℕ} (h : off = ![o0, o1])
    (h0 : o0 + r < A) (h1 : o1 + l < B) :
    (Rect.unit (s := ⟨2, ![A, B]⟩) off ![a, b] inb).toLoadRect.idx (ix2 r l) = ix2 ⟨o0 + r, h0⟩ ⟨o1 + l, h1⟩ := by
  subst h
  refine funext fun k => Fin.ext ?_
  fin_cases k
  · show o0 + 1 * (r : ℕ) = o0 + r
    rw [one_mul]
  · show o1 + 1 * (l : ℕ) = o1 + l
    rw [one_mul]

section
variable {arg : Memref sig .tc .vmem S2048x1024 .f32} (f : BufTy.Contents (Elt Ideal) arg.view.ty)
  {off1 off2 : Fin 2 → ℕ} {o : ℕ} (inb1 : ∀ a, off1 a + S8x512.size a ≤ S2048x1024.size a)
  (inb2 : ∀ a, off2 a + S8x512.size a ≤ S2048x1024.size a) (w1 w2 : S8x512.Idx → EReal)
  (L : List (View.Piece (Elt Ideal) S2048x1024 .f32))

/-- The left half after eight rows of both halves are written. -/
theorem read_left (h1 : off1 = ![o, 0]) (h2 : off2 = ![o, 512]) (t : Fin 2048) (l : Fin 512) :
    arg.view.read (Elt Ideal) (arg.view.writes (Elt Ideal) f
      (⟨Rect.unit (s := S2048x1024) off2 S8x512.size inb2, w2⟩ :: ⟨Rect.unit (s := S2048x1024) off1 S8x512.size inb1, w1⟩ :: L)) (ix2 t ⟨l, by omega⟩)
    = if h : o ≤ (t : ℕ) ∧ (t : ℕ) < o + 8 then w1 (ix2 ⟨t - o, by omega⟩ l)
      else arg.view.read (Elt Ideal) (arg.view.writes (Elt Ideal) f L) (ix2 t ⟨l, by omega⟩) := by
  rw [View.read_writes_cons_unit_of_not_mem arg.view f inb2 w2 _ _ h2 1 (.inl l.isLt)]
  by_cases h : o ≤ (t : ℕ) ∧ (t : ℕ) < o + 8
  · rw [dif_pos h]
    refine View.read_writes_cons_unit_of_mem arg.view f inb1 w1 L _ (ix2 ⟨t - o, by omega⟩ l) h1 fun a => ?_
    fin_cases a
    · show (t : ℕ) = o + (t - o)
      omega
    · show (l : ℕ) = 0 + l
      omega
  · rw [dif_neg h]
    refine View.read_writes_cons_unit_of_not_mem arg.view f inb1 w1 L _ h1 0 ?_
    show (t : ℕ) < o ∨ o + 8 ≤ (t : ℕ)
    omega

/-- The right half after eight rows of both halves are written. -/
theorem read_right (h1 : off1 = ![o, 0]) (h2 : off2 = ![o, 512]) (t : Fin 2048) (l : Fin 512) :
    arg.view.read (Elt Ideal) (arg.view.writes (Elt Ideal) f
      (⟨Rect.unit (s := S2048x1024) off2 S8x512.size inb2, w2⟩ :: ⟨Rect.unit (s := S2048x1024) off1 S8x512.size inb1, w1⟩ :: L)) (ix2 t ⟨512 + l, by omega⟩)
    = if h : o ≤ (t : ℕ) ∧ (t : ℕ) < o + 8 then w2 (ix2 ⟨t - o, by omega⟩ l)
      else arg.view.read (Elt Ideal) (arg.view.writes (Elt Ideal) f L) (ix2 t ⟨512 + l, by omega⟩) := by
  by_cases h : o ≤ (t : ℕ) ∧ (t : ℕ) < o + 8
  · rw [dif_pos h]
    refine View.read_writes_cons_unit_of_mem arg.view f inb2 w2 _ _ (ix2 ⟨t - o, by omega⟩ l) h2 fun a => ?_
    fin_cases a
    · show (t : ℕ) = o + (t - o)
      omega
    · rfl
  · rw [dif_neg h, View.read_writes_cons_unit_of_not_mem arg.view f inb2 w2 _ _ h2 0 (by show (t : ℕ) < o ∨ o + 8 ≤ (t : ℕ); omega),
      View.read_writes_cons_unit_of_not_mem arg.view f inb1 w1 L _ h1 0 (by show (t : ℕ) < o ∨ o + 8 ≤ (t : ℕ); omega)]
end

/-- A wide array's halves hold the complex numbers `z`. -/
def Wide {A : ℕ} (x : (⟨2, ![A, 1024]⟩ : Shape).Idx → EReal) (z : Fin A → Fin 512 → ℂ) : Prop :=
  ∀ (t : Fin A) (l : Fin 512), x (ix2 t ⟨l, by omega⟩) = ((z t l).re : EReal) ∧ x (ix2 t ⟨512 + l, by omega⟩) = ((z t l).im : EReal)

theorem Wide.congr {A : ℕ} {x : (⟨2, ![A, 1024]⟩ : Shape).Idx → EReal} {z w : Fin A → Fin 512 → ℂ} (h : Wide x z)
    (e : ∀ t l, z t l = w t l) : Wide x w := fun t l => e t l ▸ h t l

/-! ## One trip -/

section
variable (𝒱 : Variants) (c : Dev nD) (bd : Option 𝒱.V) (i : grid0.Coords) (m1 : Memref sig .tc .vmem S2048x128 .f32) (k1 : m1.IsWhole) (m2 : Memref sig .tc .vmem S1x128x1024 .bf16) (k2 : m2.IsWhole) (m3 : Memref sig .tc .vmem S1x1024x128 .bf16) (k3 : m3.IsWhole) (m4 : Memref sig .tc .vmem S1x1x1024 .f32) (k4 : m4.IsWhole) (m5 : Memref sig .tc .vmem S1x128 .f32) (k5 : m5.IsWhole) (m6 : Memref sig .tc .vmem S2048x128 .f32) (k6 : m6.IsWhole) (m7 : Memref sig .tc .vmem S2048x1024 .bf16) (k7 : m7.IsWhole) (m8 : Memref sig .tc .vmem S2048x1024 .f32) (k8 : m8.IsWhole) (v67 : FVec Ideal S8x512 .f32) (v71 : FVec Ideal S8x512 .f32) (v72 : IVec S8x512 32) (v73 : FVec Ideal S8x512 .f32) (v76 : FVec Ideal S8x512 .f32) (v77 : FVec Ideal S8x512 .f32) (v86 : FVec Ideal S8x512 .f32) (v87 : FVec Ideal S8x512 .f32) (v93 : FVec Ideal S8x512 .f32) (v95 : IVec S8x512 1) (v96 : FVec Ideal S8x512 .f32)

theorem trip0_R (k : Fin k0_t1_loop.trips) (acc : FVec Ideal S8x512 .f32 × FVec Ideal S8x512 .f32) (f : BufTy.Contents (Elt Ideal) m8.view.ty) :
    tripR_k0_t1 (F := Ideal) 𝒱 c bd i m1 k1 m2 k2 m3 k3 m4 k4 m5 k5 m6 k6 m7 k7 m8 k8 v67 v71 v72 v73 v76 v77 v86 v87 v93 v95 v96 k acc f
      = (k0_pay15 v76 v77 v86 v87 v96 (k0_pay40 v73 v93 v95) (k0_pay42 v67 v72 v73) (k0_pay43 v71 v72 v73) acc.1 acc.2 (View.readAt (Elt Ideal) m8.view (Rect.unit (s := S2048x1024) (k0_off1 k) S8x512.size (k0_off1_inb k)).toLoadRect f) (View.readAt (Elt Ideal) m8.view (Rect.unit (s := S2048x1024) (k0_off2 k) S8x512.size (k0_off2_inb k)).toLoadRect f),
         k0_pay16 v76 v77 v86 v87 v96 (k0_pay40 v73 v93 v95) (k0_pay42 v67 v72 v73) (k0_pay43 v71 v72 v73) acc.1 acc.2 (View.readAt (Elt Ideal) m8.view (Rect.unit (s := S2048x1024) (k0_off1 k) S8x512.size (k0_off1_inb k)).toLoadRect f) (View.readAt (Elt Ideal) m8.view (Rect.unit (s := S2048x1024) (k0_off2 k) S8x512.size (k0_off2_inb k)).toLoadRect f)) := by
  unfold tripR_k0_t1 trip_k0_t1
  rfl

theorem trip0_L (k : Fin k0_t1_loop.trips) (acc : FVec Ideal S8x512 .f32 × FVec Ideal S8x512 .f32) (f : BufTy.Contents (Elt Ideal) m8.view.ty) :
    tripL_k0_t1 (F := Ideal) 𝒱 c bd i m1 k1 m2 k2 m3 k3 m4 k4 m5 k5 m6 k6 m7 k7 m8 k8 v67 v71 v72 v73 v76 v77 v86 v87 v93 v95 v96 k acc f
      = [⟨Rect.unit (s := S2048x1024) (k0_off2 k) S8x512.size (k0_off2_inb k), k0_pay46 (k0_pay16 v76 v77 v86 v87 v96 (k0_pay40 v73 v93 v95) (k0_pay42 v67 v72 v73) (k0_pay43 v71 v72 v73) acc.1 acc.2 (View.readAt (Elt Ideal) m8.view (Rect.unit (s := S2048x1024) (k0_off1 k) S8x512.size (k0_off1_inb k)).toLoadRect f) (View.readAt (Elt Ideal) m8.view (Rect.unit (s := S2048x1024) (k0_off2 k) S8x512.size (k0_off2_inb k)).toLoadRect f))⟩,
         ⟨Rect.unit (s := S2048x1024) (k0_off1 k) S8x512.size (k0_off1_inb k), k0_pay45 (k0_pay15 v76 v77 v86 v87 v96 (k0_pay40 v73 v93 v95) (k0_pay42 v67 v72 v73) (k0_pay43 v71 v72 v73) acc.1 acc.2 (View.readAt (Elt Ideal) m8.view (Rect.unit (s := S2048x1024) (k0_off1 k) S8x512.size (k0_off1_inb k)).toLoadRect f) (View.readAt (Elt Ideal) m8.view (Rect.unit (s := S2048x1024) (k0_off2 k) S8x512.size (k0_off2_inb k)).toLoadRect f))⟩] := by
  unfold tripL_k0_t1 trip_k0_t1
  rfl
end

/-- The multipliers of the four steps of a tile: the carry's, then those of the doubling steps. -/
structure FwdConsts (v67 : FVec Ideal S8x512 .f32) (v71 : FVec Ideal S8x512 .f32) (v72 : IVec S8x512 32) (v73 : FVec Ideal S8x512 .f32) (v76 : FVec Ideal S8x512 .f32) (v77 : FVec Ideal S8x512 .f32) (v86 : FVec Ideal S8x512 .f32) (v87 : FVec Ideal S8x512 .f32) (v93 : FVec Ideal S8x512 .f32) (v95 : IVec S8x512 1) (v96 : FVec Ideal S8x512 .f32) (al : Fin 512 → ℂ) : Prop where
  c0 : Holds (k0_pay42 v67 v72 v73) (k0_pay43 v71 v72 v73) (fun r l => if (r : ℕ) = 0 then al l else 0)
  c1 : Holds v76 v77 (fun r l => if 1 ≤ (r : ℕ) then al l else 0)
  c2 : Holds v86 v87 (fun r l => if 2 ≤ (r : ℕ) then al l * al l else 0)
  c4 : Holds v96 (k0_pay40 v73 v93 v95) (fun r l => if 4 ≤ (r : ℕ) then al l * al l * (al l * al l) else 0)

/-- A trip's two results are the recurrence's next eight states. -/
theorem fwd_tile (v67 : FVec Ideal S8x512 .f32) (v71 : FVec Ideal S8x512 .f32) (v72 : IVec S8x512 32) (v73 : FVec Ideal S8x512 .f32) (v76 : FVec Ideal S8x512 .f32) (v77 : FVec Ideal S8x512 .f32) (v86 : FVec Ideal S8x512 .f32) (v87 : FVec Ideal S8x512 .f32) (v93 : FVec Ideal S8x512 .f32) (v95 : IVec S8x512 1) (v96 : FVec Ideal S8x512 .f32) {al : Fin 512 → ℂ} (hC : FwdConsts v67 v71 v72 v73 v76 v77 v86 v87 v93 v95 v96 al)
    {acc1 acc2 hr hi : FVec Ideal S8x512 .f32} {P H : Fin 8 → Fin 512 → ℂ} (hP : Holds acc1 acc2 P) (hH : Holds hr hi H)
    (b : Fin 512 → ℕ → ℂ) (t : ℕ) (eH : ∀ r l, H r l = b l (t + (r : ℕ))) (eP : ∀ l, P 7 l = run (al l) (b l) t) :
    Holds (k0_pay15 v76 v77 v86 v87 v96 (k0_pay40 v73 v93 v95) (k0_pay42 v67 v72 v73) (k0_pay43 v71 v72 v73) acc1 acc2 hr hi)
      (k0_pay16 v76 v77 v86 v87 v96 (k0_pay40 v73 v93 v95) (k0_pay42 v67 v72 v73) (k0_pay43 v71 v72 v73) acc1 acc2 hr hi)
      (fun r l => run (al l) (b l) (t + (r : ℕ) + 1)) := by
  let z0 : Fin 8 → Fin 512 → ℂ := fun r l => H r l + (if (r : ℕ) = 0 then al l else 0) * turn 1 P r l
  let z1 : Fin 8 → Fin 512 → ℂ := fun r l => z0 r l + (if 1 ≤ (r : ℕ) then al l else 0) * turn 1 z0 r l
  let z2 : Fin 8 → Fin 512 → ℂ := fun r l => z1 r l + (if 2 ≤ (r : ℕ) then al l * al l else 0) * turn 2 z1 r l
  let z3 : Fin 8 → Fin 512 → ℂ := fun r l => z2 r l + (if 4 ≤ (r : ℕ) then al l * al l * (al l * al l) else 0) * turn 4 z2 r l
  have s0 : Holds _ _ z0 := hC.c0.step hH (hP.turn1 rotates_S8x512_d0)
  have s1 : Holds _ _ z1 := hC.c1.step s0 (s0.turn1 rotates_S8x512_d0)
  have s2 : Holds _ _ z2 := hC.c2.step s1 (s1.turn2 rotates_S8x512_d0)
  have s3 : Holds _ _ z3 := hC.c4.step s2 (s2.turn4 rotates_S8x512_d0)
  exact Holds.congr s3 fun r l =>
    tile_fwd (al l) (b l) t H P z0 z1 z2 z3 l (fun r => eH r l) (eP l) (fun _ => rfl) (fun _ => rfl) (fun _ => rfl) (fun _ => rfl) r

/-! ## All trips -/

section
variable (𝒱 : Variants) (c : Dev nD) (bd : Option 𝒱.V) (i : grid0.Coords) (m1 : Memref sig .tc .vmem S2048x128 .f32) (k1 : m1.IsWhole) (m2 : Memref sig .tc .vmem S1x128x1024 .bf16) (k2 : m2.IsWhole) (m3 : Memref sig .tc .vmem S1x1024x128 .bf16) (k3 : m3.IsWhole) (m4 : Memref sig .tc .vmem S1x1x1024 .f32) (k4 : m4.IsWhole) (m5 : Memref sig .tc .vmem S1x128 .f32) (k5 : m5.IsWhole) (m6 : Memref sig .tc .vmem S2048x128 .f32) (k6 : m6.IsWhole) (m7 : Memref sig .tc .vmem S2048x1024 .bf16) (k7 : m7.IsWhole) (m8 : Memref sig .tc .vmem S2048x1024 .f32) (k8 : m8.IsWhole) (v67 : FVec Ideal S8x512 .f32) (v71 : FVec Ideal S8x512 .f32) (v72 : IVec S8x512 32) (v73 : FVec Ideal S8x512 .f32) (v76 : FVec Ideal S8x512 .f32) (v77 : FVec Ideal S8x512 .f32) (v86 : FVec Ideal S8x512 .f32) (v87 : FVec Ideal S8x512 .f32) (v93 : FVec Ideal S8x512 .f32) (v95 : IVec S8x512 1) (v96 : FVec Ideal S8x512 .f32)
  (G : BufTy.Contents (Elt Ideal) m8.view.ty) (init : FVec Ideal S8x512 .f32 × FVec Ideal S8x512 .f32)

/-- After `k` trips. -/
theorem scan0 {al : Fin 512 → ℂ} (hC : FwdConsts v67 v71 v72 v73 v76 v77 v86 v87 v93 v95 v96 al) (b : Fin 512 → ℕ → ℂ)
    (hG : Wide (m8.view.read (Elt Ideal) G) (fun t l => b l t))
    (hinit : Holds init.1 init.2 (fun _ _ => 0)) :
    ∀ k : ℕ, k ≤ 256 → ∃ P : Fin 8 → Fin 512 → ℂ,
      Holds (st_k0_t1 (F := Ideal) 𝒱 c bd i m1 k1 m2 k2 m3 k3 m4 k4 m5 k5 m6 k6 m7 k7 m8 k8 v67 v71 v72 v73 v76 v77 v86 v87 v93 v95 v96 G init k).1.1 (st_k0_t1 (F := Ideal) 𝒱 c bd i m1 k1 m2 k2 m3 k3 m4 k4 m5 k5 m6 k6 m7 k7 m8 k8 v67 v71 v72 v73 v76 v77 v86 v87 v93 v95 v96 G init k).1.2 P
      ∧ (∀ l, P 7 l = run (al l) (b l) (8 * k))
      ∧ Wide (m8.view.read (Elt Ideal) (m8.view.writes (Elt Ideal) G (st_k0_t1 (F := Ideal) 𝒱 c bd i m1 k1 m2 k2 m3 k3 m4 k4 m5 k5 m6 k6 m7 k7 m8 k8 v67 v71 v72 v73 v76 v77 v86 v87 v93 v95 v96 G init k).2))
          (fun t l => if (t : ℕ) < 8 * k then run (al l) (b l) (t + 1) else b l t)
  | 0, _ => ⟨fun _ _ => 0, hinit, fun _ => rfl, hG⟩
  | k + 1, hk => by
    obtain ⟨P, h1, h2, h3⟩ := scan0 hC b hG hinit k (by omega)
    have hk' : k < k0_t1_loop.trips := by
      have : k0_t1_loop.trips = 256 := by decide
      omega
    rw [show k + 1 = ((⟨k, hk'⟩ : Fin k0_t1_loop.trips) : ℕ) + 1 from rfl, st_k0_t1_succ]
    rw [trip0_R, trip0_L]
    have o1 : k0_off1 ⟨k, hk'⟩ = ![8 * k, 0] := k0_off1_eq ⟨k, hk'⟩
    have o2 : k0_off2 ⟨k, hk'⟩ = ![8 * k, 512] := k0_off2_eq ⟨k, hk'⟩
    set S := st_k0_t1 (F := Ideal) 𝒱 c bd i m1 k1 m2 k2 m3 k3 m4 k4 m5 k5 m6 k6 m7 k7 m8 k8 v67 v71 v72 v73 v76 v77 v86 v87 v93 v95 v96 G init k with hS
    have hH : Holds (View.readAt (Elt Ideal) m8.view (Rect.unit (s := S2048x1024) (k0_off1 ⟨k, hk'⟩) S8x512.size (k0_off1_inb ⟨k, hk'⟩)).toLoadRect (m8.view.writes (Elt Ideal) G S.2))
        (View.readAt (Elt Ideal) m8.view (Rect.unit (s := S2048x1024) (k0_off2 ⟨k, hk'⟩) S8x512.size (k0_off2_inb ⟨k, hk'⟩)).toLoadRect (m8.view.writes (Elt Ideal) G S.2))
        (fun r l => b l (8 * k + (r : ℕ))) := fun r l => by
      have e := h3 ⟨8 * k + r, by omega⟩ l
      have hn : ¬ (8 * k + (r : ℕ) < 8 * k) := by omega
      simp only [hn, if_false] at e
      constructor
      · refine Eq.trans (congrArg (m8.view.read (Elt Ideal) (m8.view.writes (Elt Ideal) G S.2)) ?_) e.1
        refine (idx_unit _ r l o1 (by omega) (by omega)).trans ?_
        congr 2
        exact Nat.zero_add _
      · exact Eq.trans (congrArg (m8.view.read (Elt Ideal) (m8.view.writes (Elt Ideal) G S.2)) (idx_unit _ r l o2 (by omega) (by omega))) e.2
    have hT := fwd_tile v67 v71 v72 v73 v76 v77 v86 v87 v93 v95 v96 hC h1 hH b (8 * k) (fun _ _ => rfl) h2
    refine ⟨_, hT, fun l => ?_, fun t l => ?_⟩
    · show run (al l) (b l) (8 * k + 7 + 1) = run (al l) (b l) (8 * (k + 1))
      congr 1
    · have e := h3 t l
      simp only [List.cons_append, List.nil_append]
      rw [read_left (arg := m8) (h1 := o1) (h2 := o2), read_right (arg := m8) (h1 := o1) (h2 := o2)]
      by_cases h : 8 * k ≤ (t : ℕ) ∧ (t : ℕ) < 8 * k + 8
      · have e' := hT ⟨t - 8 * k, by omega⟩ l
        have ht : 8 * k + ((t : ℕ) - 8 * k) = t := by omega
        simp only [ht] at e'
        have hl : (t : ℕ) < 8 * (k + 1) := by omega
        simp only [hl, if_true]
        rw [dif_pos h, dif_pos h]
        unfold k0_pay45 k0_pay46
        pointwise
        exact e'
      · rw [dif_neg h, dif_neg h]
        by_cases hl : (t : ℕ) < 8 * k
        · have hl' : (t : ℕ) < 8 * (k + 1) := by omega
          simp only [hl, hl', if_true] at e ⊢
          exact e
        · have hl' : ¬ (t : ℕ) < 8 * (k + 1) := by omega
          simp only [hl, hl', if_false] at e ⊢
          exact e
end

end Cert.KernelIdeal.Run

end
-- ==== Proof.Rows.lean ====
/-
  Arrays of 2048 rows written in eight pieces of 256 rows, sums over the two halves of a wide array, and finite sums of
  real numbers among the extended reals.
-/
module

public import proofs.«01_k».proof.Proof.Scan0
public import Idealize.ShloMosaic.Lib.Pipeline.Frame

@[expose] public section

set_option maxRecDepth 16384

noncomputable section

namespace Cert.KernelIdeal.Run

open Idealize.ShloMosaic Idealize.ShloMosaic.TcCoe Cert.KernelIdeal Cert.KernelIdeal.Gen Cert.Spec

/-- Eight pieces of 256 rows that agree with `V` make the array `V`. -/
theorem rows8 {N : ℕ} {e : EltTy} (v : View sig .tc .vmem ⟨2, ![2048, N]⟩ e) (f : v.ty.Contents (Elt Ideal))
    (inb0 : ∀ a, (![0, 0] : Fin 2 → ℕ) a + (![256, N] : Fin 2 → ℕ) a ≤ (⟨2, ![2048, N]⟩ : Shape).size a) (inb1 : ∀ a, (![256, 0] : Fin 2 → ℕ) a + (![256, N] : Fin 2 → ℕ) a ≤ (⟨2, ![2048, N]⟩ : Shape).size a) (inb2 : ∀ a, (![512, 0] : Fin 2 → ℕ) a + (![256, N] : Fin 2 → ℕ) a ≤ (⟨2, ![2048, N]⟩ : Shape).size a) (inb3 : ∀ a, (![768, 0] : Fin 2 → ℕ) a + (![256, N] : Fin 2 → ℕ) a ≤ (⟨2, ![2048, N]⟩ : Shape).size a) (inb4 : ∀ a, (![1024, 0] : Fin 2 → ℕ) a + (![256, N] : Fin 2 → ℕ) a ≤ (⟨2, ![2048, N]⟩ : Shape).size a) (inb5 : ∀ a, (![1280, 0] : Fin 2 → ℕ) a + (![256, N] : Fin 2 → ℕ) a ≤ (⟨2, ![2048, N]⟩ : Shape).size a) (inb6 : ∀ a, (![1536, 0] : Fin 2 → ℕ) a + (![256, N] : Fin 2 → ℕ) a ≤ (⟨2, ![2048, N]⟩ : Shape).size a) (inb7 : ∀ a, (![1792, 0] : Fin 2 → ℕ) a + (![256, N] : Fin 2 → ℕ) a ≤ (⟨2, ![2048, N]⟩ : Shape).size a)
    (w0 w1 w2 w3 w4 w5 w6 w7 : (⟨2, ![256, N]⟩ : Shape).Idx → Elt Ideal e) (V : Fin 2048 → Fin N → Elt Ideal e)
    (H0 : ∀ (r : Fin 256) (j : Fin N), w0 (ix2 r j) = V ⟨0 + r, by omega⟩ j) (H1 : ∀ (r : Fin 256) (j : Fin N), w1 (ix2 r j) = V ⟨256 + r, by omega⟩ j) (H2 : ∀ (r : Fin 256) (j : Fin N), w2 (ix2 r j) = V ⟨512 + r, by omega⟩ j) (H3 : ∀ (r : Fin 256) (j : Fin N), w3 (ix2 r j) = V ⟨768 + r, by omega⟩ j) (H4 : ∀ (r : Fin 256) (j : Fin N), w4 (ix2 r j) = V ⟨1024 + r, by omega⟩ j) (H5 : ∀ (r : Fin 256) (j : Fin N), w5 (ix2 r j) = V ⟨1280 + r, by omega⟩ j) (H6 : ∀ (r : Fin 256) (j : Fin N), w6 (ix2 r j) = V ⟨1536 + r, by omega⟩ j) (H7 : ∀ (r : Fin 256) (j : Fin N), w7 (ix2 r j) = V ⟨1792 + r, by omega⟩ j)
    (t : Fin 2048) (j : Fin N) :
    v.read (Elt Ideal) (v.writes (Elt Ideal) f [⟨Rect.unit (s := ⟨2, ![2048, N]⟩) ![1792, 0] ![256, N] inb7, w7⟩, ⟨Rect.unit (s := ⟨2, ![2048, N]⟩) ![1536, 0] ![256, N] inb6, w6⟩, ⟨Rect.unit (s := ⟨2, ![2048, N]⟩) ![1280, 0] ![256, N] inb5, w5⟩, ⟨Rect.unit (s := ⟨2, ![2048, N]⟩) ![1024, 0] ![256, N] inb4, w4⟩, ⟨Rect.unit (s := ⟨2, ![2048, N]⟩) ![768, 0] ![256, N] inb3, w3⟩, ⟨Rect.unit (s := ⟨2, ![2048, N]⟩) ![512, 0] ![256, N] inb2, w2⟩, ⟨Rect.unit (s := ⟨2, ![2048, N]⟩) ![256, 0] ![256, N] inb1, w1⟩, ⟨Rect.unit (s := ⟨2, ![2048, N]⟩) ![0, 0] ![256, N] inb0, w0⟩]) (ix2 t j) = V t j := by
  have ht := t.isLt
  by_cases h7 : 1792 ≤ (t : ℕ)
  · refine (View.read_writes_cons_unit_of_mem v f inb7 w7 _ (ix2 t j) (ix2 ⟨t - 1792, by omega⟩ j) rfl fun a => ?_).trans ((H7 _ j).trans ?_)
    · fin_cases a
      · show (t : ℕ) = 1792 + (t - 1792)
        omega
      · show (j : ℕ) = 0 + j
        omega
    · congr 1
      refine Fin.ext ?_
      show 1792 + ((t : ℕ) - 1792) = t
      omega
  rw [View.read_writes_cons_unit_of_not_mem v f inb7 w7 _ (ix2 t j) rfl 0 (.inl (by show (t : ℕ) < 1792; omega))]
  by_cases h6 : 1536 ≤ (t : ℕ)
  · refine (View.read_writes_cons_unit_of_mem v f inb6 w6 _ (ix2 t j) (ix2 ⟨t - 1536, by omega⟩ j) rfl fun a => ?_).trans ((H6 _ j).trans ?_)
    · fin_cases a
      · show (t : ℕ) = 1536 + (t - 1536)
        omega
      · show (j : ℕ) = 0 + j
        omega
    · congr 1
      refine Fin.ext ?_
      show 1536 + ((t : ℕ) - 1536) = t
      omega
  rw [View.read_writes_cons_unit_of_not_mem v f inb6 w6 _ (ix2 t j) rfl 0 (.inl (by show (t : ℕ) < 1536; omega))]
  by_cases h5 : 1280 ≤ (t : ℕ)
  · refine (View.read_writes_cons_unit_of_mem v f inb5 w5 _ (ix2 t j) (ix2 ⟨t - 1280, by omega⟩ j) rfl fun a => ?_).trans ((H5 _ j).trans ?_)
    · fin_cases a
      · show (t : ℕ) = 1280 + (t - 1280)
        omega
      · show (j : ℕ) = 0 + j
        omega
    · congr 1
      refine Fin.ext ?_
      show 1280 + ((t : ℕ) - 1280) = t
      omega
  rw [View.read_writes_cons_unit_of_not_mem v f inb5 w5 _ (ix2 t j) rfl 0 (.inl (by show (t : ℕ) < 1280; omega))]
  by_cases h4 : 1024 ≤ (t : ℕ)
  · refine (View.read_writes_cons_unit_of_mem v f inb4 w4 _ (ix2 t j) (ix2 ⟨t - 1024, by omega⟩ j) rfl fun a => ?_).trans ((H4 _ j).trans ?_)
    · fin_cases a
      · show (t : ℕ) = 1024 + (t - 1024)
        omega
      · show (j : ℕ) = 0 + j
        omega
    · congr 1
      refine Fin.ext ?_
      show 1024 + ((t : ℕ) - 1024) = t
      omega
  rw [View.read_writes_cons_unit_of_not_mem v f inb4 w4 _ (ix2 t j) rfl 0 (.inl (by show (t : ℕ) < 1024; omega))]
  by_cases h3 : 768 ≤ (t : ℕ)
  · refine (View.read_writes_cons_unit_of_mem v f inb3 w3 _ (ix2 t j) (ix2 ⟨t - 768, by omega⟩ j) rfl fun a => ?_).trans ((H3 _ j).trans ?_)
    · fin_cases a
      · show (t : ℕ) = 768 + (t - 768)
        omega
      · show (j : ℕ) = 0 + j
        omega
    · congr 1
      refine Fin.ext ?_
      show 768 + ((t : ℕ) - 768) = t
      omega
  rw [View.read_writes_cons_unit_of_not_mem v f inb3 w3 _ (ix2 t j) rfl 0 (.inl (by show (t : ℕ) < 768; omega))]
  by_cases h2 : 512 ≤ (t : ℕ)
  · refine (View.read_writes_cons_unit_of_mem v f inb2 w2 _ (ix2 t j) (ix2 ⟨t - 512, by omega⟩ j) rfl fun a => ?_).trans ((H2 _ j).trans ?_)
    · fin_cases a
      · show (t : ℕ) = 512 + (t - 512)
        omega
      · show (j : ℕ) = 0 + j
        omega
    · congr 1
      refine Fin.ext ?_
      show 512 + ((t : ℕ) - 512) = t
      omega
  rw [View.read_writes_cons_unit_of_not_mem v f inb2 w2 _ (ix2 t j) rfl 0 (.inl (by show (t : ℕ) < 512; omega))]
  by_cases h1 : 256 ≤ (t : ℕ)
  · refine (View.read_writes_cons_unit_of_mem v f inb1 w1 _ (ix2 t j) (ix2 ⟨t - 256, by omega⟩ j) rfl fun a => ?_).trans ((H1 _ j).trans ?_)
    · fin_cases a
      · show (t : ℕ) = 256 + (t - 256)
        omega
      · show (j : ℕ) = 0 + j
        omega
    · congr 1
      refine Fin.ext ?_
      show 256 + ((t : ℕ) - 256) = t
      omega
  rw [View.read_writes_cons_unit_of_not_mem v f inb1 w1 _ (ix2 t j) rfl 0 (.inl (by show (t : ℕ) < 256; omega))]
  refine (View.read_writes_cons_unit_of_mem v f inb0 w0 _ (ix2 t j) (ix2 ⟨t - 0, by omega⟩ j) rfl fun a => ?_).trans ((H0 _ j).trans ?_)
  · fin_cases a
    · show (t : ℕ) = 0 + (t - 0)
      omega
    · show (j : ℕ) = 0 + j
      omega
  · congr 1
    refine Fin.ext ?_
    show 0 + ((t : ℕ) - 0) = t
    omega

/-- A sum over 1024 lanes is the sum over the two halves. -/
theorem sum_halves (f : Fin 1024 → EReal) : ∑ k, f k = ∑ l : Fin 512, (f ⟨l, by omega⟩ + f ⟨512 + l, by omega⟩) := by
  rw [Finset.sum_add_distrib]
  exact Fin.sum_univ_add (a := 512) (b := 512) f

/-- A finite sum of reals is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.KernelIdeal.Run

end
-- ==== Proof.Block0.lean ====
/-
  One block of the forward call: what its two outputs hold, from the block's inputs.
-/
module

public import proofs.«01_k».proof.Proof.Rows
public import proofs.«01_k».proof.Proof.Gen.KernelIdeal.Frame

@[expose] public section

set_option maxRecDepth 16384

noncomputable section

namespace Cert.KernelIdeal.Run

open Idealize.ShloMosaic Idealize.ShloMosaic.TcCoe Cert.KernelIdeal Cert.KernelIdeal.Gen Cert.Spec
open Idealize.SL Idealize.SL.RA Idealize.SL.BI Idealize.SL.Sem

/-! ## Reading the blocks -/

section
variable {κ : Kind} {sp : Space} {s : Shape} {e : EltTy}

/-- A rectangle of a whole block. -/
theorem readAt_unread {m : Memref sig κ sp s e} (h : m.IsWhole) (X : s.Idx → Elt Ideal e) (r : LoadRect s) (x : r.shape.Idx) :
    View.readAt (Elt Ideal) m.view r (h.unread X) x = X (r.idx x) :=
  congrFun (h.read_unread X) (r.idx x)

end

/-- The position of an element of a rectangle at the origin that is the whole array. -/
theorem idx_whole3 {A B C : ℕ} (inb) (a : Fin A) (b : Fin B) (c : Fin C) :
    (Rect.unit (s := ⟨3, ![A, B, C]⟩) ![0, 0, 0] ![A, B, C] inb).toLoadRect.idx (ix3 a b c) = ix3 a b c := by
  refine funext fun k => Fin.ext ?_
  fin_cases k
  · show 0 + 1 * (a : ℕ) = a
    omega
  · show 0 + 1 * (b : ℕ) = b
    omega
  · show 0 + 1 * (c : ℕ) = c
    omega

theorem pay17_apply (v0 : Vec Ideal S256x128 .f32) (v2 : Vec Ideal S1x128x1024 .bf16) (r : Fin 256) (j : Fin 1024) :
    k0_pay17 (F := Ideal) v0 v2 (ix2 r j) = ∑ x, (v0 (ix2 r x) : EReal) * (v2 (ix3 0 x j) : EReal) := by
  unfold k0_pay17
  pointwise

theorem pay48_apply (v0 : Vec Ideal S256x1024 .f32) (v1 : Vec Ideal S1x1024x128 .bf16) (v2 : Vec Ideal S1x128 .f32) (v3 : Vec Ideal S256x128 .f32)
    (r : Fin 256) (j : Fin 128) :
    k0_pay48 (F := Ideal) v0 v1 v2 v3 (ix2 r j) = (∑ x, (v0 (ix2 r x) : EReal) * (v1 (ix3 0 x j) : EReal)) + (v2 (ix2 0 j) : EReal) * (v3 (ix2 r j) : EReal) := by
  unfold k0_pay48 k0_pay47
  pointwise

/-! ## The inputs -/

/-- The recurrence's input in a block. -/
def bu (U : ℕ → Fin 128 → ℝ) (B : Fin 128 → Fin 512 → ℂ) (l : Fin 512) (t : ℕ) : ℂ := ∑ ch, (U t ch : ℂ) * B ch l

/-- A block's inputs: rows, input map, output map and multiplier. -/
structure In0 (x0 : Vec Ideal S2048x128 .f32) (x1 : Vec Ideal S1x128x1024 .bf16) (x2 : Vec Ideal S1x1024x128 .bf16) (x3 : Vec Ideal S1x1x1024 .f32)
    (U : ℕ → Fin 128 → ℝ) (B : Fin 128 → Fin 512 → ℂ) (C : Fin 512 → Fin 128 → ℂ) (al : Fin 512 → ℂ) : Prop where
  u : ∀ (t : Fin 2048) (ch : Fin 128), x0 (ix2 t ch) = (U t ch : EReal)
  br : ∀ (ch : Fin 128) (l : Fin 512), x1 (ix3 0 ch ⟨l, by omega⟩) = ((B ch l).re : EReal)
  bi : ∀ (ch : Fin 128) (l : Fin 512), x1 (ix3 0 ch ⟨512 + l, by omega⟩) = ((B ch l).im : EReal)
  cr : ∀ (l : Fin 512) (ch : Fin 128), x2 (ix3 0 ⟨l, by omega⟩ ch) = ((C l ch).re : EReal)
  ci : ∀ (l : Fin 512) (ch : Fin 128), x2 (ix3 0 ⟨512 + l, by omega⟩ ch) = ((-(C l ch).im : ℝ) : EReal)
  ar : ∀ l : Fin 512, x3 (ix3 0 0 ⟨l, by omega⟩) = ((al l).re : EReal)
  ai : ∀ l : Fin 512, x3 (ix3 0 0 ⟨512 + l, by omega⟩) = ((al l).im : EReal)

/-! ## The multipliers -/

/-- The multiplier's rows. -/
theorem decay_rows {w0 w1 : Vec Ideal S1x1x512 .f32} {al : Fin 512 → ℂ} (h0 : ∀ l, w0 (ix3 0 0 l) = ((al l).re : EReal)) (h1 : ∀ l, w1 (ix3 0 0 l) = ((al l).im : EReal)) :
    Holds (k0_pay26 (F := Ideal) w0) (k0_pay27 (F := Ideal) w1) (fun _ l => al l) := fun r l => by
  constructor
  · unfold k0_pay26
    pointwise
    exact h0 l
  · unfold k0_pay27
    pointwise
    exact h1 l

/-- The multipliers of the forward scan. -/
theorem fwd_consts {w0 w1 : Vec Ideal S1x1x512 .f32} {al : Fin 512 → ℂ} (h0 : ∀ l, w0 (ix3 0 0 l) = ((al l).re : EReal)) (h1 : ∀ l, w1 (ix3 0 0 l) = ((al l).im : EReal)) :
    FwdConsts (k0_pay26 (F := Ideal) w0) (k0_pay27 (F := Ideal) w1) (iota .tc S8x512 32 [0] iota_S8x512_d0_w32) (k0_pay28 (F := Ideal))
      (k0_pay30 (F := Ideal) w0) (k0_pay31 (F := Ideal) w1) (k0_pay35 (F := Ideal) w0 w1) (k0_pay36 (F := Ideal) w0 w1) (k0_pay37 (F := Ideal) w0 w1) k0_pay38 (k0_pay39 (F := Ideal) w0 w1) al := by
  have hz : ∀ i, k0_pay28 (F := Ideal) i = (0 : EReal) := fun i => Ideal.ofBits_zero_f32
  have a1 := decay_rows h0 h1
  have a2 := a1.mul a1
  have a4 := a2.mul a2
  exact ⟨a1.masked (p := fun r => (r : ℕ) = 0) mask0 hz, a1.masked (p := fun r => 1 ≤ (r : ℕ)) mask1 hz, a2.masked (p := fun r => 2 ≤ (r : ℕ)) mask2 hz,
    a4.masked (p := fun r => 4 ≤ (r : ℕ)) mask4 hz⟩

theorem trips0 : (Scf.trips k0_t1_loop.lb k0_t1_loop.ub k0_t1_loop.st) = 256 := by decide

section
variable (c : Dev nD) (i : grid0.Coords) (m1 : Memref sig .tc .vmem S2048x128 .f32) (k1 : m1.IsWhole) (m2 : Memref sig .tc .vmem S1x128x1024 .bf16) (k2 : m2.IsWhole) (m3 : Memref sig .tc .vmem S1x1024x128 .bf16) (k3 : m3.IsWhole) (m4 : Memref sig .tc .vmem S1x1x1024 .f32) (k4 : m4.IsWhole) (m5 : Memref sig .tc .vmem S1x128 .f32) (k5 : m5.IsWhole) (m6 : Memref sig .tc .vmem S2048x128 .f32) (k6 : m6.IsWhole) (m7 : Memref sig .tc .vmem S2048x1024 .bf16) (k7 : m7.IsWhole) (m8 : Memref sig .tc .vmem S2048x1024 .f32) (k8 : m8.IsWhole)
  (x0 : Vec Ideal S2048x128 .f32) (x1 : Vec Ideal S1x128x1024 .bf16) (x2 : Vec Ideal S1x1024x128 .bf16) (x3 : Vec Ideal S1x1x1024 .f32) (x4 : Vec Ideal S1x128 .f32)
  {U : ℕ → Fin 128 → ℝ} {B : Fin 128 → Fin 512 → ℂ} {C : Fin 512 → Fin 128 → ℂ} {al : Fin 512 → ℂ}

/-- The recurrence's inputs are written in eight pieces. -/
theorem pieces_in : (kernelRun0_A.sl.HS0_8 c m1 k1 m2 k2 x0 x1) = [⟨Rect.unit (s := S2048x1024) ![1792, 0] S256x1024.size inb_S2048x1024_S256x1024_1792_0, k0_pay17 (F := Ideal) (View.readAt (Elt Ideal) m1.view (Rect.unit (s := S2048x128) ![1792, 0] S256x128.size inb_S2048x128_S256x128_1792_0).toLoadRect (k1.unread x0)) (View.readAt (Elt Ideal) m2.view (Rect.unit (s := S1x128x1024) ![0, 0, 0] S1x128x1024.size inb_S1x128x1024_S1x128x1024_0_0_0).toLoadRect (k2.unread x1))⟩, ⟨Rect.unit (s := S2048x1024) ![1536, 0] S256x1024.size inb_S2048x1024_S256x1024_1536_0, k0_pay17 (F := Ideal) (View.readAt (Elt Ideal) m1.view (Rect.unit (s := S2048x128) ![1536, 0] S256x128.size inb_S2048x128_S256x128_1536_0).toLoadRect (k1.unread x0)) (View.readAt (Elt Ideal) m2.view (Rect.unit (s := S1x128x1024) ![0, 0, 0] S1x128x1024.size inb_S1x128x1024_S1x128x1024_0_0_0).toLoadRect (k2.unread x1))⟩, ⟨Rect.unit (s := S2048x1024) ![1280, 0] S256x1024.size inb_S2048x1024_S256x1024_1280_0, k0_pay17 (F := Ideal) (View.readAt (Elt Ideal) m1.view (Rect.unit (s := S2048x128) ![1280, 0] S256x128.size inb_S2048x128_S256x128_1280_0).toLoadRect (k1.unread x0)) (View.readAt (Elt Ideal) m2.view (Rect.unit (s := S1x128x1024) ![0, 0, 0] S1x128x1024.size inb_S1x128x1024_S1x128x1024_0_0_0).toLoadRect (k2.unread x1))⟩, ⟨Rect.unit (s := S2048x1024) ![1024, 0] S256x1024.size inb_S2048x1024_S256x1024_1024_0, k0_pay17 (F := Ideal) (View.readAt (Elt Ideal) m1.view (Rect.unit (s := S2048x128) ![1024, 0] S256x128.size inb_S2048x128_S256x128_1024_0).toLoadRect (k1.unread x0)) (View.readAt (Elt Ideal) m2.view (Rect.unit (s := S1x128x1024) ![0, 0, 0] S1x128x1024.size inb_S1x128x1024_S1x128x1024_0_0_0).toLoadRect (k2.unread x1))⟩, ⟨Rect.unit (s := S2048x1024) ![768, 0] S256x1024.size inb_S2048x1024_S256x1024_768_0, k0_pay17 (F := Ideal) (View.readAt (Elt Ideal) m1.view (Rect.unit (s := S2048x128) ![768, 0] S256x128.size inb_S2048x128_S256x128_768_0).toLoadRect (k1.unread x0)) (View.readAt (Elt Ideal) m2.view (Rect.unit (s := S1x128x1024) ![0, 0, 0] S1x128x1024.size inb_S1x128x1024_S1x128x1024_0_0_0).toLoadRect (k2.unread x1))⟩, ⟨Rect.unit (s := S2048x1024) ![512, 0] S256x1024.size inb_S2048x1024_S256x1024_512_0, k0_pay17 (F := Ideal) (View.readAt (Elt Ideal) m1.view (Rect.unit (s := S2048x128) ![512, 0] S256x128.size inb_S2048x128_S256x128_512_0).toLoadRect (k1.unread x0)) (View.readAt (Elt Ideal) m2.view (Rect.unit (s := S1x128x1024) ![0, 0, 0] S1x128x1024.size inb_S1x128x1024_S1x128x1024_0_0_0).toLoadRect (k2.unread x1))⟩, ⟨Rect.unit (s := S2048x1024) ![256, 0] S256x1024.size inb_S2048x1024_S256x1024_256_0, k0_pay17 (F := Ideal) (View.readAt (Elt Ideal) m1.view (Rect.unit (s := S2048x128) ![256, 0] S256x128.size inb_S2048x128_S256x128_256_0).toLoadRect (k1.unread x0)) (View.readAt (Elt Ideal) m2.view (Rect.unit (s := S1x128x1024) ![0, 0, 0] S1x128x1024.size inb_S1x128x1024_S1x128x1024_0_0_0).toLoadRect (k2.unread x1))⟩, ⟨Rect.unit (s := S2048x1024) ![0, 0] S256x1024.size inb_S2048x1024_S256x1024_0_0, k0_pay17 (F := Ideal) (View.readAt (Elt Ideal) m1.view (Rect.unit (s := S2048x128) ![0, 0] S256x128.size inb_S2048x128_S256x128_0_0).toLoadRect (k1.unread x0)) (View.readAt (Elt Ideal) m2.view (Rect.unit (s := S1x128x1024) ![0, 0, 0] S1x128x1024.size inb_S1x128x1024_S1x128x1024_0_0_0).toLoadRect (k2.unread x1))⟩] := rfl

/-- Row `o + r` of the rows. -/
theorem u_rows (o : ℕ) (inb) (r : Fin 256) (ch : Fin 128) (h : o + r < 2048) :
    View.readAt (Elt Ideal) m1.view (Rect.unit (s := S2048x128) ![o, 0] S256x128.size inb).toLoadRect (k1.unread x0) (ix2 r ch) = x0 (ix2 ⟨o + r, h⟩ ch) := by
  rw [readAt_unread]
  refine congrArg x0 ((idx_unit inb r ch rfl h (by omega)).trans ?_)
  congr 1
  exact Fin.ext (Nat.zero_add _)

/-- Row `t` of the recurrence's inputs, before it is split into parts. -/
theorem in_rows (t : Fin 2048) (j : Fin 1024) :
    m8.view.read (Elt Ideal) (m8.view.writes (Elt Ideal) m8.view.junk (kernelRun0_A.sl.HS0_8 c m1 k1 m2 k2 x0 x1)) (ix2 t j) = ∑ x : Fin 128, (x0 (ix2 t x) : EReal) * (x1 (ix3 0 x j) : EReal) := by
  rw [pieces_in]
  refine rows8 (N := 1024) m8.view m8.view.junk _ _ _ _ _ _ _ _ _ _ _ _ _ _ _ _ (fun t j => ∑ x : Fin 128, (x0 (ix2 t x) : EReal) * (x1 (ix3 0 x j) : EReal))
    ?_ ?_ ?_ ?_ ?_ ?_ ?_ ?_ t j <;>
  · intro r j
    refine (pay17_apply _ _ r j).trans (Finset.sum_congr rfl fun x _ => ?_)
    refine congrArg₂ _ (u_rows _ _ _ _ _ r x (by omega)) ?_
    rw [readAt_unread]
    exact congrArg x1 (idx_whole3 _ 0 x j)

theorem in_wide (hI : In0 x0 x1 x2 x3 U B C al) : Wide (m8.view.read (Elt Ideal) (m8.view.writes (Elt Ideal) m8.view.junk (kernelRun0_A.sl.HS0_8 c m1 k1 m2 k2 x0 x1))) (fun t l => bu U B l t) := fun t l => by
  rw [in_rows, in_rows]
  unfold bu
  rw [Complex.re_sum, Complex.im_sum, coe_sum, coe_sum]
  constructor
  · refine Finset.sum_congr rfl fun x _ => ?_
    rw [hI.u, hI.br, ← EReal.coe_mul]
    congr 1
    simp
  · refine Finset.sum_congr rfl fun x _ => ?_
    rw [hI.u, hI.bi, ← EReal.coe_mul]
    congr 1
    simp

/-- After the scan the scratch holds the states. -/
theorem states0 (hI : In0 x0 x1 x2 x3 U B C al) :
    Wide (m8.view.read (Elt Ideal) (m8.view.writes (Elt Ideal) (m8.view.writes (Elt Ideal) m8.view.junk (kernelRun0_A.sl.HS0_8 c m1 k1 m2 k2 x0 x1)) (st_k0_t1 (F := Ideal) Variants.none c none i m1 k1 m2 k2 m3 k3 m4 k4 m5 k5 m6 k6 m7 k7 m8 k8 (kernelRun0_A.sl.r_2 (F := Ideal) c m4 k4 x3) (kernelRun0_A.sl.r_3 (F := Ideal) c m4 k4 x3) kernelRun0_A.sl.v72 (k0_pay28 (F := Ideal)) (kernelRun0_A.sl.r_4 (F := Ideal) c m4 k4 x3) (kernelRun0_A.sl.r_5 (F := Ideal) c m4 k4 x3) (kernelRun0_A.sl.r_6 (F := Ideal) c m4 k4 x3) (kernelRun0_A.sl.r_7 (F := Ideal) c m4 k4 x3) (kernelRun0_A.sl.r_8 (F := Ideal) c m4 k4 x3) k0_pay38 (kernelRun0_A.sl.r_9 (F := Ideal) c m4 k4 x3) (m8.view.writes (Elt Ideal) m8.view.junk (kernelRun0_A.sl.HS0_8 c m1 k1 m2 k2 x0 x1)) (k0_pay44 (F := Ideal), k0_pay44 (F := Ideal)) (Scf.trips k0_t1_loop.lb k0_t1_loop.ub k0_t1_loop.st)).2))
      (fun t l => run (al l) (bu U B l) (t + 1)) := by
  have hc : FwdConsts (kernelRun0_A.sl.r_2 (F := Ideal) c m4 k4 x3) (kernelRun0_A.sl.r_3 (F := Ideal) c m4 k4 x3) kernelRun0_A.sl.v72 (k0_pay28 (F := Ideal)) (kernelRun0_A.sl.r_4 (F := Ideal) c m4 k4 x3) (kernelRun0_A.sl.r_5 (F := Ideal) c m4 k4 x3) (kernelRun0_A.sl.r_6 (F := Ideal) c m4 k4 x3) (kernelRun0_A.sl.r_7 (F := Ideal) c m4 k4 x3) (kernelRun0_A.sl.r_8 (F := Ideal) c m4 k4 x3) k0_pay38 (kernelRun0_A.sl.r_9 (F := Ideal) c m4 k4 x3) al := by
    refine fwd_consts (fun l => ?_) (fun l => ?_)
    · rw [readAt_unread]
      refine Eq.trans (congrArg x3 ?_) (hI.ar l)
      refine funext fun k => Fin.ext ?_
      fin_cases k
      · rfl
      · rfl
      · show 0 + 1 * (l : ℕ) = l
        omega
    · rw [readAt_unread]
      refine Eq.trans (congrArg x3 ?_) (hI.ai l)
      refine funext fun k => Fin.ext ?_
      fin_cases k
      · rfl
      · rfl
      · show 512 + 1 * (l : ℕ) = 512 + l
        omega
  have hz : Holds (k0_pay44 (F := Ideal)) (k0_pay44 (F := Ideal)) (fun _ _ => 0) := fun r l => ⟨Ideal.ofBits_zero_f32, Ideal.ofBits_zero_f32⟩
  obtain ⟨P, -, -, h⟩ := scan0 Variants.none c none i m1 k1 m2 k2 m3 k3 m4 k4 m5 k5 m6 k6 m7 k7 m8 k8 (kernelRun0_A.sl.r_2 (F := Ideal) c m4 k4 x3) (kernelRun0_A.sl.r_3 (F := Ideal) c m4 k4 x3) kernelRun0_A.sl.v72 (k0_pay28 (F := Ideal)) (kernelRun0_A.sl.r_4 (F := Ideal) c m4 k4 x3) (kernelRun0_A.sl.r_5 (F := Ideal) c m4 k4 x3) (kernelRun0_A.sl.r_6 (F := Ideal) c m4 k4 x3) (kernelRun0_A.sl.r_7 (F := Ideal) c m4 k4 x3) (kernelRun0_A.sl.r_8 (F := Ideal) c m4 k4 x3) k0_pay38 (kernelRun0_A.sl.r_9 (F := Ideal) c m4 k4 x3) (m8.view.writes (Elt Ideal) m8.view.junk (kernelRun0_A.sl.HS0_8 c m1 k1 m2 k2 x0 x1)) (k0_pay44 (F := Ideal), k0_pay44 (F := Ideal)) hc (bu U B)
    (in_wide c m1 k1 m2 k2 m8 x0 x1 x2 x3 hI) hz (Scf.trips k0_t1_loop.lb k0_t1_loop.ub k0_t1_loop.st) (le_of_eq trips0)
  refine Wide.congr h fun t l => if_pos ?_
  rw [trips0]
  omega

/-- A block of 256 rows of the scanned scratch. -/
theorem back_rows (o : ℕ) (inb) (L L' : List (View.Piece (Elt Ideal) S2048x1024 .f32)) (r : Fin 256) (j : Fin 1024) (h : o + r < 2048) :
    m8.view.readCov (L ++ L') (Rect.unit (s := S2048x1024) ![o, 0] S256x1024.size inb).toLoadRect (ix2 r j)
      = m8.view.read (Elt Ideal) (m8.view.writes (Elt Ideal) (m8.view.writes (Elt Ideal) m8.view.junk L') L) (ix2 ⟨o + r, h⟩ j) := by
  show m8.view.read (Elt Ideal) (m8.view.writes (Elt Ideal) m8.view.junk (L ++ L')) _ = _
  rw [View.writes_append]
  refine congrArg _ ((idx_unit inb r j rfl h (by omega)).trans ?_)
  congr 1
  exact Fin.ext (Nat.zero_add _)

theorem run_y : (kernelRun0_A (F := Ideal) c i m1 k1 m2 k2 m3 k3 m4 k4 m5 k5 m6 k6 m7 k7 m8 k8 x0 x1 x2 x3 x4).1
      = [⟨Rect.unit (s := S2048x128) ![1792, 0] S256x128.size inb_S2048x128_S256x128_1792_0, k0_pay48 (F := Ideal) (kernelRun0_A.sl.v189 (F := Ideal) c i m1 k1 m2 k2 m3 k3 m4 k4 m5 k5 m6 k6 m7 k7 m8 k8 x0 x1 x3) (View.readAt (Elt Ideal) m3.view (Rect.unit (s := S1x1024x128) ![0, 0, 0] S1x1024x128.size inb_S1x1024x128_S1x1024x128_0_0_0).toLoadRect (k3.unread x2)) (View.readAt (Elt Ideal) m5.view (Rect.unit (s := S1x128) ![0, 0] S1x128.size inb_S1x128_S1x128_0_0).toLoadRect (k5.unread x4)) (View.readAt (Elt Ideal) m1.view (Rect.unit (s := S2048x128) ![1792, 0] S256x128.size inb_S2048x128_S256x128_1792_0).toLoadRect (k1.unread x0))⟩,
        ⟨Rect.unit (s := S2048x128) ![1536, 0] S256x128.size inb_S2048x128_S256x128_1536_0, k0_pay48 (F := Ideal) (kernelRun0_A.sl.v177 (F := Ideal) c i m1 k1 m2 k2 m3 k3 m4 k4 m5 k5 m6 k6 m7 k7 m8 k8 x0 x1 x3) (View.readAt (Elt Ideal) m3.view (Rect.unit (s := S1x1024x128) ![0, 0, 0] S1x1024x128.size inb_S1x1024x128_S1x1024x128_0_0_0).toLoadRect (k3.unread x2)) (View.readAt (Elt Ideal) m5.view (Rect.unit (s := S1x128) ![0, 0] S1x128.size inb_S1x128_S1x128_0_0).toLoadRect (k5.unread x4)) (View.readAt (Elt Ideal) m1.view (Rect.unit (s := S2048x128) ![1536, 0] S256x128.size inb_S2048x128_S256x128_1536_0).toLoadRect (k1.unread x0))⟩,
        ⟨Rect.unit (s := S2048x128) ![1280, 0] S256x128.size inb_S2048x128_S256x128_1280_0, k0_pay48 (F := Ideal) (kernelRun0_A.sl.v165 (F := Ideal) c i m1 k1 m2 k2 m3 k3 m4 k4 m5 k5 m6 k6 m7 k7 m8 k8 x0 x1 x3) (View.readAt (Elt Ideal) m3.view (Rect.unit (s := S1x1024x128) ![0, 0, 0] S1x1024x128.size inb_S1x1024x128_S1x1024x128_0_0_0).toLoadRect (k3.unread x2)) (View.readAt (Elt Ideal) m5.view (Rect.unit (s := S1x128) ![0, 0] S1x128.size inb_S1x128_S1x128_0_0).toLoadRect (k5.unread x4)) (View.readAt (Elt Ideal) m1.view (Rect.unit (s := S2048x128) ![1280, 0] S256x128.size inb_S2048x128_S256x128_1280_0).toLoadRect (k1.unread x0))⟩,
        ⟨Rect.unit (s := S2048x128) ![1024, 0] S256x128.size inb_S2048x128_S256x128_1024_0, k0_pay48 (F := Ideal) (kernelRun0_A.sl.v153 (F := Ideal) c i m1 k1 m2 k2 m3 k3 m4 k4 m5 k5 m6 k6 m7 k7 m8 k8 x0 x1 x3) (View.readAt (Elt Ideal) m3.view (Rect.unit (s := S1x1024x128) ![0, 0, 0] S1x1024x128.size inb_S1x1024x128_S1x1024x128_0_0_0).toLoadRect (k3.unread x2)) (View.readAt (Elt Ideal) m5.view (Rect.unit (s := S1x128) ![0, 0] S1x128.size inb_S1x128_S1x128_0_0).toLoadRect (k5.unread x4)) (View.readAt (Elt Ideal) m1.view (Rect.unit (s := S2048x128) ![1024, 0] S256x128.size inb_S2048x128_S256x128_1024_0).toLoadRect (k1.unread x0))⟩,
        ⟨Rect.unit (s := S2048x128) ![768, 0] S256x128.size inb_S2048x128_S256x128_768_0, k0_pay48 (F := Ideal) (kernelRun0_A.sl.v141 (F := Ideal) c i m1 k1 m2 k2 m3 k3 m4 k4 m5 k5 m6 k6 m7 k7 m8 k8 x0 x1 x3) (View.readAt (Elt Ideal) m3.view (Rect.unit (s := S1x1024x128) ![0, 0, 0] S1x1024x128.size inb_S1x1024x128_S1x1024x128_0_0_0).toLoadRect (k3.unread x2)) (View.readAt (Elt Ideal) m5.view (Rect.unit (s := S1x128) ![0, 0] S1x128.size inb_S1x128_S1x128_0_0).toLoadRect (k5.unread x4)) (View.readAt (Elt Ideal) m1.view (Rect.unit (s := S2048x128) ![768, 0] S256x128.size inb_S2048x128_S256x128_768_0).toLoadRect (k1.unread x0))⟩,
        ⟨Rect.unit (s := S2048x128) ![512, 0] S256x128.size inb_S2048x128_S256x128_512_0, k0_pay48 (F := Ideal) (kernelRun0_A.sl.v129 (F := Ideal) c i m1 k1 m2 k2 m3 k3 m4 k4 m5 k5 m6 k6 m7 k7 m8 k8 x0 x1 x3) (View.readAt (Elt Ideal) m3.view (Rect.unit (s := S1x1024x128) ![0, 0, 0] S1x1024x128.size inb_S1x1024x128_S1x1024x128_0_0_0).toLoadRect (k3.unread x2)) (View.readAt (Elt Ideal) m5.view (Rect.unit (s := S1x128) ![0, 0] S1x128.size inb_S1x128_S1x128_0_0).toLoadRect (k5.unread x4)) (View.readAt (Elt Ideal) m1.view (Rect.unit (s := S2048x128) ![512, 0] S256x128.size inb_S2048x128_S256x128_512_0).toLoadRect (k1.unread x0))⟩,
        ⟨Rect.unit (s := S2048x128) ![256, 0] S256x128.size inb_S2048x128_S256x128_256_0, k0_pay48 (F := Ideal) (kernelRun0_A.sl.v117 (F := Ideal) c i m1 k1 m2 k2 m3 k3 m4 k4 m5 k5 m6 k6 m7 k7 m8 k8 x0 x1 x3) (View.readAt (Elt Ideal) m3.view (Rect.unit (s := S1x1024x128) ![0, 0, 0] S1x1024x128.size inb_S1x1024x128_S1x1024x128_0_0_0).toLoadRect (k3.unread x2)) (View.readAt (Elt Ideal) m5.view (Rect.unit (s := S1x128) ![0, 0] S1x128.size inb_S1x128_S1x128_0_0).toLoadRect (k5.unread x4)) (View.readAt (Elt Ideal) m1.view (Rect.unit (s := S2048x128) ![256, 0] S256x128.size inb_S2048x128_S256x128_256_0).toLoadRect (k1.unread x0))⟩,
        ⟨Rect.unit (s := S2048x128) ![0, 0] S256x128.size inb_S2048x128_S256x128_0_0, k0_pay48 (F := Ideal) (kernelRun0_A.sl.v105 (F := Ideal) c i m1 k1 m2 k2 m3 k3 m4 k4 m5 k5 m6 k6 m7 k7 m8 k8 x0 x1 x3) (View.readAt (Elt Ideal) m3.view (Rect.unit (s := S1x1024x128) ![0, 0, 0] S1x1024x128.size inb_S1x1024x128_S1x1024x128_0_0_0).toLoadRect (k3.unread x2)) (View.readAt (Elt Ideal) m5.view (Rect.unit (s := S1x128) ![0, 0] S1x128.size inb_S1x128_S1x128_0_0).toLoadRect (k5.unread x4)) (View.readAt (Elt Ideal) m1.view (Rect.unit (s := S2048x128) ![0, 0] S256x128.size inb_S2048x128_S256x128_0_0).toLoadRect (k1.unread x0))⟩] := by
  unfold kernelRun0_A
  rfl

theorem run_states : (kernelRun0_A (F := Ideal) c i m1 k1 m2 k2 m3 k3 m4 k4 m5 k5 m6 k6 m7 k7 m8 k8 x0 x1 x2 x3 x4).2.1
      = [⟨Rect.unit (s := S2048x1024) ![1792, 0] S256x1024.size inb_S2048x1024_S256x1024_1792_0, k0_pay47 (F := Ideal) (kernelRun0_A.sl.v189 (F := Ideal) c i m1 k1 m2 k2 m3 k3 m4 k4 m5 k5 m6 k6 m7 k7 m8 k8 x0 x1 x3)⟩,
        ⟨Rect.unit (s := S2048x1024) ![1536, 0] S256x1024.size inb_S2048x1024_S256x1024_1536_0, k0_pay47 (F := Ideal) (kernelRun0_A.sl.v177 (F := Ideal) c i m1 k1 m2 k2 m3 k3 m4 k4 m5 k5 m6 k6 m7 k7 m8 k8 x0 x1 x3)⟩,
        ⟨Rect.unit (s := S2048x1024) ![1280, 0] S256x1024.size inb_S2048x1024_S256x1024_1280_0, k0_pay47 (F := Ideal) (kernelRun0_A.sl.v165 (F := Ideal) c i m1 k1 m2 k2 m3 k3 m4 k4 m5 k5 m6 k6 m7 k7 m8 k8 x0 x1 x3)⟩,
        ⟨Rect.unit (s := S2048x1024) ![1024, 0] S256x1024.size inb_S2048x1024_S256x1024_1024_0, k0_pay47 (F := Ideal) (kernelRun0_A.sl.v153 (F := Ideal) c i m1 k1 m2 k2 m3 k3 m4 k4 m5 k5 m6 k6 m7 k7 m8 k8 x0 x1 x3)⟩,
        ⟨Rect.unit (s := S2048x1024) ![768, 0] S256x1024.size inb_S2048x1024_S256x1024_768_0, k0_pay47 (F := Ideal) (kernelRun0_A.sl.v141 (F := Ideal) c i m1 k1 m2 k2 m3 k3 m4 k4 m5 k5 m6 k6 m7 k7 m8 k8 x0 x1 x3)⟩,
        ⟨Rect.unit (s := S2048x1024) ![512, 0] S256x1024.size inb_S2048x1024_S256x1024_512_0, k0_pay47 (F := Ideal) (kernelRun0_A.sl.v129 (F := Ideal) c i m1 k1 m2 k2 m3 k3 m4 k4 m5 k5 m6 k6 m7 k7 m8 k8 x0 x1 x3)⟩,
        ⟨Rect.unit (s := S2048x1024) ![256, 0] S256x1024.size inb_S2048x1024_S256x1024_256_0, k0_pay47 (F := Ideal) (kernelRun0_A.sl.v117 (F := Ideal) c i m1 k1 m2 k2 m3 k3 m4 k4 m5 k5 m6 k6 m7 k7 m8 k8 x0 x1 x3)⟩,
        ⟨Rect.unit (s := S2048x1024) ![0, 0] S256x1024.size inb_S2048x1024_S256x1024_0_0, k0_pay47 (F := Ideal) (kernelRun0_A.sl.v105 (F := Ideal) c i m1 k1 m2 k2 m3 k3 m4 k4 m5 k5 m6 k6 m7 k7 m8 k8 x0 x1 x3)⟩] := by
  unfold kernelRun0_A
  rfl

/-- The block's states. -/
theorem out0_states (hI : In0 x0 x1 x2 x3 U B C al) :
    Wide (out0_A_6 (F := Ideal) c i m1 k1 m2 k2 m3 k3 m4 k4 m5 k5 m6 k6 m7 k7 m8 k8 x0 x1 x2 x3 x4) (fun t l => run (al l) (bu U B l) (t + 1)) := by
  have e : ∀ (t : Fin 2048) (j : Fin 1024), out0_A_6 (F := Ideal) c i m1 k1 m2 k2 m3 k3 m4 k4 m5 k5 m6 k6 m7 k7 m8 k8 x0 x1 x2 x3 x4 (ix2 t j)
      = m8.view.read (Elt Ideal) (m8.view.writes (Elt Ideal) (m8.view.writes (Elt Ideal) m8.view.junk (kernelRun0_A.sl.HS0_8 c m1 k1 m2 k2 x0 x1)) (st_k0_t1 (F := Ideal) Variants.none c none i m1 k1 m2 k2 m3 k3 m4 k4 m5 k5 m6 k6 m7 k7 m8 k8 (kernelRun0_A.sl.r_2 (F := Ideal) c m4 k4 x3) (kernelRun0_A.sl.r_3 (F := Ideal) c m4 k4 x3) kernelRun0_A.sl.v72 (k0_pay28 (F := Ideal)) (kernelRun0_A.sl.r_4 (F := Ideal) c m4 k4 x3) (kernelRun0_A.sl.r_5 (F := Ideal) c m4 k4 x3) (kernelRun0_A.sl.r_6 (F := Ideal) c m4 k4 x3) (kernelRun0_A.sl.r_7 (F := Ideal) c m4 k4 x3) (kernelRun0_A.sl.r_8 (F := Ideal) c m4 k4 x3) k0_pay38 (kernelRun0_A.sl.r_9 (F := Ideal) c m4 k4 x3) (m8.view.writes (Elt Ideal) m8.view.junk (kernelRun0_A.sl.HS0_8 c m1 k1 m2 k2 x0 x1)) (k0_pay44 (F := Ideal), k0_pay44 (F := Ideal)) (Scf.trips k0_t1_loop.lb k0_t1_loop.ub k0_t1_loop.st)).2) (ix2 t j) := fun t j => by
    unfold out0_A_6
    rw [run_states]
    refine rows8 (N := 1024) VO0_6 VO0_6.junk _ _ _ _ _ _ _ _ _ _ _ _ _ _ _ _ (fun t j => m8.view.read (Elt Ideal) (m8.view.writes (Elt Ideal) (m8.view.writes (Elt Ideal) m8.view.junk (kernelRun0_A.sl.HS0_8 c m1 k1 m2 k2 x0 x1)) (st_k0_t1 (F := Ideal) Variants.none c none i m1 k1 m2 k2 m3 k3 m4 k4 m5 k5 m6 k6 m7 k7 m8 k8 (kernelRun0_A.sl.r_2 (F := Ideal) c m4 k4 x3) (kernelRun0_A.sl.r_3 (F := Ideal) c m4 k4 x3) kernelRun0_A.sl.v72 (k0_pay28 (F := Ideal)) (kernelRun0_A.sl.r_4 (F := Ideal) c m4 k4 x3) (kernelRun0_A.sl.r_5 (F := Ideal) c m4 k4 x3) (kernelRun0_A.sl.r_6 (F := Ideal) c m4 k4 x3) (kernelRun0_A.sl.r_7 (F := Ideal) c m4 k4 x3) (kernelRun0_A.sl.r_8 (F := Ideal) c m4 k4 x3) k0_pay38 (kernelRun0_A.sl.r_9 (F := Ideal) c m4 k4 x3) (m8.view.writes (Elt Ideal) m8.view.junk (kernelRun0_A.sl.HS0_8 c m1 k1 m2 k2 x0 x1)) (k0_pay44 (F := Ideal), k0_pay44 (F := Ideal)) (Scf.trips k0_t1_loop.lb k0_t1_loop.ub k0_t1_loop.st)).2) (ix2 t j))
      ?_ ?_ ?_ ?_ ?_ ?_ ?_ ?_ t j <;>
    · intro r j
      exact back_rows m8 _ _ _ _ r j _
  intro t l
  rw [e, e]
  exact states0 c i m1 k1 m2 k2 m3 k3 m4 k4 m5 k5 m6 k6 m7 k7 m8 k8 x0 x1 x2 x3 hI t l

/-- The block's output rows. -/
theorem out0_y (hI : In0 x0 x1 x2 x3 U B C al) (t : Fin 2048) (ch : Fin 128) :
    out0_A_5 (F := Ideal) c i m1 k1 m2 k2 m3 k3 m4 k4 m5 k5 m6 k6 m7 k7 m8 k8 x0 x1 x2 x3 x4 (ix2 t ch)
      = ((∑ l : Fin 512, (run (al l) (bu U B l) (t + 1) * C l ch).re : ℝ) : EReal) + (x4 (ix2 0 ch) : EReal) * (x0 (ix2 t ch) : EReal) := by
  unfold out0_A_5
  rw [run_y]
  refine rows8 (N := 128) VO0_5 VO0_5.junk _ _ _ _ _ _ _ _ _ _ _ _ _ _ _ _
    (fun t ch => ((∑ l : Fin 512, (run (al l) (bu U B l) (t + 1) * C l ch).re : ℝ) : EReal) + (x4 (ix2 0 ch) : EReal) * (x0 (ix2 t ch) : EReal))
    ?_ ?_ ?_ ?_ ?_ ?_ ?_ ?_ t ch <;>
  · intro r ch
    refine (pay48_apply _ _ _ _ r ch).trans ?_
    refine congrArg₂ (fun a b : EReal => a + b) ?_ (congrArg₂ (fun a b : EReal => a * b) ?_ (u_rows _ _ _ _ _ r ch (by omega)))
    · rw [sum_halves, coe_sum]
      refine Finset.sum_congr rfl fun l _ => ?_
      rw [readAt_unread, readAt_unread]
      refine Eq.trans (congrArg₂ (fun a b : EReal => a + b)
        (congrArg₂ (fun a b : EReal => a * b) ((back_rows m8 _ _ _ _ r _ (by omega)).trans (states0 c i m1 k1 m2 k2 m3 k3 m4 k4 m5 k5 m6 k6 m7 k7 m8 k8 x0 x1 x2 x3 hI _ l).1)
          ((congrArg x2 (idx_whole3 _ 0 _ ch)).trans (hI.cr l ch)))
        (congrArg₂ (fun a b : EReal => a * b) ((back_rows m8 _ _ _ _ r _ (by omega)).trans (states0 c i m1 k1 m2 k2 m3 k3 m4 k4 m5 k5 m6 k6 m7 k7 m8 k8 x0 x1 x2 x3 hI _ l).2)
          ((congrArg x2 (idx_whole3 _ 0 _ ch)).trans (hI.ci l ch)))) ?_
      beta_reduce
      rw [← EReal.coe_mul, ← EReal.coe_mul, ← EReal.coe_add]
      congr 1
      rw [Complex.mul_re]
      ring
    · rw [readAt_unread]
      refine congrArg x4 (funext fun k => Fin.ext ?_)
      fin_cases k
      · rfl
      · show 0 + 1 * (ch : ℕ) = ch
        omega
end

end Cert.KernelIdeal.Run

end
-- ==== Proof.Rows1.lean ====
/-
  What the backward call's vector steps compute, element by element, and the sums over all rows that they add up to.
-/
module

public import proofs.«01_k».proof.Proof.Block0

@[expose] public section

set_option maxRecDepth 16384

noncomputable section

namespace Cert.KernelIdeal.Run

open Idealize.ShloMosaic Idealize.ShloMosaic.TcCoe Cert.KernelIdeal Cert.KernelIdeal.Gen Cert.Spec
open Idealize.SL Idealize.SL.RA Idealize.SL.BI Idealize.SL.Sem

/-! ## The vector steps -/

theorem p17_apply (a : Vec Ideal S256x1024 .bf16) (r : Fin 256) (j : Fin 1024) :
    k1_pay17 (F := Ideal) a (ix2 r j) = (a (ix2 r j) : EReal) := by
  unfold k1_pay17
  pointwise

theorem p18_apply (a : Vec Ideal S256x128 .f32) (b : Vec Ideal S1x1024x128 .bf16) (r : Fin 256) (j : Fin 1024) :
    k1_pay18 (F := Ideal) a b (ix2 r j) = ∑ x, (a (ix2 r x) : EReal) * (b (ix3 0 j x) : EReal) := by
  unfold k1_pay18
  pointwise

theorem p81_apply (a : Vec Ideal S256x1024 .f32) (b : Vec Ideal S1x128x1024 .bf16) (d : Vec Ideal S1x128 .f32) (e : Vec Ideal S256x128 .f32) (r : Fin 256) (ch : Fin 128) :
    k1_pay81 (F := Ideal) a b d e (ix2 r ch) = (∑ j, (a (ix2 r j) : EReal) * (b (ix3 0 ch j) : EReal)) + (d (ix2 0 ch) : EReal) * (e (ix2 r ch) : EReal) := by
  unfold k1_pay81 k1_pay80
  pointwise

theorem p19_apply (a b : Vec Ideal S256x128 .f32) (ch : Fin 128) :
    k1_pay19 (F := Ideal) a b (ix2 0 ch) = (∑ r, (a (ix2 r ch) : EReal) * (b (ix2 r ch) : EReal)) := by
  unfold k1_pay19
  pointwise

theorem p23_apply (s : FVec Ideal S1x128 .f32) (a b : Vec Ideal S256x128 .f32) (ch : Fin 128) :
    k1_pay23 (F := Ideal) s a b (ix2 0 ch) = (s (ix2 0 ch) : EReal) + (∑ r, (a (ix2 r ch) : EReal) * (b (ix2 r ch) : EReal)) := by
  unfold k1_pay23
  pointwise

theorem p34_apply (s : FVec Ideal S1x128 .f32) (a b : Vec Ideal S256x128 .f32) (ch : Fin 128) :
    k1_pay34 (F := Ideal) s a b (ix2 0 ch) = (s (ix2 0 ch) : EReal) + (∑ r, (a (ix2 r ch) : EReal) * (b (ix2 r ch) : EReal)) := by
  unfold k1_pay34
  pointwise

theorem p39_apply (s : FVec Ideal S1x128 .f32) (a b : Vec Ideal S256x128 .f32) (ch : Fin 128) :
    k1_pay39 (F := Ideal) s a b (ix2 0 ch) = (s (ix2 0 ch) : EReal) + (∑ r, (a (ix2 r ch) : EReal) * (b (ix2 r ch) : EReal)) := by
  unfold k1_pay39
  pointwise

theorem p30_apply (s : FVec Ideal S1x128 .f32) (a b d e : Vec Ideal S256x128 .f32) (ch : Fin 128) :
    k1_pay30 (F := Ideal) s a b d e (ix2 0 ch) = (s (ix2 0 ch) : EReal) + (∑ r, (a (ix2 r ch) : EReal) * (b (ix2 r ch) : EReal)) + (∑ r, (d (ix2 r ch) : EReal) * (e (ix2 r ch) : EReal)) := by
  unfold k1_pay30
  pointwise

theorem p45_apply (s : FVec Ideal S1x128 .f32) (a b d e : Vec Ideal S256x128 .f32) (ch : Fin 128) :
    k1_pay45 (F := Ideal) s a b d e (ix2 0 ch) = (s (ix2 0 ch) : EReal) + (∑ r, (a (ix2 r ch) : EReal) * (b (ix2 r ch) : EReal)) + (∑ r, (d (ix2 r ch) : EReal) * (e (ix2 r ch) : EReal)) := by
  unfold k1_pay45
  pointwise

theorem p20_apply (a : Vec Ideal S256x128 .f32) (b : Vec Ideal S256x1024 .bf16) (ch : Fin 128) (j : Fin 1024) :
    k1_pay20 (F := Ideal) a b (ix2 ch j) = (∑ r, (a (ix2 r ch) : EReal) * (b (ix2 r j) : EReal)) := by
  unfold k1_pay20
  pointwise

theorem p31_apply (a : Vec Ideal S256x128 .f32) (b : Vec Ideal S256x1024 .bf16) (ch : Fin 128) (j : Fin 1024) :
    k1_pay31 (F := Ideal) a b (ix2 ch j) = (∑ r, (a (ix2 r ch) : EReal) * (b (ix2 r j) : EReal)) := by
  unfold k1_pay31
  pointwise

theorem p24_apply (s : FVec Ideal S128x1024 .f32) (a : Vec Ideal S256x128 .f32) (b : Vec Ideal S256x1024 .bf16) (ch : Fin 128) (j : Fin 1024) :
    k1_pay24 (F := Ideal) s a b (ix2 ch j) = (s (ix2 ch j) : EReal) + (∑ r, (a (ix2 r ch) : EReal) * (b (ix2 r j) : EReal)) := by
  unfold k1_pay24
  pointwise

theorem p27_apply (s : FVec Ideal S128x1024 .f32) (a : Vec Ideal S256x128 .f32) (b : Vec Ideal S256x1024 .bf16) (ch : Fin 128) (j : Fin 1024) :
    k1_pay27 (F := Ideal) s a b (ix2 ch j) = (s (ix2 ch j) : EReal) + (∑ r, (a (ix2 r ch) : EReal) * (b (ix2 r j) : EReal)) := by
  unfold k1_pay27
  pointwise

theorem p40_apply (s : FVec Ideal S128x1024 .f32) (a : Vec Ideal S256x128 .f32) (b : Vec Ideal S256x1024 .bf16) (ch : Fin 128) (j : Fin 1024) :
    k1_pay40 (F := Ideal) s a b (ix2 ch j) = (s (ix2 ch j) : EReal) + (∑ r, (a (ix2 r ch) : EReal) * (b (ix2 r j) : EReal)) := by
  unfold k1_pay40
  pointwise

theorem p35_apply (s s' : FVec Ideal S128x1024 .f32) (a : Vec Ideal S256x128 .f32) (b : Vec Ideal S256x1024 .bf16) (ch : Fin 128) (j : Fin 1024) :
    k1_pay35 (F := Ideal) s s' a b (ix2 ch j) = (s (ix2 ch j) : EReal) + (s' (ix2 ch j) : EReal) + (∑ r, (a (ix2 r ch) : EReal) * (b (ix2 r j) : EReal)) := by
  unfold k1_pay35
  pointwise

theorem p46_apply (s : FVec Ideal S128x1024 .f32) (a : Vec Ideal S256x128 .f32) (b : Vec Ideal S256x1024 .bf16) (a' : Vec Ideal S256x128 .f32) (b' : Vec Ideal S256x1024 .bf16) (ch : Fin 128) (j : Fin 1024) :
    k1_pay46 (F := Ideal) s a b a' b' (ix2 ch j) = (s (ix2 ch j) : EReal) + (∑ r, (a (ix2 r ch) : EReal) * (b (ix2 r j) : EReal)) + (∑ r, (a' (ix2 r ch) : EReal) * (b' (ix2 r j) : EReal)) := by
  unfold k1_pay46
  pointwise

theorem p82_apply (b : Vec Ideal S256x1024 .f32) (a : Vec Ideal S256x128 .f32) (ch : Fin 128) (j : Fin 1024) :
    k1_pay82 (F := Ideal) b a (ix2 ch j) = (∑ r, (a (ix2 r ch) : EReal) * (b (ix2 r j) : EReal)) := by
  unfold k1_pay82 k1_pay80
  pointwise

theorem p87_apply (s : FVec Ideal S128x1024 .f32) (b : Vec Ideal S256x1024 .f32) (a : Vec Ideal S256x128 .f32) (b' : Vec Ideal S256x1024 .f32) (a' : Vec Ideal S256x128 .f32) (ch : Fin 128) (j : Fin 1024) :
    k1_pay87 (F := Ideal) s (k1_pay83 (F := Ideal) b) a b' a' (ix2 ch j) = (s (ix2 ch j) : EReal) + (∑ r, (a (ix2 r ch) : EReal) * (b (ix2 r j) : EReal)) + (∑ r, (a' (ix2 r ch) : EReal) * (b' (ix2 r j) : EReal)) := by
  unfold k1_pay87 k1_pay83 k1_pay85
  pointwise

theorem p92_apply (s : FVec Ideal S128x1024 .f32) (b : Vec Ideal S256x1024 .f32) (a : Vec Ideal S256x128 .f32) (b' : Vec Ideal S256x1024 .f32) (a' : Vec Ideal S256x128 .f32) (ch : Fin 128) (j : Fin 1024) :
    k1_pay92 (F := Ideal) s (k1_pay88 (F := Ideal) b) a b' a' (ix2 ch j) = (s (ix2 ch j) : EReal) + (∑ r, (a (ix2 r ch) : EReal) * (b (ix2 r j) : EReal)) + (∑ r, (a' (ix2 r ch) : EReal) * (b' (ix2 r j) : EReal)) := by
  unfold k1_pay92 k1_pay88 k1_pay90
  pointwise

theorem p99_apply (s : FVec Ideal S128x1024 .f32) (b : Vec Ideal S256x1024 .f32) (a : Vec Ideal S256x128 .f32) (b' : Vec Ideal S256x1024 .f32) (a' : Vec Ideal S256x128 .f32) (ch : Fin 128) (j : Fin 1024) :
    k1_pay99 (F := Ideal) s (k1_pay93 (F := Ideal) b) a b' a' (ix2 ch j) = (s (ix2 ch j) : EReal) + (∑ r, (a (ix2 r ch) : EReal) * (b (ix2 r j) : EReal)) + (∑ r, (a' (ix2 r ch) : EReal) * (b' (ix2 r j) : EReal)) := by
  unfold k1_pay99 k1_pay93 k1_pay97
  pointwise

theorem p103_apply (s : FVec Ideal S128x1024 .f32) (b : Vec Ideal S256x1024 .f32) (a : Vec Ideal S256x128 .f32) (ch : Fin 128) (j : Fin 1024) :
    k1_pay103 (F := Ideal) s (k1_pay100 (F := Ideal) b) a (ix2 ch j) = (s (ix2 ch j) : EReal) + (∑ r, (a (ix2 r ch) : EReal) * (b (ix2 r j) : EReal)) := by
  unfold k1_pay103 k1_pay100
  pointwise

theorem p78_apply (a : FVec Ideal S8x512 .f32) (l : Fin 512) :
    k1_pay78 (F := Ideal) a (ix3 0 0 l) = ∑ r, (a (ix2 r l) : EReal) := by
  unfold k1_pay78
  pointwise

theorem p79_apply (a : FVec Ideal S8x512 .f32) (l : Fin 512) :
    k1_pay79 (F := Ideal) a (ix3 0 0 l) = ∑ r, (a (ix2 r l) : EReal) := by
  unfold k1_pay79
  pointwise

theorem p47_apply (a : FVec Ideal S128x1024 .f32) (ch : Fin 128) (p : Fin 64) :
    k1_pay47 (F := Ideal) a (ix3 0 ch p) = a (ix2 ch ⟨(64 * (ch / 16) + p), by omega⟩) := by
  unfold k1_pay47
  pointwise
  split_ifs <;> (congr 2 <;> exact Fin.ext (by simp only []; omega))

theorem p48_apply (a : FVec Ideal S128x1024 .f32) (ch : Fin 128) (p : Fin 64) :
    k1_pay48 (F := Ideal) a (ix3 0 ch p) = a (ix2 ch ⟨512 + (64 * (ch / 16) + p), by omega⟩) := by
  unfold k1_pay48
  pointwise
  split_ifs <;> (congr 2 <;> exact Fin.ext (by simp only []; omega))

/-! ## Sums over all rows -/

/-- Eight sums of 256 rows make the sum of all rows. -/
theorem sum_blocks (f : Fin 2048 → EReal) (g0 g1 g2 g3 g4 g5 g6 g7 : Fin 256 → EReal)
    (h0 : ∀ r : Fin 256, g0 r = f ⟨0 + r, by omega⟩) (h1 : ∀ r : Fin 256, g1 r = f ⟨256 + r, by omega⟩) (h2 : ∀ r : Fin 256, g2 r = f ⟨512 + r, by omega⟩) (h3 : ∀ r : Fin 256, g3 r = f ⟨768 + r, by omega⟩) (h4 : ∀ r : Fin 256, g4 r = f ⟨1024 + r, by omega⟩) (h5 : ∀ r : Fin 256, g5 r = f ⟨1280 + r, by omega⟩) (h6 : ∀ r : Fin 256, g6 r = f ⟨1536 + r, by omega⟩) (h7 : ∀ r : Fin 256, g7 r = f ⟨1792 + r, by omega⟩) :
    (((((((∑ r, g0 r) + ∑ r, g1 r) + ∑ r, g2 r) + ∑ r, g3 r) + ∑ r, g4 r) + ∑ r, g5 r) + ∑ r, g6 r) + ∑ r, g7 r = ∑ t, f t := by
  have e : ∀ (o : ℕ) (g : Fin 256 → EReal) (ho : o + 256 ≤ 2048), (∀ r : Fin 256, g r = f ⟨o + r, by omega⟩) →
      ∑ r, g r = ∑ n ∈ Finset.Ico o (o + 256), (if h : n < 2048 then f ⟨n, h⟩ else 0) := fun o g ho h => by
    rw [Finset.sum_Ico_eq_sum_range, show o + 256 - o = 256 by omega, Finset.sum_range]
    refine Finset.sum_congr rfl fun r _ => ?_
    rw [h, dif_pos]
  rw [e 0 g0 (by omega) h0, e 256 g1 (by omega) h1, e 512 g2 (by omega) h2, e 768 g3 (by omega) h3, e 1024 g4 (by omega) h4, e 1280 g5 (by omega) h5, e 1536 g6 (by omega) h6, e 1792 g7 (by omega) h7]
  rw [Finset.sum_Ico_consecutive _ (by omega) (by omega), Finset.sum_Ico_consecutive _ (by omega) (by omega), Finset.sum_Ico_consecutive _ (by omega) (by omega), Finset.sum_Ico_consecutive _ (by omega) (by omega), Finset.sum_Ico_consecutive _ (by omega) (by omega), Finset.sum_Ico_consecutive _ (by omega) (by omega), Finset.sum_Ico_consecutive _ (by omega) (by omega)]
  rw [← Finset.range_eq_Ico, Finset.sum_range]
  exact Finset.sum_congr rfl fun t _ => dif_pos t.2

/-- Eight rows of 256 tiles are all rows, the tiles counted down from the last. -/
theorem sum_tiles (f : ℕ → ℂ) : ∑ r : Fin 8, ∑ i ∈ Finset.range 256, f (2040 - 8 * i + (r : ℕ)) = ∑ t : Fin 2048, f t := by
  have up : ∀ k : ℕ, ∑ i ∈ Finset.range k, ∑ r : Fin 8, f (8 * i + (r : ℕ)) = ∑ t ∈ Finset.range (8 * k), f t := fun k => by
    induction k with
    | zero => rfl
    | succ k ih =>
      rw [Finset.sum_range_succ, ih, show 8 * (k + 1) = 8 * k + 8 by omega, Finset.sum_range_add, Finset.sum_range (fun x => f (8 * k + x))]
  rw [Finset.sum_comm, ← Finset.sum_range_reflect, ← Finset.sum_range f, show 2048 = 8 * 256 by omega, ← up 256]
  refine Finset.sum_congr rfl fun i hi => Finset.sum_congr rfl fun r _ => ?_
  have := Finset.mem_range.mp hi
  congr 1
  omega

/-- A read of the rows `o..o+255` of a whole array. -/
abbrev part {N : ℕ} {e : EltTy} {m : Memref sig .tc .vmem ⟨2, ![2048, N]⟩ e} (hm : m.IsWhole) (X : (⟨2, ![2048, N]⟩ : Shape).Idx → Elt Ideal e) (o : ℕ) (inb) :=
  View.readAt (Elt Ideal) m.view (Rect.unit (s := ⟨2, ![2048, N]⟩) ![o, 0] ![256, N] inb).toLoadRect (hm.unread X)

/-- Rows `o..o+255` of a whole array. -/
theorem rows_at {N : ℕ} {e : EltTy} {m : Memref sig .tc .vmem ⟨2, ![2048, N]⟩ e} (hm : m.IsWhole) (X : (⟨2, ![2048, N]⟩ : Shape).Idx → Elt Ideal e)
    (o : ℕ) (inb) (r : Fin 256) (j : Fin N) (h : o + r < 2048) :
    View.readAt (Elt Ideal) m.view (Rect.unit (s := ⟨2, ![2048, N]⟩) ![o, 0] ![256, N] inb).toLoadRect (hm.unread X) (ix2 r j) = X (ix2 ⟨o + r, h⟩ j) := by
  rw [readAt_unread]
  refine congrArg X ((idx_unit inb r j rfl h (by omega)).trans ?_)
  congr 1
  exact Fin.ext (Nat.zero_add _)

/-- A one-piece array of rank 3. -/
theorem read_one3 {A B C : ℕ} {e : EltTy} (v : View sig .tc .vmem ⟨3, ![A, B, C]⟩ e) (f : v.ty.Contents (Elt Ideal)) (inb) (w : (⟨3, ![A, B, C]⟩ : Shape).Idx → Elt Ideal e)
    (a : Fin A) (b : Fin B) (d : Fin C) :
    v.read (Elt Ideal) (v.writes (Elt Ideal) f [⟨Rect.unit (s := ⟨3, ![A, B, C]⟩) ![0, 0, 0] ![A, B, C] inb, w⟩]) (ix3 a b d) = w (ix3 a b d) := by
  refine View.read_writes_cons_unit_of_mem v f inb w [] (ix3 a b d) (ix3 a b d) rfl fun k => ?_
  fin_cases k
  · show (a : ℕ) = 0 + a
    omega
  · show (b : ℕ) = 0 + b
    omega
  · show (d : ℕ) = 0 + d
    omega

/-- A one-piece array of rank 2. -/
theorem read_one2 {A B : ℕ} {e : EltTy} (v : View sig .tc .vmem ⟨2, ![A, B]⟩ e) (f : v.ty.Contents (Elt Ideal)) (inb) (w : (⟨2, ![A, B]⟩ : Shape).Idx → Elt Ideal e)
    (a : Fin A) (b : Fin B) :
    v.read (Elt Ideal) (v.writes (Elt Ideal) f [⟨Rect.unit (s := ⟨2, ![A, B]⟩) ![0, 0] ![A, B] inb, w⟩]) (ix2 a b) = w (ix2 a b) := by
  refine View.read_writes_cons_unit_of_mem v f inb w [] (ix2 a b) (ix2 a b) rfl fun k => ?_
  fin_cases k
  · show (a : ℕ) = 0 + a
    omega
  · show (b : ℕ) = 0 + b
    omega

end Cert.KernelIdeal.Run

end
-- ==== Proof.Scan1.lean ====
/-
  The backward scan of one block: after k trips the last 8k rows of the scratch hold the states' gradients, the others
  still hold the recurrence's inputs, and the two sums hold the decay's gradient of the trips so far.
-/
module

public import proofs.«01_k».proof.Proof.Scan0

@[expose] public section

set_option maxRecDepth 16384

noncomputable section

namespace Cert.KernelIdeal.Run

open Idealize.ShloMosaic Idealize.ShloMosaic.TcCoe Cert.KernelIdeal Cert.KernelIdeal.Gen Cert.Spec
open Idealize.SL Idealize.SL.RA Idealize.SL.BI Idealize.SL.Sem

theorem trips1 : k1_t1_loop.trips = 256 := by decide

/-- The tile before a trip's tile, left half. -/
theorem off3_eq : ∀ k : Fin k1_t1_loop.trips, ∀ a, k1_off3 k a = (![8 * (254 - k.val), 0] : Fin 2 → ℕ) a := by decide +kernel

/-- The tile before a trip's tile, right half. -/
theorem off4_eq : ∀ k : Fin k1_t1_loop.trips, ∀ a, k1_off4 k a = (![8 * (254 - k.val), 512] : Fin 2 → ℕ) a := by decide +kernel

/-- The factor is one but in the last trip, where it is zero. -/
theorem edge : ∀ k : Fin 256, Scalar.cmpi .sgt (Scalar.subi 255#32 (Scf.iv 0#32 1#32 (k : ℕ))) 0#32 = if (k : ℕ) = 255 then 0#1 else 1#1 := by
  decide +kernel

theorem edge_factor (k : Fin 256) : k1_pay73 (F := Ideal) (Scalar.subi 255#32 (Scf.iv 0#32 1#32 (k : ℕ))) = if (k : ℕ) = 255 then (0 : EReal) else 1 := by
  unfold k1_pay73
  simp only [edge]
  by_cases h : (k : ℕ) = 255
  · rw [if_pos h, if_pos h]
    exact Ideal.ofBits_zero_f32
  · rw [if_neg h, if_neg h]
    exact Ideal.ofBits_one_f32

/-- The states one step earlier, from a tile and the tile before it. -/
theorem earlier (k : Fin 256) {p1 p2 q1 q2 : FVec Ideal S8x512 .f32} {Zp Z : Fin 8 → Fin 512 → ℂ} (hp : Holds p1 p2 Zp) (hq : Holds q1 q2 Z)
    (x : ℕ → Fin 512 → ℂ) (t : ℕ) (ht : t = 2040 - 8 * (k : ℕ)) (eZ : ∀ r l, Z r l = x (t + (r : ℕ) + 1) l) (x0 : ∀ l, x 0 l = 0)
    (eP : ∀ l, (k : ℕ) < 255 → Zp 7 l = x t l) :
    Holds (k1_pay74 (F := Ideal) (Scalar.subi 255#32 (Scf.iv 0#32 1#32 (k : ℕ))) p1 q1) (k1_pay75 (F := Ideal) (Scalar.subi 255#32 (Scf.iv 0#32 1#32 (k : ℕ))) p2 q2)
      (fun r l => x (t + (r : ℕ)) l) := fun r l => by
  have r1 := hp.turn1 rotates_S8x512_d0
  have r2 := hq.turn1 rotates_S8x512_d0
  have e (p q : FVec Ideal S8x512 .f32) : select k1_pay67 (mulf (dynamicRotate 0 1#32 none p rotates_S8x512_d0)
        (broadcast S8x512 (k1_pay73 (F := Ideal) (Scalar.subi 255#32 (Scf.iv 0#32 1#32 (k : ℕ))))))
        (dynamicRotate 0 1#32 none q rotates_S8x512_d0) (ix2 r l)
      = if (r : ℕ) = 0 then (dynamicRotate 0 1#32 none p rotates_S8x512_d0 (ix2 r l) : EReal) * (if (k : ℕ) = 255 then (0 : EReal) else 1)
        else (dynamicRotate 0 1#32 none q rotates_S8x512_d0 (ix2 r l) : EReal) := by
    show Scalar.select (k1_pay67 (ix2 r l)) ((dynamicRotate 0 1#32 none p rotates_S8x512_d0 (ix2 r l) : EReal) * k1_pay73 (F := Ideal) _) _ = _
    rw [rmask0, edge_factor]
    by_cases h : (r : ℕ) = 0
    · rw [if_pos h, if_pos h]; rfl
    · rw [if_neg h, if_neg h]; rfl
  have e1 := e p1 q1
  have e2 := e p2 q2
  rw [(r1 r l).1, (r2 r l).1] at e1
  rw [(r1 r l).2, (r2 r l).2] at e2
  refine ⟨Eq.trans e1 ?_, Eq.trans e2 ?_⟩ <;> beta_reduce <;>
  · by_cases h : (r : ℕ) = 0
    · rw [if_pos h]
      have hr : r = 0 := Fin.ext h
      by_cases hk : (k : ℕ) = 255
      · rw [if_pos hk, mul_zero, show t + (r : ℕ) = 0 by omega, x0]
        rfl
      · rw [if_neg hk, mul_one]
        subst hr
        have e7 : turn 1 Zp 0 l = x (t + ((0 : Fin 8) : ℕ)) l := eP l (by omega)
        rw [e7]
    · rw [if_neg h]
      have ez : turn 1 Z r l = x (t + (r : ℕ)) l := by
        show Z ⟨((r : ℕ) + 8 - 1) % 8, _⟩ l = _
        rw [eZ]
        congr 1
        show t + ((r : ℕ) + 8 - 1) % 8 + 1 = t + r
        omega
      rw [ez]

/-! ## One trip -/

section
variable (𝒱 : Variants) (c : Dev nD) (bd : Option 𝒱.V) (i : grid1.Coords) (m1 : Memref sig .tc .vmem S2048x128 .f32) (k1 : m1.IsWhole) (m2 : Memref sig .tc .vmem S2048x128 .f32) (k2 : m2.IsWhole) (m3 : Memref sig .tc .vmem S2048x1024 .bf16) (k3 : m3.IsWhole) (m4 : Memref sig .tc .vmem S1x128x1024 .bf16) (k4 : m4.IsWhole) (m5 : Memref sig .tc .vmem S1x1024x128 .bf16) (k5 : m5.IsWhole) (m6 : Memref sig .tc .vmem S1x1x1024 .f32) (k6 : m6.IsWhole) (m7 : Memref sig .tc .vmem S1x128 .f32) (k7 : m7.IsWhole) (m8 : Memref sig .tc .hbm S2048x7168 .bf16) (k8 : m8.IsWhole) (m9 : Memref sig .tc .vmem S2048x128 .bf16) (k9 : m9.IsWhole) (m10 : Memref sig .tc .vmem S1x128x64 .f32) (k10 : m10.IsWhole) (m11 : Memref sig .tc .vmem S1x128x64 .f32) (k11 : m11.IsWhole) (m12 : Memref sig .tc .vmem S1x128x64 .f32) (k12 : m12.IsWhole) (m13 : Memref sig .tc .vmem S1x128x64 .f32) (k13 : m13.IsWhole) (m14 : Memref sig .tc .vmem S1x1x1024 .f32) (k14 : m14.IsWhole) (m15 : Memref sig .tc .vmem S1x128 .f32) (k15 : m15.IsWhole) (m16 : Memref sig .tc .vmem S2048x1024 .f32) (k16 : m16.IsWhole) (m17 : Memref sig .tc .vmem S2048x1024 .f32) (k17 : m17.IsWhole) (v222 : FVec Ideal S8x512 .f32) (v228 : FVec Ideal S8x512 .f32) (v231 : IVec S8x512 32) (v232 : FVec Ideal S8x512 .f32) (v234 : IVec S8x512 1) (v235 : FVec Ideal S8x512 .f32) (X_arg17 : BufTy.Contents (Elt Ideal) m17.view.ty)

theorem trip1_R (k : Fin k1_t1_loop.trips) (acc : FVec Ideal S8x512 .f32 × FVec Ideal S8x512 .f32 × FVec Ideal S8x512 .f32 × FVec Ideal S8x512 .f32) (f : BufTy.Contents (Elt Ideal) m16.view.ty) :
    tripR_k1_t1 (F := Ideal) 𝒱 c bd i m1 k1 m2 k2 m3 k3 m4 k4 m5 k5 m6 k6 m7 k7 m8 k8 m9 k9 m10 k10 m11 k11 m12 k12 m13 k13 m14 k14 m15 k15 m16 k16 m17 k17 v222 v228 v231 v232 v234 v235 X_arg17 k acc f
      = ((k1_pay69 v222 v228 v231 v232 (k1_pay12 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay15 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay16 v235 (k1_pay55 v228 v232 v234) (k1_pay59 v222 v228 v231 v232) (k1_pay60 v222 v228 v231 v232) (k1_pay62 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f))),
         (k1_pay70 v222 v228 v231 v232 (k1_pay13 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay14 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay15 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f))),
         (k1_pay76 v222 v228 v231 v232 acc.2.2.1 (Scalar.subi 255#32 (Scf.iv 0#32 1#32 (k : ℕ))) (k1_pay12 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay13 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay14 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay15 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay16 v235 (k1_pay55 v228 v232 v234) (k1_pay59 v222 v228 v231 v232) (k1_pay60 v222 v228 v231 v232) (k1_pay62 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (View.readAt (Elt Ideal) m17.view (Rect.unit (s := S2048x1024) (k1_off3 k) S8x512.size (k1_off3_inb k)).toLoadRect X_arg17) (View.readAt (Elt Ideal) m17.view (Rect.unit (s := S2048x1024) (k1_off1 k) S8x512.size (k1_off1_inb k)).toLoadRect X_arg17) (View.readAt (Elt Ideal) m17.view (Rect.unit (s := S2048x1024) (k1_off4 k) S8x512.size (k1_off4_inb k)).toLoadRect X_arg17) (View.readAt (Elt Ideal) m17.view (Rect.unit (s := S2048x1024) (k1_off2 k) S8x512.size (k1_off2_inb k)).toLoadRect X_arg17)),
         (k1_pay77 v222 v228 v231 v232 acc.2.2.2 (Scalar.subi 255#32 (Scf.iv 0#32 1#32 (k : ℕ))) (k1_pay12 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay13 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay14 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay15 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay16 v235 (k1_pay55 v228 v232 v234) (k1_pay59 v222 v228 v231 v232) (k1_pay60 v222 v228 v231 v232) (k1_pay62 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (View.readAt (Elt Ideal) m17.view (Rect.unit (s := S2048x1024) (k1_off3 k) S8x512.size (k1_off3_inb k)).toLoadRect X_arg17) (View.readAt (Elt Ideal) m17.view (Rect.unit (s := S2048x1024) (k1_off1 k) S8x512.size (k1_off1_inb k)).toLoadRect X_arg17) (View.readAt (Elt Ideal) m17.view (Rect.unit (s := S2048x1024) (k1_off4 k) S8x512.size (k1_off4_inb k)).toLoadRect X_arg17) (View.readAt (Elt Ideal) m17.view (Rect.unit (s := S2048x1024) (k1_off2 k) S8x512.size (k1_off2_inb k)).toLoadRect X_arg17))) := by
  unfold tripR_k1_t1 trip_k1_t1
  rfl

theorem trip1_L (k : Fin k1_t1_loop.trips) (acc : FVec Ideal S8x512 .f32 × FVec Ideal S8x512 .f32 × FVec Ideal S8x512 .f32 × FVec Ideal S8x512 .f32) (f : BufTy.Contents (Elt Ideal) m16.view.ty) :
    tripL_k1_t1 (F := Ideal) 𝒱 c bd i m1 k1 m2 k2 m3 k3 m4 k4 m5 k5 m6 k6 m7 k7 m8 k8 m9 k9 m10 k10 m11 k11 m12 k12 m13 k13 m14 k14 m15 k15 m16 k16 m17 k17 v222 v228 v231 v232 v234 v235 X_arg17 k acc f
      = [⟨Rect.unit (s := S2048x1024) (k1_off2 k) S8x512.size (k1_off2_inb k), (k1_pay72 v222 v228 v231 v232 (k1_pay13 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay14 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay15 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)))⟩,
         ⟨Rect.unit (s := S2048x1024) (k1_off1 k) S8x512.size (k1_off1_inb k), (k1_pay71 v222 v228 v231 v232 (k1_pay12 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay15 v235 (k1_pay55 v228 v232 v234) (k1_pay59 v222 v228 v231 v232) (k1_pay60 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)) (k1_pay16 v235 (k1_pay55 v228 v232 v234) (k1_pay59 v222 v228 v231 v232) (k1_pay60 v222 v228 v231 v232) (k1_pay62 v222 v228 v231 v232) (k1_pay65 v222 v231 v232) (k1_pay66 v228 v231 v232) acc.1 acc.2.1 (View.readAt (Elt Ideal) m16.view (Rect.unit (s := S2048x1024) (k1_off1 k) S8x512.size (k1_off1_inb k)).toLoadRect f) (View.readAt (Elt Ideal) m16.view (Rect.unit (s := S2048x1024) (k1_off2 k) S8x512.size (k1_off2_inb k)).toLoadRect f)))⟩] := by
  unfold tripL_k1_t1 trip_k1_t1
  rfl
end

/-- The multipliers of the four steps of a tile: the carry's, then those of the doubling steps. -/
structure BwdConsts (v222 : FVec Ideal S8x512 .f32) (v228 : FVec Ideal S8x512 .f32) (v231 : IVec S8x512 32) (v232 : FVec Ideal S8x512 .f32) (v234 : IVec S8x512 1) (v235 : FVec Ideal S8x512 .f32) (al : Fin 512 → ℂ) : Prop where
  c0 : Holds (k1_pay65 v222 v231 v232) (k1_pay66 v228 v231 v232) (fun r l => if (r : ℕ) = 7 then al l else 0)
  c1 : Holds v235 (k1_pay55 v228 v232 v234) (fun r l => if (r : ℕ) ≤ 6 then al l else 0)
  c2 : Holds (k1_pay59 v222 v228 v231 v232) (k1_pay60 v222 v228 v231 v232) (fun r l => if (r : ℕ) ≤ 5 then al l * al l else 0)
  c4 : Holds (k1_pay62 v222 v228 v231 v232) (k1_pay63 v222 v228 v231 v232) (fun r l => if (r : ℕ) ≤ 3 then al l * al l * (al l * al l) else 0)

/-- A trip's first two results are the recurrence's next eight states, last row first. -/
theorem bwd_tile (v222 : FVec Ideal S8x512 .f32) (v228 : FVec Ideal S8x512 .f32) (v231 : IVec S8x512 32) (v232 : FVec Ideal S8x512 .f32) (v234 : IVec S8x512 1) (v235 : FVec Ideal S8x512 .f32) {al : Fin 512 → ℂ} (hC : BwdConsts v222 v228 v231 v232 v234 v235 al)
    {c1 c2 hr hi : FVec Ideal S8x512 .f32} {P H : Fin 8 → Fin 512 → ℂ} (hP : Holds c1 c2 P) (hH : Holds hr hi H)
    (b : Fin 512 → ℕ → ℂ) (j : ℕ) (eH : ∀ r l, H r l = b l (j + (7 - (r : ℕ)))) (eP : ∀ l, P 0 l = run (al l) (b l) j) :
    Holds (k1_pay69 v222 v228 v231 v232 (k1_pay12 v235 (k1_pay55 v228 v232 v234) (k1_pay59 v222 v228 v231 v232) (k1_pay60 v222 v228 v231 v232) (k1_pay65 v222 v231 v232) (k1_pay66 v228 v231 v232) c1 c2 hr hi) (k1_pay15 v235 (k1_pay55 v228 v232 v234) (k1_pay59 v222 v228 v231 v232) (k1_pay60 v222 v228 v231 v232) (k1_pay65 v222 v231 v232) (k1_pay66 v228 v231 v232) c1 c2 hr hi) (k1_pay16 v235 (k1_pay55 v228 v232 v234) (k1_pay59 v222 v228 v231 v232) (k1_pay60 v222 v228 v231 v232) (k1_pay62 v222 v228 v231 v232) (k1_pay65 v222 v231 v232) (k1_pay66 v228 v231 v232) c1 c2 hr hi))
      (k1_pay70 v222 v228 v231 v232 (k1_pay13 v235 (k1_pay55 v228 v232 v234) (k1_pay59 v222 v228 v231 v232) (k1_pay60 v222 v228 v231 v232) (k1_pay65 v222 v231 v232) (k1_pay66 v228 v231 v232) c1 c2 hr hi) (k1_pay14 v235 (k1_pay55 v228 v232 v234) (k1_pay59 v222 v228 v231 v232) (k1_pay60 v222 v228 v231 v232) (k1_pay65 v222 v231 v232) (k1_pay66 v228 v231 v232) c1 c2 hr hi) (k1_pay15 v235 (k1_pay55 v228 v232 v234) (k1_pay59 v222 v228 v231 v232) (k1_pay60 v222 v228 v231 v232) (k1_pay65 v222 v231 v232) (k1_pay66 v228 v231 v232) c1 c2 hr hi))
      (fun r l => run (al l) (b l) (j + (7 - (r : ℕ)) + 1)) := by
  let z0 : Fin 8 → Fin 512 → ℂ := fun r l => H r l + (if (r : ℕ) = 7 then al l else 0) * turn 7 P r l
  let z1 : Fin 8 → Fin 512 → ℂ := fun r l => z0 r l + (if (r : ℕ) ≤ 6 then al l else 0) * turn 7 z0 r l
  let z2 : Fin 8 → Fin 512 → ℂ := fun r l => z1 r l + (if (r : ℕ) ≤ 5 then al l * al l else 0) * turn 6 z1 r l
  let z3 : Fin 8 → Fin 512 → ℂ := fun r l => z2 r l + (if (r : ℕ) ≤ 3 then al l * al l * (al l * al l) else 0) * turn 4 z2 r l
  have s0 : Holds _ _ z0 := hC.c0.step hH (hP.turn7 rotates_S8x512_d0)
  have s1 : Holds _ _ z1 := hC.c1.step s0 (s0.turn7 rotates_S8x512_d0)
  have s2 : Holds _ _ z2 := hC.c2.step s1 (s1.turn6 rotates_S8x512_d0)
  have s3 : Holds _ _ z3 := hC.c4.step s2 (s2.turn4 rotates_S8x512_d0)
  exact Holds.congr s3 fun r l =>
    tile_bwd (al l) (b l) j H P z0 z1 z2 z3 l (fun r => eH r l) (eP l) (fun _ => rfl) (fun _ => rfl) (fun _ => rfl) (fun _ => rfl) r

/-- The gradient of the decay gains the conjugate state times the gradient. -/
theorem gain {s1 s2 x1 x2 y1 y2 : FVec Ideal S8x512 .f32} {S X Y : Fin 8 → Fin 512 → ℂ} (hS : Holds s1 s2 S) (hX : Holds x1 x2 X) (hY : Holds y1 y2 Y) :
    Holds (addf (addf s1 (mulf x1 y1)) (mulf x2 y2)) (subf (addf s2 (mulf x1 y2)) (mulf x2 y1))
      (fun r l => S r l + (starRingEnd ℂ) (X r l) * Y r l) := fun r l => by
  obtain ⟨a1, a2⟩ := hS r l
  obtain ⟨b1, b2⟩ := hX r l
  obtain ⟨c1, c2⟩ := hY r l
  constructor
  · show (s1 (ix2 r l) + x1 (ix2 r l) * y1 (ix2 r l) + x2 (ix2 r l) * y2 (ix2 r l) : EReal) = _
    rw [a1, b1, b2, c1, c2, ← EReal.coe_mul, ← EReal.coe_mul, ← EReal.coe_add, ← EReal.coe_add]
    congr 1
    simp only [Complex.add_re, Complex.mul_re, Complex.conj_re, Complex.conj_im]
    ring
  · show (s2 (ix2 r l) + x1 (ix2 r l) * y2 (ix2 r l) - x2 (ix2 r l) * y1 (ix2 r l) : EReal) = _
    rw [a2, b1, b2, c1, c2, ← EReal.coe_mul, ← EReal.coe_mul, ← EReal.coe_add, ← EReal.coe_sub]
    congr 1
    simp only [Complex.add_im, Complex.mul_im, Complex.conj_re, Complex.conj_im]
    ring

/-! ## All trips -/

/-- The wide array's halves at eight rows. -/
theorem Wide.rows {arg : Memref sig .tc .vmem S2048x1024 .f32} {f : BufTy.Contents (Elt Ideal) arg.view.ty} {z : Fin 2048 → Fin 512 → ℂ}
    (h : Wide (arg.view.read (Elt Ideal) f) z) {off1 off2 : Fin 2 → ℕ} (inb1 : ∀ a, off1 a + S8x512.size a ≤ S2048x1024.size a)
    (inb2 : ∀ a, off2 a + S8x512.size a ≤ S2048x1024.size a) (o : ℕ) (ho : o + 8 ≤ 2048) (h1 : off1 = ![o, 0]) (h2 : off2 = ![o, 512]) :
    Holds (View.readAt (Elt Ideal) arg.view (Rect.unit (s := S2048x1024) off1 S8x512.size inb1).toLoadRect f)
      (View.readAt (Elt Ideal) arg.view (Rect.unit (s := S2048x1024) off2 S8x512.size inb2).toLoadRect f)
      (fun r l => z ⟨o + r, by omega⟩ l) := fun r l => by
  have e := h ⟨o + r, by omega⟩ l
  constructor
  · refine Eq.trans (congrArg (arg.view.read (Elt Ideal) f) ?_) e.1
    refine (idx_unit _ r l h1 (by omega) (by omega)).trans ?_
    congr 2
    exact Nat.zero_add _
  · exact Eq.trans (congrArg (arg.view.read (Elt Ideal) f) (idx_unit _ r l h2 (by omega) (by omega))) e.2

section
variable (𝒱 : Variants) (c : Dev nD) (bd : Option 𝒱.V) (i : grid1.Coords) (m1 : Memref sig .tc .vmem S2048x128 .f32) (k1 : m1.IsWhole) (m2 : Memref sig .tc .vmem S2048x128 .f32) (k2 : m2.IsWhole) (m3 : Memref sig .tc .vmem S2048x1024 .bf16) (k3 : m3.IsWhole) (m4 : Memref sig .tc .vmem S1x128x1024 .bf16) (k4 : m4.IsWhole) (m5 : Memref sig .tc .vmem S1x1024x128 .bf16) (k5 : m5.IsWhole) (m6 : Memref sig .tc .vmem S1x1x1024 .f32) (k6 : m6.IsWhole) (m7 : Memref sig .tc .vmem S1x128 .f32) (k7 : m7.IsWhole) (m8 : Memref sig .tc .hbm S2048x7168 .bf16) (k8 : m8.IsWhole) (m9 : Memref sig .tc .vmem S2048x128 .bf16) (k9 : m9.IsWhole) (m10 : Memref sig .tc .vmem S1x128x64 .f32) (k10 : m10.IsWhole) (m11 : Memref sig .tc .vmem S1x128x64 .f32) (k11 : m11.IsWhole) (m12 : Memref sig .tc .vmem S1x128x64 .f32) (k12 : m12.IsWhole) (m13 : Memref sig .tc .vmem S1x128x64 .f32) (k13 : m13.IsWhole) (m14 : Memref sig .tc .vmem S1x1x1024 .f32) (k14 : m14.IsWhole) (m15 : Memref sig .tc .vmem S1x128 .f32) (k15 : m15.IsWhole) (m16 : Memref sig .tc .vmem S2048x1024 .f32) (k16 : m16.IsWhole) (m17 : Memref sig .tc .vmem S2048x1024 .f32) (k17 : m17.IsWhole) (v222 : FVec Ideal S8x512 .f32) (v228 : FVec Ideal S8x512 .f32) (v231 : IVec S8x512 32) (v232 : FVec Ideal S8x512 .f32) (v234 : IVec S8x512 1) (v235 : FVec Ideal S8x512 .f32) (X_arg17 : BufTy.Contents (Elt Ideal) m17.view.ty)
  (G : BufTy.Contents (Elt Ideal) m16.view.ty) (init : FVec Ideal S8x512 .f32 × FVec Ideal S8x512 .f32 × FVec Ideal S8x512 .f32 × FVec Ideal S8x512 .f32)

/-- After `k` trips. -/
theorem scan1 {al : Fin 512 → ℂ} (hC : BwdConsts v222 v228 v231 v232 v234 v235 al) (b : Fin 512 → ℕ → ℂ) (x : ℕ → Fin 512 → ℂ) (x0 : ∀ l, x 0 l = 0)
    (hG : Wide (m16.view.read (Elt Ideal) G) (fun t l => b l (2047 - t)))
    (hX : Wide (m17.view.read (Elt Ideal) X_arg17) (fun t l => x (t + 1) l))
    (hinit : Holds init.1 init.2.1 (fun _ _ => 0)) (hsum : Holds init.2.2.1 init.2.2.2 (fun _ _ => 0)) :
    ∀ k : ℕ, k ≤ 256 → ∃ P : Fin 8 → Fin 512 → ℂ,
      Holds (st_k1_t1 (F := Ideal) 𝒱 c bd i m1 k1 m2 k2 m3 k3 m4 k4 m5 k5 m6 k6 m7 k7 m8 k8 m9 k9 m10 k10 m11 k11 m12 k12 m13 k13 m14 k14 m15 k15 m16 k16 m17 k17 v222 v228 v231 v232 v234 v235 X_arg17 G init k).1.1 (st_k1_t1 (F := Ideal) 𝒱 c bd i m1 k1 m2 k2 m3 k3 m4 k4 m5 k5 m6 k6 m7 k7 m8 k8 m9 k9 m10 k10 m11 k11 m12 k12 m13 k13 m14 k14 m15 k15 m16 k16 m17 k17 v222 v228 v231 v232 v234 v235 X_arg17 G init k).1.2.1 P
      ∧ (∀ l, P 0 l = run (al l) (b l) (8 * k))
      ∧ Wide (m16.view.read (Elt Ideal) (m16.view.writes (Elt Ideal) G (st_k1_t1 (F := Ideal) 𝒱 c bd i m1 k1 m2 k2 m3 k3 m4 k4 m5 k5 m6 k6 m7 k7 m8 k8 m9 k9 m10 k10 m11 k11 m12 k12 m13 k13 m14 k14 m15 k15 m16 k16 m17 k17 v222 v228 v231 v232 v234 v235 X_arg17 G init k).2))
          (fun t l => if 2048 ≤ (t : ℕ) + 8 * k then run (al l) (b l) (2048 - t) else b l (2047 - t))
      ∧ Holds (st_k1_t1 (F := Ideal) 𝒱 c bd i m1 k1 m2 k2 m3 k3 m4 k4 m5 k5 m6 k6 m7 k7 m8 k8 m9 k9 m10 k10 m11 k11 m12 k12 m13 k13 m14 k14 m15 k15 m16 k16 m17 k17 v222 v228 v231 v232 v234 v235 X_arg17 G init k).1.2.2.1 (st_k1_t1 (F := Ideal) 𝒱 c bd i m1 k1 m2 k2 m3 k3 m4 k4 m5 k5 m6 k6 m7 k7 m8 k8 m9 k9 m10 k10 m11 k11 m12 k12 m13 k13 m14 k14 m15 k15 m16 k16 m17 k17 v222 v228 v231 v232 v234 v235 X_arg17 G init k).1.2.2.2
          (fun r l => ∑ i ∈ Finset.range k, (starRingEnd ℂ) (x (2040 - 8 * i + (r : ℕ)) l) * run (al l) (b l) (2048 - (2040 - 8 * i + (r : ℕ))))
  | 0, _ => ⟨fun _ _ => 0, hinit, fun _ => rfl, Wide.congr hG fun t l => (if_neg (by omega)).symm, hsum⟩
  | k + 1, hk => by
    obtain ⟨P, h1, h2, h3, h4⟩ := scan1 hC b x x0 hG hX hinit hsum k (by omega)
    have hk' : k < k1_t1_loop.trips := by
      have := trips1
      omega
    rw [show k + 1 = ((⟨k, hk'⟩ : Fin k1_t1_loop.trips) : ℕ) + 1 from rfl, st_k1_t1_succ]
    rw [trip1_R, trip1_L]
    have o1 : k1_off1 ⟨k, hk'⟩ = ![2040 - 8 * k, 0] := k1_off1_eq ⟨k, hk'⟩
    have o2 : k1_off2 ⟨k, hk'⟩ = ![2040 - 8 * k, 512] := k1_off2_eq ⟨k, hk'⟩
    have o3 : k1_off3 ⟨k, hk'⟩ = ![8 * (254 - k), 0] := funext (off3_eq ⟨k, hk'⟩)
    have o4 : k1_off4 ⟨k, hk'⟩ = ![8 * (254 - k), 512] := funext (off4_eq ⟨k, hk'⟩)
    set S := st_k1_t1 (F := Ideal) 𝒱 c bd i m1 k1 m2 k2 m3 k3 m4 k4 m5 k5 m6 k6 m7 k7 m8 k8 m9 k9 m10 k10 m11 k11 m12 k12 m13 k13 m14 k14 m15 k15 m16 k16 m17 k17 v222 v228 v231 v232 v234 v235 X_arg17 G init k with hS
    have hH := Wide.rows h3 (k1_off1_inb ⟨k, hk'⟩) (k1_off2_inb ⟨k, hk'⟩) (2040 - 8 * k) (by omega) o1 o2
    have hT := bwd_tile v222 v228 v231 v232 v234 v235 hC h1 hH b (8 * k) (fun r l => by
      show (if 2048 ≤ (2040 - 8 * k + (r : ℕ)) + 8 * k then run (al l) (b l) (2048 - (2040 - 8 * k + (r : ℕ))) else b l (2047 - (2040 - 8 * k + (r : ℕ)))) = b l (8 * k + (7 - (r : ℕ)))
      rw [if_neg (by omega)]
      congr 1
      omega) h2
    have hz := Wide.rows hX (k1_off1_inb ⟨k, hk'⟩) (k1_off2_inb ⟨k, hk'⟩) (2040 - 8 * k) (by omega) o1 o2
    have hzp := Wide.rows hX (k1_off3_inb ⟨k, hk'⟩) (k1_off4_inb ⟨k, hk'⟩) (8 * (254 - k)) (by omega) o3 o4
    have hE := earlier ⟨k, by omega⟩ hzp hz x (2040 - 8 * k) rfl (fun r l => rfl) x0 (fun l hl => by
      show x (8 * (254 - k) + 7 + 1) l = x (2040 - 8 * k) l
      congr 1
      have : k < 255 := hl
      omega)
    have hS := gain h4 hE hT
    refine ⟨_, hT, fun l => ?_, fun t l => ?_, ?_⟩
    · show run (al l) (b l) (8 * k + 7 + 1) = run (al l) (b l) (8 * (k + 1))
      congr 1
    · have e := h3 t l
      simp only [List.cons_append, List.nil_append]
      rw [read_left (arg := m16) (h1 := o1) (h2 := o2), read_right (arg := m16) (h1 := o1) (h2 := o2)]
      by_cases h : 2040 - 8 * k ≤ (t : ℕ) ∧ (t : ℕ) < 2040 - 8 * k + 8
      · have e' := hT ⟨t - (2040 - 8 * k), by omega⟩ l
        have ht : 8 * k + (7 - ((t : ℕ) - (2040 - 8 * k))) + 1 = 2048 - t := by omega
        simp only [ht] at e'
        have hl : 2048 ≤ (t : ℕ) + 8 * (k + 1) := by omega
        simp only [hl, if_true]
        rw [dif_pos h, dif_pos h]
        unfold k1_pay71 k1_pay72
        pointwise
        exact e'
      · rw [dif_neg h, dif_neg h]
        by_cases hl : 2048 ≤ (t : ℕ) + 8 * k
        · have hl' : 2048 ≤ (t : ℕ) + 8 * (k + 1) := by omega
          simp only [hl, hl', if_true] at e ⊢
          exact e
        · have hl' : ¬ 2048 ≤ (t : ℕ) + 8 * (k + 1) := by omega
          simp only [hl, hl', if_false] at e ⊢
          exact e
    · refine Holds.congr hS fun r l => ?_
      rw [Finset.sum_range_succ]
      show _ + (starRingEnd ℂ) (x (2040 - 8 * k + (r : ℕ)) l) * run (al l) (b l) (8 * k + (7 - (r : ℕ)) + 1)
        = _ + (starRingEnd ℂ) (x (2040 - 8 * k + (r : ℕ)) l) * run (al l) (b l) (2048 - (2040 - 8 * k + (r : ℕ)))
      rw [show 8 * k + (7 - (r : ℕ)) + 1 = 2048 - (2040 - 8 * k + (r : ℕ)) by omega]
end

end Cert.KernelIdeal.Run

end
-- ==== Proof.Block1.lean ====
/-
  One block of the backward call: what its seven outputs hold, from the block's inputs.
-/
module

public import proofs.«01_k».proof.Proof.Rows1
public import proofs.«01_k».proof.Proof.Scan1

@[expose] public section

set_option pp.maxSteps 900
set_option maxRecDepth 16384

noncomputable section

namespace Cert.KernelIdeal.Run

open Idealize.ShloMosaic Idealize.ShloMosaic.TcCoe Cert.KernelIdeal Cert.KernelIdeal.Gen Cert.Spec
open Idealize.SL Idealize.SL.RA Idealize.SL.BI Idealize.SL.Sem

/-! ## The inputs -/

/-- The adjoint recurrence's inputs, counted down from the last row. -/
def cts (DY : ℕ → Fin 128 → ℝ) (C : Fin 512 → Fin 128 → ℂ) (l : Fin 512) (s : ℕ) : ℂ := ∑ ch, (DY (2047 - s) ch : ℂ) * (starRingEnd ℂ) (C l ch)

/-- The states' gradient at row `t`. -/
def adj (DY : ℕ → Fin 128 → ℝ) (C : Fin 512 → Fin 128 → ℂ) (al : Fin 512 → ℂ) (t : ℕ) (l : Fin 512) : ℂ :=
  run ((starRingEnd ℂ) (al l)) (cts DY C l) (2048 - t)

/-- A block's inputs: the output's gradient, rows, states, maps and multiplier. -/
structure In1 (x0 x1 : Vec Ideal S2048x128 .f32) (x2 : Vec Ideal S2048x1024 .bf16) (x3 : Vec Ideal S1x128x1024 .bf16) (x4 : Vec Ideal S1x1024x128 .bf16) (x5 : Vec Ideal S1x1x1024 .f32)
    (DY U : ℕ → Fin 128 → ℝ) (X : ℕ → Fin 512 → ℂ) (B : Fin 128 → Fin 512 → ℂ) (C : Fin 512 → Fin 128 → ℂ) (al : Fin 512 → ℂ) : Prop where
  dy : ∀ (t : Fin 2048) (ch : Fin 128), x0 (ix2 t ch) = (DY t ch : EReal)
  u : ∀ (t : Fin 2048) (ch : Fin 128), x1 (ix2 t ch) = (U t ch : EReal)
  x : Wide x2 (fun t l => X (t + 1) l)
  x0 : ∀ l, X 0 l = 0
  br : ∀ (ch : Fin 128) (l : Fin 512), x3 (ix3 0 ch ⟨l, by omega⟩) = ((B ch l).re : EReal)
  bi : ∀ (ch : Fin 128) (l : Fin 512), x3 (ix3 0 ch ⟨512 + l, by omega⟩) = ((B ch l).im : EReal)
  cr : ∀ (l : Fin 512) (ch : Fin 128), x4 (ix3 0 ⟨l, by omega⟩ ch) = ((C l ch).re : EReal)
  ci : ∀ (l : Fin 512) (ch : Fin 128), x4 (ix3 0 ⟨512 + l, by omega⟩ ch) = ((-(C l ch).im : ℝ) : EReal)
  ar : ∀ l : Fin 512, x5 (ix3 0 0 ⟨l, by omega⟩) = ((al l).re : EReal)
  ai : ∀ l : Fin 512, x5 (ix3 0 0 ⟨512 + l, by omega⟩) = ((al l).im : EReal)

/-! ## The multipliers -/

/-- The multiplier's conjugate in each row. -/
theorem conj_rows {w0 w1 : Vec Ideal S1x1x512 .f32} {al : Fin 512 → ℂ} (h0 : ∀ l, w0 (ix3 0 0 l) = ((al l).re : EReal)) (h1 : ∀ l, w1 (ix3 0 0 l) = ((al l).im : EReal)) :
    Holds (k1_pay49 (F := Ideal) w0) (k1_pay50 (F := Ideal) w1) (fun _ l => (starRingEnd ℂ) (al l)) := fun r l => by
  constructor
  · unfold k1_pay49
    pointwise
    rw [h0, Complex.conj_re]
  · unfold k1_pay50
    pointwise
    rw [h1, Complex.conj_im]
    simp

/-- The multipliers of the backward scan. -/
theorem bwd_consts {w0 w1 : Vec Ideal S1x1x512 .f32} {al : Fin 512 → ℂ} (h0 : ∀ l, w0 (ix3 0 0 l) = ((al l).re : EReal)) (h1 : ∀ l, w1 (ix3 0 0 l) = ((al l).im : EReal)) :
    BwdConsts (k1_pay49 (F := Ideal) w0) (k1_pay50 (F := Ideal) w1) k1_pay51 (k1_pay52 (F := Ideal)) k1_pay53 (k1_pay54 (F := Ideal) w0) (fun l => (starRingEnd ℂ) (al l)) := by
  have hz : ∀ i, k1_pay52 (F := Ideal) i = (0 : EReal) := fun i => Ideal.ofBits_zero_f32
  have a1 := conj_rows h0 h1
  have a2 := a1.mul a1
  have a4 := a2.mul a2
  exact ⟨a1.masked (p := fun r => (r : ℕ) = 7) rmask7 hz, a1.masked (p := fun r => (r : ℕ) ≤ 6) rmask1 hz, a2.masked (p := fun r => (r : ℕ) ≤ 5) rmask2 hz,
    a4.masked (p := fun r => (r : ℕ) ≤ 3) rmask4 hz⟩

theorem trips1' : (Scf.trips k1_t1_loop.lb k1_t1_loop.ub k1_t1_loop.st) = 256 := by decide

section
variable (c : Dev nD) (i : grid1.Coords) (m1 : Memref sig .tc .vmem S2048x128 .f32) (k1 : m1.IsWhole) (m2 : Memref sig .tc .vmem S2048x128 .f32) (k2 : m2.IsWhole) (m3 : Memref sig .tc .vmem S2048x1024 .bf16) (k3 : m3.IsWhole) (m4 : Memref sig .tc .vmem S1x128x1024 .bf16) (k4 : m4.IsWhole) (m5 : Memref sig .tc .vmem S1x1024x128 .bf16) (k5 : m5.IsWhole) (m6 : Memref sig .tc .vmem S1x1x1024 .f32) (k6 : m6.IsWhole) (m7 : Memref sig .tc .vmem S1x128 .f32) (k7 : m7.IsWhole) (m9 : Memref sig .tc .vmem S2048x128 .bf16) (k9 : m9.IsWhole) (m10 : Memref sig .tc .vmem S1x128x64 .f32) (k10 : m10.IsWhole) (m11 : Memref sig .tc .vmem S1x128x64 .f32) (k11 : m11.IsWhole) (m12 : Memref sig .tc .vmem S1x128x64 .f32) (k12 : m12.IsWhole) (m13 : Memref sig .tc .vmem S1x128x64 .f32) (k13 : m13.IsWhole) (m14 : Memref sig .tc .vmem S1x1x1024 .f32) (k14 : m14.IsWhole) (m15 : Memref sig .tc .vmem S1x128 .f32) (k15 : m15.IsWhole) (m16 : Memref sig .tc .vmem S2048x1024 .f32) (k16 : m16.IsWhole) (m17 : Memref sig .tc .vmem S2048x1024 .f32) (k17 : m17.IsWhole)
  (x0 : Vec Ideal S2048x128 .f32) (x1 : Vec Ideal S2048x128 .f32) (x2 : Vec Ideal S2048x1024 .bf16) (x3 : Vec Ideal S1x128x1024 .bf16) (x4 : Vec Ideal S1x1024x128 .bf16) (x5 : Vec Ideal S1x1x1024 .f32) (x6 : Vec Ideal S1x128 .f32)
  {DY U : ℕ → Fin 128 → ℝ} {X : ℕ → Fin 512 → ℂ} {B : Fin 128 → Fin 512 → ℂ} {C : Fin 512 → Fin 128 → ℂ} {al : Fin 512 → ℂ}

/-- The adjoint recurrence's inputs are written in eight pieces. -/
theorem pieces_ct : (kernelRun1_A.sl.HS0_8 c m1 k1 m5 k5 x0 x4)
      = [⟨Rect.unit (s := S2048x1024) ![1792, 0] S256x1024.size inb_S2048x1024_S256x1024_1792_0, k1_pay18 (F := Ideal) (part k1 x0 1792 inb_S2048x128_S256x128_1792_0) (View.readAt (Elt Ideal) m5.view (Rect.unit (s := S1x1024x128) ![0, 0, 0] S1x1024x128.size inb_S1x1024x128_S1x1024x128_0_0_0).toLoadRect (k5.unread x4))⟩,
        ⟨Rect.unit (s := S2048x1024) ![1536, 0] S256x1024.size inb_S2048x1024_S256x1024_1536_0, k1_pay18 (F := Ideal) (part k1 x0 1536 inb_S2048x128_S256x128_1536_0) (View.readAt (Elt Ideal) m5.view (Rect.unit (s := S1x1024x128) ![0, 0, 0] S1x1024x128.size inb_S1x1024x128_S1x1024x128_0_0_0).toLoadRect (k5.unread x4))⟩,
        ⟨Rect.unit (s := S2048x1024) ![1280, 0] S256x1024.size inb_S2048x1024_S256x1024_1280_0, k1_pay18 (F := Ideal) (part k1 x0 1280 inb_S2048x128_S256x128_1280_0) (View.readAt (Elt Ideal) m5.view (Rect.unit (s := S1x1024x128) ![0, 0, 0] S1x1024x128.size inb_S1x1024x128_S1x1024x128_0_0_0).toLoadRect (k5.unread x4))⟩,
        ⟨Rect.unit (s := S2048x1024) ![1024, 0] S256x1024.size inb_S2048x1024_S256x1024_1024_0, k1_pay18 (F := Ideal) (part k1 x0 1024 inb_S2048x128_S256x128_1024_0) (View.readAt (Elt Ideal) m5.view (Rect.unit (s := S1x1024x128) ![0, 0, 0] S1x1024x128.size inb_S1x1024x128_S1x1024x128_0_0_0).toLoadRect (k5.unread x4))⟩,
        ⟨Rect.unit (s := S2048x1024) ![768, 0] S256x1024.size inb_S2048x1024_S256x1024_768_0, k1_pay18 (F := Ideal) (part k1 x0 768 inb_S2048x128_S256x128_768_0) (View.readAt (Elt Ideal) m5.view (Rect.unit (s := S1x1024x128) ![0, 0, 0] S1x1024x128.size inb_S1x1024x128_S1x1024x128_0_0_0).toLoadRect (k5.unread x4))⟩,
        ⟨Rect.unit (s := S2048x1024) ![512, 0] S256x1024.size inb_S2048x1024_S256x1024_512_0, k1_pay18 (F := Ideal) (part k1 x0 512 inb_S2048x128_S256x128_512_0) (View.readAt (Elt Ideal) m5.view (Rect.unit (s := S1x1024x128) ![0, 0, 0] S1x1024x128.size inb_S1x1024x128_S1x1024x128_0_0_0).toLoadRect (k5.unread x4))⟩,
        ⟨Rect.unit (s := S2048x1024) ![256, 0] S256x1024.size inb_S2048x1024_S256x1024_256_0, k1_pay18 (F := Ideal) (part k1 x0 256 inb_S2048x128_S256x128_256_0) (View.readAt (Elt Ideal) m5.view (Rect.unit (s := S1x1024x128) ![0, 0, 0] S1x1024x128.size inb_S1x1024x128_S1x1024x128_0_0_0).toLoadRect (k5.unread x4))⟩,
        ⟨Rect.unit (s := S2048x1024) ![0, 0] S256x1024.size inb_S2048x1024_S256x1024_0_0, k1_pay18 (F := Ideal) (part k1 x0 0 inb_S2048x128_S256x128_0_0) (View.readAt (Elt Ideal) m5.view (Rect.unit (s := S1x1024x128) ![0, 0, 0] S1x1024x128.size inb_S1x1024x128_S1x1024x128_0_0_0).toLoadRect (k5.unread x4))⟩] := rfl

/-- The states are copied in eight pieces. -/
theorem pieces_x : (kernelRun1_A.sl.HS1_8 c m3 k3 x2)
      = [⟨Rect.unit (s := S2048x1024) ![1792, 0] S256x1024.size inb_S2048x1024_S256x1024_1792_0, k1_pay17 (F := Ideal) (part k3 x2 1792 inb_S2048x1024_S256x1024_1792_0)⟩,
        ⟨Rect.unit (s := S2048x1024) ![1536, 0] S256x1024.size inb_S2048x1024_S256x1024_1536_0, k1_pay17 (F := Ideal) (part k3 x2 1536 inb_S2048x1024_S256x1024_1536_0)⟩,
        ⟨Rect.unit (s := S2048x1024) ![1280, 0] S256x1024.size inb_S2048x1024_S256x1024_1280_0, k1_pay17 (F := Ideal) (part k3 x2 1280 inb_S2048x1024_S256x1024_1280_0)⟩,
        ⟨Rect.unit (s := S2048x1024) ![1024, 0] S256x1024.size inb_S2048x1024_S256x1024_1024_0, k1_pay17 (F := Ideal) (part k3 x2 1024 inb_S2048x1024_S256x1024_1024_0)⟩,
        ⟨Rect.unit (s := S2048x1024) ![768, 0] S256x1024.size inb_S2048x1024_S256x1024_768_0, k1_pay17 (F := Ideal) (part k3 x2 768 inb_S2048x1024_S256x1024_768_0)⟩,
        ⟨Rect.unit (s := S2048x1024) ![512, 0] S256x1024.size inb_S2048x1024_S256x1024_512_0, k1_pay17 (F := Ideal) (part k3 x2 512 inb_S2048x1024_S256x1024_512_0)⟩,
        ⟨Rect.unit (s := S2048x1024) ![256, 0] S256x1024.size inb_S2048x1024_S256x1024_256_0, k1_pay17 (F := Ideal) (part k3 x2 256 inb_S2048x1024_S256x1024_256_0)⟩,
        ⟨Rect.unit (s := S2048x1024) ![0, 0] S256x1024.size inb_S2048x1024_S256x1024_0_0, k1_pay17 (F := Ideal) (part k3 x2 0 inb_S2048x1024_S256x1024_0_0)⟩] := rfl

theorem ct_rows (t : Fin 2048) (j : Fin 1024) :
    m16.view.read (Elt Ideal) (m16.view.writes (Elt Ideal) m16.view.junk (kernelRun1_A.sl.HS0_8 c m1 k1 m5 k5 x0 x4)) (ix2 t j) = ∑ x : Fin 128, (x0 (ix2 t x) : EReal) * (x4 (ix3 0 j x) : EReal) := by
  rw [pieces_ct]
  refine rows8 (N := 1024) m16.view m16.view.junk _ _ _ _ _ _ _ _ _ _ _ _ _ _ _ _ (fun t j => ∑ x : Fin 128, (x0 (ix2 t x) : EReal) * (x4 (ix3 0 j x) : EReal))
    ?_ ?_ ?_ ?_ ?_ ?_ ?_ ?_ t j <;>
  · intro r j
    refine (p18_apply _ _ r j).trans (Finset.sum_congr rfl fun x _ => ?_)
    refine congrArg₂ _ (rows_at k1 x0 _ _ r x (by omega)) ?_
    rw [readAt_unread]
    exact congrArg x4 (idx_whole3 _ 0 j x)

theorem ct_wide (hI : In1 x0 x1 x2 x3 x4 x5 DY U X B C al) : Wide (m16.view.read (Elt Ideal) (m16.view.writes (Elt Ideal) m16.view.junk (kernelRun1_A.sl.HS0_8 c m1 k1 m5 k5 x0 x4))) (fun t l => cts DY C l (2047 - t)) := fun t l => by
  rw [ct_rows, ct_rows]
  unfold cts
  rw [Complex.re_sum, Complex.im_sum, coe_sum, coe_sum, show 2047 - (2047 - (t : ℕ)) = t by omega]
  constructor
  · refine Finset.sum_congr rfl fun x _ => ?_
    rw [hI.dy, hI.cr, ← EReal.coe_mul]
    congr 1
    simp
  · refine Finset.sum_congr rfl fun x _ => ?_
    rw [hI.dy, hI.ci, ← EReal.coe_mul]
    congr 1
    simp

theorem x_wide (hI : In1 x0 x1 x2 x3 x4 x5 DY U X B C al) : Wide (m17.view.read (Elt Ideal) (m17.view.writes (Elt Ideal) m17.view.junk (kernelRun1_A.sl.HS1_8 c m3 k3 x2))) (fun t l => X (t + 1) l) := by
  have e : ∀ (t : Fin 2048) (j : Fin 1024), m17.view.read (Elt Ideal) (m17.view.writes (Elt Ideal) m17.view.junk (kernelRun1_A.sl.HS1_8 c m3 k3 x2)) (ix2 t j) = x2 (ix2 t j) := fun t j => by
    rw [pieces_x]
    refine rows8 (N := 1024) m17.view m17.view.junk _ _ _ _ _ _ _ _ _ _ _ _ _ _ _ _ (fun t j => (x2 (ix2 t j) : EReal))
      ?_ ?_ ?_ ?_ ?_ ?_ ?_ ?_ t j <;>
    · intro r j
      exact (p17_apply _ r j).trans (rows_at k3 x2 _ _ r j (by omega))
  intro t l
  rw [e, e]
  exact hI.x t l

/-- After the scan the scratch holds the states' gradients, and the sums hold the multiplier's. -/
theorem scanned (hI : In1 x0 x1 x2 x3 x4 x5 DY U X B C al) :
    Wide (m16.view.read (Elt Ideal) (m16.view.writes (Elt Ideal) (m16.view.writes (Elt Ideal) m16.view.junk (kernelRun1_A.sl.HS0_8 c m1 k1 m5 k5 x0 x4)) (st_k1_t1 (F := Ideal) Variants.none c none i m1 k1 m2 k2 m3 k3 m4 k4 m5 k5 m6 k6 m7 k7 (Memref.whole main_arg9) (Memref.isWhole_whole _) m9 k9 m10 k10 m11 k11 m12 k12 m13 k13 m14 k14 m15 k15 m16 k16 m17 k17 (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (m17.view.writes (Elt Ideal) m17.view.junk (kernelRun1_A.sl.HS1_8 c m3 k3 x2)) (m16.view.writes (Elt Ideal) m16.view.junk (kernelRun1_A.sl.HS0_8 c m1 k1 m5 k5 x0 x4)) (k1_pay68 (F := Ideal), k1_pay68 (F := Ideal), k1_pay68 (F := Ideal), k1_pay68 (F := Ideal)) (Scf.trips k1_t1_loop.lb k1_t1_loop.ub k1_t1_loop.st)).2)) (fun t l => adj DY C al t l)
    ∧ Holds (st_k1_t1 (F := Ideal) Variants.none c none i m1 k1 m2 k2 m3 k3 m4 k4 m5 k5 m6 k6 m7 k7 (Memref.whole main_arg9) (Memref.isWhole_whole _) m9 k9 m10 k10 m11 k11 m12 k12 m13 k13 m14 k14 m15 k15 m16 k16 m17 k17 (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (m17.view.writes (Elt Ideal) m17.view.junk (kernelRun1_A.sl.HS1_8 c m3 k3 x2)) (m16.view.writes (Elt Ideal) m16.view.junk (kernelRun1_A.sl.HS0_8 c m1 k1 m5 k5 x0 x4)) (k1_pay68 (F := Ideal), k1_pay68 (F := Ideal), k1_pay68 (F := Ideal), k1_pay68 (F := Ideal)) (Scf.trips k1_t1_loop.lb k1_t1_loop.ub k1_t1_loop.st)).1.2.2.1 (st_k1_t1 (F := Ideal) Variants.none c none i m1 k1 m2 k2 m3 k3 m4 k4 m5 k5 m6 k6 m7 k7 (Memref.whole main_arg9) (Memref.isWhole_whole _) m9 k9 m10 k10 m11 k11 m12 k12 m13 k13 m14 k14 m15 k15 m16 k16 m17 k17 (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (m17.view.writes (Elt Ideal) m17.view.junk (kernelRun1_A.sl.HS1_8 c m3 k3 x2)) (m16.view.writes (Elt Ideal) m16.view.junk (kernelRun1_A.sl.HS0_8 c m1 k1 m5 k5 x0 x4)) (k1_pay68 (F := Ideal), k1_pay68 (F := Ideal), k1_pay68 (F := Ideal), k1_pay68 (F := Ideal)) (Scf.trips k1_t1_loop.lb k1_t1_loop.ub k1_t1_loop.st)).1.2.2.2
      (fun r l => ∑ i ∈ Finset.range 256, (starRingEnd ℂ) (X (2040 - 8 * i + (r : ℕ)) l) * adj DY C al (2040 - 8 * i + (r : ℕ)) l) := by
  have hc : BwdConsts (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (fun l => (starRingEnd ℂ) (al l)) := by
    refine bwd_consts (fun l => ?_) (fun l => ?_)
    · rw [readAt_unread]
      refine Eq.trans (congrArg x5 ?_) (hI.ar l)
      refine funext fun k => Fin.ext ?_
      fin_cases k
      · rfl
      · rfl
      · show 0 + 1 * (l : ℕ) = l
        omega
    · rw [readAt_unread]
      refine Eq.trans (congrArg x5 ?_) (hI.ai l)
      refine funext fun k => Fin.ext ?_
      fin_cases k
      · rfl
      · rfl
      · show 512 + 1 * (l : ℕ) = 512 + l
        omega
  have hz : Holds (k1_pay68 (F := Ideal)) (k1_pay68 (F := Ideal)) (fun _ _ => 0) := fun r l => ⟨Ideal.ofBits_zero_f32, Ideal.ofBits_zero_f32⟩
  obtain ⟨P, -, -, h, hs⟩ := scan1 Variants.none c none i m1 k1 m2 k2 m3 k3 m4 k4 m5 k5 m6 k6 m7 k7 (Memref.whole main_arg9) (Memref.isWhole_whole _) m9 k9 m10 k10 m11 k11 m12 k12 m13 k13 m14 k14 m15 k15 m16 k16 m17 k17 (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (m17.view.writes (Elt Ideal) m17.view.junk (kernelRun1_A.sl.HS1_8 c m3 k3 x2)) (m16.view.writes (Elt Ideal) m16.view.junk (kernelRun1_A.sl.HS0_8 c m1 k1 m5 k5 x0 x4)) (k1_pay68 (F := Ideal), k1_pay68 (F := Ideal), k1_pay68 (F := Ideal), k1_pay68 (F := Ideal)) hc (cts DY C) X hI.x0
    (ct_wide c m1 k1 m5 k5 m16 x0 x1 x2 x3 x4 x5 hI) (x_wide c m3 k3 m17 x0 x1 x2 x3 x4 x5 hI) hz hz (Scf.trips k1_t1_loop.lb k1_t1_loop.ub k1_t1_loop.st) (le_of_eq trips1')
  constructor
  · refine Wide.congr h fun t l => if_pos ?_
    rw [trips1']
    omega
  · have e := trips1'
    intro r l
    have := hs r l
    rw [show Finset.range (Scf.trips k1_t1_loop.lb k1_t1_loop.ub k1_t1_loop.st) = Finset.range 256 from congrArg _ e] at this
    exact this

/-- A block of 256 rows of the scanned scratch. -/
theorem back_rows1 (o : ℕ) (inb) (L L' : List (View.Piece (Elt Ideal) S2048x1024 .f32)) (r : Fin 256) (j : Fin 1024) (h : o + r < 2048) :
    m16.view.readCov (L ++ L') (Rect.unit (s := S2048x1024) ![o, 0] S256x1024.size inb).toLoadRect (ix2 r j)
      = m16.view.read (Elt Ideal) (m16.view.writes (Elt Ideal) (m16.view.writes (Elt Ideal) m16.view.junk L') L) (ix2 ⟨o + r, h⟩ j) :=
  back_rows m16 o inb L L' r j h

/-! ## The outputs -/

theorem run_du : (kernelRun1_A (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6).1
      = [⟨Rect.unit (s := S2048x128) ![1792, 0] S256x128.size inb_S2048x128_S256x128_1792_0, k1_pay81 (F := Ideal) (kernelRun1_A.sl.v390 (F := Ideal) c i m1 k1 m2 k2 m3 k3 m4 k4 m5 k5 m6 k6 m7 k7 m9 k9 m10 k10 m11 k11 m12 k12 m13 k13 m14 k14 m15 k15 m16 k16 m17 k17 x0 x2 x4 x5) (View.readAt (Elt Ideal) m4.view (Rect.unit (s := S1x128x1024) ![0, 0, 0] S1x128x1024.size inb_S1x128x1024_S1x128x1024_0_0_0).toLoadRect (k4.unread x3)) (View.readAt (Elt Ideal) m7.view (Rect.unit (s := S1x128) ![0, 0] S1x128.size inb_S1x128_S1x128_0_0).toLoadRect (k7.unread x6)) (part k1 x0 1792 inb_S2048x128_S256x128_1792_0)⟩,
        ⟨Rect.unit (s := S2048x128) ![1536, 0] S256x128.size inb_S2048x128_S256x128_1536_0, k1_pay81 (F := Ideal) (kernelRun1_A.sl.v374 (F := Ideal) c i m1 k1 m2 k2 m3 k3 m4 k4 m5 k5 m6 k6 m7 k7 m9 k9 m10 k10 m11 k11 m12 k12 m13 k13 m14 k14 m15 k15 m16 k16 m17 k17 x0 x2 x4 x5) (View.readAt (Elt Ideal) m4.view (Rect.unit (s := S1x128x1024) ![0, 0, 0] S1x128x1024.size inb_S1x128x1024_S1x128x1024_0_0_0).toLoadRect (k4.unread x3)) (View.readAt (Elt Ideal) m7.view (Rect.unit (s := S1x128) ![0, 0] S1x128.size inb_S1x128_S1x128_0_0).toLoadRect (k7.unread x6)) (part k1 x0 1536 inb_S2048x128_S256x128_1536_0)⟩,
        ⟨Rect.unit (s := S2048x128) ![1280, 0] S256x128.size inb_S2048x128_S256x128_1280_0, k1_pay81 (F := Ideal) (kernelRun1_A.sl.v358 (F := Ideal) c i m1 k1 m2 k2 m3 k3 m4 k4 m5 k5 m6 k6 m7 k7 m9 k9 m10 k10 m11 k11 m12 k12 m13 k13 m14 k14 m15 k15 m16 k16 m17 k17 x0 x2 x4 x5) (View.readAt (Elt Ideal) m4.view (Rect.unit (s := S1x128x1024) ![0, 0, 0] S1x128x1024.size inb_S1x128x1024_S1x128x1024_0_0_0).toLoadRect (k4.unread x3)) (View.readAt (Elt Ideal) m7.view (Rect.unit (s := S1x128) ![0, 0] S1x128.size inb_S1x128_S1x128_0_0).toLoadRect (k7.unread x6)) (part k1 x0 1280 inb_S2048x128_S256x128_1280_0)⟩,
        ⟨Rect.unit (s := S2048x128) ![1024, 0] S256x128.size inb_S2048x128_S256x128_1024_0, k1_pay81 (F := Ideal) (kernelRun1_A.sl.v342 (F := Ideal) c i m1 k1 m2 k2 m3 k3 m4 k4 m5 k5 m6 k6 m7 k7 m9 k9 m10 k10 m11 k11 m12 k12 m13 k13 m14 k14 m15 k15 m16 k16 m17 k17 x0 x2 x4 x5) (View.readAt (Elt Ideal) m4.view (Rect.unit (s := S1x128x1024) ![0, 0, 0] S1x128x1024.size inb_S1x128x1024_S1x128x1024_0_0_0).toLoadRect (k4.unread x3)) (View.readAt (Elt Ideal) m7.view (Rect.unit (s := S1x128) ![0, 0] S1x128.size inb_S1x128_S1x128_0_0).toLoadRect (k7.unread x6)) (part k1 x0 1024 inb_S2048x128_S256x128_1024_0)⟩,
        ⟨Rect.unit (s := S2048x128) ![768, 0] S256x128.size inb_S2048x128_S256x128_768_0, k1_pay81 (F := Ideal) (kernelRun1_A.sl.v326 (F := Ideal) c i m1 k1 m2 k2 m3 k3 m4 k4 m5 k5 m6 k6 m7 k7 m9 k9 m10 k10 m11 k11 m12 k12 m13 k13 m14 k14 m15 k15 m16 k16 m17 k17 x0 x2 x4 x5) (View.readAt (Elt Ideal) m4.view (Rect.unit (s := S1x128x1024) ![0, 0, 0] S1x128x1024.size inb_S1x128x1024_S1x128x1024_0_0_0).toLoadRect (k4.unread x3)) (View.readAt (Elt Ideal) m7.view (Rect.unit (s := S1x128) ![0, 0] S1x128.size inb_S1x128_S1x128_0_0).toLoadRect (k7.unread x6)) (part k1 x0 768 inb_S2048x128_S256x128_768_0)⟩,
        ⟨Rect.unit (s := S2048x128) ![512, 0] S256x128.size inb_S2048x128_S256x128_512_0, k1_pay81 (F := Ideal) (kernelRun1_A.sl.v310 (F := Ideal) c i m1 k1 m2 k2 m3 k3 m4 k4 m5 k5 m6 k6 m7 k7 m9 k9 m10 k10 m11 k11 m12 k12 m13 k13 m14 k14 m15 k15 m16 k16 m17 k17 x0 x2 x4 x5) (View.readAt (Elt Ideal) m4.view (Rect.unit (s := S1x128x1024) ![0, 0, 0] S1x128x1024.size inb_S1x128x1024_S1x128x1024_0_0_0).toLoadRect (k4.unread x3)) (View.readAt (Elt Ideal) m7.view (Rect.unit (s := S1x128) ![0, 0] S1x128.size inb_S1x128_S1x128_0_0).toLoadRect (k7.unread x6)) (part k1 x0 512 inb_S2048x128_S256x128_512_0)⟩,
        ⟨Rect.unit (s := S2048x128) ![256, 0] S256x128.size inb_S2048x128_S256x128_256_0, k1_pay81 (F := Ideal) (kernelRun1_A.sl.v294 (F := Ideal) c i m1 k1 m2 k2 m3 k3 m4 k4 m5 k5 m6 k6 m7 k7 m9 k9 m10 k10 m11 k11 m12 k12 m13 k13 m14 k14 m15 k15 m16 k16 m17 k17 x0 x2 x4 x5) (View.readAt (Elt Ideal) m4.view (Rect.unit (s := S1x128x1024) ![0, 0, 0] S1x128x1024.size inb_S1x128x1024_S1x128x1024_0_0_0).toLoadRect (k4.unread x3)) (View.readAt (Elt Ideal) m7.view (Rect.unit (s := S1x128) ![0, 0] S1x128.size inb_S1x128_S1x128_0_0).toLoadRect (k7.unread x6)) (part k1 x0 256 inb_S2048x128_S256x128_256_0)⟩,
        ⟨Rect.unit (s := S2048x128) ![0, 0] S256x128.size inb_S2048x128_S256x128_0_0, k1_pay81 (F := Ideal) (kernelRun1_A.sl.v278 (F := Ideal) c i m1 k1 m2 k2 m3 k3 m4 k4 m5 k5 m6 k6 m7 k7 m9 k9 m10 k10 m11 k11 m12 k12 m13 k13 m14 k14 m15 k15 m16 k16 m17 k17 x0 x2 x4 x5) (View.readAt (Elt Ideal) m4.view (Rect.unit (s := S1x128x1024) ![0, 0, 0] S1x128x1024.size inb_S1x128x1024_S1x128x1024_0_0_0).toLoadRect (k4.unread x3)) (View.readAt (Elt Ideal) m7.view (Rect.unit (s := S1x128) ![0, 0] S1x128.size inb_S1x128_S1x128_0_0).toLoadRect (k7.unread x6)) (part k1 x0 0 inb_S2048x128_S256x128_0_0)⟩] := by
  unfold kernelRun1_A
  rfl

/-- The gradient of the rows. -/
theorem out1_du (hI : In1 x0 x1 x2 x3 x4 x5 DY U X B C al) (t : Fin 2048) (ch : Fin 128) :
    out1_A_7 (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6 (ix2 t ch)
      = ((∑ l : Fin 512, ((B ch l).re * (adj DY C al t l).re + (B ch l).im * (adj DY C al t l).im) : ℝ) : EReal) + (x6 (ix2 0 ch) : EReal) * (x0 (ix2 t ch) : EReal) := by
  unfold out1_A_7
  rw [run_du]
  refine rows8 (N := 128) (e := .bf16) VO1_7 VO1_7.junk _ _ _ _ _ _ _ _ _ _ _ _ _ _ _ _
    (fun t ch => ((∑ l : Fin 512, ((B ch l).re * (adj DY C al t l).re + (B ch l).im * (adj DY C al t l).im) : ℝ) : EReal) + (x6 (ix2 0 ch) : EReal) * (x0 (ix2 t ch) : EReal))
    ?_ ?_ ?_ ?_ ?_ ?_ ?_ ?_ t ch <;>
  · intro r ch
    refine (p81_apply _ _ _ _ r ch).trans ?_
    have hs := (scanned c i m1 k1 m2 k2 m3 k3 m4 k4 m5 k5 m6 k6 m7 k7 m9 k9 m10 k10 m11 k11 m12 k12 m13 k13 m14 k14 m15 k15 m16 k16 m17 k17 x0 x1 x2 x3 x4 x5 hI).1
    refine congrArg₂ (fun a b : EReal => a + b) ?_ (congrArg₂ (fun a b : EReal => a * b) ?_ (rows_at k1 x0 _ _ r ch (by omega)))
    · rw [sum_halves, coe_sum]
      refine Finset.sum_congr rfl fun l _ => ?_
      rw [readAt_unread, readAt_unread]
      refine Eq.trans (congrArg₂ (fun a b : EReal => a + b)
        (congrArg₂ (fun a b : EReal => a * b) ((back_rows1 m16 _ _ _ _ r _ (by omega)).trans (hs _ l).1)
          ((congrArg x3 (idx_whole3 _ 0 ch _)).trans (hI.br ch l)))
        (congrArg₂ (fun a b : EReal => a * b) ((back_rows1 m16 _ _ _ _ r _ (by omega)).trans (hs _ l).2)
          ((congrArg x3 (idx_whole3 _ 0 ch _)).trans (hI.bi ch l)))) ?_
      beta_reduce
      rw [← EReal.coe_mul, ← EReal.coe_mul, ← EReal.coe_add]
      congr 1
      ring
    · rw [readAt_unread]
      refine congrArg x6 (funext fun k => Fin.ext ?_)
      fin_cases k
      · rfl
      · show 0 + 1 * (ch : ℕ) = ch
        omega

/-- The rows against the states' gradients. -/
theorem db_all (hI : In1 x0 x1 x2 x3 x4 x5 DY U X B C al) (ch : Fin 128) (j : Fin 1024) :
    k1_pay103 (F := Ideal) (k1_pay99 (F := Ideal) (k1_pay92 (F := Ideal) (k1_pay87 (F := Ideal) (k1_pay82 (F := Ideal) (kernelRun1_A.sl.v278 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 0 inb_S2048x128_S256x128_0_0)) (k1_pay83 (F := Ideal) (kernelRun1_A.sl.v294 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 256 inb_S2048x128_S256x128_256_0) (kernelRun1_A.sl.v310 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 512 inb_S2048x128_S256x128_512_0)) (k1_pay88 (F := Ideal) (kernelRun1_A.sl.v326 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 768 inb_S2048x128_S256x128_768_0) (kernelRun1_A.sl.v342 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 1024 inb_S2048x128_S256x128_1024_0)) (k1_pay93 (F := Ideal) (kernelRun1_A.sl.v358 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 1280 inb_S2048x128_S256x128_1280_0) (kernelRun1_A.sl.v374 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 1536 inb_S2048x128_S256x128_1536_0)) (k1_pay100 (F := Ideal) (kernelRun1_A.sl.v390 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 1792 inb_S2048x128_S256x128_1792_0) (ix2 ch j)
      = ∑ t : Fin 2048, (x1 (ix2 t ch) : EReal) * (m16.view.read (Elt Ideal) (m16.view.writes (Elt Ideal) (m16.view.writes (Elt Ideal) m16.view.junk (kernelRun1_A.sl.HS0_8 c m1 k1 m5 k5 x0 x4)) (st_k1_t1 (F := Ideal) Variants.none c none i m1 k1 m2 k2 m3 k3 m4 k4 m5 k5 m6 k6 m7 k7 (Memref.whole main_arg9) (Memref.isWhole_whole _) m9 k9 m10 k10 m11 k11 m12 k12 m13 k13 m14 k14 m15 k15 m16 k16 m17 k17 (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (m17.view.writes (Elt Ideal) m17.view.junk (kernelRun1_A.sl.HS1_8 c m3 k3 x2)) (m16.view.writes (Elt Ideal) m16.view.junk (kernelRun1_A.sl.HS0_8 c m1 k1 m5 k5 x0 x4)) (k1_pay68 (F := Ideal), k1_pay68 (F := Ideal), k1_pay68 (F := Ideal), k1_pay68 (F := Ideal)) (Scf.trips k1_t1_loop.lb k1_t1_loop.ub k1_t1_loop.st)).2) (ix2 t j) : EReal) := by
  rw [p103_apply, p99_apply, p92_apply, p87_apply, p82_apply]
  refine sum_blocks (fun t => (x1 (ix2 t ch) : EReal) * (m16.view.read (Elt Ideal) (m16.view.writes (Elt Ideal) (m16.view.writes (Elt Ideal) m16.view.junk (kernelRun1_A.sl.HS0_8 c m1 k1 m5 k5 x0 x4)) (st_k1_t1 (F := Ideal) Variants.none c none i m1 k1 m2 k2 m3 k3 m4 k4 m5 k5 m6 k6 m7 k7 (Memref.whole main_arg9) (Memref.isWhole_whole _) m9 k9 m10 k10 m11 k11 m12 k12 m13 k13 m14 k14 m15 k15 m16 k16 m17 k17 (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (m17.view.writes (Elt Ideal) m17.view.junk (kernelRun1_A.sl.HS1_8 c m3 k3 x2)) (m16.view.writes (Elt Ideal) m16.view.junk (kernelRun1_A.sl.HS0_8 c m1 k1 m5 k5 x0 x4)) (k1_pay68 (F := Ideal), k1_pay68 (F := Ideal), k1_pay68 (F := Ideal), k1_pay68 (F := Ideal)) (Scf.trips k1_t1_loop.lb k1_t1_loop.ub k1_t1_loop.st)).2) (ix2 t j) : EReal)) _ _ _ _ _ _ _ _ ?_ ?_ ?_ ?_ ?_ ?_ ?_ ?_ <;>
  · intro r
    exact congrArg₂ (fun a b : EReal => a * b) (rows_at k2 x1 _ _ r ch (by omega)) (back_rows1 m16 _ _ _ _ r j (by omega))

/-- The gradient of the input map, real part. -/
theorem out1_dbRe (hI : In1 x0 x1 x2 x3 x4 x5 DY U X B C al) (ch : Fin 128) (p : Fin 64) :
    out1_A_8 (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6 (ix3 0 ch p)
      = ((∑ t : Fin 2048, U t ch * (adj DY C al t ⟨64 * (ch / 16) + p, by omega⟩).re : ℝ) : EReal) := by
  have hs := (scanned c i m1 k1 m2 k2 m3 k3 m4 k4 m5 k5 m6 k6 m7 k7 m9 k9 m10 k10 m11 k11 m12 k12 m13 k13 m14 k14 m15 k15 m16 k16 m17 k17 x0 x1 x2 x3 x4 x5 hI).1
  unfold out1_A_8
  rw [show (kernelRun1_A (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6).2.1 = [⟨Rect.unit (s := S1x128x64) ![0, 0, 0] S1x128x64.size inb_S1x128x64_S1x128x64_0_0_0, k1_pay47 (F := Ideal) (k1_pay103 (F := Ideal) (k1_pay99 (F := Ideal) (k1_pay92 (F := Ideal) (k1_pay87 (F := Ideal) (k1_pay82 (F := Ideal) (kernelRun1_A.sl.v278 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 0 inb_S2048x128_S256x128_0_0)) (k1_pay83 (F := Ideal) (kernelRun1_A.sl.v294 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 256 inb_S2048x128_S256x128_256_0) (kernelRun1_A.sl.v310 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 512 inb_S2048x128_S256x128_512_0)) (k1_pay88 (F := Ideal) (kernelRun1_A.sl.v326 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 768 inb_S2048x128_S256x128_768_0) (kernelRun1_A.sl.v342 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 1024 inb_S2048x128_S256x128_1024_0)) (k1_pay93 (F := Ideal) (kernelRun1_A.sl.v358 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 1280 inb_S2048x128_S256x128_1280_0) (kernelRun1_A.sl.v374 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 1536 inb_S2048x128_S256x128_1536_0)) (k1_pay100 (F := Ideal) (kernelRun1_A.sl.v390 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 1792 inb_S2048x128_S256x128_1792_0))⟩] from by unfold kernelRun1_A; rfl]
  refine (read_one3 VO1_8 VO1_8.junk _ _ 0 ch p).trans ((p47_apply _ ch p).trans ?_)
  rw [db_all c i m1 k1 m2 k2 m3 k3 m4 k4 m5 k5 m6 k6 m7 k7 m9 k9 m10 k10 m11 k11 m12 k12 m13 k13 m14 k14 m15 k15 m16 k16 m17 k17 x0 x1 x2 x3 x4 x5 hI, coe_sum]
  refine Finset.sum_congr rfl fun t _ => ?_
  rw [(hs t ⟨64 * (ch / 16) + p, by omega⟩).1, hI.u, ← EReal.coe_mul]

/-- The gradient of the input map, imaginary part. -/
theorem out1_dbIm (hI : In1 x0 x1 x2 x3 x4 x5 DY U X B C al) (ch : Fin 128) (p : Fin 64) :
    out1_A_9 (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6 (ix3 0 ch p)
      = ((∑ t : Fin 2048, U t ch * (adj DY C al t ⟨64 * (ch / 16) + p, by omega⟩).im : ℝ) : EReal) := by
  have hs := (scanned c i m1 k1 m2 k2 m3 k3 m4 k4 m5 k5 m6 k6 m7 k7 m9 k9 m10 k10 m11 k11 m12 k12 m13 k13 m14 k14 m15 k15 m16 k16 m17 k17 x0 x1 x2 x3 x4 x5 hI).1
  unfold out1_A_9
  rw [show (kernelRun1_A (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6).2.2.1 = [⟨Rect.unit (s := S1x128x64) ![0, 0, 0] S1x128x64.size inb_S1x128x64_S1x128x64_0_0_0, k1_pay48 (F := Ideal) (k1_pay103 (F := Ideal) (k1_pay99 (F := Ideal) (k1_pay92 (F := Ideal) (k1_pay87 (F := Ideal) (k1_pay82 (F := Ideal) (kernelRun1_A.sl.v278 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 0 inb_S2048x128_S256x128_0_0)) (k1_pay83 (F := Ideal) (kernelRun1_A.sl.v294 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 256 inb_S2048x128_S256x128_256_0) (kernelRun1_A.sl.v310 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 512 inb_S2048x128_S256x128_512_0)) (k1_pay88 (F := Ideal) (kernelRun1_A.sl.v326 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 768 inb_S2048x128_S256x128_768_0) (kernelRun1_A.sl.v342 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 1024 inb_S2048x128_S256x128_1024_0)) (k1_pay93 (F := Ideal) (kernelRun1_A.sl.v358 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 1280 inb_S2048x128_S256x128_1280_0) (kernelRun1_A.sl.v374 (F := Ideal) c i m1 k1 m2 k2 m3 k3 m4 k4 m5 k5 m6 k6 m7 k7 m9 k9 m10 k10 m11 k11 m12 k12 m13 k13 m14 k14 m15 k15 m16 k16 m17 k17 x0 x2 x4 x5) (part k2 x1 1536 inb_S2048x128_S256x128_1536_0)) (k1_pay100 (F := Ideal) (kernelRun1_A.sl.v390 (F := Ideal) c i m1 k1 m2 k2 m3 k3 m4 k4 m5 k5 m6 k6 m7 k7 m9 k9 m10 k10 m11 k11 m12 k12 m13 k13 m14 k14 m15 k15 m16 k16 m17 k17 x0 x2 x4 x5)) (part k2 x1 1792 inb_S2048x128_S256x128_1792_0))⟩] from by unfold kernelRun1_A; rfl]
  refine (read_one3 VO1_9 VO1_9.junk _ _ 0 ch p).trans ((p48_apply _ ch p).trans ?_)
  rw [db_all c i m1 k1 m2 k2 m3 k3 m4 k4 m5 k5 m6 k6 m7 k7 m9 k9 m10 k10 m11 k11 m12 k12 m13 k13 m14 k14 m15 k15 m16 k16 m17 k17 x0 x1 x2 x3 x4 x5 hI, coe_sum]
  refine Finset.sum_congr rfl fun t _ => ?_
  rw [(hs t ⟨64 * (ch / 16) + p, by omega⟩).2, hI.u, ← EReal.coe_mul]

/-- The output's gradient against the states. -/
theorem dc_all (ch : Fin 128) (j : Fin 1024) :
    (kernelRun1_A.sl.r_18 (F := Ideal) c m1 k1 m3 k3 x0 x2) (ix2 ch j) = ∑ t : Fin 2048, (x0 (ix2 t ch) : EReal) * (x2 (ix2 t j) : EReal) := by
  rw [show (kernelRun1_A.sl.r_18 (F := Ideal) c m1 k1 m3 k3 x0 x2) = k1_pay46 (F := Ideal) (k1_pay40 (F := Ideal) (k1_pay35 (F := Ideal) (k1_pay27 (F := Ideal) (k1_pay24 (F := Ideal) (k1_pay20 (F := Ideal) (part k1 x0 0 inb_S2048x128_S256x128_0_0) (part k3 x2 0 inb_S2048x1024_S256x1024_0_0)) (part k1 x0 256 inb_S2048x128_S256x128_256_0) (part k3 x2 256 inb_S2048x1024_S256x1024_256_0)) (part k1 x0 512 inb_S2048x128_S256x128_512_0) (part k3 x2 512 inb_S2048x1024_S256x1024_512_0)) (k1_pay31 (F := Ideal) (part k1 x0 768 inb_S2048x128_S256x128_768_0) (part k3 x2 768 inb_S2048x1024_S256x1024_768_0)) (part k1 x0 1024 inb_S2048x128_S256x128_1024_0) (part k3 x2 1024 inb_S2048x1024_S256x1024_1024_0)) (part k1 x0 1280 inb_S2048x128_S256x128_1280_0) (part k3 x2 1280 inb_S2048x1024_S256x1024_1280_0)) (part k1 x0 1536 inb_S2048x128_S256x128_1536_0) (part k3 x2 1536 inb_S2048x1024_S256x1024_1536_0) (part k1 x0 1792 inb_S2048x128_S256x128_1792_0) (part k3 x2 1792 inb_S2048x1024_S256x1024_1792_0) from rfl]
  rw [p46_apply, p40_apply, p35_apply, p31_apply, p27_apply, p24_apply, p20_apply]
  refine sum_blocks (fun t => (x0 (ix2 t ch) : EReal) * (x2 (ix2 t j) : EReal)) _ _ _ _ _ _ _ _ ?_ ?_ ?_ ?_ ?_ ?_ ?_ ?_ <;>
  · intro r
    exact congrArg₂ (fun a b : EReal => a * b) (rows_at k1 x0 _ _ r ch (by omega)) (rows_at k3 x2 _ _ r j (by omega))

/-- The gradient of the output map, real part. -/
theorem out1_dcRe (hI : In1 x0 x1 x2 x3 x4 x5 DY U X B C al) (ch : Fin 128) (p : Fin 64) :
    out1_A_10 (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6 (ix3 0 ch p)
      = ((∑ t : Fin 2048, DY t ch * (X (t + 1) ⟨64 * (ch / 16) + p, by omega⟩).re : ℝ) : EReal) := by
  unfold out1_A_10
  rw [show (kernelRun1_A (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6).2.2.2.1 = [⟨Rect.unit (s := S1x128x64) ![0, 0, 0] S1x128x64.size inb_S1x128x64_S1x128x64_0_0_0, k1_pay47 (F := Ideal) (kernelRun1_A.sl.r_18 (F := Ideal) c m1 k1 m3 k3 x0 x2)⟩] from by unfold kernelRun1_A; rfl]
  refine (read_one3 VO1_10 VO1_10.junk _ _ 0 ch p).trans ((p47_apply _ ch p).trans ?_)
  rw [dc_all, coe_sum]
  refine Finset.sum_congr rfl fun t _ => ?_
  rw [(hI.x t ⟨64 * (ch / 16) + p, by omega⟩).1, hI.dy, ← EReal.coe_mul]

/-- The gradient of the output map, imaginary part. -/
theorem out1_dcIm (hI : In1 x0 x1 x2 x3 x4 x5 DY U X B C al) (ch : Fin 128) (p : Fin 64) :
    out1_A_11 (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6 (ix3 0 ch p)
      = ((∑ t : Fin 2048, DY t ch * (X (t + 1) ⟨64 * (ch / 16) + p, by omega⟩).im : ℝ) : EReal) := by
  unfold out1_A_11
  rw [show (kernelRun1_A (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6).2.2.2.2.1 = [⟨Rect.unit (s := S1x128x64) ![0, 0, 0] S1x128x64.size inb_S1x128x64_S1x128x64_0_0_0, k1_pay48 (F := Ideal) (kernelRun1_A.sl.r_18 (F := Ideal) c m1 k1 m3 k3 x0 x2)⟩] from by unfold kernelRun1_A; rfl]
  refine (read_one3 VO1_11 VO1_11.junk _ _ 0 ch p).trans ((p48_apply _ ch p).trans ?_)
  rw [dc_all, coe_sum]
  refine Finset.sum_congr rfl fun t _ => ?_
  rw [(hI.x t ⟨64 * (ch / 16) + p, by omega⟩).2, hI.dy, ← EReal.coe_mul]

/-- The gradient of the direct term. -/
theorem out1_dd (hI : In1 x0 x1 x2 x3 x4 x5 DY U X B C al) (ch : Fin 128) :
    out1_A_13 (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6 (ix2 0 ch) = ((∑ t : Fin 2048, DY t ch * U t ch : ℝ) : EReal) := by
  unfold out1_A_13
  rw [show (kernelRun1_A (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6).2.2.2.2.2.2.1 = [⟨Rect.unit (s := S1x128) ![0, 0] S1x128.size inb_S1x128_S1x128_0_0, k1_pay45 (F := Ideal) (k1_pay39 (F := Ideal) (k1_pay34 (F := Ideal) (k1_pay30 (F := Ideal) (k1_pay23 (F := Ideal) (k1_pay19 (F := Ideal) (part k1 x0 0 inb_S2048x128_S256x128_0_0) (part k2 x1 0 inb_S2048x128_S256x128_0_0)) (part k1 x0 256 inb_S2048x128_S256x128_256_0) (part k2 x1 256 inb_S2048x128_S256x128_256_0)) (part k1 x0 512 inb_S2048x128_S256x128_512_0) (part k2 x1 512 inb_S2048x128_S256x128_512_0) (part k1 x0 768 inb_S2048x128_S256x128_768_0) (part k2 x1 768 inb_S2048x128_S256x128_768_0)) (part k1 x0 1024 inb_S2048x128_S256x128_1024_0) (part k2 x1 1024 inb_S2048x128_S256x128_1024_0)) (part k1 x0 1280 inb_S2048x128_S256x128_1280_0) (part k2 x1 1280 inb_S2048x128_S256x128_1280_0)) (part k1 x0 1536 inb_S2048x128_S256x128_1536_0) (part k2 x1 1536 inb_S2048x128_S256x128_1536_0) (part k1 x0 1792 inb_S2048x128_S256x128_1792_0) (part k2 x1 1792 inb_S2048x128_S256x128_1792_0)⟩] from by unfold kernelRun1_A; rfl]
  refine (read_one2 VO1_13 VO1_13.junk _ _ 0 ch).trans ?_
  rw [p45_apply, p39_apply, p34_apply, p30_apply, p23_apply, p19_apply]
  refine (sum_blocks (fun t => (x0 (ix2 t ch) : EReal) * (x1 (ix2 t ch) : EReal)) _ _ _ _ _ _ _ _ ?_ ?_ ?_ ?_ ?_ ?_ ?_ ?_).trans ?_
  rotate_right
  · rw [coe_sum]
    refine Finset.sum_congr rfl fun t _ => ?_
    rw [hI.u, hI.dy, ← EReal.coe_mul]
  all_goals
    intro r
    exact congrArg₂ (fun a b : EReal => a * b) (rows_at k1 x0 _ _ r ch (by omega)) (rows_at k2 x1 _ _ r ch (by omega))

theorem run_da : (kernelRun1_A (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6).2.2.2.2.2.1
      = [⟨Rect.unit (s := S1x1x1024) ![0, 0, 512] S1x1x512.size inb_S1x1x1024_S1x1x512_0_0_512, k1_pay79 (F := Ideal) (st_k1_t1 (F := Ideal) Variants.none c none i m1 k1 m2 k2 m3 k3 m4 k4 m5 k5 m6 k6 m7 k7 (Memref.whole main_arg9) (Memref.isWhole_whole _) m9 k9 m10 k10 m11 k11 m12 k12 m13 k13 m14 k14 m15 k15 m16 k16 m17 k17 (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (m17.view.writes (Elt Ideal) m17.view.junk (kernelRun1_A.sl.HS1_8 c m3 k3 x2)) (m16.view.writes (Elt Ideal) m16.view.junk (kernelRun1_A.sl.HS0_8 c m1 k1 m5 k5 x0 x4)) (k1_pay68 (F := Ideal), k1_pay68 (F := Ideal), k1_pay68 (F := Ideal), k1_pay68 (F := Ideal)) (Scf.trips k1_t1_loop.lb k1_t1_loop.ub k1_t1_loop.st)).1.2.2.2⟩,
        ⟨Rect.unit (s := S1x1x1024) ![0, 0, 0] S1x1x512.size inb_S1x1x1024_S1x1x512_0_0_0, k1_pay78 (F := Ideal) (st_k1_t1 (F := Ideal) Variants.none c none i m1 k1 m2 k2 m3 k3 m4 k4 m5 k5 m6 k6 m7 k7 (Memref.whole main_arg9) (Memref.isWhole_whole _) m9 k9 m10 k10 m11 k11 m12 k12 m13 k13 m14 k14 m15 k15 m16 k16 m17 k17 (kernelRun1_A.sl.r_19 (F := Ideal) c m6 k6 x5) (kernelRun1_A.sl.r_20 (F := Ideal) c m6 k6 x5) k1_pay51 (k1_pay52 (F := Ideal)) k1_pay53 (kernelRun1_A.sl.r_21 (F := Ideal) c m6 k6 x5) (m17.view.writes (Elt Ideal) m17.view.junk (kernelRun1_A.sl.HS1_8 c m3 k3 x2)) (m16.view.writes (Elt Ideal) m16.view.junk (kernelRun1_A.sl.HS0_8 c m1 k1 m5 k5 x0 x4)) (k1_pay68 (F := Ideal), k1_pay68 (F := Ideal), k1_pay68 (F := Ideal), k1_pay68 (F := Ideal)) (Scf.trips k1_t1_loop.lb k1_t1_loop.ub k1_t1_loop.st)).1.2.2.1⟩] := by
  unfold kernelRun1_A
  rfl

/-- The multiplier's gradient, real parts. -/
theorem out1_daRe (hI : In1 x0 x1 x2 x3 x4 x5 DY U X B C al) (l : Fin 512) :
    out1_A_12 (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6 (ix3 0 0 ⟨l, by omega⟩)
      = (((∑ t : Fin 2048, (starRingEnd ℂ) (X t l) * adj DY C al t l).re : ℝ) : EReal) := by
  have hs := (scanned c i m1 k1 m2 k2 m3 k3 m4 k4 m5 k5 m6 k6 m7 k7 m9 k9 m10 k10 m11 k11 m12 k12 m13 k13 m14 k14 m15 k15 m16 k16 m17 k17 x0 x1 x2 x3 x4 x5 hI).2
  unfold out1_A_12
  rw [run_da, View.read_writes_cons_unit_of_not_mem VO1_12 VO1_12.junk inb_S1x1x1024_S1x1x512_0_0_512 _ _ (ix3 0 0 ⟨l, by omega⟩) rfl 2 (.inl l.isLt)]
  refine (View.read_writes_cons_unit_of_mem VO1_12 VO1_12.junk inb_S1x1x1024_S1x1x512_0_0_0 _ _ (ix3 0 0 ⟨l, by omega⟩) (ix3 0 0 l) rfl fun k => ?_).trans ((p78_apply _ l).trans ?_)
  · fin_cases k
    · rfl
    · rfl
    · show (l : ℕ) = 0 + l
      omega
  · rw [← sum_tiles (fun t => (starRingEnd ℂ) (X t l) * adj DY C al t l), Complex.re_sum, coe_sum]
    exact Finset.sum_congr rfl fun r _ => (hs r l).1

/-- The multiplier's gradient, imaginary parts. -/
theorem out1_daIm (hI : In1 x0 x1 x2 x3 x4 x5 DY U X B C al) (l : Fin 512) :
    out1_A_12 (F := Ideal) c i m1 k1 m2 k2 m3 k3 m4 k4 m5 k5 m6 k6 m7 k7 m9 k9 m10 k10 m11 k11 m12 k12 m13 k13 m14 k14 m15 k15 m16 k16 m17 k17 x0 x1 x2 x3 x4 x5 x6 (ix3 0 0 ⟨512 + l, by omega⟩)
      = (((∑ t : Fin 2048, (starRingEnd ℂ) (X t l) * adj DY C al t l).im : ℝ) : EReal) := by
  have hs := (scanned c i m1 k1 m2 k2 m3 k3 m4 k4 m5 k5 m6 k6 m7 k7 m9 k9 m10 k10 m11 k11 m12 k12 m13 k13 m14 k14 m15 k15 m16 k16 m17 k17 x0 x1 x2 x3 x4 x5 hI).2
  unfold out1_A_12
  rw [run_da]
  refine (View.read_writes_cons_unit_of_mem VO1_12 VO1_12.junk inb_S1x1x1024_S1x1x512_0_0_512 _ _ (ix3 0 0 ⟨512 + l, by omega⟩) (ix3 0 0 l) rfl fun k => ?_).trans ((p79_apply _ l).trans ?_)
  · fin_cases k
    · rfl
    · rfl
    · rfl
  · rw [← sum_tiles (fun t => (starRingEnd ℂ) (X t l) * adj DY C al t l), Complex.im_sum, coe_sum]
    exact Finset.sum_congr rfl fun r _ => (hs r l).2
end

end Cert.KernelIdeal.Run

end
-- ==== Proof.Finite.lean ====
/-
  What the precondition says: every element of the arrays the recurrence reads is a real number. And the layer those
  arrays hold (`layerOf`), with each array's elements as coercions of the layer's real numbers (`Reads`).
-/
module

public import proofs.«01_k».proof.Pre_finite
public import proofs.«01_k».proof.Proof.Spec
public import Idealize.ShloMosaic.Lib.Pointwise
public import Idealize.ShloMosaic.Lib.ReduceAll
public import Idealize.ShloMosaic.Lib.KernelVsHost

@[expose] public section

set_option maxRecDepth 16384

noncomputable section

namespace Cert.Pre_finite.Run

open Idealize.ShloMosaic Cert.Pre_finite

instance facts : Cert.Pre_finite.Facts where
  slices_S2048x7168_S2048x512_0_4608 := by decide
  bcast_S_S2048x512 := by decide
  reducesTo_S2048x512_S_d0_1 := by decide
  h_S_ := by decide
  bcast_S_S32x64 := by decide
  reducesTo_S32x64_S_d0_1 := by decide
  bcast_S_S32x16x64 := by decide
  reducesTo_S32x16x64_S_d0_1_2 := by decide

/-- A value whose magnitude is below +∞ is the coercion of its real part. -/
theorem coe_of_olt {x : Ideal .f32}
    (h : FloatOps.cmpf .olt (FloatOps.hostAbsf x) (FloatOps.ofBits (F := Ideal) .f32 0x7F800000#32) = 1#1) :
    (((x : EReal).toReal : ℝ) : EReal) = x := by
  have htop : Ideal.ofBits .f32 0x7F800000#32 = ⊤ := by simp [Ideal.ofBits, Ideal.ieee]
  have h' : Ideal.cmp .olt (max (x : EReal) (-(x : EReal))) ⊤ = 1#1 := htop ▸ h
  have hl : max (x : EReal) (-(x : EReal)) < ⊤ := by
    by_contra hn
    simp [Ideal.cmp, hn] at h'
  rw [max_lt_iff] at hl
  refine EReal.coe_toReal hl.1.ne ?_
  intro hb
  rw [hb] at hl
  simp at hl

section
variable {s : Shape}

/-- The printed "all finite" of an array, read back. -/
theorem coe_of_all {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : (((x i : EReal).toReal : ℝ) : EReal) = x i := by
  haveI : Subsingleton S_.Idx := ⟨fun a b => funext fun k => k.elim0⟩
  have e := Host.reduce_andi_all _ _ hr hu ix0 h i
  pointwise at e
  exact coe_of_olt e

end

/-- The precondition on the arrays: each element the recurrence reads is a real number. -/
theorem reals (a0 : FVec Ideal S2048x512 .f32) (a1 : FVec Ideal S2048x7168 .f32) (a2 a3 : FVec Ideal S32x64 .f32)
    (a4 a5 a6 a7 : FVec Ideal S32x16x64 .f32) (a8 : FVec Ideal S1x512 .f32) (a9 : FVec Ideal S2048x7168 .bf16)
    (h : Cert.Pre_finite.fn (F := Ideal) a0 a1 a2 a3 a4 a5 a6 a7 a8 a9 = fun _ => 1#1) :
    (∀ i, (((a0 i : EReal).toReal : ℝ) : EReal) = a0 i)
    ∧ (∀ (t : Fin 2048) (j : Fin 512), (((a1 (ix2 t ⟨4608 + j, by omega⟩) : EReal).toReal : ℝ) : EReal) = a1 (ix2 t ⟨4608 + j, by omega⟩))
    ∧ (∀ i, (((a2 i : EReal).toReal : ℝ) : EReal) = a2 i) ∧ (∀ i, (((a3 i : EReal).toReal : ℝ) : EReal) = a3 i)
    ∧ (∀ i, (((a4 i : EReal).toReal : ℝ) : EReal) = a4 i) ∧ (∀ i, (((a5 i : EReal).toReal : ℝ) : EReal) = a5 i)
    ∧ (∀ i, (((a6 i : EReal).toReal : ℝ) : EReal) = a6 i) ∧ (∀ i, (((a7 i : EReal).toReal : ℝ) : EReal) = a7 i) := by
  have h0 := congrFun h ix0
  unfold fn fn_part1 fn_part2 at h0
  dsimp only at h0
  change IntOp.andi (IntOp.andi (IntOp.andi (IntOp.andi (IntOp.andi (IntOp.andi (IntOp.andi _ _) _) _) _) _) _) _ = 1#1 at h0
  simp only [IntOp.andi_eq_one] at h0
  obtain ⟨⟨⟨⟨⟨⟨⟨h0, h1⟩, h2⟩, h3⟩, h4⟩, h5⟩, h6⟩, h7⟩ := h0
  refine ⟨fun i => coe_of_all a0 _ Facts.reducesTo_S2048x512_S_d0_1 Facts.h_S_ h0 i, fun t j => ?_, fun i => coe_of_all a2 _ Facts.reducesTo_S32x64_S_d0_1 Facts.h_S_ h2 i, fun i => coe_of_all a3 _ Facts.reducesTo_S32x64_S_d0_1 Facts.h_S_ h3 i, fun i => coe_of_all a4 _ Facts.reducesTo_S32x16x64_S_d0_1_2 Facts.h_S_ h4 i,
    fun i => coe_of_all a5 _ Facts.reducesTo_S32x16x64_S_d0_1_2 Facts.h_S_ h5 i, fun i => coe_of_all a6 _ Facts.reducesTo_S32x16x64_S_d0_1_2 Facts.h_S_ h6 i, fun i => coe_of_all a7 _ Facts.reducesTo_S32x16x64_S_d0_1_2 Facts.h_S_ h7 i⟩
  have e : extractStridedSlice S2048x512 ![0, 4608] a1 Facts.slices_S2048x7168_S2048x512_0_4608 (ix2 t j)
      = a1 (ix2 t ⟨4608 + j, by omega⟩) := by
    pointwise
    try (congr 2 <;> simp)
  exact e ▸ coe_of_all _ _ Facts.reducesTo_S2048x512_S_d0_1 Facts.h_S_ h1 (ix2 t j)

end Cert.Pre_finite.Run

namespace Cert.Spec

open Idealize.ShloMosaic

/-- An element of a matrix by natural numbers, as a real; zero outside. -/
def at2 {A B : ℕ} (x : (⟨2, ![A, B]⟩ : Shape).Idx → EReal) (i j : ℕ) : ℝ :=
  if h : i < A ∧ j < B then (x (ix2 ⟨i, h.1⟩ ⟨j, h.2⟩)).toReal else 0

/-- An element of a rank-3 array by natural numbers, as a real; zero outside. -/
def at3 {A B C : ℕ} (x : (⟨3, ![A, B, C]⟩ : Shape).Idx → EReal) (i j k : ℕ) : ℝ :=
  if h : i < A ∧ j < B ∧ k < C then (x (ix3 ⟨i, h.1⟩ ⟨j, h.2.1⟩ ⟨k, h.2.2⟩)).toReal else 0

theorem at2_eq {A B : ℕ} (x : (⟨2, ![A, B]⟩ : Shape).Idx → EReal) (i : Fin A) (j : Fin B) (n : ℕ) (hn : n = j) :
    at2 x i n = (x (ix2 i j)).toReal := by
  subst hn
  exact dif_pos ⟨i.2, j.2⟩

theorem at3_eq {A B C : ℕ} (x : (⟨3, ![A, B, C]⟩ : Shape).Idx → EReal) (i : Fin A) (j : Fin B) (k : Fin C) :
    at3 x i j k = (x (ix3 i j k)).toReal := dif_pos ⟨i.2, j.2, k.2⟩

abbrev Mat (A B : ℕ) : Type := (⟨2, ![A, B]⟩ : Shape).Idx → EReal
abbrev Ten (A B C : ℕ) : Type := (⟨3, ![A, B, C]⟩ : Shape).Idx → EReal

/-- The layer the argument arrays hold. -/
def layerOf (a0 : Mat 2048 512) (a1 : Mat 2048 7168) (a2 a3 : Mat 32 64) (a4 a5 a6 a7 : Ten 32 16 64) : Layer where
  u t g h := at2 a1 t (4608 + (g * 16 + h))
  dy t g h := at2 a0 t (g * 16 + h)
  a g p := ⟨at2 a2 g p, at2 a3 g p⟩
  b g h p := ⟨at3 a4 g h p, at3 a5 g h p⟩
  c g h p := ⟨at3 a6 g h p, at3 a7 g h p⟩

/-- The arrays hold the layer `L`. -/
structure Reads (L : Layer) (a0 : Mat 2048 512) (a1 : Mat 2048 7168) (a2 a3 : Mat 32 64) (a4 a5 a6 a7 : Ten 32 16 64) : Prop where
  dy : ∀ (t : Fin 2048) (g h : ℕ) (hj : g * 16 + h < 512), a0 (ix2 t ⟨g * 16 + h, hj⟩) = (L.dy t g h : EReal)
  u : ∀ (t : Fin 2048) (g h : ℕ) (hj : 4608 + (g * 16 + h) < 7168), g * 16 + h < 512 → a1 (ix2 t ⟨4608 + (g * 16 + h), hj⟩) = (L.u t g h : EReal)
  ar : ∀ (g : Fin 32) (p : Fin 64), a2 (ix2 g p) = ((L.a g p).re : EReal)
  ai : ∀ (g : Fin 32) (p : Fin 64), a3 (ix2 g p) = ((L.a g p).im : EReal)
  br : ∀ (g : Fin 32) (h : Fin 16) (p : Fin 64), a4 (ix3 g h p) = ((L.b g h p).re : EReal)
  bi : ∀ (g : Fin 32) (h : Fin 16) (p : Fin 64), a5 (ix3 g h p) = ((L.b g h p).im : EReal)
  cr : ∀ (g : Fin 32) (h : Fin 16) (p : Fin 64), a6 (ix3 g h p) = ((L.c g h p).re : EReal)
  ci : ∀ (g : Fin 32) (h : Fin 16) (p : Fin 64), a7 (ix3 g h p) = ((L.c g h p).im : EReal)

/-- Under the precondition the arrays hold the layer made of them. -/
theorem reads_layerOf (a0 : Mat 2048 512) (a1 : Mat 2048 7168) (a2 a3 : Mat 32 64) (a4 a5 a6 a7 : Ten 32 16 64)
    (a8 : Mat 1 512) (a9 : Mat 2048 7168)
    (h : Cert.Pre_finite.fn (F := Ideal) a0 a1 a2 a3 a4 a5 a6 a7 a8 a9 = fun _ => 1#1) :
    Reads (layerOf a0 a1 a2 a3 a4 a5 a6 a7) a0 a1 a2 a3 a4 a5 a6 a7 := by
  obtain ⟨h0, h1, h2, h3, h4, h5, h6, h7⟩ := Cert.Pre_finite.Run.reals a0 a1 a2 a3 a4 a5 a6 a7 a8 a9 h
  refine ⟨fun t g h hj => ?_, fun t g h hj hl => ?_, fun g p => ?_, fun g p => ?_, fun g h p => ?_, fun g h p => ?_,
    fun g h p => ?_, fun g h p => ?_⟩
  · exact ((congrArg _ (at2_eq a0 t ⟨g * 16 + h, hj⟩ _ rfl)).trans (h0 _)).symm
  · exact ((congrArg _ (at2_eq a1 t ⟨4608 + (g * 16 + h), hj⟩ _ rfl)).trans (h1 t ⟨g * 16 + h, hl⟩)).symm
  · exact ((congrArg _ (at2_eq a2 g p _ rfl)).trans (h2 _)).symm
  · exact ((congrArg _ (at2_eq a3 g p _ rfl)).trans (h3 _)).symm
  · exact ((congrArg _ (at3_eq a4 g h p)).trans (h4 _)).symm
  · exact ((congrArg _ (at3_eq a5 g h p)).trans (h5 _)).symm
  · exact ((congrArg _ (at3_eq a6 g h p)).trans (h6 _)).symm
  · exact ((congrArg _ (at3_eq a7 g h p)).trans (h7 _)).symm

end Cert.Spec

end
-- ==== Proof.Tables.lean ====
/-
  The tables the host makes before the calls, at an index: the input map and the output map of each chunk of eight
  groups as block-diagonal matrices, and the multipliers of a chunk side by side.
-/
module

public import proofs.«01_k».proof.Proof.Block1
public import proofs.«01_k».proof.Proof.Finite
public import Idealize.ShloMosaic.Lib.StableHlo.RunRead

@[expose] public section

set_option maxRecDepth 16384

noncomputable section

namespace Cert.KernelIdeal.Run

open Idealize.ShloMosaic Idealize.ShloMosaic.TcCoe Cert.KernelIdeal Cert.KernelIdeal.Gen Cert.Spec
open Idealize.SL Idealize.SL.RA Idealize.SL.BI Idealize.SL.Sem
open Idealize.ShloMosaic.StableHlo Idealize.ShloMosaic.Tactic

/-! ## A chunk of eight groups -/

/-- The input map of chunk `g`: channel `r` of the chunk feeds the states of its own group. -/
def chunkB (L : Layer) (g : ℕ) (r : Fin 128) (l : Fin 512) : ℂ :=
  if (r : ℕ) / 16 = l / 64 then L.b (g * 8 + r / 16) (r % 16) (l % 64) else 0

/-- The output map of chunk `g`. -/
def chunkC (L : Layer) (g : ℕ) (l : Fin 512) (r : Fin 128) : ℂ :=
  if (r : ℕ) / 16 = l / 64 then L.c (g * 8 + r / 16) (r % 16) (l % 64) else 0

/-- The multipliers of chunk `g`. -/
def chunkA (L : Layer) (g : ℕ) (l : Fin 512) : ℂ := L.a (g * 8 + l / 64) (l % 64)

/-- The buffers hold the layer `L` in the arguments. -/
abbrev Holding (L : Layer) (V : Valuation τ sig (Elt Ideal)) : Prop :=
  Reads L (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))

/-! ## The tables -/

/-- The unit matrix of order eight, as it is made. -/
theorem eye_val (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
      = if a = b then 1 else 0 := by
  have h : ∀ a b : Fin 8, IntOp.cmpi CmpIPredicate.eq (IntOp.addi (BitVec.ofNat 32 a) 0#32) (BitVec.ofNat 32 b) = if a = b then 1#1 else 0#1 := by
    decide
  have e := h ⟨a, ha⟩ ⟨b, hb⟩
  dsimp only at e
  rw [e]
  by_cases hab : a = b
  · subst hab
    rw [if_pos rfl, if_pos rfl]
    show (((1#1 : BitVec 1).toNat : ℝ) : EReal) = 1
    simp
  · rw [if_neg hab, if_neg (fun e => hab (Fin.mk.inj_iff.1 e))]
    show (((0#1 : BitVec 1).toNat : ℝ) : EReal) = 0
    simp

/-- A real times an element of the unit matrix. -/
theorem times_eye {x : EReal} {y w : ℝ} (hx : x = y) {a b : ℕ} (ha : a < 8) (hb : b < 8) (hw : w = if a = b then y else 0) :
    x * (FloatOps.uitofp (F := Ideal) FTy.f32 (IntOp.cmpi CmpIPredicate.eq (IntOp.addi (BitVec.ofNat 32 a) 0#32) (BitVec.ofNat 32 b)) : EReal)
      = (w : EReal) := by
  rw [eye_val a b ha hb, hx, hw]
  split <;> simp

/-- The constant minus one. -/
theorem minus_one : (Ideal.ofBits FTy.f32 3212836864#32 : EReal) = ((-1 : ℝ) : EReal) := by
  simp [Ideal.ofBits, Ideal.ieee]
  rw [← EReal.coe_mul]
  norm_num

section
variable {L : Layer} {V : Valuation τ sig (Elt Ideal)} (hV : Holding L V) (g : Fin 4) (r : Fin 128) (l : Fin 512)
include hV

theorem abar_re : after hostOps0 V (Proc.devRef .tc main_v42) (ix3 g 0 ⟨l, by omega⟩) = ((chunkA L g l).re : EReal) := by
  after_reads_simp
  pointwise
  exact hV.ar ⟨g * 8 + l / 64, by omega⟩ ⟨l % 64, by omega⟩

theorem abar_im : after hostOps0 V (Proc.devRef .tc main_v42) (ix3 g 0 ⟨512 + l, by omega⟩) = ((chunkA L g l).im : EReal) := by
  after_reads_simp
  pointwise
  exact hV.ai ⟨g * 8 + l / 64, by omega⟩ ⟨l % 64, by omega⟩

theorem bmat_re : after hostOps0 V (Proc.devRef .tc main_v19) (ix3 g r ⟨l, by omega⟩) = ((chunkB L g r l).re : EReal) := by
  after_reads_simp
  pointwise
  rw [dif_pos (by omega)]
  after_reads_simp
  pointwise
  refine times_eye (hV.br ⟨g * 8 + r / 16, by omega⟩ ⟨r % 16, by omega⟩ ⟨l % 64, by omega⟩) (by omega) (by omega) ?_
  rw [chunkB, show (l : ℕ) / 64 % 8 = l / 64 by omega]
  split <;> rfl

theorem bmat_im : after hostOps0 V (Proc.devRef .tc main_v19) (ix3 g r ⟨512 + l, by omega⟩) = ((chunkB L g r l).im : EReal) := by
  after_reads_simp
  pointwise
  rw [dif_neg (by omega)]
  after_reads_simp
  pointwise
  refine times_eye (hV.bi ⟨g * 8 + r / 16, by omega⟩ ⟨r % 16, by omega⟩ ⟨(512 + l) % 64, by omega⟩) (by omega) (by omega) ?_
  dsimp only
  rw [chunkB, show (512 + (l : ℕ)) / 64 % 8 = l / 64 by omega, show (512 + (l : ℕ)) % 64 = l % 64 by omega]
  split <;> rfl

theorem cmat_re : after hostOps0 V (Proc.devRef .tc main_v39) (ix3 g ⟨l, by omega⟩ r) = ((chunkC L g l r).re : EReal) := by
  after_reads_simp
  pointwise
  rw [dif_pos (by omega)]
  after_reads_simp
  pointwise
  refine times_eye (hV.cr ⟨g * 8 + r / 16, by omega⟩ ⟨r % 16, by omega⟩ ⟨l % 64, by omega⟩) (by omega) (by omega) ?_
  rw [chunkC, show (l : ℕ) / 64 % 8 = l / 64 by omega]
  simp only [eq_comm (a := (r : ℕ) / 16)]
  split <;> rfl

theorem cmat_im : after hostOps0 V (Proc.devRef .tc main_v39) (ix3 g ⟨512 + l, by omega⟩ r) = (((-(chunkC L g l r).im : ℝ)) : EReal) := by
  after_reads_simp
  pointwise
  rw [dif_neg (by omega)]
  after_reads_simp
  pointwise
  have e := hV.ci ⟨g * 8 + r / 16, by omega⟩ ⟨r % 16, by omega⟩ ⟨(512 + l) % 64, by omega⟩
  rw [e, minus_one]
  refine times_eye (EReal.coe_mul _ _).symm (by omega) (by omega) ?_
  dsimp only
  rw [chunkC, show (512 + (l : ℕ)) / 64 % 8 = l / 64 by omega, show (512 + (l : ℕ)) % 64 = l % 64 by omega]
  simp only [eq_comm (a := (r : ℕ) / 16)]
  split
  · rw [neg_one_mul]
  · simp

end

end Cert.KernelIdeal.Run

end
-- ==== Proof.Chunk.lean ====
/-
  A chunk's sums are the layer's: the block-diagonal maps of a chunk of eight groups couple a channel with the states of
  its own group alone, so the sums over the chunk's channels and lanes are sums over one group's.
-/
module

public import proofs.«01_k».proof.Proof.Tables

@[expose] public section

noncomputable section

namespace Cert.KernelIdeal.Run

open Cert.Spec

/-- A sum over positions that are cut into runs of `n`, with the terms of one run alone. -/
theorem sum_group {M : Type} [AddCommMonoid M] (q n k : ℕ) (hn : 0 < n) (hk : k < q) (f : ℕ → ℕ → M) :
    (∑ i : Fin (q * n), if (i : ℕ) / n = k then f (i / n) (i % n) else 0) = ∑ h : Fin n, f k h := by
  rw [← Equiv.sum_comp finProdFinEquiv, Fintype.sum_prod_type, Finset.sum_eq_single ⟨k, hk⟩]
  · refine Finset.sum_congr rfl fun h _ => ?_
    have e : ((finProdFinEquiv (⟨k, hk⟩, h) : Fin (q * n)) : ℕ) = h + n * k := rfl
    rw [e, Nat.add_mul_div_left _ _ hn, Nat.div_eq_of_lt h.2, Nat.zero_add, if_pos rfl, Nat.add_mul_mod_self_left, Nat.mod_eq_of_lt h.2]
  · intro a _ ha
    refine Finset.sum_eq_zero fun h _ => ?_
    have e : ((finProdFinEquiv (a, h) : Fin (q * n)) : ℕ) = h + n * a := rfl
    rw [e, Nat.add_mul_div_left _ _ hn, Nat.div_eq_of_lt h.2, Nat.zero_add, if_neg fun hh => ha (Fin.ext hh)]
  · exact fun h => absurd (Finset.mem_univ _) h

variable (L : Layer) (g : ℕ)

/-- The inputs of chunk `g`, and the outputs' gradients. -/
def chunkU (t : ℕ) (r : Fin 128) : ℝ := L.u t (g * 8 + r / 16) (r % 16)
def chunkDY (t : ℕ) (r : Fin 128) : ℝ := L.dy t (g * 8 + r / 16) (r % 16)
/-- The states of chunk `g` before row `t`. -/
def chunkX (t : ℕ) (l : Fin 512) : ℂ := L.before (g * 8 + l / 64) (l % 64) t

theorem chunk_bu (l : Fin 512) : bu (chunkU L g) (chunkB L g) l = L.bu (g * 8 + l / 64) (l % 64) := by
  funext t
  have e : ∀ r : Fin 128, (chunkU L g t r : ℂ) * chunkB L g r l
      = if (r : ℕ) / 16 = l / 64 then (fun k h => (L.u t (g * 8 + k) h : ℂ) * L.b (g * 8 + k) h (l % 64)) (r / 16) (r % 16) else 0 := by
    intro r
    unfold chunkU chunkB
    split <;> simp
  exact (Finset.sum_congr rfl fun r _ => e r).trans
    (sum_group 8 16 (l / 64) (by omega) (by omega) fun k h => (L.u t (g * 8 + k) h : ℂ) * L.b (g * 8 + k) h (l % 64))

theorem chunk_run (l : Fin 512) (t : ℕ) : run (chunkA L g l) (bu (chunkU L g) (chunkB L g) l) t = chunkX L g t l := by
  rw [chunk_bu]
  rfl

theorem chunk_cts (l : Fin 512) (s : ℕ) : cts (chunkDY L g) (chunkC L g) l s = L.ct (g * 8 + l / 64) (l % 64) (2047 - s) := by
  have e : ∀ r : Fin 128, (chunkDY L g (2047 - s) r : ℂ) * (starRingEnd ℂ) (chunkC L g l r)
      = if (r : ℕ) / 16 = l / 64 then (fun k h => (L.dy (2047 - s) (g * 8 + k) h : ℂ) * (starRingEnd ℂ) (L.c (g * 8 + k) h (l % 64))) (r / 16) (r % 16) else 0 := by
    intro r
    unfold chunkDY chunkC
    split <;> simp
  exact (Finset.sum_congr rfl fun r _ => e r).trans
    (sum_group 8 16 (l / 64) (by omega) (by omega) fun k h => (L.dy (2047 - s) (g * 8 + k) h : ℂ) * (starRingEnd ℂ) (L.c (g * 8 + k) h (l % 64)))

theorem chunk_adj (t : ℕ) (l : Fin 512) : adj (chunkDY L g) (chunkC L g) (chunkA L g) t l = L.g (g * 8 + l / 64) (l % 64) t :=
  congrArg (fun f => run ((starRingEnd ℂ) (L.a (g * 8 + l / 64) (l % 64))) f (2048 - t)) (funext fun s => chunk_cts L g l s)

theorem chunk_y (t : ℕ) (r : Fin 128) :
    (∑ l : Fin 512, (run (chunkA L g l) (bu (chunkU L g) (chunkB L g) l) (t + 1) * chunkC L g l r).re) = L.y t (g * 8 + r / 16) (r % 16) := by
  have e : ∀ l : Fin 512, (run (chunkA L g l) (bu (chunkU L g) (chunkB L g) l) (t + 1) * chunkC L g l r).re
      = if (l : ℕ) / 64 = r / 16 then (fun k p => (L.c (g * 8 + r / 16) (r % 16) p).re * (L.x (g * 8 + k) p t).re
          - (L.c (g * 8 + r / 16) (r % 16) p).im * (L.x (g * 8 + k) p t).im) (l / 64) (l % 64) else 0 := by
    intro l
    rw [chunk_run]
    unfold chunkC
    simp only [eq_comm (a := (l : ℕ) / 64)]
    split
    · rw [Complex.mul_re]
      show (L.before _ _ _).re * _ - (L.before _ _ _).im * _ = _ * (L.before _ _ _).re - _ * (L.before _ _ _).im
      ring
    · simp
  exact (Finset.sum_congr rfl fun l _ => e l).trans
    (sum_group 8 64 (r / 16) (by omega) (by omega) fun k p => (L.c (g * 8 + r / 16) (r % 16) p).re * (L.x (g * 8 + k) p t).re
          - (L.c (g * 8 + r / 16) (r % 16) p).im * (L.x (g * 8 + k) p t).im)

theorem chunk_du (t : ℕ) (r : Fin 128) :
    (∑ l : Fin 512, ((chunkB L g r l).re * (adj (chunkDY L g) (chunkC L g) (chunkA L g) t l).re
      + (chunkB L g r l).im * (adj (chunkDY L g) (chunkC L g) (chunkA L g) t l).im)) = L.du t (g * 8 + r / 16) (r % 16) := by
  have e : ∀ l : Fin 512, (chunkB L g r l).re * (adj (chunkDY L g) (chunkC L g) (chunkA L g) t l).re
      + (chunkB L g r l).im * (adj (chunkDY L g) (chunkC L g) (chunkA L g) t l).im
      = if (l : ℕ) / 64 = r / 16 then (fun k p => (L.b (g * 8 + r / 16) (r % 16) p).re * (L.g (g * 8 + k) p t).re
          + (L.b (g * 8 + r / 16) (r % 16) p).im * (L.g (g * 8 + k) p t).im) (l / 64) (l % 64) else 0 := by
    intro l
    rw [chunk_adj]
    unfold chunkB
    simp only [eq_comm (a := (l : ℕ) / 64)]
    split <;> simp
  exact (Finset.sum_congr rfl fun l _ => e l).trans
    (sum_group 8 64 (r / 16) (by omega) (by omega) fun k p => (L.b (g * 8 + r / 16) (r % 16) p).re * (L.g (g * 8 + k) p t).re
          + (L.b (g * 8 + r / 16) (r % 16) p).im * (L.g (g * 8 + k) p t).im)

section
variable (r : Fin 128) (p : Fin 64)

/-- The lane of a state of channel `r`'s group. -/
abbrev laneOf : Fin 512 := ⟨64 * (r / 16) + p, by omega⟩

theorem lane_div : (laneOf r p : ℕ) / 64 = r / 16 := by show (64 * ((r : ℕ) / 16) + p) / 64 = _; omega
theorem lane_mod : (laneOf r p : ℕ) % 64 = p := by show (64 * ((r : ℕ) / 16) + p) % 64 = _; omega

theorem lane_adj (t : ℕ) : adj (chunkDY L g) (chunkC L g) (chunkA L g) t (laneOf r p) = L.g (g * 8 + r / 16) p t := by
  rw [chunk_adj, lane_div, lane_mod]

theorem lane_x (t : ℕ) : chunkX L g t (laneOf r p) = L.before (g * 8 + r / 16) p t := by
  unfold chunkX
  rw [lane_div, lane_mod]

theorem chunk_dbRe : (∑ t : Fin 2048, chunkU L g t r * (adj (chunkDY L g) (chunkC L g) (chunkA L g) t (laneOf r p)).re) = L.dbRe (g * 8 + r / 16) (r % 16) p :=
  Finset.sum_congr rfl fun t _ => by rw [lane_adj]; rfl

theorem chunk_dbIm : (∑ t : Fin 2048, chunkU L g t r * (adj (chunkDY L g) (chunkC L g) (chunkA L g) t (laneOf r p)).im) = L.dbIm (g * 8 + r / 16) (r % 16) p :=
  Finset.sum_congr rfl fun t _ => by rw [lane_adj]; rfl

theorem chunk_dcRe : (∑ t : Fin 2048, chunkDY L g t r * (chunkX L g (t + 1) (laneOf r p)).re) = L.dcRe (g * 8 + r / 16) (r % 16) p :=
  Finset.sum_congr rfl fun t _ => by rw [lane_x]; rfl

theorem chunk_dcIm : (-∑ t : Fin 2048, chunkDY L g t r * (chunkX L g (t + 1) (laneOf r p)).im) = L.dcIm (g * 8 + r / 16) (r % 16) p :=
  congrArg _ (Finset.sum_congr rfl fun t _ => by rw [lane_x]; rfl)

end

theorem chunk_daRe (l : Fin 512) :
    (∑ t : Fin 2048, (starRingEnd ℂ) (chunkX L g t l) * adj (chunkDY L g) (chunkC L g) (chunkA L g) t l).re = L.daRe (g * 8 + l / 64) (l % 64) := by
  rw [Complex.re_sum]
  refine Finset.sum_congr rfl fun t _ => ?_
  rw [chunk_adj, Complex.mul_re, Complex.conj_re, Complex.conj_im]
  unfold chunkX
  ring

theorem chunk_daIm (l : Fin 512) :
    (∑ t : Fin 2048, (starRingEnd ℂ) (chunkX L g t l) * adj (chunkDY L g) (chunkC L g) (chunkA L g) t l).im = L.daIm (g * 8 + l / 64) (l % 64) := by
  rw [Complex.im_sum]
  refine Finset.sum_congr rfl fun t _ => ?_
  rw [chunk_adj, Complex.mul_im, Complex.conj_re, Complex.conj_im]
  unfold chunkX
  ring

theorem chunk_dd (r : Fin 128) : (∑ t : Fin 2048, chunkDY L g t r * chunkU L g t r) = L.dd (g * 8 + r / 16) (r % 16) := rfl

end Cert.KernelIdeal.Run

end
-- ==== Proof.Outs.lean ====
/-
  The results both programs are shown to leave: the layer's output and gradients as arrays.
-/
module

public import proofs.«01_k».proof.Proof.Finite

@[expose] public section

set_option maxRecDepth 16384

noncomputable section

namespace Cert.Spec

open Idealize.ShloMosaic

/-- The layer's output with the direct term. -/
def outY (L : Layer) (u : Mat 2048 7168) (d : Mat 1 512) : Mat 2048 512 := fun i =>
  ((L.y (i 0) (i 1 / 16) (i 1 % 16) : ℝ) : EReal) + d (ix2 0 (i 1)) * u (ix2 (i 0) ⟨4608 + i 1, by have := (i 1).isLt; simp at this; omega⟩)

/-- The input's gradient with the direct term, in the columns from 4608 on. -/
def gradU (L : Layer) (dy : Mat 2048 512) (d : Mat 1 512) : Mat 2048 7168 := fun i =>
  ((L.du (i 0) ((i 1 - 4608) / 16) ((i 1 - 4608) % 16) : ℝ) : EReal)
    + d (ix2 0 ⟨(i 1 - 4608) % 512, Nat.mod_lt _ (by decide)⟩) * dy (ix2 (i 0) ⟨(i 1 - 4608) % 512, Nat.mod_lt _ (by decide)⟩)

/-- The array the input's gradient is written into, afterwards. -/
def outU (L : Layer) (dy : Mat 2048 512) (d : Mat 1 512) (w : Mat 2048 7168) : Mat 2048 7168 := fun i =>
  if 36 ≤ (i 1 : ℕ) / 128 ∧ (i 1 : ℕ) / 128 < 40 then gradU L dy d i else w i

/-- The gradient of the direct term. -/
def outD (L : Layer) : Mat 1 512 := fun i => ((L.dd (i 1 / 16) (i 1 % 16) : ℝ) : EReal)

/-- A real number per group and state, as an array. -/
def mat (f : ℕ → ℕ → ℝ) : Mat 32 64 := fun i => ((f (i 0) (i 1) : ℝ) : EReal)

/-- A real number per group, channel and state, as an array. -/
def ten (f : ℕ → ℕ → ℕ → ℝ) : Ten 32 16 64 := fun i => ((f (i 0) (i 1) (i 2) : ℝ) : EReal)

/-- The direct term's share of the input's gradient. -/
def directU (d : Mat 1 512) (dy : Mat 2048 512) : Mat 2048 512 := fun i => d (ix2 0 (i 1)) * dy i

end Cert.Spec

end
-- ==== Proof.Arrays0.lean ====
/-
  The forward call's two arrays after the run: the layer's output, with the direct term, and the states of every row,
  each chunk's real parts beside its imaginary parts.
-/
module

public import proofs.«01_k».proof.Proof.Chunk
public import proofs.«01_k».proof.Proof.Outs
public import Idealize.ShloMosaic.Lib.Pipeline.Value
public import Idealize.ShloMosaic.Lib.Pipeline.ValueKit

@[expose] public section

set_option maxRecDepth 16384

noncomputable section

namespace Cert.KernelIdeal.Run

open Idealize.ShloMosaic Idealize.ShloMosaic.TcCoe Cert.KernelIdeal Cert.KernelIdeal.Gen Cert.Spec
open Idealize.SL Idealize.SL.RA Idealize.SL.BI Idealize.SL.Sem
open Idealize.ShloMosaic.StableHlo Idealize.ShloMosaic.Tactic

/-! ## Where a chunk's blocks lie -/

theorem at0_0 : ∀ t : Fin cfg0.N, win0_0.index t = ![0, 36 + t.val] := (by decide +kernel : ∀ t : Fin grid0.N, _)
theorem at0_1 : ∀ t : Fin cfg0.N, win0_1.index t = ![t.val, 0, 0] := (by decide +kernel : ∀ t : Fin grid0.N, _)
theorem at0_2 : ∀ t : Fin cfg0.N, win0_2.index t = ![t.val, 0, 0] := (by decide +kernel : ∀ t : Fin grid0.N, _)
theorem at0_3 : ∀ t : Fin cfg0.N, win0_3.index t = ![t.val, 0, 0] := (by decide +kernel : ∀ t : Fin grid0.N, _)
theorem at0_4 : ∀ t : Fin cfg0.N, win0_4.index t = ![0, t.val] := (by decide +kernel : ∀ t : Fin grid0.N, _)
theorem at0_5 : ∀ t : Fin cfg0.N, win0_5.index t = ![0, t.val] := (by decide +kernel : ∀ t : Fin grid0.N, _)
theorem at0_6 : ∀ t : Fin cfg0.N, win0_6.index t = ![0, t.val] := (by decide +kernel : ∀ t : Fin grid0.N, _)

/-- A chunk's number is below four. -/
theorem lt4 (t : Fin cfg0.N) : t.val < 4 := t.isLt

section
variable (V : (c : Dev nD) → (b : Ref sig .tc) → Buf (Elt Ideal) ((c : Thread nD τ).loc b)) (c : Dev nD) (t : Fin cfg0.N)

theorem blk0_0 (r : Fin 2048) (ch : Fin 128) :
    iblk0 (F := Ideal) V c 0 t (ix2 r ch) = V c main_arg1 (ix2 r ⟨4608 + (128 * t.val + ch), by have := lt4 t; omega⟩) := by
  blk_simp [iblk0]
  congr 1
  blk_ext [at0_0]

theorem blk0_1 (r : Fin 128) (l : Fin 1024) : iblk0 (F := Ideal) V c 1 t (ix3 0 r l) = V c main_v19 (ix3 ⟨t.val, t.isLt⟩ r l) := by
  blk_simp [iblk0]
  congr 1
  blk_ext [at0_1]

theorem blk0_2 (l : Fin 1024) (r : Fin 128) : iblk0 (F := Ideal) V c 2 t (ix3 0 l r) = V c main_v39 (ix3 ⟨t.val, t.isLt⟩ l r) := by
  blk_simp [iblk0]
  congr 1
  blk_ext [at0_2]

theorem blk0_3 (l : Fin 1024) : iblk0 (F := Ideal) V c 3 t (ix3 0 0 l) = V c main_v42 (ix3 ⟨t.val, t.isLt⟩ 0 l) := by
  blk_simp [iblk0]
  congr 1
  blk_ext [at0_3]

theorem blk0_4 (ch : Fin 128) :
    iblk0 (F := Ideal) V c 4 t (ix2 0 ch) = V c main_arg8 (ix2 0 ⟨128 * t.val + ch, by have := lt4 t; omega⟩) := by
  blk_simp [iblk0]
  congr 1
  blk_ext [at0_4]

end

/-! ## What the arrays hold -/

/-- The states of every row. -/
def outX (L : Layer) : Mat 2048 4096 := fun i =>
  if (i 1 : ℕ) % 1024 < 512 then (((chunkX L (i 1 / 1024) (i 0 + 1) ⟨i 1 % 512, Nat.mod_lt _ (by decide)⟩).re : ℝ) : EReal)
  else (((chunkX L (i 1 / 1024) (i 0 + 1) ⟨i 1 % 512, Nat.mod_lt _ (by decide)⟩).im : ℝ) : EReal)

section
variable (m : (ℓ : Loc nD τ sig) → Buf (Elt Ideal) ℓ) (ρ : Dev nD → PrngReg) (c : Dev nD) (L : Layer)
variable (H : Holding L (W0 m ρ c)) (t : Fin cfg0.N)
include H

theorem u_at (r : Fin 2048) (ch : Fin 128) (h) :
    m ((c : Thread nD τ).loc main_arg1) (ix2 r ⟨4608 + (128 * t.val + ch), h⟩) = (chunkU L t r ch : EReal) := by
  have hj : 4608 + ((t.val * 8 + (ch : ℕ) / 16) * 16 + ch % 16) < 7168 := by have := lt4 t; omega
  refine Eq.trans ?_ (H.u r (t.val * 8 + (ch : ℕ) / 16) (ch % 16) hj (by have := lt4 t; omega))
  show m ((c : Thread nD τ).loc main_arg1) _ = m ((c : Thread nD τ).loc main_arg1) _
  congr 2
  exact Fin.ext (show 4608 + (128 * t.val + ch) = 4608 + ((t.val * 8 + (ch : ℕ) / 16) * 16 + ch % 16) by omega)

theorem arg_at1 (a : Ref sig .tc) (h : a ∈ argRefs) : V1 m ρ c a = m ((c : Thread nD τ).loc a) := W1_args m ρ c a h

/-- A chunk's inputs of the forward call are the layer's. -/
theorem in0 : In0 (iblk0 (V1 m ρ) c 0 t) (iblk0 (V1 m ρ) c 1 t) (iblk0 (V1 m ρ) c 2 t) (iblk0 (V1 m ρ) c 3 t)
    (chunkU L t) (chunkB L t) (chunkC L t) (chunkA L t) where
  u r ch := ((blk0_0 _ c t r ch).trans (congrFun (arg_at1 m ρ c L H main_arg1 (by decide)) _)).trans (u_at m ρ c L H t r ch _)
  br ch l := (blk0_1 _ c t ch _).trans (bmat_re H ⟨t.val, t.isLt⟩ ch l)
  bi ch l := (blk0_1 _ c t ch _).trans (bmat_im H ⟨t.val, t.isLt⟩ ch l)
  cr l ch := (blk0_2 _ c t _ ch).trans (cmat_re H ⟨t.val, t.isLt⟩ ch l)
  ci l ch := (blk0_2 _ c t _ ch).trans (cmat_im H ⟨t.val, t.isLt⟩ ch l)
  ar l := (blk0_3 _ c t _).trans (abar_re H ⟨t.val, t.isLt⟩ l)
  ai l := (blk0_3 _ c t _).trans (abar_im H ⟨t.val, t.isLt⟩ l)

/-- A block of the output, at an index. -/
theorem block_y (r : Fin 2048) (ch : Fin 128) :
    (outsAt0 (V1 m ρ) c t).1 (ix2 r ch)
      = outY L (m ((c : Thread nD τ).loc main_arg1)) (m ((c : Thread nD τ).loc main_arg8)) (ix2 r ⟨128 * t.val + ch, by have := lt4 t; omega⟩) := by
  refine (out0_y c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) _ _ _ _ (iblk0 (V1 m ρ) c 4 t) (in0 m ρ c L H t) r ch).trans ?_
  rw [chunk_y, blk0_4, blk0_0, arg_at1 m ρ c L H main_arg1 (by decide), arg_at1 m ρ c L H main_arg8 (by decide)]
  unfold outY
  have e1 : t.val * 8 + (ch : ℕ) / 16 = (128 * t.val + ch) / 16 := by omega
  have e2 : (ch : ℕ) % 16 = (128 * t.val + ch) % 16 := by omega
  rw [e1, e2]
  rfl

/-- A block of the states, at an index. -/
theorem block_x (r : Fin 2048) (l : Fin 1024) :
    (outsAt0 (V1 m ρ) c t).2 (ix2 r l) = outX L (ix2 r ⟨1024 * t.val + l, by have := lt4 t; omega⟩) := by
  have h := out0_states c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) _ _ _ _ (iblk0 (V1 m ρ) c 4 t) (in0 m ρ c L H t)
  unfold outsAt0
  dsimp only
  generalize out0_A_6 (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk0 (V1 m ρ) c 0 t) (iblk0 (V1 m ρ) c 1 t) (iblk0 (V1 m ρ) c 2 t)
    (iblk0 (V1 m ρ) c 3 t) (iblk0 (V1 m ρ) c 4 t) = Z at h ⊢
  have e1 : (1024 * t.val + (l : ℕ)) / 1024 = t.val := by omega
  have e2 : (1024 * t.val + (l : ℕ)) % 1024 = l := by omega
  unfold outX
  show _ = if (1024 * t.val + (l : ℕ)) % 1024 < 512
    then (((chunkX L ((1024 * t.val + (l : ℕ)) / 1024) (r + 1) ⟨(1024 * t.val + (l : ℕ)) % 512, Nat.mod_lt _ (by decide)⟩).re : ℝ) : EReal)
    else (((chunkX L ((1024 * t.val + (l : ℕ)) / 1024) (r + 1) ⟨(1024 * t.val + (l : ℕ)) % 512, Nat.mod_lt _ (by decide)⟩).im : ℝ) : EReal)
  rw [e1, e2]
  split
  · next hl =>
    refine (h r ⟨l, hl⟩).1.trans ?_
    dsimp only
    rw [chunk_run]
    refine congrArg (fun q => ((chunkX L t (r + 1) q).re : EReal)) ?_
    exact Fin.ext (show (l : ℕ) = (1024 * t.val + (l : ℕ)) % 512 by omega)
  · next hl =>
    refine Eq.trans ?_ ((h r ⟨l - 512, by omega⟩).2.trans ?_)
    · refine congrArg (fun j => Z (ix2 r j)) (Fin.ext ?_)
      show (l : ℕ) = 512 + (l - 512)
      omega
    · dsimp only
      rw [chunk_run]
      refine congrArg (fun q => ((chunkX L t (r + 1) q).im : EReal)) ?_
      exact Fin.ext (show (l : ℕ) - 512 = (1024 * t.val + (l : ℕ)) % 512 by omega)

omit H

theorem place0_5 (r : Fin 2048) (ch : Fin 128) :
    (win0_5.blk t).view.emb (ix2 r ch) = (ix2 r ⟨128 * t.val + ch, by have := lt4 t; omega⟩ : S2048x512.Idx) := by
  blk_ext [at0_5]

theorem place0_6 (r : Fin 2048) (l : Fin 1024) :
    (win0_6.blk t).view.emb (ix2 r l) = (ix2 r ⟨1024 * t.val + l, by have := lt4 t; omega⟩ : S2048x4096.Idx) := by
  blk_ext [at0_6]

theorem idx2_eq {A B : ℕ} (y : (⟨2, ![A, B]⟩ : Shape).Idx) : y = ix2 (y 0) (y 1) := by
  funext k
  fin_cases k <;> rfl

include H

/-- The output's array. -/
theorem arr_y : (dat0 (V1 m ρ) c).arrAt 5 cfg0.N = outY L (m ((c : Thread nD τ).loc main_arg1)) (m ((c : Thread nD τ).loc main_arg8)) := by
  refine (dat0 (V1 m ρ) c).arrAt_eq_of_covers 5 _ (by decide +kernel) fun t hf y => ?_
  blk_simp
  rw [after0_5]
  obtain ⟨r, ch, rfl⟩ : ∃ (r : Fin 2048) (ch : Fin 128), y = ix2 r ch := ⟨y 0, y 1, idx2_eq y⟩
  exact (block_y m ρ c L H t r ch).trans (congrArg _ (place0_5 t r ch).symm)

/-- The states' array. -/
theorem arr_x : (dat0 (V1 m ρ) c).arrAt 6 cfg0.N = outX L := by
  refine (dat0 (V1 m ρ) c).arrAt_eq_of_covers 6 _ (by decide +kernel) fun t hf y => ?_
  blk_simp
  rw [after0_6]
  obtain ⟨r, l, rfl⟩ : ∃ (r : Fin 2048) (l : Fin 1024), y = ix2 r l := ⟨y 0, y 1, idx2_eq y⟩
  exact (block_x m ρ c L H t r l).trans (congrArg _ (place0_6 t r l).symm)

end

end Cert.KernelIdeal.Run

end
-- ==== Proof.Arrays1.lean ====
/-
  The backward call's arrays after the run: the input's gradient in its columns of the array it is written into, and
  the gradients of the input map, the output map, the multiplier and the direct term, each chunk's block in place.
-/
module

public import proofs.«01_k».proof.Proof.Arrays0

@[expose] public section

set_option maxRecDepth 16384

noncomputable section

namespace Cert.KernelIdeal.Run

open Idealize.ShloMosaic Idealize.ShloMosaic.TcCoe Cert.KernelIdeal Cert.KernelIdeal.Gen Cert.Spec
open Idealize.SL Idealize.SL.RA Idealize.SL.BI Idealize.SL.Sem
open Idealize.ShloMosaic.StableHlo Idealize.ShloMosaic.Tactic

/-! ## Where a chunk's blocks lie -/

theorem at1_0 : ∀ t : Fin cfg1.N, win1_0.index t = ![0, t.val] := (by decide +kernel : ∀ t : Fin grid1.N, _)
theorem at1_1 : ∀ t : Fin cfg1.N, win1_1.index t = ![0, 36 + t.val] := (by decide +kernel : ∀ t : Fin grid1.N, _)
theorem at1_2 : ∀ t : Fin cfg1.N, win1_2.index t = ![0, t.val] := (by decide +kernel : ∀ t : Fin grid1.N, _)
theorem at1_3 : ∀ t : Fin cfg1.N, win1_3.index t = ![t.val, 0, 0] := (by decide +kernel : ∀ t : Fin grid1.N, _)
theorem at1_4 : ∀ t : Fin cfg1.N, win1_4.index t = ![t.val, 0, 0] := (by decide +kernel : ∀ t : Fin grid1.N, _)
theorem at1_5 : ∀ t : Fin cfg1.N, win1_5.index t = ![t.val, 0, 0] := (by decide +kernel : ∀ t : Fin grid1.N, _)
theorem at1_6 : ∀ t : Fin cfg1.N, win1_6.index t = ![0, t.val] := (by decide +kernel : ∀ t : Fin grid1.N, _)
theorem at1_7 : ∀ t : Fin cfg1.N, win1_7.index t = ![0, 36 + t.val] := (by decide +kernel : ∀ t : Fin grid1.N, _)
theorem at1_8 : ∀ t : Fin cfg1.N, win1_8.index t = ![t.val, 0, 0] := (by decide +kernel : ∀ t : Fin grid1.N, _)
theorem at1_9 : ∀ t : Fin cfg1.N, win1_9.index t = ![t.val, 0, 0] := (by decide +kernel : ∀ t : Fin grid1.N, _)
theorem at1_10 : ∀ t : Fin cfg1.N, win1_10.index t = ![t.val, 0, 0] := (by decide +kernel : ∀ t : Fin grid1.N, _)
theorem at1_11 : ∀ t : Fin cfg1.N, win1_11.index t = ![t.val, 0, 0] := (by decide +kernel : ∀ t : Fin grid1.N, _)
theorem at1_12 : ∀ t : Fin cfg1.N, win1_12.index t = ![t.val, 0, 0] := (by decide +kernel : ∀ t : Fin grid1.N, _)
theorem at1_13 : ∀ t : Fin cfg1.N, win1_13.index t = ![0, t.val] := (by decide +kernel : ∀ t : Fin grid1.N, _)

/-- A chunk's number is below four. -/
theorem lt4' (t : Fin cfg1.N) : t.val < 4 := t.isLt

section
variable (V : (c : Dev nD) → (b : Ref sig .tc) → Buf (Elt Ideal) ((c : Thread nD τ).loc b)) (c : Dev nD) (t : Fin cfg1.N)

theorem blk1_0 (r : Fin 2048) (ch : Fin 128) :
    iblk1 (F := Ideal) V c 0 t (ix2 r ch) = V c main_arg0 (ix2 r ⟨128 * t.val + ch, by have := lt4' t; omega⟩) := by
  blk_simp [iblk1]
  congr 1
  blk_ext [at1_0]

theorem blk1_1 (r : Fin 2048) (ch : Fin 128) :
    iblk1 (F := Ideal) V c 1 t (ix2 r ch) = V c main_arg1 (ix2 r ⟨4608 + (128 * t.val + ch), by have := lt4' t; omega⟩) := by
  blk_simp [iblk1]
  congr 1
  blk_ext [at1_1]

theorem blk1_2 (r : Fin 2048) (l : Fin 1024) :
    iblk1 (F := Ideal) V c 2 t (ix2 r l) = V c main_v43_1 (ix2 r ⟨1024 * t.val + l, by have := lt4' t; omega⟩) := by
  blk_simp [iblk1]
  congr 1
  blk_ext [at1_2]

theorem blk1_3 (r : Fin 128) (l : Fin 1024) : iblk1 (F := Ideal) V c 3 t (ix3 0 r l) = V c main_v19 (ix3 ⟨t.val, t.isLt⟩ r l) := by
  blk_simp [iblk1]
  congr 1
  blk_ext [at1_3]

theorem blk1_4 (l : Fin 1024) (r : Fin 128) : iblk1 (F := Ideal) V c 4 t (ix3 0 l r) = V c main_v39 (ix3 ⟨t.val, t.isLt⟩ l r) := by
  blk_simp [iblk1]
  congr 1
  blk_ext [at1_4]

theorem blk1_5 (l : Fin 1024) : iblk1 (F := Ideal) V c 5 t (ix3 0 0 l) = V c main_v42 (ix3 ⟨t.val, t.isLt⟩ 0 l) := by
  blk_simp [iblk1]
  congr 1
  blk_ext [at1_5]

theorem blk1_6 (ch : Fin 128) :
    iblk1 (F := Ideal) V c 6 t (ix2 0 ch) = V c main_arg8 (ix2 0 ⟨128 * t.val + ch, by have := lt4' t; omega⟩) := by
  blk_simp [iblk1]
  congr 1
  blk_ext [at1_6]

/-! ## Where a chunk's results go -/

theorem place1_7 (r : Fin 2048) (ch : Fin 128) :
    (win1_7.blk t).view.emb (ix2 r ch) = (ix2 r ⟨4608 + (128 * t.val + ch), by have := lt4' t; omega⟩ : S2048x7168.Idx) := by
  blk_ext [at1_7]

theorem place1_8 (ch : Fin 128) (p : Fin 64) :
    (win1_8.blk t).view.emb (ix3 0 ch p) = (ix3 ⟨t.val, t.isLt⟩ ch p : S4x128x64.Idx) := by
  blk_ext [at1_8]

theorem place1_9 (ch : Fin 128) (p : Fin 64) :
    (win1_9.blk t).view.emb (ix3 0 ch p) = (ix3 ⟨t.val, t.isLt⟩ ch p : S4x128x64.Idx) := by
  blk_ext [at1_9]

theorem place1_10 (ch : Fin 128) (p : Fin 64) :
    (win1_10.blk t).view.emb (ix3 0 ch p) = (ix3 ⟨t.val, t.isLt⟩ ch p : S4x128x64.Idx) := by
  blk_ext [at1_10]

theorem place1_11 (ch : Fin 128) (p : Fin 64) :
    (win1_11.blk t).view.emb (ix3 0 ch p) = (ix3 ⟨t.val, t.isLt⟩ ch p : S4x128x64.Idx) := by
  blk_ext [at1_11]

theorem place1_12 (l : Fin 1024) :
    (win1_12.blk t).view.emb (ix3 0 0 l) = (ix3 ⟨t.val, t.isLt⟩ 0 l : S4x1x1024.Idx) := by
  blk_ext [at1_12]

theorem place1_13 (ch : Fin 128) :
    (win1_13.blk t).view.emb (ix2 0 ch) = (ix2 0 ⟨128 * t.val + ch, by have := lt4' t; omega⟩ : S1x512.Idx) := by
  blk_ext [at1_13]

end

theorem idx3_eq {A B C : ℕ} (y : (⟨3, ![A, B, C]⟩ : Shape).Idx) : y = ix3 (y 0) (y 1) (y 2) := by
  funext k
  fin_cases k <;> rfl

/-! ## What the arrays hold -/

/-- The gradients of the maps, by chunk, channel and state. -/
def outBre (L : Layer) : Ten 4 128 64 := fun i => ((L.dbRe (i 0 * 8 + i 1 / 16) (i 1 % 16) (i 2) : ℝ) : EReal)
def outBim (L : Layer) : Ten 4 128 64 := fun i => ((L.dbIm (i 0 * 8 + i 1 / 16) (i 1 % 16) (i 2) : ℝ) : EReal)
def outCre (L : Layer) : Ten 4 128 64 := fun i => ((L.dcRe (i 0 * 8 + i 1 / 16) (i 1 % 16) (i 2) : ℝ) : EReal)
def outCim (L : Layer) : Ten 4 128 64 := fun i => ((-(L.dcIm (i 0 * 8 + i 1 / 16) (i 1 % 16) (i 2)) : ℝ) : EReal)

/-- The gradient of the multiplier, by chunk and lane. -/
def outA (L : Layer) : Ten 4 1 1024 := fun i =>
  if (i 2 : ℕ) < 512 then ((L.daRe (i 0 * 8 + i 2 / 64) (i 2 % 64) : ℝ) : EReal) else ((L.daIm (i 0 * 8 + (i 2 - 512) / 64) ((i 2 - 512) % 64) : ℝ) : EReal)

section
variable (m : (ℓ : Loc nD τ sig) → Buf (Elt Ideal) ℓ) (ρ : Dev nD → PrngReg) (c : Dev nD) (L : Layer)

theorem arg_at3 (a : Ref sig .tc) (h : a ∈ argRefs) : V3 m ρ c a = m ((c : Thread nD τ).loc a) := W3_args m ρ c a h

theorem host_at3 (a : Ref sig .tc) (h3 : a ∉ hostOps1_W) (h2 : ∀ w : Fin cfg0.W, Pipeline.arrRef spec0 w = a → (cfg0.win w).isOut = false) :
    V3 m ρ c a = after hostOps0 (W0 m ρ c) (Proc.devRef .tc a) :=
  (W3_of m ρ c a h3).trans (W2_of m ρ c a h2)

variable (H : Holding L (W0 m ρ c)) (t : Fin cfg1.N)
include H

theorem states_at3 : V3 m ρ c main_v43_1 = outX L :=
  (W3_of m ρ c main_v43_1 (by decide)).trans ((W2_arr m ρ c 6).trans (arr_x m ρ c L H))

theorem dy_at (r : Fin 2048) (ch : Fin 128) (h) :
    m ((c : Thread nD τ).loc main_arg0) (ix2 r ⟨128 * t.val + ch, h⟩) = (chunkDY L t r ch : EReal) := by
  have hj : (t.val * 8 + (ch : ℕ) / 16) * 16 + ch % 16 < 512 := by have := lt4' t; omega
  refine Eq.trans ?_ (H.dy r (t.val * 8 + (ch : ℕ) / 16) (ch % 16) hj)
  show m ((c : Thread nD τ).loc main_arg0) _ = m ((c : Thread nD τ).loc main_arg0) _
  congr 2
  exact Fin.ext (show 128 * t.val + (ch : ℕ) = (t.val * 8 + (ch : ℕ) / 16) * 16 + ch % 16 by omega)

/-- The states' block of a chunk. -/
theorem wide_x : Wide (iblk1 (V3 m ρ) c 2 t) (fun s l => chunkX L t (s + 1) l) := by
  intro r l
  have e1 : (1024 * t.val + (l : ℕ)) / 1024 = t.val := by omega
  have e2 : (1024 * t.val + (l : ℕ)) % 1024 = l := by omega
  have e3 : (1024 * t.val + (512 + (l : ℕ))) / 1024 = t.val := by omega
  have e4 : (1024 * t.val + (512 + (l : ℕ))) % 1024 = 512 + l := by omega
  constructor
  · refine (blk1_2 _ c t r ⟨l, by omega⟩).trans ?_
    rw [states_at3 m ρ c L H]
    show (if (1024 * t.val + (l : ℕ)) % 1024 < 512
      then (((chunkX L ((1024 * t.val + (l : ℕ)) / 1024) (r + 1) ⟨(1024 * t.val + (l : ℕ)) % 512, Nat.mod_lt _ (by decide)⟩).re : ℝ) : EReal)
      else (((chunkX L ((1024 * t.val + (l : ℕ)) / 1024) (r + 1) ⟨(1024 * t.val + (l : ℕ)) % 512, Nat.mod_lt _ (by decide)⟩).im : ℝ) : EReal))
      = ((chunkX L t (r + 1) l).re : EReal)
    rw [e1, e2, if_pos (by omega)]
    refine congrArg (fun q => ((chunkX L t (r + 1) q).re : EReal)) ?_
    exact Fin.ext (show (1024 * t.val + (l : ℕ)) % 512 = l by omega)
  · refine (blk1_2 _ c t r ⟨512 + l, by omega⟩).trans ?_
    rw [states_at3 m ρ c L H]
    show (if (1024 * t.val + (512 + (l : ℕ))) % 1024 < 512
      then (((chunkX L ((1024 * t.val + (512 + (l : ℕ))) / 1024) (r + 1) ⟨(1024 * t.val + (512 + (l : ℕ))) % 512, Nat.mod_lt _ (by decide)⟩).re : ℝ) : EReal)
      else (((chunkX L ((1024 * t.val + (512 + (l : ℕ))) / 1024) (r + 1) ⟨(1024 * t.val + (512 + (l : ℕ))) % 512, Nat.mod_lt _ (by decide)⟩).im : ℝ) : EReal))
      = ((chunkX L t (r + 1) l).im : EReal)
    rw [e3, e4, if_neg (by omega)]
    refine congrArg (fun q => ((chunkX L t (r + 1) q).im : EReal)) ?_
    exact Fin.ext (show (1024 * t.val + (512 + (l : ℕ))) % 512 = l by omega)

theorem bmat_at3 : V3 m ρ c main_v19 = after hostOps0 (W0 m ρ c) (Proc.devRef .tc main_v19) := host_at3 m ρ c main_v19 (by decide) (by decide)
theorem cmat_at3 : V3 m ρ c main_v39 = after hostOps0 (W0 m ρ c) (Proc.devRef .tc main_v39) := host_at3 m ρ c main_v39 (by decide) (by decide)
theorem abar_at3 : V3 m ρ c main_v42 = after hostOps0 (W0 m ρ c) (Proc.devRef .tc main_v42) := host_at3 m ρ c main_v42 (by decide) (by decide)

/-- A chunk's inputs of the backward call are the layer's. -/
theorem in1 : In1 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)
    (chunkDY L t) (chunkU L t) (chunkX L t) (chunkB L t) (chunkC L t) (chunkA L t) where
  dy r ch := ((blk1_0 _ c t r ch).trans (congrFun (arg_at3 m ρ c main_arg0 (by decide)) _)).trans (dy_at m ρ c L H t r ch _)
  u r ch := ((blk1_1 _ c t r ch).trans (congrFun (arg_at3 m ρ c main_arg1 (by decide)) _)).trans (u_at m ρ c L H t r ch _)
  x := wide_x m ρ c L H t
  x0 l := rfl
  br ch l := ((blk1_3 _ c t ch _).trans (congrFun (bmat_at3 m ρ c L H) _)).trans (bmat_re H ⟨t.val, t.isLt⟩ ch l)
  bi ch l := ((blk1_3 _ c t ch _).trans (congrFun (bmat_at3 m ρ c L H) _)).trans (bmat_im H ⟨t.val, t.isLt⟩ ch l)
  cr l ch := ((blk1_4 _ c t _ ch).trans (congrFun (cmat_at3 m ρ c L H) _)).trans (cmat_re H ⟨t.val, t.isLt⟩ ch l)
  ci l ch := ((blk1_4 _ c t _ ch).trans (congrFun (cmat_at3 m ρ c L H) _)).trans (cmat_im H ⟨t.val, t.isLt⟩ ch l)
  ar l := ((blk1_5 _ c t _).trans (congrFun (abar_at3 m ρ c L H) _)).trans (abar_re H ⟨t.val, t.isLt⟩ l)
  ai l := ((blk1_5 _ c t _).trans (congrFun (abar_at3 m ρ c L H) _)).trans (abar_im H ⟨t.val, t.isLt⟩ l)

/-! ## The blocks the call leaves -/

theorem block_du (r : Fin 2048) (ch : Fin 128) :
    (outsAt1 (V3 m ρ) c t).1 (ix2 r ch)
      = gradU L (m ((c : Thread nD τ).loc main_arg0)) (m ((c : Thread nD τ).loc main_arg8)) (ix2 r ⟨4608 + (128 * t.val + ch), by have := lt4' t; omega⟩) := by
  refine (out1_du c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) scM1_0 (Memref.isWhole_whole _) scM1_1 (Memref.isWhole_whole _) _ _ _ _ _ _ (iblk1 (V3 m ρ) c 6 t) (in1 m ρ c L H t) r ch).trans ?_
  rw [chunk_du, blk1_6, blk1_0, arg_at3 m ρ c main_arg0 (by decide), arg_at3 m ρ c main_arg8 (by decide)]
  unfold gradU
  have e0 : 4608 + (128 * t.val + (ch : ℕ)) - 4608 = 128 * t.val + ch := by omega
  have e1 : t.val * 8 + (ch : ℕ) / 16 = (4608 + (128 * t.val + ch) - 4608) / 16 := by omega
  have e2 : (ch : ℕ) % 16 = (4608 + (128 * t.val + ch) - 4608) % 16 := by omega
  have e3 : ∀ h : 128 * t.val + (ch : ℕ) < 512, (⟨128 * t.val + ch, h⟩ : Fin 512) = ⟨(4608 + (128 * t.val + (ch : ℕ)) - 4608) % 512, Nat.mod_lt _ (by decide)⟩ :=
    fun h => Fin.ext (show 128 * t.val + (ch : ℕ) = (4608 + (128 * t.val + (ch : ℕ)) - 4608) % 512 by omega)
  rw [e1, e2, e3]
  rfl

theorem block_dbRe (ch : Fin 128) (p : Fin 64) :
    (outsAt1 (V3 m ρ) c t).2.1 (ix3 0 ch p) = outBre L (ix3 ⟨t.val, t.isLt⟩ ch p) := by
  have h := (out1_dbRe c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) scM1_0 (Memref.isWhole_whole _) scM1_1 (Memref.isWhole_whole _) _ _ _ _ _ _ (iblk1 (V3 m ρ) c 6 t) (in1 m ρ c L H t) ch p).trans
    (congrArg (fun z : ℝ => (z : EReal)) (chunk_dbRe L t ch p))
  unfold outsAt1
  dsimp only
  generalize out1_A_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) = Z at h ⊢
  exact h

theorem block_dbIm (ch : Fin 128) (p : Fin 64) :
    (outsAt1 (V3 m ρ) c t).2.2.1 (ix3 0 ch p) = outBim L (ix3 ⟨t.val, t.isLt⟩ ch p) := by
  have h := (out1_dbIm c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) scM1_0 (Memref.isWhole_whole _) scM1_1 (Memref.isWhole_whole _) _ _ _ _ _ _ (iblk1 (V3 m ρ) c 6 t) (in1 m ρ c L H t) ch p).trans
    (congrArg (fun z : ℝ => (z : EReal)) (chunk_dbIm L t ch p))
  unfold outsAt1
  dsimp only
  generalize out1_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) = Z at h ⊢
  exact h

theorem block_dcRe (ch : Fin 128) (p : Fin 64) :
    (outsAt1 (V3 m ρ) c t).2.2.2.1 (ix3 0 ch p) = outCre L (ix3 ⟨t.val, t.isLt⟩ ch p) := by
  have h := (out1_dcRe c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) scM1_0 (Memref.isWhole_whole _) scM1_1 (Memref.isWhole_whole _) _ _ _ _ _ _ (iblk1 (V3 m ρ) c 6 t) (in1 m ρ c L H t) ch p).trans
    (congrArg (fun z : ℝ => (z : EReal)) (chunk_dcRe L t ch p))
  unfold outsAt1
  dsimp only
  generalize out1_A_10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) = Z at h ⊢
  exact h

theorem block_dcIm (ch : Fin 128) (p : Fin 64) :
    (outsAt1 (V3 m ρ) c t).2.2.2.2.1 (ix3 0 ch p) = outCim L (ix3 ⟨t.val, t.isLt⟩ ch p) := by
  have h := (out1_dcIm c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) scM1_0 (Memref.isWhole_whole _) scM1_1 (Memref.isWhole_whole _) _ _ _ _ _ _ (iblk1 (V3 m ρ) c 6 t) (in1 m ρ c L H t) ch p).trans
    (congrArg (fun z : ℝ => (z : EReal)) ((neg_neg _).symm.trans (congrArg (fun z : ℝ => -z) (chunk_dcIm L t ch p))))
  unfold outsAt1
  dsimp only
  generalize out1_A_11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) = Z at h ⊢
  exact h

theorem block_da (l : Fin 1024) :
    (outsAt1 (V3 m ρ) c t).2.2.2.2.2.1 (ix3 0 0 l) = outA L (ix3 ⟨t.val, t.isLt⟩ 0 l) := by
  have h0 := fun l : Fin 512 => out1_daRe c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) scM1_0 (Memref.isWhole_whole _) scM1_1 (Memref.isWhole_whole _) _ _ _ _ _ _ (iblk1 (V3 m ρ) c 6 t) (in1 m ρ c L H t) l
  have h1 := fun l : Fin 512 => out1_daIm c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) scM1_0 (Memref.isWhole_whole _) scM1_1 (Memref.isWhole_whole _) _ _ _ _ _ _ (iblk1 (V3 m ρ) c 6 t) (in1 m ρ c L H t) l
  unfold outsAt1
  dsimp only
  generalize out1_A_12 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) scM1_0 (Memref.isWhole_whole _) scM1_1 (Memref.isWhole_whole _) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) = Z at h0 h1 ⊢
  unfold outA
  show _ = if (l : ℕ) < 512 then ((L.daRe (t.val * 8 + l / 64) (l % 64) : ℝ) : EReal) else ((L.daIm (t.val * 8 + (l - 512) / 64) ((l - 512) % 64) : ℝ) : EReal)
  split
  · next hl =>
    exact (h0 ⟨l, hl⟩).trans (congrArg (fun z : ℝ => (z : EReal)) (chunk_daRe L t ⟨l, hl⟩))
  · next hl =>
    refine Eq.trans ?_ ((h1 ⟨l - 512, by omega⟩).trans (congrArg (fun z : ℝ => (z : EReal)) (chunk_daIm L t ⟨l - 512, by omega⟩)))
    refine congrArg (fun j => Z (ix3 0 0 j)) (Fin.ext ?_)
    show (l : ℕ) = 512 + (l - 512)
    omega

theorem block_dd (ch : Fin 128) :
    (outsAt1 (V3 m ρ) c t).2.2.2.2.2.2 (ix2 0 ch) = outD L (ix2 0 ⟨128 * t.val + ch, by have := lt4' t; omega⟩) := by
  refine (out1_dd c (grid1.coords t) _ (hs1_0 t) _ (hs1_1 t) _ (hs1_2 t) _ (hs1_3 t) _ (hs1_4 t) _ (hs1_5 t) _ (hs1_6 t) _ (hs1_7 t) _ (hs1_8 t) _ (hs1_9 t) _ (hs1_10 t) _ (hs1_11 t) _ (hs1_12 t) _ (hs1_13 t) scM1_0 (Memref.isWhole_whole _) scM1_1 (Memref.isWhole_whole _) _ _ _ _ _ _ (iblk1 (V3 m ρ) c 6 t) (in1 m ρ c L H t) ch).trans ?_
  have e1 : t.val * 8 + (ch : ℕ) / 16 = (128 * t.val + ch) / 16 := by omega
  have e2 : (ch : ℕ) % 16 = (128 * t.val + ch) % 16 := by omega
  rw [chunk_dd, e1, e2]
  rfl

/-! ## The arrays -/

/-- The input's gradient: its columns hold it, the others what they held. -/
theorem arr_du : (dat1 (V3 m ρ) c).arrAt 7 cfg1.N
    = outU L (m ((c : Thread nD τ).loc main_arg0)) (m ((c : Thread nD τ).loc main_arg8)) (V3 m ρ c main_v44_0) := by
  refine (dat1 (V3 m ρ) c).arrAt_eq_of_coversWhere 7 _ (fun β => 36 ≤ β (1 : Fin 2) ∧ β (1 : Fin 2) < 40) (by decide +kernel) (fun t hf y => ?_) (fun j => Iff.rfl)
  blk_simp
  rw [after1_7]
  obtain ⟨r, ch, rfl⟩ : ∃ (r : Fin 2048) (ch : Fin 128), y = ix2 r ch := ⟨y 0, y 1, idx2_eq y⟩
  exact (block_du m ρ c L H t r ch).trans (congrArg _ (place1_7 t r ch).symm)

theorem arr_dbRe : (dat1 (V3 m ρ) c).arrAt 8 cfg1.N = outBre L := by
  refine (dat1 (V3 m ρ) c).arrAt_eq_of_covers 8 _ (by decide +kernel) fun t hf y => ?_
  blk_simp
  rw [after1_8]
  obtain ⟨ch, p, rfl⟩ : ∃ (ch : Fin 128) (p : Fin 64), y = ix3 0 ch p :=
    ⟨y 1, y 2, (idx3_eq y).trans (congrArg (fun a => ix3 a (y 1) (y 2)) (Subsingleton.elim (α := Fin 1) (y 0) 0))⟩
  exact (block_dbRe m ρ c L H t ch p).trans (congrArg _ (place1_8 t ch p).symm)

theorem arr_dbIm : (dat1 (V3 m ρ) c).arrAt 9 cfg1.N = outBim L := by
  refine (dat1 (V3 m ρ) c).arrAt_eq_of_covers 9 _ (by decide +kernel) fun t hf y => ?_
  blk_simp
  rw [after1_9]
  obtain ⟨ch, p, rfl⟩ : ∃ (ch : Fin 128) (p : Fin 64), y = ix3 0 ch p :=
    ⟨y 1, y 2, (idx3_eq y).trans (congrArg (fun a => ix3 a (y 1) (y 2)) (Subsingleton.elim (α := Fin 1) (y 0) 0))⟩
  exact (block_dbIm m ρ c L H t ch p).trans (congrArg _ (place1_9 t ch p).symm)

theorem arr_dcRe : (dat1 (V3 m ρ) c).arrAt 10 cfg1.N = outCre L := by
  refine (dat1 (V3 m ρ) c).arrAt_eq_of_covers 10 _ (by decide +kernel) fun t hf y => ?_
  blk_simp
  rw [after1_10]
  obtain ⟨ch, p, rfl⟩ : ∃ (ch : Fin 128) (p : Fin 64), y = ix3 0 ch p :=
    ⟨y 1, y 2, (idx3_eq y).trans (congrArg (fun a => ix3 a (y 1) (y 2)) (Subsingleton.elim (α := Fin 1) (y 0) 0))⟩
  exact (block_dcRe m ρ c L H t ch p).trans (congrArg _ (place1_10 t ch p).symm)

theorem arr_dcIm : (dat1 (V3 m ρ) c).arrAt 11 cfg1.N = outCim L := by
  refine (dat1 (V3 m ρ) c).arrAt_eq_of_covers 11 _ (by decide +kernel) fun t hf y => ?_
  blk_simp
  rw [after1_11]
  obtain ⟨ch, p, rfl⟩ : ∃ (ch : Fin 128) (p : Fin 64), y = ix3 0 ch p :=
    ⟨y 1, y 2, (idx3_eq y).trans (congrArg (fun a => ix3 a (y 1) (y 2)) (Subsingleton.elim (α := Fin 1) (y 0) 0))⟩
  exact (block_dcIm m ρ c L H t ch p).trans (congrArg _ (place1_11 t ch p).symm)

theorem arr_da : (dat1 (V3 m ρ) c).arrAt 12 cfg1.N = outA L := by
  refine (dat1 (V3 m ρ) c).arrAt_eq_of_covers 12 _ (by decide +kernel) fun t hf y => ?_
  blk_simp
  rw [after1_12]
  obtain ⟨l, rfl⟩ : ∃ l : Fin 1024, y = ix3 0 0 l :=
    ⟨y 2, (idx3_eq y).trans (congrArg₂ (fun a b => ix3 a b (y 2)) (Subsingleton.elim (α := Fin 1) (y 0) 0) (Subsingleton.elim (α := Fin 1) (y 1) 0))⟩
  exact (block_da m ρ c L H t l).trans (congrArg _ (place1_12 t l).symm)

theorem arr_dd : (dat1 (V3 m ρ) c).arrAt 13 cfg1.N = outD L := by
  refine (dat1 (V3 m ρ) c).arrAt_eq_of_covers 13 _ (by decide +kernel) fun t hf y => ?_
  blk_simp
  rw [after1_13]
  obtain ⟨ch, rfl⟩ : ∃ ch : Fin 128, y = ix2 0 ch :=
    ⟨y 1, (idx2_eq y).trans (congrArg (fun a => ix2 a (y 1)) (Subsingleton.elim (α := Fin 1) (y 0) 0))⟩
  exact (block_dd m ρ c L H t ch).trans (congrArg _ (place1_13 t ch).symm)

end

end Cert.KernelIdeal.Run

end
-- ==== Proof.KernelValue.lean ====
/-
  The kernel program's results: each is the layer's function of the arguments.
-/
module

public import proofs.«01_k».proof.Proof.Arrays1

@[expose] public section

set_option maxRecDepth 16384

noncomputable section

namespace Cert.KernelIdeal.Run

open Idealize.ShloMosaic Idealize.ShloMosaic.TcCoe Cert.KernelIdeal Cert.KernelIdeal.Gen Cert.Spec
open Idealize.ShloMosaic.StableHlo Idealize.ShloMosaic.Tactic

/-- The multiplier's gradient out of its lanes. -/
theorem host_daRe (V : Valuation τ sig (Elt Ideal)) (L : Layer) (h : V (Proc.devRef .tc main_v44_5) = outA L) :
    after hostOps2 V (Proc.devRef .tc main_v50) = mat L.daRe := by
  funext i
  idx_vars i
  after_reads_simp
  pointwise
  rw [h]
  have e1 : (i0 : ℕ) / 8 * 8 + ((i0 : ℕ) % 8 * 64 + (i1 : ℕ)) / 64 = i0 := by omega
  have e2 : ((i0 : ℕ) % 8 * 64 + (i1 : ℕ)) % 64 = i1 := by omega
  refine (if_pos (show (i0 : ℕ) % 8 * 64 + (i1 : ℕ) < 512 by omega)).trans ?_
  show ((L.daRe ((i0 : ℕ) / 8 * 8 + ((i0 : ℕ) % 8 * 64 + (i1 : ℕ)) / 64) (((i0 : ℕ) % 8 * 64 + (i1 : ℕ)) % 64) : ℝ) : EReal) = ((L.daRe i0 i1 : ℝ) : EReal)
  rw [e1, e2]

theorem host_daIm (V : Valuation τ sig (Elt Ideal)) (L : Layer) (h : V (Proc.devRef .tc main_v44_5) = outA L) :
    after hostOps2 V (Proc.devRef .tc main_v52) = mat L.daIm := by
  funext i
  idx_vars i
  after_reads_simp
  pointwise
  rw [h]
  have e0 : 512 + ((i0 : ℕ) % 8 * 64 + (i1 : ℕ)) - 512 = (i0 : ℕ) % 8 * 64 + (i1 : ℕ) := by omega
  have e1 : (i0 : ℕ) / 8 * 8 + ((i0 : ℕ) % 8 * 64 + (i1 : ℕ)) / 64 = i0 := by omega
  have e2 : ((i0 : ℕ) % 8 * 64 + (i1 : ℕ)) % 64 = i1 := by omega
  refine (if_neg (show ¬ 512 + ((i0 : ℕ) % 8 * 64 + (i1 : ℕ)) < 512 by omega)).trans ?_
  show ((L.daIm ((i0 : ℕ) / 8 * 8 + (512 + ((i0 : ℕ) % 8 * 64 + (i1 : ℕ)) - 512) / 64) ((512 + ((i0 : ℕ) % 8 * 64 + (i1 : ℕ)) - 512) % 64) : ℝ) : EReal) = ((L.daIm i0 i1 : ℝ) : EReal)
  rw [e0, e1, e2]

/-- A map's gradient out of its chunks. -/
theorem host_dbRe (V : Valuation τ sig (Elt Ideal)) (L : Layer) (h : V (Proc.devRef .tc main_v44_1) = outBre L) :
    after hostOps2 V (Proc.devRef .tc main_v45) = ten L.dbRe := by
  funext i
  idx_vars i
  after_reads_simp
  pointwise
  rw [h]
  have e1 : (i0 : ℕ) / 8 * 8 + ((i0 : ℕ) % 8 * 16 + (i1 : ℕ)) / 16 = i0 := by omega
  have e2 : ((i0 : ℕ) % 8 * 16 + (i1 : ℕ)) % 16 = i1 := by omega
  show ((L.dbRe ((i0 : ℕ) / 8 * 8 + ((i0 : ℕ) % 8 * 16 + (i1 : ℕ)) / 16) (((i0 : ℕ) % 8 * 16 + (i1 : ℕ)) % 16) i2 : ℝ) : EReal) = ((L.dbRe i0 i1 i2 : ℝ) : EReal)
  rw [e1, e2]

theorem host_dbIm (V : Valuation τ sig (Elt Ideal)) (L : Layer) (h : V (Proc.devRef .tc main_v44_2) = outBim L) :
    after hostOps2 V (Proc.devRef .tc main_v46) = ten L.dbIm := by
  funext i
  idx_vars i
  after_reads_simp
  pointwise
  rw [h]
  have e1 : (i0 : ℕ) / 8 * 8 + ((i0 : ℕ) % 8 * 16 + (i1 : ℕ)) / 16 = i0 := by omega
  have e2 : ((i0 : ℕ) % 8 * 16 + (i1 : ℕ)) % 16 = i1 := by omega
  show ((L.dbIm ((i0 : ℕ) / 8 * 8 + ((i0 : ℕ) % 8 * 16 + (i1 : ℕ)) / 16) (((i0 : ℕ) % 8 * 16 + (i1 : ℕ)) % 16) i2 : ℝ) : EReal) = ((L.dbIm i0 i1 i2 : ℝ) : EReal)
  rw [e1, e2]

theorem host_dcRe (V : Valuation τ sig (Elt Ideal)) (L : Layer) (h : V (Proc.devRef .tc main_v44_3) = outCre L) :
    after hostOps2 V (Proc.devRef .tc main_v47) = ten L.dcRe := by
  funext i
  idx_vars i
  after_reads_simp
  pointwise
  rw [h]
  have e1 : (i0 : ℕ) / 8 * 8 + ((i0 : ℕ) % 8 * 16 + (i1 : ℕ)) / 16 = i0 := by omega
  have e2 : ((i0 : ℕ) % 8 * 16 + (i1 : ℕ)) % 16 = i1 := by omega
  show ((L.dcRe ((i0 : ℕ) / 8 * 8 + ((i0 : ℕ) % 8 * 16 + (i1 : ℕ)) / 16) (((i0 : ℕ) % 8 * 16 + (i1 : ℕ)) % 16) i2 : ℝ) : EReal) = ((L.dcRe i0 i1 i2 : ℝ) : EReal)
  rw [e1, e2]

theorem host_dcIm (V : Valuation τ sig (Elt Ideal)) (L : Layer) (h : V (Proc.devRef .tc main_v44_4) = outCim L) :
    after hostOps2 V (Proc.devRef .tc main_v53) = ten L.dcIm := by
  funext i
  idx_vars i
  after_reads_simp
  pointwise
  rw [h]
  have e1 : (i0 : ℕ) / 8 * 8 + ((i0 : ℕ) % 8 * 16 + (i1 : ℕ)) / 16 = i0 := by omega
  have e2 : ((i0 : ℕ) % 8 * 16 + (i1 : ℕ)) % 16 = i1 := by omega
  show -(((-(L.dcIm ((i0 : ℕ) / 8 * 8 + ((i0 : ℕ) % 8 * 16 + (i1 : ℕ)) / 16) (((i0 : ℕ) % 8 * 16 + (i1 : ℕ)) % 16) i2) : ℝ)) : EReal) = ((L.dcIm i0 i1 i2 : ℝ) : EReal)
  rw [e1, e2, ← EReal.coe_neg, neg_neg]

section
variable (m : (ℓ : Loc nD τ sig) → Buf (Elt Ideal) ℓ) (ρ : Dev nD → PrngReg) (c : Dev nD) (L : Layer)
variable (H : Holding L (W0 m ρ c))

/-- The array the second call's gradient is written into is the argument. -/
theorem into_u : V3 m ρ c main_v44_0 = m ((c : Thread nD τ).loc main_arg9) := by
  have h : after hostOps1 (W2 m ρ c) (Proc.devRef .tc main_v44_0) = W2 m ρ c (Proc.devRef .tc main_arg9) := by
    after_reads_simp
    rfl
  exact h.trans (W2_args m ρ c main_arg9 (by decide))

include H

/-- The output. -/
theorem res_y : W5 m ρ c (Proc.devRef .tc main_v43_0)
    = outY L (m ((c : Thread nD τ).loc main_arg1)) (m ((c : Thread nD τ).loc main_arg8)) :=
  (W5_of m ρ c main_v43_0 (by decide)).trans ((W4_of m ρ c main_v43_0 (by decide)).trans
    ((W3_of m ρ c main_v43_0 (by decide)).trans ((W2_arr m ρ c 5).trans (arr_y m ρ c L H))))

/-- The gradient of the input, in its array. -/
theorem res_u : W5 m ρ c (Proc.devRef .tc main_v44_0)
    = outU L (m ((c : Thread nD τ).loc main_arg0)) (m ((c : Thread nD τ).loc main_arg8)) (m ((c : Thread nD τ).loc main_arg9)) :=
  (W5_of m ρ c main_v44_0 (by decide)).trans ((W4_arr m ρ c 7).trans ((arr_du m ρ c L H).trans (by rw [into_u])))

/-- The gradient of the direct term. -/
theorem res_dd : W5 m ρ c (Proc.devRef .tc main_v44_6) = outD L :=
  (W5_of m ρ c main_v44_6 (by decide)).trans ((W4_arr m ρ c 13).trans (arr_dd m ρ c L H))

/-- The gradient of the multiplier. -/
theorem res_daRe : W5 m ρ c (Proc.devRef .tc main_v50) = mat L.daRe :=
  host_daRe (W4 m ρ c) L ((W4_arr m ρ c 12).trans (arr_da m ρ c L H))

theorem res_daIm : W5 m ρ c (Proc.devRef .tc main_v52) = mat L.daIm :=
  host_daIm (W4 m ρ c) L ((W4_arr m ρ c 12).trans (arr_da m ρ c L H))

/-- The gradient of the input map. -/
theorem res_dbRe : W5 m ρ c (Proc.devRef .tc main_v45) = ten L.dbRe :=
  host_dbRe (W4 m ρ c) L ((W4_arr m ρ c 8).trans (arr_dbRe m ρ c L H))

theorem res_dbIm : W5 m ρ c (Proc.devRef .tc main_v46) = ten L.dbIm :=
  host_dbIm (W4 m ρ c) L ((W4_arr m ρ c 9).trans (arr_dbIm m ρ c L H))

/-- The gradient of the output map. -/
theorem res_dcRe : W5 m ρ c (Proc.devRef .tc main_v47) = ten L.dcRe :=
  host_dcRe (W4 m ρ c) L ((W4_arr m ρ c 10).trans (arr_dcRe m ρ c L H))

theorem res_dcIm : W5 m ρ c (Proc.devRef .tc main_v53) = ten L.dcIm :=
  host_dcIm (W4 m ρ c) L ((W4_arr m ρ c 11).trans (arr_dcIm m ρ c L H))

end

end Cert.KernelIdeal.Run

end
-- ==== Proof.RefStep.lean ====
/-
  One trip of each of the reference's loops, buffer by buffer: what it leaves in the carried buffers, in terms of what
  they held. A trip reads one row of each stacked array and writes one row of each array it stacks.
-/
module

public import proofs.«01_k».proof.Proof.RefRun

@[expose] public section

set_option maxRecDepth 100000
set_option maxHeartbeats 4000000

noncomputable section

namespace Cert.ReferenceIdeal.Run

open Cert.ReferenceIdeal Cert.ReferenceIdeal.Gen Cert.TwoLoops
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.StableHlo

variable {F : FTy → Type} [FloatOps F]

/-- The row of a stacked array at a start index. -/
def readRow (x : (⟨S2048x32x64, .f32⟩ : BufTy).Contents (Elt F)) (s : Fin 3 → ℤ) : (⟨S32x64, .f32⟩ : BufTy).Contents (Elt F) :=
  shapeCast S32x64 (Host.dynamicSlice S1x32x64 x s sliceFits_S2048x32x64_S1x32x64) shapeCasts_S1x32x64_S32x64

/-- A stacked array with the row at a start index replaced. -/
def writeRow (x : (⟨S2048x32x64, .f32⟩ : BufTy).Contents (Elt F)) (u : (⟨S32x64, .f32⟩ : BufTy).Contents (Elt F)) (s : Fin 3 → ℤ) :
    (⟨S2048x32x64, .f32⟩ : BufTy).Contents (Elt F) :=
  Host.dynamicUpdateSlice x (broadcastInDim S1x32x64 ![1, 2] bcast_S32x64_S1x32x64_1_2 u) s updateFits_S2048x32x64_S1x32x64

/-- The start index of the row a word names. -/
def startAt (v : (⟨S_, .i32⟩ : BufTy).Contents (Elt F)) : Fin 3 → ℤ := ![(v (Shape.Idx.first h_S_)).toInt, 0, 0]

/-- The row the backward loop handles: it counts from the last one down. -/
def fromLast (v : (⟨S_, .i32⟩ : BufTy).Contents (Elt F)) : (⟨S_, .i32⟩ : BufTy).Contents (Elt F) :=
  subi (subi (constantI S_ 32 2048#32) v) (constantI S_ 32 1#32)

/-- Equal start indices give equal terms. -/
theorem congr_starts {α : Type} {n : ℕ} (f : (Fin n → Fin 3 → ℤ) → α) {s t : Fin n → Fin 3 → ℤ} (h : ∀ i k, s i k = t i k) : f s = f t :=
  congrArg f (funext fun i => funext fun k => h i k)

/-- The next state, real part. -/
theorem fwd_xr (X : Valuation τ sig (Elt F)) :
    afterL fwdBody (after fwdCond X) (Proc.devRef .tc main_v11_5) = addf (subf (mulf (X (Proc.devRef .tc main_v11_2)) (X (Proc.devRef .tc main_v11_5))) (mulf (X (Proc.devRef .tc main_v11_3)) (X (Proc.devRef .tc main_v11_6)))) (readRow (X (Proc.devRef .tc main_v11_0)) (startAt (X (Proc.devRef .tc main_v11_4)))) := by
  simp only [afterL_cons, afterL_nil]
  after_reads_simp
  show addf (subf (mulf _ _) (mulf _ _)) (readRow _ _) = addf (subf (mulf _ _) (mulf _ _)) (readRow _ _)

  refine congr_starts (n := 1) (s := ![_]) (t := ![_]) (fun s => addf (subf (mulf _ _) (mulf _ _)) (readRow _ (s 0))) fun i k => ?_
  fin_cases i <;> fin_cases k <;> (try after_reads_simp) <;> rfl

/-- The next state, imaginary part. -/
theorem fwd_xi (X : Valuation τ sig (Elt F)) :
    afterL fwdBody (after fwdCond X) (Proc.devRef .tc main_v11_6) = addf (addf (mulf (X (Proc.devRef .tc main_v11_2)) (X (Proc.devRef .tc main_v11_6))) (mulf (X (Proc.devRef .tc main_v11_3)) (X (Proc.devRef .tc main_v11_5)))) (readRow (X (Proc.devRef .tc main_v11_1)) (startAt (X (Proc.devRef .tc main_v11_4)))) := by
  simp only [afterL_cons, afterL_nil]
  after_reads_simp
  show addf (addf (mulf _ _) (mulf _ _)) (readRow _ _) = addf (addf (mulf _ _) (mulf _ _)) (readRow _ _)

  refine congr_starts (n := 1) (s := ![_]) (t := ![_]) (fun s => addf (addf (mulf _ _) (mulf _ _)) (readRow _ (s 0))) fun i k => ?_
  fin_cases i <;> fin_cases k <;> (try after_reads_simp) <;> rfl

/-- The stacked states, real part. -/
theorem fwd_sr (X : Valuation τ sig (Elt F)) :
    afterL fwdBody (after fwdCond X) (Proc.devRef .tc main_v11_7) = writeRow (X (Proc.devRef .tc main_v11_7)) (addf (subf (mulf (X (Proc.devRef .tc main_v11_2)) (X (Proc.devRef .tc main_v11_5))) (mulf (X (Proc.devRef .tc main_v11_3)) (X (Proc.devRef .tc main_v11_6)))) (readRow (X (Proc.devRef .tc main_v11_0)) (startAt (X (Proc.devRef .tc main_v11_4))))) (startAt (X (Proc.devRef .tc main_v11_4))) := by
  simp only [afterL_cons, afterL_nil]
  after_reads_simp
  show writeRow _ (addf (subf (mulf _ _) (mulf _ _)) (readRow _ _)) _ = writeRow _ (addf (subf (mulf _ _) (mulf _ _)) (readRow _ _)) _

  refine congr_starts (n := 2) (s := ![_, _]) (t := ![_, _]) (fun s => writeRow _ (addf (subf (mulf _ _) (mulf _ _)) (readRow _ (s 0))) (s 1)) fun i k => ?_
  fin_cases i <;> fin_cases k <;> (try after_reads_simp) <;> rfl

/-- The stacked states, imaginary part. -/
theorem fwd_si (X : Valuation τ sig (Elt F)) :
    afterL fwdBody (after fwdCond X) (Proc.devRef .tc main_v11_8) = writeRow (X (Proc.devRef .tc main_v11_8)) (addf (addf (mulf (X (Proc.devRef .tc main_v11_2)) (X (Proc.devRef .tc main_v11_6))) (mulf (X (Proc.devRef .tc main_v11_3)) (X (Proc.devRef .tc main_v11_5)))) (readRow (X (Proc.devRef .tc main_v11_1)) (startAt (X (Proc.devRef .tc main_v11_4))))) (startAt (X (Proc.devRef .tc main_v11_4))) := by
  simp only [afterL_cons, afterL_nil]
  after_reads_simp
  show writeRow _ (addf (addf (mulf _ _) (mulf _ _)) (readRow _ _)) _ = writeRow _ (addf (addf (mulf _ _) (mulf _ _)) (readRow _ _)) _

  refine congr_starts (n := 2) (s := ![_, _]) (t := ![_, _]) (fun s => writeRow _ (addf (addf (mulf _ _) (mulf _ _)) (readRow _ (s 0))) (s 1)) fun i k => ?_
  fin_cases i <;> fin_cases k <;> (try after_reads_simp) <;> rfl

/-- The stacked previous states, real part. -/
theorem fwd_pr (X : Valuation τ sig (Elt F)) :
    afterL fwdBody (after fwdCond X) (Proc.devRef .tc main_v11_9) = writeRow (X (Proc.devRef .tc main_v11_9)) (X (Proc.devRef .tc main_v11_5)) (startAt (X (Proc.devRef .tc main_v11_4))) := by
  simp only [afterL_cons, afterL_nil]
  after_reads_simp
  show writeRow _ _ _ = writeRow _ _ _

  refine congr_starts (n := 1) (s := ![_]) (t := ![_]) (fun s => writeRow _ _ (s 0)) fun i k => ?_
  fin_cases i <;> fin_cases k <;> (try after_reads_simp) <;> rfl

/-- The stacked previous states, imaginary part. -/
theorem fwd_pi (X : Valuation τ sig (Elt F)) :
    afterL fwdBody (after fwdCond X) (Proc.devRef .tc main_v11_10) = writeRow (X (Proc.devRef .tc main_v11_10)) (X (Proc.devRef .tc main_v11_6)) (startAt (X (Proc.devRef .tc main_v11_4))) := by
  simp only [afterL_cons, afterL_nil]
  after_reads_simp
  show writeRow _ _ _ = writeRow _ _ _

  refine congr_starts (n := 1) (s := ![_]) (t := ![_]) (fun s => writeRow _ _ (s 0)) fun i k => ?_
  fin_cases i <;> fin_cases k <;> (try after_reads_simp) <;> rfl

/-- The gradient of the multiplier, real part. -/
theorem bwd_ar (X : Valuation τ sig (Elt F)) :
    afterL bwdBody (after bwdCond X) (Proc.devRef .tc main_v48_7) = addf (addf (X (Proc.devRef .tc main_v48_7)) (mulf (addf (X (Proc.devRef .tc main_v48_10)) (readRow (X (Proc.devRef .tc main_v48_1)) (startAt (fromLast (X (Proc.devRef .tc main_v48_6)))))) (readRow (X (Proc.devRef .tc main_v48_3)) (startAt (fromLast (X (Proc.devRef .tc main_v48_6))))))) (mulf (addf (X (Proc.devRef .tc main_v48_9)) (readRow (X (Proc.devRef .tc main_v48_0)) (startAt (fromLast (X (Proc.devRef .tc main_v48_6)))))) (readRow (X (Proc.devRef .tc main_v48_2)) (startAt (fromLast (X (Proc.devRef .tc main_v48_6)))))) := by
  simp only [afterL_cons, afterL_nil]
  after_reads_simp
  show addf (addf _ (mulf (addf _ (readRow _ _)) (readRow _ _))) (mulf (addf _ (readRow _ _)) (readRow _ _)) = addf (addf _ (mulf (addf _ (readRow _ _)) (readRow _ _))) (mulf (addf _ (readRow _ _)) (readRow _ _))

  refine congr_starts (n := 4) (s := ![_, _, _, _]) (t := ![_, _, _, _]) (fun s => addf (addf _ (mulf (addf _ (readRow _ (s 0))) (readRow _ (s 1)))) (mulf (addf _ (readRow _ (s 2))) (readRow _ (s 3)))) fun i k => ?_
  fin_cases i <;> fin_cases k <;> (try after_reads_simp) <;> rfl

/-- The gradient of the multiplier, imaginary part. -/
theorem bwd_ai (X : Valuation τ sig (Elt F)) :
    afterL bwdBody (after bwdCond X) (Proc.devRef .tc main_v48_8) = addf (addf (X (Proc.devRef .tc main_v48_8)) (mulf (addf (X (Proc.devRef .tc main_v48_10)) (readRow (X (Proc.devRef .tc main_v48_1)) (startAt (fromLast (X (Proc.devRef .tc main_v48_6)))))) (readRow (X (Proc.devRef .tc main_v48_2)) (startAt (fromLast (X (Proc.devRef .tc main_v48_6))))))) (mulf (Host.negf (addf (X (Proc.devRef .tc main_v48_9)) (readRow (X (Proc.devRef .tc main_v48_0)) (startAt (fromLast (X (Proc.devRef .tc main_v48_6))))))) (readRow (X (Proc.devRef .tc main_v48_3)) (startAt (fromLast (X (Proc.devRef .tc main_v48_6)))))) := by
  simp only [afterL_cons, afterL_nil]
  after_reads_simp
  show addf (addf _ (mulf (addf _ (readRow _ _)) (readRow _ _))) (mulf (Host.negf (addf _ (readRow _ _))) (readRow _ _)) = addf (addf _ (mulf (addf _ (readRow _ _)) (readRow _ _))) (mulf (Host.negf (addf _ (readRow _ _))) (readRow _ _))

  refine congr_starts (n := 4) (s := ![_, _, _, _]) (t := ![_, _, _, _]) (fun s => addf (addf _ (mulf (addf _ (readRow _ (s 0))) (readRow _ (s 1)))) (mulf (Host.negf (addf _ (readRow _ (s 2)))) (readRow _ (s 3)))) fun i k => ?_
  fin_cases i <;> fin_cases k <;> (try after_reads_simp) <;> rfl

/-- The gradient carried to the row before, real part. -/
theorem bwd_gr (X : Valuation τ sig (Elt F)) :
    afterL bwdBody (after bwdCond X) (Proc.devRef .tc main_v48_9) = addf (mulf (X (Proc.devRef .tc main_v48_5)) (addf (X (Proc.devRef .tc main_v48_10)) (readRow (X (Proc.devRef .tc main_v48_1)) (startAt (fromLast (X (Proc.devRef .tc main_v48_6))))))) (mulf (X (Proc.devRef .tc main_v48_4)) (addf (X (Proc.devRef .tc main_v48_9)) (readRow (X (Proc.devRef .tc main_v48_0)) (startAt (fromLast (X (Proc.devRef .tc main_v48_6))))))) := by
  simp only [afterL_cons, afterL_nil]
  after_reads_simp
  show addf (mulf _ (addf _ (readRow _ _))) (mulf _ (addf _ (readRow _ _))) = addf (mulf _ (addf _ (readRow _ _))) (mulf _ (addf _ (readRow _ _)))

  refine congr_starts (n := 2) (s := ![_, _]) (t := ![_, _]) (fun s => addf (mulf _ (addf _ (readRow _ (s 0)))) (mulf _ (addf _ (readRow _ (s 1))))) fun i k => ?_
  fin_cases i <;> fin_cases k <;> (try after_reads_simp) <;> rfl

/-- The gradient carried to the row before, imaginary part. -/
theorem bwd_gi (X : Valuation τ sig (Elt F)) :
    afterL bwdBody (after bwdCond X) (Proc.devRef .tc main_v48_10) = addf (mulf (X (Proc.devRef .tc main_v48_4)) (addf (X (Proc.devRef .tc main_v48_10)) (readRow (X (Proc.devRef .tc main_v48_1)) (startAt (fromLast (X (Proc.devRef .tc main_v48_6))))))) (mulf (X (Proc.devRef .tc main_v48_5)) (Host.negf (addf (X (Proc.devRef .tc main_v48_9)) (readRow (X (Proc.devRef .tc main_v48_0)) (startAt (fromLast (X (Proc.devRef .tc main_v48_6)))))))) := by
  simp only [afterL_cons, afterL_nil]
  after_reads_simp
  show addf (mulf _ (addf _ (readRow _ _))) (mulf _ (Host.negf (addf _ (readRow _ _)))) = addf (mulf _ (addf _ (readRow _ _))) (mulf _ (Host.negf (addf _ (readRow _ _))))

  refine congr_starts (n := 2) (s := ![_, _]) (t := ![_, _]) (fun s => addf (mulf _ (addf _ (readRow _ (s 0)))) (mulf _ (Host.negf (addf _ (readRow _ (s 1)))))) fun i k => ?_
  fin_cases i <;> fin_cases k <;> (try after_reads_simp) <;> rfl

/-- The stacked gradients of the recurrence's inputs, real part. -/
theorem bwd_sr (X : Valuation τ sig (Elt F)) :
    afterL bwdBody (after bwdCond X) (Proc.devRef .tc main_v48_11) = writeRow (X (Proc.devRef .tc main_v48_11)) (addf (X (Proc.devRef .tc main_v48_9)) (readRow (X (Proc.devRef .tc main_v48_0)) (startAt (fromLast (X (Proc.devRef .tc main_v48_6)))))) (startAt (fromLast (X (Proc.devRef .tc main_v48_6)))) := by
  simp only [afterL_cons, afterL_nil]
  after_reads_simp
  show writeRow _ (addf _ (readRow _ _)) _ = writeRow _ (addf _ (readRow _ _)) _

  refine congr_starts (n := 2) (s := ![_, _]) (t := ![_, _]) (fun s => writeRow _ (addf _ (readRow _ (s 0))) (s 1)) fun i k => ?_
  fin_cases i <;> fin_cases k <;> (try after_reads_simp) <;> rfl

/-- The stacked gradients of the recurrence's inputs, imaginary part. -/
theorem bwd_si (X : Valuation τ sig (Elt F)) :
    afterL bwdBody (after bwdCond X) (Proc.devRef .tc main_v48_12) = writeRow (X (Proc.devRef .tc main_v48_12)) (addf (X (Proc.devRef .tc main_v48_10)) (readRow (X (Proc.devRef .tc main_v48_1)) (startAt (fromLast (X (Proc.devRef .tc main_v48_6)))))) (startAt (fromLast (X (Proc.devRef .tc main_v48_6)))) := by
  simp only [afterL_cons, afterL_nil]
  after_reads_simp
  show writeRow _ (addf _ (readRow _ _)) _ = writeRow _ (addf _ (readRow _ _)) _

  refine congr_starts (n := 2) (s := ![_, _]) (t := ![_, _]) (fun s => writeRow _ (addf _ (readRow _ (s 0))) (s 1)) fun i k => ?_
  fin_cases i <;> fin_cases k <;> (try after_reads_simp) <;> rfl

end Cert.ReferenceIdeal.Run

end
-- ==== Proof.RefRows.lean ====
/-
  Rows of a stacked array at an index, where the row's number is a natural number below 2048: reading a row reads the
  array there, and writing one changes the array there and nowhere else.
-/
module

public import proofs.«01_k».proof.Proof.RefStep
public import proofs.«01_k».proof.Proof.Finite
public import Idealize.ShloMosaic.Lib.Pointwise

@[expose] public section

set_option maxRecDepth 16384

noncomputable section

namespace Cert.ReferenceIdeal.Run

open Cert.ReferenceIdeal Cert.ReferenceIdeal.Gen Cert.TwoLoops Cert.Spec
open Idealize.ShloMosaic Idealize.ShloMosaic.TcCoe Idealize.ShloMosaic.Tactic
open Idealize.ShloMosaic.StableHlo

/-- A finite sum of reals is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The counter's word as a number. -/
theorem iv_toInt {k : ℕ} (hk : k < 2048) : (Scf.iv 0#32 1#32 k).toInt = k := by
  rw [show Scf.iv 0#32 1#32 k = BitVec.ofNat 32 k by simp [Scf.iv]]
  rw [BitVec.toInt_eq_toNat_of_lt (by rw [BitVec.toNat_ofNat]; omega), BitVec.toNat_ofNat]
  omega

/-- Counting up, the row is the counter's. -/
theorem start_up {k : ℕ} (hk : k < 2048) :
    startAt (F := Ideal) (fun _ => Scf.iv 0#32 1#32 k) = ![((k : ℕ) : ℤ), 0, 0] := by
  unfold startAt
  rw [iv_toInt hk]

/-- Counting down from the last row. -/
theorem start_down {k : ℕ} (hk : k < 2048) :
    startAt (F := Ideal) (fromLast (F := Ideal) (fun _ => Scf.iv 0#32 1#32 k)) = ![((2047 - k : ℕ) : ℤ), 0, 0] := by
  unfold startAt
  have e : fromLast (F := Ideal) (fun _ => Scf.iv 0#32 1#32 k) (Shape.Idx.first h_S_) = BitVec.ofNat 32 (2047 - k) := by
    show (2048#32 - Scf.iv 0#32 1#32 k) - 1#32 = _
    rw [show Scf.iv 0#32 1#32 k = BitVec.ofNat 32 k by simp [Scf.iv]]
    apply BitVec.eq_of_toNat_eq
    simp only [BitVec.toNat_sub, BitVec.toNat_ofNat]
    omega
  rw [e, BitVec.toInt_eq_toNat_of_lt (by rw [BitVec.toNat_ofNat]; omega), BitVec.toNat_ofNat]
  congr 2
  omega

/-- A row read, at an index. -/
theorem readRow_at (x : FVec Ideal S2048x32x64 .f32) {n : ℕ} (hn : n < 2048) (g : Fin 32) (p : Fin 64) :
    readRow (F := Ideal) x ![((n : ℕ) : ℤ), 0, 0] (ix2 g p) = x (ix3 ⟨n, hn⟩ g p) := by
  unfold readRow
  have h0 : Host.clampedStart S2048x32x64 S1x32x64 sliceFits_S2048x32x64_S1x32x64.1 ![((n : ℕ) : ℤ), 0, 0] 0 = n :=
    Host.clampedStart_of_le _ _ _ n rfl (by show n + 1 ≤ 2048; omega)
  have h1 : Host.clampedStart S2048x32x64 S1x32x64 sliceFits_S2048x32x64_S1x32x64.1 ![((n : ℕ) : ℤ), 0, 0] 1 = 0 :=
    Host.clampedStart_of_le _ _ _ 0 rfl (by show 0 + 32 ≤ 32; omega)
  have h2 : Host.clampedStart S2048x32x64 S1x32x64 sliceFits_S2048x32x64_S1x32x64.1 ![((n : ℕ) : ℤ), 0, 0] 2 = 0 :=
    Host.clampedStart_of_le _ _ _ 0 rfl (by show 0 + 64 ≤ 64; omega)
  pointwise
  simp only [h0, h1, h2, zero_add, Fin.eta]

/-- An array with a row written, at an index. -/
theorem writeRow_at (x : FVec Ideal S2048x32x64 .f32) (u : FVec Ideal S32x64 .f32) {n : ℕ} (hn : n < 2048) (r : Fin 2048)
    (g : Fin 32) (p : Fin 64) :
    writeRow (F := Ideal) x u ![((n : ℕ) : ℤ), 0, 0] (ix3 r g p) = if (r : ℕ) = n then u (ix2 g p) else x (ix3 r g p) := by
  unfold writeRow
  have h0 : Host.clampedStart S2048x32x64 S1x32x64 updateFits_S2048x32x64_S1x32x64.1 ![((n : ℕ) : ℤ), 0, 0] 0 = n :=
    Host.clampedStart_of_le _ _ _ n rfl (by show n + 1 ≤ 2048; omega)
  have h1 : Host.clampedStart S2048x32x64 S1x32x64 updateFits_S2048x32x64_S1x32x64.1 ![((n : ℕ) : ℤ), 0, 0] 1 = 0 :=
    Host.clampedStart_of_le _ _ _ 0 rfl (by show 0 + 32 ≤ 32; omega)
  have h2 : Host.clampedStart S2048x32x64 S1x32x64 updateFits_S2048x32x64_S1x32x64.1 ![((n : ℕ) : ℤ), 0, 0] 2 = 0 :=
    Host.clampedStart_of_le _ _ _ 0 rfl (by show 0 + 64 ≤ 64; omega)
  pointwise
  simp only [h0, h1, h2, Nat.sub_zero, Nat.zero_le, and_true, Fin.eta]
  by_cases h : (r : ℕ) = n
  · rw [dif_pos (by omega), if_pos h]
  · rw [dif_neg (by omega), if_neg h]

end Cert.ReferenceIdeal.Run

end
-- ==== Proof.RefFwd.lean ====
/-
  The reference's forward loop: before the k-th trip the carried state is the layer's state before row k, and the two
  stacked arrays hold, in their first k rows, the states and the states before.
-/
module

public import proofs.«01_k».proof.Proof.RefRows

@[expose] public section

set_option maxRecDepth 16384

noncomputable section

namespace Cert.ReferenceIdeal.Run

open Cert.ReferenceIdeal Cert.ReferenceIdeal.Gen Cert.TwoLoops Cert.Spec
open Idealize.ShloMosaic Idealize.ShloMosaic.TcCoe Idealize.ShloMosaic.Tactic
open Idealize.ShloMosaic.StableHlo

/-- The argument buffers hold the layer. -/
abbrev HoldingR (L : Layer) (V : Valuation τ sig (Elt Ideal)) : Prop :=
  Reads L (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))

/-- A pair of matrices holds a complex number per group and state. -/
def Pair2 (xr xi : Mat 32 64) (z : ℕ → ℕ → ℂ) : Prop :=
  ∀ (g : Fin 32) (p : Fin 64), xr (ix2 g p) = (((z g p).re : ℝ) : EReal) ∧ xi (ix2 g p) = (((z g p).im : ℝ) : EReal)

/-- A pair of stacked matrices holds them in the rows that satisfy a property. -/
def Pair3 (xr xi : Ten 2048 32 64) (P : ℕ → Prop) (z : ℕ → ℕ → ℕ → ℂ) : Prop :=
  ∀ (t : Fin 2048), P t → ∀ (g : Fin 32) (p : Fin 64),
    xr (ix3 t g p) = (((z g p t).re : ℝ) : EReal) ∧ xi (ix3 t g p) = (((z g p t).im : ℝ) : EReal)

/-- A row of a stacked pair. -/
theorem Pair3.row {xr xi : Ten 2048 32 64} {P : ℕ → Prop} {z : ℕ → ℕ → ℕ → ℂ} (h : Pair3 xr xi P z) {n : ℕ} (hn : n < 2048)
    (hP : P n) : Pair2 (readRow (F := Ideal) xr ![((n : ℕ) : ℤ), 0, 0]) (readRow (F := Ideal) xi ![((n : ℕ) : ℤ), 0, 0])
      (fun g p => z g p n) := fun g p =>
  ⟨(readRow_at xr hn g p).trans (h ⟨n, hn⟩ hP g p).1, (readRow_at xi hn g p).trans (h ⟨n, hn⟩ hP g p).2⟩

/-- A row written into a stacked pair. -/
theorem Pair3.write {xr xi : Ten 2048 32 64} {P Q : ℕ → Prop} {z : ℕ → ℕ → ℕ → ℂ} (h : Pair3 xr xi P z) {n : ℕ} (hn : n < 2048)
    {ur ui : Mat 32 64} (hu : Pair2 ur ui fun g p => z g p n) (hQ : ∀ t, t < 2048 → Q t → t = n ∨ P t) :
    Pair3 (writeRow (F := Ideal) xr ur ![((n : ℕ) : ℤ), 0, 0]) (writeRow (F := Ideal) xi ui ![((n : ℕ) : ℤ), 0, 0]) Q z := fun t ht g p => by
  rw [writeRow_at _ _ hn, writeRow_at _ _ hn]
  by_cases e : (t : ℕ) = n
  · rw [if_pos e, if_pos e, e]
    exact hu g p
  · rw [if_neg e, if_neg e]
    exact h t ((hQ t t.2 ht).resolve_left e) g p

/-- The recurrence's inputs, part by part. -/
theorem bu_re (L : Layer) (g p t : ℕ) : (L.bu g p t).re = ∑ h : Fin 16, L.u t g h * (L.b g h p).re := by
  simp [Layer.bu, Complex.re_sum]
theorem bu_im (L : Layer) (g p t : ℕ) : (L.bu g p t).im = ∑ h : Fin 16, L.u t g h * (L.b g h p).im := by
  simp [Layer.bu, Complex.im_sum]

/-- The recurrence's inputs, as the program forms them. -/
theorem entry_bu {L : Layer} {V : Valuation τ sig (Elt Ideal)} (H : HoldingR L V) :
    Pair3 (afterL preI V (Proc.devRef .tc main_v11_0)) (afterL preI V (Proc.devRef .tc main_v11_1)) (fun _ => True)
      (fun g p t => L.bu g p t) := fun t _ g p => by
  constructor
  · simp only [afterL_cons, afterL_nil]
    after_reads_simp
    simp only [id_eq]
    pointwise
    rw [bu_re, coe_sum]
    exact Finset.sum_congr rfl fun h _ => by rw [H.u t g h _ (by omega), H.br g h p, EReal.coe_mul]
  · simp only [afterL_cons, afterL_nil]
    after_reads_simp
    simp only [id_eq]
    pointwise
    rw [bu_im, coe_sum]
    exact Finset.sum_congr rfl fun h _ => by rw [H.u t g h _ (by omega), H.bi g h p, EReal.coe_mul]

/-- The multiplier. -/
theorem entry_a {L : Layer} {V : Valuation τ sig (Elt Ideal)} (H : HoldingR L V) :
    Pair2 (afterL preI V (Proc.devRef .tc main_v11_2)) (afterL preI V (Proc.devRef .tc main_v11_3)) L.a := fun g p => by
  constructor
  · simp only [afterL_cons, afterL_nil]
    after_reads_simp
    exact H.ar g p
  · simp only [afterL_cons, afterL_nil]
    after_reads_simp
    exact H.ai g p

/-- The state is zero at first. -/
theorem entry_x (V : Valuation τ sig (Elt Ideal)) :
    Pair2 (afterL preI V (Proc.devRef .tc main_v11_5)) (afterL preI V (Proc.devRef .tc main_v11_6)) (fun _ _ => 0) := fun g p => by
  constructor
  · simp only [afterL_cons, afterL_nil]
    after_reads_simp
    simp only [id_eq]
    pointwise
    simp
    done
  · simp only [afterL_cons, afterL_nil]
    after_reads_simp
    simp only [id_eq]
    pointwise
    simp
    done

/-- The carried buffers before the k-th trip. -/
structure FwdAt (L : Layer) (k : ℕ) (X : Valuation τ sig (Elt Ideal)) : Prop where
  b : Pair3 (X (Proc.devRef .tc main_v11_0)) (X (Proc.devRef .tc main_v11_1)) (fun _ => True) (fun g p t => L.bu g p t)
  a : Pair2 (X (Proc.devRef .tc main_v11_2)) (X (Proc.devRef .tc main_v11_3)) L.a
  ctr : X (Proc.devRef .tc main_v11_4) = fun _ => Scf.iv 0#32 1#32 k
  x : Pair2 (X (Proc.devRef .tc main_v11_5)) (X (Proc.devRef .tc main_v11_6)) (fun g p => L.before g p k)
  xs : Pair3 (X (Proc.devRef .tc main_v11_7)) (X (Proc.devRef .tc main_v11_8)) (· < k) (fun g p t => L.x g p t)
  bs : Pair3 (X (Proc.devRef .tc main_v11_9)) (X (Proc.devRef .tc main_v11_10)) (· < k) (fun g p t => L.before g p t)

/-- One trip's state. -/
theorem Pair2.step {ar ai xr xi br bi : Mat 32 64} {a x b : ℕ → ℕ → ℂ} (ha : Pair2 ar ai a) (hx : Pair2 xr xi x) (hb : Pair2 br bi b) :
    Pair2 (addf (F := Ideal) (s := S32x64) (φ := .f32) (subf (mulf ar xr) (mulf ai xi)) br) (addf (F := Ideal) (s := S32x64) (φ := .f32) (addf (mulf ar xi) (mulf ai xr)) bi)
      (fun g p => a g p * x g p + b g p) := fun g p => by
  constructor
  · pointwise
    rw [(ha g p).1, (ha g p).2, (hx g p).1, (hx g p).2, (hb g p).1, Complex.add_re, Complex.mul_re]
    push_cast
    rfl
  · pointwise
    rw [(ha g p).1, (ha g p).2, (hx g p).1, (hx g p).2, (hb g p).2, Complex.add_im, Complex.mul_im]
    push_cast
    rfl

/-- One trip. -/
theorem FwdAt.step {L : Layer} {k : ℕ} {X : Valuation τ sig (Elt Ideal)} (h : FwdAt L k X) (hk : k < 2048) :
    FwdAt L (k + 1) (afterL fwdBody (after fwdCond X)) := by
  have keep : ∀ r, r ∉ fwdW → afterL fwdBody (after fwdCond X) (Proc.devRef .tc r) = X (Proc.devRef .tc r) := fun r hr =>
    afterL_keeps (L := fwdCond :: fwdBody) fwdW fwdW_eq hr X
  have hs : startAt (X (Proc.devRef .tc main_v11_4)) = ![((k : ℕ) : ℤ), 0, 0] := (congrArg startAt h.ctr).trans (start_up hk)
  have hx : Pair2 _ _ (fun g p => L.before g p (k + 1)) := (h.a.step h.x (h.b.row hk trivial) : _)
  refine ⟨?_, ?_, ?_, ?_, ?_, ?_⟩
  · rw [keep _ (by decide), keep _ (by decide)]; exact h.b
  · rw [keep _ (by decide), keep _ (by decide)]; exact h.a
  · rw [fwd_ctr_step, h.ctr, Scf.iv_succ]; rfl
  · rw [fwd_xr, fwd_xi, hs]; exact hx
  · rw [fwd_sr, fwd_si, hs]
    exact h.xs.write hk hx fun t _ ht => by omega
  · rw [fwd_pr, fwd_pi, hs]
    exact h.bs.write hk h.x fun t _ ht => by omega

/-- All trips. -/
theorem fwd_at (m : (ℓ : Loc nD τ sig) → Buf (Elt Ideal) ℓ) (c : Dev nD) (L : Layer) (H : HoldingR L (launchContents m c)) :
    ∀ k, k ≤ 2048 → FwdAt L k (fwdAt m k c)
  | 0, _ => ⟨entry_bu H, entry_a H, fwd_ctr m c 0, entry_x _, fun t ht => absurd ht (Nat.not_lt_zero _), fun t ht => absurd ht (Nat.not_lt_zero _)⟩
  | k + 1, hk => (fwd_at m c L H k (by omega)).step (by omega)

end Cert.ReferenceIdeal.Run

end
-- ==== Proof.RefMid.lean ====
/-
  What the reference computes between its loops from the stacked states: the output, the gradients of the output map
  and of the direct term, and the gradients of the states the backward loop starts from.
-/
module

public import proofs.«01_k».proof.Proof.RefFwd
public import proofs.«01_k».proof.Proof.Outs

@[expose] public section

set_option maxRecDepth 16384

noncomputable section

namespace Cert.ReferenceIdeal.Run

open Cert.ReferenceIdeal Cert.ReferenceIdeal.Gen Cert.TwoLoops Cert.Spec
open Idealize.ShloMosaic Idealize.ShloMosaic.TcCoe Idealize.ShloMosaic.Tactic
open Idealize.ShloMosaic.StableHlo

/-- The layer's input by row, group and channel, as the program keeps it. -/
theorem entry_u (V : Valuation τ sig (Elt Ideal)) (t : Fin 2048) (g : Fin 32) (h : Fin 16) :
    afterL preI V (Proc.devRef .tc main_v1) (ix3 t g h) = V (Proc.devRef .tc main_arg1) (ix2 t ⟨4608 + (g * 16 + h), by omega⟩) := by
  simp only [afterL_cons, afterL_nil]
  after_reads_simp
  pointwise
  done

/-- The buffers when the forward loop is left. -/
structure MidIn (L : Layer) (Y : Valuation τ sig (Elt Ideal)) : Prop where
  args : HoldingR L Y
  u : ∀ (t : Fin 2048) (g : Fin 32) (h : Fin 16),
    Y (Proc.devRef .tc main_v1) (ix3 t g h) = Y (Proc.devRef .tc main_arg1) (ix2 t ⟨4608 + (g * 16 + h), by omega⟩)
  xs : Pair3 (Y (Proc.devRef .tc main_v11_7)) (Y (Proc.devRef .tc main_v11_8)) (fun _ => True) (fun g p t => L.x g p t)
  bs : Pair3 (Y (Proc.devRef .tc main_v11_9)) (Y (Proc.devRef .tc main_v11_10)) (fun _ => True) (fun g p t => L.before g p t)

/-- A sum whose terms are reals is the real sum. -/
theorem sum_is {ι : Type} [Fintype ι] {F : ι → EReal} {f : ι → ℝ} {v : ℝ} (h : ∀ i, F i = f i) (hv : v = ∑ i, f i) :
    ∑ i, F i = (v : EReal) := by
  rw [hv, coe_sum]
  exact Finset.sum_congr rfl fun i _ => h i

theorem sum_one {F : Fin 1 → EReal} {v : EReal} (h : F 0 = v) : ∑ i, F i = v := (Fin.sum_univ_one F).trans h

/-- The output's gradient of a state, part by part. -/
theorem ct_re (L : Layer) (g p t : ℕ) : (L.ct g p t).re = ∑ h : Fin 16, L.dy t g h * (L.c g h p).re := by
  simp [Layer.ct, Complex.re_sum]
theorem ct_im (L : Layer) (g p t : ℕ) : (L.ct g p t).im = ∑ h : Fin 16, -L.dy t g h * (L.c g h p).im := by
  simp [Layer.ct, Complex.im_sum]

section
variable {L : Layer} {Y : Valuation τ sig (Elt Ideal)} (H : MidIn L Y)
include H

/-- The output. -/
theorem mid_y (t : Fin 2048) (j : Fin 512) :
    afterL midI Y (Proc.devRef .tc main_v22) (ix2 t j) = outY L (Y (Proc.devRef .tc main_arg1)) (Y (Proc.devRef .tc main_arg8)) (ix2 t j) := by
  simp only [afterL_cons, afterL_nil]
  after_reads_simp
  pointwise
  have hg : (j : ℕ) / 16 < 32 := by omega
  have hh : (j : ℕ) % 16 < 16 := by omega
  have e8 : (⟨(j : ℕ) / 16 * 16 + j % 16, by omega⟩ : Fin 512) = j := Fin.ext (by show (j : ℕ) / 16 * 16 + j % 16 = j; omega)
  have e1 : (⟨4608 + ((j : ℕ) / 16 * 16 + j % 16), by omega⟩ : Fin 7168) = ⟨4608 + j, by omega⟩ := Fin.ext (by show 4608 + ((j : ℕ) / 16 * 16 + j % 16) = 4608 + j; omega)
  rw [e8, H.u t ⟨j / 16, hg⟩ ⟨j % 16, hh⟩, e1]
  show _ = ((L.y t (j / 16) (j % 16) : ℝ) : EReal) + _ * _
  congr 1
  unfold Layer.y
  rw [Finset.sum_sub_distrib, EReal.coe_sub, coe_sum, coe_sum]
  congr 1
  · exact Finset.sum_congr rfl fun p _ => by
      rw [(H.xs t trivial ⟨j / 16, hg⟩ p).1, H.args.cr ⟨j / 16, hg⟩ ⟨j % 16, hh⟩ p, EReal.coe_mul, mul_comm]
  · exact Finset.sum_congr rfl fun p _ => by
      rw [(H.xs t trivial ⟨j / 16, hg⟩ p).2, H.args.ci ⟨j / 16, hg⟩ ⟨j % 16, hh⟩ p, EReal.coe_mul, mul_comm]

set_option maxHeartbeats 1000000 in
/-- The gradient of the direct term. -/
theorem mid_dd (j : Fin 512) :
    afterL midI Y (Proc.devRef .tc main_v32) (ix2 0 j) = outD L (ix2 0 j) := by
  simp only [afterL_cons, afterL_nil]
  after_reads_simp
  pointwise
  have hg : (j : ℕ) / 16 < 32 := by omega
  have hh : (j : ℕ) % 16 < 16 := by omega
  show _ = ((L.dd (j / 16) (j % 16) : ℝ) : EReal)
  refine sum_one (sum_is (f := fun t : Fin 2048 => L.dy t (j / 16) (j % 16) * L.u t (j / 16) (j % 16)) (fun t => ?_) rfl)
  rw [H.u t ⟨j / 16, hg⟩ ⟨j % 16, hh⟩, H.args.u t (j / 16) (j % 16) (by omega) (by omega), H.args.dy t (j / 16) (j % 16) (by omega), EReal.coe_mul]

/-- The direct term's share of the input's gradient. -/
theorem mid_direct (t : Fin 2048) (g : Fin 32) (h : Fin 16) :
    afterL midI Y (Proc.devRef .tc main_v27) (ix3 t g h) =
      directU (Y (Proc.devRef .tc main_arg8)) (Y (Proc.devRef .tc main_arg0)) (ix2 t ⟨g * 16 + h, by omega⟩) := by
  simp only [afterL_cons, afterL_nil]
  after_reads_simp
  pointwise
  rfl

/-- The gradient of the output map. -/
theorem mid_dcRe (g : Fin 32) (h : Fin 16) (p : Fin 64) :
    afterL midI Y (Proc.devRef .tc main_v39) (ix3 g h p) = ((L.dcRe g h p : ℝ) : EReal) := by
  simp only [afterL_cons, afterL_nil]
  after_reads_simp
  pointwise
  refine sum_is (f := fun t : Fin 2048 => L.dy t g h * (L.x g p t).re) (fun t => ?_) rfl
  rw [(H.xs t trivial g p).1, H.args.dy t g h (by omega), EReal.coe_mul]

theorem mid_dcIm (g : Fin 32) (h : Fin 16) (p : Fin 64) :
    afterL midI Y (Proc.devRef .tc main_v35) (ix3 g h p) = ((L.dcIm g h p : ℝ) : EReal) := by
  simp only [afterL_cons, afterL_nil]
  after_reads_simp
  pointwise
  refine sum_is (f := fun t : Fin 2048 => -(L.dy t g h * (L.x g p t).im)) (fun t => ?_) (Finset.sum_neg_distrib _).symm
  rw [(H.xs t trivial g p).2, H.args.dy t g h (by omega), ← EReal.coe_neg, ← EReal.coe_mul, neg_mul]

/-- The gradients of the states that come from the output. -/
theorem mid_ct : Pair3 (afterL midI Y (Proc.devRef .tc main_v48_0)) (afterL midI Y (Proc.devRef .tc main_v48_1)) (fun _ => True)
    (fun g p t => L.ct g p t) := fun t _ g p => by
  constructor
  · simp only [afterL_cons, afterL_nil]
    after_reads_simp
    simp only [id_eq]
    pointwise
    rw [ct_re, coe_sum]
    exact Finset.sum_congr rfl fun h _ => by rw [H.args.dy t g h (by omega), H.args.cr g h p, EReal.coe_mul]
  · simp only [afterL_cons, afterL_nil]
    after_reads_simp
    simp only [id_eq]
    pointwise
    rw [ct_im, coe_sum]
    exact Finset.sum_congr rfl fun h _ => by rw [H.args.dy t g h (by omega), H.args.ci g h p, EReal.coe_mul, EReal.coe_neg]

/-- The states before each row. -/
theorem mid_before : Pair3 (afterL midI Y (Proc.devRef .tc main_v48_2)) (afterL midI Y (Proc.devRef .tc main_v48_3)) (fun _ => True)
    (fun g p t => L.before g p t) := fun t _ g p => by
  constructor
  · simp only [afterL_cons, afterL_nil]
    after_reads_simp
    exact (H.bs t trivial g p).1
  · simp only [afterL_cons, afterL_nil]
    after_reads_simp
    exact (H.bs t trivial g p).2

/-- The multiplier. -/
theorem mid_a : Pair2 (afterL midI Y (Proc.devRef .tc main_v48_4)) (afterL midI Y (Proc.devRef .tc main_v48_5)) L.a := fun g p => by
  constructor
  · simp only [afterL_cons, afterL_nil]
    after_reads_simp
    exact H.args.ar g p
  · simp only [afterL_cons, afterL_nil]
    after_reads_simp
    exact H.args.ai g p

end

/-- The sums and the carried gradient are zero at first. -/
theorem mid_sums (Y : Valuation τ sig (Elt Ideal)) :
    Pair2 (afterL midI Y (Proc.devRef .tc main_v48_7)) (afterL midI Y (Proc.devRef .tc main_v48_8)) (fun _ _ => 0) := fun g p => by
  constructor
  · simp only [afterL_cons, afterL_nil]
    after_reads_simp
    simp only [id_eq]
    pointwise
    simp
  · simp only [afterL_cons, afterL_nil]
    after_reads_simp
    simp only [id_eq]
    pointwise
    simp

theorem mid_carry (Y : Valuation τ sig (Elt Ideal)) :
    Pair2 (afterL midI Y (Proc.devRef .tc main_v48_9)) (afterL midI Y (Proc.devRef .tc main_v48_10)) (fun _ _ => 0) := fun g p => by
  constructor
  · simp only [afterL_cons, afterL_nil]
    after_reads_simp
    simp only [id_eq]
    pointwise
    simp
  · simp only [afterL_cons, afterL_nil]
    after_reads_simp
    simp only [id_eq]
    pointwise
    simp

end Cert.ReferenceIdeal.Run

end
-- ==== Proof.RefBwd.lean ====
/-
  The reference's backward loop: before the k-th trip the carried pair is the gradient that the row below passes on, the
  stacked arrays hold the states' gradients in their last k rows, and the sums run over those rows.
-/
module

public import proofs.«01_k».proof.Proof.RefMid

@[expose] public section

set_option maxRecDepth 16384

noncomputable section

namespace Cert.ReferenceIdeal.Run

open Cert.ReferenceIdeal Cert.ReferenceIdeal.Gen Cert.TwoLoops Cert.Spec
open Idealize.ShloMosaic Idealize.ShloMosaic.TcCoe Idealize.ShloMosaic.Tactic
open Idealize.ShloMosaic.StableHlo

/-- The multiplier's gradient summed over the last `k` rows, last row first. -/
def sumRe (L : Layer) (k g p : ℕ) : ℝ :=
  ∑ i ∈ Finset.range k, ((L.before g p (2047 - i)).re * (L.g g p (2047 - i)).re + (L.before g p (2047 - i)).im * (L.g g p (2047 - i)).im)
def sumIm (L : Layer) (k g p : ℕ) : ℝ :=
  ∑ i ∈ Finset.range k, ((L.before g p (2047 - i)).re * (L.g g p (2047 - i)).im - (L.before g p (2047 - i)).im * (L.g g p (2047 - i)).re)

/-- Over all rows the order does not matter. -/
theorem sum_down (f : ℕ → ℝ) : ∑ i ∈ Finset.range 2048, f (2047 - i) = ∑ t : Fin 2048, f t :=
  (Finset.sum_range_reflect f 2048).trans (Fin.sum_univ_eq_sum_range f 2048).symm

/-- The carried buffers before the k-th trip. -/
structure BwdAt (L : Layer) (k : ℕ) (X : Valuation τ sig (Elt Ideal)) : Prop where
  c : Pair3 (X (Proc.devRef .tc main_v48_0)) (X (Proc.devRef .tc main_v48_1)) (fun _ => True) (fun g p t => L.ct g p t)
  b : Pair3 (X (Proc.devRef .tc main_v48_2)) (X (Proc.devRef .tc main_v48_3)) (fun _ => True) (fun g p t => L.before g p t)
  a : Pair2 (X (Proc.devRef .tc main_v48_4)) (X (Proc.devRef .tc main_v48_5)) L.a
  ctr : X (Proc.devRef .tc main_v48_6) = fun _ => Scf.iv 0#32 1#32 k
  s : Pair2 (X (Proc.devRef .tc main_v48_7)) (X (Proc.devRef .tc main_v48_8)) (fun g p => ⟨sumRe L k g p, sumIm L k g p⟩)
  g : Pair2 (X (Proc.devRef .tc main_v48_9)) (X (Proc.devRef .tc main_v48_10)) (fun g p => (starRingEnd ℂ) (L.a g p) * L.rev g p k)
  gs : Pair3 (X (Proc.devRef .tc main_v48_11)) (X (Proc.devRef .tc main_v48_12)) (2048 - k ≤ ·) (fun g p t => L.g g p t)

theorem Pair2.congr {xr xi : Mat 32 64} {x y : ℕ → ℕ → ℂ} (h : Pair2 xr xi x) (e : ∀ g p, x g p = y g p) : Pair2 xr xi y :=
  fun g p => e g p ▸ h g p

section
variable {xr xi yr yi : Mat 32 64} {x y : ℕ → ℕ → ℂ} (hx : Pair2 xr xi x) (hy : Pair2 yr yi y)
include hx hy

/-- A sum of pairs. -/
theorem Pair2.add : Pair2 (addf (F := Ideal) (s := S32x64) (φ := .f32) xr yr) (addf (F := Ideal) (s := S32x64) (φ := .f32) xi yi)
    (fun g p => x g p + y g p) := fun g p => by
  constructor
  · pointwise
    rw [(hx g p).1, (hy g p).1, Complex.add_re, EReal.coe_add]
  · pointwise
    rw [(hx g p).2, (hy g p).2, Complex.add_im, EReal.coe_add]

/-- A product with a conjugate, as the program forms it. -/
theorem Pair2.conj_mul :
    Pair2 (addf (F := Ideal) (s := S32x64) (φ := .f32) (mulf xi yi) (mulf xr yr))
      (addf (F := Ideal) (s := S32x64) (φ := .f32) (mulf xr yi) (mulf xi (Host.negf (F := Ideal) (s := S32x64) (φ := .f32) yr)))
    (fun g p => (starRingEnd ℂ) (x g p) * y g p) := fun g p => by
  constructor
  · pointwise
    rw [(hx g p).1, (hx g p).2, (hy g p).1, (hy g p).2, ← EReal.coe_mul, ← EReal.coe_mul, ← EReal.coe_add]
    exact congrArg _ (by rw [Complex.mul_re, Complex.conj_re, Complex.conj_im]; ring)
  · pointwise
    rw [(hx g p).1, (hx g p).2, (hy g p).1, (hy g p).2, ← EReal.coe_neg, ← EReal.coe_mul, ← EReal.coe_mul, ← EReal.coe_add]
    exact congrArg _ (by rw [Complex.mul_im, Complex.conj_re, Complex.conj_im]; ring)

/-- A product of a conjugate added to a sum, as the program forms it. -/
theorem Pair2.acc {sr si : Mat 32 64} {s : ℕ → ℕ → ℂ} (hs : Pair2 sr si s) :
    Pair2 (addf (F := Ideal) (s := S32x64) (φ := .f32) (addf sr (mulf yi xi)) (mulf yr xr))
      (addf (F := Ideal) (s := S32x64) (φ := .f32) (addf si (mulf yi xr)) (mulf (Host.negf (F := Ideal) (s := S32x64) (φ := .f32) yr) xi))
    (fun g p => ⟨(s g p).re + ((x g p).re * (y g p).re + (x g p).im * (y g p).im), (s g p).im + ((x g p).re * (y g p).im - (x g p).im * (y g p).re)⟩) := fun g p => by
  constructor
  · pointwise
    rw [(hx g p).1, (hx g p).2, (hy g p).1, (hy g p).2, (hs g p).1, ← EReal.coe_mul, ← EReal.coe_mul, ← EReal.coe_add, ← EReal.coe_add]
    exact congrArg _ (by ring)
  · pointwise
    rw [(hx g p).1, (hx g p).2, (hy g p).1, (hy g p).2, (hs g p).2, ← EReal.coe_neg, ← EReal.coe_mul, ← EReal.coe_mul, ← EReal.coe_add, ← EReal.coe_add]
    exact congrArg _ (by ring)

end

/-- One trip. -/
theorem BwdAt.step {L : Layer} {k : ℕ} {X : Valuation τ sig (Elt Ideal)} (h : BwdAt L k X) (hk : k < 2048) :
    BwdAt L (k + 1) (afterL bwdBody (after bwdCond X)) := by
  have keep : ∀ r, r ∉ bwdW → afterL bwdBody (after bwdCond X) (Proc.devRef .tc r) = X (Proc.devRef .tc r) := fun r hr =>
    afterL_keeps (L := bwdCond :: bwdBody) bwdW bwdW_eq hr X
  have hs : startAt (fromLast (X (Proc.devRef .tc main_v48_6))) = ![((2047 - k : ℕ) : ℤ), 0, 0] :=
    (congrArg (fun v => startAt (fromLast v)) h.ctr).trans (start_down hk)
  have hn : 2047 - k < 2048 := by omega
  have hg : Pair2 _ _ (fun g p => L.rev g p (k + 1)) := (h.g.add (h.c.row hn trivial) : _)
  have e : ∀ g p, L.g g p (2047 - k) = L.rev g p (k + 1) := fun g p =>
    congrArg (L.rev g p) (show 2048 - (2047 - k) = k + 1 by omega)
  refine ⟨?_, ?_, ?_, ?_, ?_, ?_, ?_⟩
  · rw [keep _ (by decide), keep _ (by decide)]; exact h.c
  · rw [keep _ (by decide), keep _ (by decide)]; exact h.b
  · rw [keep _ (by decide), keep _ (by decide)]; exact h.a
  · rw [bwd_ctr_step, h.ctr, Scf.iv_succ]; rfl
  · rw [bwd_ar, bwd_ai, hs]
    have hb : Pair2 _ _ (fun g p => L.before g p (2047 - k)) := h.b.row hn trivial
    have := hb.acc hg h.s
    intro g p
    refine ⟨(this g p).1.trans (congrArg _ ?_), (this g p).2.trans (congrArg _ ?_)⟩
    · show sumRe L k g p + _ = sumRe L (k + 1) g p
      unfold sumRe
      rw [Finset.sum_range_succ, e]
    · show sumIm L k g p + _ = sumIm L (k + 1) g p
      unfold sumIm
      rw [Finset.sum_range_succ, e]
  · rw [bwd_gr, bwd_gi, hs]; exact h.a.conj_mul hg
  · rw [bwd_sr, bwd_si, hs]
    exact h.gs.write hn (hg.congr fun g p => (e g p).symm) fun t _ ht => by omega

/-- All trips. -/
theorem bwd_at (m : (ℓ : Loc nD τ sig) → Buf (Elt Ideal) ℓ) (c : Dev nD) (L : Layer) (H : MidIn L (fwdLoop.leave (fwdEntry m) c)) :
    ∀ k, k ≤ 2048 → BwdAt L k (bwdAt m k c)
  | 0, _ => ⟨mid_ct H, mid_before H, mid_a H, bwd_ctr m c 0,
      (mid_sums (fwdLoop.leave (fwdEntry m) c)).congr fun g p => Complex.ext (by simp [sumRe]) (by simp [sumIm]),
      (mid_carry (fwdLoop.leave (fwdEntry m) c)).congr fun g p => by simp [Layer.rev],
      fun t ht => absurd t.2 (by omega)⟩
  | k + 1, hk => (bwd_at m c L H k (by omega)).step (by omega)

end Cert.ReferenceIdeal.Run

end
-- ==== Proof.RefValue.lean ====
/-
  The reference's results: each is the layer's function of the arguments.
-/
module

public import proofs.«01_k».proof.Proof.RefBwd

@[expose] public section

set_option maxRecDepth 16384

noncomputable section

namespace Cert.ReferenceIdeal.Run

open Cert.ReferenceIdeal Cert.ReferenceIdeal.Gen Cert.TwoLoops Cert.Spec
open Idealize.ShloMosaic Idealize.ShloMosaic.TcCoe Idealize.ShloMosaic.Tactic
open Idealize.ShloMosaic.StableHlo

/-! ## After the backward loop -/

/-- The buffers when the backward loop is left. -/
structure PostIn (L : Layer) (Z : Valuation τ sig (Elt Ideal)) : Prop where
  args : HoldingR L Z
  u : ∀ (t : Fin 2048) (g : Fin 32) (h : Fin 16),
    Z (Proc.devRef .tc main_v1) (ix3 t g h) = Z (Proc.devRef .tc main_arg1) (ix2 t ⟨4608 + (g * 16 + h), by omega⟩)
  d : ∀ (t : Fin 2048) (g : Fin 32) (h : Fin 16), Z (Proc.devRef .tc main_v27) (ix3 t g h)
    = directU (Z (Proc.devRef .tc main_arg8)) (Z (Proc.devRef .tc main_arg0)) (ix2 t ⟨g * 16 + h, by omega⟩)
  gs : Pair3 (Z (Proc.devRef .tc main_v48_11)) (Z (Proc.devRef .tc main_v48_12)) (fun _ => True) (fun g p t => L.g g p t)

section
variable {L : Layer} {Z : Valuation τ sig (Elt Ideal)} (H : PostIn L Z)
include H

omit H in
/-- Three summands the other way round. -/
theorem swap3 (d b a : EReal) : d + b + a = (a + b) + d := by rw [add_assoc, add_comm d, add_comm b]

/-- The gradient of the input map. -/
theorem post_dbRe : afterL postI Z (Proc.devRef .tc main_v57) = ten L.dbRe := by
  funext i
  idx_vars i
  simp only [afterL_cons, afterL_nil]
  after_reads_simp
  pointwise
  refine sum_is (f := fun t : Fin 2048 => L.u t i0 i1 * (L.g i0 i2 t).re) (fun t => ?_) rfl
  rw [(H.gs t trivial i0 i2).1, H.u t i0 i1, H.args.u t i0 i1 (by omega) (by omega), EReal.coe_mul, mul_comm]

theorem post_dbIm : afterL postI Z (Proc.devRef .tc main_v51) = ten L.dbIm := by
  funext i
  idx_vars i
  simp only [afterL_cons, afterL_nil]
  after_reads_simp
  pointwise
  refine sum_is (f := fun t : Fin 2048 => L.u t i0 i1 * (L.g i0 i2 t).im) (fun t => ?_) rfl
  rw [(H.gs t trivial i0 i2).2, H.u t i0 i1, H.args.u t i0 i1 (by omega) (by omega), EReal.coe_mul, mul_comm]

/-- The gradient of the input at an element. -/
theorem post_du (t : Fin 2048) (j : Fin 512) (k : Fin 7168) (hk : (k : ℕ) = 4608 + j) :
    (HAdd.hAdd (α := EReal) (HAdd.hAdd (α := EReal) (Z (Proc.devRef .tc main_v27) (ix3 t ⟨j / 16, by omega⟩ ⟨j % 16, by omega⟩))
        (∑ p : Fin 64, HMul.hMul (α := EReal) (Z (Proc.devRef .tc main_v48_12) (ix3 t ⟨j / 16, by omega⟩ p))
          (Z (Proc.devRef .tc main_arg5) (ix3 ⟨j / 16, by omega⟩ ⟨j % 16, by omega⟩ p))))
      (∑ p : Fin 64, HMul.hMul (α := EReal) (Z (Proc.devRef .tc main_v48_11) (ix3 t ⟨j / 16, by omega⟩ p))
          (Z (Proc.devRef .tc main_arg4) (ix3 ⟨j / 16, by omega⟩ ⟨j % 16, by omega⟩ p))))
    = gradU L (Z (Proc.devRef .tc main_arg0)) (Z (Proc.devRef .tc main_arg8)) (ix2 t k) := by
  refine Eq.trans ?_ (congrArg (gradU L (Z (Proc.devRef .tc main_arg0)) (Z (Proc.devRef .tc main_arg8))) (congrArg (ix2 t)
    (Fin.ext hk.symm : (⟨4608 + j, (Nat.add_lt_add_left j.2 4608).trans_le (by decide)⟩ : Fin 7168) = k)))
  have hg : (j : ℕ) / 16 < 32 := by omega
  have hh : (j : ℕ) % 16 < 16 := by omega
  have e : 4608 + (j : ℕ) - 4608 = j := by omega
  have hm : (⟨(j : ℕ) / 16 * 16 + j % 16, by omega⟩ : Fin 512) = ⟨(4608 + (j : ℕ) - 4608) % 512, Nat.mod_lt _ (by decide)⟩ :=
    Fin.ext (by show (j : ℕ) / 16 * 16 + j % 16 = (4608 + (j : ℕ) - 4608) % 512; omega)
  refine (swap3 _ _ _).trans (congrArg₂ (fun a b : EReal => a + b) ?_ ((H.d t ⟨j / 16, hg⟩ ⟨j % 16, hh⟩).trans (congrArg _ (congrArg (ix2 t) hm))))
  show _ = ((L.du t ((4608 + (j : ℕ) - 4608) / 16) ((4608 + (j : ℕ) - 4608) % 16) : ℝ) : EReal)
  rw [e]
  refine (congrArg₂ (fun a b : EReal => a + b)
    (sum_is (v := ∑ p : Fin 64, (L.b (j / 16) (j % 16) p).re * (L.g (j / 16) p t).re) (fun p => ?_) rfl)
    (sum_is (v := ∑ p : Fin 64, (L.b (j / 16) (j % 16) p).im * (L.g (j / 16) p t).im) (fun p => ?_) rfl)).trans ?_
  · rw [(H.gs t trivial ⟨j / 16, hg⟩ p).1, H.args.br ⟨j / 16, hg⟩ ⟨j % 16, hh⟩ p, EReal.coe_mul, mul_comm]
  · rw [(H.gs t trivial ⟨j / 16, hg⟩ p).2, H.args.bi ⟨j / 16, hg⟩ ⟨j % 16, hh⟩ p, EReal.coe_mul, mul_comm]
  · exact (EReal.coe_add _ _).symm.trans (congrArg _ Finset.sum_add_distrib.symm)

set_option maxRecDepth 100000 in
/-- The array with the gradient of the input written into its columns. -/
theorem post_u : afterL postI Z (Proc.devRef .tc main_v65)
    = outU L (Z (Proc.devRef .tc main_arg0)) (Z (Proc.devRef .tc main_arg8)) (Z (Proc.devRef .tc main_arg9)) := by
  funext i
  idx_vars i
  simp only [afterL_cons, afterL_nil]
  after_reads_simp
  pointwise
  by_cases h1 : (i1 : ℕ) < 4608
  · rw [dif_pos h1]
    after_reads_simp
    pointwise
    refine Eq.trans ?_ (if_neg (show ¬(36 ≤ (i1 : ℕ) / 128 ∧ (i1 : ℕ) / 128 < 40) by omega)).symm
    rfl
  · rw [dif_neg h1]
    by_cases h2 : (i1 : ℕ) - 4608 < 512
    · rw [dif_pos h2]
      after_reads_simp
      pointwise
      refine Eq.trans ?_ (if_pos (show (36 ≤ (i1 : ℕ) / 128 ∧ (i1 : ℕ) / 128 < 40) by omega)).symm
      exact post_du H i0 ⟨i1 - 4608, h2⟩ i1 (by show (i1 : ℕ) = 4608 + (i1 - 4608); omega)
    · rw [dif_neg h2]
      after_reads_simp
      pointwise
      refine Eq.trans ?_ (if_neg (show ¬(36 ≤ (i1 : ℕ) / 128 ∧ (i1 : ℕ) / 128 < 40) by omega)).symm
      exact congrArg (Z (Proc.devRef .tc main_arg9)) (congrArg (ix2 i0) (Fin.ext (by show 5120 + ((i1 : ℕ) - 4608 - 512) = i1; omega)))

end

/-! ## The program's results -/

section
variable (m : (ℓ : Loc nD τ sig) → Buf (Elt Ideal) ℓ) (c : Dev nD) (L : Layer)

/-- The buffers where each loop is left, and at the end. -/
abbrev leave1 : Valuation τ sig (Elt Ideal) := fwdLoop.leave (fwdEntry m) c
abbrev leave2 : Valuation τ sig (Elt Ideal) := bwdLoop.leave (bwdEntry m) c
abbrev final : Valuation τ sig (Elt Ideal) := contents2 preI midI postI fwdLoop bwdLoop m c

/-- What the forward loop does not write is as the program's start left it. -/
theorem leave1_keeps {r : Ref sig .tc} (h : r ∉ fwdW) (h' : r ∉ fwdCondW) :
    leave1 m c (Proc.devRef .tc r) = afterL preI (launchContents m c) (Proc.devRef .tc r) :=
  leave_keeps fwdW fwdCondW fwdW_eq h fwdCondW_eq h' _ c

/-- An argument is unchanged. -/
theorem leave1_arg {r : Ref sig .tc} (h : r ∉ fwdW) (h' : r ∉ fwdCondW) (h0 : r ∉ preW) :
    leave1 m c (Proc.devRef .tc r) = m ((c : Thread nD τ).loc r) :=
  (leave1_keeps m c h h').trans (afterL_keeps preW preW_eq h0 _)

theorem leave2_keeps {r : Ref sig .tc} (h : r ∉ bwdW) (h' : r ∉ bwdCondW) :
    leave2 m c (Proc.devRef .tc r) = afterL midI (leave1 m c) (Proc.devRef .tc r) :=
  leave_keeps bwdW bwdCondW bwdW_eq h bwdCondW_eq h' _ c

theorem leave2_arg {r : Ref sig .tc} (h : r ∉ bwdW) (h' : r ∉ bwdCondW) (h1 : r ∉ midW) (h2 : r ∉ fwdW) (h3 : r ∉ fwdCondW)
    (h0 : r ∉ preW) : leave2 m c (Proc.devRef .tc r) = m ((c : Thread nD τ).loc r) :=
  ((leave2_keeps m c h h').trans (afterL_keeps midW midW_eq h1 _)).trans (leave1_arg m c h2 h3 h0)

/-- What the last stretch does not write is as the backward loop left it. -/
theorem final_keeps {r : Ref sig .tc} (h : r ∉ postW) : final m c (Proc.devRef .tc r) = leave2 m c (Proc.devRef .tc r) :=
  afterL_keeps postW postW_eq h _

variable (H : HoldingR L (launchContents m c))
include H

/-- The buffers when the forward loop is left. -/
theorem midIn : MidIn L (leave1 m c) := by
  have h := fwd_at m c L H 2048 le_rfl
  have at2048 : ∀ r, r ∉ fwdCondW → leave1 m c (Proc.devRef .tc r) = fwdAt m 2048 c (Proc.devRef .tc r) := fun r hr =>
    leave_eq fwdCondW fwdCondW_eq hr _ c
  refine ⟨?_, fun t g h => ?_, ?_, ?_⟩
  · unfold HoldingR
    rw [leave1_arg m c (by decide) (by decide) (by decide), leave1_arg m c (by decide) (by decide) (by decide),
      leave1_arg m c (by decide) (by decide) (by decide), leave1_arg m c (by decide) (by decide) (by decide),
      leave1_arg m c (by decide) (by decide) (by decide), leave1_arg m c (by decide) (by decide) (by decide),
      leave1_arg m c (by decide) (by decide) (by decide), leave1_arg m c (by decide) (by decide) (by decide)]
    exact H
  · rw [leave1_keeps m c (by decide) (by decide), entry_u, leave1_arg m c (by decide) (by decide) (by decide)]
  · rw [at2048 _ (by decide), at2048 _ (by decide)]
    exact fun t _ => h.xs t t.2
  · rw [at2048 _ (by decide), at2048 _ (by decide)]
    exact fun t _ => h.bs t t.2

/-- The buffers when the backward loop is left. -/
theorem bwdEnd : BwdAt L 2048 (bwdAt m 2048 c) := bwd_at m c L (midIn m c L H) 2048 le_rfl

theorem at_end (r : Ref sig .tc) (hr : r ∉ bwdCondW) : leave2 m c (Proc.devRef .tc r) = bwdAt m 2048 c (Proc.devRef .tc r) :=
  leave_eq bwdCondW bwdCondW_eq hr _ c

theorem postIn : PostIn L (leave2 m c) := by
  have h := bwdEnd m c L H
  refine ⟨?_, fun t g h => ?_, fun t g h => ?_, ?_⟩
  · unfold HoldingR
    rw [leave2_arg m c (by decide) (by decide) (by decide) (by decide) (by decide) (by decide),
      leave2_arg m c (by decide) (by decide) (by decide) (by decide) (by decide) (by decide),
      leave2_arg m c (by decide) (by decide) (by decide) (by decide) (by decide) (by decide),
      leave2_arg m c (by decide) (by decide) (by decide) (by decide) (by decide) (by decide),
      leave2_arg m c (by decide) (by decide) (by decide) (by decide) (by decide) (by decide),
      leave2_arg m c (by decide) (by decide) (by decide) (by decide) (by decide) (by decide),
      leave2_arg m c (by decide) (by decide) (by decide) (by decide) (by decide) (by decide),
      leave2_arg m c (by decide) (by decide) (by decide) (by decide) (by decide) (by decide)]
    exact H
  · rw [leave2_keeps m c (by decide) (by decide), afterL_keeps midW midW_eq (by decide), leave1_keeps m c (by decide) (by decide), entry_u,
      leave2_arg m c (by decide) (by decide) (by decide) (by decide) (by decide) (by decide)]
  · rw [leave2_keeps m c (by decide) (by decide), mid_direct (midIn m c L H),
      leave1_arg m c (by decide) (by decide) (by decide), leave1_arg m c (by decide) (by decide) (by decide),
      leave2_arg m c (by decide) (by decide) (by decide) (by decide) (by decide) (by decide),
      leave2_arg m c (by decide) (by decide) (by decide) (by decide) (by decide) (by decide)]
  · rw [at_end m c L H _ (by decide), at_end m c L H _ (by decide)]
    exact fun t _ => h.gs t (by show 2048 - 2048 ≤ (t : ℕ); omega)

/-- The output. -/
theorem res_y : final m c (Proc.devRef .tc main_v22)
    = outY L (m ((c : Thread nD τ).loc main_arg1)) (m ((c : Thread nD τ).loc main_arg8)) := by
  rw [final_keeps m c (by decide), leave2_keeps m c (by decide) (by decide)]
  funext i
  idx_vars i
  rw [mid_y (midIn m c L H), leave1_arg m c (by decide) (by decide) (by decide), leave1_arg m c (by decide) (by decide) (by decide)]

/-- The gradient of the input, in its array. -/
theorem res_u : final m c (Proc.devRef .tc main_v65)
    = outU L (m ((c : Thread nD τ).loc main_arg0)) (m ((c : Thread nD τ).loc main_arg8)) (m ((c : Thread nD τ).loc main_arg9)) := by
  refine (post_u (postIn m c L H)).trans ?_
  rw [leave2_arg m c (by decide) (by decide) (by decide) (by decide) (by decide) (by decide),
    leave2_arg m c (by decide) (by decide) (by decide) (by decide) (by decide) (by decide),
    leave2_arg m c (by decide) (by decide) (by decide) (by decide) (by decide) (by decide)]

/-- The gradient of the multiplier. -/
theorem res_daRe : final m c (Proc.devRef .tc main_v48_7) = mat L.daRe := by
  rw [final_keeps m c (by decide), at_end m c L H _ (by decide)]
  funext i
  idx_vars i
  exact ((bwdEnd m c L H).s i0 i1).1.trans (congrArg _ (sum_down fun t => (L.before i0 i1 t).re * (L.g i0 i1 t).re + (L.before i0 i1 t).im * (L.g i0 i1 t).im))

theorem res_daIm : final m c (Proc.devRef .tc main_v48_8) = mat L.daIm := by
  rw [final_keeps m c (by decide), at_end m c L H _ (by decide)]
  funext i
  idx_vars i
  exact ((bwdEnd m c L H).s i0 i1).2.trans (congrArg _ (sum_down fun t => (L.before i0 i1 t).re * (L.g i0 i1 t).im - (L.before i0 i1 t).im * (L.g i0 i1 t).re))

/-- The gradient of the input map. -/
theorem res_dbRe : final m c (Proc.devRef .tc main_v57) = ten L.dbRe := post_dbRe (postIn m c L H)
theorem res_dbIm : final m c (Proc.devRef .tc main_v51) = ten L.dbIm := post_dbIm (postIn m c L H)

/-- The gradient of the output map. -/
theorem res_dcRe : final m c (Proc.devRef .tc main_v39) = ten L.dcRe := by
  rw [final_keeps m c (by decide), leave2_keeps m c (by decide) (by decide)]
  funext i
  idx_vars i
  exact mid_dcRe (midIn m c L H) i0 i1 i2

theorem res_dcIm : final m c (Proc.devRef .tc main_v35) = ten L.dcIm := by
  rw [final_keeps m c (by decide), leave2_keeps m c (by decide) (by decide)]
  funext i
  idx_vars i
  exact mid_dcIm (midIn m c L H) i0 i1 i2

/-- The gradient of the direct term. -/
theorem res_dd : final m c (Proc.devRef .tc main_v32) = outD L := by
  rw [final_keeps m c (by decide), leave2_keeps m c (by decide) (by decide)]
  funext i
  obtain ⟨j, rfl⟩ : ∃ j : Fin 512, i = ix2 0 j := ⟨i 1, by
    funext k
    fin_cases k
    · exact Subsingleton.elim (α := Fin 1) _ _
    · rfl⟩
  exact mid_dd (midIn m c L H) j

end

end Cert.ReferenceIdeal.Run

end
-- ==== Proof.Algebraic.lean ====
/-
  The two programs agree: from memories with the same arguments, under the precondition, each result of the kernel
  program and the reference program's result are one function of the arguments.
-/
module

public import proofs.«01_k».proof.Defs
public import proofs.«01_k».proof.Proof.KernelRun
public import proofs.«01_k».proof.Proof.KernelValue
public import proofs.«01_k».proof.Proof.RefValue

@[expose] public section

set_option maxRecDepth 16384

noncomputable section

open Idealize.ShloMosaic Idealize.ShloMosaic.TcCoe Idealize.SL.Sem Cert.Spec

namespace Cert.KernelIdeal.Run

open Cert.KernelIdeal Cert.KernelIdeal.Gen

/-- The kernel program's results as functions of the arguments. -/
theorem value (m : (ℓ : Loc nD τ sig) → Buf (Elt Ideal) ℓ) (ρ : Dev nD → PrngReg) (L : Dev nD → Layer)
    (H : ∀ c, Holding (L c) (W0 m ρ c)) :
    θ_run defs (onTc (τ := τ) (main (F := Ideal))) ⟨m, fun _ => 0, ρ⟩ (fun r => ∀ c : Dev nD,
      r.2.mem ((c.tc : Thread nD τ).loc main_v43_0) = outY (L c) (m ((c : Thread nD τ).loc main_arg1)) (m ((c : Thread nD τ).loc main_arg8))
      ∧ r.2.mem ((c.tc : Thread nD τ).loc main_v44_0) = outU (L c) (m ((c : Thread nD τ).loc main_arg0)) (m ((c : Thread nD τ).loc main_arg8)) (m ((c : Thread nD τ).loc main_arg9))
      ∧ r.2.mem ((c.tc : Thread nD τ).loc main_v50) = mat (L c).daRe
      ∧ r.2.mem ((c.tc : Thread nD τ).loc main_v52) = mat (L c).daIm
      ∧ r.2.mem ((c.tc : Thread nD τ).loc main_v45) = ten (L c).dbRe
      ∧ r.2.mem ((c.tc : Thread nD τ).loc main_v46) = ten (L c).dbIm
      ∧ r.2.mem ((c.tc : Thread nD τ).loc main_v47) = ten (L c).dcRe
      ∧ r.2.mem ((c.tc : Thread nD τ).loc main_v53) = ten (L c).dcIm
      ∧ r.2.mem ((c.tc : Thread nD τ).loc main_v44_6) = outD (L c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine θ_run_mono (run m ρ) (fun r h c => ?_)
  obtain ⟨h0, h1, h2, h3, h4, h5, h6, h7, h8, ha⟩ := h c
  exact ⟨h0.trans (res_y m ρ c (L c) (H c)), h1.trans (res_u m ρ c (L c) (H c)), h2.trans (res_daRe m ρ c (L c) (H c)),
    h3.trans (res_daIm m ρ c (L c) (H c)), h4.trans (res_dbRe m ρ c (L c) (H c)), h5.trans (res_dbIm m ρ c (L c) (H c)),
    h6.trans (res_dcRe m ρ c (L c) (H c)), h7.trans (res_dcIm m ρ c (L c) (H c)), h8.trans (res_dd m ρ c (L c) (H c)), ha⟩

end Cert.KernelIdeal.Run

namespace Cert.ReferenceIdeal.Run

open Cert.ReferenceIdeal Cert.ReferenceIdeal.Gen

/-- The reference program's results as functions of the arguments. -/
theorem value (m : (ℓ : Loc nD τ sig) → Buf (Elt Ideal) ℓ) (ρ : Dev nD → PrngReg) (L : Dev nD → Layer)
    (H : ∀ c, HoldingR (L c) (StableHlo.launchContents m c)) :
    θ_run defs (onTc (τ := τ) (main (F := Ideal))) ⟨m, fun _ => 0, ρ⟩ (fun r => ∀ c : Dev nD,
      r.2.mem ((c.tc : Thread nD τ).loc main_v22) = outY (L c) (m ((c : Thread nD τ).loc main_arg1)) (m ((c : Thread nD τ).loc main_arg8))
      ∧ r.2.mem ((c.tc : Thread nD τ).loc main_v65) = outU (L c) (m ((c : Thread nD τ).loc main_arg0)) (m ((c : Thread nD τ).loc main_arg8)) (m ((c : Thread nD τ).loc main_arg9))
      ∧ r.2.mem ((c.tc : Thread nD τ).loc main_v48_7) = mat (L c).daRe
      ∧ r.2.mem ((c.tc : Thread nD τ).loc main_v48_8) = mat (L c).daIm
      ∧ r.2.mem ((c.tc : Thread nD τ).loc main_v57) = ten (L c).dbRe
      ∧ r.2.mem ((c.tc : Thread nD τ).loc main_v51) = ten (L c).dbIm
      ∧ r.2.mem ((c.tc : Thread nD τ).loc main_v39) = ten (L c).dcRe
      ∧ r.2.mem ((c.tc : Thread nD τ).loc main_v35) = ten (L c).dcIm
      ∧ r.2.mem ((c.tc : Thread nD τ).loc main_v32) = outD (L c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  θ_run_mono (run_fold m ρ) (fun r h c =>
    ⟨(h c main_v22 rfl).trans (res_y m c (L c) (H c)),
      (h c main_v65 rfl).trans (res_u m c (L c) (H c)),
      (h c main_v48_7 rfl).trans (res_daRe m c (L c) (H c)),
      (h c main_v48_8 rfl).trans (res_daIm m c (L c) (H c)),
      (h c main_v57 rfl).trans (res_dbRe m c (L c) (H c)),
      (h c main_v51 rfl).trans (res_dbIm m c (L c) (H c)),
      (h c main_v39 rfl).trans (res_dcRe m c (L c) (H c)),
      (h c main_v35 rfl).trans (res_dcIm m c (L c) (H c)),
      (h c main_v32 rfl).trans (res_dd m c (L c) (H c)),
      (h c main_arg0 rfl).trans (contents2_keeps m (by decide) c),
      (h c main_arg1 rfl).trans (contents2_keeps m (by decide) c),
      (h c main_arg2 rfl).trans (contents2_keeps m (by decide) c),
      (h c main_arg3 rfl).trans (contents2_keeps m (by decide) c),
      (h c main_arg4 rfl).trans (contents2_keeps m (by decide) c),
      (h c main_arg5 rfl).trans (contents2_keeps m (by decide) c),
      (h c main_arg6 rfl).trans (contents2_keeps m (by decide) c),
      (h c main_arg7 rfl).trans (contents2_keeps m (by decide) c),
      (h c main_arg8 rfl).trans (contents2_keeps m (by decide) c),
      (h c main_arg9 rfl).trans (contents2_keeps m (by decide) c)⟩)

end Cert.ReferenceIdeal.Run

namespace Cert.Proof

open Cert.KernelIdeal (nD τ)

/-- The layer the arguments hold on a device. -/
def layer (m : (ℓ : Loc nD τ Cert.KernelIdeal.sig) → Buf (Elt Ideal) ℓ) (c : Dev nD) : Layer :=
  layerOf (m ((c.tc : Thread nD τ).loc Cert.KernelIdeal.main_arg0)) (m ((c.tc : Thread nD τ).loc Cert.KernelIdeal.main_arg1)) (m ((c.tc : Thread nD τ).loc Cert.KernelIdeal.main_arg2)) (m ((c.tc : Thread nD τ).loc Cert.KernelIdeal.main_arg3)) (m ((c.tc : Thread nD τ).loc Cert.KernelIdeal.main_arg4)) (m ((c.tc : Thread nD τ).loc Cert.KernelIdeal.main_arg5)) (m ((c.tc : Thread nD τ).loc Cert.KernelIdeal.main_arg6)) (m ((c.tc : Thread nD τ).loc Cert.KernelIdeal.main_arg7))

/-- Under the precondition the two programs' results are equal. -/
theorem algebraic : @Cert.algebraic_KernelIdeal_ReferenceIdeal_pre_finite Cert.KernelIdeal.Gen.facts Cert.ReferenceIdeal.Gen.facts Cert.Pre_finite.Run.facts := by
  intro m g m' g' hpre heq
  have H : ∀ c, Cert.KernelIdeal.Run.Holding (layer m c) (Cert.KernelIdeal.Gen.W0 m g c) := fun c =>
    reads_layerOf _ _ _ _ _ _ _ _ _ _ (hpre c)
  have H' : ∀ c, Cert.ReferenceIdeal.Run.HoldingR (layer m c) (StableHlo.launchContents m' c) := fun c => by
    obtain ⟨e0, e1, e2, e3, e4, e5, e6, e7, -⟩ := heq c
    have h := H c
    show Reads _ (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
    rw [e0, e1, e2, e3, e4, e5, e6, e7]
    exact h
  refine ⟨_, _, _, _, _, _, _, _, _, Cert.KernelIdeal.Run.value m g (layer m) H, ?_⟩
  refine θ_run_mono (Cert.ReferenceIdeal.Run.value m' g' (layer m) H') (fun r h c => ?_)
  obtain ⟨e0, e1, e2, e3, e4, e5, e6, e7, e8, e9⟩ := heq c
  obtain ⟨h0, h1, h⟩ := h c
  refine ⟨h0.trans ?_, h1.trans ?_, h⟩
  · rw [e1, e8]
  · rw [e0, e8, e9]

end Cert.Proof

end
-- ==== Proof.GradX.lean ====
/-
  The gradient of the layer's input as a function of the arguments: the residual's gradient, scaled, and the
  projection's gradient times the weight, summed over the projection's columns.
-/
module

public import Idealize.ShloMosaic.Lib.Pointwise

@[expose] public section

noncomputable section

namespace Cert.GradX

open Idealize.ShloMosaic

/-- An array of numbers. -/
abbrev Mat (A B : ℕ) : Type := (⟨2, ![A, B]⟩ : Shape).Idx → EReal

/-- The residual's factor. -/
def scale : EReal := (Scalar.ofBits (F := Ideal) .f32 0x3F9837F0#32 : Ideal .f32)

/-- The term of column `j` at row `r` and entry `d`. -/
def term (p : Mat 2048 7168) (w : Mat 1024 7168) (r d j : ℕ) : EReal :=
  if h : r < 2048 ∧ d < 1024 ∧ j < 7168 then p (ix2 ⟨r, h.1⟩ ⟨j, h.2.2⟩) * w (ix2 ⟨d, h.2.1⟩ ⟨j, h.2.2⟩) else 0

/-- The gradient. -/
def grad (p : Mat 2048 7168) (w : Mat 1024 7168) (e : Mat 2048 1024) : Mat 2048 1024 := fun i =>
  scale * e i + ∑ j ∈ Finset.range 7168, term p w (i 0) (i 1) j

theorem term_eq (p : Mat 2048 7168) (w : Mat 1024 7168) (r : Fin 2048) (d : Fin 1024) (j : Fin 7168) :
    term p w r d j = p (ix2 r j) * w (ix2 d j) := dif_pos ⟨r.isLt, d.isLt, j.isLt⟩

theorem term_at (p : Mat 2048 7168) (w : Mat 1024 7168) (r : Fin 2048) (d : Fin 1024) (j k : Fin 7168) {n : ℕ} (hj : j.val = n) (hk : k.val = n) :
    p (ix2 r j) * w (ix2 d k) = term p w r d n := by
  obtain rfl : j = k := Fin.ext (hj.trans hk.symm)
  subst hj
  exact (term_eq p w r d j).symm

/-- A sum in two halves, each over its own numbering. -/
theorem sum_halves (n : ℕ) (f : ℕ → EReal) :
    ∑ j ∈ Finset.range (n + n), f j = (∑ x : Fin n, f x) + ∑ x : Fin n, f (n + x) := by
  rw [Finset.sum_range_add, Finset.sum_range, Finset.sum_range]

end Cert.GradX

end
-- ==== Proof.GradXKernel.lean ====
/-
  The gradient of the layer's input in the kernel program: a tile's sum over the blocks of the projection's columns,
  carried from block to block, and the array written at each tile's last block.
-/
module

public import proofs.«01_k».proof.Proof.Gen.KernelXIdeal.Frame
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.GradX

@[expose] public section

set_option maxRecDepth 16384

noncomputable section

namespace Cert.KernelXIdeal.Run

open Idealize.ShloMosaic Idealize.ShloMosaic.TcCoe Cert.KernelXIdeal Cert.KernelXIdeal.Gen Cert.GradX
open Idealize.SL Idealize.SL.RA Idealize.SL.BI Idealize.SL.Sem
open Idealize.ShloMosaic.StableHlo Idealize.ShloMosaic.Tactic

/-! ## One block's product -/

theorem pay1_apply (v0 : Vec Ideal S1024x1792 .bf16) (v1 v3 : Vec Ideal S1x1024x896 .bf16) (r d : Fin 1024) :
    k0_pay1 (F := Ideal) v0 v1 v3 (ix2 r d)
      = (∑ x : Fin 896, (v0 (ix2 r ⟨x, by omega⟩) : EReal) * (v1 (ix3 0 d x) : EReal))
        + ∑ x : Fin 896, (v0 (ix2 r ⟨896 + x, by omega⟩) : EReal) * (v3 (ix3 0 d x) : EReal) := by
  unfold k0_pay1
  pointwise

theorem pay2_apply (v0 : Vec Ideal S1024x1792 .bf16) (v1 v3 : Vec Ideal S1x1024x896 .bf16) (i : S1024x1024.Idx) :
    k0_pay2 (F := Ideal) v0 v1 v3 i = k0_pay1 (F := Ideal) v0 v1 v3 i := by
  unfold k0_pay2
  pointwise

theorem pay3_apply (v0 : Vec Ideal S1024x1792 .bf16) (v1 v3 : Vec Ideal S1x1024x896 .bf16) (w : Vec Ideal S1024x1024 .f32) (i : S1024x1024.Idx) :
    k0_pay3 (F := Ideal) v0 v1 v3 w i = (w i : EReal) + (k0_pay1 (F := Ideal) v0 v1 v3 i : EReal) := by
  unfold k0_pay3
  pointwise

theorem pay4_apply (v w : Vec Ideal S1024x1024 .f32) (i : S1024x1024.Idx) :
    k0_pay4 (F := Ideal) v w i = scale * (v i : EReal) + (w i : EReal) := by
  unfold k0_pay4
  pointwise
  rfl

/-! ## Where a point's blocks lie -/

theorem at0_0 : ∀ t : Fin cfg0.N, win0_0.index t = ![t.val / 4, t.val % 4] := (by decide +kernel : ∀ t : Fin grid0.N, _)
theorem at0_1 : ∀ t : Fin cfg0.N, win0_1.index t = ![t.val % 4, 0, 0] := (by decide +kernel : ∀ t : Fin grid0.N, _)
theorem at0_2 : ∀ t : Fin cfg0.N, win0_2.index t = ![t.val / 4, 0] := (by decide +kernel : ∀ t : Fin grid0.N, _)
theorem at0_3 : ∀ t : Fin cfg0.N, win0_3.index t = ![t.val / 4, 0] := (by decide +kernel : ∀ t : Fin grid0.N, _)

/-- A point's number is below eight. -/
theorem lt8 (t : Fin cfg0.N) : t.val < 8 := t.isLt

variable (m : (ℓ : Loc nD τ sig) → Buf (Elt Ideal) ℓ) (ρ : Dev nD → PrngReg) (c : Dev nD) (t : Fin cfg0.N)

/-- The arguments on a device. -/
abbrev dproj : Mat 2048 7168 := m ((c : Thread nD τ).loc main_arg0)
abbrev weight : Mat 1024 7168 := m ((c : Thread nD τ).loc main_arg1)
abbrev dres : Mat 2048 1024 := m ((c : Thread nD τ).loc main_arg2)

/-- The weight as the call finds it: the eight shards of its columns one after another. -/
theorem weight_at (s : Fin 8) (d : Fin 1024) (j : Fin 896) :
    V m c main_v2 (ix3 s d j) = weight m c (ix2 d ⟨896 * s + j, by omega⟩) := by
  show after hostOps0 (fun b => m (c, b)) (Proc.devRef .tc main_v2) (ix3 s d j) = _
  after_reads_simp
  pointwise
  exact congrArg (fun k => weight m c (ix2 d k)) (Fin.ext (show (s : ℕ) * 896 + j = 896 * s + j by omega))

theorem blk0_0 (r : Fin 1024) (j : Fin 1792) :
    iblk (F := Ideal) m c 0 t (ix2 r j) = dproj m c (ix2 ⟨1024 * (t.val / 4) + r, by have := lt8 t; omega⟩ ⟨1792 * (t.val % 4) + j, by omega⟩) := by
  rw [← show V m c main_arg0 = dproj m c from V_main_arg0 m c]
  blk_simp [iblk]
  congr 1
  blk_ext [at0_0]

theorem blk0_1 (s : Fin 2) (d : Fin 1024) (j : Fin 896) :
    iblk (F := Ideal) m c 1 t (ix3 s d j) = weight m c (ix2 d ⟨1792 * (t.val % 4) + (896 * s + j), by omega⟩) := by
  have h := weight_at m c ⟨2 * (t.val % 4) + s, by omega⟩ d j
  refine Eq.trans ?_ (h.trans (congrArg (fun k => weight m c (ix2 d k)) (Fin.ext ?_)))
  · blk_simp [iblk]
    congr 1
    blk_ext [at0_1]
  · show 896 * (2 * (t.val % 4) + s) + j = 1792 * (t.val % 4) + (896 * s + j)
    omega

theorem blk0_2 (r : Fin 1024) (d : Fin 1024) :
    iblk (F := Ideal) m c 2 t (ix2 r d) = dres m c (ix2 ⟨1024 * (t.val / 4) + r, by have := lt8 t; omega⟩ d) := by
  rw [← show V m c main_arg2 = dres m c from V_main_arg2 m c]
  blk_simp [iblk]
  congr 1
  blk_ext [at0_2]

/-- The position of an element of a block's one shard. -/
theorem idx_shard {o : ℕ} (inb) (s : Fin 2) (d : Fin 1024) (x : Fin 896) (h : o = s) :
    (Rect.unit (s := S2x1024x896) ![o, 0, 0] ![1, 1024, 896] inb).idx (ix3 0 d x) = ix3 s d x := by
  refine funext fun k => Fin.ext ?_
  fin_cases k
  · show o + 1 * 0 = (s : ℕ)
    omega
  · show 0 + 1 * (d : ℕ) = d
    omega
  · show 0 + 1 * (x : ℕ) = x
    omega

/-- A point's product is the terms of its 1792 columns. -/
theorem block (r d : Fin 1024) :
    k0_pay1 (F := Ideal) (iblk m c 0 t)
      (View.ld (iblk m c 1 t) (Rect.unit ![0, 0, 0] ![1, 1024, 896] inb_S2x1024x896_S1x1024x896_0_0_0))
      (View.ld (iblk m c 1 t) (Rect.unit ![1, 0, 0] ![1, 1024, 896] inb_S2x1024x896_S1x1024x896_1_0_0)) (ix2 r d)
      = ∑ j ∈ Finset.range 1792, term (dproj m c) (weight m c) (1024 * (t.val / 4) + r) d (1792 * (t.val % 4) + j) := by
  refine (pay1_apply _ _ _ r d).trans ((congrArg₂ (HAdd.hAdd (α := EReal)) (Finset.sum_congr rfl fun x _ => ?_) (Finset.sum_congr rfl fun x _ => ?_)).trans
    (sum_halves 896 (fun j => term (dproj m c) (weight m c) (1024 * (t.val / 4) + r) d (1792 * (t.val % 4) + j))).symm)
  · have h1 := blk0_0 m c t r ⟨x, by omega⟩
    have h2 := blk0_1 m c t 0 d x
    refine (congrArg₂ (HMul.hMul (α := EReal)) h1 ((congrArg (iblk m c 1 t) (idx_shard _ 0 d x rfl)).trans h2)).trans
      (term_at _ _ ⟨1024 * (t.val / 4) + r, by have := lt8 t; omega⟩ d _ _ rfl ?_)
    show 1792 * (t.val % 4) + (896 * 0 + (x : ℕ)) = _
    omega
  · have h1 := blk0_0 m c t r ⟨896 + x, by omega⟩
    have h2 := blk0_1 m c t 1 d x
    refine (congrArg₂ (HMul.hMul (α := EReal)) h1 ((congrArg (iblk m c 1 t) (idx_shard _ 1 d x rfl)).trans h2)).trans
      (term_at _ _ ⟨1024 * (t.val / 4) + r, by have := lt8 t; omega⟩ d _ _ rfl ?_)
    show 1792 * (t.val % 4) + (896 * 1 + (x : ℕ)) = _
    omega

theorem start (h0 : t.val % 4 = 0) (r d : Fin 1024) :
    (outsAt0 m c t.val t.isLt).2 (ix2 r d) = ∑ j ∈ Finset.range 1792, term (dproj m c) (weight m c) (1024 * (t.val / 4) + r) d (1792 * (t.val % 4) + j) := by
  rw [outsAt0_A m c t h0 (by omega) (by omega)]
  frame_out
  rw [pay2_apply]
  exact block m c t r d

theorem step (h0 : ¬ t.val % 4 = 0) (h2 : ¬t.val % 4 = 3) (r d : Fin 1024) :
    (outsAt0 m c t.val t.isLt).2 (ix2 r d)
      = HAdd.hAdd (α := EReal) ((outsAt0 m c (t.val - 1) (by have := t.isLt; omega)).2 (ix2 r d))
        (∑ j ∈ Finset.range 1792, term (dproj m c) (weight m c) (1024 * (t.val / 4) + r) d (1792 * (t.val % 4) + j)) := by
  rw [outsAt0_B m c t h0 (by omega) h2]
  frame_out
  refine (pay3_apply _ _ _ _ _).trans (congrArg₂ (HAdd.hAdd (α := EReal)) ?_ (block m c t r d))
  exact congrFun (Memref.IsWhole.read_unread (Memref.isWhole_whole _) _) _

theorem last (h2 : t.val % 4 = 3) (r d : Fin 1024) :
    (outsAt0 m c t.val t.isLt).1 (ix2 r d)
      = scale * (dres m c (ix2 ⟨1024 * (t.val / 4) + r, by have := lt8 t; omega⟩ d) : EReal)
        + (HAdd.hAdd (α := EReal) ((outsAt0 m c (t.val - 1) (by have := t.isLt; omega)).2 (ix2 r d))
        (∑ j ∈ Finset.range 1792, term (dproj m c) (weight m c) (1024 * (t.val / 4) + r) d (1792 * (t.val % 4) + j))) := by
  rw [outsAt0_C m c t (by omega) (by omega) h2]
  frame_out
  refine (pay4_apply _ _ _).trans (congrArg₂ (HAdd.hAdd (α := EReal)) (congrArg (scale * ·) (blk0_2 m c t r d)) ?_)
  refine (pay3_apply _ _ _ _ _).trans (congrArg₂ (HAdd.hAdd (α := EReal)) ?_ (block m c t r d))
  exact congrFun (Memref.IsWhole.read_unread (Memref.isWhole_whole _) _) _

/-- The sum carried out of the first points of a row of tiles. -/
theorem carried (k : ℕ) (hk : k < 3) (i : Fin 2) (r d : Fin 1024) :
    ∀ h : 4 * i.val + k < cfg0.N, (outsAt0 m c (4 * i.val + k) h).2 (ix2 r d)
      = ∑ j ∈ Finset.range (1792 * (k + 1)), term (dproj m c) (weight m c) (1024 * i + r) d j := by
  induction k with
  | zero =>
    intro h
    refine (start m c ⟨4 * i.val + 0, h⟩ (by show (4 * i.val + 0) % 4 = 0; omega) r d).trans ?_
    refine Finset.sum_congr rfl fun j _ => ?_
    show term _ _ (1024 * ((4 * i.val + 0) / 4) + r) d (1792 * ((4 * i.val + 0) % 4) + j) = _
    rw [show (4 * i.val + 0) / 4 = i.val by omega, show (4 * i.val + 0) % 4 = 0 by omega, show 1792 * 0 + j = j by omega]
  | succ k ih =>
    intro h
    have hN : cfg0.N = 8 := N_0
    refine (step m c ⟨4 * i.val + (k + 1), h⟩ (by show ¬ (4 * i.val + (k + 1)) % 4 = 0; omega) (by show ¬ (4 * i.val + (k + 1)) % 4 = 3; omega) r d).trans ?_
    rw [show 1792 * (k + 1 + 1) = 1792 * (k + 1) + 1792 by omega, Finset.sum_range_add]
    refine congrArg₂ (HAdd.hAdd (α := EReal)) (ih (by omega) (by omega)) (Finset.sum_congr rfl fun j _ => ?_)
    show term _ _ (1024 * ((4 * i.val + (k + 1)) / 4) + r) d (1792 * ((4 * i.val + (k + 1)) % 4) + j) = _
    rw [show (4 * i.val + (k + 1)) / 4 = i.val by omega, show (4 * i.val + (k + 1)) % 4 = k + 1 by omega]

/-- What a tile's last point leaves in the output's block. -/
theorem block_grad (h2 : t.val % 4 = 3) (r d : Fin 1024) :
    (outsAt0 m c t.val t.isLt).1 (ix2 r d)
      = grad (dproj m c) (weight m c) (dres m c) (ix2 ⟨1024 * (t.val / 4) + r, by have := lt8 t; omega⟩ d) := by
  have h8 := lt8 t
  refine (last m c t h2 r d).trans (congrArg₂ (HAdd.hAdd (α := EReal)) rfl ?_)
  have hc := carried m c 2 (by omega) ⟨t.val / 4, by omega⟩ r d
  simp only [show 4 * (t.val / 4) + 2 = t.val - 1 by omega] at hc
  refine (congrArg₂ (HAdd.hAdd (α := EReal)) (hc (by have := t.isLt; omega)) rfl).trans ?_
  rw [h2]
  exact (Finset.sum_range_add (term (dproj m c) (weight m c) (1024 * (t.val / 4) + r) d) 5376 1792).symm

theorem place0_3 (r d : Fin 1024) :
    (win0_3.blk t).view.emb (ix2 r d) = (ix2 ⟨1024 * (t.val / 4) + r, by have := lt8 t; omega⟩ d : S2048x1024.Idx) := by
  blk_ext [at0_3]

/-- The output is written back at a tile's last point only. -/
theorem flushes : ∀ t : Fin cfg0.N, (cfg0.win 3).flush t = true → t.val % 4 = 3 :=
  (by decide +kernel : ∀ t : Fin cfg0.N, (cfg0.win 3).flush t = true → t.val % 4 = 3)

/-- The array after the run. -/
theorem arr_grad : (dats m 0 c).arrAt 3 cfg0.N = grad (dproj m c) (weight m c) (dres m c) := by
  refine (dats m 0 c).arrAt_eq_of_covers 3 _ (by decide +kernel) fun t hf y => ?_
  blk_simp
  rw [after0_3]
  obtain ⟨r, d, rfl⟩ : ∃ (r : Fin 1024) (d : Fin 1024), y = ix2 r d := ⟨y 0, y 1, by funext k; fin_cases k <;> rfl⟩
  exact (block_grad m c t (flushes t hf) r d).trans (congrArg _ (place0_3 t r d).symm)

/-- The kernel program leaves the gradient, and its arguments as they were. -/
theorem value : θ_run defs (onTc (τ := τ) (main (F := Ideal))) ⟨m, fun _ => 0, ρ⟩ (fun r => ∀ c : Dev nD,
      r.2.mem ((c.tc : Thread nD τ).loc main_v3) = grad (dproj m c) (weight m c) (dres m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m ρ) (unchanged m ρ)) fun r h c =>
    ⟨((h.1 c).1 3).trans (arr_grad m c), h.2 c⟩

end Cert.KernelXIdeal.Run
end
-- ==== Proof.GradXRef.lean ====
/-
  The gradient of the layer's input in the reference program, and the two programs' agreement.
-/
module

public import proofs.«01_k».proof.Defs
public import proofs.«01_k».proof.Proof.Gen.ReferenceXIdeal
public import proofs.«01_k».proof.Proof.GradXKernel

@[expose] public section

set_option maxRecDepth 16384

noncomputable section

namespace Cert.ReferenceXIdeal.Run

open Idealize.ShloMosaic Idealize.ShloMosaic.TcCoe Idealize.SL.Sem Cert.ReferenceXIdeal Cert.ReferenceXIdeal.Gen Cert.GradX

variable (m : (ℓ : Loc nD τ sig) → Buf (Elt Ideal) ℓ) (ρ : Dev nD → PrngReg)

/-- The reference program leaves its arguments and its counters as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · exact fun _ => ⟨trivial, trivial, trivial⟩
  · exact sem_eq_zero_of_no_sems (by decide) _

/-- The reference program leaves the gradient, and its arguments as they were. -/
theorem value : θ_run defs (onTc (τ := τ) (main (F := Ideal))) ⟨m, fun _ => 0, ρ⟩ (fun r => ∀ c : Dev nD,
      r.2.mem ((c.tc : Thread nD τ).loc main_v4)
        = grad (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  funext i
  idx_vars i
  pointwise
  refine congrArg₂ (HAdd.hAdd (α := EReal)) rfl (Eq.trans ?_ (Finset.sum_range _).symm)
  exact Finset.sum_congr rfl fun j _ => (term_eq _ _ i0 i1 j).symm

end Cert.ReferenceXIdeal.Run

namespace Cert.Proof

open Idealize.ShloMosaic Idealize.ShloMosaic.TcCoe Idealize.SL.Sem Cert.GradX

/-- The two programs' results are equal, whatever the arguments. -/
theorem algebraic_x : @Cert.algebraic_KernelXIdeal_ReferenceXIdeal Cert.KernelXIdeal.Gen.facts Cert.ReferenceXIdeal.Gen.facts := by
  intro m g m' g' _ heq
  refine ⟨fun c => grad (Cert.KernelXIdeal.Run.dproj m c) (Cert.KernelXIdeal.Run.weight m c) (Cert.KernelXIdeal.Run.dres m c),
    Cert.KernelXIdeal.Run.value m g, θ_run_mono (Cert.ReferenceXIdeal.Run.value m' g') fun r h c => ⟨(h c).1.trans ?_, (h c).2⟩⟩
  obtain ⟨h0, h1, h2⟩ := heq c
  rw [h0, h1, h2]

end Cert.Proof
end
-- ==== Proof.FeedForward.lean ====
/-
  The feed-forward layer's gradients as functions of the arguments, at any width: the two products going up, the
  arriving gradient through the product going down, silu and its gradient, and the three weights' gradients. A width
  laid out in eight groups of 352 columns, each followed by 32 columns of zeros, has the narrow width's values at the
  columns that are not such zeros; and the two ways of writing silu's gradient are equal at a real arriving number.
-/
module

public import Idealize.ShloMosaic.Lib.Pointwise

@[expose] public section

noncomputable section

namespace Cert.FeedForward

open Idealize.ShloMosaic

/-- An array of numbers. -/
abbrev Mat (A B : ℕ) : Type := (⟨2, ![A, B]⟩ : Shape).Idx → EReal

variable {N : ℕ}

/-- A product going up. -/
def up (h : Mat 2048 1024) (w : Mat 1024 N) : Mat 2048 N := fun i => ∑ d : Fin 1024, h (ix2 (i 0) d) * w (ix2 d (i 1))

/-- The arriving gradient through the product going down. -/
def back (e : Mat 2048 1024) (w : Mat N 1024) : Mat 2048 N := fun i => ∑ d : Fin 1024, e (ix2 (i 0) d) * w (ix2 (i 1) d)

/-- silu of the gate times the other product. -/
def hidden (a b : Mat 2048 N) : Mat 2048 N := fun i => a i * Ideal.logistic (a i) * b i

/-- The gradient at the gate: `silu' = σ (1 + a (1 - σ))`. -/
def atGate (f a b : Mat 2048 N) : Mat 2048 N := fun i =>
  f i * b i * Ideal.logistic (a i) * (1 + a i * (1 - Ideal.logistic (a i)))

/-- The gradient at the other product. -/
def atUp (f a : Mat 2048 N) : Mat 2048 N := fun i => f i * a i * Ideal.logistic (a i)

/-- The gradient of a weight going up, summed over the rows. -/
def colsGrad (h : Mat 2048 1024) (x : Mat 2048 N) : Mat 1024 N := fun i => ∑ r : Fin 2048, h (ix2 r (i 0)) * x (ix2 r (i 1))

/-- The gradient of the weight going down, summed over the rows. -/
def rowsGrad (x : Mat 2048 N) (e : Mat 2048 1024) : Mat N 1024 := fun i => ∑ r : Fin 2048, x (ix2 r (i 0)) * e (ix2 r (i 1))

/-- The gate's weight's gradient. -/
def gradGate (h : Mat 2048 1024) (wg wu : Mat 1024 N) (wd : Mat N 1024) (e : Mat 2048 1024) : Mat 1024 N :=
  colsGrad h (atGate (back e wd) (up h wg) (up h wu))

/-- The other up-going weight's gradient. -/
def gradUp (h : Mat 2048 1024) (wg : Mat 1024 N) (wd : Mat N 1024) (e : Mat 2048 1024) : Mat 1024 N :=
  colsGrad h (atUp (back e wd) (up h wg))

/-- The down-going weight's gradient. -/
def gradDown (h : Mat 2048 1024) (wg wu : Mat 1024 N) (e : Mat 2048 1024) : Mat N 1024 :=
  rowsGrad (hidden (up h wg) (up h wu)) e

/-! ## The wide layout -/

/-- Columns in eight groups of 352, each followed by 32 columns of zeros. -/
def wideC (w : Mat 1024 2816) : Mat 1024 3072 := fun i =>
  if h : (i 1 : ℕ) % 384 < 352 then w (ix2 (i 0) ⟨352 * ((i 1 : ℕ) / 384) + (i 1 : ℕ) % 384, by have : (i 1 : ℕ) < 3072 := (i 1).isLt; omega⟩) else 0

/-- Rows in eight groups of 352, each followed by 32 rows of zeros. -/
def wideR (w : Mat 2816 1024) : Mat 3072 1024 := fun i =>
  if h : (i 0 : ℕ) % 384 < 352 then w (ix2 ⟨352 * ((i 0 : ℕ) / 384) + (i 0 : ℕ) % 384, by have : (i 0 : ℕ) < 3072 := (i 0).isLt; omega⟩ (i 1)) else 0

/-- Column `j` of group `s`. -/
def col (s : Fin 8) (j : Fin 384) : Fin 3072 := ⟨384 * s + j, by omega⟩

/-- Where the wide layout has a column of the narrow one. -/
def pos (j : Fin 2816) : Fin 3072 := ⟨384 * ((j : ℕ) / 352) + (j : ℕ) % 352, by omega⟩

theorem wideC_pos (w : Mat 1024 2816) (d : Fin 1024) (j : Fin 2816) : wideC w (ix2 d (pos j)) = w (ix2 d j) := by
  have h : (384 * ((j : ℕ) / 352) + (j : ℕ) % 352) % 384 < 352 := by omega
  refine (dif_pos h).trans (congrArg (fun k => w (ix2 d k)) (Fin.ext ?_))
  show 352 * ((384 * ((j : ℕ) / 352) + (j : ℕ) % 352) / 384) + (384 * ((j : ℕ) / 352) + (j : ℕ) % 352) % 384 = j
  omega

theorem wideR_pos (w : Mat 2816 1024) (j : Fin 2816) (d : Fin 1024) : wideR w (ix2 (pos j) d) = w (ix2 j d) := by
  have h : (384 * ((j : ℕ) / 352) + (j : ℕ) % 352) % 384 < 352 := by omega
  refine (dif_pos h).trans (congrArg (fun k => w (ix2 k d)) (Fin.ext ?_))
  show 352 * ((384 * ((j : ℕ) / 352) + (j : ℕ) % 352) / 384) + (384 * ((j : ℕ) / 352) + (j : ℕ) % 352) % 384 = j
  omega

variable (h : Mat 2048 1024) (wg wu : Mat 1024 2816) (wd : Mat 2816 1024) (e : Mat 2048 1024)

theorem up_pos (w : Mat 1024 2816) (r : Fin 2048) (j : Fin 2816) : up h (wideC w) (ix2 r (pos j)) = up h w (ix2 r j) :=
  Finset.sum_congr rfl fun d _ => congrArg (HMul.hMul (α := EReal) _) (wideC_pos w d j)

theorem back_pos (r : Fin 2048) (j : Fin 2816) : back e (wideR wd) (ix2 r (pos j)) = back e wd (ix2 r j) :=
  Finset.sum_congr rfl fun d _ => congrArg (HMul.hMul (α := EReal) _) (wideR_pos wd j d)

theorem cols_congr {M : ℕ} {x : Mat 2048 N} {y : Mat 2048 M} (d : Fin 1024) (j : Fin N) (k : Fin M) (hxy : ∀ r, x (ix2 r j) = y (ix2 r k)) :
    colsGrad h x (ix2 d j) = colsGrad h y (ix2 d k) :=
  Finset.sum_congr rfl fun r _ => congrArg (HMul.hMul (α := EReal) _) (hxy r)

theorem rows_congr {M : ℕ} {x : Mat 2048 N} {y : Mat 2048 M} (d : Fin 1024) (j : Fin N) (k : Fin M) (hxy : ∀ r, x (ix2 r j) = y (ix2 r k)) :
    rowsGrad x e (ix2 j d) = rowsGrad y e (ix2 k d) :=
  Finset.sum_congr rfl fun r _ => congrArg (fun z : EReal => z * e (ix2 r d)) (hxy r)

theorem gradGate_pos (d : Fin 1024) (j : Fin 2816) :
    gradGate h (wideC wg) (wideC wu) (wideR wd) e (ix2 d (pos j)) = gradGate h wg wu wd e (ix2 d j) := by
  refine cols_congr h d (pos j) j fun r => ?_
  show atGate _ _ _ (ix2 r (pos j)) = atGate _ _ _ (ix2 r j)
  unfold atGate
  rw [up_pos, up_pos, back_pos]

theorem gradUp_pos (d : Fin 1024) (j : Fin 2816) :
    gradUp h (wideC wg) (wideR wd) e (ix2 d (pos j)) = gradUp h wg wd e (ix2 d j) := by
  refine cols_congr h d (pos j) j fun r => ?_
  show atUp _ _ (ix2 r (pos j)) = atUp _ _ (ix2 r j)
  unfold atUp
  rw [up_pos, back_pos]

theorem gradDown_pos (j : Fin 2816) (d : Fin 1024) :
    gradDown h (wideC wg) (wideC wu) e (ix2 (pos j) d) = gradDown h wg wu e (ix2 j d) := by
  refine rows_congr e d (pos j) j fun r => ?_
  show hidden _ _ (ix2 r (pos j)) = hidden _ _ (ix2 r j)
  unfold hidden
  rw [up_pos, up_pos]

/-! ## The two ways of writing silu's gradient -/

/-- A real number. -/
def IsReal (x : EReal) : Prop := ((x.toReal : ℝ) : EReal) = x

theorem IsReal.mul {x y : EReal} (hx : IsReal x) (hy : IsReal y) : IsReal (x * y) := by
  unfold IsReal at *
  rw [← hx, ← hy, ← EReal.coe_mul, EReal.toReal_coe]

theorem IsReal.sum {ι : Type} (s : Finset ι) (f : ι → EReal) (hf : ∀ k ∈ s, IsReal (f k)) : IsReal (∑ k ∈ s, f k) := by
  unfold IsReal at *
  rw [Finset.sum_congr rfl fun k hk => (hf k hk).symm]
  induction s using Finset.cons_induction with
  | empty => simp
  | cons a s ha ih =>
    have ih' := ih fun k hk => hf k (Finset.mem_cons_of_mem hk)
    rw [Finset.sum_cons, ← ih', ← EReal.coe_add, EReal.toReal_coe]

/-- silu's gradient times a real number, summed or factored. -/
theorem silu_grad (a : EReal) (ct : EReal) (hc : IsReal ct) :
    ct * Ideal.logistic a + a * ct * (Ideal.logistic a * (1 - Ideal.logistic a))
      = ct * Ideal.logistic a * (1 + a * (1 - Ideal.logistic a)) := by
  rw [← hc]
  generalize ct.toReal = x
  induction a using EReal.rec with
  | bot => simp
  | top =>
    have h0 : (1 : EReal) - 1 = 0 := by
      rw [← EReal.coe_one, ← EReal.coe_sub, sub_self, EReal.coe_zero]
    rw [Ideal.logistic_top, h0]
    simp
  | coe r =>
    rw [Ideal.logistic_coe]
    generalize (1 + Real.exp (-r))⁻¹ = q
    norm_cast
    ring

/-- The gradient at the gate as the derivative's two terms. -/
theorem atGate_eq (f a b : Mat 2048 N) (i) (hf : IsReal (f i)) (hb : IsReal (b i)) :
    f i * b i * Ideal.logistic (a i) + a i * (f i * b i) * (Ideal.logistic (a i) * (1 - Ideal.logistic (a i))) = atGate f a b i :=
  silu_grad (a i) (f i * b i) (hf.mul hb)

theorem up_real (w : Mat 1024 N) (hh : ∀ i, IsReal (h i)) (hw : ∀ i, IsReal (w i)) (i) : IsReal (up h w i) :=
  IsReal.sum _ _ fun d _ => (hh _).mul (hw _)

theorem back_real (w : Mat N 1024) (he : ∀ i, IsReal (e i)) (hw : ∀ i, IsReal (w i)) (i) : IsReal (back e w i) :=
  IsReal.sum _ _ fun d _ => (he _).mul (hw _)

end Cert.FeedForward

end
-- ==== Proof.FeedForwardBlocks.lean ====
/-
  One grid point of each of the feed-forward calls: what it computes of its blocks, element by element, and where in
  its arrays the blocks lie.
-/
module

public import proofs.«01_k».proof.Proof.Gen.KernelFIdeal.Frame
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.FeedForward

@[expose] public section

set_option maxRecDepth 16384

noncomputable section

namespace Cert.KernelFIdeal.Run

open Idealize.ShloMosaic Idealize.ShloMosaic.TcCoe Cert.KernelFIdeal Cert.KernelFIdeal.Gen Cert.FeedForward
open Idealize.SL Idealize.SL.RA Idealize.SL.BI Idealize.SL.Sem
open Idealize.ShloMosaic.StableHlo Idealize.ShloMosaic.Tactic

/-! ## What a grid point computes -/

/-- Column `j` of two shards side by side. -/
def shards (v w : Vec Ideal S1x1024x384 .bf16) (d : Fin 1024) (j : Fin 768) : EReal :=
  if h : (j : ℕ) < 384 then v (ix3 0 d ⟨j, h⟩) else w (ix3 0 d ⟨j - 384, by omega⟩)

theorem pay0_2 (x : Vec Ideal S1024x1024 .f32) (v w : Vec Ideal S1x1024x384 .bf16) (r : Fin 1024) (j : Fin 768) :
    k0_pay2 (F := Ideal) x v w (ix2 r j) = ∑ d : Fin 1024, (x (ix2 r d) : EReal) * shards v w d j := by
  unfold k0_pay2 k0_pay1 shards
  pointwise

theorem pay0_3 (x : Vec Ideal S1024x1024 .f32) (v w : Vec Ideal S1x1024x384 .bf16) (r : Fin 1024) (j : Fin 768) :
    k0_pay3 (F := Ideal) x v w (ix2 r j) = ∑ d : Fin 1024, (x (ix2 r d) : EReal) * shards v w d j := by
  unfold k0_pay3 k0_pay1 shards
  pointwise

theorem pay0_4 (x : Vec Ideal S1024x1024 .f32) (v w : Vec Ideal S1x1024x384 .bf16) (i : S1024x768.Idx) :
    k0_pay4 (F := Ideal) x v w i = k0_pay2 (F := Ideal) x v w i := by
  unfold k0_pay4
  pointwise

theorem pay0_5 (x : Vec Ideal S1024x1024 .f32) (v w : Vec Ideal S1x1024x384 .bf16) (i : S1024x768.Idx) :
    k0_pay5 (F := Ideal) x v w i = k0_pay3 (F := Ideal) x v w i := by
  unfold k0_pay5
  pointwise

theorem pay0_6 (x : Vec Ideal S1024x1024 .f32) (v w v' w' : Vec Ideal S1x1024x384 .bf16) (i : S1024x768.Idx) :
    k0_pay6 (F := Ideal) x v w v' w' i
      = (k0_pay2 (F := Ideal) x v w i : EReal) * Ideal.logistic (k0_pay2 (F := Ideal) x v w i) * (k0_pay3 (F := Ideal) x v' w' i : EReal) := by
  unfold k0_pay6
  pointwise

theorem pay1_1 (x : Vec Ideal S1024x1024 .f32) (w : Vec Ideal S768x1024 .bf16) (r : Fin 1024) (j : Fin 768) :
    k1_pay1 (F := Ideal) x w (ix2 r j) = ∑ d : Fin 1024, (x (ix2 r d) : EReal) * (w (ix2 j d) : EReal) := by
  unfold k1_pay1
  pointwise

theorem pay1_4 (x : Vec Ideal S1024x1024 .f32) (w : Vec Ideal S768x1024 .bf16) (a b : Vec Ideal S1024x768 .bf16) (r : Fin 1024) (j : Fin 768) :
    k1_pay4 (F := Ideal) x w a b (ix2 r j)
      = (k1_pay1 (F := Ideal) x w (ix2 r j) : EReal) * (b (ix2 r j) : EReal) * Ideal.logistic (a (ix2 r j))
        * (1 + (a (ix2 r j) : EReal) * (1 - Ideal.logistic (a (ix2 r j)))) := by
  unfold k1_pay4 k1_pay3 k1_pay2
  pointwise

theorem pay1_5 (x : Vec Ideal S1024x1024 .f32) (w : Vec Ideal S768x1024 .bf16) (a : Vec Ideal S1024x768 .bf16) (r : Fin 1024) (j : Fin 768) :
    k1_pay5 (F := Ideal) x w a (ix2 r j)
      = (k1_pay1 (F := Ideal) x w (ix2 r j) : EReal) * (a (ix2 r j) : EReal) * Ideal.logistic (a (ix2 r j)) := by
  unfold k1_pay5 k1_pay3 k1_pay2
  pointwise

theorem pay2_2 (x : Vec Ideal S2048x1024 .f32) (y : Vec Ideal S2048x768 .bf16) (d : Fin 1024) (j : Fin 384) :
    k2_pay2 (F := Ideal) x y (ix4 0 0 d j) = ∑ r : Fin 2048, (x (ix2 r d) : EReal) * (y (ix2 r ⟨j, by omega⟩) : EReal) := by
  unfold k2_pay2 k2_pay1
  pointwise

theorem pay2_3 (x : Vec Ideal S2048x1024 .f32) (y : Vec Ideal S2048x768 .bf16) (d : Fin 1024) (j : Fin 384) :
    k2_pay3 (F := Ideal) x y (ix4 0 0 d j) = ∑ r : Fin 2048, (x (ix2 r d) : EReal) * (y (ix2 r ⟨384 + j, by omega⟩) : EReal) := by
  unfold k2_pay3 k2_pay1
  pointwise

theorem pay3_2 (x : Vec Ideal S2048x1024 .f32) (y : Vec Ideal S2048x768 .bf16) (d : Fin 1024) (j : Fin 384) :
    k3_pay2 (F := Ideal) x y (ix4 0 0 d j) = ∑ r : Fin 2048, (x (ix2 r d) : EReal) * (y (ix2 r ⟨j, by omega⟩) : EReal) := by
  unfold k3_pay2 k3_pay1
  pointwise

theorem pay3_3 (x : Vec Ideal S2048x1024 .f32) (y : Vec Ideal S2048x768 .bf16) (d : Fin 1024) (j : Fin 384) :
    k3_pay3 (F := Ideal) x y (ix4 0 0 d j) = ∑ r : Fin 2048, (x (ix2 r d) : EReal) * (y (ix2 r ⟨384 + j, by omega⟩) : EReal) := by
  unfold k3_pay3 k3_pay1
  pointwise

theorem pay4_1 (x : Vec Ideal S2048x384 .bf16) (y : Vec Ideal S2048x1024 .f32) (j : Fin 384) (d : Fin 1024) :
    k4_pay1 (F := Ideal) x y (ix4 0 0 j d) = ∑ r : Fin 2048, (x (ix2 r j) : EReal) * (y (ix2 r d) : EReal) := by
  unfold k4_pay1
  pointwise

/-! ## Where the blocks lie -/

theorem at0_0 : ∀ t : Fin cfg0.N, win0_0.index t = ![t.val / 4, 0] := (by decide +kernel : ∀ t : Fin grid0.N, _)
theorem at0_1 : ∀ t : Fin cfg0.N, win0_1.index t = ![t.val % 4, 0, 0] := (by decide +kernel : ∀ t : Fin grid0.N, _)
theorem at0_2 : ∀ t : Fin cfg0.N, win0_2.index t = ![t.val % 4, 0, 0] := (by decide +kernel : ∀ t : Fin grid0.N, _)
theorem at0_3 : ∀ t : Fin cfg0.N, win0_3.index t = ![t.val / 4, t.val % 4] := (by decide +kernel : ∀ t : Fin grid0.N, _)
theorem at0_4 : ∀ t : Fin cfg0.N, win0_4.index t = ![t.val / 4, t.val % 4] := (by decide +kernel : ∀ t : Fin grid0.N, _)
theorem at0_5 : ∀ t : Fin cfg0.N, win0_5.index t = ![t.val / 4, t.val % 4] := (by decide +kernel : ∀ t : Fin grid0.N, _)
theorem at1_0 : ∀ t : Fin cfg1.N, win1_0.index t = ![t.val / 4, 0] := (by decide +kernel : ∀ t : Fin grid1.N, _)
theorem at1_1 : ∀ t : Fin cfg1.N, win1_1.index t = ![t.val % 4, 0] := (by decide +kernel : ∀ t : Fin grid1.N, _)
theorem at1_2 : ∀ t : Fin cfg1.N, win1_2.index t = ![t.val / 4, t.val % 4] := (by decide +kernel : ∀ t : Fin grid1.N, _)
theorem at1_3 : ∀ t : Fin cfg1.N, win1_3.index t = ![t.val / 4, t.val % 4] := (by decide +kernel : ∀ t : Fin grid1.N, _)
theorem at1_4 : ∀ t : Fin cfg1.N, win1_4.index t = ![t.val / 4, t.val % 4] := (by decide +kernel : ∀ t : Fin grid1.N, _)
theorem at1_5 : ∀ t : Fin cfg1.N, win1_5.index t = ![t.val / 4, t.val % 4] := (by decide +kernel : ∀ t : Fin grid1.N, _)
theorem at2_0 : ∀ t : Fin cfg2.N, win2_0.index t = ![0, 0] := (by decide +kernel : ∀ t : Fin grid2.N, _)
theorem at2_1 : ∀ t : Fin cfg2.N, win2_1.index t = ![0, t.val] := (by decide +kernel : ∀ t : Fin grid2.N, _)
theorem at2_2 : ∀ t : Fin cfg2.N, win2_2.index t = ![0, t.val, 0, 0] := (by decide +kernel : ∀ t : Fin grid2.N, _)
theorem at3_0 : ∀ t : Fin cfg3.N, win3_0.index t = ![0, 0] := (by decide +kernel : ∀ t : Fin grid3.N, _)
theorem at3_1 : ∀ t : Fin cfg3.N, win3_1.index t = ![0, t.val] := (by decide +kernel : ∀ t : Fin grid3.N, _)
theorem at3_2 : ∀ t : Fin cfg3.N, win3_2.index t = ![0, t.val, 0, 0] := (by decide +kernel : ∀ t : Fin grid3.N, _)
theorem at4_0 : ∀ t : Fin cfg4.N, win4_0.index t = ![0, t.val] := (by decide +kernel : ∀ t : Fin grid4.N, _)
theorem at4_1 : ∀ t : Fin cfg4.N, win4_1.index t = ![0, 0] := (by decide +kernel : ∀ t : Fin grid4.N, _)
theorem at4_2 : ∀ t : Fin cfg4.N, win4_2.index t = ![t.val % 2, t.val / 2, 0, 0] := (by decide +kernel : ∀ t : Fin grid4.N, _)

theorem lt0 (t : Fin cfg0.N) : t.val < 8 := t.isLt
theorem lt1 (t : Fin cfg1.N) : t.val < 8 := t.isLt
theorem lt2 (t : Fin cfg2.N) : t.val < 4 := t.isLt
theorem lt3 (t : Fin cfg3.N) : t.val < 4 := t.isLt
theorem lt4 (t : Fin cfg4.N) : t.val < 8 := t.isLt

section
variable (V : (c : Dev nD) → (b : Ref sig .tc) → Buf (Elt Ideal) ((c : Thread nD τ).loc b)) (c : Dev nD)

theorem blk0_0 (t : Fin cfg0.N) (r d : Fin 1024) :
    iblk0 (F := Ideal) V c 0 t (ix2 r d) = V c main_arg0 (ix2 ⟨1024 * (t.val / 4) + r, by have := lt0 t; omega⟩ d) := by
  blk_simp [iblk0]
  congr 1
  blk_ext [at0_0]

theorem blk0_1 (t : Fin cfg0.N) (s : Fin 2) (d : Fin 1024) (j : Fin 384) :
    iblk0 (F := Ideal) V c 1 t (ix3 s d j) = V c main_v4 (ix3 ⟨2 * (t.val % 4) + s, by omega⟩ d j) := by
  blk_simp [iblk0]
  congr 1
  blk_ext [at0_1]

theorem blk0_2 (t : Fin cfg0.N) (s : Fin 2) (d : Fin 1024) (j : Fin 384) :
    iblk0 (F := Ideal) V c 2 t (ix3 s d j) = V c main_v9 (ix3 ⟨2 * (t.val % 4) + s, by omega⟩ d j) := by
  blk_simp [iblk0]
  congr 1
  blk_ext [at0_2]

theorem blk1_0 (t : Fin cfg1.N) (r d : Fin 1024) :
    iblk1 (F := Ideal) V c 0 t (ix2 r d) = V c main_arg4 (ix2 ⟨1024 * (t.val / 4) + r, by have := lt1 t; omega⟩ d) := by
  blk_simp [iblk1]
  congr 1
  blk_ext [at1_0]

theorem blk1_1 (t : Fin cfg1.N) (j : Fin 768) (d : Fin 1024) :
    iblk1 (F := Ideal) V c 1 t (ix2 j d) = V c main_v15 (ix2 ⟨768 * (t.val % 4) + j, by omega⟩ d) := by
  blk_simp [iblk1]
  congr 1
  blk_ext [at1_1]

theorem blk1_2 (t : Fin cfg1.N) (r : Fin 1024) (j : Fin 768) :
    iblk1 (F := Ideal) V c 2 t (ix2 r j)
      = V c main_v10_0 (ix2 ⟨1024 * (t.val / 4) + r, by have := lt1 t; omega⟩ ⟨768 * (t.val % 4) + j, by omega⟩) := by
  blk_simp [iblk1]
  congr 1
  blk_ext [at1_2]

theorem blk1_3 (t : Fin cfg1.N) (r : Fin 1024) (j : Fin 768) :
    iblk1 (F := Ideal) V c 3 t (ix2 r j)
      = V c main_v10_1 (ix2 ⟨1024 * (t.val / 4) + r, by have := lt1 t; omega⟩ ⟨768 * (t.val % 4) + j, by omega⟩) := by
  blk_simp [iblk1]
  congr 1
  blk_ext [at1_3]

theorem blk2_0 (t : Fin cfg2.N) (r : Fin 2048) (d : Fin 1024) :
    iblk2 (F := Ideal) V c 0 t (ix2 r d) = V c main_arg0 (ix2 r d) := by
  blk_simp [iblk2]
  congr 1
  blk_ext [at2_0]

theorem blk2_1 (t : Fin cfg2.N) (r : Fin 2048) (j : Fin 768) :
    iblk2 (F := Ideal) V c 1 t (ix2 r j) = V c main_v16_0 (ix2 r ⟨768 * t.val + j, by have := lt2 t; omega⟩) := by
  blk_simp [iblk2]
  congr 1
  blk_ext [at2_1]

theorem blk3_0 (t : Fin cfg3.N) (r : Fin 2048) (d : Fin 1024) :
    iblk3 (F := Ideal) V c 0 t (ix2 r d) = V c main_arg0 (ix2 r d) := by
  blk_simp [iblk3]
  congr 1
  blk_ext [at3_0]

theorem blk3_1 (t : Fin cfg3.N) (r : Fin 2048) (j : Fin 768) :
    iblk3 (F := Ideal) V c 1 t (ix2 r j) = V c main_v16_1 (ix2 r ⟨768 * t.val + j, by have := lt3 t; omega⟩) := by
  blk_simp [iblk3]
  congr 1
  blk_ext [at3_1]

theorem blk4_0 (t : Fin cfg4.N) (r : Fin 2048) (j : Fin 384) :
    iblk4 (F := Ideal) V c 0 t (ix2 r j) = V c main_v10_2 (ix2 r ⟨384 * t.val + j, by have := lt4 t; omega⟩) := by
  blk_simp [iblk4]
  congr 1
  blk_ext [at4_0]

theorem blk4_1 (t : Fin cfg4.N) (r : Fin 2048) (d : Fin 1024) :
    iblk4 (F := Ideal) V c 1 t (ix2 r d) = V c main_arg4 (ix2 r d) := by
  blk_simp [iblk4]
  congr 1
  blk_ext [at4_1]

end

theorem place0_3 (t : Fin cfg0.N) (r : Fin 1024) (j : Fin 768) : (win0_3.blk t).view.emb (ix2 r j)
    = (ix2 ⟨1024 * (t.val / 4) + r, by have := lt0 t; omega⟩ ⟨768 * (t.val % 4) + j, by omega⟩ : S2048x3072.Idx) := by
  blk_ext [at0_3]

theorem place0_4 (t : Fin cfg0.N) (r : Fin 1024) (j : Fin 768) : (win0_4.blk t).view.emb (ix2 r j)
    = (ix2 ⟨1024 * (t.val / 4) + r, by have := lt0 t; omega⟩ ⟨768 * (t.val % 4) + j, by omega⟩ : S2048x3072.Idx) := by
  blk_ext [at0_4]

theorem place0_5 (t : Fin cfg0.N) (r : Fin 1024) (j : Fin 768) : (win0_5.blk t).view.emb (ix2 r j)
    = (ix2 ⟨1024 * (t.val / 4) + r, by have := lt0 t; omega⟩ ⟨768 * (t.val % 4) + j, by omega⟩ : S2048x3072.Idx) := by
  blk_ext [at0_5]

theorem place1_4 (t : Fin cfg1.N) (r : Fin 1024) (j : Fin 768) : (win1_4.blk t).view.emb (ix2 r j)
    = (ix2 ⟨1024 * (t.val / 4) + r, by have := lt1 t; omega⟩ ⟨768 * (t.val % 4) + j, by omega⟩ : S2048x3072.Idx) := by
  blk_ext [at1_4]

theorem place1_5 (t : Fin cfg1.N) (r : Fin 1024) (j : Fin 768) : (win1_5.blk t).view.emb (ix2 r j)
    = (ix2 ⟨1024 * (t.val / 4) + r, by have := lt1 t; omega⟩ ⟨768 * (t.val % 4) + j, by omega⟩ : S2048x3072.Idx) := by
  blk_ext [at1_5]

theorem place2_2 (t : Fin cfg2.N) (s : Fin 2) (d : Fin 1024) (j : Fin 384) : (win2_2.blk t).view.emb (ix4 s 0 d j)
    = (ix4 s ⟨t.val, t.isLt⟩ d j : S2x4x1024x384.Idx) := by
  blk_ext [at2_2]

theorem place3_2 (t : Fin cfg3.N) (s : Fin 2) (d : Fin 1024) (j : Fin 384) : (win3_2.blk t).view.emb (ix4 s 0 d j)
    = (ix4 s ⟨t.val, t.isLt⟩ d j : S2x4x1024x384.Idx) := by
  blk_ext [at3_2]

theorem place4_2 (t : Fin cfg4.N) (j : Fin 384) (d : Fin 1024) : (win4_2.blk t).view.emb (ix4 0 0 j d)
    = (ix4 ⟨t.val % 2, by omega⟩ ⟨t.val / 2, by have := lt4 t; omega⟩ j d : S2x4x384x1024.Idx) := by
  blk_ext [at4_2]

end Cert.KernelFIdeal.Run

end
-- ==== Proof.FeedForwardArrays.lean ====
/-
  The arrays the feed-forward calls leave, each as a function of the arrays the call finds.
-/
module

public import proofs.«01_k».proof.Proof.FeedForwardBlocks

@[expose] public section

set_option maxRecDepth 16384

noncomputable section

namespace Cert.KernelFIdeal.Run

open Idealize.ShloMosaic Idealize.ShloMosaic.TcCoe Cert.KernelFIdeal Cert.KernelFIdeal.Gen Cert.FeedForward
open Idealize.SL Idealize.SL.RA Idealize.SL.BI Idealize.SL.Sem
open Idealize.ShloMosaic.StableHlo Idealize.ShloMosaic.Tactic

/-! ## What a grid point leaves in its output blocks -/

/-- Column `j` of a block's two shards. -/
def side (x : Vec Ideal S2x1024x384 .bf16) (d : Fin 1024) (j : Fin 768) : EReal :=
  x (ix3 ⟨(j : ℕ) / 384, by omega⟩ d ⟨(j : ℕ) % 384, by omega⟩)

theorem shards_ld (x : Vec Ideal S2x1024x384 .bf16) (d : Fin 1024) (j : Fin 768) :
    shards (View.ld x r0_1) (View.ld x r0_2) d j = side x d j := by
  unfold shards side
  split
  · pointwise
    congr 2 <;> first | rfl | (apply Fin.ext; simp; omega)
  · pointwise
    congr 2 <;> first | rfl | (apply Fin.ext; simp; omega)

/-- A row of a block times a column of its shards. -/
def dotSide (x0 : Vec Ideal S1024x1024 .f32) (x : Vec Ideal S2x1024x384 .bf16) (r : Fin 1024) (j : Fin 768) : EReal :=
  ∑ d : Fin 1024, (x0 (ix2 r d) : EReal) * side x d j

theorem out0_3_at (x0 : Vec Ideal S1024x1024 .f32) (x1 x2 : Vec Ideal S2x1024x384 .bf16) (r : Fin 1024) (j : Fin 768) :
    out0_3 (F := Ideal) x0 x1 x2 (ix2 r j) = dotSide x0 x1 r j := by
  unfold out0_3 dotSide
  frame_out
  rw [pay0_4, pay0_2]
  simp only [shards_ld]

theorem out0_4_at (x0 : Vec Ideal S1024x1024 .f32) (x1 x2 : Vec Ideal S2x1024x384 .bf16) (r : Fin 1024) (j : Fin 768) :
    out0_4 (F := Ideal) x0 x1 x2 (ix2 r j) = dotSide x0 x2 r j := by
  unfold out0_4 dotSide
  frame_out
  rw [pay0_5, pay0_3]
  simp only [shards_ld]

theorem out0_5_at (x0 : Vec Ideal S1024x1024 .f32) (x1 x2 : Vec Ideal S2x1024x384 .bf16) (r : Fin 1024) (j : Fin 768) :
    out0_5 (F := Ideal) x0 x1 x2 (ix2 r j) = dotSide x0 x1 r j * Ideal.logistic (dotSide x0 x1 r j) * dotSide x0 x2 r j := by
  unfold out0_5 dotSide
  frame_out
  rw [pay0_6, pay0_2, pay0_3]
  simp only [shards_ld]

/-- A row of a block times a row of another. -/
def dotRows (x0 : Vec Ideal S1024x1024 .f32) (x1 : Vec Ideal S768x1024 .bf16) (r : Fin 1024) (j : Fin 768) : EReal :=
  ∑ d : Fin 1024, (x0 (ix2 r d) : EReal) * (x1 (ix2 j d) : EReal)

theorem out1_4_at (x0 : Vec Ideal S1024x1024 .f32) (x1 : Vec Ideal S768x1024 .bf16) (x2 x3 : Vec Ideal S1024x768 .bf16) (r : Fin 1024) (j : Fin 768) :
    out1_4 (F := Ideal) x0 x1 x2 x3 (ix2 r j)
      = dotRows x0 x1 r j * (x3 (ix2 r j) : EReal) * Ideal.logistic (x2 (ix2 r j))
        * (1 + (x2 (ix2 r j) : EReal) * (1 - Ideal.logistic (x2 (ix2 r j)))) := by
  unfold out1_4 dotRows
  frame_out
  rw [pay1_4, pay1_1]

theorem out1_5_at (x0 : Vec Ideal S1024x1024 .f32) (x1 : Vec Ideal S768x1024 .bf16) (x2 x3 : Vec Ideal S1024x768 .bf16) (r : Fin 1024) (j : Fin 768) :
    out1_5 (F := Ideal) x0 x1 x2 x3 (ix2 r j)
      = dotRows x0 x1 r j * (x2 (ix2 r j) : EReal) * Ideal.logistic (x2 (ix2 r j)) := by
  unfold out1_5 dotRows
  frame_out
  rw [pay1_5, pay1_1]

/-- Column `j` of shard `s` of a weight's gradient, from the block of the two. -/
def shardGrad (x0 : Vec Ideal S2048x1024 .f32) (x1 : Vec Ideal S2048x768 .bf16) (s : Fin 2) (d : Fin 1024) (j : Fin 384) : EReal :=
  ∑ r : Fin 2048, (x0 (ix2 r d) : EReal) * (x1 (ix2 r ⟨384 * s + j, by omega⟩) : EReal)

/-- A block of a weight's gradient: the two shards. -/
def shardsGrad (x0 : Vec Ideal S2048x1024 .f32) (x1 : Vec Ideal S2048x768 .bf16) : Vec Ideal S2x1x1024x384 .bf16 := fun i =>
  shardGrad x0 x1 (i 0) (i 2) (i 3)

theorem idx_shards {o : ℕ} (inb) (s : Fin 2) (d : Fin 1024) (j : Fin 384) (h : o = s) :
    (Rect.unit (s := S2x1x1024x384) ![o, 0, 0, 0] S1x1x1024x384.size inb).emb (ix4 0 0 d j) = ix4 s 0 d j := by
  refine funext fun k => Fin.ext ?_
  fin_cases k
  · show o + 1 * 0 = (s : ℕ)
    omega
  · rfl
  · show 0 + 1 * (d : ℕ) = d
    omega
  · show 0 + 1 * (j : ℕ) = j
    omega

theorem shard_fst (x0 : Vec Ideal S2048x1024 .f32) (x1 : Vec Ideal S2048x768 .bf16) (d : Fin 1024) (j : Fin 384) :
    (∑ r : Fin 2048, (x0 (ix2 r d) : EReal) * (x1 (ix2 r ⟨j, by omega⟩) : EReal)) = shardGrad x0 x1 0 d j := by
  unfold shardGrad
  refine Finset.sum_congr rfl fun r _ => congrArg (HMul.hMul (α := EReal) _) (congrArg (fun k => x1 (ix2 r k)) (Fin.ext ?_))
  show (j : ℕ) = 384 * 0 + j
  omega

theorem shard_snd (x0 : Vec Ideal S2048x1024 .f32) (x1 : Vec Ideal S2048x768 .bf16) (d : Fin 1024) (j : Fin 384) :
    (∑ r : Fin 2048, (x0 (ix2 r d) : EReal) * (x1 (ix2 r ⟨384 + j, by omega⟩) : EReal)) = shardGrad x0 x1 1 d j := by
  unfold shardGrad
  refine Finset.sum_congr rfl fun r _ => congrArg (HMul.hMul (α := EReal) _) (congrArg (fun k => x1 (ix2 r k)) (Fin.ext ?_))
  show 384 + (j : ℕ) = 384 * 1 + j
  omega

theorem idx4_eq (x : S1x1x1024x384.Idx) : ∃ (d : Fin 1024) (j : Fin 384), x = ix4 0 0 d j := by
  refine ⟨x 2, x 3, funext fun k => ?_⟩
  fin_cases k
  · exact Fin.ext (by have : (x 0 : ℕ) < 1 := (x 0).isLt; show (x 0 : ℕ) = 0; omega)
  · exact Fin.ext (by have : (x 1 : ℕ) < 1 := (x 1).isLt; show (x 1 : ℕ) = 0; omega)
  · rfl
  · rfl

theorem out2_2_at (x0 : Vec Ideal S2048x1024 .f32) (x1 : Vec Ideal S2048x768 .bf16) (y : S2x1x1024x384.Idx) :
    out2_2 (F := Ideal) x0 x1 y = shardsGrad x0 x1 y := by
  unfold out2_2
  frame_out
  refine View.canon_apply_of_pieces (Val := Elt Ideal) (e := .bf16) (shardsGrad x0 x1) _ (fun p hp x => ?_) _ (cover2_2 _ _ _)
  rcases List.mem_cons.mp hp with rfl | hp
  · obtain ⟨d, j, rfl⟩ := idx4_eq x
    exact (pay2_3 x0 x1 d j).trans ((shard_snd x0 x1 d j).trans (congrArg (shardsGrad x0 x1) (idx_shards inb_S2x1x1024x384_S1x1x1024x384_1_0_0_0 1 d j rfl)).symm)
  · obtain rfl := List.mem_singleton.mp hp
    obtain ⟨d, j, rfl⟩ := idx4_eq x
    exact (pay2_2 x0 x1 d j).trans ((shard_fst x0 x1 d j).trans (congrArg (shardsGrad x0 x1) (idx_shards inb_S2x1x1024x384_S1x1x1024x384_0_0_0_0 0 d j rfl)).symm)

theorem out3_2_at (x0 : Vec Ideal S2048x1024 .f32) (x1 : Vec Ideal S2048x768 .bf16) (y : S2x1x1024x384.Idx) :
    out3_2 (F := Ideal) x0 x1 y = shardsGrad x0 x1 y := by
  unfold out3_2
  frame_out
  refine View.canon_apply_of_pieces (Val := Elt Ideal) (e := .bf16) (shardsGrad x0 x1) _ (fun p hp x => ?_) _ (cover3_2 _ _ _)
  rcases List.mem_cons.mp hp with rfl | hp
  · obtain ⟨d, j, rfl⟩ := idx4_eq x
    exact (pay3_3 x0 x1 d j).trans ((shard_snd x0 x1 d j).trans (congrArg (shardsGrad x0 x1) (idx_shards inb_S2x1x1024x384_S1x1x1024x384_1_0_0_0 1 d j rfl)).symm)
  · obtain rfl := List.mem_singleton.mp hp
    obtain ⟨d, j, rfl⟩ := idx4_eq x
    exact (pay3_2 x0 x1 d j).trans ((shard_fst x0 x1 d j).trans (congrArg (shardsGrad x0 x1) (idx_shards inb_S2x1x1024x384_S1x1x1024x384_0_0_0_0 0 d j rfl)).symm)

theorem out4_2_at (x0 : Vec Ideal S2048x384 .bf16) (x1 : Vec Ideal S2048x1024 .f32) (j : Fin 384) (d : Fin 1024) :
    out4_2 (F := Ideal) x0 x1 (ix4 0 0 j d) = ∑ r : Fin 2048, (x0 (ix2 r j) : EReal) * (x1 (ix2 r d) : EReal) := by
  unfold out4_2
  frame_out
  exact pay4_1 x0 x1 j d

/-! ## The arrays -/

theorem mat_idx {A B : ℕ} (y : (⟨2, ![A, B]⟩ : Shape).Idx) : ∃ (r : Fin A) (j : Fin B), y = ix2 r j :=
  ⟨y 0, y 1, by funext k; fin_cases k <;> rfl⟩

section
variable (V : (c : Dev nD) → (b : Ref sig .tc) → Buf (Elt Ideal) ((c : Thread nD τ).loc b)) (c : Dev nD)

section
variable (h : Mat 2048 1024) (g u : Mat 1024 3072) (hh : V c main_arg0 = h)
  (hg : ∀ (s : Fin 8) (d : Fin 1024) (j : Fin 384), V c main_v4 (ix3 s d j) = g (ix2 d (col s j)))
  (hu : ∀ (s : Fin 8) (d : Fin 1024) (j : Fin 384), V c main_v9 (ix3 s d j) = u (ix2 d (col s j)))

include hh hg in
theorem tile_a (t : Fin cfg0.N) (r : Fin 1024) (j : Fin 768) : dotSide (iblk0 V c 0 t) (iblk0 V c 1 t) r j
    = up h g (ix2 ⟨1024 * (t.val / 4) + r, by have := lt0 t; omega⟩ ⟨768 * (t.val % 4) + j, by omega⟩) := by
  subst hh
  refine Finset.sum_congr rfl fun d _ => congrArg₂ (HMul.hMul (α := EReal)) (blk0_0 V c t r d) ?_
  refine ((blk0_1 V c t _ d _).trans (hg _ d _)).trans (congrArg (fun k => g (ix2 d k)) (Fin.ext ?_))
  show 384 * (2 * (t.val % 4) + (j : ℕ) / 384) + (j : ℕ) % 384 = 768 * (t.val % 4) + j
  omega

include hh hu in
theorem tile_b (t : Fin cfg0.N) (r : Fin 1024) (j : Fin 768) : dotSide (iblk0 V c 0 t) (iblk0 V c 2 t) r j
    = up h u (ix2 ⟨1024 * (t.val / 4) + r, by have := lt0 t; omega⟩ ⟨768 * (t.val % 4) + j, by omega⟩) := by
  subst hh
  refine Finset.sum_congr rfl fun d _ => congrArg₂ (HMul.hMul (α := EReal)) (blk0_0 V c t r d) ?_
  refine ((blk0_2 V c t _ d _).trans (hu _ d _)).trans (congrArg (fun k => u (ix2 d k)) (Fin.ext ?_))
  show 384 * (2 * (t.val % 4) + (j : ℕ) / 384) + (j : ℕ) % 384 = 768 * (t.val % 4) + j
  omega

include hh hg in
theorem arr_a : (dat0 V c).arrAt 3 cfg0.N = up h g := by
  refine (dat0 V c).arrAt_eq_of_covers 3 _ (by decide +kernel) fun t hf y => ?_
  blk_simp
  rw [after0_3]
  obtain ⟨r, j, rfl⟩ : ∃ (r : Fin 1024) (j : Fin 768), y = ix2 r j := mat_idx y
  exact ((out0_3_at _ _ _ r j).trans (tile_a V c h g hh hg t r j)).trans (congrArg _ (place0_3 t r j).symm)

include hh hu in
theorem arr_b : (dat0 V c).arrAt 4 cfg0.N = up h u := by
  refine (dat0 V c).arrAt_eq_of_covers 4 _ (by decide +kernel) fun t hf y => ?_
  blk_simp
  rw [after0_4]
  obtain ⟨r, j, rfl⟩ : ∃ (r : Fin 1024) (j : Fin 768), y = ix2 r j := mat_idx y
  exact ((out0_4_at _ _ _ r j).trans (tile_b V c h u hh hu t r j)).trans (congrArg _ (place0_4 t r j).symm)

include hh hg hu in
theorem arr_f : (dat0 V c).arrAt 5 cfg0.N = hidden (up h g) (up h u) := by
  refine (dat0 V c).arrAt_eq_of_covers 5 _ (by decide +kernel) fun t hf y => ?_
  blk_simp
  rw [after0_5]
  obtain ⟨r, j, rfl⟩ : ∃ (r : Fin 1024) (j : Fin 768), y = ix2 r j := mat_idx y
  refine ((out0_5_at _ _ _ r j).trans ?_).trans (congrArg _ (place0_5 t r j).symm)
  rw [tile_a V c h g hh hg t r j, tile_b V c h u hh hu t r j]
  rfl

end

section
variable (e : Mat 2048 1024) (w : Mat 3072 1024) (a b : Mat 2048 3072) (he : V c main_arg4 = e) (hw : V c main_v15 = w)
  (ha : V c main_v10_0 = a) (hb : V c main_v10_1 = b)

include he hw in
theorem tile_back (t : Fin cfg1.N) (r : Fin 1024) (j : Fin 768) :
    dotRows (iblk1 V c 0 t) (iblk1 V c 1 t) r j
      = back e w (ix2 ⟨1024 * (t.val / 4) + r, by have := lt1 t; omega⟩ ⟨768 * (t.val % 4) + j, by omega⟩) := by
  subst he hw
  exact Finset.sum_congr rfl fun d _ => congrArg₂ (HMul.hMul (α := EReal)) (blk1_0 V c t r d) (blk1_1 V c t j d)

include he hw ha hb in
theorem arr_da : (dat1 V c).arrAt 4 cfg1.N = atGate (back e w) a b := by
  refine (dat1 V c).arrAt_eq_of_covers 4 _ (by decide +kernel) fun t hf y => ?_
  blk_simp
  rw [after1_4]
  obtain ⟨r, j, rfl⟩ : ∃ (r : Fin 1024) (j : Fin 768), y = ix2 r j := mat_idx y
  refine ((out1_4_at _ _ _ _ r j).trans ?_).trans (congrArg _ (place1_4 t r j).symm)
  rw [tile_back V c e w he hw t r j, blk1_2, blk1_3, ha, hb]
  rfl

include he hw ha in
theorem arr_db : (dat1 V c).arrAt 5 cfg1.N = atUp (back e w) a := by
  refine (dat1 V c).arrAt_eq_of_covers 5 _ (by decide +kernel) fun t hf y => ?_
  blk_simp
  rw [after1_5]
  obtain ⟨r, j, rfl⟩ : ∃ (r : Fin 1024) (j : Fin 768), y = ix2 r j := mat_idx y
  refine ((out1_5_at _ _ _ _ r j).trans ?_).trans (congrArg _ (place1_5 t r j).symm)
  rw [tile_back V c e w he hw t r j, blk1_2, ha]
  rfl

end

/-- A weight's gradient as the devices of the two halves hold it: shard `2 t + s` at `(s, t)`. -/
def byShard (x : Mat 1024 3072) : S2x4x1024x384.Idx → EReal := fun i =>
  x (ix2 (i 2) ⟨384 * (2 * (i 1 : ℕ) + (i 0 : ℕ)) + (i 3 : ℕ), by
    have h0 : (i 0 : ℕ) < 2 := (i 0).isLt
    have h1 : (i 1 : ℕ) < 4 := (i 1).isLt
    have h3 : (i 3 : ℕ) < 384 := (i 3).isLt
    omega⟩)

/-- The same of the down-going weight's, whose shards are rows. -/
def byRows (x : Mat 3072 1024) : S2x4x384x1024.Idx → EReal := fun i =>
  x (ix2 ⟨384 * (2 * (i 1 : ℕ) + (i 0 : ℕ)) + (i 2 : ℕ), by
    have h0 : (i 0 : ℕ) < 2 := (i 0).isLt
    have h1 : (i 1 : ℕ) < 4 := (i 1).isLt
    have h2 : (i 2 : ℕ) < 384 := (i 2).isLt
    omega⟩ (i 3))

theorem byShard_at (h : Mat 2048 1024) (x : Mat 2048 3072) (s : Fin 2) (t : Fin 4) (d : Fin 1024) (j : Fin 384) :
    byShard (colsGrad h x) (ix4 s t d j)
      = ∑ r : Fin 2048, h (ix2 r d) * x (ix2 r ⟨384 * (2 * (t : ℕ) + (s : ℕ)) + j, by omega⟩) := rfl

theorem byRows_at (x : Mat 2048 3072) (e : Mat 2048 1024) (s : Fin 2) (t : Fin 4) (j : Fin 384) (d : Fin 1024) :
    byRows (rowsGrad x e) (ix4 s t j d)
      = ∑ r : Fin 2048, x (ix2 r ⟨384 * (2 * (t : ℕ) + (s : ℕ)) + j, by omega⟩) * e (ix2 r d) := rfl

theorem shardsGrad_at (x0 : Vec Ideal S2048x1024 .f32) (x1 : Vec Ideal S2048x768 .bf16) (s : Fin 2) (d : Fin 1024) (j : Fin 384) :
    shardsGrad x0 x1 (ix4 s 0 d j) = ∑ r : Fin 2048, (x0 (ix2 r d) : EReal) * (x1 (ix2 r ⟨384 * s + j, by omega⟩) : EReal) := rfl

theorem blk_idx (y : S2x1x1024x384.Idx) : ∃ (s : Fin 2) (d : Fin 1024) (j : Fin 384), y = ix4 s 0 d j := by
  refine ⟨y 0, y 2, y 3, funext fun k => ?_⟩
  fin_cases k
  · rfl
  · exact Fin.ext (by have : (y 1 : ℕ) < 1 := (y 1).isLt; show (y 1 : ℕ) = 0; omega)
  · rfl
  · rfl

theorem row_idx (y : S1x1x384x1024.Idx) : ∃ (j : Fin 384) (d : Fin 1024), y = ix4 0 0 j d := by
  refine ⟨y 2, y 3, funext fun k => ?_⟩
  fin_cases k
  · exact Fin.ext (by have : (y 0 : ℕ) < 1 := (y 0).isLt; show (y 0 : ℕ) = 0; omega)
  · exact Fin.ext (by have : (y 1 : ℕ) < 1 := (y 1).isLt; show (y 1 : ℕ) = 0; omega)
  · rfl
  · rfl

theorem arr_gate (h : Mat 2048 1024) (x : Mat 2048 3072) (hh : V c main_arg0 = h) (hx : V c main_v16_0 = x) :
    (dat2 V c).arrAt 2 cfg2.N = byShard (colsGrad h x) := by
  subst hh hx
  refine (dat2 V c).arrAt_eq_of_covers 2 _ (by decide +kernel) fun t hf y => ?_
  blk_simp
  rw [after2_2]
  obtain ⟨s, d, j, rfl⟩ : ∃ (s : Fin 2) (d : Fin 1024) (j : Fin 384), y = ix4 s 0 d j := blk_idx y
  refine ((out2_2_at _ _ _).trans ((shardsGrad_at _ _ s d j).trans (Eq.trans ?_ (byShard_at _ _ s ⟨t.val, t.isLt⟩ d j).symm))).trans (congrArg _ (place2_2 t s d j).symm)
  refine Finset.sum_congr rfl fun r _ => congrArg₂ (HMul.hMul (α := EReal)) (blk2_0 V c t r d) ((blk2_1 V c t r _).trans ?_)
  exact congrArg (fun k => V c main_v16_0 (ix2 r k)) (Fin.ext (show 768 * t.val + (384 * (s : ℕ) + j) = 384 * (2 * t.val + s) + j by omega))

theorem arr_up (h : Mat 2048 1024) (x : Mat 2048 3072) (hh : V c main_arg0 = h) (hx : V c main_v16_1 = x) :
    (dat3 V c).arrAt 2 cfg3.N = byShard (colsGrad h x) := by
  subst hh hx
  refine (dat3 V c).arrAt_eq_of_covers 2 _ (by decide +kernel) fun t hf y => ?_
  blk_simp
  rw [after3_2]
  obtain ⟨s, d, j, rfl⟩ : ∃ (s : Fin 2) (d : Fin 1024) (j : Fin 384), y = ix4 s 0 d j := blk_idx y
  refine ((out3_2_at _ _ _).trans ((shardsGrad_at _ _ s d j).trans (Eq.trans ?_ (byShard_at _ _ s ⟨t.val, t.isLt⟩ d j).symm))).trans (congrArg _ (place3_2 t s d j).symm)
  refine Finset.sum_congr rfl fun r _ => congrArg₂ (HMul.hMul (α := EReal)) (blk3_0 V c t r d) ((blk3_1 V c t r _).trans ?_)
  exact congrArg (fun k => V c main_v16_1 (ix2 r k)) (Fin.ext (show 768 * t.val + (384 * (s : ℕ) + j) = 384 * (2 * t.val + s) + j by omega))

theorem arr_down (f : Mat 2048 3072) (e : Mat 2048 1024) (hf : V c main_v10_2 = f) (he : V c main_arg4 = e) :
    (dat4 V c).arrAt 2 cfg4.N = byRows (rowsGrad f e) := by
  subst hf he
  refine (dat4 V c).arrAt_eq_of_covers 2 _ (by decide +kernel) fun t hf y => ?_
  blk_simp
  rw [after4_2]
  obtain ⟨j, d, rfl⟩ : ∃ (j : Fin 384) (d : Fin 1024), y = ix4 0 0 j d := row_idx y
  refine ((out4_2_at _ _ j d).trans (Eq.trans ?_ (byRows_at _ _ ⟨t.val % 2, by omega⟩ ⟨t.val / 2, by have := lt4 t; omega⟩ j d).symm)).trans (congrArg _ (place4_2 t j d).symm)
  refine Finset.sum_congr rfl fun r _ => congrArg₂ (HMul.hMul (α := EReal)) ((blk4_0 V c t r j).trans ?_) (blk4_1 V c t r d)
  exact congrArg (fun k => V c main_v10_2 (ix2 r k)) (Fin.ext (show 384 * t.val + (j : ℕ) = 384 * (2 * (t.val / 2) + t.val % 2) + j by omega))

end

end Cert.KernelFIdeal.Run

end
-- ==== Proof.FeedForwardHost.lean ====
/-
  What the host's operations before and after the feed-forward calls make: the weights laid out in shards, and the
  gradients out of their shards.
-/
module

public import proofs.«01_k».proof.Proof.FeedForwardArrays

@[expose] public section

set_option maxRecDepth 16384

noncomputable section

namespace Cert.KernelFIdeal.Run

open Idealize.ShloMosaic Idealize.ShloMosaic.TcCoe Cert.KernelFIdeal Cert.KernelFIdeal.Gen Cert.FeedForward
open Idealize.SL Idealize.SL.RA Idealize.SL.BI Idealize.SL.Sem
open Idealize.ShloMosaic.StableHlo Idealize.ShloMosaic.Tactic

variable (V : Valuation τ sig (Elt Ideal))

/-- The gate's weight, in shards. -/
theorem host_gate (s : Fin 8) (d : Fin 1024) (j : Fin 384) :
    after hostOps0 V (Proc.devRef .tc main_v4) (ix3 s d j) = wideC (V (Proc.devRef .tc main_arg1)) (ix2 d (col s j)) := by
  after_reads_simp
  pointwise
  have hm : (384 * (s : ℕ) + j) % 384 = j := by omega
  unfold wideC
  split
  · next hj =>
    refine Eq.trans ?_ (dif_pos (show (384 * (s : ℕ) + j) % 384 < 352 by omega)).symm
    after_reads_simp
    pointwise
    refine congrArg (fun k => V (Proc.devRef .tc main_arg1) (ix2 d k)) (Fin.ext ?_)
    show (s : ℕ) * 352 + j = 352 * ((384 * (s : ℕ) + j) / 384) + (384 * (s : ℕ) + j) % 384
    omega
  · next hj =>
    refine Eq.trans ?_ (dif_neg (show ¬ (384 * (s : ℕ) + j) % 384 < 352 by omega)).symm
    after_reads_simp
    pointwise

/-- The other up-going weight, in shards. -/
theorem host_up (s : Fin 8) (d : Fin 1024) (j : Fin 384) :
    after hostOps0 V (Proc.devRef .tc main_v9) (ix3 s d j) = wideC (V (Proc.devRef .tc main_arg2)) (ix2 d (col s j)) := by
  after_reads_simp
  pointwise
  have hm : (384 * (s : ℕ) + j) % 384 = j := by omega
  unfold wideC
  split
  · next hj =>
    refine Eq.trans ?_ (dif_pos (show (384 * (s : ℕ) + j) % 384 < 352 by omega)).symm
    after_reads_simp
    pointwise
    refine congrArg (fun k => V (Proc.devRef .tc main_arg2) (ix2 d k)) (Fin.ext ?_)
    show (s : ℕ) * 352 + j = 352 * ((384 * (s : ℕ) + j) / 384) + (384 * (s : ℕ) + j) % 384
    omega
  · next hj =>
    refine Eq.trans ?_ (dif_neg (show ¬ (384 * (s : ℕ) + j) % 384 < 352 by omega)).symm
    after_reads_simp
    pointwise

/-- The down-going weight, in shards. -/
theorem host_down : after hostOps1 V (Proc.devRef .tc main_v15) = wideR (V (Proc.devRef .tc main_arg3)) := by
  funext i
  idx_vars i
  after_reads_simp
  pointwise
  unfold wideR
  split
  · next hj =>
    refine Eq.trans ?_ (dif_pos hj).symm
    after_reads_simp
    pointwise
    refine congrArg (fun k => V (Proc.devRef .tc main_arg3) (ix2 k i1)) (Fin.ext ?_)
    show (i0 : ℕ) / 384 * 352 + (i0 : ℕ) % 384 = 352 * ((i0 : ℕ) / 384) + (i0 : ℕ) % 384
    omega
  · next hj =>
    refine Eq.trans ?_ (dif_neg hj).symm
    after_reads_simp
    pointwise

/-- The gate's weight's gradient, out of its shards. -/
theorem out_gate (x : Mat 1024 3072) (h : V (Proc.devRef .tc main_v17) = byShard x) (d : Fin 1024) (j : Fin 2816) :
    after hostOps5 V (Proc.devRef .tc main_v23) (ix2 d j) = x (ix2 d (pos j)) := by
  after_reads_simp
  pointwise
  rw [h]
  refine congrArg (fun k => x (ix2 d k)) (Fin.ext ?_)
  show 384 * (2 * ((j : ℕ) / 704) + (j : ℕ) / 352 % 2) + (j : ℕ) % 352 = 384 * ((j : ℕ) / 352) + (j : ℕ) % 352
  omega

/-- The other up-going weight's gradient, out of its shards. -/
theorem out_up (x : Mat 1024 3072) (h : V (Proc.devRef .tc main_v18) = byShard x) (d : Fin 1024) (j : Fin 2816) :
    after hostOps5 V (Proc.devRef .tc main_v27) (ix2 d j) = x (ix2 d (pos j)) := by
  after_reads_simp
  pointwise
  rw [h]
  refine congrArg (fun k => x (ix2 d k)) (Fin.ext ?_)
  show 384 * (2 * ((j : ℕ) / 704) + (j : ℕ) / 352 % 2) + (j : ℕ) % 352 = 384 * ((j : ℕ) / 352) + (j : ℕ) % 352
  omega

/-- The down-going weight's gradient, out of its shards. -/
theorem out_down (x : Mat 3072 1024) (h : V (Proc.devRef .tc main_v19) = byRows x) (j : Fin 2816) (d : Fin 1024) :
    after hostOps5 V (Proc.devRef .tc main_v31) (ix2 j d) = x (ix2 (pos j) d) := by
  after_reads_simp
  pointwise
  rw [h]
  refine congrArg (fun k => x (ix2 k d)) (Fin.ext ?_)
  show 384 * (2 * ((j : ℕ) / 704) + (j : ℕ) / 352 % 2) + (j : ℕ) % 352 = 384 * ((j : ℕ) / 352) + (j : ℕ) % 352
  omega

end Cert.KernelFIdeal.Run

end
-- ==== Proof.FeedForwardRun.lean ====
/-
  The feed-forward program's run: its results end at the contents the last host stretch leaves, its arguments as launched.
-/
module

public import proofs.«01_k».proof.Proof.Gen.KernelFIdeal.Frame

@[expose] public section

set_option maxRecDepth 16384

noncomputable section

namespace Cert.KernelFIdeal.Run

open Cert.KernelFIdeal Cert.KernelFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The resources of this program. -/
local notation "𝕄" => MT nD τ sig Unit (Elt F) ℕ (UR sig nD τ) ℕ

set_option backward.isDefEq.respectTransparency.types false in
/-- Every result at what the program's stretches and regions leave in it, every argument unchanged. -/
theorem run : θ_run defs (onTc (τ := τ) (main (F := F))) ⟨m, fun _ => 0, ρ⟩ (fun r => ∀ c : Dev nD,
      r.2.mem ((c.tc : Thread nD τ).loc main_v23) = W8 m ρ c (Proc.devRef .tc main_v23)
      ∧ r.2.mem ((c.tc : Thread nD τ).loc main_v27) = W8 m ρ c (Proc.devRef .tc main_v27)
      ∧ r.2.mem ((c.tc : Thread nD τ).loc main_v31) = W8 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨h c _ (mem_uc main_v23 (by decide)),
       h c _ (mem_uc main_v27 (by decide)),
       h c _ (mem_uc main_v31 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelFIdeal.Run

end
-- ==== Proof.FeedForwardKernel.lean ====
/-
  The feed-forward program's results: the three weights' gradients, each a function of the arguments. The arrays are
  followed from call to call.
-/
module

public import proofs.«01_k».proof.Proof.FeedForwardHost
public import proofs.«01_k».proof.Proof.FeedForwardRun

@[expose] public section

set_option maxRecDepth 16384

noncomputable section

namespace Cert.KernelFIdeal.Run

open Idealize.ShloMosaic Idealize.ShloMosaic.TcCoe Cert.KernelFIdeal Cert.KernelFIdeal.Gen Cert.FeedForward
open Idealize.SL.Sem

variable (m : (ℓ : Loc nD τ sig) → Buf (Elt Ideal) ℓ) (ρ : Dev nD → PrngReg) (c : Dev nD)

/-- The arguments on a device. -/
abbrev hArg : Mat 2048 1024 := m ((c.tc : Thread nD τ).loc main_arg0)
abbrev gArg : Mat 1024 2816 := m ((c.tc : Thread nD τ).loc main_arg1)
abbrev uArg : Mat 1024 2816 := m ((c.tc : Thread nD τ).loc main_arg2)
abbrev dArg : Mat 2816 1024 := m ((c.tc : Thread nD τ).loc main_arg3)
abbrev eArg : Mat 2048 1024 := m ((c.tc : Thread nD τ).loc main_arg4)

/-- The two products going up, the hidden values, and the arriving gradient through the product going down, at the wide layout. -/
abbrev wideA : Mat 2048 3072 := up (hArg m c) (wideC (gArg m c))
abbrev wideB : Mat 2048 3072 := up (hArg m c) (wideC (uArg m c))
abbrev wideF : Mat 2048 3072 := hidden (wideA m c) (wideB m c)
abbrev wideBack : Mat 2048 3072 := back (eArg m c) (wideR (dArg m c))

/-! ## What the first call leaves -/

theorem at_a : W2 m ρ c (Proc.devRef .tc main_v10_0) = wideA m c :=
  (W2_arr m ρ c 3).trans (arr_a (V1 m ρ) c (hArg m c) (wideC (gArg m c)) (W1_args m ρ c main_arg0 (by decide)) fun s d j => host_gate (W0 m ρ c) s d j)

theorem at_b : W2 m ρ c (Proc.devRef .tc main_v10_1) = wideB m c :=
  (W2_arr m ρ c 4).trans (arr_b (V1 m ρ) c (hArg m c) (wideC (uArg m c)) (W1_args m ρ c main_arg0 (by decide)) fun s d j => host_up (W0 m ρ c) s d j)

theorem at_f : W2 m ρ c (Proc.devRef .tc main_v10_2) = wideF m c :=
  (W2_arr m ρ c 5).trans (arr_f (V1 m ρ) c (hArg m c) (wideC (gArg m c)) (wideC (uArg m c)) (W1_args m ρ c main_arg0 (by decide))
    (fun s d j => host_gate (W0 m ρ c) s d j) fun s d j => host_up (W0 m ρ c) s d j)

/-! ## What the second call reads and leaves -/

theorem in_a : V3 m ρ c main_v10_0 = wideA m c := (W3_of m ρ c main_v10_0 (by decide)).trans (at_a m ρ c)

theorem in_b : V3 m ρ c main_v10_1 = wideB m c := (W3_of m ρ c main_v10_1 (by decide)).trans (at_b m ρ c)

theorem in_w : V3 m ρ c main_v15 = wideR (dArg m c) :=
  (host_down (W2 m ρ c)).trans (congrArg wideR (W2_args m ρ c main_arg3 (by decide)))

theorem at_da : W4 m ρ c (Proc.devRef .tc main_v16_0) = atGate (wideBack m c) (wideA m c) (wideB m c) :=
  (W4_arr m ρ c 4).trans (arr_da (V3 m ρ) c (eArg m c) (wideR (dArg m c)) (wideA m c) (wideB m c) (W3_args m ρ c main_arg4 (by decide))
    (in_w m ρ c) (in_a m ρ c) (in_b m ρ c))

theorem at_db : W4 m ρ c (Proc.devRef .tc main_v16_1) = atUp (wideBack m c) (wideA m c) :=
  (W4_arr m ρ c 5).trans (arr_db (V3 m ρ) c (eArg m c) (wideR (dArg m c)) (wideA m c) (W3_args m ρ c main_arg4 (by decide))
    (in_w m ρ c) (in_a m ρ c))

theorem at_f4 : W4 m ρ c (Proc.devRef .tc main_v10_2) = wideF m c :=
  ((W4_of m ρ c main_v10_2 (by decide)).trans (W3_of m ρ c main_v10_2 (by decide))).trans (at_f m ρ c)

/-! ## What the three calls of the weights' gradients leave -/

theorem at_gate : W5 m ρ c (Proc.devRef .tc main_v17) = byShard (gradGate (hArg m c) (wideC (gArg m c)) (wideC (uArg m c)) (wideR (dArg m c)) (eArg m c)) :=
  (W5_arr m ρ c 2).trans (arr_gate (V4 m ρ) c (hArg m c) _ (W4_args m ρ c main_arg0 (by decide)) (at_da m ρ c))

theorem at_up : W6 m ρ c (Proc.devRef .tc main_v18) = byShard (gradUp (hArg m c) (wideC (gArg m c)) (wideR (dArg m c)) (eArg m c)) :=
  (W6_arr m ρ c 2).trans (arr_up (V5 m ρ) c (hArg m c) _ (W5_args m ρ c main_arg0 (by decide))
    ((W5_of m ρ c main_v16_1 (by decide)).trans (at_db m ρ c)))

theorem at_down : W7 m ρ c (Proc.devRef .tc main_v19) = byRows (gradDown (hArg m c) (wideC (gArg m c)) (wideC (uArg m c)) (eArg m c)) :=
  (W7_arr m ρ c 2).trans (arr_down (V6 m ρ) c _ (eArg m c)
    (((W6_of m ρ c main_v10_2 (by decide)).trans (W5_of m ρ c main_v10_2 (by decide))).trans (at_f4 m ρ c)) (W6_args m ρ c main_arg4 (by decide)))

/-! ## The results -/

theorem res_gate : W8 m ρ c (Proc.devRef .tc main_v23) = gradGate (hArg m c) (gArg m c) (uArg m c) (dArg m c) (eArg m c) := by
  funext i
  obtain ⟨d, j, rfl⟩ : ∃ (d : Fin 1024) (j : Fin 2816), i = ix2 d j := mat_idx i
  exact (out_gate (W7 m ρ c) _ (((W7_of m ρ c main_v17 (by decide)).trans (W6_of m ρ c main_v17 (by decide))).trans (at_gate m ρ c)) d j).trans
    (gradGate_pos (hArg m c) (gArg m c) (uArg m c) (dArg m c) (eArg m c) d j)

theorem res_up : W8 m ρ c (Proc.devRef .tc main_v27) = gradUp (hArg m c) (gArg m c) (dArg m c) (eArg m c) := by
  funext i
  obtain ⟨d, j, rfl⟩ : ∃ (d : Fin 1024) (j : Fin 2816), i = ix2 d j := mat_idx i
  exact (out_up (W7 m ρ c) _ ((W7_of m ρ c main_v18 (by decide)).trans (at_up m ρ c)) d j).trans
    (gradUp_pos (hArg m c) (gArg m c) (dArg m c) (eArg m c) d j)

theorem res_down : W8 m ρ c (Proc.devRef .tc main_v31) = gradDown (hArg m c) (gArg m c) (uArg m c) (eArg m c) := by
  funext i
  obtain ⟨j, d, rfl⟩ : ∃ (j : Fin 2816) (d : Fin 1024), i = ix2 j d := mat_idx i
  exact (out_down (W7 m ρ c) _ (at_down m ρ c) j d).trans (gradDown_pos (hArg m c) (gArg m c) (uArg m c) (eArg m c) j d)

/-- The kernel program leaves the gradients, and its arguments as they were. -/
theorem value : θ_run defs (onTc (τ := τ) (main (F := Ideal))) ⟨m, fun _ => 0, ρ⟩ (fun r => ∀ c : Dev nD,
      r.2.mem ((c.tc : Thread nD τ).loc main_v23) = gradGate (hArg m c) (gArg m c) (uArg m c) (dArg m c) (eArg m c)
      ∧ r.2.mem ((c.tc : Thread nD τ).loc main_v27) = gradUp (hArg m c) (gArg m c) (dArg m c) (eArg m c)
      ∧ r.2.mem ((c.tc : Thread nD τ).loc main_v31) = gradDown (hArg m c) (gArg m c) (uArg m c) (eArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run m ρ) fun r h c => by
    obtain ⟨h0, h1, h2, ha⟩ := h c
    exact ⟨h0.trans (res_gate m ρ c), h1.trans (res_up m ρ c), h2.trans (res_down m ρ c), ha⟩

end Cert.KernelFIdeal.Run
end
-- ==== Proof.FeedForwardRef.lean ====
/-
  The feed-forward layer's reference program: its result is the three weights' gradients where the arguments but the
  gate's weight are real numbers. And the two programs' equality.
-/
module

public import proofs.«01_k».proof.Proof.Gen.ReferenceFIdeal
public import Idealize.ShloMosaic.Lib.Pointwise
public import Idealize.ShloMosaic.Lib.StableHlo.RunRead
public import Idealize.ShloMosaic.Lib.Claim
public import proofs.«01_k».proof.Proof.FeedForward

@[expose] public section

set_option maxRecDepth 16384

noncomputable section

namespace Cert.ReferenceFIdeal.Run

open Idealize.ShloMosaic Idealize.ShloMosaic.TcCoe Idealize.SL.Sem Cert.ReferenceFIdeal Cert.ReferenceFIdeal.Gen Cert.FeedForward

variable (m : (ℓ : Loc nD τ sig) → Buf (Elt Ideal) ℓ) (ρ : Dev nD → PrngReg)

/-- The reference program leaves its arguments and its counters as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  hlo_run
  · exact fun _ => ⟨trivial, trivial, trivial, trivial, trivial⟩
  · exact sem_eq_zero_of_no_sems (by decide) _

/-- The arguments on a device. -/
abbrev hArg (c : Dev nD) : Mat 2048 1024 := m ((c.tc : Thread nD τ).loc main_arg0)
abbrev gArg (c : Dev nD) : Mat 1024 2816 := m ((c.tc : Thread nD τ).loc main_arg1)
abbrev uArg (c : Dev nD) : Mat 1024 2816 := m ((c.tc : Thread nD τ).loc main_arg2)
abbrev dArg (c : Dev nD) : Mat 2816 1024 := m ((c.tc : Thread nD τ).loc main_arg3)
abbrev eArg (c : Dev nD) : Mat 2048 1024 := m ((c.tc : Thread nD τ).loc main_arg4)

theorem gradUp_at (h : Mat 2048 1024) (wg : Mat 1024 2816) (wd : Mat 2816 1024) (e : Mat 2048 1024) (d : Fin 1024) (j : Fin 2816) :
    gradUp h wg wd e (ix2 d j) = ∑ r : Fin 2048, h (ix2 r d) * atUp (back e wd) (up h wg) (ix2 r j) := rfl

theorem gradGate_at (h : Mat 2048 1024) (wg wu : Mat 1024 2816) (wd : Mat 2816 1024) (e : Mat 2048 1024) (d : Fin 1024) (j : Fin 2816) :
    gradGate h wg wu wd e (ix2 d j) = ∑ r : Fin 2048, h (ix2 r d) * atGate (back e wd) (up h wg) (up h wu) (ix2 r j) := rfl

theorem gradDown_at (h : Mat 2048 1024) (wg wu : Mat 1024 2816) (e : Mat 2048 1024) (j : Fin 2816) (d : Fin 1024) :
    gradDown h wg wu e (ix2 j d) = ∑ r : Fin 2048, hidden (up h wg) (up h wu) (ix2 r j) * e (ix2 r d) := rfl

theorem atUp_at (f a : Mat 2048 2816) (r : Fin 2048) (j : Fin 2816) :
    atUp f a (ix2 r j) = f (ix2 r j) * a (ix2 r j) * Ideal.logistic (a (ix2 r j)) := rfl

theorem hidden_at (a b : Mat 2048 2816) (r : Fin 2048) (j : Fin 2816) :
    hidden a b (ix2 r j) = a (ix2 r j) * Ideal.logistic (a (ix2 r j)) * b (ix2 r j) := rfl

/-- Where the arguments but the gate's weight are real, the reference program leaves the gradients, and its arguments as they were. -/
theorem value (hh : ∀ c i, IsReal (hArg m c i)) (hu : ∀ c i, IsReal (uArg m c i)) (hd : ∀ c i, IsReal (dArg m c i))
    (he : ∀ c i, IsReal (eArg m c i)) : θ_run defs (onTc (τ := τ) (main (F := Ideal))) ⟨m, fun _ => 0, ρ⟩ (fun r => ∀ c : Dev nD,
      (r.2.mem ((c.tc : Thread nD τ).loc main_v14) = gradGate (hArg m c) (gArg m c) (uArg m c) (dArg m c) (eArg m c)
      ∧ r.2.mem ((c.tc : Thread nD τ).loc main_v11) = gradUp (hArg m c) (gArg m c) (dArg m c) (eArg m c)
      ∧ r.2.mem ((c.tc : Thread nD τ).loc main_v6) = gradDown (hArg m c) (gArg m c) (uArg m c) (eArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  · funext i
    idx_vars i
    simp only [StableHlo.TRef.toBuf, StableHlo.TRef.ofBuf, cast_cast, cast_eq]
    pointwise
    rw [gradGate_at]
    refine Finset.sum_congr rfl fun r _ => ?_
    rw [← atGate_eq _ _ _ _ (back_real (eArg m c) (dArg m c) (he c) (hd c) _) (up_real (hArg m c) (uArg m c) (hh c) (hu c) _)]
    exact mul_comm (G := EReal) _ _
  · funext i
    idx_vars i
    simp only [StableHlo.TRef.toBuf, StableHlo.TRef.ofBuf, cast_cast, cast_eq]
    pointwise
    rw [gradUp_at]
    refine Finset.sum_congr rfl fun r _ => ?_
    rw [atUp_at]
    refine (mul_comm (G := EReal) _ _).trans (congrArg (HMul.hMul (α := EReal) (hArg m c (ix2 r i0))) ?_)
    exact (mul_comm (G := EReal) _ _).trans (mul_assoc (G := EReal) _ _ _).symm
  · funext i
    idx_vars i
    simp only [StableHlo.TRef.toBuf, StableHlo.TRef.ofBuf, cast_cast, cast_eq]
    pointwise
    rw [gradDown_at]
    refine Finset.sum_congr rfl fun r _ => ?_
    rw [hidden_at]
    exact mul_comm (G := EReal) _ _

end Cert.ReferenceFIdeal.Run
end
-- ==== Proof.FeedForwardAlgebraic.lean ====
/-
  The feed-forward programs agree: what their precondition says (each element of the arguments but the gate's weight is
  a real number), and that under it both programs leave the same three gradients.
-/
module

public import proofs.«01_k».proof.Defs
public import proofs.«01_k».proof.Proof.Finite
public import proofs.«01_k».proof.Proof.FeedForwardKernel
public import proofs.«01_k».proof.Proof.FeedForwardRef

@[expose] public section

set_option maxRecDepth 16384

noncomputable section

open Idealize.ShloMosaic Idealize.ShloMosaic.TcCoe Idealize.SL.Sem Cert.FeedForward

namespace Cert.Pre_finite_f.Run

open Cert.Pre_finite_f Cert.Pre_finite.Run

instance facts : Cert.Pre_finite_f.Facts where
  bcast_S_S2048x1024 := by decide
  reducesTo_S2048x1024_S_d0_1 := by decide
  h_S_ := by decide
  bcast_S_S1024x2816 := by decide
  reducesTo_S1024x2816_S_d0_1 := by decide
  bcast_S_S2816x1024 := by decide
  reducesTo_S2816x1024_S_d0_1 := by decide

/-- The precondition on the arrays: each element of the layer's input, of the up-going weight beside the gate's, of the
    down-going weight and of the arriving gradient is a real number. -/
theorem reals (a0 : FVec Ideal S2048x1024 .f32) (a1 a2 : FVec Ideal S1024x2816 .f32) (a3 : FVec Ideal S2816x1024 .f32)
    (a4 : FVec Ideal S2048x1024 .f32) (h : Cert.Pre_finite_f.fn (F := Ideal) a0 a1 a2 a3 a4 = fun _ => 1#1) :
    (∀ i, IsReal (a0 i)) ∧ (∀ i, IsReal (a2 i)) ∧ (∀ i, IsReal (a3 i)) ∧ (∀ i, IsReal (a4 i)) := by
  have h0 := congrFun h ix0
  unfold fn fn_part1 at h0
  dsimp only at h0
  change IntOp.andi (IntOp.andi (IntOp.andi _ _) _) _ = 1#1 at h0
  simp only [IntOp.andi_eq_one] at h0
  obtain ⟨⟨⟨h0, h2⟩, h3⟩, h4⟩ := h0
  exact ⟨fun i => coe_of_all a0 _ Facts.reducesTo_S2048x1024_S_d0_1 Facts.h_S_ h0 i,
    fun i => coe_of_all a2 _ Facts.reducesTo_S1024x2816_S_d0_1 Facts.h_S_ h2 i,
    fun i => coe_of_all a3 _ Facts.reducesTo_S2816x1024_S_d0_1 Facts.h_S_ h3 i,
    fun i => coe_of_all a4 _ Facts.reducesTo_S2048x1024_S_d0_1 Facts.h_S_ h4 i⟩

end Cert.Pre_finite_f.Run

namespace Cert.Proof

/-- Under the precondition the two programs' results are equal. -/
theorem algebraic_f : @Cert.algebraic_KernelFIdeal_ReferenceFIdeal_pre_finite_f Cert.KernelFIdeal.Gen.facts Cert.ReferenceFIdeal.Gen.facts Cert.Pre_finite_f.Run.facts := by
  intro m g m' g' hpre heq
  have H := fun c => Cert.Pre_finite_f.Run.reals _ _ _ _ _ (hpre c)
  refine ⟨_, _, _, Cert.KernelFIdeal.Run.value m g, ?_⟩
  refine θ_run_mono (Cert.ReferenceFIdeal.Run.value m' g' (fun c => ?_) (fun c => ?_) (fun c => ?_) (fun c => ?_)) (fun r h c => ?_)
  · exact fun i => (congrArg IsReal (congrFun (heq c).1 i)).mpr ((H c).1 i)
  · exact fun i => (congrArg IsReal (congrFun (heq c).2.2.1 i)).mpr ((H c).2.1 i)
  · exact fun i => (congrArg IsReal (congrFun (heq c).2.2.2.1 i)).mpr ((H c).2.2.1 i)
  · exact fun i => (congrArg IsReal (congrFun (heq c).2.2.2.2 i)).mpr ((H c).2.2.2 i)
  · obtain ⟨e0, e1, e2, e3, e4⟩ := heq c
    obtain ⟨⟨h0, h1, h2⟩, ha⟩ := h c
    refine ⟨h0.trans ?_, h1.trans ?_, h2.trans ?_, ha⟩
    · unfold Cert.ReferenceFIdeal.Run.hArg Cert.ReferenceFIdeal.Run.gArg Cert.ReferenceFIdeal.Run.uArg Cert.ReferenceFIdeal.Run.dArg Cert.ReferenceFIdeal.Run.eArg
      rw [e0, e1, e2, e3, e4]
    · unfold Cert.ReferenceFIdeal.Run.hArg Cert.ReferenceFIdeal.Run.gArg Cert.ReferenceFIdeal.Run.dArg Cert.ReferenceFIdeal.Run.eArg
      rw [e0, e1, e3, e4]
    · unfold Cert.ReferenceFIdeal.Run.hArg Cert.ReferenceFIdeal.Run.gArg Cert.ReferenceFIdeal.Run.uArg Cert.ReferenceFIdeal.Run.eArg
      rw [e0, e1, e2, e4]

end Cert.Proof

end
-- ==== Proof.Projection.lean ====
/-
  The input projection: what it is, and what the kernel and the reference leave of it.
-/
module

public import proofs.«01_k».proof.Proof.Gen.KernelPIdeal.Frame
public import proofs.«01_k».proof.Proof.Gen.ReferencePIdeal
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.FeedForward
public import proofs.«01_k».proof.Defs

@[expose] public section

set_option maxRecDepth 16384

noncomputable section

namespace Cert.Projection

open Idealize.ShloMosaic Idealize.ShloMosaic.TcCoe Cert.FeedForward

/-- Every row of `x` times every column of `w`. -/
def proj (x : Mat 2048 1024) (w : Mat 1024 7168) : Mat 2048 7168 :=
  fun i => ∑ d : Fin 1024, (x (ix2 (i 0) d) : EReal) * (w (ix2 d (i 1)) : EReal)

end Cert.Projection

namespace Cert.KernelPIdeal.Run

open Idealize.ShloMosaic Idealize.ShloMosaic.TcCoe Cert.KernelPIdeal Cert.KernelPIdeal.Gen Cert.FeedForward Cert.Projection
open Idealize.SL Idealize.SL.RA Idealize.SL.BI Idealize.SL.Sem
open Idealize.ShloMosaic.StableHlo Idealize.ShloMosaic.Tactic

/-! ## What a grid point computes -/

/-- Column `j` of two shards side by side. -/
def shards (v w : Vec Ideal S1x1024x896 .bf16) (d : Fin 1024) (j : Fin 1792) : EReal :=
  if h : (j : ℕ) < 896 then v (ix3 0 d ⟨j, h⟩) else w (ix3 0 d ⟨j - 896, by omega⟩)

theorem pay0_1 (x : Vec Ideal S1024x1024 .f32) (v w : Vec Ideal S1x1024x896 .bf16) (r : Fin 1024) (j : Fin 1792) :
    k0_pay1 (F := Ideal) x v w (ix2 r j) = ∑ d : Fin 1024, (x (ix2 r d) : EReal) * shards v w d j := by
  unfold k0_pay1 shards
  pointwise

/-- Column `j` of a block's two shards. -/
def side (x : Vec Ideal S2x1024x896 .bf16) (d : Fin 1024) (j : Fin 1792) : EReal :=
  x (ix3 ⟨(j : ℕ) / 896, by omega⟩ d ⟨(j : ℕ) % 896, by omega⟩)

theorem shards_ld (x : Vec Ideal S2x1024x896 .bf16) (d : Fin 1024) (j : Fin 1792) :
    shards (View.ld x r0_1) (View.ld x r0_2) d j = side x d j := by
  unfold shards side
  split
  · pointwise
    congr 2 <;> first | rfl | (apply Fin.ext; simp; omega)
  · pointwise
    congr 2 <;> first | rfl | (apply Fin.ext; simp; omega)

/-- A row of a block times a column of its shards. -/
def dotSide (x0 : Vec Ideal S1024x1024 .f32) (x : Vec Ideal S2x1024x896 .bf16) (r : Fin 1024) (j : Fin 1792) : EReal :=
  ∑ d : Fin 1024, (x0 (ix2 r d) : EReal) * side x d j

theorem out0_2_at (x0 : Vec Ideal S1024x1024 .f32) (x1 : Vec Ideal S2x1024x896 .bf16) (r : Fin 1024) (j : Fin 1792) :
    out0_2 (F := Ideal) x0 x1 (ix2 r j) = dotSide x0 x1 r j := by
  unfold out0_2 dotSide
  frame_out
  rw [pay0_1]
  simp only [shards_ld]

/-! ## Where the blocks lie -/

theorem at0_0 : ∀ t : Fin grid0.N, win0_0.index t = ![t.val / 4, 0] :=
  (by decide +kernel : ∀ t : Fin grid0.N, _)

theorem at0_1 : ∀ t : Fin grid0.N, win0_1.index t = ![t.val % 4, 0, 0] :=
  (by decide +kernel : ∀ t : Fin grid0.N, _)

theorem at0_2 : ∀ t : Fin grid0.N, win0_2.index t = ![t.val / 4, t.val % 4] :=
  (by decide +kernel : ∀ t : Fin grid0.N, _)

theorem lt8 (t : Fin cfg0.N) : t.val < 8 := t.isLt

variable (m : (ℓ : Loc nD τ sig) → Buf (Elt Ideal) ℓ) (ρ : Dev nD → PrngReg) (c : Dev nD)

/-- The rows the call projects. -/
abbrev rows : Mat 2048 1024 := m ((c.tc : Thread nD τ).loc main_arg0)

/-- The weight. -/
abbrev weight : Mat 1024 7168 := m ((c.tc : Thread nD τ).loc main_arg1)

theorem blk0_0 (t : Fin cfg0.N) (r d : Fin 1024) :
    iblk (F := Ideal) m c 0 t (ix2 r d) = rows m c (ix2 ⟨1024 * (t.val / 4) + r, by have := lt8 t; omega⟩ d) := by
  refine Eq.trans ?_ (congrFun (V_main_arg0 m c) _)
  blk_simp [iblk]
  congr 1
  blk_ext [at0_0]

theorem weight_at (s : Fin 8) (d : Fin 1024) (j : Fin 896) :
    V m c main_v2 (ix3 s d j) = weight m c (ix2 d ⟨896 * s + j, by omega⟩) := by
  show after hostOps0 (fun b => m (c, b)) (Proc.devRef .tc main_v2) (ix3 s d j) = _
  after_reads_simp
  pointwise
  exact congrArg (fun k => weight m c (ix2 d k)) (Fin.ext (show (s : ℕ) * 896 + j = 896 * s + j by omega))

theorem blk0_1 (t : Fin cfg0.N) (s : Fin 2) (d : Fin 1024) (j : Fin 896) :
    iblk (F := Ideal) m c 1 t (ix3 s d j) = weight m c (ix2 d ⟨1792 * (t.val % 4) + (896 * s + j), by omega⟩) := by
  have h := weight_at m c ⟨2 * (t.val % 4) + s, by omega⟩ d j
  refine Eq.trans ?_ (h.trans (congrArg (fun k => weight m c (ix2 d k)) (Fin.ext ?_)))
  · blk_simp [iblk]
    congr 1
    blk_ext [at0_1]
  · show 896 * (2 * (t.val % 4) + s) + j = 1792 * (t.val % 4) + (896 * s + j)
    omega

theorem place0_2 (t : Fin cfg0.N) (r : Fin 1024) (j : Fin 1792) : (win0_2.blk t).view.emb (ix2 r j)
    = (ix2 ⟨1024 * (t.val / 4) + r, by have := lt8 t; omega⟩ ⟨1792 * (t.val % 4) + j, by omega⟩ : S2048x7168.Idx) := by
  blk_ext [at0_2]

theorem tile (t : Fin cfg0.N) (r : Fin 1024) (j : Fin 1792) : dotSide (iblk m c 0 t) (iblk m c 1 t) r j
    = proj (rows m c) (weight m c) (ix2 ⟨1024 * (t.val / 4) + r, by have := lt8 t; omega⟩ ⟨1792 * (t.val % 4) + j, by omega⟩) := by
  refine Finset.sum_congr rfl fun d _ => congrArg₂ (HMul.hMul (α := EReal)) (blk0_0 m c t r d) ?_
  refine (blk0_1 m c t _ d _).trans (congrArg (fun k => weight m c (ix2 d k)) (Fin.ext ?_))
  show 1792 * (t.val % 4) + (896 * ((j : ℕ) / 896) + (j : ℕ) % 896) = 1792 * (t.val % 4) + j
  omega

/-- The array after the run. -/
theorem arr_proj : (dats m 0 c).arrAt 2 cfg0.N = proj (rows m c) (weight m c) := by
  refine (dats m 0 c).arrAt_eq_of_covers 2 _ (by decide +kernel) fun t hf y => ?_
  blk_simp
  rw [after0_2]
  obtain ⟨r, j, rfl⟩ : ∃ (r : Fin 1024) (j : Fin 1792), y = ix2 r j := ⟨y 0, y 1, by funext k; fin_cases k <;> rfl⟩
  exact ((out0_2_at _ _ r j).trans (tile m c t r j)).trans (congrArg _ (place0_2 t r j).symm)

/-- The kernel program leaves the projection, and its arguments as they were. -/
theorem value : θ_run defs (onTc (τ := τ) (main (F := Ideal))) ⟨m, fun _ => 0, ρ⟩ (fun r => ∀ c : Dev nD,
      r.2.mem ((c.tc : Thread nD τ).loc main_v3) = proj (rows m c) (weight m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and (run_main m ρ) (unchanged m ρ)) fun r h c =>
    ⟨((h.1 c).1 2).trans (arr_proj m c), h.2 c⟩

end Cert.KernelPIdeal.Run

namespace Cert.ReferencePIdeal.Run

open Idealize.ShloMosaic Idealize.ShloMosaic.TcCoe Idealize.SL.Sem Cert.ReferencePIdeal Cert.ReferencePIdeal.Gen Cert.Projection

variable (m : (ℓ : Loc nD τ sig) → Buf (Elt Ideal) ℓ) (ρ : Dev nD → PrngReg)

/-- The reference program leaves its arguments and its counters as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  hlo_run
  · exact fun _ => ⟨trivial, trivial⟩
  · exact sem_eq_zero_of_no_sems (by decide) _

/-- The reference program leaves the projection, and its arguments as they were. -/
theorem value : θ_run defs (onTc (τ := τ) (main (F := Ideal))) ⟨m, fun _ => 0, ρ⟩ (fun r => ∀ c : Dev nD,
      r.2.mem ((c.tc : Thread nD τ).loc main_v0)
        = proj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext i
  idx_vars i
  unfold proj
  pointwise

end Cert.ReferencePIdeal.Run

namespace Cert.Proof

open Idealize.ShloMosaic Idealize.ShloMosaic.TcCoe Idealize.SL.Sem Cert.Projection

/-- The two programs' results are equal, whatever the arguments. -/
theorem algebraic_p : @Cert.algebraic_KernelPIdeal_ReferencePIdeal Cert.KernelPIdeal.Gen.facts Cert.ReferencePIdeal.Gen.facts := by
  intro m g m' g' _ heq
  refine ⟨fun c => proj (Cert.KernelPIdeal.Run.rows m c) (Cert.KernelPIdeal.Run.weight m c),
    Cert.KernelPIdeal.Run.value m g, θ_run_mono (Cert.ReferencePIdeal.Run.value m' g') fun r h c => ⟨(h c).1.trans ?_, (h c).2⟩⟩
  obtain ⟨h0, h1⟩ := heq c
  rw [h0, h1]

end Cert.Proof
end
-- ==== Proof.FeedForwardBwd.lean ====
/-
  The gradient of the feed-forward layer's input, through its two up-going products and beside them, and from it the
  gradients of the layer norm that made that input: of what the norm read, of its scale and of its shift.
-/
module

public import proofs.«01_k».proof.Proof.FeedForward

@[expose] public section

noncomputable section

namespace Cert.FeedForwardBwd

open Idealize.ShloMosaic Cert.FeedForward

variable {N : ℕ}

/-- The residual's factor. -/
def scale : EReal := (Scalar.ofBits (F := Ideal) .f32 0x3F9837F0#32 : Ideal .f32)

/-- The term of column `j` at row `r` and entry `d`. -/
def term (x : Mat 2048 N) (w : Mat 1024 N) (r d j : ℕ) : EReal :=
  if h : r < 2048 ∧ d < 1024 ∧ j < N then x (ix2 ⟨r, h.1⟩ ⟨j, h.2.2⟩) * w (ix2 ⟨d, h.2.1⟩ ⟨j, h.2.2⟩) else 0

/-- The terms of column `j` of the two products. -/
def both (a b : Mat 2048 N) (g u : Mat 1024 N) (r d j : ℕ) : EReal := term a g r d j + term b u r d j

/-- The gradient of the layer's input: beside the products and through them. -/
def atInput (a b : Mat 2048 N) (g u : Mat 1024 N) (e : Mat 2048 1024) : Mat 2048 1024 := fun i =>
  scale * e i + ∑ j ∈ Finset.range N, both a b g u (i 0) (i 1) j

theorem term_eq (x : Mat 2048 N) (w : Mat 1024 N) (r : Fin 2048) (d : Fin 1024) (j : Fin N) :
    term x w r d j = x (ix2 r j) * w (ix2 d j) := dif_pos ⟨r.isLt, d.isLt, j.isLt⟩

theorem term_at (x : Mat 2048 N) (w : Mat 1024 N) (r : Fin 2048) (d : Fin 1024) (j k : Fin N) {n : ℕ} (hj : j.val = n) (hk : k.val = n) :
    x (ix2 r j) * w (ix2 d k) = term x w r d n := by
  obtain rfl : j = k := Fin.ext (hj.trans hk.symm)
  subst hj
  exact (term_eq x w r d j).symm

/-! ## The wide layout -/

/-- Columns in eight groups of 352, each followed by 32 columns of zeros. -/
def wideX (x : Mat 2048 2816) : Mat 2048 3072 := fun i =>
  if h : (i 1 : ℕ) % 384 < 352 then x (ix2 (i 0) ⟨352 * ((i 1 : ℕ) / 384) + (i 1 : ℕ) % 384, by have : (i 1 : ℕ) < 3072 := (i 1).isLt; omega⟩) else 0

theorem wideX_pos (x : Mat 2048 2816) (r : Fin 2048) (j : Fin 2816) : wideX x (ix2 r (pos j)) = x (ix2 r j) := by
  have h : (384 * ((j : ℕ) / 352) + (j : ℕ) % 352) % 384 < 352 := by omega
  refine (dif_pos h).trans (congrArg (fun k => x (ix2 r k)) (Fin.ext ?_))
  show 352 * ((384 * ((j : ℕ) / 352) + (j : ℕ) % 352) / 384) + (384 * ((j : ℕ) / 352) + (j : ℕ) % 352) % 384 = j
  omega

theorem wideX_pad (x : Mat 2048 2816) (r : Fin 2048) (k : Fin 3072) (h : ¬ (k : ℕ) % 384 < 352) : wideX x (ix2 r k) = 0 := dif_neg h

theorem term_pos (x : Mat 2048 2816) (w : Mat 1024 2816) (r : Fin 2048) (d : Fin 1024) (j : Fin 2816) :
    term (wideX x) (wideC w) r d (pos j) = term x w r d j := by
  rw [term_eq, term_eq, wideX_pos, wideC_pos]

theorem term_pad (x : Mat 2048 2816) (w : Mat 1024 2816) (r : Fin 2048) (d : Fin 1024) (k : Fin 3072) (h : ¬ (k : ℕ) % 384 < 352) :
    term (wideX x) (wideC w) r d k = 0 := by
  rw [term_eq, wideX_pad x r k h, zero_mul]

variable (a b : Mat 2048 2816) (g u : Mat 1024 2816) (e : Mat 2048 1024)

/-- The padding adds nothing. -/
theorem sum_wide (r : Fin 2048) (d : Fin 1024) :
    ∑ j ∈ Finset.range 3072, both (wideX a) (wideX b) (wideC g) (wideC u) r d j = ∑ j ∈ Finset.range 2816, both a b g u r d j := by
  refine (Finset.sum_of_injOn (fun j => 384 * (j / 352) + j % 352) ?_ ?_ ?_ ?_).symm
  · intro j _ k _ hjk
    have hjk : 384 * (j / 352) + j % 352 = 384 * (k / 352) + k % 352 := hjk
    omega
  · intro j hj
    have hj : j < 2816 := by simpa using hj
    show 384 * (j / 352) + j % 352 ∈ ((Finset.range 3072 : Finset ℕ) : Set ℕ)
    simp only [Finset.coe_range, Set.mem_Iio]
    omega
  · intro k hk hn
    have hk : k < 3072 := by simpa using hk
    have hp : ¬ k % 384 < 352 := fun hp => hn ⟨352 * (k / 384) + k % 384, by
      simp only [Finset.coe_range, Set.mem_Iio]; omega, by
      show 384 * ((352 * (k / 384) + k % 384) / 352) + (352 * (k / 384) + k % 384) % 352 = k
      omega⟩
    show term _ _ r d k + term _ _ r d k = 0
    rw [term_pad a g r d ⟨k, hk⟩ hp, term_pad b u r d ⟨k, hk⟩ hp, add_zero]
  · intro j hj
    have hj : j < 2816 := by simpa using hj
    exact congrArg₂ (HAdd.hAdd (α := EReal)) (term_pos a g r d ⟨j, hj⟩).symm (term_pos b u r d ⟨j, hj⟩).symm

theorem atInput_wide : atInput (wideX a) (wideX b) (wideC g) (wideC u) e = atInput a b g u e :=
  funext fun i => congrArg (HAdd.hAdd (α := EReal) (scale * e i)) (sum_wide a b g u (i 0) (i 1))

/-! ## The layer norm -/

/-- The length of a row. -/
def width : EReal := (Scalar.ofBits (F := Ideal) .f32 0x44800000#32 : Ideal .f32)

/-- The layer norm's gradient at entry `d` of a row: `y` arrives, `x` is the row normed, `g` the scale, `s` the
    reciprocal of the row's deviation. -/
def normBack (y x g : Fin 1024 → EReal) (s : EReal) (d : Fin 1024) : EReal :=
  s * (y d * g d - Ideal.div (∑ k, y k * g k) width - x d * Ideal.div (∑ k, y k * g k * x k) width)

/-- A vector of 1024 entries. -/
abbrev Row : Type := (⟨1, ![1024]⟩ : Shape).Idx → EReal

/-- The gradient of what the norm read. -/
def atNorm (y x : Mat 2048 1024) (s : Mat 2048 1) (g : Row) : Mat 2048 1024 := fun i =>
  normBack (fun k => y (ix2 (i 0) k)) (fun k => x (ix2 (i 0) k)) (fun k => g (ix1 k)) (s (ix2 (i 0) 0)) (i 1)

/-- The gradient of the norm's scale. -/
def atScale (y x : Mat 2048 1024) : Row := fun i => ∑ r : Fin 2048, y (ix2 r (i 0)) * x (ix2 r (i 0))

/-- The gradient of the norm's shift. -/
def atShift (y : Mat 2048 1024) : Row := fun i => ∑ r : Fin 2048, y (ix2 r (i 0))

/-- A sum over the rows, tile by tile. -/
theorem sum_tiles (f : Fin 2048 → EReal) :
    ∑ r, f r = (∑ r : Fin 1024, f ⟨r, by omega⟩) + ∑ r : Fin 1024, f ⟨1024 + r, by omega⟩ :=
  Fin.sum_univ_add (a := 1024) (b := 1024) f

end Cert.FeedForwardBwd

end
-- ==== Proof.FeedForwardBwdBlocks.lean ====
/-
  One grid point of the call that takes the gradient back through the two up-going products: what it computes of its
  blocks, element by element, and where in its arrays the blocks lie.
-/
module

public import proofs.«01_k».proof.Proof.Gen.KernelUIdeal.Frame
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.FeedForwardBwd

@[expose] public section

set_option maxRecDepth 16384

noncomputable section

namespace Cert.KernelUIdeal.Run

open Idealize.ShloMosaic Idealize.ShloMosaic.TcCoe Cert.KernelUIdeal Cert.KernelUIdeal.Gen Cert.FeedForward Cert.FeedForwardBwd
open Idealize.SL Idealize.SL.RA Idealize.SL.BI Idealize.SL.Sem
open Idealize.ShloMosaic.StableHlo Idealize.ShloMosaic.Tactic

/-! ## What a grid point computes -/

theorem pay11_apply (v0 : Vec Ideal S1024x768 .bf16) (v1 v3 : Vec Ideal S1x1024x384 .bf16) (w0 : Vec Ideal S1024x768 .bf16) (w1 w3 : Vec Ideal S1x1024x384 .bf16) (r d : Fin 1024) :
    k0_pay11 (F := Ideal) v0 v1 v3 w0 w1 w3 (ix2 r d)
      = ((∑ x : Fin 384, (v0 (ix2 r ⟨x, by omega⟩) : EReal) * (v1 (ix3 0 d x) : EReal))
          + ∑ x : Fin 384, (v0 (ix2 r ⟨384 + x, by omega⟩) : EReal) * (v3 (ix3 0 d x) : EReal))
        + ((∑ x : Fin 384, (w0 (ix2 r ⟨x, by omega⟩) : EReal) * (w1 (ix3 0 d x) : EReal))
          + ∑ x : Fin 384, (w0 (ix2 r ⟨384 + x, by omega⟩) : EReal) * (w3 (ix3 0 d x) : EReal)) := by
  unfold k0_pay11
  pointwise

theorem pay12_apply (v0 : Vec Ideal S1024x768 .bf16) (v1 v3 : Vec Ideal S1x1024x384 .bf16) (w0 : Vec Ideal S1024x768 .bf16) (w1 w3 : Vec Ideal S1x1024x384 .bf16) (i : S1024x1024.Idx) :
    k0_pay12 (F := Ideal) v0 v1 v3 w0 w1 w3 i = k0_pay11 (F := Ideal) v0 v1 v3 w0 w1 w3 i := by
  unfold k0_pay12
  pointwise

theorem pay13_apply (v0 : Vec Ideal S1024x768 .bf16) (v1 v3 : Vec Ideal S1x1024x384 .bf16) (w0 : Vec Ideal S1024x768 .bf16) (w1 w3 : Vec Ideal S1x1024x384 .bf16) (v : Vec Ideal S1024x1024 .f32) (i : S1024x1024.Idx) :
    k0_pay13 (F := Ideal) v0 v1 v3 w0 w1 w3 v i = (v i : EReal) + (k0_pay11 (F := Ideal) v0 v1 v3 w0 w1 w3 i : EReal) := by
  unfold k0_pay13
  pointwise

theorem pay2_apply (v w : Vec Ideal S1024x1024 .f32) (i : S1024x1024.Idx) :
    k0_pay2 (F := Ideal) v w i = scale * (v i : EReal) + (w i : EReal) := by
  unfold k0_pay2
  pointwise
  rfl

theorem pay9_apply (i : S1x1024.Idx) : k0_pay9 (F := Ideal) i = (0 : EReal) := by
  unfold k0_pay9
  pointwise

theorem pay10_apply (i : S1x1024.Idx) : k0_pay10 (F := Ideal) i = (0 : EReal) := by
  unfold k0_pay10
  pointwise

theorem pay3_apply (v w x : Vec Ideal S1024x1024 .f32) (o : Vec Ideal S1x1024 .f32) (d : Fin 1024) :
    k0_pay3 (F := Ideal) v w x o (ix2 0 d)
      = (o (ix2 0 d) : EReal) + ∑ r : Fin 1024, (k0_pay2 (F := Ideal) v w (ix2 r d) : EReal) * (x (ix2 r d) : EReal) := by
  unfold k0_pay3
  pointwise

theorem pay4_apply (v w : Vec Ideal S1024x1024 .f32) (o : Vec Ideal S1x1024 .f32) (d : Fin 1024) :
    k0_pay4 (F := Ideal) v w o (ix2 0 d)
      = (o (ix2 0 d) : EReal) + ∑ r : Fin 1024, (k0_pay2 (F := Ideal) v w (ix2 r d) : EReal) := by
  unfold k0_pay4
  pointwise

theorem pay6_apply (v w : Vec Ideal S1024x1024 .f32) (g : Vec Ideal S1x1024 .f32) (r d : Fin 1024) :
    k0_pay6 (F := Ideal) v w g (ix2 r d) = (k0_pay2 (F := Ideal) v w (ix2 r d) : EReal) * (g (ix2 0 d) : EReal) := by
  unfold k0_pay6
  pointwise

theorem pay7_apply (v w : Vec Ideal S1024x1024 .f32) (g : Vec Ideal S1x1024 .f32) (r : Fin 1024) :
    k0_pay7 (F := Ideal) v w g (ix2 r 0) = Ideal.div (∑ k : Fin 1024, (k0_pay6 (F := Ideal) v w g (ix2 r k) : EReal)) width := by
  unfold k0_pay7
  pointwise
  rfl

theorem pay8_apply (v w x : Vec Ideal S1024x1024 .f32) (g : Vec Ideal S1x1024 .f32) (r : Fin 1024) :
    k0_pay8 (F := Ideal) v w x g (ix1 r) = ∑ k : Fin 1024, (k0_pay6 (F := Ideal) v w g (ix2 r k) : EReal) * (x (ix2 r k) : EReal) := by
  unfold k0_pay8
  pointwise

theorem pay1_apply (x : Vec Ideal S1024x1024 .f32) (s : FVec Ideal S1024x1 .f32) (y : FVec Ideal S1024x1024 .f32) (p : FVec Ideal S1024x1 .f32) (q : FVec Ideal S1024 .f32) (r d : Fin 1024) :
    k0_pay1 (F := Ideal) x s y p q (ix2 r d)
      = (s (ix2 r 0) : EReal) * ((y (ix2 r d) : EReal) - (p (ix2 r 0) : EReal) - (x (ix2 r d) : EReal) * Ideal.div (q (ix1 r) : EReal) width) := by
  unfold k0_pay1
  pointwise
  rfl

theorem pay5_apply (v : Vec Ideal S1024x128 .f32) (r : Fin 1024) (s : EReal) (h : ∀ k : Fin 128, v (ix2 r k) = s) :
    k0_pay5 (F := Ideal) v (ix2 r 0) = s := by
  unfold k0_pay5
  pointwise
  refine le_antisymm (Finset.fold_max_le s |>.mpr ⟨?_, fun k _ => (h k).le⟩) (Finset.le_fold_max s |>.mpr (Or.inr ⟨0, Finset.mem_univ _, (h 0).ge⟩))
  exact le_of_eq_of_le (by simp [Ideal.ofBits, Ideal.ieee]) bot_le

/-! ## Where the blocks lie -/

theorem at0_0 : ∀ t : Fin cfg0.N, win0_0.index t = ![t.val / 4, t.val % 4] := (by decide +kernel : ∀ t : Fin grid0.N, _)
theorem at0_1 : ∀ t : Fin cfg0.N, win0_1.index t = ![t.val / 4, t.val % 4] := (by decide +kernel : ∀ t : Fin grid0.N, _)
theorem at0_2 : ∀ t : Fin cfg0.N, win0_2.index t = ![t.val % 4, 0, 0] := (by decide +kernel : ∀ t : Fin grid0.N, _)
theorem at0_3 : ∀ t : Fin cfg0.N, win0_3.index t = ![t.val % 4, 0, 0] := (by decide +kernel : ∀ t : Fin grid0.N, _)
theorem at0_4 : ∀ t : Fin cfg0.N, win0_4.index t = ![t.val / 4, 0] := (by decide +kernel : ∀ t : Fin grid0.N, _)
theorem at0_5 : ∀ t : Fin cfg0.N, win0_5.index t = ![t.val / 4, 0] := (by decide +kernel : ∀ t : Fin grid0.N, _)
theorem at0_6 : ∀ t : Fin cfg0.N, win0_6.index t = ![t.val / 4, 0] := (by decide +kernel : ∀ t : Fin grid0.N, _)
theorem at0_7 : ∀ t : Fin cfg0.N, win0_7.index t = ![0, 0] := (by decide +kernel : ∀ t : Fin grid0.N, _)
theorem at0_8 : ∀ t : Fin cfg0.N, win0_8.index t = ![t.val / 4, 0] := (by decide +kernel : ∀ t : Fin grid0.N, _)
theorem at0_9 : ∀ t : Fin cfg0.N, win0_9.index t = ![0, 0] := (by decide +kernel : ∀ t : Fin grid0.N, _)
theorem at0_10 : ∀ t : Fin cfg0.N, win0_10.index t = ![0, 0] := (by decide +kernel : ∀ t : Fin grid0.N, _)

/-- A point's number is below eight. -/
theorem lt8 (t : Fin cfg0.N) : t.val < 8 := t.isLt

variable (m : (ℓ : Loc nD τ sig) → Buf (Elt Ideal) ℓ) (c : Dev nD) (t : Fin cfg0.N)

/-- The arguments on a device. -/
abbrev aArg : Mat 2048 2816 := m ((c.tc : Thread nD τ).loc main_arg0)
abbrev bArg : Mat 2048 2816 := m ((c.tc : Thread nD τ).loc main_arg1)
abbrev gArg : Mat 1024 2816 := m ((c.tc : Thread nD τ).loc main_arg2)
abbrev uArg : Mat 1024 2816 := m ((c.tc : Thread nD τ).loc main_arg3)
abbrev eArg : Mat 2048 1024 := m ((c.tc : Thread nD τ).loc main_arg4)
abbrev xArg : Mat 2048 1024 := m ((c.tc : Thread nD τ).loc main_arg5)
abbrev sArg : Mat 2048 1 := m ((c.tc : Thread nD τ).loc main_arg6)
abbrev nArg : Row := m ((c.tc : Thread nD τ).loc main_arg7)

/-! ## The arrays as the call finds them -/

theorem host_a : V m c main_v3 = wideX (aArg m c) := by
  funext i
  idx_vars i
  show after hostOps0 (fun b => m (c, b)) (Proc.devRef .tc main_v3) (ix2 i0 i1) = _
  after_reads_simp
  pointwise
  unfold wideX
  split
  · next hj =>
    refine Eq.trans ?_ (dif_pos hj).symm
    after_reads_simp
    pointwise
    refine congrArg (fun k => aArg m c (ix2 i0 k)) (Fin.ext ?_)
    show (i1 : ℕ) / 384 * 352 + (i1 : ℕ) % 384 = 352 * ((i1 : ℕ) / 384) + (i1 : ℕ) % 384
    omega
  · next hj =>
    refine Eq.trans ?_ (dif_neg hj).symm
    after_reads_simp
    pointwise

theorem host_b : V m c main_v7 = wideX (bArg m c) := by
  funext i
  idx_vars i
  show after hostOps0 (fun b => m (c, b)) (Proc.devRef .tc main_v7) (ix2 i0 i1) = _
  after_reads_simp
  pointwise
  unfold wideX
  split
  · next hj =>
    refine Eq.trans ?_ (dif_pos hj).symm
    after_reads_simp
    pointwise
    refine congrArg (fun k => bArg m c (ix2 i0 k)) (Fin.ext ?_)
    show (i1 : ℕ) / 384 * 352 + (i1 : ℕ) % 384 = 352 * ((i1 : ℕ) / 384) + (i1 : ℕ) % 384
    omega
  · next hj =>
    refine Eq.trans ?_ (dif_neg hj).symm
    after_reads_simp
    pointwise

theorem host_gate (s : Fin 8) (d : Fin 1024) (j : Fin 384) : V m c main_v12 (ix3 s d j) = wideC (gArg m c) (ix2 d (col s j)) := by
  show after hostOps0 (fun b => m (c, b)) (Proc.devRef .tc main_v12) (ix3 s d j) = _
  after_reads_simp
  pointwise
  have hm : (384 * (s : ℕ) + j) % 384 = j := by omega
  unfold wideC
  split
  · next hj =>
    refine Eq.trans ?_ (dif_pos (show (384 * (s : ℕ) + j) % 384 < 352 by omega)).symm
    after_reads_simp
    pointwise
    refine congrArg (fun k => gArg m c (ix2 d k)) (Fin.ext ?_)
    show (s : ℕ) * 352 + j = 352 * ((384 * (s : ℕ) + j) / 384) + (384 * (s : ℕ) + j) % 384
    omega
  · next hj =>
    refine Eq.trans ?_ (dif_neg (show ¬ (384 * (s : ℕ) + j) % 384 < 352 by omega)).symm
    after_reads_simp
    pointwise

theorem host_up (s : Fin 8) (d : Fin 1024) (j : Fin 384) : V m c main_v17 (ix3 s d j) = wideC (uArg m c) (ix2 d (col s j)) := by
  show after hostOps0 (fun b => m (c, b)) (Proc.devRef .tc main_v17) (ix3 s d j) = _
  after_reads_simp
  pointwise
  have hm : (384 * (s : ℕ) + j) % 384 = j := by omega
  unfold wideC
  split
  · next hj =>
    refine Eq.trans ?_ (dif_pos (show (384 * (s : ℕ) + j) % 384 < 352 by omega)).symm
    after_reads_simp
    pointwise
    refine congrArg (fun k => uArg m c (ix2 d k)) (Fin.ext ?_)
    show (s : ℕ) * 352 + j = 352 * ((384 * (s : ℕ) + j) / 384) + (384 * (s : ℕ) + j) % 384
    omega
  · next hj =>
    refine Eq.trans ?_ (dif_neg (show ¬ (384 * (s : ℕ) + j) % 384 < 352 by omega)).symm
    after_reads_simp
    pointwise

theorem host_rstd (r : Fin 2048) (k : Fin 128) : V m c main_v18 (ix2 r k) = sArg m c (ix2 r 0) := by
  show after hostOps0 (fun b => m (c, b)) (Proc.devRef .tc main_v18) (ix2 r k) = _
  after_reads_simp
  pointwise

theorem host_scale (d : Fin 1024) : V m c main_v19 (ix2 0 d) = nArg m c (ix1 d) := by
  show after hostOps0 (fun b => m (c, b)) (Proc.devRef .tc main_v19) (ix2 0 d) = _
  after_reads_simp
  pointwise

/-! ## The blocks -/

theorem blk0_0 (r : Fin 1024) (j : Fin 768) : iblk (F := Ideal) m c 0 t (ix2 r j)
    = wideX (aArg m c) (ix2 ⟨1024 * (t.val / 4) + r, by have := lt8 t; omega⟩ ⟨768 * (t.val % 4) + j, by omega⟩) := by
  rw [← host_a m c]
  blk_simp [iblk]
  congr 1
  blk_ext [at0_0]

theorem blk0_1 (r : Fin 1024) (j : Fin 768) : iblk (F := Ideal) m c 1 t (ix2 r j)
    = wideX (bArg m c) (ix2 ⟨1024 * (t.val / 4) + r, by have := lt8 t; omega⟩ ⟨768 * (t.val % 4) + j, by omega⟩) := by
  rw [← host_b m c]
  blk_simp [iblk]
  congr 1
  blk_ext [at0_1]

theorem blk0_2 (s : Fin 2) (d : Fin 1024) (j : Fin 384) : iblk (F := Ideal) m c 2 t (ix3 s d j)
    = wideC (gArg m c) (ix2 d ⟨768 * (t.val % 4) + (384 * s + j), by omega⟩) := by
  have h := host_gate m c ⟨2 * (t.val % 4) + s, by omega⟩ d j
  refine Eq.trans ?_ (h.trans (congrArg (fun k => wideC (gArg m c) (ix2 d k)) (Fin.ext ?_)))
  · blk_simp [iblk]
    congr 1
    blk_ext [at0_2]
  · show 384 * (2 * (t.val % 4) + s) + j = 768 * (t.val % 4) + (384 * s + j)
    omega

theorem blk0_3 (s : Fin 2) (d : Fin 1024) (j : Fin 384) : iblk (F := Ideal) m c 3 t (ix3 s d j)
    = wideC (uArg m c) (ix2 d ⟨768 * (t.val % 4) + (384 * s + j), by omega⟩) := by
  have h := host_up m c ⟨2 * (t.val % 4) + s, by omega⟩ d j
  refine Eq.trans ?_ (h.trans (congrArg (fun k => wideC (uArg m c) (ix2 d k)) (Fin.ext ?_)))
  · blk_simp [iblk]
    congr 1
    blk_ext [at0_3]
  · show 384 * (2 * (t.val % 4) + s) + j = 768 * (t.val % 4) + (384 * s + j)
    omega

theorem blk0_4 (r d : Fin 1024) : iblk (F := Ideal) m c 4 t (ix2 r d)
    = eArg m c (ix2 ⟨1024 * (t.val / 4) + r, by have := lt8 t; omega⟩ d) := by
  rw [← show V m c main_arg4 = eArg m c from V_main_arg4 m c]
  blk_simp [iblk]
  congr 1
  blk_ext [at0_4]

theorem blk0_5 (r d : Fin 1024) : iblk (F := Ideal) m c 5 t (ix2 r d)
    = xArg m c (ix2 ⟨1024 * (t.val / 4) + r, by have := lt8 t; omega⟩ d) := by
  rw [← show V m c main_arg5 = xArg m c from V_main_arg5 m c]
  blk_simp [iblk]
  congr 1
  blk_ext [at0_5]

theorem blk0_6 (r : Fin 1024) (k : Fin 128) : iblk (F := Ideal) m c 6 t (ix2 r k)
    = sArg m c (ix2 ⟨1024 * (t.val / 4) + r, by have := lt8 t; omega⟩ 0) := by
  refine Eq.trans ?_ (host_rstd m c _ k)
  blk_simp [iblk]
  congr 1
  blk_ext [at0_6]

theorem blk0_7 (d : Fin 1024) : iblk (F := Ideal) m c 7 t (ix2 0 d) = nArg m c (ix1 d) := by
  refine Eq.trans ?_ (host_scale m c d)
  blk_simp [iblk]
  congr 1
  blk_ext [at0_7]

theorem place0_8 (r d : Fin 1024) :
    (win0_8.blk t).view.emb (ix2 r d) = (ix2 ⟨1024 * (t.val / 4) + r, by have := lt8 t; omega⟩ d : S2048x1024.Idx) := by
  blk_ext [at0_8]

theorem place0_9 (d : Fin 1024) : (win0_9.blk t).view.emb (ix2 0 d) = (ix2 0 d : S1x1024.Idx) := by
  blk_ext [at0_9]

theorem place0_10 (d : Fin 1024) : (win0_10.blk t).view.emb (ix2 0 d) = (ix2 0 d : S1x1024.Idx) := by
  blk_ext [at0_10]

end Cert.KernelUIdeal.Run

end
-- ==== Proof.FeedForwardBwdRef.lean ====
/-
  The reference program of the gradient back through the two up-going products and the layer norm.
-/
module

public import proofs.«01_k».proof.Proof.Gen.ReferenceUIdeal
public import Idealize.ShloMosaic.Lib.Pointwise
public import Idealize.ShloMosaic.Lib.StableHlo.RunRead
public import Idealize.ShloMosaic.Lib.Claim
public import proofs.«01_k».proof.Proof.FeedForwardBwd

@[expose] public section

set_option maxRecDepth 16384

noncomputable section

namespace Cert.ReferenceUIdeal.Run

open Idealize.ShloMosaic Idealize.ShloMosaic.TcCoe Idealize.SL.Sem Cert.ReferenceUIdeal Cert.ReferenceUIdeal.Gen
open Cert.FeedForward Cert.FeedForwardBwd

variable (m : (ℓ : Loc nD τ sig) → Buf (Elt Ideal) ℓ) (ρ : Dev nD → PrngReg)

/-- The reference program leaves its arguments and its counters as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  hlo_run
  · exact fun _ => ⟨trivial, trivial, trivial, trivial, trivial, trivial, trivial, trivial⟩
  · exact sem_eq_zero_of_no_sems (by decide) _

/-- The arguments on a device. -/
abbrev aArg (c : Dev nD) : Mat 2048 2816 := m ((c.tc : Thread nD τ).loc main_arg0)
abbrev bArg (c : Dev nD) : Mat 2048 2816 := m ((c.tc : Thread nD τ).loc main_arg1)
abbrev gArg (c : Dev nD) : Mat 1024 2816 := m ((c.tc : Thread nD τ).loc main_arg2)
abbrev uArg (c : Dev nD) : Mat 1024 2816 := m ((c.tc : Thread nD τ).loc main_arg3)
abbrev eArg (c : Dev nD) : Mat 2048 1024 := m ((c.tc : Thread nD τ).loc main_arg4)
abbrev xArg (c : Dev nD) : Mat 2048 1024 := m ((c.tc : Thread nD τ).loc main_arg5)
abbrev sArg (c : Dev nD) : Mat 2048 1 := m ((c.tc : Thread nD τ).loc main_arg6)
abbrev nArg (c : Dev nD) : Row := m ((c.tc : Thread nD τ).loc main_arg7)

/-- The gradient of the layer's input. -/
abbrev dh (c : Dev nD) : Mat 2048 1024 := atInput (aArg m c) (bArg m c) (gArg m c) (uArg m c) (eArg m c)

/-- The gradient of the layer's input, one product after the other. -/
theorem atInput_eq (a b : Mat 2048 2816) (g u : Mat 1024 2816) (e : Mat 2048 1024) (r : Fin 2048) (d : Fin 1024) :
    (scale * e (ix2 r d) + ∑ j : Fin 2816, b (ix2 r j) * u (ix2 d j)) + ∑ j : Fin 2816, a (ix2 r j) * g (ix2 d j)
      = atInput a b g u e (ix2 r d) := by
  refine (add_assoc (G := EReal) _ _ _).trans (congrArg (HAdd.hAdd (α := EReal) (scale * e (ix2 r d))) ?_)
  refine (add_comm (G := EReal) _ _).trans (Finset.sum_add_distrib.symm.trans (Eq.trans ?_ (Finset.sum_range _).symm))
  exact Finset.sum_congr rfl fun j _ => congrArg₂ (HAdd.hAdd (α := EReal)) (term_eq a g r d j).symm (term_eq b u r d j).symm

/-- The reference program leaves the gradients, and its arguments as they were. -/
theorem value : θ_run defs (onTc (τ := τ) (main (F := Ideal))) ⟨m, fun _ => 0, ρ⟩ (fun r => ∀ c : Dev nD,
      (r.2.mem ((c.tc : Thread nD τ).loc main_v26) = atNorm (dh m c) (xArg m c) (sArg m c) (nArg m c)
      ∧ r.2.mem ((c.tc : Thread nD τ).loc main_v28) = atScale (dh m c) (xArg m c)
      ∧ r.2.mem ((c.tc : Thread nD τ).loc main_v29) = atShift (dh m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  hlo_run
  · funext i
    idx_vars i
    pointwise
    exact congrArg (fun y => normBack y (fun k => xArg m c (ix2 i0 k)) (fun k => nArg m c (ix1 k)) (sArg m c (ix2 i0 0)) i1)
      (funext fun k => atInput_eq (aArg m c) (bArg m c) (gArg m c) (uArg m c) (eArg m c) i0 k)
  · funext i
    idx_vars i
    pointwise
    exact Finset.sum_congr rfl fun r _ => congrArg (fun y : EReal => y * xArg m c (ix2 r i0))
      (atInput_eq (aArg m c) (bArg m c) (gArg m c) (uArg m c) (eArg m c) r i0)
  · funext i
    idx_vars i
    pointwise
    exact Finset.sum_congr rfl fun r _ => atInput_eq (aArg m c) (bArg m c) (gArg m c) (uArg m c) (eArg m c) r i0

end Cert.ReferenceUIdeal.Run
end
-- ==== Proof.FeedForwardBwdKernel.lean ====
/-
  The gradient back through the two up-going products in the kernel program: a tile's sum over the blocks of the
  columns, carried from block to block; the norm's gradient at each tile's last block; and the sums over the rows for
  the norm's scale and shift, carried from tile to tile.
-/
module

public import proofs.«01_k».proof.Proof.FeedForwardBwdBlocks
public import proofs.«01_k».proof.Proof.FeedForwardBwdRef
public import proofs.«01_k».proof.Proof.GradX
public import proofs.«01_k».proof.Defs

@[expose] public section

set_option maxRecDepth 16384

noncomputable section

namespace Cert.KernelUIdeal.Run

open Idealize.ShloMosaic Idealize.ShloMosaic.TcCoe Cert.KernelUIdeal Cert.KernelUIdeal.Gen Cert.FeedForward Cert.FeedForwardBwd
open Idealize.SL Idealize.SL.RA Idealize.SL.BI Idealize.SL.Sem
open Idealize.ShloMosaic.StableHlo Idealize.ShloMosaic.Tactic

variable (m : (ℓ : Loc nD τ sig) → Buf (Elt Ideal) ℓ) (c : Dev nD) (t : Fin cfg0.N)

/-- The terms of the products, at the wide layout. -/
abbrev terms (r d j : ℕ) : EReal := both (wideX (aArg m c)) (wideX (bArg m c)) (wideC (gArg m c)) (wideC (uArg m c)) r d j

/-- The gradient of the layer's input. -/
abbrev dh : Mat 2048 1024 := atInput (aArg m c) (bArg m c) (gArg m c) (uArg m c) (eArg m c)

/-- The position of an element of a block's one shard. -/
theorem idx_shard {o : ℕ} (inb) (s : Fin 2) (d : Fin 1024) (x : Fin 384) (h : o = s) :
    (Rect.unit (s := S2x1024x384) ![o, 0, 0] ![1, 1024, 384] inb).idx (ix3 0 d x) = ix3 s d x := by
  refine funext fun k => Fin.ext ?_
  fin_cases k
  · show o + 1 * 0 = (s : ℕ)
    omega
  · show 0 + 1 * (d : ℕ) = d
    omega
  · show 0 + 1 * (x : ℕ) = x
    omega

/-- One product of a point is the terms of its 768 columns. -/
theorem half (p : Vec Ideal S1024x768 .bf16) (q : Vec Ideal S2x1024x384 .bf16) (x : Mat 2048 3072) (w : Mat 1024 3072)
    (hp : ∀ (r : Fin 1024) (j : Fin 768), p (ix2 r j) = x (ix2 ⟨1024 * (t.val / 4) + r, by have := lt8 t; omega⟩ ⟨768 * (t.val % 4) + j, by omega⟩))
    (hq : ∀ (s : Fin 2) (d : Fin 1024) (j : Fin 384), q (ix3 s d j) = w (ix2 d ⟨768 * (t.val % 4) + (384 * s + j), by omega⟩))
    (r d : Fin 1024) :
    (∑ k : Fin 384, (p (ix2 r ⟨k, by omega⟩) : EReal)
          * (View.ld q (Rect.unit ![0, 0, 0] ![1, 1024, 384] inb_S2x1024x384_S1x1024x384_0_0_0) (ix3 0 d k) : EReal))
        + (∑ k : Fin 384, (p (ix2 r ⟨384 + k, by omega⟩) : EReal)
          * (View.ld q (Rect.unit ![1, 0, 0] ![1, 1024, 384] inb_S2x1024x384_S1x1024x384_1_0_0) (ix3 0 d k) : EReal))
      = ∑ j ∈ Finset.range 768, term x w (1024 * (t.val / 4) + r) d (768 * (t.val % 4) + j) := by
  refine (congrArg₂ (HAdd.hAdd (α := EReal)) (Finset.sum_congr rfl fun k _ => ?_) (Finset.sum_congr rfl fun k _ => ?_)).trans
    (Cert.GradX.sum_halves 384 (fun j => term x w (1024 * (t.val / 4) + r) d (768 * (t.val % 4) + j))).symm
  · have h1 := hp r ⟨k, by omega⟩
    have h2 := hq 0 d k
    refine (congrArg₂ (HMul.hMul (α := EReal)) h1 ((congrArg q (idx_shard _ 0 d k rfl)).trans h2)).trans
      (term_at _ _ ⟨1024 * (t.val / 4) + r, by have := lt8 t; omega⟩ d _ _ rfl ?_)
    show 768 * (t.val % 4) + (384 * 0 + (k : ℕ)) = _
    omega
  · have h1 := hp r ⟨384 + k, by omega⟩
    have h2 := hq 1 d k
    refine (congrArg₂ (HMul.hMul (α := EReal)) h1 ((congrArg q (idx_shard _ 1 d k rfl)).trans h2)).trans
      (term_at _ _ ⟨1024 * (t.val / 4) + r, by have := lt8 t; omega⟩ d _ _ rfl ?_)
    show 768 * (t.val % 4) + (384 * 1 + (k : ℕ)) = _
    omega

/-- What a point adds: the terms of its 768 columns. -/
theorem block (r d : Fin 1024) :
    k0_pay11 (F := Ideal) (iblk m c 0 t)
      (View.ld (iblk m c 2 t) (Rect.unit ![0, 0, 0] ![1, 1024, 384] inb_S2x1024x384_S1x1024x384_0_0_0))
      (View.ld (iblk m c 2 t) (Rect.unit ![1, 0, 0] ![1, 1024, 384] inb_S2x1024x384_S1x1024x384_1_0_0)) (iblk m c 1 t)
      (View.ld (iblk m c 3 t) (Rect.unit ![0, 0, 0] ![1, 1024, 384] inb_S2x1024x384_S1x1024x384_0_0_0))
      (View.ld (iblk m c 3 t) (Rect.unit ![1, 0, 0] ![1, 1024, 384] inb_S2x1024x384_S1x1024x384_1_0_0)) (ix2 r d)
      = ∑ j ∈ Finset.range 768, terms m c (1024 * (t.val / 4) + r) d (768 * (t.val % 4) + j) :=
  (pay11_apply _ _ _ _ _ _ r d).trans ((congrArg₂ (HAdd.hAdd (α := EReal))
    (half t _ _ _ _ (blk0_0 m c t) (blk0_2 m c t) r d) (half t _ _ _ _ (blk0_1 m c t) (blk0_3 m c t) r d)).trans
    Finset.sum_add_distrib.symm)

/-! ## The carried sum -/

theorem start (h0 : t.val % 4 = 0) (r d : Fin 1024) :
    (outsAt0 m c t.val t.isLt).2.2.2 (ix2 r d) = ∑ j ∈ Finset.range 768, terms m c (1024 * (t.val / 4) + r) d (768 * (t.val % 4) + j) := by
  by_cases h8 : t.val % 8 = 0
  · rw [outsAt0_A m c t h8 h0 (by omega) (by omega)]
    frame_out
    rw [pay12_apply]
    exact block m c t r d
  · rw [outsAt0_D m c t h8 h0 (by omega) (by omega)]
    frame_out
    rw [pay12_apply]
    exact block m c t r d

theorem step (h0 : ¬ t.val % 4 = 0) (h3 : ¬t.val % 4 = 3) (r d : Fin 1024) :
    (outsAt0 m c t.val t.isLt).2.2.2 (ix2 r d)
      = HAdd.hAdd (α := EReal) ((outsAt0 m c (t.val - 1) (by have := t.isLt; omega)).2.2.2 (ix2 r d))
        (∑ j ∈ Finset.range 768, terms m c (1024 * (t.val / 4) + r) d (768 * (t.val % 4) + j)) := by
  rw [outsAt0_B m c t (by omega) h0 (by omega) h3]
  frame_out
  refine (pay13_apply _ _ _ _ _ _ _ _).trans (congrArg₂ (HAdd.hAdd (α := EReal)) ?_ (block m c t r d))
  exact congrFun (Memref.IsWhole.read_unread (Memref.isWhole_whole _) _) _

/-- The sum carried out of the first points of a row of tiles. -/
theorem carried (k : ℕ) (hk : k < 3) (i : Fin 2) (r d : Fin 1024) :
    ∀ h : 4 * i.val + k < cfg0.N, (outsAt0 m c (4 * i.val + k) h).2.2.2 (ix2 r d)
      = ∑ j ∈ Finset.range (768 * (k + 1)), terms m c (1024 * i + r) d j := by
  induction k with
  | zero =>
    intro h
    refine (start m c ⟨4 * i.val + 0, h⟩ (by show (4 * i.val + 0) % 4 = 0; omega) r d).trans ?_
    refine Finset.sum_congr rfl fun j _ => ?_
    show terms m c (1024 * ((4 * i.val + 0) / 4) + r) d (768 * ((4 * i.val + 0) % 4) + j) = _
    rw [show (4 * i.val + 0) / 4 = i.val by omega, show (4 * i.val + 0) % 4 = 0 by omega, show 768 * 0 + j = j by omega]
  | succ k ih =>
    intro h
    have hN : cfg0.N = 8 := N_0
    refine (step m c ⟨4 * i.val + (k + 1), h⟩ (by show ¬ (4 * i.val + (k + 1)) % 4 = 0; omega) (by show ¬ (4 * i.val + (k + 1)) % 4 = 3; omega) r d).trans ?_
    rw [show 768 * (k + 1 + 1) = 768 * (k + 1) + 768 by omega, Finset.sum_range_add]
    refine congrArg₂ (HAdd.hAdd (α := EReal)) (ih (by omega) (by omega)) (Finset.sum_congr rfl fun j _ => ?_)
    show terms m c (1024 * ((4 * i.val + (k + 1)) / 4) + r) d (768 * ((4 * i.val + (k + 1)) % 4) + j) = _
    rw [show (4 * i.val + (k + 1)) / 4 = i.val by omega, show (4 * i.val + (k + 1)) % 4 = k + 1 by omega]

/-! ## A tile's last point -/

/-- The sum at a tile's last point, and the gradient of the layer's input made of it. -/
theorem last (h3 : t.val % 4 = 3) (p : Vec Ideal S1024x1024 .f32) (r d : Fin 1024)
    (hp : ∀ r d : Fin 1024, p (ix2 r d) = HAdd.hAdd (α := EReal) ((outsAt0 m c (t.val - 1) (by have := t.isLt; omega)).2.2.2 (ix2 r d))
        (∑ j ∈ Finset.range 768, terms m c (1024 * (t.val / 4) + r) d (768 * (t.val % 4) + j))) :
    k0_pay2 (F := Ideal) (iblk m c 4 t) p (ix2 r d) = dh m c (ix2 ⟨1024 * (t.val / 4) + r, by have := lt8 t; omega⟩ d) := by
  have h8 := lt8 t
  rw [show dh m c = _ from (atInput_wide _ _ _ _ _).symm]
  refine (pay2_apply _ _ _).trans (congrArg₂ (HAdd.hAdd (α := EReal)) (congrArg (scale * ·) (blk0_4 m c t r d)) ((hp r d).trans ?_))
  have hc := carried m c 2 (by omega) ⟨t.val / 4, by omega⟩ r d
  simp only [show 4 * (t.val / 4) + 2 = t.val - 1 by omega] at hc
  refine (congrArg₂ (HAdd.hAdd (α := EReal)) (hc (by have := t.isLt; omega)) rfl).trans ?_
  rw [h3]
  exact (Finset.sum_range_add (terms m c (1024 * (t.val / 4) + r) d) 2304 768).symm

/-- The norm's gradient, of a block that holds the gradient of the layer's input. -/
theorem norm_of (p : Vec Ideal S1024x1024 .f32)
    (hp : ∀ r d : Fin 1024, k0_pay2 (F := Ideal) (iblk m c 4 t) p (ix2 r d) = dh m c (ix2 ⟨1024 * (t.val / 4) + r, by have := lt8 t; omega⟩ d)) (r d : Fin 1024) :
    k0_pay1 (F := Ideal) (iblk m c 5 t) (k0_pay5 (F := Ideal) (iblk m c 6 t)) (k0_pay6 (F := Ideal) (iblk m c 4 t) p (iblk m c 7 t))
        (k0_pay7 (F := Ideal) (iblk m c 4 t) p (iblk m c 7 t)) (k0_pay8 (F := Ideal) (iblk m c 4 t) p (iblk m c 5 t) (iblk m c 7 t)) (ix2 r d)
      = atNorm (dh m c) (xArg m c) (sArg m c) (nArg m c) (ix2 ⟨1024 * (t.val / 4) + r, by have := lt8 t; omega⟩ d) := by
  have h6 (k : Fin 1024) : k0_pay6 (F := Ideal) (iblk m c 4 t) p (iblk m c 7 t) (ix2 r k)
      = HMul.hMul (α := EReal) (dh m c (ix2 ⟨1024 * (t.val / 4) + r, by have := lt8 t; omega⟩ k)) (nArg m c (ix1 k)) :=
    (pay6_apply _ _ _ r k).trans (congrArg₂ (HMul.hMul (α := EReal)) (hp r k) (blk0_7 m c t k))
  refine (pay1_apply _ _ _ _ _ r d).trans (congrArg₂ (HMul.hMul (α := EReal)) (pay5_apply _ r _ (blk0_6 m c t r)) ?_)
  refine congrArg₂ (HSub.hSub (α := EReal)) (congrArg₂ (HSub.hSub (α := EReal)) (h6 d) ?_) (congrArg₂ (HMul.hMul (α := EReal)) (blk0_5 m c t r d) ?_)
  · exact (pay7_apply _ _ _ r).trans (congrArg (Ideal.div · width) (Finset.sum_congr rfl fun k _ => h6 k))
  · refine congrArg (Ideal.div · width) ((pay8_apply _ _ _ _ r).trans (Finset.sum_congr rfl fun k _ => ?_))
    exact congrArg₂ (HMul.hMul (α := EReal)) (h6 k) (blk0_5 m c t r k)

theorem norm_last (h3 : t.val % 4 = 3) (r d : Fin 1024) :
    (outsAt0 m c t.val t.isLt).1 (ix2 r d)
      = atNorm (dh m c) (xArg m c) (sArg m c) (nArg m c) (ix2 ⟨1024 * (t.val / 4) + r, by have := lt8 t; omega⟩ d) := by
  rw [outsAt0_C m c t (by omega) (by omega) (by omega) h3]
  frame_out
  refine norm_of m c t _ (fun r d => last m c t h3 _ r d fun r d => ?_) r d
  refine (pay13_apply _ _ _ _ _ _ _ _).trans (congrArg₂ (HAdd.hAdd (α := EReal)) ?_ (block m c t r d))
  exact congrFun (Memref.IsWhole.read_unread (Memref.isWhole_whole _) _) _

theorem scale_last (h3 : t.val % 4 = 3) (d : Fin 1024) :
    (outsAt0 m c t.val t.isLt).2.1 (ix2 0 d)
      = HAdd.hAdd (α := EReal) ((outsAt0 m c (t.val - 1) (by have := t.isLt; omega)).2.1 (ix2 0 d))
        (∑ r : Fin 1024, dh m c (ix2 ⟨1024 * (t.val / 4) + r, by have := lt8 t; omega⟩ d) * xArg m c (ix2 ⟨1024 * (t.val / 4) + r, by have := lt8 t; omega⟩ d)) := by
  rw [outsAt0_C m c t (by omega) (by omega) (by omega) h3]
  frame_out
  refine (pay3_apply _ _ _ _ d).trans (congrArg₂ (HAdd.hAdd (α := EReal)) rfl (Finset.sum_congr rfl fun r _ => ?_))
  refine congrArg₂ (HMul.hMul (α := EReal)) (last m c t h3 _ r d fun r d => ?_) (blk0_5 m c t r d)
  refine (pay13_apply _ _ _ _ _ _ _ _).trans (congrArg₂ (HAdd.hAdd (α := EReal)) ?_ (block m c t r d))
  exact congrFun (Memref.IsWhole.read_unread (Memref.isWhole_whole _) _) _

theorem shift_last (h3 : t.val % 4 = 3) (d : Fin 1024) :
    (outsAt0 m c t.val t.isLt).2.2.1 (ix2 0 d)
      = HAdd.hAdd (α := EReal) ((outsAt0 m c (t.val - 1) (by have := t.isLt; omega)).2.2.1 (ix2 0 d))
        (∑ r : Fin 1024, dh m c (ix2 ⟨1024 * (t.val / 4) + r, by have := lt8 t; omega⟩ d)) := by
  rw [outsAt0_C m c t (by omega) (by omega) (by omega) h3]
  frame_out
  refine (pay4_apply _ _ _ d).trans (congrArg₂ (HAdd.hAdd (α := EReal)) rfl (Finset.sum_congr rfl fun r _ => ?_))
  refine last m c t h3 _ r d fun r d => ?_
  refine (pay13_apply _ _ _ _ _ _ _ _).trans (congrArg₂ (HAdd.hAdd (α := EReal)) ?_ (block m c t r d))
  exact congrFun (Memref.IsWhole.read_unread (Memref.isWhole_whole _) _) _

/-! ## The sums over the rows -/

theorem scale_first (d : Fin 1024) (h : 0 < cfg0.N) : (outsAt0 m c 0 h).2.1 (ix2 0 d) = (0 : EReal) := by
  refine (congrArg (fun p => p.2.1 (ix2 0 d)) (outsAt0_A m c ⟨0, h⟩ rfl rfl (show ¬ 1 ≤ 0 % 4 by decide) (show ¬ 0 % 4 = 3 by decide))).trans ?_
  frame_out
  exact pay9_apply _

theorem shift_first (d : Fin 1024) (h : 0 < cfg0.N) : (outsAt0 m c 0 h).2.2.1 (ix2 0 d) = (0 : EReal) := by
  refine (congrArg (fun p => p.2.2.1 (ix2 0 d)) (outsAt0_A m c ⟨0, h⟩ rfl rfl (show ¬ 1 ≤ 0 % 4 by decide) (show ¬ 0 % 4 = 3 by decide))).trans ?_
  frame_out
  exact pay10_apply _

/-- At a point that is neither the first nor a tile's last the two sums stay. -/
theorem keep (h8 : ¬ t.val % 8 = 0) (h3 : ¬ t.val % 4 = 3) :
    (outsAt0 m c t.val t.isLt).2.1 = (outsAt0 m c (t.val - 1) (by have := t.isLt; omega)).2.1
      ∧ (outsAt0 m c t.val t.isLt).2.2.1 = (outsAt0 m c (t.val - 1) (by have := t.isLt; omega)).2.2.1 := by
  by_cases h0 : t.val % 4 = 0
  · rw [outsAt0_D m c t h8 h0 (by omega) h3]
    exact ⟨rfl, rfl⟩
  · rw [outsAt0_B m c t h8 h0 (by omega) h3]
    exact ⟨rfl, rfl⟩

/-- Between a tile's first point and its last the two sums stay. -/
theorem kept (i : Fin 2) (h : 4 * i.val + 2 < cfg0.N) :
    (outsAt0 m c (4 * i.val + 2) h).2.1 = (outsAt0 m c (4 * i.val) (by omega)).2.1
      ∧ (outsAt0 m c (4 * i.val + 2) h).2.2.1 = (outsAt0 m c (4 * i.val) (by omega)).2.2.1 := by
  have h2 := keep m c ⟨4 * i.val + 2, h⟩ (by show ¬ (4 * i.val + 2) % 8 = 0; omega) (by show ¬ (4 * i.val + 2) % 4 = 3; omega)
  have h1 := keep m c ⟨4 * i.val + 1, by omega⟩ (by show ¬ (4 * i.val + 1) % 8 = 0; omega) (by show ¬ (4 * i.val + 1) % 4 = 3; omega)
  simp only [show 4 * i.val + 2 - 1 = 4 * i.val + 1 by omega, show 4 * i.val + 1 - 1 = 4 * i.val by omega] at h1 h2
  exact ⟨h2.1.trans h1.1, h2.2.trans h1.2⟩

/-- The first tile's sum for the scale, and after it both tiles' sum. -/
theorem scale_all (d : Fin 1024) (h : 7 < cfg0.N) : (outsAt0 m c 7 h).2.1 (ix2 0 d) = atScale (dh m c) (xArg m c) (ix1 d) := by
  have f7 := scale_last m c ⟨7, h⟩ (show 7 % 4 = 3 by decide) d
  have f3 := scale_last m c ⟨3, by omega⟩ (show 3 % 4 = 3 by decide) d
  have k6 := congrFun (kept m c 1 (by show 6 < _; omega)).1 (ix2 0 d)
  have k4 := congrFun (keep m c ⟨4, by omega⟩ (show ¬ 4 % 8 = 0 by decide) (show ¬ 4 % 4 = 3 by decide)).1 (ix2 0 d)
  have k2 := congrFun (kept m c 0 (by show 2 < _; omega)).1 (ix2 0 d)
  have k0 := scale_first m c d (by omega)
  refine f7.trans ((congrArg₂ (HAdd.hAdd (α := EReal)) (k6.trans (k4.trans (f3.trans (congrArg₂ (HAdd.hAdd (α := EReal)) (k2.trans k0) rfl)))) rfl).trans ?_)
  refine ((congrArg₂ (HAdd.hAdd (α := EReal)) (zero_add _) rfl).trans ?_).trans (sum_tiles _).symm
  refine congrArg₂ (HAdd.hAdd (α := EReal)) (Finset.sum_congr rfl fun r _ => ?_) (Finset.sum_congr rfl fun r _ => ?_)
  · have e : (⟨1024 * (3 / 4) + r, by omega⟩ : Fin 2048) = ⟨r, by omega⟩ := Fin.ext (show 1024 * (3 / 4) + (r : ℕ) = r by omega)
    exact congrArg (fun k => HMul.hMul (α := EReal) (dh m c (ix2 k d)) (xArg m c (ix2 k d))) e
  · have e : (⟨1024 * (7 / 4) + r, by omega⟩ : Fin 2048) = ⟨1024 + r, by omega⟩ := Fin.ext (show 1024 * (7 / 4) + (r : ℕ) = 1024 + r by omega)
    exact congrArg (fun k => HMul.hMul (α := EReal) (dh m c (ix2 k d)) (xArg m c (ix2 k d))) e

theorem shift_all (d : Fin 1024) (h : 7 < cfg0.N) : (outsAt0 m c 7 h).2.2.1 (ix2 0 d) = atShift (dh m c) (ix1 d) := by
  have f7 := shift_last m c ⟨7, h⟩ (show 7 % 4 = 3 by decide) d
  have f3 := shift_last m c ⟨3, by omega⟩ (show 3 % 4 = 3 by decide) d
  have k6 := congrFun (kept m c 1 (by show 6 < _; omega)).2 (ix2 0 d)
  have k4 := congrFun (keep m c ⟨4, by omega⟩ (show ¬ 4 % 8 = 0 by decide) (show ¬ 4 % 4 = 3 by decide)).2 (ix2 0 d)
  have k2 := congrFun (kept m c 0 (by show 2 < _; omega)).2 (ix2 0 d)
  have k0 := shift_first m c d (by omega)
  refine f7.trans ((congrArg₂ (HAdd.hAdd (α := EReal)) (k6.trans (k4.trans (f3.trans (congrArg₂ (HAdd.hAdd (α := EReal)) (k2.trans k0) rfl)))) rfl).trans ?_)
  refine ((congrArg₂ (HAdd.hAdd (α := EReal)) (zero_add _) rfl).trans ?_).trans (sum_tiles _).symm
  refine congrArg₂ (HAdd.hAdd (α := EReal)) (Finset.sum_congr rfl fun r _ => ?_) (Finset.sum_congr rfl fun r _ => ?_)
  · have e : (⟨1024 * (3 / 4) + r, by omega⟩ : Fin 2048) = ⟨r, by omega⟩ := Fin.ext (show 1024 * (3 / 4) + (r : ℕ) = r by omega)
    exact congrArg (fun k => dh m c (ix2 k d)) e
  · have e : (⟨1024 * (7 / 4) + r, by omega⟩ : Fin 2048) = ⟨1024 + r, by omega⟩ := Fin.ext (show 1024 * (7 / 4) + (r : ℕ) = 1024 + r by omega)
    exact congrArg (fun k => dh m c (ix2 k d)) e

/-! ## The arrays after the run -/

/-- The norm's gradient is written back at a tile's last point only. -/
theorem flushes8 : ∀ t : Fin cfg0.N, (cfg0.win 8).flush t = true → t.val % 4 = 3 :=
  (by decide +kernel : ∀ t : Fin cfg0.N, (cfg0.win 8).flush t = true → t.val % 4 = 3)

/-- The two sums over the rows are written back at the last point only. -/
theorem flushes9 : ∀ t : Fin cfg0.N, (cfg0.win 9).flush t = true → t.val = 7 :=
  (by decide +kernel : ∀ t : Fin cfg0.N, (cfg0.win 9).flush t = true → t.val = 7)
theorem flushes10 : ∀ t : Fin cfg0.N, (cfg0.win 10).flush t = true → t.val = 7 :=
  (by decide +kernel : ∀ t : Fin cfg0.N, (cfg0.win 10).flush t = true → t.val = 7)

theorem arr_norm : (dats m 0 c).arrAt 8 cfg0.N = atNorm (dh m c) (xArg m c) (sArg m c) (nArg m c) := by
  refine (dats m 0 c).arrAt_eq_of_covers 8 _ (by decide +kernel) fun t hf y => ?_
  blk_simp
  rw [after0_8]
  obtain ⟨r, d, rfl⟩ : ∃ (r : Fin 1024) (d : Fin 1024), y = ix2 r d := ⟨y 0, y 1, by funext k; fin_cases k <;> rfl⟩
  exact (norm_last m c t (flushes8 t hf) r d).trans (congrArg _ (place0_8 t r d).symm)

/-- An array of one row. -/
def oneRow (v : Row) : S1x1024.Idx → EReal := fun i => v (ix1 (i 1))

theorem arr_scale : (dats m 0 c).arrAt 9 cfg0.N = oneRow (atScale (dh m c) (xArg m c)) := by
  refine (dats m 0 c).arrAt_eq_of_covers 9 _ (by decide +kernel) fun t hf y => ?_
  blk_simp
  rw [after0_9]
  obtain ⟨d, rfl⟩ : ∃ d : Fin 1024, y = ix2 0 d := ⟨y 1, by funext k; fin_cases k; exacts [Subsingleton.elim (α := Fin 1) _ _, rfl]⟩
  obtain rfl : t = ⟨7, by show 7 < 8; omega⟩ := Fin.ext (flushes9 t hf)
  exact (show _ = oneRow (atScale (dh m c) (xArg m c)) (ix2 0 d) from scale_all m c d _).trans (congrArg (oneRow (atScale (dh m c) (xArg m c))) (place0_9 _ d).symm)

theorem arr_shift : (dats m 0 c).arrAt 10 cfg0.N = oneRow (atShift (dh m c)) := by
  refine (dats m 0 c).arrAt_eq_of_covers 10 _ (by decide +kernel) fun t hf y => ?_
  blk_simp
  rw [after0_10]
  obtain ⟨d, rfl⟩ : ∃ d : Fin 1024, y = ix2 0 d := ⟨y 1, by funext k; fin_cases k; exacts [Subsingleton.elim (α := Fin 1) _ _, rfl]⟩
  obtain rfl : t = ⟨7, by show 7 < 8; omega⟩ := Fin.ext (flushes10 t hf)
  exact (show _ = oneRow (atShift (dh m c)) (ix2 0 d) from shift_all m c d _).trans (congrArg (oneRow (atShift (dh m c))) (place0_10 _ d).symm)

/-- The call's arrays are eleven different ones. -/
theorem arr_inj : Function.Injective (Pipeline.arrRef spec0) := by decide

/-- The lines after the call lay each row of sums as a vector. -/
theorem tail_scale : Pipeline.afterTail₀ cfgs (dats m) 0 (V0 m) [hostOps1] c main_v21 = atScale (dh m c) (xArg m c) := by
  funext i
  idx_vars i
  unfold Pipeline.afterTail₀
  simp only [List.flatten_cons, List.flatten_nil, List.append_nil]
  after_reads_simp
  pointwise
  exact congrFun ((Pipeline.withArrays_arr (cfgs 0).spec arr_inj c (V0 m c) (fun w => (dats m 0 c).arrAt w (cfgs 0).N) 9).trans (arr_scale m c)) (ix2 0 i0)

theorem tail_shift : Pipeline.afterTail₀ cfgs (dats m) 0 (V0 m) [hostOps1] c main_v22 = atShift (dh m c) := by
  funext i
  idx_vars i
  unfold Pipeline.afterTail₀
  simp only [List.flatten_cons, List.flatten_nil, List.append_nil]
  after_reads_simp
  pointwise
  exact congrFun ((Pipeline.withArrays_arr (cfgs 0).spec arr_inj c (V0 m c) (fun w => (dats m 0 c).arrAt w (cfgs 0).N) 10).trans (arr_shift m c)) (ix2 0 i0)

variable (ρ : Dev nD → PrngReg)

/-- The kernel program leaves the three gradients, and its arguments as they were. -/
theorem value : θ_run defs (onTc (τ := τ) (main (F := Ideal))) ⟨m, fun _ => 0, ρ⟩ (fun r => ∀ c : Dev nD,
      r.2.mem ((c.tc : Thread nD τ).loc main_v20_0) = atNorm (dh m c) (xArg m c) (sArg m c) (nArg m c)
      ∧ r.2.mem ((c.tc : Thread nD τ).loc main_v21) = atScale (dh m c) (xArg m c)
      ∧ r.2.mem ((c.tc : Thread nD τ).loc main_v22) = atShift (dh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_mono (θ_run_and (run_main m ρ) (unchanged m ρ)) fun r h c =>
    ⟨((h.1 c).1 8).trans (arr_norm m c),
      ((h.1 c).2 main_v21 (Pipeline.mem_restRefs_of main_v21 (by decide) (by decide))).trans (tail_scale m c),
      ((h.1 c).2 main_v22 (Pipeline.mem_restRefs_of main_v22 (by decide) (by decide))).trans (tail_shift m c), h.2 c⟩

end Cert.KernelUIdeal.Run

namespace Cert.Proof

open Idealize.ShloMosaic Idealize.ShloMosaic.TcCoe Idealize.SL.Sem Cert.FeedForwardBwd

/-- The two programs' results are equal, whatever the arguments. -/
theorem algebraic_u : @Cert.algebraic_KernelUIdeal_ReferenceUIdeal Cert.KernelUIdeal.Gen.facts Cert.ReferenceUIdeal.Gen.facts := by
  intro m g m' g' _ heq
  refine ⟨_, _, _, Cert.KernelUIdeal.Run.value m g, θ_run_mono (Cert.ReferenceUIdeal.Run.value m' g') fun r h c => ?_⟩
  obtain ⟨h0, h1, h2, h3, h4, h5, h6, h7⟩ := heq c
  have hd : Cert.ReferenceUIdeal.Run.dh m' c = Cert.KernelUIdeal.Run.dh m c := by
    unfold Cert.ReferenceUIdeal.Run.dh Cert.ReferenceUIdeal.Run.aArg Cert.ReferenceUIdeal.Run.bArg Cert.ReferenceUIdeal.Run.gArg Cert.ReferenceUIdeal.Run.uArg Cert.ReferenceUIdeal.Run.eArg
    rw [h0, h1, h2, h3, h4]
  obtain ⟨⟨k1, k2, k3⟩, k4⟩ := h c
  rw [hd] at k1 k2 k3
  refine ⟨k1.trans ?_, k2.trans ?_, k3, k4⟩
  · unfold Cert.ReferenceUIdeal.Run.xArg Cert.ReferenceUIdeal.Run.sArg Cert.ReferenceUIdeal.Run.nArg
    rw [h5, h6, h7]
  · unfold Cert.ReferenceUIdeal.Run.xArg
    rw [h5]

end Cert.Proof

end
-- ==== Proof.MixerGrads.lean ====
/-
  The gradient of a weight of the mixer, and the reference program: it leaves the four gradients.
-/
module

public import proofs.«01_k».proof.Proof.Gen.ReferenceGIdeal
public import Idealize.ShloMosaic.Lib.Pointwise
public import Idealize.ShloMosaic.Lib.StableHlo.RunRead
public import Idealize.ShloMosaic.Lib.Claim
public import proofs.«01_k».proof.Proof.FeedForward

@[expose] public section

set_option maxRecDepth 16384

noncomputable section

namespace Cert.MixerGrads

open Idealize.ShloMosaic Cert.FeedForward

/-- The gradient of a weight that multiplies the rows of `x`, where `y` is the gradient of the product. -/
def weightGrad {K : ℕ} (x : Mat 2048 K) (y : Mat 2048 1024) : Mat K 1024 := fun i => ∑ r : Fin 2048, x (ix2 r (i 0)) * y (ix2 r (i 1))

theorem weightGrad_at {K : ℕ} (x : Mat 2048 K) (y : Mat 2048 1024) (j : Fin K) (d : Fin 1024) :
    weightGrad x y (ix2 j d) = ∑ r : Fin 2048, x (ix2 r j) * y (ix2 r d) := rfl

end Cert.MixerGrads

namespace Cert.ReferenceGIdeal.Run

open Idealize.ShloMosaic Idealize.ShloMosaic.TcCoe Idealize.SL.Sem Cert.ReferenceGIdeal Cert.ReferenceGIdeal.Gen Cert.FeedForward Cert.MixerGrads

variable (m : (ℓ : Loc nD τ sig) → Buf (Elt Ideal) ℓ) (ρ : Dev nD → PrngReg)

/-- The reference program leaves its arguments and its counters as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  hlo_run
  · exact fun _ => ⟨trivial, trivial, trivial, trivial, trivial, trivial, trivial, trivial⟩
  · exact sem_eq_zero_of_no_sems (by decide) _

/-- The arguments on a device. -/
abbrev arg0 (c : Dev nD) : Mat 2048 512 := m ((c.tc : Thread nD τ).loc main_arg0)
abbrev arg1 (c : Dev nD) : Mat 2048 1024 := m ((c.tc : Thread nD τ).loc main_arg1)
abbrev arg2 (c : Dev nD) : Mat 2048 512 := m ((c.tc : Thread nD τ).loc main_arg2)
abbrev arg3 (c : Dev nD) : Mat 2048 1024 := m ((c.tc : Thread nD τ).loc main_arg3)
abbrev arg4 (c : Dev nD) : Mat 2048 512 := m ((c.tc : Thread nD τ).loc main_arg4)
abbrev arg5 (c : Dev nD) : Mat 2048 1024 := m ((c.tc : Thread nD τ).loc main_arg5)
abbrev arg6 (c : Dev nD) : Mat 2048 1024 := m ((c.tc : Thread nD τ).loc main_arg6)
abbrev arg7 (c : Dev nD) : Mat 2048 1024 := m ((c.tc : Thread nD τ).loc main_arg7)

/-- The reference program leaves the four gradients, and its arguments as they were. -/
theorem value : θ_run defs (onTc (τ := τ) (main (F := Ideal))) ⟨m, fun _ => 0, ρ⟩ (fun r => ∀ c : Dev nD,
      (r.2.mem ((c.tc : Thread nD τ).loc main_v13) = weightGrad (arg0 m c) (arg1 m c)
      ∧ r.2.mem ((c.tc : Thread nD τ).loc main_v11) = weightGrad (arg2 m c) (arg3 m c)
      ∧ r.2.mem ((c.tc : Thread nD τ).loc main_v9) = weightGrad (arg4 m c) (arg5 m c)
      ∧ r.2.mem ((c.tc : Thread nD τ).loc main_v7) = weightGrad (arg6 m c) (arg7 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  hlo_run
  · funext i
    idx_vars i
    pointwise
    rw [weightGrad_at]
    exact Finset.sum_congr rfl fun r _ => mul_comm (G := EReal) _ _
  · funext i
    idx_vars i
    pointwise
    rw [weightGrad_at]
    exact Finset.sum_congr rfl fun r _ => mul_comm (G := EReal) _ _
  · funext i
    idx_vars i
    pointwise
    rw [weightGrad_at]
    exact Finset.sum_congr rfl fun r _ => mul_comm (G := EReal) _ _
  · funext i
    idx_vars i
    pointwise
    rw [weightGrad_at]
    exact Finset.sum_congr rfl fun r _ => mul_comm (G := EReal) _ _

end Cert.ReferenceGIdeal.Run

end
-- ==== Proof.MixerGradsArrays.lean ====
/-
  The mixer's weights' gradients in the kernel program: what one grid point of each of the four calls computes, where in
  the arrays its blocks lie, and the arrays the calls leave.
-/
module

public import proofs.«01_k».proof.Proof.Gen.KernelGIdeal.Frame
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.MixerGrads

@[expose] public section

set_option maxRecDepth 16384

noncomputable section

namespace Cert.KernelGIdeal.Run

open Idealize.ShloMosaic Idealize.ShloMosaic.TcCoe Cert.KernelGIdeal Cert.KernelGIdeal.Gen Cert.FeedForward Cert.MixerGrads
open Idealize.SL Idealize.SL.RA Idealize.SL.BI Idealize.SL.Sem
open Idealize.ShloMosaic.StableHlo Idealize.ShloMosaic.Tactic

/-! ## What a grid point computes -/

theorem pay0_2 (x : Vec Ideal S2048x512 .f32) (y : Vec Ideal S2048x256 .bf16) (d : Fin 512) (j : Fin 128) :
    k0_pay2 (F := Ideal) x y (ix4 0 0 d j) = ∑ r : Fin 2048, (x (ix2 r d) : EReal) * (y (ix2 r ⟨j, by omega⟩) : EReal) := by
  unfold k0_pay2 k0_pay1
  pointwise

theorem pay0_3 (x : Vec Ideal S2048x512 .f32) (y : Vec Ideal S2048x256 .bf16) (d : Fin 512) (j : Fin 128) :
    k0_pay3 (F := Ideal) x y (ix4 0 0 d j) = ∑ r : Fin 2048, (x (ix2 r d) : EReal) * (y (ix2 r ⟨128 + j, by omega⟩) : EReal) := by
  unfold k0_pay3 k0_pay1
  pointwise

theorem pay1_2 (x : Vec Ideal S2048x512 .bf16) (y : Vec Ideal S2048x256 .bf16) (d : Fin 512) (j : Fin 128) :
    k1_pay2 (F := Ideal) x y (ix4 0 0 d j) = ∑ r : Fin 2048, (x (ix2 r d) : EReal) * (y (ix2 r ⟨j, by omega⟩) : EReal) := by
  unfold k1_pay2 k1_pay1
  pointwise

theorem pay1_3 (x : Vec Ideal S2048x512 .bf16) (y : Vec Ideal S2048x256 .bf16) (d : Fin 512) (j : Fin 128) :
    k1_pay3 (F := Ideal) x y (ix4 0 0 d j) = ∑ r : Fin 2048, (x (ix2 r d) : EReal) * (y (ix2 r ⟨128 + j, by omega⟩) : EReal) := by
  unfold k1_pay3 k1_pay1
  pointwise

theorem pay2_2 (x : Vec Ideal S2048x512 .bf16) (y : Vec Ideal S2048x256 .bf16) (d : Fin 512) (j : Fin 128) :
    k2_pay2 (F := Ideal) x y (ix4 0 0 d j) = ∑ r : Fin 2048, (x (ix2 r d) : EReal) * (y (ix2 r ⟨j, by omega⟩) : EReal) := by
  unfold k2_pay2 k2_pay1
  pointwise

theorem pay2_3 (x : Vec Ideal S2048x512 .bf16) (y : Vec Ideal S2048x256 .bf16) (d : Fin 512) (j : Fin 128) :
    k2_pay3 (F := Ideal) x y (ix4 0 0 d j) = ∑ r : Fin 2048, (x (ix2 r d) : EReal) * (y (ix2 r ⟨128 + j, by omega⟩) : EReal) := by
  unfold k2_pay3 k2_pay1
  pointwise

theorem pay3_1 (x : Vec Ideal S2048x128 .bf16) (y : Vec Ideal S2048x1024 .f32) (j : Fin 128) (d : Fin 1024) :
    k3_pay1 (F := Ideal) x y (ix4 0 0 j d) = ∑ r : Fin 2048, (x (ix2 r j) : EReal) * (y (ix2 r d) : EReal) := by
  unfold k3_pay1
  pointwise

/-! ## Where the blocks lie -/

theorem at0_0 : ∀ t : Fin cfg0.N, win0_0.index t = ![0, 0] := (by decide +kernel : ∀ t : Fin grid0.N, _)
theorem at0_1 : ∀ t : Fin cfg0.N, win0_1.index t = ![0, t.val] := (by decide +kernel : ∀ t : Fin grid0.N, _)
theorem at0_2 : ∀ t : Fin cfg0.N, win0_2.index t = ![0, t.val, 0, 0] := (by decide +kernel : ∀ t : Fin grid0.N, _)
theorem lt0 (t : Fin cfg0.N) : t.val < 4 := t.isLt
theorem at1_0 : ∀ t : Fin cfg1.N, win1_0.index t = ![0, 0] := (by decide +kernel : ∀ t : Fin grid1.N, _)
theorem at1_1 : ∀ t : Fin cfg1.N, win1_1.index t = ![0, t.val] := (by decide +kernel : ∀ t : Fin grid1.N, _)
theorem at1_2 : ∀ t : Fin cfg1.N, win1_2.index t = ![0, t.val, 0, 0] := (by decide +kernel : ∀ t : Fin grid1.N, _)
theorem lt1 (t : Fin cfg1.N) : t.val < 4 := t.isLt
theorem at2_0 : ∀ t : Fin cfg2.N, win2_0.index t = ![0, 0] := (by decide +kernel : ∀ t : Fin grid2.N, _)
theorem at2_1 : ∀ t : Fin cfg2.N, win2_1.index t = ![0, t.val] := (by decide +kernel : ∀ t : Fin grid2.N, _)
theorem at2_2 : ∀ t : Fin cfg2.N, win2_2.index t = ![0, t.val, 0, 0] := (by decide +kernel : ∀ t : Fin grid2.N, _)
theorem lt2 (t : Fin cfg2.N) : t.val < 4 := t.isLt
theorem at3_0 : ∀ t : Fin cfg3.N, win3_0.index t = ![0, t.val] := (by decide +kernel : ∀ t : Fin grid3.N, _)
theorem at3_1 : ∀ t : Fin cfg3.N, win3_1.index t = ![0, 0] := (by decide +kernel : ∀ t : Fin grid3.N, _)
theorem at3_2 : ∀ t : Fin cfg3.N, win3_2.index t = ![t.val % 2, t.val / 2, 0, 0] := (by decide +kernel : ∀ t : Fin grid3.N, _)
theorem lt3 (t : Fin cfg3.N) : t.val < 8 := t.isLt

section
variable (V : (c : Dev nD) → (b : Ref sig .tc) → Buf (Elt Ideal) ((c : Thread nD τ).loc b)) (c : Dev nD)

theorem blk0_0 (t : Fin cfg0.N) (r : Fin 2048) (d : Fin 512) :
    iblk0 (F := Ideal) V c 0 t (ix2 r d) = V c main_arg0 (ix2 r d) := by
  blk_simp [iblk0]
  congr 1
  blk_ext [at0_0]

theorem blk0_1 (t : Fin cfg0.N) (r : Fin 2048) (j : Fin 256) :
    iblk0 (F := Ideal) V c 1 t (ix2 r j) = V c main_arg1 (ix2 r ⟨256 * t.val + j, by have := lt0 t; omega⟩) := by
  blk_simp [iblk0]
  congr 1
  blk_ext [at0_1]

theorem blk1_0 (t : Fin cfg1.N) (r : Fin 2048) (d : Fin 512) :
    iblk1 (F := Ideal) V c 0 t (ix2 r d) = V c main_arg2 (ix2 r d) := by
  blk_simp [iblk1]
  congr 1
  blk_ext [at1_0]

theorem blk1_1 (t : Fin cfg1.N) (r : Fin 2048) (j : Fin 256) :
    iblk1 (F := Ideal) V c 1 t (ix2 r j) = V c main_arg3 (ix2 r ⟨256 * t.val + j, by have := lt1 t; omega⟩) := by
  blk_simp [iblk1]
  congr 1
  blk_ext [at1_1]

theorem blk2_0 (t : Fin cfg2.N) (r : Fin 2048) (d : Fin 512) :
    iblk2 (F := Ideal) V c 0 t (ix2 r d) = V c main_arg4 (ix2 r d) := by
  blk_simp [iblk2]
  congr 1
  blk_ext [at2_0]

theorem blk2_1 (t : Fin cfg2.N) (r : Fin 2048) (j : Fin 256) :
    iblk2 (F := Ideal) V c 1 t (ix2 r j) = V c main_arg5 (ix2 r ⟨256 * t.val + j, by have := lt2 t; omega⟩) := by
  blk_simp [iblk2]
  congr 1
  blk_ext [at2_1]

theorem blk3_0 (t : Fin cfg3.N) (r : Fin 2048) (j : Fin 128) :
    iblk3 (F := Ideal) V c 0 t (ix2 r j) = V c main_arg6 (ix2 r ⟨128 * t.val + j, by have := lt3 t; omega⟩) := by
  blk_simp [iblk3]
  congr 1
  blk_ext [at3_0]

theorem blk3_1 (t : Fin cfg3.N) (r : Fin 2048) (d : Fin 1024) :
    iblk3 (F := Ideal) V c 1 t (ix2 r d) = V c main_arg7 (ix2 r d) := by
  blk_simp [iblk3]
  congr 1
  blk_ext [at3_1]

end

theorem place0_2 (t : Fin cfg0.N) (s : Fin 2) (d : Fin 512) (j : Fin 128) : (win0_2.blk t).view.emb (ix4 s 0 d j)
    = (ix4 s ⟨t.val, t.isLt⟩ d j : S2x4x512x128.Idx) := by
  blk_ext [at0_2]

theorem place1_2 (t : Fin cfg1.N) (s : Fin 2) (d : Fin 512) (j : Fin 128) : (win1_2.blk t).view.emb (ix4 s 0 d j)
    = (ix4 s ⟨t.val, t.isLt⟩ d j : S2x4x512x128.Idx) := by
  blk_ext [at1_2]

theorem place2_2 (t : Fin cfg2.N) (s : Fin 2) (d : Fin 512) (j : Fin 128) : (win2_2.blk t).view.emb (ix4 s 0 d j)
    = (ix4 s ⟨t.val, t.isLt⟩ d j : S2x4x512x128.Idx) := by
  blk_ext [at2_2]

theorem place3_2 (t : Fin cfg3.N) (j : Fin 128) (d : Fin 1024) : (win3_2.blk t).view.emb (ix4 0 0 j d)
    = (ix4 ⟨t.val % 2, by omega⟩ ⟨t.val / 2, by have := lt3 t; omega⟩ j d : S2x4x128x1024.Idx) := by
  blk_ext [at3_2]

/-! ## What a grid point leaves in its output block -/

/-- Column `j` of shard `s` of a weight's gradient, from the block of the two. -/
def shardGrad (x0 : Mat 2048 512) (x1 : Mat 2048 256) (s : Fin 2) (d : Fin 512) (j : Fin 128) : EReal :=
  ∑ r : Fin 2048, x0 (ix2 r d) * x1 (ix2 r ⟨128 * s + j, by omega⟩)

/-- A block of a weight's gradient: the two shards. -/
def shardsGrad (x0 : Mat 2048 512) (x1 : Mat 2048 256) : Vec Ideal S2x1x512x128 .bf16 := fun i =>
  shardGrad x0 x1 (i 0) (i 2) (i 3)

theorem idx_shards {o : ℕ} (inb) (s : Fin 2) (d : Fin 512) (j : Fin 128) (h : o = s) :
    (Rect.unit (s := S2x1x512x128) ![o, 0, 0, 0] S1x1x512x128.size inb).emb (ix4 0 0 d j) = ix4 s 0 d j := by
  refine funext fun k => Fin.ext ?_
  fin_cases k
  · show o + 1 * 0 = (s : ℕ)
    omega
  · rfl
  · show 0 + 1 * (d : ℕ) = d
    omega
  · show 0 + 1 * (j : ℕ) = j
    omega

theorem shard_fst (x0 : Mat 2048 512) (x1 : Mat 2048 256) (d : Fin 512) (j : Fin 128) :
    (∑ r : Fin 2048, x0 (ix2 r d) * x1 (ix2 r ⟨j, by omega⟩)) = shardGrad x0 x1 0 d j := by
  unfold shardGrad
  refine Finset.sum_congr rfl fun r _ => congrArg (HMul.hMul (α := EReal) _) (congrArg (fun k => x1 (ix2 r k)) (Fin.ext ?_))
  show (j : ℕ) = 128 * 0 + j
  omega

theorem shard_snd (x0 : Mat 2048 512) (x1 : Mat 2048 256) (d : Fin 512) (j : Fin 128) :
    (∑ r : Fin 2048, x0 (ix2 r d) * x1 (ix2 r ⟨128 + j, by omega⟩)) = shardGrad x0 x1 1 d j := by
  unfold shardGrad
  refine Finset.sum_congr rfl fun r _ => congrArg (HMul.hMul (α := EReal) _) (congrArg (fun k => x1 (ix2 r k)) (Fin.ext ?_))
  show 128 + (j : ℕ) = 128 * 1 + j
  omega

theorem idx4_eq (x : S1x1x512x128.Idx) : ∃ (d : Fin 512) (j : Fin 128), x = ix4 0 0 d j := by
  refine ⟨x 2, x 3, funext fun k => ?_⟩
  fin_cases k
  · exact Fin.ext (by have : (x 0 : ℕ) < 1 := (x 0).isLt; show (x 0 : ℕ) = 0; omega)
  · exact Fin.ext (by have : (x 1 : ℕ) < 1 := (x 1).isLt; show (x 1 : ℕ) = 0; omega)
  · rfl
  · rfl

theorem out0_2_at (x0 : Vec Ideal S2048x512 .f32) (x1 : Vec Ideal S2048x256 .bf16) (y : S2x1x512x128.Idx) :
    out0_2 (F := Ideal) x0 x1 y = shardsGrad x0 x1 y := by
  unfold out0_2
  frame_out
  refine View.canon_apply_of_pieces (Val := Elt Ideal) (e := .bf16) (shardsGrad x0 x1) _ (fun p hp x => ?_) _ (cover0_2 _ _ _)
  rcases List.mem_cons.mp hp with rfl | hp
  · obtain ⟨d, j, rfl⟩ := idx4_eq x
    exact (pay0_3 x0 x1 d j).trans ((shard_snd x0 x1 d j).trans (congrArg (shardsGrad x0 x1) (idx_shards inb_S2x1x512x128_S1x1x512x128_1_0_0_0 1 d j rfl)).symm)
  · obtain rfl := List.mem_singleton.mp hp
    obtain ⟨d, j, rfl⟩ := idx4_eq x
    exact (pay0_2 x0 x1 d j).trans ((shard_fst x0 x1 d j).trans (congrArg (shardsGrad x0 x1) (idx_shards inb_S2x1x512x128_S1x1x512x128_0_0_0_0 0 d j rfl)).symm)

theorem out1_2_at (x0 : Vec Ideal S2048x512 .bf16) (x1 : Vec Ideal S2048x256 .bf16) (y : S2x1x512x128.Idx) :
    out1_2 (F := Ideal) x0 x1 y = shardsGrad x0 x1 y := by
  unfold out1_2
  frame_out
  refine View.canon_apply_of_pieces (Val := Elt Ideal) (e := .bf16) (shardsGrad x0 x1) _ (fun p hp x => ?_) _ (cover1_2 _ _ _)
  rcases List.mem_cons.mp hp with rfl | hp
  · obtain ⟨d, j, rfl⟩ := idx4_eq x
    exact (pay1_3 x0 x1 d j).trans ((shard_snd x0 x1 d j).trans (congrArg (shardsGrad x0 x1) (idx_shards inb_S2x1x512x128_S1x1x512x128_1_0_0_0 1 d j rfl)).symm)
  · obtain rfl := List.mem_singleton.mp hp
    obtain ⟨d, j, rfl⟩ := idx4_eq x
    exact (pay1_2 x0 x1 d j).trans ((shard_fst x0 x1 d j).trans (congrArg (shardsGrad x0 x1) (idx_shards inb_S2x1x512x128_S1x1x512x128_0_0_0_0 0 d j rfl)).symm)

theorem out2_2_at (x0 : Vec Ideal S2048x512 .bf16) (x1 : Vec Ideal S2048x256 .bf16) (y : S2x1x512x128.Idx) :
    out2_2 (F := Ideal) x0 x1 y = shardsGrad x0 x1 y := by
  unfold out2_2
  frame_out
  refine View.canon_apply_of_pieces (Val := Elt Ideal) (e := .bf16) (shardsGrad x0 x1) _ (fun p hp x => ?_) _ (cover2_2 _ _ _)
  rcases List.mem_cons.mp hp with rfl | hp
  · obtain ⟨d, j, rfl⟩ := idx4_eq x
    exact (pay2_3 x0 x1 d j).trans ((shard_snd x0 x1 d j).trans (congrArg (shardsGrad x0 x1) (idx_shards inb_S2x1x512x128_S1x1x512x128_1_0_0_0 1 d j rfl)).symm)
  · obtain rfl := List.mem_singleton.mp hp
    obtain ⟨d, j, rfl⟩ := idx4_eq x
    exact (pay2_2 x0 x1 d j).trans ((shard_fst x0 x1 d j).trans (congrArg (shardsGrad x0 x1) (idx_shards inb_S2x1x512x128_S1x1x512x128_0_0_0_0 0 d j rfl)).symm)

theorem out3_2_at (x0 : Vec Ideal S2048x128 .bf16) (x1 : Vec Ideal S2048x1024 .f32) (j : Fin 128) (d : Fin 1024) :
    out3_2 (F := Ideal) x0 x1 (ix4 0 0 j d) = ∑ r : Fin 2048, (x0 (ix2 r j) : EReal) * (x1 (ix2 r d) : EReal) := by
  unfold out3_2
  frame_out
  exact pay3_1 x0 x1 j d

/-! ## The arrays -/

/-- A weight's gradient as the devices of the two halves hold it: shard `2 t + s` at `(s, t)`. -/
def byShard (x : Mat 512 1024) : S2x4x512x128.Idx → EReal := fun i =>
  x (ix2 (i 2) ⟨128 * (2 * (i 1 : ℕ) + (i 0 : ℕ)) + (i 3 : ℕ), by
    have h0 : (i 0 : ℕ) < 2 := (i 0).isLt
    have h1 : (i 1 : ℕ) < 4 := (i 1).isLt
    have h3 : (i 3 : ℕ) < 128 := (i 3).isLt
    omega⟩)

/-- The same of the weight whose shards are rows. -/
def byRows (x : Mat 1024 1024) : S2x4x128x1024.Idx → EReal := fun i =>
  x (ix2 ⟨128 * (2 * (i 1 : ℕ) + (i 0 : ℕ)) + (i 2 : ℕ), by
    have h0 : (i 0 : ℕ) < 2 := (i 0).isLt
    have h1 : (i 1 : ℕ) < 4 := (i 1).isLt
    have h2 : (i 2 : ℕ) < 128 := (i 2).isLt
    omega⟩ (i 3))

theorem byShard_at (x : Mat 2048 512) (y : Mat 2048 1024) (s : Fin 2) (t : Fin 4) (d : Fin 512) (j : Fin 128) :
    byShard (weightGrad x y) (ix4 s t d j)
      = ∑ r : Fin 2048, x (ix2 r d) * y (ix2 r ⟨128 * (2 * (t : ℕ) + (s : ℕ)) + j, by omega⟩) := rfl

theorem byRows_at (x y : Mat 2048 1024) (s : Fin 2) (t : Fin 4) (j : Fin 128) (d : Fin 1024) :
    byRows (weightGrad x y) (ix4 s t j d)
      = ∑ r : Fin 2048, x (ix2 r ⟨128 * (2 * (t : ℕ) + (s : ℕ)) + j, by omega⟩) * y (ix2 r d) := rfl

theorem shardsGrad_at (x0 : Mat 2048 512) (x1 : Mat 2048 256) (s : Fin 2) (d : Fin 512) (j : Fin 128) :
    shardsGrad x0 x1 (ix4 s 0 d j) = ∑ r : Fin 2048, x0 (ix2 r d) * x1 (ix2 r ⟨128 * s + j, by omega⟩) := rfl

theorem blk_idx (y : S2x1x512x128.Idx) : ∃ (s : Fin 2) (d : Fin 512) (j : Fin 128), y = ix4 s 0 d j := by
  refine ⟨y 0, y 2, y 3, funext fun k => ?_⟩
  fin_cases k
  · rfl
  · exact Fin.ext (by have : (y 1 : ℕ) < 1 := (y 1).isLt; show (y 1 : ℕ) = 0; omega)
  · rfl
  · rfl

theorem row_idx (y : S1x1x128x1024.Idx) : ∃ (j : Fin 128) (d : Fin 1024), y = ix4 0 0 j d := by
  refine ⟨y 2, y 3, funext fun k => ?_⟩
  fin_cases k
  · exact Fin.ext (by have : (y 0 : ℕ) < 1 := (y 0).isLt; show (y 0 : ℕ) = 0; omega)
  · exact Fin.ext (by have : (y 1 : ℕ) < 1 := (y 1).isLt; show (y 1 : ℕ) = 0; omega)
  · rfl
  · rfl

section
variable (V : (c : Dev nD) → (b : Ref sig .tc) → Buf (Elt Ideal) ((c : Thread nD τ).loc b)) (c : Dev nD)

theorem arr0 (x : Mat 2048 512) (y : Mat 2048 1024) (hx : V c main_arg0 = x) (hy : V c main_arg1 = y) :
    (dat0 V c).arrAt 2 cfg0.N = byShard (weightGrad x y) := by
  subst hx hy
  refine (dat0 V c).arrAt_eq_of_covers 2 _ (by decide +kernel) fun t hf y => ?_
  blk_simp
  rw [after0_2]
  obtain ⟨s, d, j, rfl⟩ : ∃ (s : Fin 2) (d : Fin 512) (j : Fin 128), y = ix4 s 0 d j := blk_idx y
  refine ((out0_2_at _ _ _).trans ((shardsGrad_at _ _ s d j).trans (Eq.trans ?_ (byShard_at _ _ s ⟨t.val, t.isLt⟩ d j).symm))).trans (congrArg _ (place0_2 t s d j).symm)
  refine Finset.sum_congr rfl fun r _ => congrArg₂ (HMul.hMul (α := EReal)) (blk0_0 V c t r d) ((blk0_1 V c t r _).trans ?_)
  exact congrArg (fun k => V c main_arg1 (ix2 r k)) (Fin.ext (show 256 * t.val + (128 * (s : ℕ) + j) = 128 * (2 * t.val + s) + j by omega))

theorem arr1 (x : Mat 2048 512) (y : Mat 2048 1024) (hx : V c main_arg2 = x) (hy : V c main_arg3 = y) :
    (dat1 V c).arrAt 2 cfg1.N = byShard (weightGrad x y) := by
  subst hx hy
  refine (dat1 V c).arrAt_eq_of_covers 2 _ (by decide +kernel) fun t hf y => ?_
  blk_simp
  rw [after1_2]
  obtain ⟨s, d, j, rfl⟩ : ∃ (s : Fin 2) (d : Fin 512) (j : Fin 128), y = ix4 s 0 d j := blk_idx y
  refine ((out1_2_at _ _ _).trans ((shardsGrad_at _ _ s d j).trans (Eq.trans ?_ (byShard_at _ _ s ⟨t.val, t.isLt⟩ d j).symm))).trans (congrArg _ (place1_2 t s d j).symm)
  refine Finset.sum_congr rfl fun r _ => congrArg₂ (HMul.hMul (α := EReal)) (blk1_0 V c t r d) ((blk1_1 V c t r _).trans ?_)
  exact congrArg (fun k => V c main_arg3 (ix2 r k)) (Fin.ext (show 256 * t.val + (128 * (s : ℕ) + j) = 128 * (2 * t.val + s) + j by omega))

theorem arr2 (x : Mat 2048 512) (y : Mat 2048 1024) (hx : V c main_arg4 = x) (hy : V c main_arg5 = y) :
    (dat2 V c).arrAt 2 cfg2.N = byShard (weightGrad x y) := by
  subst hx hy
  refine (dat2 V c).arrAt_eq_of_covers 2 _ (by decide +kernel) fun t hf y => ?_
  blk_simp
  rw [after2_2]
  obtain ⟨s, d, j, rfl⟩ : ∃ (s : Fin 2) (d : Fin 512) (j : Fin 128), y = ix4 s 0 d j := blk_idx y
  refine ((out2_2_at _ _ _).trans ((shardsGrad_at _ _ s d j).trans (Eq.trans ?_ (byShard_at _ _ s ⟨t.val, t.isLt⟩ d j).symm))).trans (congrArg _ (place2_2 t s d j).symm)
  refine Finset.sum_congr rfl fun r _ => congrArg₂ (HMul.hMul (α := EReal)) (blk2_0 V c t r d) ((blk2_1 V c t r _).trans ?_)
  exact congrArg (fun k => V c main_arg5 (ix2 r k)) (Fin.ext (show 256 * t.val + (128 * (s : ℕ) + j) = 128 * (2 * t.val + s) + j by omega))

theorem arr3 (x y : Mat 2048 1024) (hx : V c main_arg6 = x) (hy : V c main_arg7 = y) :
    (dat3 V c).arrAt 2 cfg3.N = byRows (weightGrad x y) := by
  subst hx hy
  refine (dat3 V c).arrAt_eq_of_covers 2 _ (by decide +kernel) fun t hf y => ?_
  blk_simp
  rw [after3_2]
  obtain ⟨j, d, rfl⟩ : ∃ (j : Fin 128) (d : Fin 1024), y = ix4 0 0 j d := row_idx y
  refine ((out3_2_at _ _ j d).trans (Eq.trans ?_ (byRows_at _ _ ⟨t.val % 2, by omega⟩ ⟨t.val / 2, by have := lt3 t; omega⟩ j d).symm)).trans (congrArg _ (place3_2 t j d).symm)
  refine Finset.sum_congr rfl fun r _ => congrArg₂ (HMul.hMul (α := EReal)) ((blk3_0 V c t r j).trans ?_) (blk3_1 V c t r d)
  exact congrArg (fun k => V c main_arg6 (ix2 r k)) (Fin.ext (show 128 * t.val + (j : ℕ) = 128 * (2 * (t.val / 2) + t.val % 2) + j by omega))

end

end Cert.KernelGIdeal.Run

end
-- ==== Proof.MixerGradsKernel.lean ====
/-
  The mixer's weights' gradients: the kernel program's run, its results out of their shards, and the two programs' equality.
-/
module

public import proofs.«01_k».proof.Proof.MixerGradsArrays
public import proofs.«01_k».proof.Defs

@[expose] public section

set_option maxRecDepth 16384

noncomputable section

namespace Cert.KernelGIdeal.Run

open Cert.KernelGIdeal Cert.KernelGIdeal.Gen Cert.FeedForward Cert.MixerGrads
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable {F : FTy → Type} [FloatOps F]
variable (m : (ℓ : Loc nD τ sig) → Buf (Elt F) ℓ) (ρ : Dev nD → PrngReg)

/-- The resources of this program. -/
local notation "𝕄" => MT nD τ sig Unit (Elt F) ℕ (UR sig nD τ) ℕ

set_option backward.isDefEq.respectTransparency.types false in
/-- Every result at what the program's stretches and regions leave in it, every argument unchanged. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_v9) = W5 m ρ c (Proc.devRef .tc main_v9)
      ∧ r.2.mem ((c.tc : Thread nD τ).loc main_v12) = W5 m ρ c (Proc.devRef .tc main_v12)
      ∧ r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v6 (by decide)),
       h c _ (mem_uc main_v9 (by decide)),
       h c _ (mem_uc main_v12 (by decide)),
       h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end

/-! ## The results out of their shards -/

section
variable (V : Valuation τ sig (Elt Ideal))

theorem out0 (x : Mat 512 1024) (h : V (Proc.devRef .tc main_v0) = byShard x) (d : Fin 512) (j : Fin 1024) :
    after hostOps4 V (Proc.devRef .tc main_v6) (ix2 d j) = x (ix2 d j) := by
  after_reads_simp
  pointwise
  rw [h]
  refine congrArg (fun k => x (ix2 d k)) (Fin.ext ?_)
  show 128 * (2 * ((j : ℕ) / 256) + (j : ℕ) / 128 % 2) + (j : ℕ) % 128 = j
  omega

theorem out1 (x : Mat 512 1024) (h : V (Proc.devRef .tc main_v1) = byShard x) (d : Fin 512) (j : Fin 1024) :
    after hostOps4 V (Proc.devRef .tc main_v9) (ix2 d j) = x (ix2 d j) := by
  after_reads_simp
  pointwise
  rw [h]
  refine congrArg (fun k => x (ix2 d k)) (Fin.ext ?_)
  show 128 * (2 * ((j : ℕ) / 256) + (j : ℕ) / 128 % 2) + (j : ℕ) % 128 = j
  omega

theorem out2 (x : Mat 512 1024) (h : V (Proc.devRef .tc main_v2) = byShard x) (d : Fin 512) (j : Fin 1024) :
    after hostOps4 V (Proc.devRef .tc main_v12) (ix2 d j) = x (ix2 d j) := by
  after_reads_simp
  pointwise
  rw [h]
  refine congrArg (fun k => x (ix2 d k)) (Fin.ext ?_)
  show 128 * (2 * ((j : ℕ) / 256) + (j : ℕ) / 128 % 2) + (j : ℕ) % 128 = j
  omega

theorem out3 (x : Mat 1024 1024) (h : V (Proc.devRef .tc main_v3) = byRows x) (j d : Fin 1024) :
    after hostOps4 V (Proc.devRef .tc main_v15) (ix2 j d) = x (ix2 j d) := by
  after_reads_simp
  pointwise
  rw [h]
  refine congrArg (fun k => x (ix2 k d)) (Fin.ext ?_)
  show 128 * (2 * ((j : ℕ) / 256) + (j : ℕ) / 128 % 2) + (j : ℕ) % 128 = j
  omega

end

variable (m : (ℓ : Loc nD τ sig) → Buf (Elt Ideal) ℓ) (ρ : Dev nD → PrngReg) (c : Dev nD)

/-- The arguments on a device. -/
abbrev arg0 : Mat 2048 512 := m ((c.tc : Thread nD τ).loc main_arg0)
abbrev arg1 : Mat 2048 1024 := m ((c.tc : Thread nD τ).loc main_arg1)
abbrev arg2 : Mat 2048 512 := m ((c.tc : Thread nD τ).loc main_arg2)
abbrev arg3 : Mat 2048 1024 := m ((c.tc : Thread nD τ).loc main_arg3)
abbrev arg4 : Mat 2048 512 := m ((c.tc : Thread nD τ).loc main_arg4)
abbrev arg5 : Mat 2048 1024 := m ((c.tc : Thread nD τ).loc main_arg5)
abbrev arg6 : Mat 2048 1024 := m ((c.tc : Thread nD τ).loc main_arg6)
abbrev arg7 : Mat 2048 1024 := m ((c.tc : Thread nD τ).loc main_arg7)

theorem at0 : W1 m ρ c (Proc.devRef .tc main_v0) = byShard (weightGrad (arg0 m c) (arg1 m c)) :=
  (W1_arr m ρ c 2).trans (arr0 (V0 m ρ) c (arg0 m c) (arg1 m c) (W0_args m ρ c main_arg0 (by decide)) (W0_args m ρ c main_arg1 (by decide)))

theorem at1 : W2 m ρ c (Proc.devRef .tc main_v1) = byShard (weightGrad (arg2 m c) (arg3 m c)) :=
  (W2_arr m ρ c 2).trans (arr1 (V1 m ρ) c (arg2 m c) (arg3 m c) (W1_args m ρ c main_arg2 (by decide)) (W1_args m ρ c main_arg3 (by decide)))

theorem at2 : W3 m ρ c (Proc.devRef .tc main_v2) = byShard (weightGrad (arg4 m c) (arg5 m c)) :=
  (W3_arr m ρ c 2).trans (arr2 (V2 m ρ) c (arg4 m c) (arg5 m c) (W2_args m ρ c main_arg4 (by decide)) (W2_args m ρ c main_arg5 (by decide)))

theorem at3 : W4 m ρ c (Proc.devRef .tc main_v3) = byRows (weightGrad (arg6 m c) (arg7 m c)) :=
  (W4_arr m ρ c 2).trans (arr3 (V3 m ρ) c (arg6 m c) (arg7 m c) (W3_args m ρ c main_arg6 (by decide)) (W3_args m ρ c main_arg7 (by decide)))

theorem mat_idx {A B : ℕ} (y : (⟨2, ![A, B]⟩ : Shape).Idx) : ∃ (r : Fin A) (j : Fin B), y = ix2 r j :=
  ⟨y 0, y 1, by funext k; fin_cases k <;> rfl⟩

theorem res0 : W5 m ρ c (Proc.devRef .tc main_v6) = weightGrad (arg0 m c) (arg1 m c) := by
  funext i
  obtain ⟨d, j, rfl⟩ : ∃ (d : Fin 512) (j : Fin 1024), i = ix2 d j := mat_idx i
  exact out0 (W4 m ρ c) _ (((W4_of m ρ c main_v0 (by decide)).trans ((W3_of m ρ c main_v0 (by decide)).trans (W2_of m ρ c main_v0 (by decide)))).trans (at0 m ρ c)) d j

theorem res1 : W5 m ρ c (Proc.devRef .tc main_v9) = weightGrad (arg2 m c) (arg3 m c) := by
  funext i
  obtain ⟨d, j, rfl⟩ : ∃ (d : Fin 512) (j : Fin 1024), i = ix2 d j := mat_idx i
  exact out1 (W4 m ρ c) _ (((W4_of m ρ c main_v1 (by decide)).trans (W3_of m ρ c main_v1 (by decide))).trans (at1 m ρ c)) d j

theorem res2 : W5 m ρ c (Proc.devRef .tc main_v12) = weightGrad (arg4 m c) (arg5 m c) := by
  funext i
  obtain ⟨d, j, rfl⟩ : ∃ (d : Fin 512) (j : Fin 1024), i = ix2 d j := mat_idx i
  exact out2 (W4 m ρ c) _ ((W4_of m ρ c main_v2 (by decide)).trans (at2 m ρ c)) d j

theorem res3 : W5 m ρ c (Proc.devRef .tc main_v15) = weightGrad (arg6 m c) (arg7 m c) := by
  funext i
  obtain ⟨d, j, rfl⟩ : ∃ (d : Fin 1024) (j : Fin 1024), i = ix2 d j := mat_idx i
  exact out3 (W4 m ρ c) _ (at3 m ρ c) d j

/-- The kernel program leaves the four gradients, and its arguments as they were. -/
theorem value : θ_run defs (onTc (τ := τ) (main (F := Ideal))) ⟨m, fun _ => 0, ρ⟩ (fun r => ∀ c : Dev nD,
      r.2.mem ((c.tc : Thread nD τ).loc main_v6) = weightGrad (arg0 m c) (arg1 m c)
      ∧ r.2.mem ((c.tc : Thread nD τ).loc main_v9) = weightGrad (arg2 m c) (arg3 m c)
      ∧ r.2.mem ((c.tc : Thread nD τ).loc main_v12) = weightGrad (arg4 m c) (arg5 m c)
      ∧ r.2.mem ((c.tc : Thread nD τ).loc main_v15) = weightGrad (arg6 m c) (arg7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_mono (run m ρ) fun r h c => by
    obtain ⟨h0, h1, h2, h3, ha⟩ := h c
    exact ⟨h0.trans (res0 m ρ c), h1.trans (res1 m ρ c), h2.trans (res2 m ρ c), h3.trans (res3 m ρ c), ha⟩

end Cert.KernelGIdeal.Run

namespace Cert.Proof

open Idealize.ShloMosaic Idealize.ShloMosaic.TcCoe Idealize.SL.Sem Cert.MixerGrads

/-- The two programs' results are equal, whatever the arguments. -/
theorem algebraic_g : @Cert.algebraic_KernelGIdeal_ReferenceGIdeal Cert.KernelGIdeal.Gen.facts Cert.ReferenceGIdeal.Gen.facts := by
  intro m g m' g' _ heq
  refine ⟨_, _, _, _, Cert.KernelGIdeal.Run.value m g, θ_run_mono (Cert.ReferenceGIdeal.Run.value m' g') fun r h c => ?_⟩
  obtain ⟨h0, h1, h2, h3, h4, h5, h6, h7⟩ := heq c
  obtain ⟨⟨k0, k1, k2, k3⟩, k4⟩ := h c
  refine ⟨k0.trans ?_, k1.trans ?_, k2.trans ?_, k3.trans ?_, k4⟩
  · unfold Cert.ReferenceGIdeal.Run.arg0 Cert.ReferenceGIdeal.Run.arg1
    rw [h0, h1]
  · unfold Cert.ReferenceGIdeal.Run.arg2 Cert.ReferenceGIdeal.Run.arg3
    rw [h2, h3]
  · unfold Cert.ReferenceGIdeal.Run.arg4 Cert.ReferenceGIdeal.Run.arg5
    rw [h4, h5]
  · unfold Cert.ReferenceGIdeal.Run.arg6 Cert.ReferenceGIdeal.Run.arg7
    rw [h6, h7]

end Cert.Proof

end
-- ==== Proof.LossHead.lean ====
/-
  The feed-forward layer's product down, the residual beside it, the layer norm after it and the loss of what the norm
  gives; and the loss's gradients: of what the norm read, of its scale and of its shift.
-/
module

public import proofs.«01_k».proof.Proof.FeedForwardBwd

@[expose] public section

noncomputable section

namespace Cert.LossHead

open Idealize.ShloMosaic Cert.FeedForward Cert.FeedForwardBwd

variable {N : ℕ}

/-- What keeps the deviation off zero. -/
def eps : EReal := (Scalar.ofBits (F := Ideal) .f32 0x3727C5AC#32 : Ideal .f32)

/-- The loss's factor, one half. -/
def half : EReal := (Scalar.ofBits (F := Ideal) .f32 0x3F000000#32 : Ideal .f32)

/-- The share of one entry in a row's mean, a thousand-and-twenty-fourth. -/
def share : EReal := (Scalar.ofBits (F := Ideal) .f32 0x3A800000#32 : Ideal .f32)

/-- What the norm reads: the residual and the product down. -/
def normIn (f : Mat 2048 N) (w : Mat N 1024) (h : Mat 2048 1024) : Mat 2048 1024 := fun i =>
  scale * h i + ∑ j : Fin N, f (ix2 (i 0) j) * w (ix2 j (i 1))

/-- The padding adds nothing. -/
theorem normIn_wide (f : Mat 2048 2816) (w : Mat 2816 1024) (h : Mat 2048 1024) : normIn (wideX f) (wideR w) h = normIn f w h := by
  funext i
  refine congrArg (HAdd.hAdd (α := EReal) (scale * h i)) (Finset.sum_of_injOn pos ?_ ?_ ?_ ?_).symm
  · intro j _ k _ hjk
    have hjk : 384 * ((j : ℕ) / 352) + (j : ℕ) % 352 = 384 * ((k : ℕ) / 352) + (k : ℕ) % 352 := congrArg Fin.val hjk
    exact Fin.ext (by omega)
  · exact fun j _ => Finset.mem_coe.mpr (Finset.mem_univ _)
  · intro k _ hn
    have hp : ¬ (k : ℕ) % 384 < 352 := fun hp => hn ⟨⟨352 * ((k : ℕ) / 384) + (k : ℕ) % 384, by omega⟩, Finset.mem_coe.mpr (Finset.mem_univ _), by
      refine Fin.ext ?_
      show 384 * ((352 * ((k : ℕ) / 384) + (k : ℕ) % 384) / 352) + (352 * ((k : ℕ) / 384) + (k : ℕ) % 384) % 352 = k
      omega⟩
    exact (congrArg (HMul.hMul (α := EReal) · _) (wideX_pad f (i 0) k hp)).trans (zero_mul _)
  · exact fun j _ => congrArg₂ (HMul.hMul (α := EReal)) (wideX_pos f (i 0) j).symm (wideR_pos w j (i 1)).symm

/-! ## One row -/

/-- Row `r` of a matrix. -/
def row (x : Mat 2048 1024) (r : Fin 2048) : Fin 1024 → EReal := fun k => x (ix2 r k)

variable (x g b t : Fin 1024 → EReal) (d : Fin 1024)

/-- The mean. -/
def mean : EReal := Ideal.div (∑ k, x k) width

/-- An entry less the mean. -/
def dev : EReal := x d - mean x

/-- The reciprocal of the deviation. -/
def rstd : EReal := Ideal.rsqrt (mean (fun k => dev x k * dev x k) + eps)

/-- The row normed. -/
def hat : EReal := dev x d * rstd x

/-- The norm's output less the target. -/
def err : EReal := hat x d * g d + b d - t d

/-- The gradient of the norm's output. -/
def cot : EReal := err x g b t d * share

/-- The mean square of the error. -/
def square : EReal := mean (fun k => err x g b t k * err x g b t k)

/-! ## The results -/

/-- The vector's entries. -/
def entries (v : Row) : Fin 1024 → EReal := fun k => v (ix1 k)

/-- The gradient of what the norm read. -/
def gradIn (x : Mat 2048 1024) (g b : Row) (t : Mat 2048 1024) : Mat 2048 1024 := fun i =>
  normBack (cot (row x (i 0)) (entries g) (entries b) (row t (i 0))) (hat (row x (i 0))) (entries g) (rstd (row x (i 0))) (i 1)

/-- The gradient of the norm's scale. -/
def gradScale (x : Mat 2048 1024) (g b : Row) (t : Mat 2048 1024) : Row := fun i =>
  ∑ r : Fin 2048, cot (row x r) (entries g) (entries b) (row t r) (i 0) * hat (row x r) (i 0)

/-- The gradient of the norm's shift. -/
def gradShift (x : Mat 2048 1024) (g b : Row) (t : Mat 2048 1024) : Row := fun i =>
  ∑ r : Fin 2048, cot (row x r) (entries g) (entries b) (row t r) (i 0)

/-- The loss. -/
def loss (x : Mat 2048 1024) (g b : Row) (t : Mat 2048 1024) : EReal :=
  half * ∑ r : Fin 2048, square (row x r) (entries g) (entries b) (row t r)

/-! ## The constants -/

theorem half_eq : half = ((2⁻¹ : ℝ) : EReal) := by
  show Ideal.ofBits .f32 0x3F000000#32 = _
  simp [Ideal.ofBits, Ideal.ieee, -EReal.coe_mul]
  norm_num

theorem share_eq : share = ((1024⁻¹ : ℝ) : EReal) := by
  show Ideal.ofBits .f32 0x3A800000#32 = _
  simp [Ideal.ofBits, Ideal.ieee, -EReal.coe_mul]
  norm_num

theorem width_eq : width = ((1024 : ℝ) : EReal) := by
  show Ideal.ofBits .f32 0x44800000#32 = _
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

/-- The derivative of half the mean square: half the share of one entry, times twice the error. -/
theorem cot_eq (e : EReal) : Ideal.div half width * (((2 : ℝ) : EReal) * e) = e * share := by
  rw [half_eq, share_eq, width_eq, Ideal.div_coe (by norm_num : (1024 : ℝ) ≠ 0), ← EReal.coe_mul, ← mul_assoc, ← EReal.coe_mul, mul_comm]
  congr 2
  norm_num

/-- One half of a sum is the sum of the halves. -/
theorem half_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih, half_eq]
    exact EReal.left_distrib_of_nonneg_of_ne_top (EReal.coe_nonneg.mpr (by norm_num)) (EReal.coe_ne_top _) _ _

/-! ## Sums over the rows, tile by tile -/

/-- Row `r` of tile `n`. -/
def tileRow (n : ℕ) (h : n < 4) (r : Fin 512) : Fin 2048 := ⟨512 * n + r, by omega⟩

/-- A sum that starts at zero and takes up a tile's terms at each of four steps is the sum over the rows. -/
theorem total (o : (n : ℕ) → n < 4 → EReal) (f : Fin 2048 → EReal)
    (h0 : o 0 (by omega) = 0 + ∑ r, f (tileRow 0 (by omega) r))
    (hs : ∀ (n : ℕ) (h : n + 1 < 4), o (n + 1) h = o n (by omega) + ∑ r, f (tileRow (n + 1) h r)) :
    o 3 (by omega) = ∑ r, f r := by
  have e1 := Fin.sum_univ_add (a := 1536) (b := 512) f
  have e2 := Fin.sum_univ_add (a := 1024) (b := 512) (fun i : Fin 1536 => f (Fin.castAdd 512 i))
  have e3 := Fin.sum_univ_add (a := 512) (b := 512) (fun i : Fin 1024 => f (Fin.castAdd 512 (Fin.castAdd 512 i)))
  rw [hs 2, hs 1, hs 0, h0, zero_add]
  refine Eq.trans ?_ e1.symm
  refine congrArg₂ (HAdd.hAdd (α := EReal)) (Eq.trans ?_ e2.symm) rfl
  refine congrArg₂ (HAdd.hAdd (α := EReal)) (Eq.trans ?_ e3.symm) rfl
  refine congrArg₂ (HAdd.hAdd (α := EReal)) (Finset.sum_congr rfl fun r _ => congrArg f (Fin.ext ?_)) rfl
  show 512 * 0 + (r : ℕ) = r
  omega

end Cert.LossHead

end
-- ==== Proof.LossHeadBlocks.lean ====
/-
  One grid point of the call that takes the product down, the layer norm and the loss: what it computes of its blocks,
  element by element, and where in its arrays the blocks lie.
-/
module

public import proofs.«01_k».proof.Proof.Gen.KernelLIdeal.Frame
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.LossHead

@[expose] public section

set_option maxRecDepth 16384

noncomputable section

namespace Cert.KernelLIdeal.Run

open Idealize.ShloMosaic Idealize.ShloMosaic.TcCoe Cert.KernelLIdeal Cert.KernelLIdeal.Gen Cert.FeedForward Cert.FeedForwardBwd Cert.LossHead
open Idealize.SL Idealize.SL.RA Idealize.SL.BI Idealize.SL.Sem
open Idealize.ShloMosaic.StableHlo Idealize.ShloMosaic.Tactic

/-! ## What a grid point computes -/

section

variable (h : Vec Ideal S512x1024 .f32) (f : Vec Ideal S512x3072 .bf16) (w : Vec Ideal S3072x1024 .bf16) (g b : Vec Ideal S1x1024 .f32)
  (p q t : FVec Ideal S512x1024 .f32) (r : Fin 512) (d : Fin 1024)

theorem pay2_apply (i : S1x1024.Idx) : k0_pay2 (F := Ideal) i = (0 : EReal) := by
  unfold k0_pay2
  pointwise

theorem pay3_apply (i : S1x1024.Idx) : k0_pay3 (F := Ideal) i = (0 : EReal) := by
  unfold k0_pay3
  pointwise

theorem pay4_apply (i : S1x128.Idx) : k0_pay4 (F := Ideal) i = (0 : EReal) := by
  unfold k0_pay4
  pointwise

theorem pay5_apply : k0_pay5 (F := Ideal) g (ix2 0 d) = (g (ix2 0 d) : EReal) := by
  unfold k0_pay5
  pointwise

theorem pay6_apply : k0_pay6 (F := Ideal) h f w (ix2 r d)
    = dev (fun k => scale * (h (ix2 r k) : EReal) + ∑ j : Fin 3072, (f (ix2 r j) : EReal) * (w (ix2 j k) : EReal)) d := by
  unfold k0_pay6
  pointwise
  rfl

theorem pay7_apply : k0_pay7 (F := Ideal) h f w (ix2 r 0)
    = Ideal.rsqrt (mean (fun k => (k0_pay6 (F := Ideal) h f w (ix2 r k) : EReal) * (k0_pay6 (F := Ideal) h f w (ix2 r k) : EReal)) + eps) := by
  unfold k0_pay7
  pointwise
  rfl

theorem pay8_apply : k0_pay8 (F := Ideal) h f w (ix2 r d)
    = (k0_pay6 (F := Ideal) h f w (ix2 r d) : EReal) * (k0_pay7 (F := Ideal) h f w (ix2 r 0) : EReal) := by
  unfold k0_pay8
  pointwise

theorem pay9_apply : k0_pay9 (F := Ideal) h f w g b (ix2 r d)
    = (k0_pay8 (F := Ideal) h f w (ix2 r d) : EReal) * (k0_pay5 (F := Ideal) g (ix2 0 d) : EReal) + (b (ix2 0 d) : EReal) := by
  unfold k0_pay9
  pointwise

theorem pay10_apply : k0_pay10 (F := Ideal) p t (ix2 r d) = (p (ix2 r d) : EReal) - (t (ix2 r d) : EReal) := by
  unfold k0_pay10
  pointwise

theorem pay11_apply (o : Vec Ideal S1x128 .f32) (l : Fin 128) : k0_pay11 (F := Ideal) p t o (ix2 0 l)
    = (o (ix2 0 l) : EReal)
      + half * ∑ r : Fin 512, mean (fun k => (k0_pay10 (F := Ideal) p t (ix2 r k) : EReal) * (k0_pay10 (F := Ideal) p t (ix2 r k) : EReal)) := by
  unfold k0_pay11
  pointwise
  rfl

theorem pay12_apply : k0_pay12 (F := Ideal) p t (ix2 r d) = (k0_pay10 (F := Ideal) p t (ix2 r d) : EReal) * share := by
  unfold k0_pay12
  pointwise
  rfl

theorem pay13_apply (o : Vec Ideal S1x1024 .f32) : k0_pay13 (F := Ideal) q p t o (ix2 0 d)
    = (o (ix2 0 d) : EReal) + ∑ r : Fin 512, (k0_pay12 (F := Ideal) p t (ix2 r d) : EReal) * (q (ix2 r d) : EReal) := by
  unfold k0_pay13
  pointwise

theorem pay14_apply (o : Vec Ideal S1x1024 .f32) : k0_pay14 (F := Ideal) p t o (ix2 0 d)
    = (o (ix2 0 d) : EReal) + ∑ r : Fin 512, (k0_pay12 (F := Ideal) p t (ix2 r d) : EReal) := by
  unfold k0_pay14
  pointwise

theorem pay15_apply (v : FVec Ideal S1x1024 .f32) : k0_pay15 (F := Ideal) v p t (ix2 r d)
    = (k0_pay12 (F := Ideal) p t (ix2 r d) : EReal) * (v (ix2 0 d) : EReal) := by
  unfold k0_pay15
  pointwise

theorem pay16_apply (v : FVec Ideal S1x1024 .f32) : k0_pay16 (F := Ideal) v p t (ix2 r 0)
    = Ideal.div (∑ k : Fin 1024, (k0_pay15 (F := Ideal) v p t (ix2 r k) : EReal)) width := by
  unfold k0_pay16
  pointwise
  rfl

theorem pay1_apply (s z : FVec Ideal S512x1 .f32) : k0_pay1 (F := Ideal) s q p z (ix2 r d)
    = (s (ix2 r 0) : EReal) * ((p (ix2 r d) : EReal) - (z (ix2 r 0) : EReal)
        - (q (ix2 r d) : EReal) * Ideal.div (∑ k : Fin 1024, (p (ix2 r k) : EReal) * (q (ix2 r k) : EReal)) width) := by
  unfold k0_pay1
  pointwise
  rfl

end

/-! ## Where the blocks lie -/

theorem at0_0 : ∀ t : Fin cfg0.N, win0_0.index t = ![t.val, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![t.val, 0] := (by decide +kernel : ∀ t : Fin grid0.N, _)
theorem at0_3 : ∀ t : Fin cfg0.N, win0_3.index t = ![t.val, 0] := (by decide +kernel : ∀ t : Fin grid0.N, _)
theorem at0_4 : ∀ t : Fin cfg0.N, win0_4.index t = ![0, 0] := (by decide +kernel : ∀ t : Fin grid0.N, _)
theorem at0_5 : ∀ t : Fin cfg0.N, win0_5.index t = ![0, 0] := (by decide +kernel : ∀ t : Fin grid0.N, _)
theorem at0_6 : ∀ t : Fin cfg0.N, win0_6.index t = ![t.val, 0] := (by decide +kernel : ∀ t : Fin grid0.N, _)
theorem at0_7 : ∀ t : Fin cfg0.N, win0_7.index t = ![0, 0] := (by decide +kernel : ∀ t : Fin grid0.N, _)
theorem at0_8 : ∀ t : Fin cfg0.N, win0_8.index t = ![0, 0] := (by decide +kernel : ∀ t : Fin grid0.N, _)
theorem at0_9 : ∀ t : Fin cfg0.N, win0_9.index t = ![0, 0] := (by decide +kernel : ∀ t : Fin grid0.N, _)

/-- A point's number is below four. -/
theorem lt4 (t : Fin cfg0.N) : t.val < 4 := t.isLt

variable (m : (ℓ : Loc nD τ sig) → Buf (Elt Ideal) ℓ) (c : Dev nD) (t : Fin cfg0.N)

/-- The arguments on a device. -/
abbrev fArg : Mat 2048 2816 := m ((c.tc : Thread nD τ).loc main_arg0)
abbrev wArg : Mat 2816 1024 := m ((c.tc : Thread nD τ).loc main_arg1)
abbrev hArg : Mat 2048 1024 := m ((c.tc : Thread nD τ).loc main_arg2)
abbrev tArg : Mat 2048 1024 := m ((c.tc : Thread nD τ).loc main_arg3)
abbrev gArg : Row := m ((c.tc : Thread nD τ).loc main_arg4)
abbrev bArg : Row := m ((c.tc : Thread nD τ).loc main_arg5)

/-- Row `r` of the tile of point `t`. -/
abbrev rowAt (r : Fin 512) : Fin 2048 := tileRow t.val (lt4 t) r

/-! ## The arrays as the call finds them -/

theorem host_f : V m c main_v3 = wideX (fArg m c) := by
  funext i
  idx_vars i
  show after hostOps0 (fun b => m (c, b)) (Proc.devRef .tc main_v3) (ix2 i0 i1) = _
  after_reads_simp
  pointwise
  unfold wideX
  split
  · next hj =>
    refine Eq.trans ?_ (dif_pos hj).symm
    after_reads_simp
    pointwise
    refine congrArg (fun k => fArg m c (ix2 i0 k)) (Fin.ext ?_)
    show (i1 : ℕ) / 384 * 352 + (i1 : ℕ) % 384 = 352 * ((i1 : ℕ) / 384) + (i1 : ℕ) % 384
    omega
  · next hj =>
    refine Eq.trans ?_ (dif_neg hj).symm
    after_reads_simp
    pointwise

theorem host_w : V m c main_v8 = wideR (wArg m c) := by
  funext i
  idx_vars i
  show after hostOps0 (fun b => m (c, b)) (Proc.devRef .tc main_v8) (ix2 i0 i1) = _
  after_reads_simp
  pointwise
  unfold wideR
  split
  · next hj =>
    refine Eq.trans ?_ (dif_pos hj).symm
    after_reads_simp
    pointwise
    refine congrArg (fun k => wArg m c (ix2 k i1)) (Fin.ext ?_)
    show (i0 : ℕ) / 384 * 352 + (i0 : ℕ) % 384 = 352 * ((i0 : ℕ) / 384) + (i0 : ℕ) % 384
    omega
  · next hj =>
    refine Eq.trans ?_ (dif_neg hj).symm
    after_reads_simp
    pointwise

theorem host_g (d : Fin 1024) : V m c main_v9 (ix2 0 d) = gArg m c (ix1 d) := by
  show after hostOps0 (fun b => m (c, b)) (Proc.devRef .tc main_v9) (ix2 0 d) = _
  after_reads_simp
  pointwise

theorem host_b (d : Fin 1024) : V m c main_v10 (ix2 0 d) = bArg m c (ix1 d) := by
  show after hostOps0 (fun b => m (c, b)) (Proc.devRef .tc main_v10) (ix2 0 d) = _
  after_reads_simp
  pointwise

/-! ## The blocks -/

theorem blk0_0 (r : Fin 512) (j : Fin 3072) : iblk (F := Ideal) m c 0 t (ix2 r j) = wideX (fArg m c) (ix2 (rowAt t r) j) := by
  rw [← host_f m c]
  blk_simp [iblk]
  congr 1
  blk_ext [at0_0]
  show t.val * 512 + (r : ℕ) = 512 * t.val + r
  omega

theorem blk0_1 (j : Fin 3072) (d : Fin 1024) : iblk (F := Ideal) m c 1 t (ix2 j d) = wideR (wArg m c) (ix2 j d) := by
  rw [← host_w m c]
  blk_simp [iblk]
  congr 1
  blk_ext [at0_1]

theorem blk0_2 (r : Fin 512) (d : Fin 1024) : iblk (F := Ideal) m c 2 t (ix2 r d) = hArg m c (ix2 (rowAt t r) d) := by
  rw [← show V m c main_arg2 = hArg m c from V_main_arg2 m c]
  blk_simp [iblk]
  congr 1
  blk_ext [at0_2]
  show t.val * 512 + (r : ℕ) = 512 * t.val + r
  omega

theorem blk0_3 (r : Fin 512) (d : Fin 1024) : iblk (F := Ideal) m c 3 t (ix2 r d) = tArg m c (ix2 (rowAt t r) d) := by
  rw [← show V m c main_arg3 = tArg m c from V_main_arg3 m c]
  blk_simp [iblk]
  congr 1
  blk_ext [at0_3]
  show t.val * 512 + (r : ℕ) = 512 * t.val + r
  omega

theorem blk0_4 (d : Fin 1024) : iblk (F := Ideal) m c 4 t (ix2 0 d) = gArg m c (ix1 d) := by
  refine Eq.trans ?_ (host_g m c d)
  blk_simp [iblk]
  congr 1
  blk_ext [at0_4]

theorem blk0_5 (d : Fin 1024) : iblk (F := Ideal) m c 5 t (ix2 0 d) = bArg m c (ix1 d) := by
  refine Eq.trans ?_ (host_b m c d)
  blk_simp [iblk]
  congr 1
  blk_ext [at0_5]

theorem place0_6 (r : Fin 512) (d : Fin 1024) : (win0_6.blk t).view.emb (ix2 r d) = (ix2 (rowAt t r) d : S2048x1024.Idx) := by
  blk_ext [at0_6]
  show t.val * 512 + (r : ℕ) = 512 * t.val + r
  omega

theorem place0_7 (d : Fin 1024) : (win0_7.blk t).view.emb (ix2 0 d) = (ix2 0 d : S1x1024.Idx) := by
  blk_ext [at0_7]

theorem place0_8 (d : Fin 1024) : (win0_8.blk t).view.emb (ix2 0 d) = (ix2 0 d : S1x1024.Idx) := by
  blk_ext [at0_8]

theorem place0_9 (l : Fin 128) : (win0_9.blk t).view.emb (ix2 0 l) = (ix2 0 l : S1x128.Idx) := by
  blk_ext [at0_9]

end Cert.KernelLIdeal.Run

end
-- ==== Proof.LossHeadRef.lean ====
/-
  The reference program of the product down, the layer norm and the loss.
-/
module

public import proofs.«01_k».proof.Proof.Gen.ReferenceLIdeal
public import Idealize.ShloMosaic.Lib.Pointwise
public import Idealize.ShloMosaic.Lib.StableHlo.RunRead
public import Idealize.ShloMosaic.Lib.Claim
public import proofs.«01_k».proof.Proof.LossHead

@[expose] public section

set_option maxRecDepth 16384

noncomputable section

namespace Cert.ReferenceLIdeal.Run

open Idealize.ShloMosaic Idealize.ShloMosaic.TcCoe Idealize.SL.Sem Cert.ReferenceLIdeal Cert.ReferenceLIdeal.Gen
open Cert.FeedForward Cert.FeedForwardBwd Cert.LossHead

variable (m : (ℓ : Loc nD τ sig) → Buf (Elt Ideal) ℓ) (ρ : Dev nD → PrngReg)

/-- The reference program leaves its arguments and its counters as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  hlo_run
  · exact fun _ => ⟨trivial, trivial, trivial, trivial, trivial, trivial⟩
  · exact sem_eq_zero_of_no_sems (by decide) _

/-- The arguments on a device. -/
abbrev fArg (c : Dev nD) : Mat 2048 2816 := m ((c.tc : Thread nD τ).loc main_arg0)
abbrev wArg (c : Dev nD) : Mat 2816 1024 := m ((c.tc : Thread nD τ).loc main_arg1)
abbrev hArg (c : Dev nD) : Mat 2048 1024 := m ((c.tc : Thread nD τ).loc main_arg2)
abbrev tArg (c : Dev nD) : Mat 2048 1024 := m ((c.tc : Thread nD τ).loc main_arg3)
abbrev gArg (c : Dev nD) : Row := m ((c.tc : Thread nD τ).loc main_arg4)
abbrev bArg (c : Dev nD) : Row := m ((c.tc : Thread nD τ).loc main_arg5)

/-- What the norm reads. -/
abbrev x (c : Dev nD) : Mat 2048 1024 := normIn (fArg m c) (wArg m c) (hArg m c)

/-- The gradient of the norm's output at an entry. -/
abbrev y (c : Dev nD) (r : Fin 2048) (d : Fin 1024) : EReal := cot (row (x m c) r) (entries (gArg m c)) (entries (bArg m c)) (row (tArg m c) r) d

/-- The gradient of the norm's output as the program makes it. -/
theorem cot_form (c : Dev nD) (r : Fin 2048) (d : Fin 1024) :
    Ideal.div half width
        * (Ideal.ofBits .f32 0x40000000#32 * err (row (x m c) r) (entries (gArg m c)) (entries (bArg m c)) (row (tArg m c) r) d)
      = y m c r d := by
  rw [two_eq]
  exact cot_eq _

/-- The program leaves the gradients and the loss, and its arguments as they were. -/
theorem value : θ_run defs (onTc (τ := τ) (main (F := Ideal))) ⟨m, fun _ => 0, ρ⟩ (fun r => ∀ c : Dev nD,
      (r.2.mem ((c.tc : Thread nD τ).loc main_v68) = gradIn (x m c) (gArg m c) (bArg m c) (tArg m c)
      ∧ r.2.mem ((c.tc : Thread nD τ).loc main_v52) = gradScale (x m c) (gArg m c) (bArg m c) (tArg m c)
      ∧ r.2.mem ((c.tc : Thread nD τ).loc main_v46) = gradShift (x m c) (gArg m c) (bArg m c) (tArg m c)
      ∧ r.2.mem ((c.tc : Thread nD τ).loc main_v37) = (fun _ => loss (x m c) (gArg m c) (bArg m c) (tArg m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  · funext i
    idx_vars i
    pointwise
    exact congrArg (fun z => normBack z (hat (row (x m c) i0)) (entries (gArg m c)) (rstd (row (x m c) i0)) i1) (funext fun k => cot_form m c i0 k)
  · funext i
    idx_vars i
    pointwise
    refine (Fin.sum_univ_one _).trans ?_
    exact Finset.sum_congr rfl fun r _ => (mul_comm (G := EReal) _ _).trans (congrArg (HMul.hMul (α := EReal) · (hat (row (x m c) r) i0)) (cot_form m c r i0))
  · funext i
    idx_vars i
    pointwise
    refine (Fin.sum_univ_one _).trans ?_
    exact Finset.sum_congr rfl fun r _ => cot_form m c r i0
  · funext i
    pointwise
    rfl

end Cert.ReferenceLIdeal.Run
end
-- ==== Proof.LossHeadKernel.lean ====
/-
  The product down, the layer norm and the loss in the kernel program: the rows of a tile at each of the four points, and
  the sums over the rows carried from tile to tile.
-/
module

public import proofs.«01_k».proof.Proof.LossHeadBlocks
public import proofs.«01_k».proof.Proof.LossHeadRef
public import proofs.«01_k».proof.Defs

@[expose] public section

set_option maxRecDepth 16384

noncomputable section

namespace Cert.KernelLIdeal.Run

open Idealize.ShloMosaic Idealize.ShloMosaic.TcCoe Cert.KernelLIdeal Cert.KernelLIdeal.Gen Cert.FeedForward Cert.FeedForwardBwd Cert.LossHead
open Idealize.SL Idealize.SL.RA Idealize.SL.BI Idealize.SL.Sem
open Idealize.ShloMosaic.StableHlo Idealize.ShloMosaic.Tactic

variable (m : (ℓ : Loc nD τ sig) → Buf (Elt Ideal) ℓ) (c : Dev nD) (t : Fin cfg0.N)

/-- What the norm reads. -/
abbrev x : Mat 2048 1024 := normIn (fArg m c) (wArg m c) (hArg m c)

/-- The norm's scale, its shift, and the error and the gradient of the norm's output at an entry. -/
abbrev gs : Fin 1024 → EReal := entries (gArg m c)
abbrev bs : Fin 1024 → EReal := entries (bArg m c)
abbrev e (r : Fin 2048) (d : Fin 1024) : EReal := err (row (x m c) r) (gs m c) (bs m c) (row (tArg m c) r) d
abbrev y (r : Fin 2048) (d : Fin 1024) : EReal := cot (row (x m c) r) (gs m c) (bs m c) (row (tArg m c) r) d

/-! ## A point's tile -/

theorem dev_at (r : Fin 512) (d : Fin 1024) :
    k0_pay6 (F := Ideal) (iblk m c 2 t) (iblk m c 0 t) (iblk m c 1 t) (ix2 r d) = dev (row (x m c) (rowAt t r)) d := by
  refine (pay6_apply _ _ _ r d).trans (congrArg (dev · d) (funext fun k => ?_))
  refine Eq.trans ?_ (congrFun (normIn_wide (fArg m c) (wArg m c) (hArg m c)) (ix2 (rowAt t r) k))
  exact congrArg₂ (HAdd.hAdd (α := EReal)) (congrArg (scale * ·) (blk0_2 m c t r k))
    (Finset.sum_congr rfl fun j _ => congrArg₂ (HMul.hMul (α := EReal)) (blk0_0 m c t r j) (blk0_1 m c t j k))

theorem rstd_at (r : Fin 512) :
    k0_pay7 (F := Ideal) (iblk m c 2 t) (iblk m c 0 t) (iblk m c 1 t) (ix2 r 0) = rstd (row (x m c) (rowAt t r)) := by
  refine (pay7_apply _ _ _ r).trans (congrArg (fun v => Ideal.rsqrt (mean v + eps)) (funext fun k => ?_))
  exact congrArg₂ (HMul.hMul (α := EReal)) (dev_at m c t r k) (dev_at m c t r k)

theorem hat_at (r : Fin 512) (d : Fin 1024) :
    k0_pay8 (F := Ideal) (iblk m c 2 t) (iblk m c 0 t) (iblk m c 1 t) (ix2 r d) = hat (row (x m c) (rowAt t r)) d :=
  (pay8_apply _ _ _ r d).trans (congrArg₂ (HMul.hMul (α := EReal)) (dev_at m c t r d) (rstd_at m c t r))

/-- The norm's output, as a point computes it. -/
abbrev outOf : FVec Ideal S512x1024 .f32 :=
  k0_pay9 (F := Ideal) (iblk m c 2 t) (iblk m c 0 t) (iblk m c 1 t) (iblk m c 4 t) (iblk m c 5 t)

theorem scale_at (d : Fin 1024) : k0_pay5 (F := Ideal) (iblk m c 4 t) (ix2 0 d) = gs m c d :=
  (pay5_apply _ d).trans (blk0_4 m c t d)

theorem err_at (r : Fin 512) (d : Fin 1024) : k0_pay10 (F := Ideal) (outOf m c t) (iblk m c 3 t) (ix2 r d) = e m c (rowAt t r) d := by
  refine (pay10_apply _ _ r d).trans (congrArg₂ (HSub.hSub (α := EReal)) ((pay9_apply _ _ _ _ _ r d).trans ?_) (blk0_3 m c t r d))
  exact congrArg₂ (HAdd.hAdd (α := EReal)) (congrArg₂ (HMul.hMul (α := EReal)) (hat_at m c t r d) (scale_at m c t d)) (blk0_5 m c t d)

theorem cot_at (r : Fin 512) (d : Fin 1024) : k0_pay12 (F := Ideal) (outOf m c t) (iblk m c 3 t) (ix2 r d) = y m c (rowAt t r) d :=
  (pay12_apply _ _ r d).trans (congrArg (HMul.hMul (α := EReal) · share) (err_at m c t r d))

theorem scaled_at (r : Fin 512) (d : Fin 1024) :
    k0_pay15 (F := Ideal) (k0_pay5 (F := Ideal) (iblk m c 4 t)) (outOf m c t) (iblk m c 3 t) (ix2 r d)
      = HMul.hMul (α := EReal) (y m c (rowAt t r) d) (gs m c d) :=
  (pay15_apply _ _ r d _).trans (congrArg₂ (HMul.hMul (α := EReal)) (cot_at m c t r d) (scale_at m c t d))

/-- The gradient of what the norm read, at the rows of the point's tile. -/
theorem grad_at (r : Fin 512) (d : Fin 1024) :
    (outsAt0 m c t.val t.isLt).1 (ix2 r d) = gradIn (x m c) (gArg m c) (bArg m c) (tArg m c) (ix2 (rowAt t r) d) := by
  have key : k0_pay1 (F := Ideal) (k0_pay7 (F := Ideal) (iblk m c 2 t) (iblk m c 0 t) (iblk m c 1 t))
      (k0_pay8 (F := Ideal) (iblk m c 2 t) (iblk m c 0 t) (iblk m c 1 t))
      (k0_pay15 (F := Ideal) (k0_pay5 (F := Ideal) (iblk m c 4 t)) (outOf m c t) (iblk m c 3 t))
      (k0_pay16 (F := Ideal) (k0_pay5 (F := Ideal) (iblk m c 4 t)) (outOf m c t) (iblk m c 3 t)) (ix2 r d)
        = gradIn (x m c) (gArg m c) (bArg m c) (tArg m c) (ix2 (rowAt t r) d) := by
    refine (pay1_apply _ _ r d _ _).trans (congrArg₂ (HMul.hMul (α := EReal)) (rstd_at m c t r) ?_)
    refine congrArg₂ (HSub.hSub (α := EReal)) (congrArg₂ (HSub.hSub (α := EReal)) (scaled_at m c t r d) ?_)
      (congrArg₂ (HMul.hMul (α := EReal)) (hat_at m c t r d) ?_)
    · exact (pay16_apply _ _ r _).trans (congrArg (Ideal.div · width) (Finset.sum_congr rfl fun k _ => scaled_at m c t r k))
    · exact congrArg (Ideal.div · width) (Finset.sum_congr rfl fun k _ =>
        congrArg₂ (HMul.hMul (α := EReal)) (scaled_at m c t r k) (hat_at m c t r k))
  by_cases h0 : t.val % 4 = 0
  · rw [outsAt0_A m c t h0]
    frame_out
    exact key
  · rw [outsAt0_B m c t h0]
    frame_out
    exact key

/-! ## The sums over the rows, at the first point and at a later one -/

theorem scale_first (h0 : t.val % 4 = 0) (d : Fin 1024) : (outsAt0 m c t.val t.isLt).2.1 (ix2 0 d)
    = HAdd.hAdd (α := EReal) 0 (∑ r : Fin 512, HMul.hMul (α := EReal) (y m c (rowAt t r) d) (hat (row (x m c) (rowAt t r)) d)) := by
  rw [outsAt0_A m c t h0]
  frame_out
  refine (pay13_apply _ _ _ d _).trans (congrArg₂ (HAdd.hAdd (α := EReal)) ?_ (Finset.sum_congr rfl fun r _ =>
    congrArg₂ (HMul.hMul (α := EReal)) (cot_at m c t r d) (hat_at m c t r d)))
  exact pay2_apply _

theorem scale_next (h0 : ¬ t.val % 4 = 0) (d : Fin 1024) : (outsAt0 m c t.val t.isLt).2.1 (ix2 0 d)
    = HAdd.hAdd (α := EReal) ((outsAt0 m c (t.val - 1) (by have := t.isLt; omega)).2.1 (ix2 0 d))
        (∑ r : Fin 512, HMul.hMul (α := EReal) (y m c (rowAt t r) d) (hat (row (x m c) (rowAt t r)) d)) := by
  rw [outsAt0_B m c t h0]
  frame_out
  exact (pay13_apply _ _ _ d _).trans (congrArg₂ (HAdd.hAdd (α := EReal)) rfl (Finset.sum_congr rfl fun r _ =>
    congrArg₂ (HMul.hMul (α := EReal)) (cot_at m c t r d) (hat_at m c t r d)))

theorem shift_first (h0 : t.val % 4 = 0) (d : Fin 1024) : (outsAt0 m c t.val t.isLt).2.2.1 (ix2 0 d)
    = HAdd.hAdd (α := EReal) 0 (∑ r : Fin 512, y m c (rowAt t r) d) := by
  rw [outsAt0_A m c t h0]
  frame_out
  refine (pay14_apply _ _ d _).trans (congrArg₂ (HAdd.hAdd (α := EReal)) ?_ (Finset.sum_congr rfl fun r _ => cot_at m c t r d))
  exact pay3_apply _

theorem shift_next (h0 : ¬ t.val % 4 = 0) (d : Fin 1024) : (outsAt0 m c t.val t.isLt).2.2.1 (ix2 0 d)
    = HAdd.hAdd (α := EReal) ((outsAt0 m c (t.val - 1) (by have := t.isLt; omega)).2.2.1 (ix2 0 d)) (∑ r : Fin 512, y m c (rowAt t r) d) := by
  rw [outsAt0_B m c t h0]
  frame_out
  exact (pay14_apply _ _ d _).trans (congrArg₂ (HAdd.hAdd (α := EReal)) rfl (Finset.sum_congr rfl fun r _ => cot_at m c t r d))

/-- Half the mean squares of a tile's rows. -/
theorem halves (p : FVec Ideal S512x1024 .f32) (hp : ∀ (r : Fin 512) (d : Fin 1024), p (ix2 r d) = e m c (rowAt t r) d) :
    half * ∑ r : Fin 512, mean (fun k => HMul.hMul (α := EReal) (p (ix2 r k)) (p (ix2 r k)))
      = ∑ r : Fin 512, half * square (row (x m c) (rowAt t r)) (gs m c) (bs m c) (row (tArg m c) (rowAt t r)) := by
  rw [half_sum]
  refine Finset.sum_congr rfl fun r _ => congrArg (fun v => half * mean v) (funext fun k => ?_)
  exact congrArg₂ (HMul.hMul (α := EReal)) (hp r k) (hp r k)

theorem loss_first (h0 : t.val % 4 = 0) (l : Fin 128) : (outsAt0 m c t.val t.isLt).2.2.2 (ix2 0 l)
    = HAdd.hAdd (α := EReal) 0
        (∑ r : Fin 512, half * square (row (x m c) (rowAt t r)) (gs m c) (bs m c) (row (tArg m c) (rowAt t r))) := by
  rw [outsAt0_A m c t h0]
  frame_out
  refine (pay11_apply _ _ _ l).trans (congrArg₂ (HAdd.hAdd (α := EReal)) ?_ (halves m c t _ (err_at m c t)))
  exact pay4_apply _

theorem loss_next (h0 : ¬ t.val % 4 = 0) (l : Fin 128) : (outsAt0 m c t.val t.isLt).2.2.2 (ix2 0 l)
    = HAdd.hAdd (α := EReal) ((outsAt0 m c (t.val - 1) (by have := t.isLt; omega)).2.2.2 (ix2 0 l))
        (∑ r : Fin 512, half * square (row (x m c) (rowAt t r)) (gs m c) (bs m c) (row (tArg m c) (rowAt t r))) := by
  rw [outsAt0_B m c t h0]
  frame_out
  exact (pay11_apply _ _ _ l).trans (congrArg₂ (HAdd.hAdd (α := EReal)) rfl (halves m c t _ (err_at m c t)))

/-! ## The sums after the last point -/

/-- A sum carried from the first point over the others. -/
theorem sum_all (o : (n : ℕ) → n < cfg0.N → EReal) (f : Fin 2048 → EReal)
    (h0 : ∀ t : Fin cfg0.N, t.val % 4 = 0 → o t.val t.isLt = 0 + ∑ r : Fin 512, f (rowAt t r))
    (hs : ∀ t : Fin cfg0.N, ¬ t.val % 4 = 0 → o t.val t.isLt = o (t.val - 1) (by have := t.isLt; omega) + ∑ r : Fin 512, f (rowAt t r))
    (h : 3 < cfg0.N) : o 3 h = ∑ r, f r :=
  total o f (h0 ⟨0, by show 0 < 4; omega⟩ rfl) fun n hn => hs ⟨n + 1, hn⟩ (by show ¬ (n + 1) % 4 = 0; omega)

theorem scale_all (d : Fin 1024) (h : 3 < cfg0.N) :
    (outsAt0 m c 3 h).2.1 (ix2 0 d) = gradScale (x m c) (gArg m c) (bArg m c) (tArg m c) (ix1 d) :=
  sum_all (fun n hn => (outsAt0 m c n hn).2.1 (ix2 0 d)) (fun r => HMul.hMul (α := EReal) (y m c r d) (hat (row (x m c) r) d))
    (fun t h0 => scale_first m c t h0 d) (fun t h0 => scale_next m c t h0 d) h

theorem shift_all (d : Fin 1024) (h : 3 < cfg0.N) :
    (outsAt0 m c 3 h).2.2.1 (ix2 0 d) = gradShift (x m c) (gArg m c) (bArg m c) (tArg m c) (ix1 d) :=
  sum_all (fun n hn => (outsAt0 m c n hn).2.2.1 (ix2 0 d)) (fun r => y m c r d)
    (fun t h0 => shift_first m c t h0 d) (fun t h0 => shift_next m c t h0 d) h

theorem loss_all (l : Fin 128) (h : 3 < cfg0.N) :
    (outsAt0 m c 3 h).2.2.2 (ix2 0 l) = loss (x m c) (gArg m c) (bArg m c) (tArg m c) :=
  (sum_all (fun n hn => (outsAt0 m c n hn).2.2.2 (ix2 0 l)) (fun r => half * square (row (x m c) r) (gs m c) (bs m c) (row (tArg m c) r))
    (fun t h0 => loss_first m c t h0 l) (fun t h0 => loss_next m c t h0 l) h).trans (half_sum _ _).symm

/-! ## The arrays after the run -/

/-- The three sums over the rows are written back at the last point only. -/
theorem flushes7 : ∀ t : Fin cfg0.N, (cfg0.win 7).flush t = true → t.val = 3 :=
  (by decide +kernel : ∀ t : Fin cfg0.N, (cfg0.win 7).flush t = true → t.val = 3)
theorem flushes8 : ∀ t : Fin cfg0.N, (cfg0.win 8).flush t = true → t.val = 3 :=
  (by decide +kernel : ∀ t : Fin cfg0.N, (cfg0.win 8).flush t = true → t.val = 3)
theorem flushes9 : ∀ t : Fin cfg0.N, (cfg0.win 9).flush t = true → t.val = 3 :=
  (by decide +kernel : ∀ t : Fin cfg0.N, (cfg0.win 9).flush t = true → t.val = 3)

theorem arr_grad : (dats m 0 c).arrAt 6 cfg0.N = gradIn (x m c) (gArg m c) (bArg m c) (tArg m c) := by
  refine (dats m 0 c).arrAt_eq_of_covers 6 _ (by decide +kernel) fun t hf y => ?_
  blk_simp
  rw [after0_6]
  obtain ⟨r, d, rfl⟩ : ∃ (r : Fin 512) (d : Fin 1024), y = ix2 r d := ⟨y 0, y 1, by funext k; fin_cases k <;> rfl⟩
  exact (grad_at m c t r d).trans (congrArg _ (place0_6 t r d).symm)

/-- An array of one row. -/
def oneRow (v : Row) : S1x1024.Idx → EReal := fun i => v (ix1 (i 1))

theorem arr_scale : (dats m 0 c).arrAt 7 cfg0.N = oneRow (gradScale (x m c) (gArg m c) (bArg m c) (tArg m c)) := by
  refine (dats m 0 c).arrAt_eq_of_covers 7 _ (by decide +kernel) fun t hf y => ?_
  blk_simp
  rw [after0_7]
  obtain ⟨d, rfl⟩ : ∃ d : Fin 1024, y = ix2 0 d := ⟨y 1, by funext k; fin_cases k; exacts [Subsingleton.elim (α := Fin 1) _ _, rfl]⟩
  obtain rfl : t = ⟨3, by show 3 < 4; omega⟩ := Fin.ext (flushes7 t hf)
  exact (show _ = oneRow (gradScale (x m c) (gArg m c) (bArg m c) (tArg m c)) (ix2 0 d) from scale_all m c d _).trans
    (congrArg (oneRow (gradScale (x m c) (gArg m c) (bArg m c) (tArg m c))) (place0_7 _ d).symm)

theorem arr_shift : (dats m 0 c).arrAt 8 cfg0.N = oneRow (gradShift (x m c) (gArg m c) (bArg m c) (tArg m c)) := by
  refine (dats m 0 c).arrAt_eq_of_covers 8 _ (by decide +kernel) fun t hf y => ?_
  blk_simp
  rw [after0_8]
  obtain ⟨d, rfl⟩ : ∃ d : Fin 1024, y = ix2 0 d := ⟨y 1, by funext k; fin_cases k; exacts [Subsingleton.elim (α := Fin 1) _ _, rfl]⟩
  obtain rfl : t = ⟨3, by show 3 < 4; omega⟩ := Fin.ext (flushes8 t hf)
  exact (show _ = oneRow (gradShift (x m c) (gArg m c) (bArg m c) (tArg m c)) (ix2 0 d) from shift_all m c d _).trans
    (congrArg (oneRow (gradShift (x m c) (gArg m c) (bArg m c) (tArg m c))) (place0_8 _ d).symm)

theorem arr_loss : (dats m 0 c).arrAt 9 cfg0.N = fun _ => loss (x m c) (gArg m c) (bArg m c) (tArg m c) := by
  refine (dats m 0 c).arrAt_eq_of_covers 9 _ (by decide +kernel) fun t hf y => ?_
  blk_simp
  rw [after0_9]
  obtain ⟨l, rfl⟩ : ∃ l : Fin 128, y = ix2 0 l := ⟨y 1, by funext k; fin_cases k; exacts [Subsingleton.elim (α := Fin 1) _ _, rfl]⟩
  obtain rfl : t = ⟨3, by show 3 < 4; omega⟩ := Fin.ext (flushes9 t hf)
  exact loss_all m c l _

/-- The call's arrays are ten different ones. -/
theorem arr_inj : Function.Injective (Pipeline.arrRef spec0) := by decide

/-- The lines after the call lay each row of sums as a vector and take the loss out of its row. -/
theorem tail_scale : Pipeline.afterTail₀ cfgs (dats m) 0 (V0 m) [hostOps1] c main_v12 = gradScale (x m c) (gArg m c) (bArg m c) (tArg m c) := by
  funext i
  idx_vars i
  unfold Pipeline.afterTail₀
  simp only [List.flatten_cons, List.flatten_nil, List.append_nil]
  after_reads_simp
  pointwise
  exact congrFun ((Pipeline.withArrays_arr (cfgs 0).spec arr_inj c (V0 m c) (fun w => (dats m 0 c).arrAt w (cfgs 0).N) 7).trans (arr_scale m c)) (ix2 0 i0)

theorem tail_shift : Pipeline.afterTail₀ cfgs (dats m) 0 (V0 m) [hostOps1] c main_v13 = gradShift (x m c) (gArg m c) (bArg m c) (tArg m c) := by
  funext i
  idx_vars i
  unfold Pipeline.afterTail₀
  simp only [List.flatten_cons, List.flatten_nil, List.append_nil]
  after_reads_simp
  pointwise
  exact congrFun ((Pipeline.withArrays_arr (cfgs 0).spec arr_inj c (V0 m c) (fun w => (dats m 0 c).arrAt w (cfgs 0).N) 8).trans (arr_shift m c)) (ix2 0 i0)

theorem tail_loss : Pipeline.afterTail₀ cfgs (dats m) 0 (V0 m) [hostOps1] c main_v15 = fun _ => loss (x m c) (gArg m c) (bArg m c) (tArg m c) := by
  funext i
  unfold Pipeline.afterTail₀
  simp only [List.flatten_cons, List.flatten_nil, List.append_nil]
  after_reads_simp
  pointwise
  exact congrFun ((Pipeline.withArrays_arr (cfgs 0).spec arr_inj c (V0 m c) (fun w => (dats m 0 c).arrAt w (cfgs 0).N) 9).trans (arr_loss m c)) (ix2 0 0)

variable (ρ : Dev nD → PrngReg)

/-- The kernel program leaves the gradients and the loss, and its arguments as they were. -/
theorem value : θ_run defs (onTc (τ := τ) (main (F := Ideal))) ⟨m, fun _ => 0, ρ⟩ (fun r => ∀ c : Dev nD,
      r.2.mem ((c.tc : Thread nD τ).loc main_v11_0) = gradIn (x m c) (gArg m c) (bArg m c) (tArg m c)
      ∧ r.2.mem ((c.tc : Thread nD τ).loc main_v12) = gradScale (x m c) (gArg m c) (bArg m c) (tArg m c)
      ∧ r.2.mem ((c.tc : Thread nD τ).loc main_v13) = gradShift (x m c) (gArg m c) (bArg m c) (tArg m c)
      ∧ r.2.mem ((c.tc : Thread nD τ).loc main_v15) = (fun _ => loss (x m c) (gArg m c) (bArg m c) (tArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (run_main m ρ) (unchanged m ρ)) fun r h c =>
    ⟨((h.1 c).1 6).trans (arr_grad m c),
      ((h.1 c).2 main_v12 (Pipeline.mem_restRefs_of main_v12 (by decide) (by decide))).trans (tail_scale m c),
      ((h.1 c).2 main_v13 (Pipeline.mem_restRefs_of main_v13 (by decide) (by decide))).trans (tail_shift m c),
      ((h.1 c).2 main_v15 (Pipeline.mem_restRefs_of main_v15 (by decide) (by decide))).trans (tail_loss m c), h.2 c⟩

end Cert.KernelLIdeal.Run

namespace Cert.Proof

open Idealize.ShloMosaic Idealize.ShloMosaic.TcCoe Idealize.SL.Sem Cert.LossHead

/-- The two programs' results are equal, whatever the arguments. -/
theorem algebraic_l : @Cert.algebraic_KernelLIdeal_ReferenceLIdeal Cert.KernelLIdeal.Gen.facts Cert.ReferenceLIdeal.Gen.facts := by
  intro m g m' g' _ heq
  refine ⟨_, _, _, _, Cert.KernelLIdeal.Run.value m g, θ_run_mono (Cert.ReferenceLIdeal.Run.value m' g') fun r h c => ?_⟩
  obtain ⟨h0, h1, h2, h3, h4, h5⟩ := heq c
  have k := h c
  unfold Cert.ReferenceLIdeal.Run.x Cert.ReferenceLIdeal.Run.fArg Cert.ReferenceLIdeal.Run.wArg Cert.ReferenceLIdeal.Run.hArg
    Cert.ReferenceLIdeal.Run.tArg Cert.ReferenceLIdeal.Run.gArg Cert.ReferenceLIdeal.Run.bArg at k
  obtain ⟨⟨k1, k2, k3, k4⟩, k5⟩ := k
  rw [h0, h1, h2, h3, h4, h5] at k1 k2 k3 k4
  exact ⟨k1, k2, k3, k4, k5⟩

end Cert.Proof

end
-- ==== Proof.Mixer.lean ====
/-
  The end of the mixer: gelu and the gated linear unit, the two branches' products, the gates that merge them, the
  product out, the residual beside it and the layer norm. What they are, and what the reference program leaves of them.
-/
module

public import proofs.«01_k».proof.Proof.Gen.ReferenceMIdeal
public import Idealize.ShloMosaic.Lib.Pointwise
public import Idealize.ShloMosaic.Lib.StableHlo.RunRead
public import Idealize.ShloMosaic.Lib.Claim
public import proofs.«01_k».proof.Proof.LossHead

@[expose] public section

set_option maxRecDepth 16384

noncomputable section

namespace Cert.Mixer

open Idealize.ShloMosaic Cert.FeedForward Cert.FeedForwardBwd Cert.LossHead

/-- gelu's two constants, the root of two over pi and the cube's factor. -/
def rootTwoOverPi : EReal := (Scalar.ofBits (F := Ideal) .f32 0x3F4C422A#32 : Ideal .f32)
def cubeFactor : EReal := (Scalar.ofBits (F := Ideal) .f32 0x3D372713#32 : Ideal .f32)

/-- gelu, by the hyperbolic tangent. -/
def gelu (y : EReal) : EReal := y * (half * (1 + Ideal.tanh (rootTwoOverPi * (y + cubeFactor * (y * y * y)))))

/-- The product of the rows' gelu. -/
def glu (y : Mat 2048 512) (w : Mat 512 1024) : Mat 2048 1024 := fun i => ∑ k : Fin 512, gelu (y (ix2 (i 0) k)) * w (ix2 k (i 1))

/-- The product of what the gated linear unit gives: the first half of a row times the second half's sigmoid. -/
def branch (z : Mat 2048 1024) (w : Mat 512 1024) : Mat 2048 1024 := fun i =>
  ∑ k : Fin 512, (z (ix2 (i 0) (Fin.castAdd 512 k)) * Ideal.logistic (z (ix2 (i 0) (Fin.natAdd 512 k)))) * w (ix2 k (i 1))

/-- Every row of `a` times every column of `w`. -/
def prod (a : Mat 2048 512) (w : Mat 512 1024) : Mat 2048 1024 := fun i => ∑ k : Fin 512, a (ix2 (i 0) k) * w (ix2 k (i 1))

/-- The branches merged, each by the sigmoid of its gate. -/
def merged (p : Mat 2048 7168) (b : Mat 2 1024) (y z : Mat 2048 1024) : Mat 2048 1024 := fun i =>
  Ideal.logistic (p (ix2 (i 0) ⟨5120 + (i 1).val, by have : (i 1).val < 1024 := (i 1).isLt; omega⟩) + b (ix2 0 (i 1))) * y i
    + Ideal.logistic (p (ix2 (i 0) ⟨5120 + (1024 + (i 1).val), by have : (i 1).val < 1024 := (i 1).isLt; omega⟩) + b (ix2 1 (i 1))) * z i

variable (a y : Mat 2048 512) (p : Mat 2048 7168) (x : Mat 2048 1024) (wa ws wg : Mat 512 1024) (wo : Mat 1024 1024) (b : Mat 2 1024)

/-- What the norm reads. -/
def mixIn : Mat 2048 1024 := normIn (merged p b (prod a wa) (branch (glu y wg) ws)) wo x

/-- The rows normed, and each row's factor. -/
def normed (r : Mat 2048 1024) : Mat 2048 1024 := fun i => hat (row r (i 0)) (i 1)
def factor (r : Mat 2048 1024) : Mat 2048 1 := fun i => rstd (row r (i 0))

/-- The norm's output. -/
def out (r : Mat 2048 1024) (g s : Row) : Mat 2048 1024 := fun i => hat (row r (i 0)) (i 1) * g (ix1 (i 1)) + s (ix1 (i 1))

/-- gelu with its factors the other way round. -/
theorem gelu_eq (y : EReal) : half * y * (1 + Ideal.tanh (rootTwoOverPi * (y + cubeFactor * y * y * y))) = gelu y := by
  unfold gelu
  rw [mul_left_comm y, ← mul_assoc half, ← mul_assoc cubeFactor, ← mul_assoc cubeFactor]

end Cert.Mixer

namespace Cert.ReferenceMIdeal.Run

open Idealize.ShloMosaic Idealize.ShloMosaic.TcCoe Idealize.SL.Sem Cert.ReferenceMIdeal Cert.ReferenceMIdeal.Gen
open Cert.FeedForward Cert.FeedForwardBwd Cert.LossHead Cert.Mixer

variable (m : (ℓ : Loc nD τ sig) → Buf (Elt Ideal) ℓ) (ρ : Dev nD → PrngReg) (c : Dev nD)

/-- The arguments on a device. -/
abbrev aArg : Mat 2048 512 := m ((c.tc : Thread nD τ).loc main_arg0)
abbrev yArg : Mat 2048 512 := m ((c.tc : Thread nD τ).loc main_arg1)
abbrev pArg : Mat 2048 7168 := m ((c.tc : Thread nD τ).loc main_arg2)
abbrev xArg : Mat 2048 1024 := m ((c.tc : Thread nD τ).loc main_arg3)
abbrev waArg : Mat 512 1024 := m ((c.tc : Thread nD τ).loc main_arg4)
abbrev wsArg : Mat 512 1024 := m ((c.tc : Thread nD τ).loc main_arg5)
abbrev wgArg : Mat 512 1024 := m ((c.tc : Thread nD τ).loc main_arg6)
abbrev woArg : Mat 1024 1024 := m ((c.tc : Thread nD τ).loc main_arg7)
abbrev bArg : Mat 2 1024 := m ((c.tc : Thread nD τ).loc main_arg8)
abbrev gArg : Row := m ((c.tc : Thread nD τ).loc main_arg9)
abbrev sArg : Row := m ((c.tc : Thread nD τ).loc main_arg10)

/-- The arguments are as they were. -/
abbrev Kept (m' : (ℓ : Loc nD τ sig) → Buf (Elt Ideal) ℓ) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)
  ∧ m' ((c.tc : Thread nD τ).loc main_arg10) = m ((c.tc : Thread nD τ).loc main_arg10)

/-- The reference program leaves its arguments and its counters as they were. -/
theorem frame : θ_run defs (onTc (τ := τ) (main (F := Ideal))) ⟨m, fun _ => 0, ρ⟩ (fun r => (∀ c : Dev nD, Kept m c r.2.mem)
      ∧ r.2.sem = fun _ => 0) := by
  unfold Kept
  hlo_run
  · exact fun _ => ⟨trivial, trivial, trivial, trivial, trivial, trivial, trivial, trivial, trivial, trivial, trivial⟩
  · exact sem_eq_zero_of_no_sems (by decide) _

/-- What the norm reads, and the gated linear unit. -/
abbrev r1 : Mat 2048 1024 := mixIn (aArg m c) (yArg m c) (pArg m c) (xArg m c) (waArg m c) (wsArg m c) (wgArg m c) (woArg m c) (bArg m c)
abbrev unit : Mat 2048 1024 := glu (yArg m c) (wgArg m c)

set_option maxHeartbeats 2000000 in
/-- The reference program leaves the norm and what came before it, and its arguments as they were. -/
theorem value : θ_run defs (onTc (τ := τ) (main (F := Ideal))) ⟨m, fun _ => 0, ρ⟩ (fun r => ∀ c : Dev nD,
      (r.2.mem ((c.tc : Thread nD τ).loc main_v70) = out (r1 m c) (gArg m c) (sArg m c)
      ∧ r.2.mem ((c.tc : Thread nD τ).loc main_v64) = normed (r1 m c)
      ∧ r.2.mem ((c.tc : Thread nD τ).loc main_v60) = factor (r1 m c)
      ∧ r.2.mem ((c.tc : Thread nD τ).loc main_v71) = unit m c
      ∧ r.2.mem ((c.tc : Thread nD τ).loc main_v72) = prod (aArg m c) (waArg m c)
      ∧ r.2.mem ((c.tc : Thread nD τ).loc main_v73) = branch (unit m c) (wsArg m c)) ∧ Kept m c r.2.mem) := by
  unfold Kept
  hlo_run
  · funext i
    idx_vars i
    pointwise
    rfl
  · funext i
    idx_vars i
    pointwise
    rfl
  · funext i
    idx_vars i
    pointwise
    rfl
  · funext i
    idx_vars i
    pointwise
    rfl
  · funext i
    idx_vars i
    pointwise
    rfl
  · funext i
    idx_vars i
    pointwise
    rfl

end Cert.ReferenceMIdeal.Run
end
-- ==== Proof.MixerBlocks.lean ====
/-
  One grid point of the call that ends the mixer: what it computes of its blocks, element by element, and where in its
  arrays the blocks lie.
-/
module

public import proofs.«01_k».proof.Proof.Gen.KernelMIdeal.Frame
public import Idealize.ShloMosaic.Lib.Pipeline.Value
public import Idealize.ShloMosaic.Lib.Pipeline.ValueKit
public import Idealize.ShloMosaic.Lib.Pointwise
public import Idealize.ShloMosaic.Lib.StableHlo.RunRead
public import Idealize.ShloMosaic.Lib.Claim
public import proofs.«01_k».proof.Proof.Mixer

@[expose] public section

set_option maxRecDepth 16384

noncomputable section

namespace Cert.KernelMIdeal.Run

open Idealize.ShloMosaic Idealize.ShloMosaic.TcCoe Cert.KernelMIdeal Cert.KernelMIdeal.Gen Cert.FeedForward Cert.FeedForwardBwd Cert.LossHead Cert.Mixer
open Idealize.SL Idealize.SL.RA Idealize.SL.BI Idealize.SL.Sem
open Idealize.ShloMosaic.StableHlo Idealize.ShloMosaic.Tactic

/-- Row `k`, column `j` of eight shards side by side. -/
def side {A : ℕ} (w : (⟨3, ![8, A, 128]⟩ : Shape).Idx → EReal) (k : Fin A) (j : Fin 1024) : EReal :=
  w (ix3 ⟨(j : ℕ) / 128, by omega⟩ k ⟨(j : ℕ) % 128, by omega⟩)

theorem eight (f : Fin 8 → Fin 128 → EReal) (j : Fin 1024) :
    (if h : (j : ℕ) < 128 then f 0 ⟨(j : ℕ), h⟩ else if h : (j : ℕ) - 128 < 128 then f 1 ⟨(j : ℕ) - 128, h⟩ else
    if h : (j : ℕ) - 128 - 128 < 128 then f 2 ⟨(j : ℕ) - 128 - 128, h⟩ else if h : (j : ℕ) - 128 - 128 - 128 < 128 then f 3 ⟨(j : ℕ) - 128 - 128 - 128, h⟩ else
    if h : (j : ℕ) - 128 - 128 - 128 - 128 < 128 then f 4 ⟨(j : ℕ) - 128 - 128 - 128 - 128, h⟩ else if h : (j : ℕ) - 128 - 128 - 128 - 128 - 128 < 128 then f 5 ⟨(j : ℕ) - 128 - 128 - 128 - 128 - 128, h⟩ else
    if h : (j : ℕ) - 128 - 128 - 128 - 128 - 128 - 128 < 128 then f 6 ⟨(j : ℕ) - 128 - 128 - 128 - 128 - 128 - 128, h⟩ else f 7 ⟨(j : ℕ) - 128 - 128 - 128 - 128 - 128 - 128 - 128, by omega⟩)
      = f ⟨(j : ℕ) / 128, by omega⟩ ⟨(j : ℕ) % 128, by omega⟩ := by
  split_ifs <;> (refine congrArg₂ f (Fin.ext ?_) (Fin.ext ?_) <;> simp <;> omega)

section

variable (v : FVec Ideal S512x512 .bf16) (w u : Vec Ideal S8x512x128 .bf16) (b : Vec Ideal S8x2x128 .f32) (r : Fin 512) (j : Fin 1024)
  (p : FVec Ideal S512x1024 .f32) (s : FVec Ideal S512x1 .f32)

theorem attn_at (a : Vec Ideal S512x512 .f32) : k0_pay17 (F := Ideal) a (View.ld w r0_1) (View.ld w r0_2) (View.ld w r0_3) (View.ld w r0_4) (View.ld w r0_5) (View.ld w r0_6) (View.ld w r0_7) (View.ld w r0_8)
    (ix2 r j) = ∑ k : Fin 512, (a (ix2 r k) : EReal) * side w k j := by
  unfold k0_pay17
  pointwise
  exact Finset.sum_congr rfl fun k _ => congrArg (HMul.hMul (α := EReal) _) (eight (fun s l => w (ix3 s k l)) j)

/-- The product of a point's rows of gelu. -/
abbrev unitOf : FVec Ideal S512x1024 .f32 :=
  k0_pay14 (F := Ideal) v (k0_pay7 (View.ld w r0_1)) (k0_pay8 (View.ld w r0_2)) (k0_pay9 (View.ld w r0_3)) (k0_pay10 (View.ld w r0_4)) (k0_pay11 (View.ld w r0_5)) (k0_pay12 (View.ld w r0_6)) (k0_pay13 (View.ld w r0_7)) (View.ld w r0_8)

theorem unit_at : unitOf v w (ix2 r j) = ∑ k : Fin 512, (v (ix2 r k) : EReal) * side w k j := by
  unfold unitOf k0_pay14 k0_pay7 k0_pay8 k0_pay9 k0_pay10 k0_pay11 k0_pay12 k0_pay13
  pointwise
  exact Finset.sum_congr rfl fun k _ => congrArg (HMul.hMul (α := EReal) _) (eight (fun s l => w (ix3 s k l)) j)

theorem gelu_at (a : Vec Ideal S512x512 .f32) (k : Fin 512) : k0_pay6 (F := Ideal) a (ix2 r k) = gelu (a (ix2 r k)) := by
  unfold k0_pay6
  pointwise
  exact gelu_eq _

theorem branch_at : k0_pay16 (F := Ideal) v (k0_pay7 (View.ld w r0_1)) (k0_pay8 (View.ld w r0_2)) (k0_pay9 (View.ld w r0_3)) (k0_pay10 (View.ld w r0_4)) (k0_pay11 (View.ld w r0_5)) (k0_pay12 (View.ld w r0_6)) (k0_pay13 (View.ld w r0_7))
    (View.ld w r0_8) (View.ld u r0_1) (View.ld u r0_2) (View.ld u r0_3) (View.ld u r0_4) (View.ld u r0_5) (View.ld u r0_6) (View.ld u r0_7) (View.ld u r0_8) (ix2 r j)
      = ∑ k : Fin 512, ((unitOf v w (ix2 r (Fin.castAdd 512 k)) : EReal) * Ideal.logistic (unitOf v w (ix2 r (Fin.natAdd 512 k)))) * side u k j := by
  unfold k0_pay16
  pointwise
  exact Finset.sum_congr rfl fun k _ => congrArg (HMul.hMul (α := EReal) _) (eight (fun s l => u (ix3 s k l)) j)

theorem gate_at (a : Vec Ideal S512x1024 .f32) : k0_pay20 (F := Ideal) a (View.ld b r0_10) (View.ld b r0_11) (View.ld b r0_12) (View.ld b r0_13) (View.ld b r0_14) (View.ld b r0_15) (View.ld b r0_16) (View.ld b r0_17)
    (ix2 r j) = Ideal.logistic ((a (ix2 r j) : EReal) + side b 0 j) := by
  unfold k0_pay20
  pointwise
  exact congrArg (fun z => Ideal.logistic ((a (ix2 r j) : EReal) + z)) (eight (fun s l => b (ix3 s 0 l)) j)

theorem mix_at (y z g : FVec Ideal S512x1024 .f32) (a x : Vec Ideal S512x1024 .f32) (o : Vec Ideal S1024x1024 .bf16) :
    k0_pay24 (F := Ideal) z y g a (k0_pay21 (View.ld b r0_18)) (k0_pay22 (View.ld b r0_19)) (k0_pay23 (View.ld b r0_20))
      (View.ld b r0_21) (View.ld b r0_22) (View.ld b r0_23) (View.ld b r0_24) (View.ld b r0_25) x o (ix2 r j)
      = scale * (x (ix2 r j) : EReal) + ∑ d : Fin 1024, ((g (ix2 r d) : EReal) * (y (ix2 r d) : EReal)
        + Ideal.logistic ((a (ix2 r d) : EReal) + side b 1 d) * (z (ix2 r d) : EReal)) * (o (ix2 d j) : EReal) := by
  unfold k0_pay24 k0_pay21 k0_pay22 k0_pay23
  pointwise
  exact congrArg (HAdd.hAdd (α := EReal) _) (Finset.sum_congr rfl fun d _ =>
    congrArg (fun e => ((g (ix2 r d) : EReal) * (y (ix2 r d) : EReal) + Ideal.logistic ((a (ix2 r d) : EReal) + e) * (z (ix2 r d) : EReal))
      * (o (ix2 d j) : EReal)) (eight (fun s l => b (ix3 s 1 l)) d))

theorem mean_at (y z g : FVec Ideal S512x1024 .f32) (a x : Vec Ideal S512x1024 .f32) (o : Vec Ideal S1024x1024 .bf16)
    (s1 s2 s3 : FVec Ideal S1x128 .f32) (s4 s5 s6 s7 s8 : Vec Ideal S1x1x128 .f32) :
    k0_pay27 (F := Ideal) z y g a s1 s2 s3 s4 s5 s6 s7 s8 x o (ix2 r 0)
      = mean (fun k => k0_pay24 (F := Ideal) z y g a s1 s2 s3 s4 s5 s6 s7 s8 x o (ix2 r k)) := by
  unfold k0_pay27
  pointwise
  rfl

/-! ### The norm, from the rows and their means -/

variable (x : Fin 1024 → EReal) (hp : ∀ k, p (ix2 r k) = x k) (hs : s (ix2 r 0) = mean x)
include hp hs

theorem dev_at : k0_pay1 (F := Ideal) p s (ix2 r j) = dev x j := by
  unfold k0_pay1
  pointwise
  exact congrArg₂ (HSub.hSub (α := EReal)) (hp j) hs

theorem rstd_at : k0_pay2 (F := Ideal) p s (ix2 r 0) = rstd x := by
  unfold k0_pay2
  pointwise
  exact congrArg (fun v => Ideal.rsqrt (mean v + eps)) (funext fun k => congrArg (fun e : EReal => e * e) (dev_at r k p s x hp hs))

theorem hat_at : k0_pay3 (F := Ideal) p s (ix2 r j) = hat x j := by
  unfold k0_pay3
  pointwise
  exact congrArg₂ (HMul.hMul (α := EReal)) (dev_at r j p s x hp hs) (rstd_at r p s x hp hs)

theorem lane_at (l : Fin 128) : k0_pay5 (F := Ideal) p s (ix2 r l) = rstd x := by
  unfold k0_pay5
  pointwise
  exact rstd_at r p s x hp hs

theorem out_at (g h : Vec Ideal S1x1024 .f32) : k0_pay4 (F := Ideal) p (k0_pay25 g) (k0_pay26 h) s (ix2 r j)
    = hat x j * (g (ix2 0 j) : EReal) + (h (ix2 0 j) : EReal) := by
  unfold k0_pay4 k0_pay25 k0_pay26
  pointwise
  exact congrArg (fun e : EReal => e * (g (ix2 0 j) : EReal) + (h (ix2 0 j) : EReal)) (hat_at r j p s x hp hs)

end

/-! ## Where the blocks lie -/

theorem at0_0 : ∀ t : Fin cfg0.N, win0_0.index t = ![t.val, 0] := (by decide +kernel : ∀ t : Fin grid0.N, _)
theorem at0_1 : ∀ t : Fin cfg0.N, win0_1.index t = ![t.val, 0] := (by decide +kernel : ∀ t : Fin grid0.N, _)
theorem at0_2 : ∀ t : Fin cfg0.N, win0_2.index t = ![t.val, 5] := (by decide +kernel : ∀ t : Fin grid0.N, _)
theorem at0_3 : ∀ t : Fin cfg0.N, win0_3.index t = ![t.val, 6] := (by decide +kernel : ∀ t : Fin grid0.N, _)
theorem at0_4 : ∀ t : Fin cfg0.N, win0_4.index t = ![t.val, 0] := (by decide +kernel : ∀ t : Fin grid0.N, _)
theorem at0_5 : ∀ t : Fin cfg0.N, win0_5.index t = ![0, 0, 0] := (by decide +kernel : ∀ t : Fin grid0.N, _)
theorem at0_6 : ∀ t : Fin cfg0.N, win0_6.index t = ![0, 0, 0] := (by decide +kernel : ∀ t : Fin grid0.N, _)
theorem at0_7 : ∀ t : Fin cfg0.N, win0_7.index t = ![0, 0, 0] := (by decide +kernel : ∀ t : Fin grid0.N, _)
theorem at0_8 : ∀ t : Fin cfg0.N, win0_8.index t = ![0, 0] := (by decide +kernel : ∀ t : Fin grid0.N, _)
theorem at0_9 : ∀ t : Fin cfg0.N, win0_9.index t = ![0, 0, 0] := (by decide +kernel : ∀ t : Fin grid0.N, _)
theorem at0_10 : ∀ t : Fin cfg0.N, win0_10.index t = ![0, 0] := (by decide +kernel : ∀ t : Fin grid0.N, _)
theorem at0_11 : ∀ t : Fin cfg0.N, win0_11.index t = ![0, 0] := (by decide +kernel : ∀ t : Fin grid0.N, _)
theorem at0_12 : ∀ t : Fin cfg0.N, win0_12.index t = ![t.val, 0] := (by decide +kernel : ∀ t : Fin grid0.N, _)
theorem at0_13 : ∀ t : Fin cfg0.N, win0_13.index t = ![t.val, 0] := (by decide +kernel : ∀ t : Fin grid0.N, _)
theorem at0_14 : ∀ t : Fin cfg0.N, win0_14.index t = ![t.val, 0] := (by decide +kernel : ∀ t : Fin grid0.N, _)
theorem at0_15 : ∀ t : Fin cfg0.N, win0_15.index t = ![t.val, 0] := (by decide +kernel : ∀ t : Fin grid0.N, _)
theorem at0_16 : ∀ t : Fin cfg0.N, win0_16.index t = ![t.val, 0] := (by decide +kernel : ∀ t : Fin grid0.N, _)
theorem at0_17 : ∀ t : Fin cfg0.N, win0_17.index t = ![t.val, 0] := (by decide +kernel : ∀ t : Fin grid0.N, _)

/-- A point's number is below four. -/
theorem lt4 (t : Fin cfg0.N) : t.val < 4 := t.isLt

variable (m : (ℓ : Loc nD τ sig) → Buf (Elt Ideal) ℓ) (c : Dev nD) (t : Fin cfg0.N)

/-- The arguments on a device. -/
abbrev aArg : Mat 2048 512 := m ((c.tc : Thread nD τ).loc main_arg0)
abbrev yArg : Mat 2048 512 := m ((c.tc : Thread nD τ).loc main_arg1)
abbrev pArg : Mat 2048 7168 := m ((c.tc : Thread nD τ).loc main_arg2)
abbrev xArg : Mat 2048 1024 := m ((c.tc : Thread nD τ).loc main_arg3)
abbrev waArg : Mat 512 1024 := m ((c.tc : Thread nD τ).loc main_arg4)
abbrev wsArg : Mat 512 1024 := m ((c.tc : Thread nD τ).loc main_arg5)
abbrev wgArg : Mat 512 1024 := m ((c.tc : Thread nD τ).loc main_arg6)
abbrev woArg : Mat 1024 1024 := m ((c.tc : Thread nD τ).loc main_arg7)
abbrev bArg : Mat 2 1024 := m ((c.tc : Thread nD τ).loc main_arg8)
abbrev gArg : Row := m ((c.tc : Thread nD τ).loc main_arg9)
abbrev sArg : Row := m ((c.tc : Thread nD τ).loc main_arg10)

/-- Row `r` of the tile of point `t`. -/
abbrev rowAt (r : Fin 512) : Fin 2048 := tileRow t.val (lt4 t) r

/-! ## The arrays as the call finds them, and the blocks -/

theorem host_a (s : Fin 8) (k : Fin 512) (j : Fin 128) : V m c main_v2 (ix3 s k j) = waArg m c (ix2 k ⟨128 * s + j, by omega⟩) := by
  show after hostOps0 (fun b => m (c, b)) (Proc.devRef .tc main_v2) (ix3 s k j) = _
  after_reads_simp
  pointwise
  exact congrArg (fun i => waArg m c (ix2 k i)) (Fin.ext (show (s : ℕ) * 128 + j = 128 * s + j by omega))

theorem host_s (s : Fin 8) (k : Fin 512) (j : Fin 128) : V m c main_v5 (ix3 s k j) = wsArg m c (ix2 k ⟨128 * s + j, by omega⟩) := by
  show after hostOps0 (fun b => m (c, b)) (Proc.devRef .tc main_v5) (ix3 s k j) = _
  after_reads_simp
  pointwise
  exact congrArg (fun i => wsArg m c (ix2 k i)) (Fin.ext (show (s : ℕ) * 128 + j = 128 * s + j by omega))

theorem host_u (s : Fin 8) (k : Fin 512) (j : Fin 128) : V m c main_v8 (ix3 s k j) = wgArg m c (ix2 k ⟨128 * s + j, by omega⟩) := by
  show after hostOps0 (fun b => m (c, b)) (Proc.devRef .tc main_v8) (ix3 s k j) = _
  after_reads_simp
  pointwise
  exact congrArg (fun i => wgArg m c (ix2 k i)) (Fin.ext (show (s : ℕ) * 128 + j = 128 * s + j by omega))

theorem host_b (s : Fin 8) (k : Fin 2) (j : Fin 128) : V m c main_v11 (ix3 s k j) = bArg m c (ix2 k ⟨128 * s + j, by omega⟩) := by
  show after hostOps0 (fun b => m (c, b)) (Proc.devRef .tc main_v11) (ix3 s k j) = _
  after_reads_simp
  pointwise
  exact congrArg (fun i => bArg m c (ix2 k i)) (Fin.ext (show (s : ℕ) * 128 + j = 128 * s + j by omega))

theorem side0_5 (k : Fin 512) (j : Fin 1024) : side (iblk (F := Ideal) m c 5 t) k j = waArg m c (ix2 k j) := by
  have h := host_a m c ⟨(j : ℕ) / 128, by omega⟩ k ⟨(j : ℕ) % 128, by omega⟩
  refine Eq.trans ?_ (h.trans (congrArg (fun i => waArg m c (ix2 k i)) (Fin.ext (by show 128 * ((j : ℕ) / 128) + (j : ℕ) % 128 = j; omega))))
  unfold side
  blk_simp [iblk]
  congr 1
  blk_ext [at0_5]

theorem side0_6 (k : Fin 512) (j : Fin 1024) : side (iblk (F := Ideal) m c 6 t) k j = wsArg m c (ix2 k j) := by
  have h := host_s m c ⟨(j : ℕ) / 128, by omega⟩ k ⟨(j : ℕ) % 128, by omega⟩
  refine Eq.trans ?_ (h.trans (congrArg (fun i => wsArg m c (ix2 k i)) (Fin.ext (by show 128 * ((j : ℕ) / 128) + (j : ℕ) % 128 = j; omega))))
  unfold side
  blk_simp [iblk]
  congr 1
  blk_ext [at0_6]

theorem side0_7 (k : Fin 512) (j : Fin 1024) : side (iblk (F := Ideal) m c 7 t) k j = wgArg m c (ix2 k j) := by
  have h := host_u m c ⟨(j : ℕ) / 128, by omega⟩ k ⟨(j : ℕ) % 128, by omega⟩
  refine Eq.trans ?_ (h.trans (congrArg (fun i => wgArg m c (ix2 k i)) (Fin.ext (by show 128 * ((j : ℕ) / 128) + (j : ℕ) % 128 = j; omega))))
  unfold side
  blk_simp [iblk]
  congr 1
  blk_ext [at0_7]

theorem side0_9 (k : Fin 2) (j : Fin 1024) : side (iblk (F := Ideal) m c 9 t) k j = bArg m c (ix2 k j) := by
  have h := host_b m c ⟨(j : ℕ) / 128, by omega⟩ k ⟨(j : ℕ) % 128, by omega⟩
  refine Eq.trans ?_ (h.trans (congrArg (fun i => bArg m c (ix2 k i)) (Fin.ext (by show 128 * ((j : ℕ) / 128) + (j : ℕ) % 128 = j; omega))))
  unfold side
  blk_simp [iblk]
  congr 1
  blk_ext [at0_9]

theorem blk0_0 (r : Fin 512) (d : Fin 512) : iblk (F := Ideal) m c 0 t (ix2 r d) = aArg m c (ix2 (rowAt t r) d) := by
  rw [← show V m c main_arg0 = aArg m c from V_main_arg0 m c]
  blk_simp [iblk]
  congr 1
  blk_ext [at0_0]
  show t.val * 512 + (r : ℕ) = 512 * t.val + r
  omega

theorem blk0_1 (r : Fin 512) (d : Fin 512) : iblk (F := Ideal) m c 1 t (ix2 r d) = yArg m c (ix2 (rowAt t r) d) := by
  rw [← show V m c main_arg1 = yArg m c from V_main_arg1 m c]
  blk_simp [iblk]
  congr 1
  blk_ext [at0_1]
  show t.val * 512 + (r : ℕ) = 512 * t.val + r
  omega

theorem blk0_2 (r : Fin 512) (d : Fin 1024) : iblk (F := Ideal) m c 2 t (ix2 r d) = pArg m c (ix2 (rowAt t r) ⟨5120 + d.val, by omega⟩) := by
  rw [← show V m c main_arg2 = pArg m c from V_main_arg2 m c]
  blk_simp [iblk]
  congr 1
  blk_ext [at0_2]
  show t.val * 512 + (r : ℕ) = 512 * t.val + r
  omega

theorem blk0_3 (r : Fin 512) (d : Fin 1024) : iblk (F := Ideal) m c 3 t (ix2 r d) = pArg m c (ix2 (rowAt t r) ⟨5120 + (1024 + d.val), by omega⟩) := by
  rw [← show V m c main_arg2 = pArg m c from V_main_arg2 m c]
  blk_simp [iblk]
  congr 1
  blk_ext [at0_3]
  show t.val * 512 + (r : ℕ) = 512 * t.val + r
  omega

theorem blk0_4 (r : Fin 512) (d : Fin 1024) : iblk (F := Ideal) m c 4 t (ix2 r d) = xArg m c (ix2 (rowAt t r) d) := by
  rw [← show V m c main_arg3 = xArg m c from V_main_arg3 m c]
  blk_simp [iblk]
  congr 1
  blk_ext [at0_4]
  show t.val * 512 + (r : ℕ) = 512 * t.val + r
  omega

theorem blk0_8 (k d : Fin 1024) : iblk (F := Ideal) m c 8 t (ix2 k d) = woArg m c (ix2 k d) := by
  have h : V m c main_v9 (ix2 k d) = woArg m c (ix2 k d) := by
    show after hostOps0 (fun b => m (c, b)) (Proc.devRef .tc main_v9) (ix2 k d) = _
    after_reads_simp
    pointwise
  refine Eq.trans ?_ h
  blk_simp [iblk]
  congr 1
  blk_ext [at0_8]

theorem blk0_10 (d : Fin 1024) : iblk (F := Ideal) m c 10 t (ix2 0 d) = gArg m c (ix1 d) := by
  have h : V m c main_v12 (ix2 0 d) = gArg m c (ix1 d) := by
    show after hostOps0 (fun b => m (c, b)) (Proc.devRef .tc main_v12) (ix2 0 d) = _
    after_reads_simp
    pointwise
  refine Eq.trans ?_ h
  blk_simp [iblk]
  congr 1
  blk_ext [at0_10]

theorem blk0_11 (d : Fin 1024) : iblk (F := Ideal) m c 11 t (ix2 0 d) = sArg m c (ix1 d) := by
  have h : V m c main_v13 (ix2 0 d) = sArg m c (ix1 d) := by
    show after hostOps0 (fun b => m (c, b)) (Proc.devRef .tc main_v13) (ix2 0 d) = _
    after_reads_simp
    pointwise
  refine Eq.trans ?_ h
  blk_simp [iblk]
  congr 1
  blk_ext [at0_11]

theorem place0_12 (r : Fin 512) (d : Fin 1024) : (win0_12.blk t).view.emb (ix2 r d) = (ix2 (rowAt t r) d : S2048x1024.Idx) := by
  blk_ext [at0_12]
  show t.val * 512 + (r : ℕ) = 512 * t.val + r
  omega

theorem place0_13 (r : Fin 512) (d : Fin 1024) : (win0_13.blk t).view.emb (ix2 r d) = (ix2 (rowAt t r) d : S2048x1024.Idx) := by
  blk_ext [at0_13]
  show t.val * 512 + (r : ℕ) = 512 * t.val + r
  omega

theorem place0_14 (r : Fin 512) (d : Fin 128) : (win0_14.blk t).view.emb (ix2 r d) = (ix2 (rowAt t r) d : S2048x128.Idx) := by
  blk_ext [at0_14]
  show t.val * 512 + (r : ℕ) = 512 * t.val + r
  omega

theorem place0_15 (r : Fin 512) (d : Fin 1024) : (win0_15.blk t).view.emb (ix2 r d) = (ix2 (rowAt t r) d : S2048x1024.Idx) := by
  blk_ext [at0_15]
  show t.val * 512 + (r : ℕ) = 512 * t.val + r
  omega

theorem place0_16 (r : Fin 512) (d : Fin 1024) : (win0_16.blk t).view.emb (ix2 r d) = (ix2 (rowAt t r) d : S2048x1024.Idx) := by
  blk_ext [at0_16]
  show t.val * 512 + (r : ℕ) = 512 * t.val + r
  omega

theorem place0_17 (r : Fin 512) (d : Fin 1024) : (win0_17.blk t).view.emb (ix2 r d) = (ix2 (rowAt t r) d : S2048x1024.Idx) := by
  blk_ext [at0_17]
  show t.val * 512 + (r : ℕ) = 512 * t.val + r
  omega

end Cert.KernelMIdeal.Run

end
-- ==== Proof.MixerKernel.lean ====
/-
  The end of the mixer in the kernel program: the rows of a tile at each of the four points, and the arrays after the run.
-/
module

public import proofs.«01_k».proof.Proof.MixerBlocks
public import proofs.«01_k».proof.Defs

@[expose] public section

set_option maxRecDepth 16384

noncomputable section

namespace Cert.KernelMIdeal.Run

open Idealize.ShloMosaic Idealize.ShloMosaic.TcCoe Cert.KernelMIdeal Cert.KernelMIdeal.Gen Cert.FeedForward Cert.FeedForwardBwd Cert.LossHead Cert.Mixer
open Idealize.SL Idealize.SL.RA Idealize.SL.BI Idealize.SL.Sem
open Idealize.ShloMosaic.StableHlo Idealize.ShloMosaic.Tactic

variable (m : (ℓ : Loc nD τ sig) → Buf (Elt Ideal) ℓ) (c : Dev nD) (t : Fin cfg0.N)

/-- What the norm reads, the gated linear unit's product, and each row's factor on every lane. -/
abbrev r1 : Mat 2048 1024 := mixIn (aArg m c) (yArg m c) (pArg m c) (xArg m c) (waArg m c) (wsArg m c) (wgArg m c) (woArg m c) (bArg m c)
abbrev unit : Mat 2048 1024 := glu (yArg m c) (wgArg m c)
def lanes : Mat 2048 128 := fun i => rstd (row (r1 m c) (i 0))

/-! ## A point's tile -/

theorem unit_tile (r : Fin 512) (d : Fin 1024) :
    unitOf (k0_pay6 (View.ld (iblk m c 1 t) r0_0)) (iblk m c 7 t) (ix2 r d) = unit m c (ix2 (rowAt t r) d) := by
  refine (unit_at _ _ r d).trans (Finset.sum_congr rfl fun k _ => congrArg₂ (HMul.hMul (α := EReal)) ?_ (side0_7 m c t k d))
  refine (gelu_at r _ k).trans (congrArg gelu (Eq.trans ?_ (blk0_1 m c t r k)))
  pointwise

theorem attn_tile (r : Fin 512) (d : Fin 1024) : k0_pay37 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
    = prod (aArg m c) (waArg m c) (ix2 (rowAt t r) d) := by
  unfold k0_pay37
  refine (attn_at _ r d _).trans (Finset.sum_congr rfl fun k _ => congrArg₂ (HMul.hMul (α := EReal)) ?_ (side0_5 m c t k d))
  refine Eq.trans ?_ (blk0_0 m c t r k)
  pointwise

theorem branch_tile (r : Fin 512) (d : Fin 1024) : k0_pay36 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
    = branch (unit m c) (wsArg m c) (ix2 (rowAt t r) d) := by
  unfold k0_pay36 k0_pay35 k0_pay34 k0_pay33 k0_pay32 k0_pay31 k0_pay30 k0_pay29 k0_pay28
  refine (branch_at _ _ _ r d).trans (Finset.sum_congr rfl fun k _ => congrArg₂ (HMul.hMul (α := EReal)) ?_ (side0_6 m c t k d))
  exact congrArg₂ (fun a b : EReal => a * Ideal.logistic b) (unit_tile m c t r _) (unit_tile m c t r _)

theorem gate_tile (r : Fin 512) (d : Fin 1024) : k0_pay38 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
    = Ideal.logistic (pArg m c (ix2 (rowAt t r) ⟨5120 + d.val, by omega⟩) + bArg m c (ix2 0 d)) := by
  unfold k0_pay38
  refine (gate_at _ r d _).trans (congrArg₂ (fun a b : EReal => Ideal.logistic (a + b)) (Eq.trans ?_ (blk0_2 m c t r d)) (side0_9 m c t 0 d))
  pointwise

/-- A row of what the norm reads. -/
theorem rows_at (r : Fin 512) (d : Fin 1024) : k0_pay42 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = row (r1 m c) (rowAt t r) d := by
  unfold k0_pay42 k0_pay41 k0_pay40 k0_pay39
  refine (mix_at _ r d _ _ _ _ _ _).trans (congrArg₂ (HAdd.hAdd (α := EReal)) (congrArg (scale * ·) (Eq.trans ?_ (blk0_4 m c t r d)))
    (Finset.sum_congr rfl fun k _ => congrArg₂ (HMul.hMul (α := EReal)) ?_ (Eq.trans ?_ (blk0_8 m c t k d))))
  · pointwise
  · refine congrArg₂ (HAdd.hAdd (α := EReal)) (congrArg₂ (HMul.hMul (α := EReal)) (gate_tile m c t r k) (attn_tile m c t r k))
      (congrArg₂ (HMul.hMul (α := EReal)) (congrArg₂ (fun a b : EReal => Ideal.logistic (a + b)) (Eq.trans ?_ (blk0_3 m c t r k))
        (side0_9 m c t 1 k)) (branch_tile m c t r k))
    pointwise
  · pointwise

theorem means_at (r : Fin 512) : k0_pay43 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r 0) = mean (row (r1 m c) (rowAt t r)) := by
  unfold k0_pay43
  exact (mean_at r _ _ _ _ _ _ _ _ _ _ _ _ _ _).trans (congrArg mean (funext fun k => rows_at m c t r k))

/-! ## The arrays after the run -/

theorem tile_out (r : Fin 512) (d : Fin 1024) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = (out (r1 m c) (gArg m c) (sArg m c)) (ix2 (rowAt t r) d) := by
  unfold out0_12
  frame_out
  exact (out_at r d _ _ _ (rows_at m c t r) (means_at m c t r) _ _).trans
    (congrArg₂ (fun a b : EReal => hat (row (r1 m c) (rowAt t r)) d * a + b) (blk0_10 m c t d) (blk0_11 m c t d))

theorem arr_out : (dats m 0 c).arrAt 12 cfg0.N = out (r1 m c) (gArg m c) (sArg m c) := by
  refine (dats m 0 c).arrAt_eq_of_covers 12 _ (by decide +kernel) fun t hf y => ?_
  blk_simp
  rw [after0_12]
  obtain ⟨r, d, rfl⟩ : ∃ (r : Fin 512) (d : Fin 1024), y = ix2 r d := ⟨y 0, y 1, by funext k; fin_cases k <;> rfl⟩
  exact (tile_out m c t r d).trans (congrArg _ (place0_12 t r d).symm)

theorem tile_hat (r : Fin 512) (d : Fin 1024) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = (normed (r1 m c)) (ix2 (rowAt t r) d) := by
  unfold out0_13
  frame_out
  exact hat_at r d _ _ _ (rows_at m c t r) (means_at m c t r)

theorem arr_hat : (dats m 0 c).arrAt 13 cfg0.N = normed (r1 m c) := by
  refine (dats m 0 c).arrAt_eq_of_covers 13 _ (by decide +kernel) fun t hf y => ?_
  blk_simp
  rw [after0_13]
  obtain ⟨r, d, rfl⟩ : ∃ (r : Fin 512) (d : Fin 1024), y = ix2 r d := ⟨y 0, y 1, by funext k; fin_cases k <;> rfl⟩
  exact (tile_hat m c t r d).trans (congrArg _ (place0_13 t r d).symm)

theorem tile_lanes (r : Fin 512) (d : Fin 128) : out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = (lanes m c) (ix2 (rowAt t r) d) := by
  unfold out0_14
  frame_out
  exact lane_at r _ _ _ (rows_at m c t r) (means_at m c t r) d

theorem arr_lanes : (dats m 0 c).arrAt 14 cfg0.N = lanes m c := by
  refine (dats m 0 c).arrAt_eq_of_covers 14 _ (by decide +kernel) fun t hf y => ?_
  blk_simp
  rw [after0_14]
  obtain ⟨r, d, rfl⟩ : ∃ (r : Fin 512) (d : Fin 128), y = ix2 r d := ⟨y 0, y 1, by funext k; fin_cases k <;> rfl⟩
  exact (tile_lanes m c t r d).trans (congrArg _ (place0_14 t r d).symm)

theorem tile_unit (r : Fin 512) (d : Fin 1024) : out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = (unit m c) (ix2 (rowAt t r) d) := by
  unfold out0_15
  frame_out
  unfold k0_pay15
  pointwise
  exact unit_tile m c t r d

theorem arr_unit : (dats m 0 c).arrAt 15 cfg0.N = unit m c := by
  refine (dats m 0 c).arrAt_eq_of_covers 15 _ (by decide +kernel) fun t hf y => ?_
  blk_simp
  rw [after0_15]
  obtain ⟨r, d, rfl⟩ : ∃ (r : Fin 512) (d : Fin 1024), y = ix2 r d := ⟨y 0, y 1, by funext k; fin_cases k <;> rfl⟩
  exact (tile_unit m c t r d).trans (congrArg _ (place0_15 t r d).symm)

theorem tile_attn (r : Fin 512) (d : Fin 1024) : out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = (prod (aArg m c) (waArg m c)) (ix2 (rowAt t r) d) := by
  unfold out0_16
  frame_out
  refine Eq.trans ?_ ((attn_at (iblk m c 5 t) r d (iblk m c 0 t)).trans (Finset.sum_congr rfl fun k _ =>
    congrArg₂ (HMul.hMul (α := EReal)) (blk0_0 m c t r k) (side0_5 m c t k d)))
  unfold k0_pay18
  pointwise

theorem arr_attn : (dats m 0 c).arrAt 16 cfg0.N = prod (aArg m c) (waArg m c) := by
  refine (dats m 0 c).arrAt_eq_of_covers 16 _ (by decide +kernel) fun t hf y => ?_
  blk_simp
  rw [after0_16]
  obtain ⟨r, d, rfl⟩ : ∃ (r : Fin 512) (d : Fin 1024), y = ix2 r d := ⟨y 0, y 1, by funext k; fin_cases k <;> rfl⟩
  exact (tile_attn m c t r d).trans (congrArg _ (place0_16 t r d).symm)

theorem tile_branch (r : Fin 512) (d : Fin 1024) : out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = (branch (unit m c) (wsArg m c)) (ix2 (rowAt t r) d) := by
  unfold out0_17
  frame_out
  unfold k0_pay19
  pointwise
  exact branch_tile m c t r d

theorem arr_branch : (dats m 0 c).arrAt 17 cfg0.N = branch (unit m c) (wsArg m c) := by
  refine (dats m 0 c).arrAt_eq_of_covers 17 _ (by decide +kernel) fun t hf y => ?_
  blk_simp
  rw [after0_17]
  obtain ⟨r, d, rfl⟩ : ∃ (r : Fin 512) (d : Fin 1024), y = ix2 r d := ⟨y 0, y 1, by funext k; fin_cases k <;> rfl⟩
  exact (tile_branch m c t r d).trans (congrArg _ (place0_17 t r d).symm)

/-- The line after the call takes one lane of the rows' factors. -/
theorem tail_factor : Pipeline.afterTail₀ cfgs (dats m) 0 (V0 m) [hostOps1] c main_v15 = factor (r1 m c) := by
  funext i
  idx_vars i
  unfold Pipeline.afterTail₀
  simp only [List.flatten_cons, List.flatten_nil, List.append_nil]
  after_reads_simp
  pointwise
  exact congrFun (((dats m 0 c).withArrays_arrAt sharedIn0 (V0 m c) (fun _ => rfl) 14).trans (arr_lanes m c)) (ix2 i0 0)

variable (ρ : Dev nD → PrngReg)

/-- The kernel program leaves the norm and what came before it, and its arguments as they were. -/
theorem value : θ_run defs (onTc (τ := τ) (main (F := Ideal))) ⟨m, fun _ => 0, ρ⟩ (fun r => ∀ c : Dev nD,
      r.2.mem ((c.tc : Thread nD τ).loc main_v14_0) = out (r1 m c) (gArg m c) (sArg m c)
      ∧ r.2.mem ((c.tc : Thread nD τ).loc main_v14_1) = normed (r1 m c)
      ∧ r.2.mem ((c.tc : Thread nD τ).loc main_v15) = factor (r1 m c)
      ∧ r.2.mem ((c.tc : Thread nD τ).loc main_v14_3) = unit m c
      ∧ r.2.mem ((c.tc : Thread nD τ).loc main_v14_4) = prod (aArg m c) (waArg m c)
      ∧ r.2.mem ((c.tc : Thread nD τ).loc main_v14_5) = branch (unit m c) (wsArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  θ_run_mono (θ_run_and (run_main m ρ) (unchanged m ρ)) fun r h c =>
    ⟨((h.1 c).1 12).trans (arr_out m c), ((h.1 c).1 13).trans (arr_hat m c),
      ((h.1 c).2 main_v15 (Pipeline.mem_restRefs_of main_v15 (by decide) (by decide))).trans (tail_factor m c),
      ((h.1 c).1 15).trans (arr_unit m c), ((h.1 c).1 16).trans (arr_attn m c), ((h.1 c).1 17).trans (arr_branch m c), h.2 c⟩

end Cert.KernelMIdeal.Run

namespace Cert.Proof

open Idealize.ShloMosaic Idealize.ShloMosaic.TcCoe Idealize.SL.Sem Cert.Mixer

/-- The two programs' results are equal, whatever the arguments. -/
theorem algebraic_m : @Cert.algebraic_KernelMIdeal_ReferenceMIdeal Cert.KernelMIdeal.Gen.facts Cert.ReferenceMIdeal.Gen.facts := by
  intro m g m' g' _ heq
  refine ⟨_, _, _, _, _, _, Cert.KernelMIdeal.Run.value m g, θ_run_mono (Cert.ReferenceMIdeal.Run.value m' g') fun r h c => ?_⟩
  obtain ⟨h0, h1, h2, h3, h4, h5, h6, h7, h8, h9, h10⟩ := heq c
  have k := h c
  unfold Cert.ReferenceMIdeal.Run.r1 Cert.ReferenceMIdeal.Run.unit Cert.ReferenceMIdeal.Run.aArg Cert.ReferenceMIdeal.Run.yArg
    Cert.ReferenceMIdeal.Run.pArg Cert.ReferenceMIdeal.Run.xArg Cert.ReferenceMIdeal.Run.waArg Cert.ReferenceMIdeal.Run.wsArg
    Cert.ReferenceMIdeal.Run.wgArg Cert.ReferenceMIdeal.Run.woArg Cert.ReferenceMIdeal.Run.bArg Cert.ReferenceMIdeal.Run.gArg
    Cert.ReferenceMIdeal.Run.sArg at k
  obtain ⟨⟨k1, k2, k3, k4, k5, k6⟩, k7⟩ := k
  rw [h0, h1, h2, h3, h4, h5, h6, h7, h8, h9, h10] at k1
  rw [h0, h1, h2, h3, h4, h5, h6, h7, h8] at k2 k3
  rw [h1, h6] at k4
  rw [h0, h4] at k5
  rw [h1, h5, h6] at k6
  exact ⟨k1, k2, k3, k4, k5, k6, k7⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Gen.KernelXIdeal
public import proofs.«01_k».proof.Proof.Gen.KernelXIdeal.Skeleton
public import proofs.«01_k».proof.Proof.Gen.KernelXIdeal.Launch
public import proofs.«01_k».proof.Proof.Gen.KernelXIdeal.Points
public import proofs.«01_k».proof.Proof.Gen.KernelXIdeal.Frame
public import proofs.«01_k».proof.Proof.Gen.KernelX
public import proofs.«01_k».proof.Proof.Gen.KernelX.Skeleton
public import proofs.«01_k».proof.Proof.Gen.KernelX.Launch
public import proofs.«01_k».proof.Proof.Gen.KernelX.Points
public import proofs.«01_k».proof.Proof.Gen.KernelX.Frame
public import proofs.«01_k».proof.Proof.Gen.ReferenceXIdeal
public import proofs.«01_k».proof.Proof.Gen.KernelF
public import proofs.«01_k».proof.Proof.Gen.KernelF.Skeleton
public import proofs.«01_k».proof.Proof.Gen.KernelF.Launch
public import proofs.«01_k».proof.Proof.Gen.KernelF.Points
public import proofs.«01_k».proof.Proof.Gen.KernelF.Frame
public import proofs.«01_k».proof.Proof.Gen.KernelFIdeal
public import proofs.«01_k».proof.Proof.Gen.KernelFIdeal.Skeleton
public import proofs.«01_k».proof.Proof.Gen.KernelFIdeal.Launch
public import proofs.«01_k».proof.Proof.Gen.KernelFIdeal.Points
public import proofs.«01_k».proof.Proof.Gen.KernelFIdeal.Frame
public import proofs.«01_k».proof.Proof.Gen.ReferenceFIdeal
public import proofs.«01_k».proof.Proof.Gen.KernelP
public import proofs.«01_k».proof.Proof.Gen.KernelP.Skeleton
public import proofs.«01_k».proof.Proof.Gen.KernelP.Launch
public import proofs.«01_k».proof.Proof.Gen.KernelP.Points
public import proofs.«01_k».proof.Proof.Gen.KernelP.Frame
public import proofs.«01_k».proof.Proof.Gen.KernelPIdeal
public import proofs.«01_k».proof.Proof.Gen.KernelPIdeal.Skeleton
public import proofs.«01_k».proof.Proof.Gen.KernelPIdeal.Launch
public import proofs.«01_k».proof.Proof.Gen.KernelPIdeal.Points
public import proofs.«01_k».proof.Proof.Gen.KernelPIdeal.Frame
public import proofs.«01_k».proof.Proof.Gen.ReferencePIdeal
public import proofs.«01_k».proof.Proof.Gen.KernelU
public import proofs.«01_k».proof.Proof.Gen.KernelU.Skeleton
public import proofs.«01_k».proof.Proof.Gen.KernelU.Launch
public import proofs.«01_k».proof.Proof.Gen.KernelU.Points
public import proofs.«01_k».proof.Proof.Gen.KernelU.Frame
public import proofs.«01_k».proof.Proof.Gen.KernelUIdeal
public import proofs.«01_k».proof.Proof.Gen.KernelUIdeal.Skeleton
public import proofs.«01_k».proof.Proof.Gen.KernelUIdeal.Launch
public import proofs.«01_k».proof.Proof.Gen.KernelUIdeal.Points
public import proofs.«01_k».proof.Proof.Gen.KernelUIdeal.Frame
public import proofs.«01_k».proof.Proof.Gen.ReferenceUIdeal
public import proofs.«01_k».proof.Proof.Gen.KernelG
public import proofs.«01_k».proof.Proof.Gen.KernelG.Skeleton
public import proofs.«01_k».proof.Proof.Gen.KernelG.Launch
public import proofs.«01_k».proof.Proof.Gen.KernelG.Points
public import proofs.«01_k».proof.Proof.Gen.KernelG.Frame
public import proofs.«01_k».proof.Proof.Gen.KernelGIdeal
public import proofs.«01_k».proof.Proof.Gen.KernelGIdeal.Skeleton
public import proofs.«01_k».proof.Proof.Gen.KernelGIdeal.Launch
public import proofs.«01_k».proof.Proof.Gen.KernelGIdeal.Points
public import proofs.«01_k».proof.Proof.Gen.KernelGIdeal.Frame
public import proofs.«01_k».proof.Proof.Gen.ReferenceGIdeal
public import proofs.«01_k».proof.Proof.Gen.KernelL
public import proofs.«01_k».proof.Proof.Gen.KernelL.Skeleton
public import proofs.«01_k».proof.Proof.Gen.KernelL.Launch
public import proofs.«01_k».proof.Proof.Gen.KernelL.Points
public import proofs.«01_k».proof.Proof.Gen.KernelL.Frame
public import proofs.«01_k».proof.Proof.Gen.KernelLIdeal
public import proofs.«01_k».proof.Proof.Gen.KernelLIdeal.Skeleton
public import proofs.«01_k».proof.Proof.Gen.KernelLIdeal.Launch
public import proofs.«01_k».proof.Proof.Gen.KernelLIdeal.Points
public import proofs.«01_k».proof.Proof.Gen.KernelLIdeal.Frame
public import proofs.«01_k».proof.Proof.Gen.ReferenceLIdeal
public import proofs.«01_k».proof.Proof.Gen.KernelM
public import proofs.«01_k».proof.Proof.Gen.KernelM.Skeleton
public import proofs.«01_k».proof.Proof.Gen.KernelM.Launch
public import proofs.«01_k».proof.Proof.Gen.KernelM.Points
public import proofs.«01_k».proof.Proof.Gen.KernelM.Frame
public import proofs.«01_k».proof.Proof.Gen.KernelMIdeal
public import proofs.«01_k».proof.Proof.Gen.KernelMIdeal.Skeleton
public import proofs.«01_k».proof.Proof.Gen.KernelMIdeal.Launch
public import proofs.«01_k».proof.Proof.Gen.KernelMIdeal.Points
public import proofs.«01_k».proof.Proof.Gen.KernelMIdeal.Frame
public import proofs.«01_k».proof.Proof.Gen.ReferenceMIdeal
public import Idealize.ShloMosaic.Adequacy
public import Idealize.ShloMosaic.Init
public import proofs.«01_k».proof.Proof.Algebraic
public import proofs.«01_k».proof.Proof.GradXRef
public import proofs.«01_k».proof.Proof.FeedForwardAlgebraic
public import proofs.«01_k».proof.Proof.Projection
public import proofs.«01_k».proof.Proof.FeedForwardBwdKernel
public import proofs.«01_k».proof.Proof.MixerGradsKernel
public import proofs.«01_k».proof.Proof.LossHeadKernel
public import proofs.«01_k».proof.Proof.MixerKernel

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelX.Gen.facts, Cert.KernelXIdeal.Gen.facts, Cert.ReferenceXIdeal.Gen.facts,
  Cert.KernelF.Gen.facts, Cert.KernelFIdeal.Gen.facts, Cert.ReferenceFIdeal.Gen.facts,
  Cert.KernelP.Gen.facts, Cert.KernelPIdeal.Gen.facts, Cert.ReferencePIdeal.Gen.facts,
  Cert.KernelU.Gen.facts, Cert.KernelUIdeal.Gen.facts, Cert.ReferenceUIdeal.Gen.facts,
  Cert.KernelG.Gen.facts, Cert.KernelGIdeal.Gen.facts, Cert.ReferenceGIdeal.Gen.facts,
  Cert.KernelL.Gen.facts, Cert.KernelLIdeal.Gen.facts, Cert.ReferenceLIdeal.Gen.facts,
  Cert.KernelM.Gen.facts, Cert.KernelMIdeal.Gen.facts, Cert.ReferenceMIdeal.Gen.facts,
  Cert.Pre_finite.Run.facts, Cert.Pre_finite_f.Run.facts,
  fun m ρ _ => Cert.Kernel.Gen.frame m ρ,
  fun m ρ _ => Cert.KernelIdeal.Gen.frame m ρ, fun m ρ _ => Cert.KernelIdeal.Gen.frame m ρ,
  fun m ρ _ => Cert.ReferenceIdeal.Run.frame m ρ, fun m ρ _ => Cert.ReferenceIdeal.Run.frame m ρ,
  fun m ρ _ => Cert.KernelX.Gen.frame m ρ, fun m ρ _ => Cert.KernelXIdeal.Gen.frame m ρ,
  fun m ρ _ => Cert.ReferenceXIdeal.Run.frame m ρ,
  fun m ρ _ => Cert.KernelF.Gen.frame m ρ,
  fun m ρ _ => Cert.KernelFIdeal.Gen.frame m ρ, fun m ρ _ => Cert.KernelFIdeal.Gen.frame m ρ,
  fun m ρ _ => Cert.ReferenceFIdeal.Run.frame m ρ, fun m ρ _ => Cert.ReferenceFIdeal.Run.frame m ρ,
  fun m ρ _ => Cert.KernelP.Gen.frame m ρ, fun m ρ _ => Cert.KernelPIdeal.Gen.frame m ρ,
  fun m ρ _ => Cert.ReferencePIdeal.Run.frame m ρ,
  fun m ρ _ => Cert.KernelU.Gen.frame m ρ, fun m ρ _ => Cert.KernelUIdeal.Gen.frame m ρ,
  fun m ρ _ => Cert.ReferenceUIdeal.Run.frame m ρ,
  fun m ρ _ => Cert.KernelG.Gen.frame m ρ, fun m ρ _ => Cert.KernelGIdeal.Gen.frame m ρ,
  fun m ρ _ => Cert.ReferenceGIdeal.Run.frame m ρ,
  fun m ρ _ => Cert.KernelL.Gen.frame m ρ, fun m ρ _ => Cert.KernelLIdeal.Gen.frame m ρ,
  fun m ρ _ => Cert.ReferenceLIdeal.Run.frame m ρ,
  fun m ρ _ => Cert.KernelM.Gen.frame m ρ, fun m ρ _ => Cert.KernelMIdeal.Gen.frame m ρ,
  fun m ρ _ => Cert.ReferenceMIdeal.Run.frame m ρ,
  trivial, algebraic, trivial, algebraic_x, trivial, algebraic_f, trivial, algebraic_p, trivial, algebraic_u, trivial, algebraic_g,
  trivial, algebraic_l, trivial, algebraic_m⟩

end Cert.Proof

end
